-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GuBwdW (m : (ℓ : Loc Cert.GuBwdW.nD Cert.GuBwdW.τ Cert.GuBwdW.sig) → Buf (Elt Bits) ℓ) : Prop :=
  True

def Pre_GuBwdWIdeal (m : (ℓ : Loc Cert.GuBwdWIdeal.nD Cert.GuBwdWIdeal.τ Cert.GuBwdWIdeal.sig) → Buf (Elt Ideal) ℓ) : Prop :=
  True

def Pre_GuBwdWRefIdeal (m : (ℓ : Loc Cert.GuBwdWRefIdeal.nD Cert.GuBwdWRefIdeal.τ Cert.GuBwdWRefIdeal.sig) → Buf (Elt Ideal) ℓ) : Prop :=
  True

def Pre_GuBwdX (m : (ℓ : Loc Cert.GuBwdX.nD Cert.GuBwdX.τ Cert.GuBwdX.sig) → Buf (Elt Bits) ℓ) : Prop :=
  True

def Pre_GuBwdXIdeal (m : (ℓ : Loc Cert.GuBwdXIdeal.nD Cert.GuBwdXIdeal.τ Cert.GuBwdXIdeal.sig) → Buf (Elt Ideal) ℓ) : Prop :=
  True

def Pre_GuBwdXRefIdeal (m : (ℓ : Loc Cert.GuBwdXRefIdeal.nD Cert.GuBwdXRefIdeal.τ Cert.GuBwdXRefIdeal.sig) → Buf (Elt Ideal) ℓ) : Prop :=
  True

def Pre_GuFwd (m : (ℓ : Loc Cert.GuFwd.nD Cert.GuFwd.τ Cert.GuFwd.sig) → Buf (Elt Bits) ℓ) : Prop :=
  True

def Pre_GuFwdIdeal (m : (ℓ : Loc Cert.GuFwdIdeal.nD Cert.GuFwdIdeal.τ Cert.GuFwdIdeal.sig) → Buf (Elt Ideal) ℓ) : Prop :=
  True

def Pre_GuFwdRefIdeal (m : (ℓ : Loc Cert.GuFwdRefIdeal.nD Cert.GuFwdRefIdeal.τ Cert.GuFwdRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DnsFwd (m : (ℓ : Loc Cert.DnsFwd.nD Cert.DnsFwd.τ Cert.DnsFwd.sig) → Buf (Elt Bits) ℓ) : Prop :=
  True

def Pre_DnsFwdIdeal (m : (ℓ : Loc Cert.DnsFwdIdeal.nD Cert.DnsFwdIdeal.τ Cert.DnsFwdIdeal.sig) → Buf (Elt Ideal) ℓ) : Prop :=
  True

def Pre_DnsFwdRefIdeal (m : (ℓ : Loc Cert.DnsFwdRefIdeal.nD Cert.DnsFwdRefIdeal.τ Cert.DnsFwdRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownNorm (m : (ℓ : Loc Cert.DownNorm.nD Cert.DownNorm.τ Cert.DownNorm.sig) → Buf (Elt Bits) ℓ) : Prop :=
  True

def Pre_DownNormIdeal (m : (ℓ : Loc Cert.DownNormIdeal.nD Cert.DownNormIdeal.τ Cert.DownNormIdeal.sig) → Buf (Elt Ideal) ℓ) : Prop :=
  True

def Pre_DownNormRefIdeal (m : (ℓ : Loc Cert.DownNormRefIdeal.nD Cert.DownNormRefIdeal.τ Cert.DownNormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwInA (m : (ℓ : Loc Cert.DwInA.nD Cert.DwInA.τ Cert.DwInA.sig) → Buf (Elt Bits) ℓ) : Prop :=
  True

def Pre_DwInAIdeal (m : (ℓ : Loc Cert.DwInAIdeal.nD Cert.DwInAIdeal.τ Cert.DwInAIdeal.sig) → Buf (Elt Ideal) ℓ) : Prop :=
  True

def Pre_DwInARefIdeal (m : (ℓ : Loc Cert.DwInARefIdeal.nD Cert.DwInARefIdeal.τ Cert.DwInARefIdeal.sig) → Buf (Elt Ideal) ℓ) : Prop :=
  True

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_DwInBRefIdeal (m : (ℓ : Loc Cert.DwInBRefIdeal.nD Cert.DwInBRefIdeal.τ Cert.DwInBRefIdeal.sig) → Buf (Elt Ideal) ℓ) : Prop :=
  True

def Pre_DInA (m : (ℓ : Loc Cert.DInA.nD Cert.DInA.τ Cert.DInA.sig) → Buf (Elt Bits) ℓ) : Prop :=
  True

def Pre_DInAIdeal (m : (ℓ : Loc Cert.DInAIdeal.nD Cert.DInAIdeal.τ Cert.DInAIdeal.sig) → Buf (Elt Ideal) ℓ) : Prop :=
  True

def Pre_DInARefIdeal (m : (ℓ : Loc Cert.DInARefIdeal.nD Cert.DInARefIdeal.τ Cert.DInARefIdeal.sig) → Buf (Elt Ideal) ℓ) : Prop :=
  True

def Pre_DInB (m : (ℓ : Loc Cert.DInB.nD Cert.DInB.τ Cert.DInB.sig) → Buf (Elt Bits) ℓ) : Prop :=
  True

def Pre_DInBIdeal (m : (ℓ : Loc Cert.DInBIdeal.nD Cert.DInBIdeal.τ Cert.DInBIdeal.sig) → Buf (Elt Ideal) ℓ) : Prop :=
  True

def Pre_DInBRefIdeal (m : (ℓ : Loc Cert.DInBRefIdeal.nD Cert.DInBRefIdeal.τ Cert.DInBRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemKvGrad (m : (ℓ : Loc Cert.MemKvGrad.nD Cert.MemKvGrad.τ Cert.MemKvGrad.sig) → Buf (Elt Bits) ℓ) : Prop :=
  True

def Pre_MemKvGradIdeal (m : (ℓ : Loc Cert.MemKvGradIdeal.nD Cert.MemKvGradIdeal.τ Cert.MemKvGradIdeal.sig) → Buf (Elt Ideal) ℓ) : Prop :=
  True

def Pre_MemKvGradRefIdeal (m : (ℓ : Loc Cert.MemKvGradRefIdeal.nD Cert.MemKvGradRefIdeal.τ Cert.MemKvGradRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMem (m : (ℓ : Loc Cert.AdamMem.nD Cert.AdamMem.τ Cert.AdamMem.sig) → Buf (Elt Bits) ℓ) : Prop :=
  True

def Pre_AdamMemIdeal (m : (ℓ : Loc Cert.AdamMemIdeal.nD Cert.AdamMemIdeal.τ Cert.AdamMemIdeal.sig) → Buf (Elt Ideal) ℓ) : Prop :=
  True

def Pre_AdamMemRefIdeal (m : (ℓ : Loc Cert.AdamMemRefIdeal.nD Cert.AdamMemRefIdeal.τ Cert.AdamMemRefIdeal.sig) → Buf (Elt Ideal) ℓ) : Prop :=
  True

def Pre_AdamInA (m : (ℓ : Loc Cert.AdamInA.nD Cert.AdamInA.τ Cert.AdamInA.sig) → Buf (Elt Bits) ℓ) : Prop :=
  True

def Pre_AdamInAIdeal (m : (ℓ : Loc Cert.AdamInAIdeal.nD Cert.AdamInAIdeal.τ Cert.AdamInAIdeal.sig) → Buf (Elt Ideal) ℓ) : Prop :=
  True

def Pre_AdamInARefIdeal (m : (ℓ : Loc Cert.AdamInARefIdeal.nD Cert.AdamInARefIdeal.τ Cert.AdamInARefIdeal.sig) → Buf (Elt Ideal) ℓ) : Prop :=
  True

def Pre_AdamInB (m : (ℓ : Loc Cert.AdamInB.nD Cert.AdamInB.τ Cert.AdamInB.sig) → Buf (Elt Bits) ℓ) : Prop :=
  True

def Pre_AdamInBIdeal (m : (ℓ : Loc Cert.AdamInBIdeal.nD Cert.AdamInBIdeal.τ Cert.AdamInBIdeal.sig) → Buf (Elt Ideal) ℓ) : Prop :=
  True

def Pre_AdamInBRefIdeal (m : (ℓ : Loc Cert.AdamInBRefIdeal.nD Cert.AdamInBRefIdeal.τ Cert.AdamInBRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_CrossA (m : (ℓ : Loc Cert.CrossA.nD Cert.CrossA.τ Cert.CrossA.sig) → Buf (Elt Bits) ℓ) : Prop :=
  True

def Pre_CrossAIdeal (m : (ℓ : Loc Cert.CrossAIdeal.nD Cert.CrossAIdeal.τ Cert.CrossAIdeal.sig) → Buf (Elt Ideal) ℓ) : Prop :=
  True

def Pre_CrossARefIdeal (m : (ℓ : Loc Cert.CrossARefIdeal.nD Cert.CrossARefIdeal.τ Cert.CrossARefIdeal.sig) → Buf (Elt Ideal) ℓ) : Prop :=
  True

def Pre_CrossB (m : (ℓ : Loc Cert.CrossB.nD Cert.CrossB.τ Cert.CrossB.sig) → Buf (Elt Bits) ℓ) : Prop :=
  True

def Pre_CrossBIdeal (m : (ℓ : Loc Cert.CrossBIdeal.nD Cert.CrossBIdeal.τ Cert.CrossBIdeal.sig) → Buf (Elt Ideal) ℓ) : Prop :=
  True

def Pre_CrossBRefIdeal (m : (ℓ : Loc Cert.CrossBRefIdeal.nD Cert.CrossBRefIdeal.τ Cert.CrossBRefIdeal.sig) → Buf (Elt Ideal) ℓ) : Prop :=
  True

def Pre_CrossGradA (m : (ℓ : Loc Cert.CrossGradA.nD Cert.CrossGradA.τ Cert.CrossGradA.sig) → Buf (Elt Bits) ℓ) : Prop :=
  True

def Pre_CrossGradAIdeal (m : (ℓ : Loc Cert.CrossGradAIdeal.nD Cert.CrossGradAIdeal.τ Cert.CrossGradAIdeal.sig) → Buf (Elt Ideal) ℓ) : Prop :=
  True

def Pre_CrossGradARefIdeal (m : (ℓ : Loc Cert.CrossGradARefIdeal.nD Cert.CrossGradARefIdeal.τ Cert.CrossGradARefIdeal.sig) → Buf (Elt Ideal) ℓ) : Prop :=
  True

def Pre_CrossGradB (m : (ℓ : Loc Cert.CrossGradB.nD Cert.CrossGradB.τ Cert.CrossGradB.sig) → Buf (Elt Bits) ℓ) : Prop :=
  True

def Pre_CrossGradBIdeal (m : (ℓ : Loc Cert.CrossGradBIdeal.nD Cert.CrossGradBIdeal.τ Cert.CrossGradBIdeal.sig) → Buf (Elt Ideal) ℓ) : Prop :=
  True

def Pre_CrossGradBRefIdeal (m : (ℓ : Loc Cert.CrossGradBRefIdeal.nD Cert.CrossGradBRefIdeal.τ Cert.CrossGradBRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_GuBwdW [hGuBwdW : Cert.GuBwdW.Facts] : Prop :=
  ∀ (m : (ℓ : Loc Cert.GuBwdW.nD Cert.GuBwdW.τ Cert.GuBwdW.sig) → Buf (Elt Bits) ℓ) (g : Dev Cert.GuBwdW.nD → PrngReg), Pre_GuBwdW m →
    θ_run (Cert.GuBwdW.defs (F := Bits)) (onTc (τ := Cert.GuBwdW.τ) (Cert.GuBwdW.main (F := Bits))) ⟨m, fun _ => 0, g⟩ (fun r => (∀ c : Dev Cert.GuBwdW.nD,
      r.2.mem ((c.tc : Thread Cert.GuBwdW.nD Cert.GuBwdW.τ).loc Cert.GuBwdW.main_arg0) = m ((c.tc : Thread Cert.GuBwdW.nD Cert.GuBwdW.τ).loc Cert.GuBwdW.main_arg0)
      ∧ r.2.mem ((c.tc : Thread Cert.GuBwdW.nD Cert.GuBwdW.τ).loc Cert.GuBwdW.main_arg1) = m ((c.tc : Thread Cert.GuBwdW.nD Cert.GuBwdW.τ).loc Cert.GuBwdW.main_arg1))
      ∧ r.2.sem = fun _ => 0)

def quiescent_GuBwdWIdeal [hGuBwdWIdeal : Cert.GuBwdWIdeal.Facts] : Prop :=
  ∀ (m : (ℓ : Loc Cert.GuBwdWIdeal.nD Cert.GuBwdWIdeal.τ Cert.GuBwdWIdeal.sig) → Buf (Elt Ideal) ℓ) (g : Dev Cert.GuBwdWIdeal.nD → PrngReg), Pre_GuBwdWIdeal m →
    θ_run (Cert.GuBwdWIdeal.defs (F := Ideal)) (onTc (τ := Cert.GuBwdWIdeal.τ) (Cert.GuBwdWIdeal.main (F := Ideal))) ⟨m, fun _ => 0, g⟩ (fun r => (∀ c : Dev Cert.GuBwdWIdeal.nD,
      r.2.mem ((c.tc : Thread Cert.GuBwdWIdeal.nD Cert.GuBwdWIdeal.τ).loc Cert.GuBwdWIdeal.main_arg0) = m ((c.tc : Thread Cert.GuBwdWIdeal.nD Cert.GuBwdWIdeal.τ).loc Cert.GuBwdWIdeal.main_arg0)
      ∧ r.2.mem ((c.tc : Thread Cert.GuBwdWIdeal.nD Cert.GuBwdWIdeal.τ).loc Cert.GuBwdWIdeal.main_arg1) = m ((c.tc : Thread Cert.GuBwdWIdeal.nD Cert.GuBwdWIdeal.τ).loc Cert.GuBwdWIdeal.main_arg1))
      ∧ r.2.sem = fun _ => 0)

def quiescent_GuBwdWRefIdeal [hGuBwdWRefIdeal : Cert.GuBwdWRefIdeal.Facts] : Prop :=
  ∀ (m : (ℓ : Loc Cert.GuBwdWRefIdeal.nD Cert.GuBwdWRefIdeal.τ Cert.GuBwdWRefIdeal.sig) → Buf (Elt Ideal) ℓ) (g : Dev Cert.GuBwdWRefIdeal.nD → PrngReg), Pre_GuBwdWRefIdeal m →
    θ_run (Cert.GuBwdWRefIdeal.defs (F := Ideal)) (onTc (τ := Cert.GuBwdWRefIdeal.τ) (Cert.GuBwdWRefIdeal.main (F := Ideal))) ⟨m, fun _ => 0, g⟩ (fun r => (∀ c : Dev Cert.GuBwdWRefIdeal.nD,
      r.2.mem ((c.tc : Thread Cert.GuBwdWRefIdeal.nD Cert.GuBwdWRefIdeal.τ).loc Cert.GuBwdWRefIdeal.main_arg0) = m ((c.tc : Thread Cert.GuBwdWRefIdeal.nD Cert.GuBwdWRefIdeal.τ).loc Cert.GuBwdWRefIdeal.main_arg0)
      ∧ r.2.mem ((c.tc : Thread Cert.GuBwdWRefIdeal.nD Cert.GuBwdWRefIdeal.τ).loc Cert.GuBwdWRefIdeal.main_arg1) = m ((c.tc : Thread Cert.GuBwdWRefIdeal.nD Cert.GuBwdWRefIdeal.τ).loc Cert.GuBwdWRefIdeal.main_arg1))
      ∧ r.2.sem = fun _ => 0)

def quiescent_GuBwdX [hGuBwdX : Cert.GuBwdX.Facts] : Prop :=
  ∀ (m : (ℓ : Loc Cert.GuBwdX.nD Cert.GuBwdX.τ Cert.GuBwdX.sig) → Buf (Elt Bits) ℓ) (g : Dev Cert.GuBwdX.nD → PrngReg), Pre_GuBwdX m →
    θ_run (Cert.GuBwdX.defs (F := Bits)) (onTc (τ := Cert.GuBwdX.τ) (Cert.GuBwdX.main (F := Bits))) ⟨m, fun _ => 0, g⟩ (fun r => (∀ c : Dev Cert.GuBwdX.nD,
      r.2.mem ((c.tc : Thread Cert.GuBwdX.nD Cert.GuBwdX.τ).loc Cert.GuBwdX.main_arg0) = m ((c.tc : Thread Cert.GuBwdX.nD Cert.GuBwdX.τ).loc Cert.GuBwdX.main_arg0)
      ∧ r.2.mem ((c.tc : Thread Cert.GuBwdX.nD Cert.GuBwdX.τ).loc Cert.GuBwdX.main_arg1) = m ((c.tc : Thread Cert.GuBwdX.nD Cert.GuBwdX.τ).loc Cert.GuBwdX.main_arg1)
      ∧ r.2.mem ((c.tc : Thread Cert.GuBwdX.nD Cert.GuBwdX.τ).loc Cert.GuBwdX.main_arg2) = m ((c.tc : Thread Cert.GuBwdX.nD Cert.GuBwdX.τ).loc Cert.GuBwdX.main_arg2)
      ∧ r.2.mem ((c.tc : Thread Cert.GuBwdX.nD Cert.GuBwdX.τ).loc Cert.GuBwdX.main_arg3) = m ((c.tc : Thread Cert.GuBwdX.nD Cert.GuBwdX.τ).loc Cert.GuBwdX.main_arg3)
      ∧ r.2.mem ((c.tc : Thread Cert.GuBwdX.nD Cert.GuBwdX.τ).loc Cert.GuBwdX.main_arg4) = m ((c.tc : Thread Cert.GuBwdX.nD Cert.GuBwdX.τ).loc Cert.GuBwdX.main_arg4))
      ∧ r.2.sem = fun _ => 0)

def quiescent_GuBwdXIdeal [hGuBwdXIdeal : Cert.GuBwdXIdeal.Facts] : Prop :=
  ∀ (m : (ℓ : Loc Cert.GuBwdXIdeal.nD Cert.GuBwdXIdeal.τ Cert.GuBwdXIdeal.sig) → Buf (Elt Ideal) ℓ) (g : Dev Cert.GuBwdXIdeal.nD → PrngReg), Pre_GuBwdXIdeal m →
    θ_run (Cert.GuBwdXIdeal.defs (F := Ideal)) (onTc (τ := Cert.GuBwdXIdeal.τ) (Cert.GuBwdXIdeal.main (F := Ideal))) ⟨m, fun _ => 0, g⟩ (fun r => (∀ c : Dev Cert.GuBwdXIdeal.nD,
      r.2.mem ((c.tc : Thread Cert.GuBwdXIdeal.nD Cert.GuBwdXIdeal.τ).loc Cert.GuBwdXIdeal.main_arg0) = m ((c.tc : Thread Cert.GuBwdXIdeal.nD Cert.GuBwdXIdeal.τ).loc Cert.GuBwdXIdeal.main_arg0)
      ∧ r.2.mem ((c.tc : Thread Cert.GuBwdXIdeal.nD Cert.GuBwdXIdeal.τ).loc Cert.GuBwdXIdeal.main_arg1) = m ((c.tc : Thread Cert.GuBwdXIdeal.nD Cert.GuBwdXIdeal.τ).loc Cert.GuBwdXIdeal.main_arg1)
      ∧ r.2.mem ((c.tc : Thread Cert.GuBwdXIdeal.nD Cert.GuBwdXIdeal.τ).loc Cert.GuBwdXIdeal.main_arg2) = m ((c.tc : Thread Cert.GuBwdXIdeal.nD Cert.GuBwdXIdeal.τ).loc Cert.GuBwdXIdeal.main_arg2)
      ∧ r.2.mem ((c.tc : Thread Cert.GuBwdXIdeal.nD Cert.GuBwdXIdeal.τ).loc Cert.GuBwdXIdeal.main_arg3) = m ((c.tc : Thread Cert.GuBwdXIdeal.nD Cert.GuBwdXIdeal.τ).loc Cert.GuBwdXIdeal.main_arg3)
      ∧ r.2.mem ((c.tc : Thread Cert.GuBwdXIdeal.nD Cert.GuBwdXIdeal.τ).loc Cert.GuBwdXIdeal.main_arg4) = m ((c.tc : Thread Cert.GuBwdXIdeal.nD Cert.GuBwdXIdeal.τ).loc Cert.GuBwdXIdeal.main_arg4))
      ∧ r.2.sem = fun _ => 0)

def quiescent_GuBwdXRefIdeal [hGuBwdXRefIdeal : Cert.GuBwdXRefIdeal.Facts] : Prop :=
  ∀ (m : (ℓ : Loc Cert.GuBwdXRefIdeal.nD Cert.GuBwdXRefIdeal.τ Cert.GuBwdXRefIdeal.sig) → Buf (Elt Ideal) ℓ) (g : Dev Cert.GuBwdXRefIdeal.nD → PrngReg), Pre_GuBwdXRefIdeal m →
    θ_run (Cert.GuBwdXRefIdeal.defs (F := Ideal)) (onTc (τ := Cert.GuBwdXRefIdeal.τ) (Cert.GuBwdXRefIdeal.main (F := Ideal))) ⟨m, fun _ => 0, g⟩ (fun r => (∀ c : Dev Cert.GuBwdXRefIdeal.nD,
      r.2.mem ((c.tc : Thread Cert.GuBwdXRefIdeal.nD Cert.GuBwdXRefIdeal.τ).loc Cert.GuBwdXRefIdeal.main_arg0) = m ((c.tc : Thread Cert.GuBwdXRefIdeal.nD Cert.GuBwdXRefIdeal.τ).loc Cert.GuBwdXRefIdeal.main_arg0)
      ∧ r.2.mem ((c.tc : Thread Cert.GuBwdXRefIdeal.nD Cert.GuBwdXRefIdeal.τ).loc Cert.GuBwdXRefIdeal.main_arg1) = m ((c.tc : Thread Cert.GuBwdXRefIdeal.nD Cert.GuBwdXRefIdeal.τ).loc Cert.GuBwdXRefIdeal.main_arg1)
      ∧ r.2.mem ((c.tc : Thread Cert.GuBwdXRefIdeal.nD Cert.GuBwdXRefIdeal.τ).loc Cert.GuBwdXRefIdeal.main_arg2) = m ((c.tc : Thread Cert.GuBwdXRefIdeal.nD Cert.GuBwdXRefIdeal.τ).loc Cert.GuBwdXRefIdeal.main_arg2)
      ∧ r.2.mem ((c.tc : Thread Cert.GuBwdXRefIdeal.nD Cert.GuBwdXRefIdeal.τ).loc Cert.GuBwdXRefIdeal.main_arg3) = m ((c.tc : Thread Cert.GuBwdXRefIdeal.nD Cert.GuBwdXRefIdeal.τ).loc Cert.GuBwdXRefIdeal.main_arg3)
      ∧ r.2.mem ((c.tc : Thread Cert.GuBwdXRefIdeal.nD Cert.GuBwdXRefIdeal.τ).loc Cert.GuBwdXRefIdeal.main_arg4) = m ((c.tc : Thread Cert.GuBwdXRefIdeal.nD Cert.GuBwdXRefIdeal.τ).loc Cert.GuBwdXRefIdeal.main_arg4))
      ∧ r.2.sem = fun _ => 0)

def quiescent_GuFwd [hGuFwd : Cert.GuFwd.Facts] : Prop :=
  ∀ (m : (ℓ : Loc Cert.GuFwd.nD Cert.GuFwd.τ Cert.GuFwd.sig) → Buf (Elt Bits) ℓ) (g : Dev Cert.GuFwd.nD → PrngReg), Pre_GuFwd m →
    θ_run (Cert.GuFwd.defs (F := Bits)) (onTc (τ := Cert.GuFwd.τ) (Cert.GuFwd.main (F := Bits))) ⟨m, fun _ => 0, g⟩ (fun r => (∀ c : Dev Cert.GuFwd.nD,
      r.2.mem ((c.tc : Thread Cert.GuFwd.nD Cert.GuFwd.τ).loc Cert.GuFwd.main_arg0) = m ((c.tc : Thread Cert.GuFwd.nD Cert.GuFwd.τ).loc Cert.GuFwd.main_arg0)
      ∧ r.2.mem ((c.tc : Thread Cert.GuFwd.nD Cert.GuFwd.τ).loc Cert.GuFwd.main_arg1) = m ((c.tc : Thread Cert.GuFwd.nD Cert.GuFwd.τ).loc Cert.GuFwd.main_arg1))
      ∧ r.2.sem = fun _ => 0)

def quiescent_GuFwdIdeal [hGuFwdIdeal : Cert.GuFwdIdeal.Facts] : Prop :=
  ∀ (m : (ℓ : Loc Cert.GuFwdIdeal.nD Cert.GuFwdIdeal.τ Cert.GuFwdIdeal.sig) → Buf (Elt Ideal) ℓ) (g : Dev Cert.GuFwdIdeal.nD → PrngReg), Pre_GuFwdIdeal m →
    θ_run (Cert.GuFwdIdeal.defs (F := Ideal)) (onTc (τ := Cert.GuFwdIdeal.τ) (Cert.GuFwdIdeal.main (F := Ideal))) ⟨m, fun _ => 0, g⟩ (fun r => (∀ c : Dev Cert.GuFwdIdeal.nD,
      r.2.mem ((c.tc : Thread Cert.GuFwdIdeal.nD Cert.GuFwdIdeal.τ).loc Cert.GuFwdIdeal.main_arg0) = m ((c.tc : Thread Cert.GuFwdIdeal.nD Cert.GuFwdIdeal.τ).loc Cert.GuFwdIdeal.main_arg0)
      ∧ r.2.mem ((c.tc : Thread Cert.GuFwdIdeal.nD Cert.GuFwdIdeal.τ).loc Cert.GuFwdIdeal.main_arg1) = m ((c.tc : Thread Cert.GuFwdIdeal.nD Cert.GuFwdIdeal.τ).loc Cert.GuFwdIdeal.main_arg1))
      ∧ r.2.sem = fun _ => 0)

def quiescent_GuFwdRefIdeal [hGuFwdRefIdeal : Cert.GuFwdRefIdeal.Facts] : Prop :=
  ∀ (m : (ℓ : Loc Cert.GuFwdRefIdeal.nD Cert.GuFwdRefIdeal.τ Cert.GuFwdRefIdeal.sig) → Buf (Elt Ideal) ℓ) (g : Dev Cert.GuFwdRefIdeal.nD → PrngReg), Pre_GuFwdRefIdeal m →
    θ_run (Cert.GuFwdRefIdeal.defs (F := Ideal)) (onTc (τ := Cert.GuFwdRefIdeal.τ) (Cert.GuFwdRefIdeal.main (F := Ideal))) ⟨m, fun _ => 0, g⟩ (fun r => (∀ c : Dev Cert.GuFwdRefIdeal.nD,
      r.2.mem ((c.tc : Thread Cert.GuFwdRefIdeal.nD Cert.GuFwdRefIdeal.τ).loc Cert.GuFwdRefIdeal.main_arg0) = m ((c.tc : Thread Cert.GuFwdRefIdeal.nD Cert.GuFwdRefIdeal.τ).loc Cert.GuFwdRefIdeal.main_arg0)
      ∧ r.2.mem ((c.tc : Thread Cert.GuFwdRefIdeal.nD Cert.GuFwdRefIdeal.τ).loc Cert.GuFwdRefIdeal.main_arg1) = m ((c.tc : Thread Cert.GuFwdRefIdeal.nD Cert.GuFwdRefIdeal.τ).loc Cert.GuFwdRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DnsFwd [hDnsFwd : Cert.DnsFwd.Facts] : Prop :=
  ∀ (m : (ℓ : Loc Cert.DnsFwd.nD Cert.DnsFwd.τ Cert.DnsFwd.sig) → Buf (Elt Bits) ℓ) (g : Dev Cert.DnsFwd.nD → PrngReg), Pre_DnsFwd m →
    θ_run (Cert.DnsFwd.defs (F := Bits)) (onTc (τ := Cert.DnsFwd.τ) (Cert.DnsFwd.main (F := Bits))) ⟨m, fun _ => 0, g⟩ (fun r => (∀ c : Dev Cert.DnsFwd.nD,
      r.2.mem ((c.tc : Thread Cert.DnsFwd.nD Cert.DnsFwd.τ).loc Cert.DnsFwd.main_arg0) = m ((c.tc : Thread Cert.DnsFwd.nD Cert.DnsFwd.τ).loc Cert.DnsFwd.main_arg0)
      ∧ r.2.mem ((c.tc : Thread Cert.DnsFwd.nD Cert.DnsFwd.τ).loc Cert.DnsFwd.main_arg1) = m ((c.tc : Thread Cert.DnsFwd.nD Cert.DnsFwd.τ).loc Cert.DnsFwd.main_arg1)
      ∧ r.2.mem ((c.tc : Thread Cert.DnsFwd.nD Cert.DnsFwd.τ).loc Cert.DnsFwd.main_arg2) = m ((c.tc : Thread Cert.DnsFwd.nD Cert.DnsFwd.τ).loc Cert.DnsFwd.main_arg2)
      ∧ r.2.mem ((c.tc : Thread Cert.DnsFwd.nD Cert.DnsFwd.τ).loc Cert.DnsFwd.main_arg3) = m ((c.tc : Thread Cert.DnsFwd.nD Cert.DnsFwd.τ).loc Cert.DnsFwd.main_arg3)
      ∧ r.2.mem ((c.tc : Thread Cert.DnsFwd.nD Cert.DnsFwd.τ).loc Cert.DnsFwd.main_arg4) = m ((c.tc : Thread Cert.DnsFwd.nD Cert.DnsFwd.τ).loc Cert.DnsFwd.main_arg4)
      ∧ r.2.mem ((c.tc : Thread Cert.DnsFwd.nD Cert.DnsFwd.τ).loc Cert.DnsFwd.main_arg5) = m ((c.tc : Thread Cert.DnsFwd.nD Cert.DnsFwd.τ).loc Cert.DnsFwd.main_arg5))
      ∧ r.2.sem = fun _ => 0)

def quiescent_DnsFwdIdeal [hDnsFwdIdeal : Cert.DnsFwdIdeal.Facts] : Prop :=
  ∀ (m : (ℓ : Loc Cert.DnsFwdIdeal.nD Cert.DnsFwdIdeal.τ Cert.DnsFwdIdeal.sig) → Buf (Elt Ideal) ℓ) (g : Dev Cert.DnsFwdIdeal.nD → PrngReg), Pre_DnsFwdIdeal m →
    θ_run (Cert.DnsFwdIdeal.defs (F := Ideal)) (onTc (τ := Cert.DnsFwdIdeal.τ) (Cert.DnsFwdIdeal.main (F := Ideal))) ⟨m, fun _ => 0, g⟩ (fun r => (∀ c : Dev Cert.DnsFwdIdeal.nD,
      r.2.mem ((c.tc : Thread Cert.DnsFwdIdeal.nD Cert.DnsFwdIdeal.τ).loc Cert.DnsFwdIdeal.main_arg0) = m ((c.tc : Thread Cert.DnsFwdIdeal.nD Cert.DnsFwdIdeal.τ).loc Cert.DnsFwdIdeal.main_arg0)
      ∧ r.2.mem ((c.tc : Thread Cert.DnsFwdIdeal.nD Cert.DnsFwdIdeal.τ).loc Cert.DnsFwdIdeal.main_arg1) = m ((c.tc : Thread Cert.DnsFwdIdeal.nD Cert.DnsFwdIdeal.τ).loc Cert.DnsFwdIdeal.main_arg1)
      ∧ r.2.mem ((c.tc : Thread Cert.DnsFwdIdeal.nD Cert.DnsFwdIdeal.τ).loc Cert.DnsFwdIdeal.main_arg2) = m ((c.tc : Thread Cert.DnsFwdIdeal.nD Cert.DnsFwdIdeal.τ).loc Cert.DnsFwdIdeal.main_arg2)
      ∧ r.2.mem ((c.tc : Thread Cert.DnsFwdIdeal.nD Cert.DnsFwdIdeal.τ).loc Cert.DnsFwdIdeal.main_arg3) = m ((c.tc : Thread Cert.DnsFwdIdeal.nD Cert.DnsFwdIdeal.τ).loc Cert.DnsFwdIdeal.main_arg3)
      ∧ r.2.mem ((c.tc : Thread Cert.DnsFwdIdeal.nD Cert.DnsFwdIdeal.τ).loc Cert.DnsFwdIdeal.main_arg4) = m ((c.tc : Thread Cert.DnsFwdIdeal.nD Cert.DnsFwdIdeal.τ).loc Cert.DnsFwdIdeal.main_arg4)
      ∧ r.2.mem ((c.tc : Thread Cert.DnsFwdIdeal.nD Cert.DnsFwdIdeal.τ).loc Cert.DnsFwdIdeal.main_arg5) = m ((c.tc : Thread Cert.DnsFwdIdeal.nD Cert.DnsFwdIdeal.τ).loc Cert.DnsFwdIdeal.main_arg5))
      ∧ r.2.sem = fun _ => 0)

def quiescent_DnsFwdRefIdeal [hDnsFwdRefIdeal : Cert.DnsFwdRefIdeal.Facts] : Prop :=
  ∀ (m : (ℓ : Loc Cert.DnsFwdRefIdeal.nD Cert.DnsFwdRefIdeal.τ Cert.DnsFwdRefIdeal.sig) → Buf (Elt Ideal) ℓ) (g : Dev Cert.DnsFwdRefIdeal.nD → PrngReg), Pre_DnsFwdRefIdeal m →
    θ_run (Cert.DnsFwdRefIdeal.defs (F := Ideal)) (onTc (τ := Cert.DnsFwdRefIdeal.τ) (Cert.DnsFwdRefIdeal.main (F := Ideal))) ⟨m, fun _ => 0, g⟩ (fun r => (∀ c : Dev Cert.DnsFwdRefIdeal.nD,
      r.2.mem ((c.tc : Thread Cert.DnsFwdRefIdeal.nD Cert.DnsFwdRefIdeal.τ).loc Cert.DnsFwdRefIdeal.main_arg0) = m ((c.tc : Thread Cert.DnsFwdRefIdeal.nD Cert.DnsFwdRefIdeal.τ).loc Cert.DnsFwdRefIdeal.main_arg0)
      ∧ r.2.mem ((c.tc : Thread Cert.DnsFwdRefIdeal.nD Cert.DnsFwdRefIdeal.τ).loc Cert.DnsFwdRefIdeal.main_arg1) = m ((c.tc : Thread Cert.DnsFwdRefIdeal.nD Cert.DnsFwdRefIdeal.τ).loc Cert.DnsFwdRefIdeal.main_arg1)
      ∧ r.2.mem ((c.tc : Thread Cert.DnsFwdRefIdeal.nD Cert.DnsFwdRefIdeal.τ).loc Cert.DnsFwdRefIdeal.main_arg2) = m ((c.tc : Thread Cert.DnsFwdRefIdeal.nD Cert.DnsFwdRefIdeal.τ).loc Cert.DnsFwdRefIdeal.main_arg2)
      ∧ r.2.mem ((c.tc : Thread Cert.DnsFwdRefIdeal.nD Cert.DnsFwdRefIdeal.τ).loc Cert.DnsFwdRefIdeal.main_arg3) = m ((c.tc : Thread Cert.DnsFwdRefIdeal.nD Cert.DnsFwdRefIdeal.τ).loc Cert.DnsFwdRefIdeal.main_arg3)
      ∧ r.2.mem ((c.tc : Thread Cert.DnsFwdRefIdeal.nD Cert.DnsFwdRefIdeal.τ).loc Cert.DnsFwdRefIdeal.main_arg4) = m ((c.tc : Thread Cert.DnsFwdRefIdeal.nD Cert.DnsFwdRefIdeal.τ).loc Cert.DnsFwdRefIdeal.main_arg4)
      ∧ r.2.mem ((c.tc : Thread Cert.DnsFwdRefIdeal.nD Cert.DnsFwdRefIdeal.τ).loc Cert.DnsFwdRefIdeal.main_arg5) = m ((c.tc : Thread Cert.DnsFwdRefIdeal.nD Cert.DnsFwdRefIdeal.τ).loc Cert.DnsFwdRefIdeal.main_arg5))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DownNorm [hDownNorm : Cert.DownNorm.Facts] : Prop :=
  ∀ (m : (ℓ : Loc Cert.DownNorm.nD Cert.DownNorm.τ Cert.DownNorm.sig) → Buf (Elt Bits) ℓ) (g : Dev Cert.DownNorm.nD → PrngReg), Pre_DownNorm m →
    θ_run (Cert.DownNorm.defs (F := Bits)) (onTc (τ := Cert.DownNorm.τ) (Cert.DownNorm.main (F := Bits))) ⟨m, fun _ => 0, g⟩ (fun r => (∀ c : Dev Cert.DownNorm.nD,
      r.2.mem ((c.tc : Thread Cert.DownNorm.nD Cert.DownNorm.τ).loc Cert.DownNorm.main_arg0) = m ((c.tc : Thread Cert.DownNorm.nD Cert.DownNorm.τ).loc Cert.DownNorm.main_arg0)
      ∧ r.2.mem ((c.tc : Thread Cert.DownNorm.nD Cert.DownNorm.τ).loc Cert.DownNorm.main_arg1) = m ((c.tc : Thread Cert.DownNorm.nD Cert.DownNorm.τ).loc Cert.DownNorm.main_arg1)
      ∧ r.2.mem ((c.tc : Thread Cert.DownNorm.nD Cert.DownNorm.τ).loc Cert.DownNorm.main_arg2) = m ((c.tc : Thread Cert.DownNorm.nD Cert.DownNorm.τ).loc Cert.DownNorm.main_arg2)
      ∧ r.2.mem ((c.tc : Thread Cert.DownNorm.nD Cert.DownNorm.τ).loc Cert.DownNorm.main_arg3) = m ((c.tc : Thread Cert.DownNorm.nD Cert.DownNorm.τ).loc Cert.DownNorm.main_arg3))
      ∧ r.2.sem = fun _ => 0)

def quiescent_DownNormIdeal [hDownNormIdeal : Cert.DownNormIdeal.Facts] : Prop :=
  ∀ (m : (ℓ : Loc Cert.DownNormIdeal.nD Cert.DownNormIdeal.τ Cert.DownNormIdeal.sig) → Buf (Elt Ideal) ℓ) (g : Dev Cert.DownNormIdeal.nD → PrngReg), Pre_DownNormIdeal m →
    θ_run (Cert.DownNormIdeal.defs (F := Ideal)) (onTc (τ := Cert.DownNormIdeal.τ) (Cert.DownNormIdeal.main (F := Ideal))) ⟨m, fun _ => 0, g⟩ (fun r => (∀ c : Dev Cert.DownNormIdeal.nD,
      r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
      ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
      ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
      ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ r.2.sem = fun _ => 0)

def quiescent_DownNormRefIdeal [hDownNormRefIdeal : Cert.DownNormRefIdeal.Facts] : Prop :=
  ∀ (m : (ℓ : Loc Cert.DownNormRefIdeal.nD Cert.DownNormRefIdeal.τ Cert.DownNormRefIdeal.sig) → Buf (Elt Ideal) ℓ) (g : Dev Cert.DownNormRefIdeal.nD → PrngReg), Pre_DownNormRefIdeal m →
    θ_run (Cert.DownNormRefIdeal.defs (F := Ideal)) (onTc (τ := Cert.DownNormRefIdeal.τ) (Cert.DownNormRefIdeal.main (F := Ideal))) ⟨m, fun _ => 0, g⟩ (fun r => (∀ c : Dev Cert.DownNormRefIdeal.nD,
      r.2.mem ((c.tc : Thread Cert.DownNormRefIdeal.nD Cert.DownNormRefIdeal.τ).loc Cert.DownNormRefIdeal.main_arg0) = m ((c.tc : Thread Cert.DownNormRefIdeal.nD Cert.DownNormRefIdeal.τ).loc Cert.DownNormRefIdeal.main_arg0)
      ∧ r.2.mem ((c.tc : Thread Cert.DownNormRefIdeal.nD Cert.DownNormRefIdeal.τ).loc Cert.DownNormRefIdeal.main_arg1) = m ((c.tc : Thread Cert.DownNormRefIdeal.nD Cert.DownNormRefIdeal.τ).loc Cert.DownNormRefIdeal.main_arg1)
      ∧ r.2.mem ((c.tc : Thread Cert.DownNormRefIdeal.nD Cert.DownNormRefIdeal.τ).loc Cert.DownNormRefIdeal.main_arg2) = m ((c.tc : Thread Cert.DownNormRefIdeal.nD Cert.DownNormRefIdeal.τ).loc Cert.DownNormRefIdeal.main_arg2)
      ∧ r.2.mem ((c.tc : Thread Cert.DownNormRefIdeal.nD Cert.DownNormRefIdeal.τ).loc Cert.DownNormRefIdeal.main_arg3) = m ((c.tc : Thread Cert.DownNormRefIdeal.nD Cert.DownNormRefIdeal.τ).loc Cert.DownNormRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DwInA [hDwInA : Cert.DwInA.Facts] : Prop :=
  ∀ (m : (ℓ : Loc Cert.DwInA.nD Cert.DwInA.τ Cert.DwInA.sig) → Buf (Elt Bits) ℓ) (g : Dev Cert.DwInA.nD → PrngReg), Pre_DwInA m →
    θ_run (Cert.DwInA.defs (F := Bits)) (onTc (τ := Cert.DwInA.τ) (Cert.DwInA.main (F := Bits))) ⟨m, fun _ => 0, g⟩ (fun r => (∀ c : Dev Cert.DwInA.nD,
      r.2.mem ((c.tc : Thread Cert.DwInA.nD Cert.DwInA.τ).loc Cert.DwInA.main_arg0) = m ((c.tc : Thread Cert.DwInA.nD Cert.DwInA.τ).loc Cert.DwInA.main_arg0)
      ∧ r.2.mem ((c.tc : Thread Cert.DwInA.nD Cert.DwInA.τ).loc Cert.DwInA.main_arg1) = m ((c.tc : Thread Cert.DwInA.nD Cert.DwInA.τ).loc Cert.DwInA.main_arg1)
      ∧ r.2.mem ((c.tc : Thread Cert.DwInA.nD Cert.DwInA.τ).loc Cert.DwInA.main_arg2) = m ((c.tc : Thread Cert.DwInA.nD Cert.DwInA.τ).loc Cert.DwInA.main_arg2))
      ∧ r.2.sem = fun _ => 0)

def quiescent_DwInAIdeal [hDwInAIdeal : Cert.DwInAIdeal.Facts] : Prop :=
  ∀ (m : (ℓ : Loc Cert.DwInAIdeal.nD Cert.DwInAIdeal.τ Cert.DwInAIdeal.sig) → Buf (Elt Ideal) ℓ) (g : Dev Cert.DwInAIdeal.nD → PrngReg), Pre_DwInAIdeal m →
    θ_run (Cert.DwInAIdeal.defs (F := Ideal)) (onTc (τ := Cert.DwInAIdeal.τ) (Cert.DwInAIdeal.main (F := Ideal))) ⟨m, fun _ => 0, g⟩ (fun r => (∀ c : Dev Cert.DwInAIdeal.nD,
      r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
      ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
      ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2))
      ∧ r.2.sem = fun _ => 0)

def quiescent_DwInARefIdeal [hDwInARefIdeal : Cert.DwInARefIdeal.Facts] : Prop :=
  ∀ (m : (ℓ : Loc Cert.DwInARefIdeal.nD Cert.DwInARefIdeal.τ Cert.DwInARefIdeal.sig) → Buf (Elt Ideal) ℓ) (g : Dev Cert.DwInARefIdeal.nD → PrngReg), Pre_DwInARefIdeal m →
    θ_run (Cert.DwInARefIdeal.defs (F := Ideal)) (onTc (τ := Cert.DwInARefIdeal.τ) (Cert.DwInARefIdeal.main (F := Ideal))) ⟨m, fun _ => 0, g⟩ (fun r => (∀ c : Dev Cert.DwInARefIdeal.nD,
      r.2.mem ((c.tc : Thread Cert.DwInARefIdeal.nD Cert.DwInARefIdeal.τ).loc Cert.DwInARefIdeal.main_arg0) = m ((c.tc : Thread Cert.DwInARefIdeal.nD Cert.DwInARefIdeal.τ).loc Cert.DwInARefIdeal.main_arg0)
      ∧ r.2.mem ((c.tc : Thread Cert.DwInARefIdeal.nD Cert.DwInARefIdeal.τ).loc Cert.DwInARefIdeal.main_arg1) = m ((c.tc : Thread Cert.DwInARefIdeal.nD Cert.DwInARefIdeal.τ).loc Cert.DwInARefIdeal.main_arg1)
      ∧ r.2.mem ((c.tc : Thread Cert.DwInARefIdeal.nD Cert.DwInARefIdeal.τ).loc Cert.DwInARefIdeal.main_arg2) = m ((c.tc : Thread Cert.DwInARefIdeal.nD Cert.DwInARefIdeal.τ).loc Cert.DwInARefIdeal.main_arg2))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1)
      ∧ r.2.mem ((c.tc : Thread Cert.DwInB.nD Cert.DwInB.τ).loc Cert.DwInB.main_arg2) = m ((c.tc : Thread Cert.DwInB.nD Cert.DwInB.τ).loc Cert.DwInB.main_arg2)
      ∧ r.2.mem ((c.tc : Thread Cert.DwInB.nD Cert.DwInB.τ).loc Cert.DwInB.main_arg3) = m ((c.tc : Thread Cert.DwInB.nD Cert.DwInB.τ).loc Cert.DwInB.main_arg3)
      ∧ r.2.mem ((c.tc : Thread Cert.DwInB.nD Cert.DwInB.τ).loc Cert.DwInB.main_arg4) = m ((c.tc : Thread Cert.DwInB.nD Cert.DwInB.τ).loc Cert.DwInB.main_arg4))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
      ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2)
      ∧ r.2.mem ((c.tc : Thread Cert.DwInBIdeal.nD Cert.DwInBIdeal.τ).loc Cert.DwInBIdeal.main_arg3) = m ((c.tc : Thread Cert.DwInBIdeal.nD Cert.DwInBIdeal.τ).loc Cert.DwInBIdeal.main_arg3)
      ∧ r.2.mem ((c.tc : Thread Cert.DwInBIdeal.nD Cert.DwInBIdeal.τ).loc Cert.DwInBIdeal.main_arg4) = m ((c.tc : Thread Cert.DwInBIdeal.nD Cert.DwInBIdeal.τ).loc Cert.DwInBIdeal.main_arg4))
      ∧ r.2.sem = fun _ => 0)

def quiescent_DwInBRefIdeal [hDwInBRefIdeal : Cert.DwInBRefIdeal.Facts] : Prop :=
  ∀ (m : (ℓ : Loc Cert.DwInBRefIdeal.nD Cert.DwInBRefIdeal.τ Cert.DwInBRefIdeal.sig) → Buf (Elt Ideal) ℓ) (g : Dev Cert.DwInBRefIdeal.nD → PrngReg), Pre_DwInBRefIdeal m →
    θ_run (Cert.DwInBRefIdeal.defs (F := Ideal)) (onTc (τ := Cert.DwInBRefIdeal.τ) (Cert.DwInBRefIdeal.main (F := Ideal))) ⟨m, fun _ => 0, g⟩ (fun r => (∀ c : Dev Cert.DwInBRefIdeal.nD,
      r.2.mem ((c.tc : Thread Cert.DwInBRefIdeal.nD Cert.DwInBRefIdeal.τ).loc Cert.DwInBRefIdeal.main_arg0) = m ((c.tc : Thread Cert.DwInBRefIdeal.nD Cert.DwInBRefIdeal.τ).loc Cert.DwInBRefIdeal.main_arg0)
      ∧ r.2.mem ((c.tc : Thread Cert.DwInBRefIdeal.nD Cert.DwInBRefIdeal.τ).loc Cert.DwInBRefIdeal.main_arg1) = m ((c.tc : Thread Cert.DwInBRefIdeal.nD Cert.DwInBRefIdeal.τ).loc Cert.DwInBRefIdeal.main_arg1)
      ∧ r.2.mem ((c.tc : Thread Cert.DwInBRefIdeal.nD Cert.DwInBRefIdeal.τ).loc Cert.DwInBRefIdeal.main_arg2) = m ((c.tc : Thread Cert.DwInBRefIdeal.nD Cert.DwInBRefIdeal.τ).loc Cert.DwInBRefIdeal.main_arg2)
      ∧ r.2.mem ((c.tc : Thread Cert.DwInBRefIdeal.nD Cert.DwInBRefIdeal.τ).loc Cert.DwInBRefIdeal.main_arg3) = m ((c.tc : Thread Cert.DwInBRefIdeal.nD Cert.DwInBRefIdeal.τ).loc Cert.DwInBRefIdeal.main_arg3)
      ∧ r.2.mem ((c.tc : Thread Cert.DwInBRefIdeal.nD Cert.DwInBRefIdeal.τ).loc Cert.DwInBRefIdeal.main_arg4) = m ((c.tc : Thread Cert.DwInBRefIdeal.nD Cert.DwInBRefIdeal.τ).loc Cert.DwInBRefIdeal.main_arg4))
      ∧ r.2.sem = fun _ => 0)

def quiescent_DInA [hDInA : Cert.DInA.Facts] : Prop :=
  ∀ (m : (ℓ : Loc Cert.DInA.nD Cert.DInA.τ Cert.DInA.sig) → Buf (Elt Bits) ℓ) (g : Dev Cert.DInA.nD → PrngReg), Pre_DInA m →
    θ_run (Cert.DInA.defs (F := Bits)) (onTc (τ := Cert.DInA.τ) (Cert.DInA.main (F := Bits))) ⟨m, fun _ => 0, g⟩ (fun r => (∀ c : Dev Cert.DInA.nD,
      r.2.mem ((c.tc : Thread Cert.DInA.nD Cert.DInA.τ).loc Cert.DInA.main_arg0) = m ((c.tc : Thread Cert.DInA.nD Cert.DInA.τ).loc Cert.DInA.main_arg0)
      ∧ r.2.mem ((c.tc : Thread Cert.DInA.nD Cert.DInA.τ).loc Cert.DInA.main_arg1) = m ((c.tc : Thread Cert.DInA.nD Cert.DInA.τ).loc Cert.DInA.main_arg1)
      ∧ r.2.mem ((c.tc : Thread Cert.DInA.nD Cert.DInA.τ).loc Cert.DInA.main_arg2) = m ((c.tc : Thread Cert.DInA.nD Cert.DInA.τ).loc Cert.DInA.main_arg2)
      ∧ r.2.mem ((c.tc : Thread Cert.DInA.nD Cert.DInA.τ).loc Cert.DInA.main_arg3) = m ((c.tc : Thread Cert.DInA.nD Cert.DInA.τ).loc Cert.DInA.main_arg3)
      ∧ r.2.mem ((c.tc : Thread Cert.DInA.nD Cert.DInA.τ).loc Cert.DInA.main_arg4) = m ((c.tc : Thread Cert.DInA.nD Cert.DInA.τ).loc Cert.DInA.main_arg4)
      ∧ r.2.mem ((c.tc : Thread Cert.DInA.nD Cert.DInA.τ).loc Cert.DInA.main_arg5) = m ((c.tc : Thread Cert.DInA.nD Cert.DInA.τ).loc Cert.DInA.main_arg5))
      ∧ r.2.sem = fun _ => 0)

def quiescent_DInAIdeal [hDInAIdeal : Cert.DInAIdeal.Facts] : Prop :=
  ∀ (m : (ℓ : Loc Cert.DInAIdeal.nD Cert.DInAIdeal.τ Cert.DInAIdeal.sig) → Buf (Elt Ideal) ℓ) (g : Dev Cert.DInAIdeal.nD → PrngReg), Pre_DInAIdeal m →
    θ_run (Cert.DInAIdeal.defs (F := Ideal)) (onTc (τ := Cert.DInAIdeal.τ) (Cert.DInAIdeal.main (F := Ideal))) ⟨m, fun _ => 0, g⟩ (fun r => (∀ c : Dev Cert.DInAIdeal.nD,
      r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
      ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1)
      ∧ r.2.mem ((c.tc : Thread Cert.DInAIdeal.nD Cert.DInAIdeal.τ).loc Cert.DInAIdeal.main_arg2) = m ((c.tc : Thread Cert.DInAIdeal.nD Cert.DInAIdeal.τ).loc Cert.DInAIdeal.main_arg2)
      ∧ r.2.mem ((c.tc : Thread Cert.DInAIdeal.nD Cert.DInAIdeal.τ).loc Cert.DInAIdeal.main_arg3) = m ((c.tc : Thread Cert.DInAIdeal.nD Cert.DInAIdeal.τ).loc Cert.DInAIdeal.main_arg3)
      ∧ r.2.mem ((c.tc : Thread Cert.DInAIdeal.nD Cert.DInAIdeal.τ).loc Cert.DInAIdeal.main_arg4) = m ((c.tc : Thread Cert.DInAIdeal.nD Cert.DInAIdeal.τ).loc Cert.DInAIdeal.main_arg4)
      ∧ r.2.mem ((c.tc : Thread Cert.DInAIdeal.nD Cert.DInAIdeal.τ).loc Cert.DInAIdeal.main_arg5) = m ((c.tc : Thread Cert.DInAIdeal.nD Cert.DInAIdeal.τ).loc Cert.DInAIdeal.main_arg5))
      ∧ r.2.sem = fun _ => 0)

def quiescent_DInARefIdeal [hDInARefIdeal : Cert.DInARefIdeal.Facts] : Prop :=
  ∀ (m : (ℓ : Loc Cert.DInARefIdeal.nD Cert.DInARefIdeal.τ Cert.DInARefIdeal.sig) → Buf (Elt Ideal) ℓ) (g : Dev Cert.DInARefIdeal.nD → PrngReg), Pre_DInARefIdeal m →
    θ_run (Cert.DInARefIdeal.defs (F := Ideal)) (onTc (τ := Cert.DInARefIdeal.τ) (Cert.DInARefIdeal.main (F := Ideal))) ⟨m, fun _ => 0, g⟩ (fun r => (∀ c : Dev Cert.DInARefIdeal.nD,
      r.2.mem ((c.tc : Thread Cert.DInARefIdeal.nD Cert.DInARefIdeal.τ).loc Cert.DInARefIdeal.main_arg0) = m ((c.tc : Thread Cert.DInARefIdeal.nD Cert.DInARefIdeal.τ).loc Cert.DInARefIdeal.main_arg0)
      ∧ r.2.mem ((c.tc : Thread Cert.DInARefIdeal.nD Cert.DInARefIdeal.τ).loc Cert.DInARefIdeal.main_arg1) = m ((c.tc : Thread Cert.DInARefIdeal.nD Cert.DInARefIdeal.τ).loc Cert.DInARefIdeal.main_arg1)
      ∧ r.2.mem ((c.tc : Thread Cert.DInARefIdeal.nD Cert.DInARefIdeal.τ).loc Cert.DInARefIdeal.main_arg2) = m ((c.tc : Thread Cert.DInARefIdeal.nD Cert.DInARefIdeal.τ).loc Cert.DInARefIdeal.main_arg2)
      ∧ r.2.mem ((c.tc : Thread Cert.DInARefIdeal.nD Cert.DInARefIdeal.τ).loc Cert.DInARefIdeal.main_arg3) = m ((c.tc : Thread Cert.DInARefIdeal.nD Cert.DInARefIdeal.τ).loc Cert.DInARefIdeal.main_arg3)
      ∧ r.2.mem ((c.tc : Thread Cert.DInARefIdeal.nD Cert.DInARefIdeal.τ).loc Cert.DInARefIdeal.main_arg4) = m ((c.tc : Thread Cert.DInARefIdeal.nD Cert.DInARefIdeal.τ).loc Cert.DInARefIdeal.main_arg4)
      ∧ r.2.mem ((c.tc : Thread Cert.DInARefIdeal.nD Cert.DInARefIdeal.τ).loc Cert.DInARefIdeal.main_arg5) = m ((c.tc : Thread Cert.DInARefIdeal.nD Cert.DInARefIdeal.τ).loc Cert.DInARefIdeal.main_arg5))
      ∧ r.2.sem = fun _ => 0)

def quiescent_DInB [hDInB : Cert.DInB.Facts] : Prop :=
  ∀ (m : (ℓ : Loc Cert.DInB.nD Cert.DInB.τ Cert.DInB.sig) → Buf (Elt Bits) ℓ) (g : Dev Cert.DInB.nD → PrngReg), Pre_DInB m →
    θ_run (Cert.DInB.defs (F := Bits)) (onTc (τ := Cert.DInB.τ) (Cert.DInB.main (F := Bits))) ⟨m, fun _ => 0, g⟩ (fun r => (∀ c : Dev Cert.DInB.nD,
      r.2.mem ((c.tc : Thread Cert.DInB.nD Cert.DInB.τ).loc Cert.DInB.main_arg0) = m ((c.tc : Thread Cert.DInB.nD Cert.DInB.τ).loc Cert.DInB.main_arg0)
      ∧ r.2.mem ((c.tc : Thread Cert.DInB.nD Cert.DInB.τ).loc Cert.DInB.main_arg1) = m ((c.tc : Thread Cert.DInB.nD Cert.DInB.τ).loc Cert.DInB.main_arg1)
      ∧ r.2.mem ((c.tc : Thread Cert.DInB.nD Cert.DInB.τ).loc Cert.DInB.main_arg2) = m ((c.tc : Thread Cert.DInB.nD Cert.DInB.τ).loc Cert.DInB.main_arg2)
      ∧ r.2.mem ((c.tc : Thread Cert.DInB.nD Cert.DInB.τ).loc Cert.DInB.main_arg3) = m ((c.tc : Thread Cert.DInB.nD Cert.DInB.τ).loc Cert.DInB.main_arg3)
      ∧ r.2.mem ((c.tc : Thread Cert.DInB.nD Cert.DInB.τ).loc Cert.DInB.main_arg4) = m ((c.tc : Thread Cert.DInB.nD Cert.DInB.τ).loc Cert.DInB.main_arg4)
      ∧ r.2.mem ((c.tc : Thread Cert.DInB.nD Cert.DInB.τ).loc Cert.DInB.main_arg5) = m ((c.tc : Thread Cert.DInB.nD Cert.DInB.τ).loc Cert.DInB.main_arg5)
      ∧ r.2.mem ((c.tc : Thread Cert.DInB.nD Cert.DInB.τ).loc Cert.DInB.main_arg6) = m ((c.tc : Thread Cert.DInB.nD Cert.DInB.τ).loc Cert.DInB.main_arg6)
      ∧ r.2.mem ((c.tc : Thread Cert.DInB.nD Cert.DInB.τ).loc Cert.DInB.main_arg7) = m ((c.tc : Thread Cert.DInB.nD Cert.DInB.τ).loc Cert.DInB.main_arg7))
      ∧ r.2.sem = fun _ => 0)

def quiescent_DInBIdeal [hDInBIdeal : Cert.DInBIdeal.Facts] : Prop :=
  ∀ (m : (ℓ : Loc Cert.DInBIdeal.nD Cert.DInBIdeal.τ Cert.DInBIdeal.sig) → Buf (Elt Ideal) ℓ) (g : Dev Cert.DInBIdeal.nD → PrngReg), Pre_DInBIdeal m →
    θ_run (Cert.DInBIdeal.defs (F := Ideal)) (onTc (τ := Cert.DInBIdeal.τ) (Cert.DInBIdeal.main (F := Ideal))) ⟨m, fun _ => 0, g⟩ (fun r => (∀ c : Dev Cert.DInBIdeal.nD,
      r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
      ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1)
      ∧ r.2.mem ((c.tc : Thread Cert.DInBIdeal.nD Cert.DInBIdeal.τ).loc Cert.DInBIdeal.main_arg2) = m ((c.tc : Thread Cert.DInBIdeal.nD Cert.DInBIdeal.τ).loc Cert.DInBIdeal.main_arg2)
      ∧ r.2.mem ((c.tc : Thread Cert.DInBIdeal.nD Cert.DInBIdeal.τ).loc Cert.DInBIdeal.main_arg3) = m ((c.tc : Thread Cert.DInBIdeal.nD Cert.DInBIdeal.τ).loc Cert.DInBIdeal.main_arg3)
      ∧ r.2.mem ((c.tc : Thread Cert.DInBIdeal.nD Cert.DInBIdeal.τ).loc Cert.DInBIdeal.main_arg4) = m ((c.tc : Thread Cert.DInBIdeal.nD Cert.DInBIdeal.τ).loc Cert.DInBIdeal.main_arg4)
      ∧ r.2.mem ((c.tc : Thread Cert.DInBIdeal.nD Cert.DInBIdeal.τ).loc Cert.DInBIdeal.main_arg5) = m ((c.tc : Thread Cert.DInBIdeal.nD Cert.DInBIdeal.τ).loc Cert.DInBIdeal.main_arg5)
      ∧ r.2.mem ((c.tc : Thread Cert.DInBIdeal.nD Cert.DInBIdeal.τ).loc Cert.DInBIdeal.main_arg6) = m ((c.tc : Thread Cert.DInBIdeal.nD Cert.DInBIdeal.τ).loc Cert.DInBIdeal.main_arg6)
      ∧ r.2.mem ((c.tc : Thread Cert.DInBIdeal.nD Cert.DInBIdeal.τ).loc Cert.DInBIdeal.main_arg7) = m ((c.tc : Thread Cert.DInBIdeal.nD Cert.DInBIdeal.τ).loc Cert.DInBIdeal.main_arg7))
      ∧ r.2.sem = fun _ => 0)

def quiescent_DInBRefIdeal [hDInBRefIdeal : Cert.DInBRefIdeal.Facts] : Prop :=
  ∀ (m : (ℓ : Loc Cert.DInBRefIdeal.nD Cert.DInBRefIdeal.τ Cert.DInBRefIdeal.sig) → Buf (Elt Ideal) ℓ) (g : Dev Cert.DInBRefIdeal.nD → PrngReg), Pre_DInBRefIdeal m →
    θ_run (Cert.DInBRefIdeal.defs (F := Ideal)) (onTc (τ := Cert.DInBRefIdeal.τ) (Cert.DInBRefIdeal.main (F := Ideal))) ⟨m, fun _ => 0, g⟩ (fun r => (∀ c : Dev Cert.DInBRefIdeal.nD,
      r.2.mem ((c.tc : Thread Cert.DInBRefIdeal.nD Cert.DInBRefIdeal.τ).loc Cert.DInBRefIdeal.main_arg0) = m ((c.tc : Thread Cert.DInBRefIdeal.nD Cert.DInBRefIdeal.τ).loc Cert.DInBRefIdeal.main_arg0)
      ∧ r.2.mem ((c.tc : Thread Cert.DInBRefIdeal.nD Cert.DInBRefIdeal.τ).loc Cert.DInBRefIdeal.main_arg1) = m ((c.tc : Thread Cert.DInBRefIdeal.nD Cert.DInBRefIdeal.τ).loc Cert.DInBRefIdeal.main_arg1)
      ∧ r.2.mem ((c.tc : Thread Cert.DInBRefIdeal.nD Cert.DInBRefIdeal.τ).loc Cert.DInBRefIdeal.main_arg2) = m ((c.tc : Thread Cert.DInBRefIdeal.nD Cert.DInBRefIdeal.τ).loc Cert.DInBRefIdeal.main_arg2)
      ∧ r.2.mem ((c.tc : Thread Cert.DInBRefIdeal.nD Cert.DInBRefIdeal.τ).loc Cert.DInBRefIdeal.main_arg3) = m ((c.tc : Thread Cert.DInBRefIdeal.nD Cert.DInBRefIdeal.τ).loc Cert.DInBRefIdeal.main_arg3)
      ∧ r.2.mem ((c.tc : Thread Cert.DInBRefIdeal.nD Cert.DInBRefIdeal.τ).loc Cert.DInBRefIdeal.main_arg4) = m ((c.tc : Thread Cert.DInBRefIdeal.nD Cert.DInBRefIdeal.τ).loc Cert.DInBRefIdeal.main_arg4)
      ∧ r.2.mem ((c.tc : Thread Cert.DInBRefIdeal.nD Cert.DInBRefIdeal.τ).loc Cert.DInBRefIdeal.main_arg5) = m ((c.tc : Thread Cert.DInBRefIdeal.nD Cert.DInBRefIdeal.τ).loc Cert.DInBRefIdeal.main_arg5)
      ∧ r.2.mem ((c.tc : Thread Cert.DInBRefIdeal.nD Cert.DInBRefIdeal.τ).loc Cert.DInBRefIdeal.main_arg6) = m ((c.tc : Thread Cert.DInBRefIdeal.nD Cert.DInBRefIdeal.τ).loc Cert.DInBRefIdeal.main_arg6)
      ∧ r.2.mem ((c.tc : Thread Cert.DInBRefIdeal.nD Cert.DInBRefIdeal.τ).loc Cert.DInBRefIdeal.main_arg7) = m ((c.tc : Thread Cert.DInBRefIdeal.nD Cert.DInBRefIdeal.τ).loc Cert.DInBRefIdeal.main_arg7))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_MemKvGrad [hMemKvGrad : Cert.MemKvGrad.Facts] : Prop :=
  ∀ (m : (ℓ : Loc Cert.MemKvGrad.nD Cert.MemKvGrad.τ Cert.MemKvGrad.sig) → Buf (Elt Bits) ℓ) (g : Dev Cert.MemKvGrad.nD → PrngReg), Pre_MemKvGrad m →
    θ_run (Cert.MemKvGrad.defs (F := Bits)) (onTc (τ := Cert.MemKvGrad.τ) (Cert.MemKvGrad.main (F := Bits))) ⟨m, fun _ => 0, g⟩ (fun r => (∀ c : Dev Cert.MemKvGrad.nD,
      r.2.mem ((c.tc : Thread Cert.MemKvGrad.nD Cert.MemKvGrad.τ).loc Cert.MemKvGrad.main_arg0) = m ((c.tc : Thread Cert.MemKvGrad.nD Cert.MemKvGrad.τ).loc Cert.MemKvGrad.main_arg0)
      ∧ r.2.mem ((c.tc : Thread Cert.MemKvGrad.nD Cert.MemKvGrad.τ).loc Cert.MemKvGrad.main_arg1) = m ((c.tc : Thread Cert.MemKvGrad.nD Cert.MemKvGrad.τ).loc Cert.MemKvGrad.main_arg1)
      ∧ r.2.mem ((c.tc : Thread Cert.MemKvGrad.nD Cert.MemKvGrad.τ).loc Cert.MemKvGrad.main_arg2) = m ((c.tc : Thread Cert.MemKvGrad.nD Cert.MemKvGrad.τ).loc Cert.MemKvGrad.main_arg2)
      ∧ r.2.mem ((c.tc : Thread Cert.MemKvGrad.nD Cert.MemKvGrad.τ).loc Cert.MemKvGrad.main_arg3) = m ((c.tc : Thread Cert.MemKvGrad.nD Cert.MemKvGrad.τ).loc Cert.MemKvGrad.main_arg3))
      ∧ r.2.sem = fun _ => 0)

def quiescent_MemKvGradIdeal [hMemKvGradIdeal : Cert.MemKvGradIdeal.Facts] : Prop :=
  ∀ (m : (ℓ : Loc Cert.MemKvGradIdeal.nD Cert.MemKvGradIdeal.τ Cert.MemKvGradIdeal.sig) → Buf (Elt Ideal) ℓ) (g : Dev Cert.MemKvGradIdeal.nD → PrngReg), Pre_MemKvGradIdeal m →
    θ_run (Cert.MemKvGradIdeal.defs (F := Ideal)) (onTc (τ := Cert.MemKvGradIdeal.τ) (Cert.MemKvGradIdeal.main (F := Ideal))) ⟨m, fun _ => 0, g⟩ (fun r => (∀ c : Dev Cert.MemKvGradIdeal.nD,
      r.2.mem ((c.tc : Thread Cert.MemKvGradIdeal.nD Cert.MemKvGradIdeal.τ).loc Cert.MemKvGradIdeal.main_arg0) = m ((c.tc : Thread Cert.MemKvGradIdeal.nD Cert.MemKvGradIdeal.τ).loc Cert.MemKvGradIdeal.main_arg0)
      ∧ r.2.mem ((c.tc : Thread Cert.MemKvGradIdeal.nD Cert.MemKvGradIdeal.τ).loc Cert.MemKvGradIdeal.main_arg1) = m ((c.tc : Thread Cert.MemKvGradIdeal.nD Cert.MemKvGradIdeal.τ).loc Cert.MemKvGradIdeal.main_arg1)
      ∧ r.2.mem ((c.tc : Thread Cert.MemKvGradIdeal.nD Cert.MemKvGradIdeal.τ).loc Cert.MemKvGradIdeal.main_arg2) = m ((c.tc : Thread Cert.MemKvGradIdeal.nD Cert.MemKvGradIdeal.τ).loc Cert.MemKvGradIdeal.main_arg2)
      ∧ r.2.mem ((c.tc : Thread Cert.MemKvGradIdeal.nD Cert.MemKvGradIdeal.τ).loc Cert.MemKvGradIdeal.main_arg3) = m ((c.tc : Thread Cert.MemKvGradIdeal.nD Cert.MemKvGradIdeal.τ).loc Cert.MemKvGradIdeal.main_arg3))
      ∧ r.2.sem = fun _ => 0)

def quiescent_MemKvGradRefIdeal [hMemKvGradRefIdeal : Cert.MemKvGradRefIdeal.Facts] : Prop :=
  ∀ (m : (ℓ : Loc Cert.MemKvGradRefIdeal.nD Cert.MemKvGradRefIdeal.τ Cert.MemKvGradRefIdeal.sig) → Buf (Elt Ideal) ℓ) (g : Dev Cert.MemKvGradRefIdeal.nD → PrngReg), Pre_MemKvGradRefIdeal m →
    θ_run (Cert.MemKvGradRefIdeal.defs (F := Ideal)) (onTc (τ := Cert.MemKvGradRefIdeal.τ) (Cert.MemKvGradRefIdeal.main (F := Ideal))) ⟨m, fun _ => 0, g⟩ (fun r => (∀ c : Dev Cert.MemKvGradRefIdeal.nD,
      r.2.mem ((c.tc : Thread Cert.MemKvGradRefIdeal.nD Cert.MemKvGradRefIdeal.τ).loc Cert.MemKvGradRefIdeal.main_arg0) = m ((c.tc : Thread Cert.MemKvGradRefIdeal.nD Cert.MemKvGradRefIdeal.τ).loc Cert.MemKvGradRefIdeal.main_arg0)
      ∧ r.2.mem ((c.tc : Thread Cert.MemKvGradRefIdeal.nD Cert.MemKvGradRefIdeal.τ).loc Cert.MemKvGradRefIdeal.main_arg1) = m ((c.tc : Thread Cert.MemKvGradRefIdeal.nD Cert.MemKvGradRefIdeal.τ).loc Cert.MemKvGradRefIdeal.main_arg1)
      ∧ r.2.mem ((c.tc : Thread Cert.MemKvGradRefIdeal.nD Cert.MemKvGradRefIdeal.τ).loc Cert.MemKvGradRefIdeal.main_arg2) = m ((c.tc : Thread Cert.MemKvGradRefIdeal.nD Cert.MemKvGradRefIdeal.τ).loc Cert.MemKvGradRefIdeal.main_arg2)
      ∧ r.2.mem ((c.tc : Thread Cert.MemKvGradRefIdeal.nD Cert.MemKvGradRefIdeal.τ).loc Cert.MemKvGradRefIdeal.main_arg3) = m ((c.tc : Thread Cert.MemKvGradRefIdeal.nD Cert.MemKvGradRefIdeal.τ).loc Cert.MemKvGradRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3)
      ∧ r.2.mem ((c.tc : Thread Cert.AdamGu.nD Cert.AdamGu.τ).loc Cert.AdamGu.main_arg4) = m ((c.tc : Thread Cert.AdamGu.nD Cert.AdamGu.τ).loc Cert.AdamGu.main_arg4))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3)
      ∧ r.2.mem ((c.tc : Thread Cert.AdamGuIdeal.nD Cert.AdamGuIdeal.τ).loc Cert.AdamGuIdeal.main_arg4) = m ((c.tc : Thread Cert.AdamGuIdeal.nD Cert.AdamGuIdeal.τ).loc Cert.AdamGuIdeal.main_arg4))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3)
      ∧ r.2.mem ((c.tc : Thread Cert.AdamGuRefIdeal.nD Cert.AdamGuRefIdeal.τ).loc Cert.AdamGuRefIdeal.main_arg4) = m ((c.tc : Thread Cert.AdamGuRefIdeal.nD Cert.AdamGuRefIdeal.τ).loc Cert.AdamGuRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamMem [hAdamMem : Cert.AdamMem.Facts] : Prop :=
  ∀ (m : (ℓ : Loc Cert.AdamMem.nD Cert.AdamMem.τ Cert.AdamMem.sig) → Buf (Elt Bits) ℓ) (g : Dev Cert.AdamMem.nD → PrngReg), Pre_AdamMem m →
    θ_run (Cert.AdamMem.defs (F := Bits)) (onTc (τ := Cert.AdamMem.τ) (Cert.AdamMem.main (F := Bits))) ⟨m, fun _ => 0, g⟩ (fun r => (∀ c : Dev Cert.AdamMem.nD,
      r.2.mem ((c.tc : Thread Cert.AdamMem.nD Cert.AdamMem.τ).loc Cert.AdamMem.main_arg0) = m ((c.tc : Thread Cert.AdamMem.nD Cert.AdamMem.τ).loc Cert.AdamMem.main_arg0)
      ∧ r.2.mem ((c.tc : Thread Cert.AdamMem.nD Cert.AdamMem.τ).loc Cert.AdamMem.main_arg1) = m ((c.tc : Thread Cert.AdamMem.nD Cert.AdamMem.τ).loc Cert.AdamMem.main_arg1)
      ∧ r.2.mem ((c.tc : Thread Cert.AdamMem.nD Cert.AdamMem.τ).loc Cert.AdamMem.main_arg2) = m ((c.tc : Thread Cert.AdamMem.nD Cert.AdamMem.τ).loc Cert.AdamMem.main_arg2)
      ∧ r.2.mem ((c.tc : Thread Cert.AdamMem.nD Cert.AdamMem.τ).loc Cert.AdamMem.main_arg3) = m ((c.tc : Thread Cert.AdamMem.nD Cert.AdamMem.τ).loc Cert.AdamMem.main_arg3)
      ∧ r.2.mem ((c.tc : Thread Cert.AdamMem.nD Cert.AdamMem.τ).loc Cert.AdamMem.main_arg4) = m ((c.tc : Thread Cert.AdamMem.nD Cert.AdamMem.τ).loc Cert.AdamMem.main_arg4))
      ∧ r.2.sem = fun _ => 0)

def quiescent_AdamMemIdeal [hAdamMemIdeal : Cert.AdamMemIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg), Pre_AdamMemIdeal m →
    θ_run (Cert.AdamMemIdeal.defs (F := Ideal)) (onTc (τ := Cert.AdamMemIdeal.τ) (Cert.AdamMemIdeal.main (F := Ideal))) ⟨m, fun _ => 0, g⟩ (fun r => (∀ c : Dev Cert.AdamMemIdeal.nD,
      r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
      ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
      ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
      ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3)
      ∧ r.2.mem ((c.tc : Thread Cert.AdamMemIdeal.nD Cert.AdamMemIdeal.τ).loc Cert.AdamMemIdeal.main_arg4) = m ((c.tc : Thread Cert.AdamMemIdeal.nD Cert.AdamMemIdeal.τ).loc Cert.AdamMemIdeal.main_arg4))
      ∧ r.2.sem = fun _ => 0)

def quiescent_AdamMemRefIdeal [hAdamMemRefIdeal : Cert.AdamMemRefIdeal.Facts] : Prop :=
  ∀ (m : (ℓ : Loc Cert.AdamMemRefIdeal.nD Cert.AdamMemRefIdeal.τ Cert.AdamMemRefIdeal.sig) → Buf (Elt Ideal) ℓ) (g : Dev Cert.AdamMemRefIdeal.nD → PrngReg), Pre_AdamMemRefIdeal m →
    θ_run (Cert.AdamMemRefIdeal.defs (F := Ideal)) (onTc (τ := Cert.AdamMemRefIdeal.τ) (Cert.AdamMemRefIdeal.main (F := Ideal))) ⟨m, fun _ => 0, g⟩ (fun r => (∀ c : Dev Cert.AdamMemRefIdeal.nD,
      r.2.mem ((c.tc : Thread Cert.AdamMemRefIdeal.nD Cert.AdamMemRefIdeal.τ).loc Cert.AdamMemRefIdeal.main_arg0) = m ((c.tc : Thread Cert.AdamMemRefIdeal.nD Cert.AdamMemRefIdeal.τ).loc Cert.AdamMemRefIdeal.main_arg0)
      ∧ r.2.mem ((c.tc : Thread Cert.AdamMemRefIdeal.nD Cert.AdamMemRefIdeal.τ).loc Cert.AdamMemRefIdeal.main_arg1) = m ((c.tc : Thread Cert.AdamMemRefIdeal.nD Cert.AdamMemRefIdeal.τ).loc Cert.AdamMemRefIdeal.main_arg1)
      ∧ r.2.mem ((c.tc : Thread Cert.AdamMemRefIdeal.nD Cert.AdamMemRefIdeal.τ).loc Cert.AdamMemRefIdeal.main_arg2) = m ((c.tc : Thread Cert.AdamMemRefIdeal.nD Cert.AdamMemRefIdeal.τ).loc Cert.AdamMemRefIdeal.main_arg2)
      ∧ r.2.mem ((c.tc : Thread Cert.AdamMemRefIdeal.nD Cert.AdamMemRefIdeal.τ).loc Cert.AdamMemRefIdeal.main_arg3) = m ((c.tc : Thread Cert.AdamMemRefIdeal.nD Cert.AdamMemRefIdeal.τ).loc Cert.AdamMemRefIdeal.main_arg3)
      ∧ r.2.mem ((c.tc : Thread Cert.AdamMemRefIdeal.nD Cert.AdamMemRefIdeal.τ).loc Cert.AdamMemRefIdeal.main_arg4) = m ((c.tc : Thread Cert.AdamMemRefIdeal.nD Cert.AdamMemRefIdeal.τ).loc Cert.AdamMemRefIdeal.main_arg4))
      ∧ r.2.sem = fun _ => 0)

def quiescent_AdamInA [hAdamInA : Cert.AdamInA.Facts] : Prop :=
  ∀ (m : (ℓ : Loc Cert.AdamInA.nD Cert.AdamInA.τ Cert.AdamInA.sig) → Buf (Elt Bits) ℓ) (g : Dev Cert.AdamInA.nD → PrngReg), Pre_AdamInA m →
    θ_run (Cert.AdamInA.defs (F := Bits)) (onTc (τ := Cert.AdamInA.τ) (Cert.AdamInA.main (F := Bits))) ⟨m, fun _ => 0, g⟩ (fun r => (∀ c : Dev Cert.AdamInA.nD,
      r.2.mem ((c.tc : Thread Cert.AdamInA.nD Cert.AdamInA.τ).loc Cert.AdamInA.main_arg0) = m ((c.tc : Thread Cert.AdamInA.nD Cert.AdamInA.τ).loc Cert.AdamInA.main_arg0)
      ∧ r.2.mem ((c.tc : Thread Cert.AdamInA.nD Cert.AdamInA.τ).loc Cert.AdamInA.main_arg1) = m ((c.tc : Thread Cert.AdamInA.nD Cert.AdamInA.τ).loc Cert.AdamInA.main_arg1)
      ∧ r.2.mem ((c.tc : Thread Cert.AdamInA.nD Cert.AdamInA.τ).loc Cert.AdamInA.main_arg2) = m ((c.tc : Thread Cert.AdamInA.nD Cert.AdamInA.τ).loc Cert.AdamInA.main_arg2)
      ∧ r.2.mem ((c.tc : Thread Cert.AdamInA.nD Cert.AdamInA.τ).loc Cert.AdamInA.main_arg3) = m ((c.tc : Thread Cert.AdamInA.nD Cert.AdamInA.τ).loc Cert.AdamInA.main_arg3))
      ∧ r.2.sem = fun _ => 0)

def quiescent_AdamInAIdeal [hAdamInAIdeal : Cert.AdamInAIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg), Pre_AdamInAIdeal m →
    θ_run (Cert.AdamInAIdeal.defs (F := Ideal)) (onTc (τ := Cert.AdamInAIdeal.τ) (Cert.AdamInAIdeal.main (F := Ideal))) ⟨m, fun _ => 0, g⟩ (fun r => (∀ c : Dev Cert.AdamInAIdeal.nD,
      r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
      ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
      ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
      ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ r.2.sem = fun _ => 0)

def quiescent_AdamInARefIdeal [hAdamInARefIdeal : Cert.AdamInARefIdeal.Facts] : Prop :=
  ∀ (m : (ℓ : Loc Cert.AdamInARefIdeal.nD Cert.AdamInARefIdeal.τ Cert.AdamInARefIdeal.sig) → Buf (Elt Ideal) ℓ) (g : Dev Cert.AdamInARefIdeal.nD → PrngReg), Pre_AdamInARefIdeal m →
    θ_run (Cert.AdamInARefIdeal.defs (F := Ideal)) (onTc (τ := Cert.AdamInARefIdeal.τ) (Cert.AdamInARefIdeal.main (F := Ideal))) ⟨m, fun _ => 0, g⟩ (fun r => (∀ c : Dev Cert.AdamInARefIdeal.nD,
      r.2.mem ((c.tc : Thread Cert.AdamInARefIdeal.nD Cert.AdamInARefIdeal.τ).loc Cert.AdamInARefIdeal.main_arg0) = m ((c.tc : Thread Cert.AdamInARefIdeal.nD Cert.AdamInARefIdeal.τ).loc Cert.AdamInARefIdeal.main_arg0)
      ∧ r.2.mem ((c.tc : Thread Cert.AdamInARefIdeal.nD Cert.AdamInARefIdeal.τ).loc Cert.AdamInARefIdeal.main_arg1) = m ((c.tc : Thread Cert.AdamInARefIdeal.nD Cert.AdamInARefIdeal.τ).loc Cert.AdamInARefIdeal.main_arg1)
      ∧ r.2.mem ((c.tc : Thread Cert.AdamInARefIdeal.nD Cert.AdamInARefIdeal.τ).loc Cert.AdamInARefIdeal.main_arg2) = m ((c.tc : Thread Cert.AdamInARefIdeal.nD Cert.AdamInARefIdeal.τ).loc Cert.AdamInARefIdeal.main_arg2)
      ∧ r.2.mem ((c.tc : Thread Cert.AdamInARefIdeal.nD Cert.AdamInARefIdeal.τ).loc Cert.AdamInARefIdeal.main_arg3) = m ((c.tc : Thread Cert.AdamInARefIdeal.nD Cert.AdamInARefIdeal.τ).loc Cert.AdamInARefIdeal.main_arg3))
      ∧ r.2.sem = fun _ => 0)

def quiescent_AdamInB [hAdamInB : Cert.AdamInB.Facts] : Prop :=
  ∀ (m : (ℓ : Loc Cert.AdamInB.nD Cert.AdamInB.τ Cert.AdamInB.sig) → Buf (Elt Bits) ℓ) (g : Dev Cert.AdamInB.nD → PrngReg), Pre_AdamInB m →
    θ_run (Cert.AdamInB.defs (F := Bits)) (onTc (τ := Cert.AdamInB.τ) (Cert.AdamInB.main (F := Bits))) ⟨m, fun _ => 0, g⟩ (fun r => (∀ c : Dev Cert.AdamInB.nD,
      r.2.mem ((c.tc : Thread Cert.AdamInB.nD Cert.AdamInB.τ).loc Cert.AdamInB.main_arg0) = m ((c.tc : Thread Cert.AdamInB.nD Cert.AdamInB.τ).loc Cert.AdamInB.main_arg0)
      ∧ r.2.mem ((c.tc : Thread Cert.AdamInB.nD Cert.AdamInB.τ).loc Cert.AdamInB.main_arg1) = m ((c.tc : Thread Cert.AdamInB.nD Cert.AdamInB.τ).loc Cert.AdamInB.main_arg1)
      ∧ r.2.mem ((c.tc : Thread Cert.AdamInB.nD Cert.AdamInB.τ).loc Cert.AdamInB.main_arg2) = m ((c.tc : Thread Cert.AdamInB.nD Cert.AdamInB.τ).loc Cert.AdamInB.main_arg2)
      ∧ r.2.mem ((c.tc : Thread Cert.AdamInB.nD Cert.AdamInB.τ).loc Cert.AdamInB.main_arg3) = m ((c.tc : Thread Cert.AdamInB.nD Cert.AdamInB.τ).loc Cert.AdamInB.main_arg3))
      ∧ r.2.sem = fun _ => 0)

def quiescent_AdamInBIdeal [hAdamInBIdeal : Cert.AdamInBIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg), Pre_AdamInBIdeal m →
    θ_run (Cert.AdamInBIdeal.defs (F := Ideal)) (onTc (τ := Cert.AdamInBIdeal.τ) (Cert.AdamInBIdeal.main (F := Ideal))) ⟨m, fun _ => 0, g⟩ (fun r => (∀ c : Dev Cert.AdamInBIdeal.nD,
      r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
      ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
      ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
      ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ r.2.sem = fun _ => 0)

def quiescent_AdamInBRefIdeal [hAdamInBRefIdeal : Cert.AdamInBRefIdeal.Facts] : Prop :=
  ∀ (m : (ℓ : Loc Cert.AdamInBRefIdeal.nD Cert.AdamInBRefIdeal.τ Cert.AdamInBRefIdeal.sig) → Buf (Elt Ideal) ℓ) (g : Dev Cert.AdamInBRefIdeal.nD → PrngReg), Pre_AdamInBRefIdeal m →
    θ_run (Cert.AdamInBRefIdeal.defs (F := Ideal)) (onTc (τ := Cert.AdamInBRefIdeal.τ) (Cert.AdamInBRefIdeal.main (F := Ideal))) ⟨m, fun _ => 0, g⟩ (fun r => (∀ c : Dev Cert.AdamInBRefIdeal.nD,
      r.2.mem ((c.tc : Thread Cert.AdamInBRefIdeal.nD Cert.AdamInBRefIdeal.τ).loc Cert.AdamInBRefIdeal.main_arg0) = m ((c.tc : Thread Cert.AdamInBRefIdeal.nD Cert.AdamInBRefIdeal.τ).loc Cert.AdamInBRefIdeal.main_arg0)
      ∧ r.2.mem ((c.tc : Thread Cert.AdamInBRefIdeal.nD Cert.AdamInBRefIdeal.τ).loc Cert.AdamInBRefIdeal.main_arg1) = m ((c.tc : Thread Cert.AdamInBRefIdeal.nD Cert.AdamInBRefIdeal.τ).loc Cert.AdamInBRefIdeal.main_arg1)
      ∧ r.2.mem ((c.tc : Thread Cert.AdamInBRefIdeal.nD Cert.AdamInBRefIdeal.τ).loc Cert.AdamInBRefIdeal.main_arg2) = m ((c.tc : Thread Cert.AdamInBRefIdeal.nD Cert.AdamInBRefIdeal.τ).loc Cert.AdamInBRefIdeal.main_arg2)
      ∧ r.2.mem ((c.tc : Thread Cert.AdamInBRefIdeal.nD Cert.AdamInBRefIdeal.τ).loc Cert.AdamInBRefIdeal.main_arg3) = m ((c.tc : Thread Cert.AdamInBRefIdeal.nD Cert.AdamInBRefIdeal.τ).loc Cert.AdamInBRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_CrossA [hCrossA : Cert.CrossA.Facts] : Prop :=
  ∀ (m : (ℓ : Loc Cert.CrossA.nD Cert.CrossA.τ Cert.CrossA.sig) → Buf (Elt Bits) ℓ) (g : Dev Cert.CrossA.nD → PrngReg), Pre_CrossA m →
    θ_run (Cert.CrossA.defs (F := Bits)) (onTc (τ := Cert.CrossA.τ) (Cert.CrossA.main (F := Bits))) ⟨m, fun _ => 0, g⟩ (fun r => (∀ c : Dev Cert.CrossA.nD,
      r.2.mem ((c.tc : Thread Cert.CrossA.nD Cert.CrossA.τ).loc Cert.CrossA.main_arg0) = m ((c.tc : Thread Cert.CrossA.nD Cert.CrossA.τ).loc Cert.CrossA.main_arg0)
      ∧ r.2.mem ((c.tc : Thread Cert.CrossA.nD Cert.CrossA.τ).loc Cert.CrossA.main_arg1) = m ((c.tc : Thread Cert.CrossA.nD Cert.CrossA.τ).loc Cert.CrossA.main_arg1))
      ∧ r.2.sem = fun _ => 0)

def quiescent_CrossAIdeal [hCrossAIdeal : Cert.CrossAIdeal.Facts] : Prop :=
  ∀ (m : (ℓ : Loc Cert.CrossAIdeal.nD Cert.CrossAIdeal.τ Cert.CrossAIdeal.sig) → Buf (Elt Ideal) ℓ) (g : Dev Cert.CrossAIdeal.nD → PrngReg), Pre_CrossAIdeal m →
    θ_run (Cert.CrossAIdeal.defs (F := Ideal)) (onTc (τ := Cert.CrossAIdeal.τ) (Cert.CrossAIdeal.main (F := Ideal))) ⟨m, fun _ => 0, g⟩ (fun r => (∀ c : Dev Cert.CrossAIdeal.nD,
      r.2.mem ((c.tc : Thread Cert.CrossAIdeal.nD Cert.CrossAIdeal.τ).loc Cert.CrossAIdeal.main_arg0) = m ((c.tc : Thread Cert.CrossAIdeal.nD Cert.CrossAIdeal.τ).loc Cert.CrossAIdeal.main_arg0)
      ∧ r.2.mem ((c.tc : Thread Cert.CrossAIdeal.nD Cert.CrossAIdeal.τ).loc Cert.CrossAIdeal.main_arg1) = m ((c.tc : Thread Cert.CrossAIdeal.nD Cert.CrossAIdeal.τ).loc Cert.CrossAIdeal.main_arg1))
      ∧ r.2.sem = fun _ => 0)

def quiescent_CrossARefIdeal [hCrossARefIdeal : Cert.CrossARefIdeal.Facts] : Prop :=
  ∀ (m : (ℓ : Loc Cert.CrossARefIdeal.nD Cert.CrossARefIdeal.τ Cert.CrossARefIdeal.sig) → Buf (Elt Ideal) ℓ) (g : Dev Cert.CrossARefIdeal.nD → PrngReg), Pre_CrossARefIdeal m →
    θ_run (Cert.CrossARefIdeal.defs (F := Ideal)) (onTc (τ := Cert.CrossARefIdeal.τ) (Cert.CrossARefIdeal.main (F := Ideal))) ⟨m, fun _ => 0, g⟩ (fun r => (∀ c : Dev Cert.CrossARefIdeal.nD,
      r.2.mem ((c.tc : Thread Cert.CrossARefIdeal.nD Cert.CrossARefIdeal.τ).loc Cert.CrossARefIdeal.main_arg0) = m ((c.tc : Thread Cert.CrossARefIdeal.nD Cert.CrossARefIdeal.τ).loc Cert.CrossARefIdeal.main_arg0)
      ∧ r.2.mem ((c.tc : Thread Cert.CrossARefIdeal.nD Cert.CrossARefIdeal.τ).loc Cert.CrossARefIdeal.main_arg1) = m ((c.tc : Thread Cert.CrossARefIdeal.nD Cert.CrossARefIdeal.τ).loc Cert.CrossARefIdeal.main_arg1))
      ∧ r.2.sem = fun _ => 0)

def quiescent_CrossB [hCrossB : Cert.CrossB.Facts] : Prop :=
  ∀ (m : (ℓ : Loc Cert.CrossB.nD Cert.CrossB.τ Cert.CrossB.sig) → Buf (Elt Bits) ℓ) (g : Dev Cert.CrossB.nD → PrngReg), Pre_CrossB m →
    θ_run (Cert.CrossB.defs (F := Bits)) (onTc (τ := Cert.CrossB.τ) (Cert.CrossB.main (F := Bits))) ⟨m, fun _ => 0, g⟩ (fun r => (∀ c : Dev Cert.CrossB.nD,
      r.2.mem ((c.tc : Thread Cert.CrossB.nD Cert.CrossB.τ).loc Cert.CrossB.main_arg0) = m ((c.tc : Thread Cert.CrossB.nD Cert.CrossB.τ).loc Cert.CrossB.main_arg0)
      ∧ r.2.mem ((c.tc : Thread Cert.CrossB.nD Cert.CrossB.τ).loc Cert.CrossB.main_arg1) = m ((c.tc : Thread Cert.CrossB.nD Cert.CrossB.τ).loc Cert.CrossB.main_arg1))
      ∧ r.2.sem = fun _ => 0)

def quiescent_CrossBIdeal [hCrossBIdeal : Cert.CrossBIdeal.Facts] : Prop :=
  ∀ (m : (ℓ : Loc Cert.CrossBIdeal.nD Cert.CrossBIdeal.τ Cert.CrossBIdeal.sig) → Buf (Elt Ideal) ℓ) (g : Dev Cert.CrossBIdeal.nD → PrngReg), Pre_CrossBIdeal m →
    θ_run (Cert.CrossBIdeal.defs (F := Ideal)) (onTc (τ := Cert.CrossBIdeal.τ) (Cert.CrossBIdeal.main (F := Ideal))) ⟨m, fun _ => 0, g⟩ (fun r => (∀ c : Dev Cert.CrossBIdeal.nD,
      r.2.mem ((c.tc : Thread Cert.CrossBIdeal.nD Cert.CrossBIdeal.τ).loc Cert.CrossBIdeal.main_arg0) = m ((c.tc : Thread Cert.CrossBIdeal.nD Cert.CrossBIdeal.τ).loc Cert.CrossBIdeal.main_arg0)
      ∧ r.2.mem ((c.tc : Thread Cert.CrossBIdeal.nD Cert.CrossBIdeal.τ).loc Cert.CrossBIdeal.main_arg1) = m ((c.tc : Thread Cert.CrossBIdeal.nD Cert.CrossBIdeal.τ).loc Cert.CrossBIdeal.main_arg1))
      ∧ r.2.sem = fun _ => 0)

def quiescent_CrossBRefIdeal [hCrossBRefIdeal : Cert.CrossBRefIdeal.Facts] : Prop :=
  ∀ (m : (ℓ : Loc Cert.CrossBRefIdeal.nD Cert.CrossBRefIdeal.τ Cert.CrossBRefIdeal.sig) → Buf (Elt Ideal) ℓ) (g : Dev Cert.CrossBRefIdeal.nD → PrngReg), Pre_CrossBRefIdeal m →
    θ_run (Cert.CrossBRefIdeal.defs (F := Ideal)) (onTc (τ := Cert.CrossBRefIdeal.τ) (Cert.CrossBRefIdeal.main (F := Ideal))) ⟨m, fun _ => 0, g⟩ (fun r => (∀ c : Dev Cert.CrossBRefIdeal.nD,
      r.2.mem ((c.tc : Thread Cert.CrossBRefIdeal.nD Cert.CrossBRefIdeal.τ).loc Cert.CrossBRefIdeal.main_arg0) = m ((c.tc : Thread Cert.CrossBRefIdeal.nD Cert.CrossBRefIdeal.τ).loc Cert.CrossBRefIdeal.main_arg0)
      ∧ r.2.mem ((c.tc : Thread Cert.CrossBRefIdeal.nD Cert.CrossBRefIdeal.τ).loc Cert.CrossBRefIdeal.main_arg1) = m ((c.tc : Thread Cert.CrossBRefIdeal.nD Cert.CrossBRefIdeal.τ).loc Cert.CrossBRefIdeal.main_arg1))
      ∧ r.2.sem = fun _ => 0)

def quiescent_CrossGradA [hCrossGradA : Cert.CrossGradA.Facts] : Prop :=
  ∀ (m : (ℓ : Loc Cert.CrossGradA.nD Cert.CrossGradA.τ Cert.CrossGradA.sig) → Buf (Elt Bits) ℓ) (g : Dev Cert.CrossGradA.nD → PrngReg), Pre_CrossGradA m →
    θ_run (Cert.CrossGradA.defs (F := Bits)) (onTc (τ := Cert.CrossGradA.τ) (Cert.CrossGradA.main (F := Bits))) ⟨m, fun _ => 0, g⟩ (fun r => (∀ c : Dev Cert.CrossGradA.nD,
      r.2.mem ((c.tc : Thread Cert.CrossGradA.nD Cert.CrossGradA.τ).loc Cert.CrossGradA.main_arg0) = m ((c.tc : Thread Cert.CrossGradA.nD Cert.CrossGradA.τ).loc Cert.CrossGradA.main_arg0)
      ∧ r.2.mem ((c.tc : Thread Cert.CrossGradA.nD Cert.CrossGradA.τ).loc Cert.CrossGradA.main_arg1) = m ((c.tc : Thread Cert.CrossGradA.nD Cert.CrossGradA.τ).loc Cert.CrossGradA.main_arg1)
      ∧ r.2.mem ((c.tc : Thread Cert.CrossGradA.nD Cert.CrossGradA.τ).loc Cert.CrossGradA.main_arg2) = m ((c.tc : Thread Cert.CrossGradA.nD Cert.CrossGradA.τ).loc Cert.CrossGradA.main_arg2))
      ∧ r.2.sem = fun _ => 0)

def quiescent_CrossGradAIdeal [hCrossGradAIdeal : Cert.CrossGradAIdeal.Facts] : Prop :=
  ∀ (m : (ℓ : Loc Cert.CrossGradAIdeal.nD Cert.CrossGradAIdeal.τ Cert.CrossGradAIdeal.sig) → Buf (Elt Ideal) ℓ) (g : Dev Cert.CrossGradAIdeal.nD → PrngReg), Pre_CrossGradAIdeal m →
    θ_run (Cert.CrossGradAIdeal.defs (F := Ideal)) (onTc (τ := Cert.CrossGradAIdeal.τ) (Cert.CrossGradAIdeal.main (F := Ideal))) ⟨m, fun _ => 0, g⟩ (fun r => (∀ c : Dev Cert.CrossGradAIdeal.nD,
      r.2.mem ((c.tc : Thread Cert.CrossGradAIdeal.nD Cert.CrossGradAIdeal.τ).loc Cert.CrossGradAIdeal.main_arg0) = m ((c.tc : Thread Cert.CrossGradAIdeal.nD Cert.CrossGradAIdeal.τ).loc Cert.CrossGradAIdeal.main_arg0)
      ∧ r.2.mem ((c.tc : Thread Cert.CrossGradAIdeal.nD Cert.CrossGradAIdeal.τ).loc Cert.CrossGradAIdeal.main_arg1) = m ((c.tc : Thread Cert.CrossGradAIdeal.nD Cert.CrossGradAIdeal.τ).loc Cert.CrossGradAIdeal.main_arg1)
      ∧ r.2.mem ((c.tc : Thread Cert.CrossGradAIdeal.nD Cert.CrossGradAIdeal.τ).loc Cert.CrossGradAIdeal.main_arg2) = m ((c.tc : Thread Cert.CrossGradAIdeal.nD Cert.CrossGradAIdeal.τ).loc Cert.CrossGradAIdeal.main_arg2))
      ∧ r.2.sem = fun _ => 0)

def quiescent_CrossGradARefIdeal [hCrossGradARefIdeal : Cert.CrossGradARefIdeal.Facts] : Prop :=
  ∀ (m : (ℓ : Loc Cert.CrossGradARefIdeal.nD Cert.CrossGradARefIdeal.τ Cert.CrossGradARefIdeal.sig) → Buf (Elt Ideal) ℓ) (g : Dev Cert.CrossGradARefIdeal.nD → PrngReg), Pre_CrossGradARefIdeal m →
    θ_run (Cert.CrossGradARefIdeal.defs (F := Ideal)) (onTc (τ := Cert.CrossGradARefIdeal.τ) (Cert.CrossGradARefIdeal.main (F := Ideal))) ⟨m, fun _ => 0, g⟩ (fun r => (∀ c : Dev Cert.CrossGradARefIdeal.nD,
      r.2.mem ((c.tc : Thread Cert.CrossGradARefIdeal.nD Cert.CrossGradARefIdeal.τ).loc Cert.CrossGradARefIdeal.main_arg0) = m ((c.tc : Thread Cert.CrossGradARefIdeal.nD Cert.CrossGradARefIdeal.τ).loc Cert.CrossGradARefIdeal.main_arg0)
      ∧ r.2.mem ((c.tc : Thread Cert.CrossGradARefIdeal.nD Cert.CrossGradARefIdeal.τ).loc Cert.CrossGradARefIdeal.main_arg1) = m ((c.tc : Thread Cert.CrossGradARefIdeal.nD Cert.CrossGradARefIdeal.τ).loc Cert.CrossGradARefIdeal.main_arg1)
      ∧ r.2.mem ((c.tc : Thread Cert.CrossGradARefIdeal.nD Cert.CrossGradARefIdeal.τ).loc Cert.CrossGradARefIdeal.main_arg2) = m ((c.tc : Thread Cert.CrossGradARefIdeal.nD Cert.CrossGradARefIdeal.τ).loc Cert.CrossGradARefIdeal.main_arg2))
      ∧ r.2.sem = fun _ => 0)

def quiescent_CrossGradB [hCrossGradB : Cert.CrossGradB.Facts] : Prop :=
  ∀ (m : (ℓ : Loc Cert.CrossGradB.nD Cert.CrossGradB.τ Cert.CrossGradB.sig) → Buf (Elt Bits) ℓ) (g : Dev Cert.CrossGradB.nD → PrngReg), Pre_CrossGradB m →
    θ_run (Cert.CrossGradB.defs (F := Bits)) (onTc (τ := Cert.CrossGradB.τ) (Cert.CrossGradB.main (F := Bits))) ⟨m, fun _ => 0, g⟩ (fun r => (∀ c : Dev Cert.CrossGradB.nD,
      r.2.mem ((c.tc : Thread Cert.CrossGradB.nD Cert.CrossGradB.τ).loc Cert.CrossGradB.main_arg0) = m ((c.tc : Thread Cert.CrossGradB.nD Cert.CrossGradB.τ).loc Cert.CrossGradB.main_arg0)
      ∧ r.2.mem ((c.tc : Thread Cert.CrossGradB.nD Cert.CrossGradB.τ).loc Cert.CrossGradB.main_arg1) = m ((c.tc : Thread Cert.CrossGradB.nD Cert.CrossGradB.τ).loc Cert.CrossGradB.main_arg1)
      ∧ r.2.mem ((c.tc : Thread Cert.CrossGradB.nD Cert.CrossGradB.τ).loc Cert.CrossGradB.main_arg2) = m ((c.tc : Thread Cert.CrossGradB.nD Cert.CrossGradB.τ).loc Cert.CrossGradB.main_arg2))
      ∧ r.2.sem = fun _ => 0)

def quiescent_CrossGradBIdeal [hCrossGradBIdeal : Cert.CrossGradBIdeal.Facts] : Prop :=
  ∀ (m : (ℓ : Loc Cert.CrossGradBIdeal.nD Cert.CrossGradBIdeal.τ Cert.CrossGradBIdeal.sig) → Buf (Elt Ideal) ℓ) (g : Dev Cert.CrossGradBIdeal.nD → PrngReg), Pre_CrossGradBIdeal m →
    θ_run (Cert.CrossGradBIdeal.defs (F := Ideal)) (onTc (τ := Cert.CrossGradBIdeal.τ) (Cert.CrossGradBIdeal.main (F := Ideal))) ⟨m, fun _ => 0, g⟩ (fun r => (∀ c : Dev Cert.CrossGradBIdeal.nD,
      r.2.mem ((c.tc : Thread Cert.CrossGradBIdeal.nD Cert.CrossGradBIdeal.τ).loc Cert.CrossGradBIdeal.main_arg0) = m ((c.tc : Thread Cert.CrossGradBIdeal.nD Cert.CrossGradBIdeal.τ).loc Cert.CrossGradBIdeal.main_arg0)
      ∧ r.2.mem ((c.tc : Thread Cert.CrossGradBIdeal.nD Cert.CrossGradBIdeal.τ).loc Cert.CrossGradBIdeal.main_arg1) = m ((c.tc : Thread Cert.CrossGradBIdeal.nD Cert.CrossGradBIdeal.τ).loc Cert.CrossGradBIdeal.main_arg1)
      ∧ r.2.mem ((c.tc : Thread Cert.CrossGradBIdeal.nD Cert.CrossGradBIdeal.τ).loc Cert.CrossGradBIdeal.main_arg2) = m ((c.tc : Thread Cert.CrossGradBIdeal.nD Cert.CrossGradBIdeal.τ).loc Cert.CrossGradBIdeal.main_arg2))
      ∧ r.2.sem = fun _ => 0)

def quiescent_CrossGradBRefIdeal [hCrossGradBRefIdeal : Cert.CrossGradBRefIdeal.Facts] : Prop :=
  ∀ (m : (ℓ : Loc Cert.CrossGradBRefIdeal.nD Cert.CrossGradBRefIdeal.τ Cert.CrossGradBRefIdeal.sig) → Buf (Elt Ideal) ℓ) (g : Dev Cert.CrossGradBRefIdeal.nD → PrngReg), Pre_CrossGradBRefIdeal m →
    θ_run (Cert.CrossGradBRefIdeal.defs (F := Ideal)) (onTc (τ := Cert.CrossGradBRefIdeal.τ) (Cert.CrossGradBRefIdeal.main (F := Ideal))) ⟨m, fun _ => 0, g⟩ (fun r => (∀ c : Dev Cert.CrossGradBRefIdeal.nD,
      r.2.mem ((c.tc : Thread Cert.CrossGradBRefIdeal.nD Cert.CrossGradBRefIdeal.τ).loc Cert.CrossGradBRefIdeal.main_arg0) = m ((c.tc : Thread Cert.CrossGradBRefIdeal.nD Cert.CrossGradBRefIdeal.τ).loc Cert.CrossGradBRefIdeal.main_arg0)
      ∧ r.2.mem ((c.tc : Thread Cert.CrossGradBRefIdeal.nD Cert.CrossGradBRefIdeal.τ).loc Cert.CrossGradBRefIdeal.main_arg1) = m ((c.tc : Thread Cert.CrossGradBRefIdeal.nD Cert.CrossGradBRefIdeal.τ).loc Cert.CrossGradBRefIdeal.main_arg1)
      ∧ r.2.mem ((c.tc : Thread Cert.CrossGradBRefIdeal.nD Cert.CrossGradBRefIdeal.τ).loc Cert.CrossGradBRefIdeal.main_arg2) = m ((c.tc : Thread Cert.CrossGradBRefIdeal.nD Cert.CrossGradBRefIdeal.τ).loc Cert.CrossGradBRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v23_12) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_GuBwdW_GuBwdWIdeal : Prop :=
  True

def algebraic_GuBwdWIdeal_GuBwdWRefIdeal [hGuBwdWIdeal : Cert.GuBwdWIdeal.Facts] [hGuBwdWRefIdeal : Cert.GuBwdWRefIdeal.Facts] : Prop :=
  ∀ (m : (ℓ : Loc Cert.GuBwdWIdeal.nD Cert.GuBwdWIdeal.τ Cert.GuBwdWIdeal.sig) → Buf (Elt Ideal) ℓ) (g : Dev Cert.GuBwdWIdeal.nD → PrngReg)
    (m' : (ℓ : Loc Cert.GuBwdWRefIdeal.nD Cert.GuBwdWRefIdeal.τ Cert.GuBwdWRefIdeal.sig) → Buf (Elt Ideal) ℓ) (g' : Dev Cert.GuBwdWRefIdeal.nD → PrngReg), Pre_GuBwdWIdeal m →
    (∀ c : Dev Cert.GuBwdWIdeal.nD,
      m' ((c.tc : Thread Cert.GuBwdWRefIdeal.nD Cert.GuBwdWRefIdeal.τ).loc Cert.GuBwdWRefIdeal.main_arg0) = m ((c.tc : Thread Cert.GuBwdWIdeal.nD Cert.GuBwdWIdeal.τ).loc Cert.GuBwdWIdeal.main_arg0)
      ∧ m' ((c.tc : Thread Cert.GuBwdWRefIdeal.nD Cert.GuBwdWRefIdeal.τ).loc Cert.GuBwdWRefIdeal.main_arg1) = m ((c.tc : Thread Cert.GuBwdWIdeal.nD Cert.GuBwdWIdeal.τ).loc Cert.GuBwdWIdeal.main_arg1)) →
    ∃ (v0 : (c : Dev Cert.GuBwdWIdeal.nD) → Buf (Elt Ideal) ((c.tc : Thread Cert.GuBwdWIdeal.nD Cert.GuBwdWIdeal.τ).loc Cert.GuBwdWIdeal.main_v0)),
      θ_run (Cert.GuBwdWIdeal.defs (F := Ideal)) (onTc (τ := Cert.GuBwdWIdeal.τ) (Cert.GuBwdWIdeal.main (F := Ideal))) ⟨m, fun _ => 0, g⟩ (fun r => ∀ c : Dev Cert.GuBwdWIdeal.nD,
          r.2.mem ((c.tc : Thread Cert.GuBwdWIdeal.nD Cert.GuBwdWIdeal.τ).loc Cert.GuBwdWIdeal.main_v0) = v0 c
          ∧ r.2.mem ((c.tc : Thread Cert.GuBwdWIdeal.nD Cert.GuBwdWIdeal.τ).loc Cert.GuBwdWIdeal.main_arg0) = m ((c.tc : Thread Cert.GuBwdWIdeal.nD Cert.GuBwdWIdeal.τ).loc Cert.GuBwdWIdeal.main_arg0)
          ∧ r.2.mem ((c.tc : Thread Cert.GuBwdWIdeal.nD Cert.GuBwdWIdeal.τ).loc Cert.GuBwdWIdeal.main_arg1) = m ((c.tc : Thread Cert.GuBwdWIdeal.nD Cert.GuBwdWIdeal.τ).loc Cert.GuBwdWIdeal.main_arg1))
      ∧ θ_run (Cert.GuBwdWRefIdeal.defs (F := Ideal)) (onTc (τ := Cert.GuBwdWRefIdeal.τ) (Cert.GuBwdWRefIdeal.main (F := Ideal))) ⟨m', fun _ => 0, g'⟩ (fun r => ∀ c : Dev Cert.GuBwdWRefIdeal.nD,
          r.2.mem ((c.tc : Thread Cert.GuBwdWRefIdeal.nD Cert.GuBwdWRefIdeal.τ).loc Cert.GuBwdWRefIdeal.main_v10) = v0 c
          ∧ r.2.mem ((c.tc : Thread Cert.GuBwdWRefIdeal.nD Cert.GuBwdWRefIdeal.τ).loc Cert.GuBwdWRefIdeal.main_arg0) = m' ((c.tc : Thread Cert.GuBwdWRefIdeal.nD Cert.GuBwdWRefIdeal.τ).loc Cert.GuBwdWRefIdeal.main_arg0)
          ∧ r.2.mem ((c.tc : Thread Cert.GuBwdWRefIdeal.nD Cert.GuBwdWRefIdeal.τ).loc Cert.GuBwdWRefIdeal.main_arg1) = m' ((c.tc : Thread Cert.GuBwdWRefIdeal.nD Cert.GuBwdWRefIdeal.τ).loc Cert.GuBwdWRefIdeal.main_arg1))

def preserves_GuBwdX_GuBwdXIdeal : Prop :=
  True

def algebraic_GuBwdXIdeal_GuBwdXRefIdeal [hGuBwdXIdeal : Cert.GuBwdXIdeal.Facts] [hGuBwdXRefIdeal : Cert.GuBwdXRefIdeal.Facts] : Prop :=
  ∀ (m : (ℓ : Loc Cert.GuBwdXIdeal.nD Cert.GuBwdXIdeal.τ Cert.GuBwdXIdeal.sig) → Buf (Elt Ideal) ℓ) (g : Dev Cert.GuBwdXIdeal.nD → PrngReg)
    (m' : (ℓ : Loc Cert.GuBwdXRefIdeal.nD Cert.GuBwdXRefIdeal.τ Cert.GuBwdXRefIdeal.sig) → Buf (Elt Ideal) ℓ) (g' : Dev Cert.GuBwdXRefIdeal.nD → PrngReg), Pre_GuBwdXIdeal m →
    (∀ c : Dev Cert.GuBwdXIdeal.nD,
      m' ((c.tc : Thread Cert.GuBwdXRefIdeal.nD Cert.GuBwdXRefIdeal.τ).loc Cert.GuBwdXRefIdeal.main_arg0) = m ((c.tc : Thread Cert.GuBwdXIdeal.nD Cert.GuBwdXIdeal.τ).loc Cert.GuBwdXIdeal.main_arg0)
      ∧ m' ((c.tc : Thread Cert.GuBwdXRefIdeal.nD Cert.GuBwdXRefIdeal.τ).loc Cert.GuBwdXRefIdeal.main_arg1) = m ((c.tc : Thread Cert.GuBwdXIdeal.nD Cert.GuBwdXIdeal.τ).loc Cert.GuBwdXIdeal.main_arg1)
      ∧ m' ((c.tc : Thread Cert.GuBwdXRefIdeal.nD Cert.GuBwdXRefIdeal.τ).loc Cert.GuBwdXRefIdeal.main_arg2) = m ((c.tc : Thread Cert.GuBwdXIdeal.nD Cert.GuBwdXIdeal.τ).loc Cert.GuBwdXIdeal.main_arg2)
      ∧ m' ((c.tc : Thread Cert.GuBwdXRefIdeal.nD Cert.GuBwdXRefIdeal.τ).loc Cert.GuBwdXRefIdeal.main_arg3) = m ((c.tc : Thread Cert.GuBwdXIdeal.nD Cert.GuBwdXIdeal.τ).loc Cert.GuBwdXIdeal.main_arg3)
      ∧ m' ((c.tc : Thread Cert.GuBwdXRefIdeal.nD Cert.GuBwdXRefIdeal.τ).loc Cert.GuBwdXRefIdeal.main_arg4) = m ((c.tc : Thread Cert.GuBwdXIdeal.nD Cert.GuBwdXIdeal.τ).loc Cert.GuBwdXIdeal.main_arg4)) →
    ∃ (v0 : (c : Dev Cert.GuBwdXIdeal.nD) → Buf (Elt Ideal) ((c.tc : Thread Cert.GuBwdXIdeal.nD Cert.GuBwdXIdeal.τ).loc Cert.GuBwdXIdeal.main_v1_0)) (v1 : (c : Dev Cert.GuBwdXIdeal.nD) → Buf (Elt Ideal) ((c.tc : Thread Cert.GuBwdXIdeal.nD Cert.GuBwdXIdeal.τ).loc Cert.GuBwdXIdeal.main_v1_1)),
      θ_run (Cert.GuBwdXIdeal.defs (F := Ideal)) (onTc (τ := Cert.GuBwdXIdeal.τ) (Cert.GuBwdXIdeal.main (F := Ideal))) ⟨m, fun _ => 0, g⟩ (fun r => ∀ c : Dev Cert.GuBwdXIdeal.nD,
          r.2.mem ((c.tc : Thread Cert.GuBwdXIdeal.nD Cert.GuBwdXIdeal.τ).loc Cert.GuBwdXIdeal.main_v1_0) = v0 c
          ∧ r.2.mem ((c.tc : Thread Cert.GuBwdXIdeal.nD Cert.GuBwdXIdeal.τ).loc Cert.GuBwdXIdeal.main_v1_1) = v1 c
          ∧ r.2.mem ((c.tc : Thread Cert.GuBwdXIdeal.nD Cert.GuBwdXIdeal.τ).loc Cert.GuBwdXIdeal.main_arg0) = m ((c.tc : Thread Cert.GuBwdXIdeal.nD Cert.GuBwdXIdeal.τ).loc Cert.GuBwdXIdeal.main_arg0)
          ∧ r.2.mem ((c.tc : Thread Cert.GuBwdXIdeal.nD Cert.GuBwdXIdeal.τ).loc Cert.GuBwdXIdeal.main_arg1) = m ((c.tc : Thread Cert.GuBwdXIdeal.nD Cert.GuBwdXIdeal.τ).loc Cert.GuBwdXIdeal.main_arg1)
          ∧ r.2.mem ((c.tc : Thread Cert.GuBwdXIdeal.nD Cert.GuBwdXIdeal.τ).loc Cert.GuBwdXIdeal.main_arg2) = m ((c.tc : Thread Cert.GuBwdXIdeal.nD Cert.GuBwdXIdeal.τ).loc Cert.GuBwdXIdeal.main_arg2)
          ∧ r.2.mem ((c.tc : Thread Cert.GuBwdXIdeal.nD Cert.GuBwdXIdeal.τ).loc Cert.GuBwdXIdeal.main_arg3) = m ((c.tc : Thread Cert.GuBwdXIdeal.nD Cert.GuBwdXIdeal.τ).loc Cert.GuBwdXIdeal.main_arg3)
          ∧ r.2.mem ((c.tc : Thread Cert.GuBwdXIdeal.nD Cert.GuBwdXIdeal.τ).loc Cert.GuBwdXIdeal.main_arg4) = m ((c.tc : Thread Cert.GuBwdXIdeal.nD Cert.GuBwdXIdeal.τ).loc Cert.GuBwdXIdeal.main_arg4))
      ∧ θ_run (Cert.GuBwdXRefIdeal.defs (F := Ideal)) (onTc (τ := Cert.GuBwdXRefIdeal.τ) (Cert.GuBwdXRefIdeal.main (F := Ideal))) ⟨m', fun _ => 0, g'⟩ (fun r => ∀ c : Dev Cert.GuBwdXRefIdeal.nD,
          r.2.mem ((c.tc : Thread Cert.GuBwdXRefIdeal.nD Cert.GuBwdXRefIdeal.τ).loc Cert.GuBwdXRefIdeal.main_v44) = v0 c
          ∧ r.2.mem ((c.tc : Thread Cert.GuBwdXRefIdeal.nD Cert.GuBwdXRefIdeal.τ).loc Cert.GuBwdXRefIdeal.main_v45) = v1 c
          ∧ r.2.mem ((c.tc : Thread Cert.GuBwdXRefIdeal.nD Cert.GuBwdXRefIdeal.τ).loc Cert.GuBwdXRefIdeal.main_arg0) = m' ((c.tc : Thread Cert.GuBwdXRefIdeal.nD Cert.GuBwdXRefIdeal.τ).loc Cert.GuBwdXRefIdeal.main_arg0)
          ∧ r.2.mem ((c.tc : Thread Cert.GuBwdXRefIdeal.nD Cert.GuBwdXRefIdeal.τ).loc Cert.GuBwdXRefIdeal.main_arg1) = m' ((c.tc : Thread Cert.GuBwdXRefIdeal.nD Cert.GuBwdXRefIdeal.τ).loc Cert.GuBwdXRefIdeal.main_arg1)
          ∧ r.2.mem ((c.tc : Thread Cert.GuBwdXRefIdeal.nD Cert.GuBwdXRefIdeal.τ).loc Cert.GuBwdXRefIdeal.main_arg2) = m' ((c.tc : Thread Cert.GuBwdXRefIdeal.nD Cert.GuBwdXRefIdeal.τ).loc Cert.GuBwdXRefIdeal.main_arg2)
          ∧ r.2.mem ((c.tc : Thread Cert.GuBwdXRefIdeal.nD Cert.GuBwdXRefIdeal.τ).loc Cert.GuBwdXRefIdeal.main_arg3) = m' ((c.tc : Thread Cert.GuBwdXRefIdeal.nD Cert.GuBwdXRefIdeal.τ).loc Cert.GuBwdXRefIdeal.main_arg3)
          ∧ r.2.mem ((c.tc : Thread Cert.GuBwdXRefIdeal.nD Cert.GuBwdXRefIdeal.τ).loc Cert.GuBwdXRefIdeal.main_arg4) = m' ((c.tc : Thread Cert.GuBwdXRefIdeal.nD Cert.GuBwdXRefIdeal.τ).loc Cert.GuBwdXRefIdeal.main_arg4))

def preserves_GuFwd_GuFwdIdeal : Prop :=
  True

def algebraic_GuFwdIdeal_GuFwdRefIdeal [hGuFwdIdeal : Cert.GuFwdIdeal.Facts] [hGuFwdRefIdeal : Cert.GuFwdRefIdeal.Facts] : Prop :=
  ∀ (m : (ℓ : Loc Cert.GuFwdIdeal.nD Cert.GuFwdIdeal.τ Cert.GuFwdIdeal.sig) → Buf (Elt Ideal) ℓ) (g : Dev Cert.GuFwdIdeal.nD → PrngReg)
    (m' : (ℓ : Loc Cert.GuFwdRefIdeal.nD Cert.GuFwdRefIdeal.τ Cert.GuFwdRefIdeal.sig) → Buf (Elt Ideal) ℓ) (g' : Dev Cert.GuFwdRefIdeal.nD → PrngReg), Pre_GuFwdIdeal m →
    (∀ c : Dev Cert.GuFwdIdeal.nD,
      m' ((c.tc : Thread Cert.GuFwdRefIdeal.nD Cert.GuFwdRefIdeal.τ).loc Cert.GuFwdRefIdeal.main_arg0) = m ((c.tc : Thread Cert.GuFwdIdeal.nD Cert.GuFwdIdeal.τ).loc Cert.GuFwdIdeal.main_arg0)
      ∧ m' ((c.tc : Thread Cert.GuFwdRefIdeal.nD Cert.GuFwdRefIdeal.τ).loc Cert.GuFwdRefIdeal.main_arg1) = m ((c.tc : Thread Cert.GuFwdIdeal.nD Cert.GuFwdIdeal.τ).loc Cert.GuFwdIdeal.main_arg1)) →
    ∃ (v0 : (c : Dev Cert.GuFwdIdeal.nD) → Buf (Elt Ideal) ((c.tc : Thread Cert.GuFwdIdeal.nD Cert.GuFwdIdeal.τ).loc Cert.GuFwdIdeal.main_v0)),
      θ_run (Cert.GuFwdIdeal.defs (F := Ideal)) (onTc (τ := Cert.GuFwdIdeal.τ) (Cert.GuFwdIdeal.main (F := Ideal))) ⟨m, fun _ => 0, g⟩ (fun r => ∀ c : Dev Cert.GuFwdIdeal.nD,
          r.2.mem ((c.tc : Thread Cert.GuFwdIdeal.nD Cert.GuFwdIdeal.τ).loc Cert.GuFwdIdeal.main_v0) = v0 c
          ∧ r.2.mem ((c.tc : Thread Cert.GuFwdIdeal.nD Cert.GuFwdIdeal.τ).loc Cert.GuFwdIdeal.main_arg0) = m ((c.tc : Thread Cert.GuFwdIdeal.nD Cert.GuFwdIdeal.τ).loc Cert.GuFwdIdeal.main_arg0)
          ∧ r.2.mem ((c.tc : Thread Cert.GuFwdIdeal.nD Cert.GuFwdIdeal.τ).loc Cert.GuFwdIdeal.main_arg1) = m ((c.tc : Thread Cert.GuFwdIdeal.nD Cert.GuFwdIdeal.τ).loc Cert.GuFwdIdeal.main_arg1))
      ∧ θ_run (Cert.GuFwdRefIdeal.defs (F := Ideal)) (onTc (τ := Cert.GuFwdRefIdeal.τ) (Cert.GuFwdRefIdeal.main (F := Ideal))) ⟨m', fun _ => 0, g'⟩ (fun r => ∀ c : Dev Cert.GuFwdRefIdeal.nD,
          r.2.mem ((c.tc : Thread Cert.GuFwdRefIdeal.nD Cert.GuFwdRefIdeal.τ).loc Cert.GuFwdRefIdeal.main_v5) = v0 c
          ∧ r.2.mem ((c.tc : Thread Cert.GuFwdRefIdeal.nD Cert.GuFwdRefIdeal.τ).loc Cert.GuFwdRefIdeal.main_arg0) = m' ((c.tc : Thread Cert.GuFwdRefIdeal.nD Cert.GuFwdRefIdeal.τ).loc Cert.GuFwdRefIdeal.main_arg0)
          ∧ r.2.mem ((c.tc : Thread Cert.GuFwdRefIdeal.nD Cert.GuFwdRefIdeal.τ).loc Cert.GuFwdRefIdeal.main_arg1) = m' ((c.tc : Thread Cert.GuFwdRefIdeal.nD Cert.GuFwdRefIdeal.τ).loc Cert.GuFwdRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v4) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DnsFwd_DnsFwdIdeal : Prop :=
  True

def algebraic_DnsFwdIdeal_DnsFwdRefIdeal [hDnsFwdIdeal : Cert.DnsFwdIdeal.Facts] [hDnsFwdRefIdeal : Cert.DnsFwdRefIdeal.Facts] : Prop :=
  ∀ (m : (ℓ : Loc Cert.DnsFwdIdeal.nD Cert.DnsFwdIdeal.τ Cert.DnsFwdIdeal.sig) → Buf (Elt Ideal) ℓ) (g : Dev Cert.DnsFwdIdeal.nD → PrngReg)
    (m' : (ℓ : Loc Cert.DnsFwdRefIdeal.nD Cert.DnsFwdRefIdeal.τ Cert.DnsFwdRefIdeal.sig) → Buf (Elt Ideal) ℓ) (g' : Dev Cert.DnsFwdRefIdeal.nD → PrngReg), Pre_DnsFwdIdeal m →
    (∀ c : Dev Cert.DnsFwdIdeal.nD,
      m' ((c.tc : Thread Cert.DnsFwdRefIdeal.nD Cert.DnsFwdRefIdeal.τ).loc Cert.DnsFwdRefIdeal.main_arg0) = m ((c.tc : Thread Cert.DnsFwdIdeal.nD Cert.DnsFwdIdeal.τ).loc Cert.DnsFwdIdeal.main_arg0)
      ∧ m' ((c.tc : Thread Cert.DnsFwdRefIdeal.nD Cert.DnsFwdRefIdeal.τ).loc Cert.DnsFwdRefIdeal.main_arg1) = m ((c.tc : Thread Cert.DnsFwdIdeal.nD Cert.DnsFwdIdeal.τ).loc Cert.DnsFwdIdeal.main_arg1)
      ∧ m' ((c.tc : Thread Cert.DnsFwdRefIdeal.nD Cert.DnsFwdRefIdeal.τ).loc Cert.DnsFwdRefIdeal.main_arg2) = m ((c.tc : Thread Cert.DnsFwdIdeal.nD Cert.DnsFwdIdeal.τ).loc Cert.DnsFwdIdeal.main_arg2)
      ∧ m' ((c.tc : Thread Cert.DnsFwdRefIdeal.nD Cert.DnsFwdRefIdeal.τ).loc Cert.DnsFwdRefIdeal.main_arg3) = m ((c.tc : Thread Cert.DnsFwdIdeal.nD Cert.DnsFwdIdeal.τ).loc Cert.DnsFwdIdeal.main_arg3)
      ∧ m' ((c.tc : Thread Cert.DnsFwdRefIdeal.nD Cert.DnsFwdRefIdeal.τ).loc Cert.DnsFwdRefIdeal.main_arg4) = m ((c.tc : Thread Cert.DnsFwdIdeal.nD Cert.DnsFwdIdeal.τ).loc Cert.DnsFwdIdeal.main_arg4)
      ∧ m' ((c.tc : Thread Cert.DnsFwdRefIdeal.nD Cert.DnsFwdRefIdeal.τ).loc Cert.DnsFwdRefIdeal.main_arg5) = m ((c.tc : Thread Cert.DnsFwdIdeal.nD Cert.DnsFwdIdeal.τ).loc Cert.DnsFwdIdeal.main_arg5)) →
    ∃ (v0 : (c : Dev Cert.DnsFwdIdeal.nD) → Buf (Elt Ideal) ((c.tc : Thread Cert.DnsFwdIdeal.nD Cert.DnsFwdIdeal.τ).loc Cert.DnsFwdIdeal.main_v0_0)) (v1 : (c : Dev Cert.DnsFwdIdeal.nD) → Buf (Elt Ideal) ((c.tc : Thread Cert.DnsFwdIdeal.nD Cert.DnsFwdIdeal.τ).loc Cert.DnsFwdIdeal.main_v0_1)),
      θ_run (Cert.DnsFwdIdeal.defs (F := Ideal)) (onTc (τ := Cert.DnsFwdIdeal.τ) (Cert.DnsFwdIdeal.main (F := Ideal))) ⟨m, fun _ => 0, g⟩ (fun r => ∀ c : Dev Cert.DnsFwdIdeal.nD,
          r.2.mem ((c.tc : Thread Cert.DnsFwdIdeal.nD Cert.DnsFwdIdeal.τ).loc Cert.DnsFwdIdeal.main_v0_0) = v0 c
          ∧ r.2.mem ((c.tc : Thread Cert.DnsFwdIdeal.nD Cert.DnsFwdIdeal.τ).loc Cert.DnsFwdIdeal.main_v0_1) = v1 c
          ∧ r.2.mem ((c.tc : Thread Cert.DnsFwdIdeal.nD Cert.DnsFwdIdeal.τ).loc Cert.DnsFwdIdeal.main_arg0) = m ((c.tc : Thread Cert.DnsFwdIdeal.nD Cert.DnsFwdIdeal.τ).loc Cert.DnsFwdIdeal.main_arg0)
          ∧ r.2.mem ((c.tc : Thread Cert.DnsFwdIdeal.nD Cert.DnsFwdIdeal.τ).loc Cert.DnsFwdIdeal.main_arg1) = m ((c.tc : Thread Cert.DnsFwdIdeal.nD Cert.DnsFwdIdeal.τ).loc Cert.DnsFwdIdeal.main_arg1)
          ∧ r.2.mem ((c.tc : Thread Cert.DnsFwdIdeal.nD Cert.DnsFwdIdeal.τ).loc Cert.DnsFwdIdeal.main_arg2) = m ((c.tc : Thread Cert.DnsFwdIdeal.nD Cert.DnsFwdIdeal.τ).loc Cert.DnsFwdIdeal.main_arg2)
          ∧ r.2.mem ((c.tc : Thread Cert.DnsFwdIdeal.nD Cert.DnsFwdIdeal.τ).loc Cert.DnsFwdIdeal.main_arg3) = m ((c.tc : Thread Cert.DnsFwdIdeal.nD Cert.DnsFwdIdeal.τ).loc Cert.DnsFwdIdeal.main_arg3)
          ∧ r.2.mem ((c.tc : Thread Cert.DnsFwdIdeal.nD Cert.DnsFwdIdeal.τ).loc Cert.DnsFwdIdeal.main_arg4) = m ((c.tc : Thread Cert.DnsFwdIdeal.nD Cert.DnsFwdIdeal.τ).loc Cert.DnsFwdIdeal.main_arg4)
          ∧ r.2.mem ((c.tc : Thread Cert.DnsFwdIdeal.nD Cert.DnsFwdIdeal.τ).loc Cert.DnsFwdIdeal.main_arg5) = m ((c.tc : Thread Cert.DnsFwdIdeal.nD Cert.DnsFwdIdeal.τ).loc Cert.DnsFwdIdeal.main_arg5))
      ∧ θ_run (Cert.DnsFwdRefIdeal.defs (F := Ideal)) (onTc (τ := Cert.DnsFwdRefIdeal.τ) (Cert.DnsFwdRefIdeal.main (F := Ideal))) ⟨m', fun _ => 0, g'⟩ (fun r => ∀ c : Dev Cert.DnsFwdRefIdeal.nD,
          r.2.mem ((c.tc : Thread Cert.DnsFwdRefIdeal.nD Cert.DnsFwdRefIdeal.τ).loc Cert.DnsFwdRefIdeal.main_v19) = v0 c
          ∧ r.2.mem ((c.tc : Thread Cert.DnsFwdRefIdeal.nD Cert.DnsFwdRefIdeal.τ).loc Cert.DnsFwdRefIdeal.main_v17_9) = v1 c
          ∧ r.2.mem ((c.tc : Thread Cert.DnsFwdRefIdeal.nD Cert.DnsFwdRefIdeal.τ).loc Cert.DnsFwdRefIdeal.main_arg0) = m' ((c.tc : Thread Cert.DnsFwdRefIdeal.nD Cert.DnsFwdRefIdeal.τ).loc Cert.DnsFwdRefIdeal.main_arg0)
          ∧ r.2.mem ((c.tc : Thread Cert.DnsFwdRefIdeal.nD Cert.DnsFwdRefIdeal.τ).loc Cert.DnsFwdRefIdeal.main_arg1) = m' ((c.tc : Thread Cert.DnsFwdRefIdeal.nD Cert.DnsFwdRefIdeal.τ).loc Cert.DnsFwdRefIdeal.main_arg1)
          ∧ r.2.mem ((c.tc : Thread Cert.DnsFwdRefIdeal.nD Cert.DnsFwdRefIdeal.τ).loc Cert.DnsFwdRefIdeal.main_arg2) = m' ((c.tc : Thread Cert.DnsFwdRefIdeal.nD Cert.DnsFwdRefIdeal.τ).loc Cert.DnsFwdRefIdeal.main_arg2)
          ∧ r.2.mem ((c.tc : Thread Cert.DnsFwdRefIdeal.nD Cert.DnsFwdRefIdeal.τ).loc Cert.DnsFwdRefIdeal.main_arg3) = m' ((c.tc : Thread Cert.DnsFwdRefIdeal.nD Cert.DnsFwdRefIdeal.τ).loc Cert.DnsFwdRefIdeal.main_arg3)
          ∧ r.2.mem ((c.tc : Thread Cert.DnsFwdRefIdeal.nD Cert.DnsFwdRefIdeal.τ).loc Cert.DnsFwdRefIdeal.main_arg4) = m' ((c.tc : Thread Cert.DnsFwdRefIdeal.nD Cert.DnsFwdRefIdeal.τ).loc Cert.DnsFwdRefIdeal.main_arg4)
          ∧ r.2.mem ((c.tc : Thread Cert.DnsFwdRefIdeal.nD Cert.DnsFwdRefIdeal.τ).loc Cert.DnsFwdRefIdeal.main_arg5) = m' ((c.tc : Thread Cert.DnsFwdRefIdeal.nD Cert.DnsFwdRefIdeal.τ).loc Cert.DnsFwdRefIdeal.main_arg5))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v3) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v2) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DownNorm_DownNormIdeal : Prop :=
  True

def algebraic_DownNormIdeal_DownNormRefIdeal [hDownNormIdeal : Cert.DownNormIdeal.Facts] [hDownNormRefIdeal : Cert.DownNormRefIdeal.Facts] : Prop :=
  ∀ (m : (ℓ : Loc Cert.DownNormIdeal.nD Cert.DownNormIdeal.τ Cert.DownNormIdeal.sig) → Buf (Elt Ideal) ℓ) (g : Dev Cert.DownNormIdeal.nD → PrngReg)
    (m' : (ℓ : Loc Cert.DownNormRefIdeal.nD Cert.DownNormRefIdeal.τ Cert.DownNormRefIdeal.sig) → Buf (Elt Ideal) ℓ) (g' : Dev Cert.DownNormRefIdeal.nD → PrngReg), Pre_DownNormIdeal m →
    (∀ c : Dev Cert.DownNormIdeal.nD,
      m' ((c.tc : Thread Cert.DownNormRefIdeal.nD Cert.DownNormRefIdeal.τ).loc Cert.DownNormRefIdeal.main_arg0) = m ((c.tc : Thread Cert.DownNormIdeal.nD Cert.DownNormIdeal.τ).loc Cert.DownNormIdeal.main_arg0)
      ∧ m' ((c.tc : Thread Cert.DownNormRefIdeal.nD Cert.DownNormRefIdeal.τ).loc Cert.DownNormRefIdeal.main_arg1) = m ((c.tc : Thread Cert.DownNormIdeal.nD Cert.DownNormIdeal.τ).loc Cert.DownNormIdeal.main_arg1)
      ∧ m' ((c.tc : Thread Cert.DownNormRefIdeal.nD Cert.DownNormRefIdeal.τ).loc Cert.DownNormRefIdeal.main_arg2) = m ((c.tc : Thread Cert.DownNormIdeal.nD Cert.DownNormIdeal.τ).loc Cert.DownNormIdeal.main_arg2)
      ∧ m' ((c.tc : Thread Cert.DownNormRefIdeal.nD Cert.DownNormRefIdeal.τ).loc Cert.DownNormRefIdeal.main_arg3) = m ((c.tc : Thread Cert.DownNormIdeal.nD Cert.DownNormIdeal.τ).loc Cert.DownNormIdeal.main_arg3)) →
    ∃ (v0 : (c : Dev Cert.DownNormIdeal.nD) → Buf (Elt Ideal) ((c.tc : Thread Cert.DownNormIdeal.nD Cert.DownNormIdeal.τ).loc Cert.DownNormIdeal.main_v1_0)) (v1 : (c : Dev Cert.DownNormIdeal.nD) → Buf (Elt Ideal) ((c.tc : Thread Cert.DownNormIdeal.nD Cert.DownNormIdeal.τ).loc Cert.DownNormIdeal.main_v1_1)),
      θ_run (Cert.DownNormIdeal.defs (F := Ideal)) (onTc (τ := Cert.DownNormIdeal.τ) (Cert.DownNormIdeal.main (F := Ideal))) ⟨m, fun _ => 0, g⟩ (fun r => ∀ c : Dev Cert.DownNormIdeal.nD,
          r.2.mem ((c.tc : Thread Cert.DownNormIdeal.nD Cert.DownNormIdeal.τ).loc Cert.DownNormIdeal.main_v1_0) = v0 c
          ∧ r.2.mem ((c.tc : Thread Cert.DownNormIdeal.nD Cert.DownNormIdeal.τ).loc Cert.DownNormIdeal.main_v1_1) = v1 c
          ∧ r.2.mem ((c.tc : Thread Cert.DownNormIdeal.nD Cert.DownNormIdeal.τ).loc Cert.DownNormIdeal.main_arg0) = m ((c.tc : Thread Cert.DownNormIdeal.nD Cert.DownNormIdeal.τ).loc Cert.DownNormIdeal.main_arg0)
          ∧ r.2.mem ((c.tc : Thread Cert.DownNormIdeal.nD Cert.DownNormIdeal.τ).loc Cert.DownNormIdeal.main_arg1) = m ((c.tc : Thread Cert.DownNormIdeal.nD Cert.DownNormIdeal.τ).loc Cert.DownNormIdeal.main_arg1)
          ∧ r.2.mem ((c.tc : Thread Cert.DownNormIdeal.nD Cert.DownNormIdeal.τ).loc Cert.DownNormIdeal.main_arg2) = m ((c.tc : Thread Cert.DownNormIdeal.nD Cert.DownNormIdeal.τ).loc Cert.DownNormIdeal.main_arg2)
          ∧ r.2.mem ((c.tc : Thread Cert.DownNormIdeal.nD Cert.DownNormIdeal.τ).loc Cert.DownNormIdeal.main_arg3) = m ((c.tc : Thread Cert.DownNormIdeal.nD Cert.DownNormIdeal.τ).loc Cert.DownNormIdeal.main_arg3))
      ∧ θ_run (Cert.DownNormRefIdeal.defs (F := Ideal)) (onTc (τ := Cert.DownNormRefIdeal.τ) (Cert.DownNormRefIdeal.main (F := Ideal))) ⟨m', fun _ => 0, g'⟩ (fun r => ∀ c : Dev Cert.DownNormRefIdeal.nD,
          r.2.mem ((c.tc : Thread Cert.DownNormRefIdeal.nD Cert.DownNormRefIdeal.τ).loc Cert.DownNormRefIdeal.main_v3) = v0 c
          ∧ r.2.mem ((c.tc : Thread Cert.DownNormRefIdeal.nD Cert.DownNormRefIdeal.τ).loc Cert.DownNormRefIdeal.main_v17) = v1 c
          ∧ r.2.mem ((c.tc : Thread Cert.DownNormRefIdeal.nD Cert.DownNormRefIdeal.τ).loc Cert.DownNormRefIdeal.main_arg0) = m' ((c.tc : Thread Cert.DownNormRefIdeal.nD Cert.DownNormRefIdeal.τ).loc Cert.DownNormRefIdeal.main_arg0)
          ∧ r.2.mem ((c.tc : Thread Cert.DownNormRefIdeal.nD Cert.DownNormRefIdeal.τ).loc Cert.DownNormRefIdeal.main_arg1) = m' ((c.tc : Thread Cert.DownNormRefIdeal.nD Cert.DownNormRefIdeal.τ).loc Cert.DownNormRefIdeal.main_arg1)
          ∧ r.2.mem ((c.tc : Thread Cert.DownNormRefIdeal.nD Cert.DownNormRefIdeal.τ).loc Cert.DownNormRefIdeal.main_arg2) = m' ((c.tc : Thread Cert.DownNormRefIdeal.nD Cert.DownNormRefIdeal.τ).loc Cert.DownNormRefIdeal.main_arg2)
          ∧ r.2.mem ((c.tc : Thread Cert.DownNormRefIdeal.nD Cert.DownNormRefIdeal.τ).loc Cert.DownNormRefIdeal.main_arg3) = m' ((c.tc : Thread Cert.DownNormRefIdeal.nD Cert.DownNormRefIdeal.τ).loc Cert.DownNormRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_v19) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v0)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v0) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v3) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DwInA_DwInAIdeal : Prop :=
  True

def algebraic_DwInAIdeal_DwInARefIdeal [hDwInAIdeal : Cert.DwInAIdeal.Facts] [hDwInARefIdeal : Cert.DwInARefIdeal.Facts] : Prop :=
  ∀ (m : (ℓ : Loc Cert.DwInAIdeal.nD Cert.DwInAIdeal.τ Cert.DwInAIdeal.sig) → Buf (Elt Ideal) ℓ) (g : Dev Cert.DwInAIdeal.nD → PrngReg)
    (m' : (ℓ : Loc Cert.DwInARefIdeal.nD Cert.DwInARefIdeal.τ Cert.DwInARefIdeal.sig) → Buf (Elt Ideal) ℓ) (g' : Dev Cert.DwInARefIdeal.nD → PrngReg), Pre_DwInAIdeal m →
    (∀ c : Dev Cert.DwInAIdeal.nD,
      m' ((c.tc : Thread Cert.DwInARefIdeal.nD Cert.DwInARefIdeal.τ).loc Cert.DwInARefIdeal.main_arg0) = m ((c.tc : Thread Cert.DwInAIdeal.nD Cert.DwInAIdeal.τ).loc Cert.DwInAIdeal.main_arg0)
      ∧ m' ((c.tc : Thread Cert.DwInARefIdeal.nD Cert.DwInARefIdeal.τ).loc Cert.DwInARefIdeal.main_arg1) = m ((c.tc : Thread Cert.DwInAIdeal.nD Cert.DwInAIdeal.τ).loc Cert.DwInAIdeal.main_arg1)
      ∧ m' ((c.tc : Thread Cert.DwInARefIdeal.nD Cert.DwInARefIdeal.τ).loc Cert.DwInARefIdeal.main_arg2) = m ((c.tc : Thread Cert.DwInAIdeal.nD Cert.DwInAIdeal.τ).loc Cert.DwInAIdeal.main_arg2)) →
    ∃ (v0 : (c : Dev Cert.DwInAIdeal.nD) → Buf (Elt Ideal) ((c.tc : Thread Cert.DwInAIdeal.nD Cert.DwInAIdeal.τ).loc Cert.DwInAIdeal.main_v0)),
      θ_run (Cert.DwInAIdeal.defs (F := Ideal)) (onTc (τ := Cert.DwInAIdeal.τ) (Cert.DwInAIdeal.main (F := Ideal))) ⟨m, fun _ => 0, g⟩ (fun r => ∀ c : Dev Cert.DwInAIdeal.nD,
          r.2.mem ((c.tc : Thread Cert.DwInAIdeal.nD Cert.DwInAIdeal.τ).loc Cert.DwInAIdeal.main_v0) = v0 c
          ∧ r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
          ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
          ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2))
      ∧ θ_run (Cert.DwInARefIdeal.defs (F := Ideal)) (onTc (τ := Cert.DwInARefIdeal.τ) (Cert.DwInARefIdeal.main (F := Ideal))) ⟨m', fun _ => 0, g'⟩ (fun r => ∀ c : Dev Cert.DwInARefIdeal.nD,
          r.2.mem ((c.tc : Thread Cert.DwInARefIdeal.nD Cert.DwInARefIdeal.τ).loc Cert.DwInARefIdeal.main_v7) = v0 c
          ∧ r.2.mem ((c.tc : Thread Cert.DwInARefIdeal.nD Cert.DwInARefIdeal.τ).loc Cert.DwInARefIdeal.main_arg0) = m' ((c.tc : Thread Cert.DwInARefIdeal.nD Cert.DwInARefIdeal.τ).loc Cert.DwInARefIdeal.main_arg0)
          ∧ r.2.mem ((c.tc : Thread Cert.DwInARefIdeal.nD Cert.DwInARefIdeal.τ).loc Cert.DwInARefIdeal.main_arg1) = m' ((c.tc : Thread Cert.DwInARefIdeal.nD Cert.DwInARefIdeal.τ).loc Cert.DwInARefIdeal.main_arg1)
          ∧ r.2.mem ((c.tc : Thread Cert.DwInARefIdeal.nD Cert.DwInARefIdeal.τ).loc Cert.DwInARefIdeal.main_arg2) = m' ((c.tc : Thread Cert.DwInARefIdeal.nD Cert.DwInARefIdeal.τ).loc Cert.DwInARefIdeal.main_arg2))

def preserves_DwInB_DwInBIdeal : Prop :=
  True

def algebraic_DwInBIdeal_DwInBRefIdeal [hDwInBIdeal : Cert.DwInBIdeal.Facts] [hDwInBRefIdeal : Cert.DwInBRefIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.DwInBRefIdeal.nD Cert.DwInBRefIdeal.τ Cert.DwInBRefIdeal.sig) → Buf (Elt Ideal) ℓ) (g' : Dev Cert.DwInBRefIdeal.nD → PrngReg), Pre_DwInBIdeal m →
    (∀ c : Dev Cert.DwInBIdeal.nD,
      m' ((c.tc : Thread Cert.DwInBRefIdeal.nD Cert.DwInBRefIdeal.τ).loc Cert.DwInBRefIdeal.main_arg0) = m ((c.tc : Thread Cert.DwInBIdeal.nD Cert.DwInBIdeal.τ).loc Cert.DwInBIdeal.main_arg0)
      ∧ m' ((c.tc : Thread Cert.DwInBRefIdeal.nD Cert.DwInBRefIdeal.τ).loc Cert.DwInBRefIdeal.main_arg1) = m ((c.tc : Thread Cert.DwInBIdeal.nD Cert.DwInBIdeal.τ).loc Cert.DwInBIdeal.main_arg1)
      ∧ m' ((c.tc : Thread Cert.DwInBRefIdeal.nD Cert.DwInBRefIdeal.τ).loc Cert.DwInBRefIdeal.main_arg2) = m ((c.tc : Thread Cert.DwInBIdeal.nD Cert.DwInBIdeal.τ).loc Cert.DwInBIdeal.main_arg2)
      ∧ m' ((c.tc : Thread Cert.DwInBRefIdeal.nD Cert.DwInBRefIdeal.τ).loc Cert.DwInBRefIdeal.main_arg3) = m ((c.tc : Thread Cert.DwInBIdeal.nD Cert.DwInBIdeal.τ).loc Cert.DwInBIdeal.main_arg3)
      ∧ m' ((c.tc : Thread Cert.DwInBRefIdeal.nD Cert.DwInBRefIdeal.τ).loc Cert.DwInBRefIdeal.main_arg4) = m ((c.tc : Thread Cert.DwInBIdeal.nD Cert.DwInBIdeal.τ).loc Cert.DwInBIdeal.main_arg4)) →
    ∃ (v0 : (c : Dev Cert.DwInBIdeal.nD) → Buf (Elt Ideal) ((c.tc : Thread Cert.DwInBIdeal.nD Cert.DwInBIdeal.τ).loc Cert.DwInBIdeal.main_v0)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v0) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
          ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2)
          ∧ r.2.mem ((c.tc : Thread Cert.DwInBIdeal.nD Cert.DwInBIdeal.τ).loc Cert.DwInBIdeal.main_arg3) = m ((c.tc : Thread Cert.DwInBIdeal.nD Cert.DwInBIdeal.τ).loc Cert.DwInBIdeal.main_arg3)
          ∧ r.2.mem ((c.tc : Thread Cert.DwInBIdeal.nD Cert.DwInBIdeal.τ).loc Cert.DwInBIdeal.main_arg4) = m ((c.tc : Thread Cert.DwInBIdeal.nD Cert.DwInBIdeal.τ).loc Cert.DwInBIdeal.main_arg4))
      ∧ θ_run (Cert.DwInBRefIdeal.defs (F := Ideal)) (onTc (τ := Cert.DwInBRefIdeal.τ) (Cert.DwInBRefIdeal.main (F := Ideal))) ⟨m', fun _ => 0, g'⟩ (fun r => ∀ c : Dev Cert.DwInBRefIdeal.nD,
          r.2.mem ((c.tc : Thread Cert.DwInBRefIdeal.nD Cert.DwInBRefIdeal.τ).loc Cert.DwInBRefIdeal.main_v9) = v0 c
          ∧ r.2.mem ((c.tc : Thread Cert.DwInBRefIdeal.nD Cert.DwInBRefIdeal.τ).loc Cert.DwInBRefIdeal.main_arg0) = m' ((c.tc : Thread Cert.DwInBRefIdeal.nD Cert.DwInBRefIdeal.τ).loc Cert.DwInBRefIdeal.main_arg0)
          ∧ r.2.mem ((c.tc : Thread Cert.DwInBRefIdeal.nD Cert.DwInBRefIdeal.τ).loc Cert.DwInBRefIdeal.main_arg1) = m' ((c.tc : Thread Cert.DwInBRefIdeal.nD Cert.DwInBRefIdeal.τ).loc Cert.DwInBRefIdeal.main_arg1)
          ∧ r.2.mem ((c.tc : Thread Cert.DwInBRefIdeal.nD Cert.DwInBRefIdeal.τ).loc Cert.DwInBRefIdeal.main_arg2) = m' ((c.tc : Thread Cert.DwInBRefIdeal.nD Cert.DwInBRefIdeal.τ).loc Cert.DwInBRefIdeal.main_arg2)
          ∧ r.2.mem ((c.tc : Thread Cert.DwInBRefIdeal.nD Cert.DwInBRefIdeal.τ).loc Cert.DwInBRefIdeal.main_arg3) = m' ((c.tc : Thread Cert.DwInBRefIdeal.nD Cert.DwInBRefIdeal.τ).loc Cert.DwInBRefIdeal.main_arg3)
          ∧ r.2.mem ((c.tc : Thread Cert.DwInBRefIdeal.nD Cert.DwInBRefIdeal.τ).loc Cert.DwInBRefIdeal.main_arg4) = m' ((c.tc : Thread Cert.DwInBRefIdeal.nD Cert.DwInBRefIdeal.τ).loc Cert.DwInBRefIdeal.main_arg4))

def preserves_DInA_DInAIdeal : Prop :=
  True

def algebraic_DInAIdeal_DInARefIdeal [hDInAIdeal : Cert.DInAIdeal.Facts] [hDInARefIdeal : Cert.DInARefIdeal.Facts] : Prop :=
  ∀ (m : (ℓ : Loc Cert.DInAIdeal.nD Cert.DInAIdeal.τ Cert.DInAIdeal.sig) → Buf (Elt Ideal) ℓ) (g : Dev Cert.DInAIdeal.nD → PrngReg)
    (m' : (ℓ : Loc Cert.DInARefIdeal.nD Cert.DInARefIdeal.τ Cert.DInARefIdeal.sig) → Buf (Elt Ideal) ℓ) (g' : Dev Cert.DInARefIdeal.nD → PrngReg), Pre_DInAIdeal m →
    (∀ c : Dev Cert.DInAIdeal.nD,
      m' ((c.tc : Thread Cert.DInARefIdeal.nD Cert.DInARefIdeal.τ).loc Cert.DInARefIdeal.main_arg0) = m ((c.tc : Thread Cert.DInAIdeal.nD Cert.DInAIdeal.τ).loc Cert.DInAIdeal.main_arg0)
      ∧ m' ((c.tc : Thread Cert.DInARefIdeal.nD Cert.DInARefIdeal.τ).loc Cert.DInARefIdeal.main_arg1) = m ((c.tc : Thread Cert.DInAIdeal.nD Cert.DInAIdeal.τ).loc Cert.DInAIdeal.main_arg1)
      ∧ m' ((c.tc : Thread Cert.DInARefIdeal.nD Cert.DInARefIdeal.τ).loc Cert.DInARefIdeal.main_arg2) = m ((c.tc : Thread Cert.DInAIdeal.nD Cert.DInAIdeal.τ).loc Cert.DInAIdeal.main_arg2)
      ∧ m' ((c.tc : Thread Cert.DInARefIdeal.nD Cert.DInARefIdeal.τ).loc Cert.DInARefIdeal.main_arg3) = m ((c.tc : Thread Cert.DInAIdeal.nD Cert.DInAIdeal.τ).loc Cert.DInAIdeal.main_arg3)
      ∧ m' ((c.tc : Thread Cert.DInARefIdeal.nD Cert.DInARefIdeal.τ).loc Cert.DInARefIdeal.main_arg4) = m ((c.tc : Thread Cert.DInAIdeal.nD Cert.DInAIdeal.τ).loc Cert.DInAIdeal.main_arg4)
      ∧ m' ((c.tc : Thread Cert.DInARefIdeal.nD Cert.DInARefIdeal.τ).loc Cert.DInARefIdeal.main_arg5) = m ((c.tc : Thread Cert.DInAIdeal.nD Cert.DInAIdeal.τ).loc Cert.DInAIdeal.main_arg5)) →
    ∃ (v0 : (c : Dev Cert.DInAIdeal.nD) → Buf (Elt Ideal) ((c.tc : Thread Cert.DInAIdeal.nD Cert.DInAIdeal.τ).loc Cert.DInAIdeal.main_v1_0)) (v1 : (c : Dev Cert.DInAIdeal.nD) → Buf (Elt Ideal) ((c.tc : Thread Cert.DInAIdeal.nD Cert.DInAIdeal.τ).loc Cert.DInAIdeal.main_v1_1)),
      θ_run (Cert.DInAIdeal.defs (F := Ideal)) (onTc (τ := Cert.DInAIdeal.τ) (Cert.DInAIdeal.main (F := Ideal))) ⟨m, fun _ => 0, g⟩ (fun r => ∀ c : Dev Cert.DInAIdeal.nD,
          r.2.mem ((c.tc : Thread Cert.DInAIdeal.nD Cert.DInAIdeal.τ).loc Cert.DInAIdeal.main_v1_0) = v0 c
          ∧ r.2.mem ((c.tc : Thread Cert.DInAIdeal.nD Cert.DInAIdeal.τ).loc Cert.DInAIdeal.main_v1_1) = v1 c
          ∧ r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
          ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1)
          ∧ r.2.mem ((c.tc : Thread Cert.DInAIdeal.nD Cert.DInAIdeal.τ).loc Cert.DInAIdeal.main_arg2) = m ((c.tc : Thread Cert.DInAIdeal.nD Cert.DInAIdeal.τ).loc Cert.DInAIdeal.main_arg2)
          ∧ r.2.mem ((c.tc : Thread Cert.DInAIdeal.nD Cert.DInAIdeal.τ).loc Cert.DInAIdeal.main_arg3) = m ((c.tc : Thread Cert.DInAIdeal.nD Cert.DInAIdeal.τ).loc Cert.DInAIdeal.main_arg3)
          ∧ r.2.mem ((c.tc : Thread Cert.DInAIdeal.nD Cert.DInAIdeal.τ).loc Cert.DInAIdeal.main_arg4) = m ((c.tc : Thread Cert.DInAIdeal.nD Cert.DInAIdeal.τ).loc Cert.DInAIdeal.main_arg4)
          ∧ r.2.mem ((c.tc : Thread Cert.DInAIdeal.nD Cert.DInAIdeal.τ).loc Cert.DInAIdeal.main_arg5) = m ((c.tc : Thread Cert.DInAIdeal.nD Cert.DInAIdeal.τ).loc Cert.DInAIdeal.main_arg5))
      ∧ θ_run (Cert.DInARefIdeal.defs (F := Ideal)) (onTc (τ := Cert.DInARefIdeal.τ) (Cert.DInARefIdeal.main (F := Ideal))) ⟨m', fun _ => 0, g'⟩ (fun r => ∀ c : Dev Cert.DInARefIdeal.nD,
          r.2.mem ((c.tc : Thread Cert.DInARefIdeal.nD Cert.DInARefIdeal.τ).loc Cert.DInARefIdeal.main_v42) = v0 c
          ∧ r.2.mem ((c.tc : Thread Cert.DInARefIdeal.nD Cert.DInARefIdeal.τ).loc Cert.DInARefIdeal.main_v43) = v1 c
          ∧ r.2.mem ((c.tc : Thread Cert.DInARefIdeal.nD Cert.DInARefIdeal.τ).loc Cert.DInARefIdeal.main_arg0) = m' ((c.tc : Thread Cert.DInARefIdeal.nD Cert.DInARefIdeal.τ).loc Cert.DInARefIdeal.main_arg0)
          ∧ r.2.mem ((c.tc : Thread Cert.DInARefIdeal.nD Cert.DInARefIdeal.τ).loc Cert.DInARefIdeal.main_arg1) = m' ((c.tc : Thread Cert.DInARefIdeal.nD Cert.DInARefIdeal.τ).loc Cert.DInARefIdeal.main_arg1)
          ∧ r.2.mem ((c.tc : Thread Cert.DInARefIdeal.nD Cert.DInARefIdeal.τ).loc Cert.DInARefIdeal.main_arg2) = m' ((c.tc : Thread Cert.DInARefIdeal.nD Cert.DInARefIdeal.τ).loc Cert.DInARefIdeal.main_arg2)
          ∧ r.2.mem ((c.tc : Thread Cert.DInARefIdeal.nD Cert.DInARefIdeal.τ).loc Cert.DInARefIdeal.main_arg3) = m' ((c.tc : Thread Cert.DInARefIdeal.nD Cert.DInARefIdeal.τ).loc Cert.DInARefIdeal.main_arg3)
          ∧ r.2.mem ((c.tc : Thread Cert.DInARefIdeal.nD Cert.DInARefIdeal.τ).loc Cert.DInARefIdeal.main_arg4) = m' ((c.tc : Thread Cert.DInARefIdeal.nD Cert.DInARefIdeal.τ).loc Cert.DInARefIdeal.main_arg4)
          ∧ r.2.mem ((c.tc : Thread Cert.DInARefIdeal.nD Cert.DInARefIdeal.τ).loc Cert.DInARefIdeal.main_arg5) = m' ((c.tc : Thread Cert.DInARefIdeal.nD Cert.DInARefIdeal.τ).loc Cert.DInARefIdeal.main_arg5))

def preserves_DInB_DInBIdeal : Prop :=
  True

def algebraic_DInBIdeal_DInBRefIdeal [hDInBIdeal : Cert.DInBIdeal.Facts] [hDInBRefIdeal : Cert.DInBRefIdeal.Facts] : Prop :=
  ∀ (m : (ℓ : Loc Cert.DInBIdeal.nD Cert.DInBIdeal.τ Cert.DInBIdeal.sig) → Buf (Elt Ideal) ℓ) (g : Dev Cert.DInBIdeal.nD → PrngReg)
    (m' : (ℓ : Loc Cert.DInBRefIdeal.nD Cert.DInBRefIdeal.τ Cert.DInBRefIdeal.sig) → Buf (Elt Ideal) ℓ) (g' : Dev Cert.DInBRefIdeal.nD → PrngReg), Pre_DInBIdeal m →
    (∀ c : Dev Cert.DInBIdeal.nD,
      m' ((c.tc : Thread Cert.DInBRefIdeal.nD Cert.DInBRefIdeal.τ).loc Cert.DInBRefIdeal.main_arg0) = m ((c.tc : Thread Cert.DInBIdeal.nD Cert.DInBIdeal.τ).loc Cert.DInBIdeal.main_arg0)
      ∧ m' ((c.tc : Thread Cert.DInBRefIdeal.nD Cert.DInBRefIdeal.τ).loc Cert.DInBRefIdeal.main_arg1) = m ((c.tc : Thread Cert.DInBIdeal.nD Cert.DInBIdeal.τ).loc Cert.DInBIdeal.main_arg1)
      ∧ m' ((c.tc : Thread Cert.DInBRefIdeal.nD Cert.DInBRefIdeal.τ).loc Cert.DInBRefIdeal.main_arg2) = m ((c.tc : Thread Cert.DInBIdeal.nD Cert.DInBIdeal.τ).loc Cert.DInBIdeal.main_arg2)
      ∧ m' ((c.tc : Thread Cert.DInBRefIdeal.nD Cert.DInBRefIdeal.τ).loc Cert.DInBRefIdeal.main_arg3) = m ((c.tc : Thread Cert.DInBIdeal.nD Cert.DInBIdeal.τ).loc Cert.DInBIdeal.main_arg3)
      ∧ m' ((c.tc : Thread Cert.DInBRefIdeal.nD Cert.DInBRefIdeal.τ).loc Cert.DInBRefIdeal.main_arg4) = m ((c.tc : Thread Cert.DInBIdeal.nD Cert.DInBIdeal.τ).loc Cert.DInBIdeal.main_arg4)
      ∧ m' ((c.tc : Thread Cert.DInBRefIdeal.nD Cert.DInBRefIdeal.τ).loc Cert.DInBRefIdeal.main_arg5) = m ((c.tc : Thread Cert.DInBIdeal.nD Cert.DInBIdeal.τ).loc Cert.DInBIdeal.main_arg5)
      ∧ m' ((c.tc : Thread Cert.DInBRefIdeal.nD Cert.DInBRefIdeal.τ).loc Cert.DInBRefIdeal.main_arg6) = m ((c.tc : Thread Cert.DInBIdeal.nD Cert.DInBIdeal.τ).loc Cert.DInBIdeal.main_arg6)
      ∧ m' ((c.tc : Thread Cert.DInBRefIdeal.nD Cert.DInBRefIdeal.τ).loc Cert.DInBRefIdeal.main_arg7) = m ((c.tc : Thread Cert.DInBIdeal.nD Cert.DInBIdeal.τ).loc Cert.DInBIdeal.main_arg7)) →
    ∃ (v0 : (c : Dev Cert.DInBIdeal.nD) → Buf (Elt Ideal) ((c.tc : Thread Cert.DInBIdeal.nD Cert.DInBIdeal.τ).loc Cert.DInBIdeal.main_v1_0)) (v1 : (c : Dev Cert.DInBIdeal.nD) → Buf (Elt Ideal) ((c.tc : Thread Cert.DInBIdeal.nD Cert.DInBIdeal.τ).loc Cert.DInBIdeal.main_v1_1)),
      θ_run (Cert.DInBIdeal.defs (F := Ideal)) (onTc (τ := Cert.DInBIdeal.τ) (Cert.DInBIdeal.main (F := Ideal))) ⟨m, fun _ => 0, g⟩ (fun r => ∀ c : Dev Cert.DInBIdeal.nD,
          r.2.mem ((c.tc : Thread Cert.DInBIdeal.nD Cert.DInBIdeal.τ).loc Cert.DInBIdeal.main_v1_0) = v0 c
          ∧ r.2.mem ((c.tc : Thread Cert.DInBIdeal.nD Cert.DInBIdeal.τ).loc Cert.DInBIdeal.main_v1_1) = v1 c
          ∧ r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
          ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1)
          ∧ r.2.mem ((c.tc : Thread Cert.DInBIdeal.nD Cert.DInBIdeal.τ).loc Cert.DInBIdeal.main_arg2) = m ((c.tc : Thread Cert.DInBIdeal.nD Cert.DInBIdeal.τ).loc Cert.DInBIdeal.main_arg2)
          ∧ r.2.mem ((c.tc : Thread Cert.DInBIdeal.nD Cert.DInBIdeal.τ).loc Cert.DInBIdeal.main_arg3) = m ((c.tc : Thread Cert.DInBIdeal.nD Cert.DInBIdeal.τ).loc Cert.DInBIdeal.main_arg3)
          ∧ r.2.mem ((c.tc : Thread Cert.DInBIdeal.nD Cert.DInBIdeal.τ).loc Cert.DInBIdeal.main_arg4) = m ((c.tc : Thread Cert.DInBIdeal.nD Cert.DInBIdeal.τ).loc Cert.DInBIdeal.main_arg4)
          ∧ r.2.mem ((c.tc : Thread Cert.DInBIdeal.nD Cert.DInBIdeal.τ).loc Cert.DInBIdeal.main_arg5) = m ((c.tc : Thread Cert.DInBIdeal.nD Cert.DInBIdeal.τ).loc Cert.DInBIdeal.main_arg5)
          ∧ r.2.mem ((c.tc : Thread Cert.DInBIdeal.nD Cert.DInBIdeal.τ).loc Cert.DInBIdeal.main_arg6) = m ((c.tc : Thread Cert.DInBIdeal.nD Cert.DInBIdeal.τ).loc Cert.DInBIdeal.main_arg6)
          ∧ r.2.mem ((c.tc : Thread Cert.DInBIdeal.nD Cert.DInBIdeal.τ).loc Cert.DInBIdeal.main_arg7) = m ((c.tc : Thread Cert.DInBIdeal.nD Cert.DInBIdeal.τ).loc Cert.DInBIdeal.main_arg7))
      ∧ θ_run (Cert.DInBRefIdeal.defs (F := Ideal)) (onTc (τ := Cert.DInBRefIdeal.τ) (Cert.DInBRefIdeal.main (F := Ideal))) ⟨m', fun _ => 0, g'⟩ (fun r => ∀ c : Dev Cert.DInBRefIdeal.nD,
          r.2.mem ((c.tc : Thread Cert.DInBRefIdeal.nD Cert.DInBRefIdeal.τ).loc Cert.DInBRefIdeal.main_v44) = v0 c
          ∧ r.2.mem ((c.tc : Thread Cert.DInBRefIdeal.nD Cert.DInBRefIdeal.τ).loc Cert.DInBRefIdeal.main_v45) = v1 c
          ∧ r.2.mem ((c.tc : Thread Cert.DInBRefIdeal.nD Cert.DInBRefIdeal.τ).loc Cert.DInBRefIdeal.main_arg0) = m' ((c.tc : Thread Cert.DInBRefIdeal.nD Cert.DInBRefIdeal.τ).loc Cert.DInBRefIdeal.main_arg0)
          ∧ r.2.mem ((c.tc : Thread Cert.DInBRefIdeal.nD Cert.DInBRefIdeal.τ).loc Cert.DInBRefIdeal.main_arg1) = m' ((c.tc : Thread Cert.DInBRefIdeal.nD Cert.DInBRefIdeal.τ).loc Cert.DInBRefIdeal.main_arg1)
          ∧ r.2.mem ((c.tc : Thread Cert.DInBRefIdeal.nD Cert.DInBRefIdeal.τ).loc Cert.DInBRefIdeal.main_arg2) = m' ((c.tc : Thread Cert.DInBRefIdeal.nD Cert.DInBRefIdeal.τ).loc Cert.DInBRefIdeal.main_arg2)
          ∧ r.2.mem ((c.tc : Thread Cert.DInBRefIdeal.nD Cert.DInBRefIdeal.τ).loc Cert.DInBRefIdeal.main_arg3) = m' ((c.tc : Thread Cert.DInBRefIdeal.nD Cert.DInBRefIdeal.τ).loc Cert.DInBRefIdeal.main_arg3)
          ∧ r.2.mem ((c.tc : Thread Cert.DInBRefIdeal.nD Cert.DInBRefIdeal.τ).loc Cert.DInBRefIdeal.main_arg4) = m' ((c.tc : Thread Cert.DInBRefIdeal.nD Cert.DInBRefIdeal.τ).loc Cert.DInBRefIdeal.main_arg4)
          ∧ r.2.mem ((c.tc : Thread Cert.DInBRefIdeal.nD Cert.DInBRefIdeal.τ).loc Cert.DInBRefIdeal.main_arg5) = m' ((c.tc : Thread Cert.DInBRefIdeal.nD Cert.DInBRefIdeal.τ).loc Cert.DInBRefIdeal.main_arg5)
          ∧ r.2.mem ((c.tc : Thread Cert.DInBRefIdeal.nD Cert.DInBRefIdeal.τ).loc Cert.DInBRefIdeal.main_arg6) = m' ((c.tc : Thread Cert.DInBRefIdeal.nD Cert.DInBRefIdeal.τ).loc Cert.DInBRefIdeal.main_arg6)
          ∧ r.2.mem ((c.tc : Thread Cert.DInBRefIdeal.nD Cert.DInBRefIdeal.τ).loc Cert.DInBRefIdeal.main_arg7) = m' ((c.tc : Thread Cert.DInBRefIdeal.nD Cert.DInBRefIdeal.τ).loc Cert.DInBRefIdeal.main_arg7))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v1) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v13) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_MemKvGrad_MemKvGradIdeal : Prop :=
  True

def algebraic_MemKvGradIdeal_MemKvGradRefIdeal [hMemKvGradIdeal : Cert.MemKvGradIdeal.Facts] [hMemKvGradRefIdeal : Cert.MemKvGradRefIdeal.Facts] : Prop :=
  ∀ (m : (ℓ : Loc Cert.MemKvGradIdeal.nD Cert.MemKvGradIdeal.τ Cert.MemKvGradIdeal.sig) → Buf (Elt Ideal) ℓ) (g : Dev Cert.MemKvGradIdeal.nD → PrngReg)
    (m' : (ℓ : Loc Cert.MemKvGradRefIdeal.nD Cert.MemKvGradRefIdeal.τ Cert.MemKvGradRefIdeal.sig) → Buf (Elt Ideal) ℓ) (g' : Dev Cert.MemKvGradRefIdeal.nD → PrngReg), Pre_MemKvGradIdeal m →
    (∀ c : Dev Cert.MemKvGradIdeal.nD,
      m' ((c.tc : Thread Cert.MemKvGradRefIdeal.nD Cert.MemKvGradRefIdeal.τ).loc Cert.MemKvGradRefIdeal.main_arg0) = m ((c.tc : Thread Cert.MemKvGradIdeal.nD Cert.MemKvGradIdeal.τ).loc Cert.MemKvGradIdeal.main_arg0)
      ∧ m' ((c.tc : Thread Cert.MemKvGradRefIdeal.nD Cert.MemKvGradRefIdeal.τ).loc Cert.MemKvGradRefIdeal.main_arg1) = m ((c.tc : Thread Cert.MemKvGradIdeal.nD Cert.MemKvGradIdeal.τ).loc Cert.MemKvGradIdeal.main_arg1)
      ∧ m' ((c.tc : Thread Cert.MemKvGradRefIdeal.nD Cert.MemKvGradRefIdeal.τ).loc Cert.MemKvGradRefIdeal.main_arg2) = m ((c.tc : Thread Cert.MemKvGradIdeal.nD Cert.MemKvGradIdeal.τ).loc Cert.MemKvGradIdeal.main_arg2)
      ∧ m' ((c.tc : Thread Cert.MemKvGradRefIdeal.nD Cert.MemKvGradRefIdeal.τ).loc Cert.MemKvGradRefIdeal.main_arg3) = m ((c.tc : Thread Cert.MemKvGradIdeal.nD Cert.MemKvGradIdeal.τ).loc Cert.MemKvGradIdeal.main_arg3)) →
    ∃ (v0 : (c : Dev Cert.MemKvGradIdeal.nD) → Buf (Elt Ideal) ((c.tc : Thread Cert.MemKvGradIdeal.nD Cert.MemKvGradIdeal.τ).loc Cert.MemKvGradIdeal.main_v1_0)) (v1 : (c : Dev Cert.MemKvGradIdeal.nD) → Buf (Elt Ideal) ((c.tc : Thread Cert.MemKvGradIdeal.nD Cert.MemKvGradIdeal.τ).loc Cert.MemKvGradIdeal.main_v1_1)),
      θ_run (Cert.MemKvGradIdeal.defs (F := Ideal)) (onTc (τ := Cert.MemKvGradIdeal.τ) (Cert.MemKvGradIdeal.main (F := Ideal))) ⟨m, fun _ => 0, g⟩ (fun r => ∀ c : Dev Cert.MemKvGradIdeal.nD,
          r.2.mem ((c.tc : Thread Cert.MemKvGradIdeal.nD Cert.MemKvGradIdeal.τ).loc Cert.MemKvGradIdeal.main_v1_0) = v0 c
          ∧ r.2.mem ((c.tc : Thread Cert.MemKvGradIdeal.nD Cert.MemKvGradIdeal.τ).loc Cert.MemKvGradIdeal.main_v1_1) = v1 c
          ∧ r.2.mem ((c.tc : Thread Cert.MemKvGradIdeal.nD Cert.MemKvGradIdeal.τ).loc Cert.MemKvGradIdeal.main_arg0) = m ((c.tc : Thread Cert.MemKvGradIdeal.nD Cert.MemKvGradIdeal.τ).loc Cert.MemKvGradIdeal.main_arg0)
          ∧ r.2.mem ((c.tc : Thread Cert.MemKvGradIdeal.nD Cert.MemKvGradIdeal.τ).loc Cert.MemKvGradIdeal.main_arg1) = m ((c.tc : Thread Cert.MemKvGradIdeal.nD Cert.MemKvGradIdeal.τ).loc Cert.MemKvGradIdeal.main_arg1)
          ∧ r.2.mem ((c.tc : Thread Cert.MemKvGradIdeal.nD Cert.MemKvGradIdeal.τ).loc Cert.MemKvGradIdeal.main_arg2) = m ((c.tc : Thread Cert.MemKvGradIdeal.nD Cert.MemKvGradIdeal.τ).loc Cert.MemKvGradIdeal.main_arg2)
          ∧ r.2.mem ((c.tc : Thread Cert.MemKvGradIdeal.nD Cert.MemKvGradIdeal.τ).loc Cert.MemKvGradIdeal.main_arg3) = m ((c.tc : Thread Cert.MemKvGradIdeal.nD Cert.MemKvGradIdeal.τ).loc Cert.MemKvGradIdeal.main_arg3))
      ∧ θ_run (Cert.MemKvGradRefIdeal.defs (F := Ideal)) (onTc (τ := Cert.MemKvGradRefIdeal.τ) (Cert.MemKvGradRefIdeal.main (F := Ideal))) ⟨m', fun _ => 0, g'⟩ (fun r => ∀ c : Dev Cert.MemKvGradRefIdeal.nD,
          r.2.mem ((c.tc : Thread Cert.MemKvGradRefIdeal.nD Cert.MemKvGradRefIdeal.τ).loc Cert.MemKvGradRefIdeal.main_v22) = v0 c
          ∧ r.2.mem ((c.tc : Thread Cert.MemKvGradRefIdeal.nD Cert.MemKvGradRefIdeal.τ).loc Cert.MemKvGradRefIdeal.main_v16) = v1 c
          ∧ r.2.mem ((c.tc : Thread Cert.MemKvGradRefIdeal.nD Cert.MemKvGradRefIdeal.τ).loc Cert.MemKvGradRefIdeal.main_arg0) = m' ((c.tc : Thread Cert.MemKvGradRefIdeal.nD Cert.MemKvGradRefIdeal.τ).loc Cert.MemKvGradRefIdeal.main_arg0)
          ∧ r.2.mem ((c.tc : Thread Cert.MemKvGradRefIdeal.nD Cert.MemKvGradRefIdeal.τ).loc Cert.MemKvGradRefIdeal.main_arg1) = m' ((c.tc : Thread Cert.MemKvGradRefIdeal.nD Cert.MemKvGradRefIdeal.τ).loc Cert.MemKvGradRefIdeal.main_arg1)
          ∧ r.2.mem ((c.tc : Thread Cert.MemKvGradRefIdeal.nD Cert.MemKvGradRefIdeal.τ).loc Cert.MemKvGradRefIdeal.main_arg2) = m' ((c.tc : Thread Cert.MemKvGradRefIdeal.nD Cert.MemKvGradRefIdeal.τ).loc Cert.MemKvGradRefIdeal.main_arg2)
          ∧ r.2.mem ((c.tc : Thread Cert.MemKvGradRefIdeal.nD Cert.MemKvGradRefIdeal.τ).loc Cert.MemKvGradRefIdeal.main_arg3) = m' ((c.tc : Thread Cert.MemKvGradRefIdeal.nD Cert.MemKvGradRefIdeal.τ).loc Cert.MemKvGradRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)
      ∧ m' ((c.tc : Thread Cert.AdamGuRefIdeal.nD Cert.AdamGuRefIdeal.τ).loc Cert.AdamGuRefIdeal.main_arg4) = m ((c.tc : Thread Cert.AdamGuIdeal.nD Cert.AdamGuIdeal.τ).loc Cert.AdamGuIdeal.main_arg4)) →
    ∃ (v0 : (c : Dev Cert.AdamGuIdeal.nD) → Buf (Elt Ideal) ((c.tc : Thread Cert.AdamGuIdeal.nD Cert.AdamGuIdeal.τ).loc Cert.AdamGuIdeal.main_v0_0)) (v1 : (c : Dev Cert.AdamGuIdeal.nD) → Buf (Elt Ideal) ((c.tc : Thread Cert.AdamGuIdeal.nD Cert.AdamGuIdeal.τ).loc Cert.AdamGuIdeal.main_v0_1)) (v2 : (c : Dev Cert.AdamGuIdeal.nD) → Buf (Elt Ideal) ((c.tc : Thread Cert.AdamGuIdeal.nD Cert.AdamGuIdeal.τ).loc Cert.AdamGuIdeal.main_v0_2)) (v3 : (c : Dev Cert.AdamGuIdeal.nD) → Buf (Elt Ideal) ((c.tc : Thread Cert.AdamGuIdeal.nD Cert.AdamGuIdeal.τ).loc Cert.AdamGuIdeal.main_v0_3)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v0_0) = v0 c
          ∧ r.2.mem ((c.tc : Thread Cert.AdamGuIdeal.nD Cert.AdamGuIdeal.τ).loc Cert.AdamGuIdeal.main_v0_1) = v1 c
          ∧ r.2.mem ((c.tc : Thread Cert.AdamGuIdeal.nD Cert.AdamGuIdeal.τ).loc Cert.AdamGuIdeal.main_v0_2) = v2 c
          ∧ r.2.mem ((c.tc : Thread Cert.AdamGuIdeal.nD Cert.AdamGuIdeal.τ).loc Cert.AdamGuIdeal.main_v0_3) = v3 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3)
          ∧ r.2.mem ((c.tc : Thread Cert.AdamGuIdeal.nD Cert.AdamGuIdeal.τ).loc Cert.AdamGuIdeal.main_arg4) = m ((c.tc : Thread Cert.AdamGuIdeal.nD Cert.AdamGuIdeal.τ).loc Cert.AdamGuIdeal.main_arg4))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v2) = v0 c
          ∧ r.2.mem ((c.tc : Thread Cert.AdamGuRefIdeal.nD Cert.AdamGuRefIdeal.τ).loc Cert.AdamGuRefIdeal.main_v26) = v1 c
          ∧ r.2.mem ((c.tc : Thread Cert.AdamGuRefIdeal.nD Cert.AdamGuRefIdeal.τ).loc Cert.AdamGuRefIdeal.main_v7) = v2 c
          ∧ r.2.mem ((c.tc : Thread Cert.AdamGuRefIdeal.nD Cert.AdamGuRefIdeal.τ).loc Cert.AdamGuRefIdeal.main_v13) = v3 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3)
          ∧ r.2.mem ((c.tc : Thread Cert.AdamGuRefIdeal.nD Cert.AdamGuRefIdeal.τ).loc Cert.AdamGuRefIdeal.main_arg4) = m' ((c.tc : Thread Cert.AdamGuRefIdeal.nD Cert.AdamGuRefIdeal.τ).loc Cert.AdamGuRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamMem_AdamMemIdeal : Prop :=
  True

def algebraic_AdamMemIdeal_AdamMemRefIdeal [hAdamMemIdeal : Cert.AdamMemIdeal.Facts] [hAdamMemRefIdeal : Cert.AdamMemRefIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg)
    (m' : (ℓ : Loc Cert.AdamMemRefIdeal.nD Cert.AdamMemRefIdeal.τ Cert.AdamMemRefIdeal.sig) → Buf (Elt Ideal) ℓ) (g' : Dev Cert.AdamMemRefIdeal.nD → PrngReg), Pre_AdamMemIdeal m →
    (∀ c : Dev Cert.AdamMemIdeal.nD,
      m' ((c.tc : Thread Cert.AdamMemRefIdeal.nD Cert.AdamMemRefIdeal.τ).loc Cert.AdamMemRefIdeal.main_arg0) = m ((c.tc : Thread Cert.AdamMemIdeal.nD Cert.AdamMemIdeal.τ).loc Cert.AdamMemIdeal.main_arg0)
      ∧ m' ((c.tc : Thread Cert.AdamMemRefIdeal.nD Cert.AdamMemRefIdeal.τ).loc Cert.AdamMemRefIdeal.main_arg1) = m ((c.tc : Thread Cert.AdamMemIdeal.nD Cert.AdamMemIdeal.τ).loc Cert.AdamMemIdeal.main_arg1)
      ∧ m' ((c.tc : Thread Cert.AdamMemRefIdeal.nD Cert.AdamMemRefIdeal.τ).loc Cert.AdamMemRefIdeal.main_arg2) = m ((c.tc : Thread Cert.AdamMemIdeal.nD Cert.AdamMemIdeal.τ).loc Cert.AdamMemIdeal.main_arg2)
      ∧ m' ((c.tc : Thread Cert.AdamMemRefIdeal.nD Cert.AdamMemRefIdeal.τ).loc Cert.AdamMemRefIdeal.main_arg3) = m ((c.tc : Thread Cert.AdamMemIdeal.nD Cert.AdamMemIdeal.τ).loc Cert.AdamMemIdeal.main_arg3)
      ∧ m' ((c.tc : Thread Cert.AdamMemRefIdeal.nD Cert.AdamMemRefIdeal.τ).loc Cert.AdamMemRefIdeal.main_arg4) = m ((c.tc : Thread Cert.AdamMemIdeal.nD Cert.AdamMemIdeal.τ).loc Cert.AdamMemIdeal.main_arg4)) →
    ∃ (v0 : (c : Dev Cert.AdamMemIdeal.nD) → Buf (Elt Ideal) ((c.tc : Thread Cert.AdamMemIdeal.nD Cert.AdamMemIdeal.τ).loc Cert.AdamMemIdeal.main_v0_0)) (v1 : (c : Dev Cert.AdamMemIdeal.nD) → Buf (Elt Ideal) ((c.tc : Thread Cert.AdamMemIdeal.nD Cert.AdamMemIdeal.τ).loc Cert.AdamMemIdeal.main_v0_1)) (v2 : (c : Dev Cert.AdamMemIdeal.nD) → Buf (Elt Ideal) ((c.tc : Thread Cert.AdamMemIdeal.nD Cert.AdamMemIdeal.τ).loc Cert.AdamMemIdeal.main_v0_2)) (v3 : (c : Dev Cert.AdamMemIdeal.nD) → Buf (Elt Ideal) ((c.tc : Thread Cert.AdamMemIdeal.nD Cert.AdamMemIdeal.τ).loc Cert.AdamMemIdeal.main_v0_3)),
      θ_run (Cert.AdamMemIdeal.defs (F := Ideal)) (onTc (τ := Cert.AdamMemIdeal.τ) (Cert.AdamMemIdeal.main (F := Ideal))) ⟨m, fun _ => 0, g⟩ (fun r => ∀ c : Dev Cert.AdamMemIdeal.nD,
          r.2.mem ((c.tc : Thread Cert.AdamMemIdeal.nD Cert.AdamMemIdeal.τ).loc Cert.AdamMemIdeal.main_v0_0) = v0 c
          ∧ r.2.mem ((c.tc : Thread Cert.AdamMemIdeal.nD Cert.AdamMemIdeal.τ).loc Cert.AdamMemIdeal.main_v0_1) = v1 c
          ∧ r.2.mem ((c.tc : Thread Cert.AdamMemIdeal.nD Cert.AdamMemIdeal.τ).loc Cert.AdamMemIdeal.main_v0_2) = v2 c
          ∧ r.2.mem ((c.tc : Thread Cert.AdamMemIdeal.nD Cert.AdamMemIdeal.τ).loc Cert.AdamMemIdeal.main_v0_3) = v3 c
          ∧ r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
          ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
          ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
          ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3)
          ∧ r.2.mem ((c.tc : Thread Cert.AdamMemIdeal.nD Cert.AdamMemIdeal.τ).loc Cert.AdamMemIdeal.main_arg4) = m ((c.tc : Thread Cert.AdamMemIdeal.nD Cert.AdamMemIdeal.τ).loc Cert.AdamMemIdeal.main_arg4))
      ∧ θ_run (Cert.AdamMemRefIdeal.defs (F := Ideal)) (onTc (τ := Cert.AdamMemRefIdeal.τ) (Cert.AdamMemRefIdeal.main (F := Ideal))) ⟨m', fun _ => 0, g'⟩ (fun r => ∀ c : Dev Cert.AdamMemRefIdeal.nD,
          r.2.mem ((c.tc : Thread Cert.AdamMemRefIdeal.nD Cert.AdamMemRefIdeal.τ).loc Cert.AdamMemRefIdeal.main_v2) = v0 c
          ∧ r.2.mem ((c.tc : Thread Cert.AdamMemRefIdeal.nD Cert.AdamMemRefIdeal.τ).loc Cert.AdamMemRefIdeal.main_v26) = v1 c
          ∧ r.2.mem ((c.tc : Thread Cert.AdamMemRefIdeal.nD Cert.AdamMemRefIdeal.τ).loc Cert.AdamMemRefIdeal.main_v7) = v2 c
          ∧ r.2.mem ((c.tc : Thread Cert.AdamMemRefIdeal.nD Cert.AdamMemRefIdeal.τ).loc Cert.AdamMemRefIdeal.main_v13) = v3 c
          ∧ r.2.mem ((c.tc : Thread Cert.AdamMemRefIdeal.nD Cert.AdamMemRefIdeal.τ).loc Cert.AdamMemRefIdeal.main_arg0) = m' ((c.tc : Thread Cert.AdamMemRefIdeal.nD Cert.AdamMemRefIdeal.τ).loc Cert.AdamMemRefIdeal.main_arg0)
          ∧ r.2.mem ((c.tc : Thread Cert.AdamMemRefIdeal.nD Cert.AdamMemRefIdeal.τ).loc Cert.AdamMemRefIdeal.main_arg1) = m' ((c.tc : Thread Cert.AdamMemRefIdeal.nD Cert.AdamMemRefIdeal.τ).loc Cert.AdamMemRefIdeal.main_arg1)
          ∧ r.2.mem ((c.tc : Thread Cert.AdamMemRefIdeal.nD Cert.AdamMemRefIdeal.τ).loc Cert.AdamMemRefIdeal.main_arg2) = m' ((c.tc : Thread Cert.AdamMemRefIdeal.nD Cert.AdamMemRefIdeal.τ).loc Cert.AdamMemRefIdeal.main_arg2)
          ∧ r.2.mem ((c.tc : Thread Cert.AdamMemRefIdeal.nD Cert.AdamMemRefIdeal.τ).loc Cert.AdamMemRefIdeal.main_arg3) = m' ((c.tc : Thread Cert.AdamMemRefIdeal.nD Cert.AdamMemRefIdeal.τ).loc Cert.AdamMemRefIdeal.main_arg3)
          ∧ r.2.mem ((c.tc : Thread Cert.AdamMemRefIdeal.nD Cert.AdamMemRefIdeal.τ).loc Cert.AdamMemRefIdeal.main_arg4) = m' ((c.tc : Thread Cert.AdamMemRefIdeal.nD Cert.AdamMemRefIdeal.τ).loc Cert.AdamMemRefIdeal.main_arg4))

def preserves_AdamInA_AdamInAIdeal : Prop :=
  True

def algebraic_AdamInAIdeal_AdamInARefIdeal [hAdamInAIdeal : Cert.AdamInAIdeal.Facts] [hAdamInARefIdeal : Cert.AdamInARefIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg)
    (m' : (ℓ : Loc Cert.AdamInARefIdeal.nD Cert.AdamInARefIdeal.τ Cert.AdamInARefIdeal.sig) → Buf (Elt Ideal) ℓ) (g' : Dev Cert.AdamInARefIdeal.nD → PrngReg), Pre_AdamInAIdeal m →
    (∀ c : Dev Cert.AdamInAIdeal.nD,
      m' ((c.tc : Thread Cert.AdamInARefIdeal.nD Cert.AdamInARefIdeal.τ).loc Cert.AdamInARefIdeal.main_arg0) = m ((c.tc : Thread Cert.AdamInAIdeal.nD Cert.AdamInAIdeal.τ).loc Cert.AdamInAIdeal.main_arg0)
      ∧ m' ((c.tc : Thread Cert.AdamInARefIdeal.nD Cert.AdamInARefIdeal.τ).loc Cert.AdamInARefIdeal.main_arg1) = m ((c.tc : Thread Cert.AdamInAIdeal.nD Cert.AdamInAIdeal.τ).loc Cert.AdamInAIdeal.main_arg1)
      ∧ m' ((c.tc : Thread Cert.AdamInARefIdeal.nD Cert.AdamInARefIdeal.τ).loc Cert.AdamInARefIdeal.main_arg2) = m ((c.tc : Thread Cert.AdamInAIdeal.nD Cert.AdamInAIdeal.τ).loc Cert.AdamInAIdeal.main_arg2)
      ∧ m' ((c.tc : Thread Cert.AdamInARefIdeal.nD Cert.AdamInARefIdeal.τ).loc Cert.AdamInARefIdeal.main_arg3) = m ((c.tc : Thread Cert.AdamInAIdeal.nD Cert.AdamInAIdeal.τ).loc Cert.AdamInAIdeal.main_arg3)) →
    ∃ (v0 : (c : Dev Cert.AdamInAIdeal.nD) → Buf (Elt Ideal) ((c.tc : Thread Cert.AdamInAIdeal.nD Cert.AdamInAIdeal.τ).loc Cert.AdamInAIdeal.main_v0_0)) (v1 : (c : Dev Cert.AdamInAIdeal.nD) → Buf (Elt Ideal) ((c.tc : Thread Cert.AdamInAIdeal.nD Cert.AdamInAIdeal.τ).loc Cert.AdamInAIdeal.main_v0_1)) (v2 : (c : Dev Cert.AdamInAIdeal.nD) → Buf (Elt Ideal) ((c.tc : Thread Cert.AdamInAIdeal.nD Cert.AdamInAIdeal.τ).loc Cert.AdamInAIdeal.main_v0_2)) (v3 : (c : Dev Cert.AdamInAIdeal.nD) → Buf (Elt Ideal) ((c.tc : Thread Cert.AdamInAIdeal.nD Cert.AdamInAIdeal.τ).loc Cert.AdamInAIdeal.main_v0_3)),
      θ_run (Cert.AdamInAIdeal.defs (F := Ideal)) (onTc (τ := Cert.AdamInAIdeal.τ) (Cert.AdamInAIdeal.main (F := Ideal))) ⟨m, fun _ => 0, g⟩ (fun r => ∀ c : Dev Cert.AdamInAIdeal.nD,
          r.2.mem ((c.tc : Thread Cert.AdamInAIdeal.nD Cert.AdamInAIdeal.τ).loc Cert.AdamInAIdeal.main_v0_0) = v0 c
          ∧ r.2.mem ((c.tc : Thread Cert.AdamInAIdeal.nD Cert.AdamInAIdeal.τ).loc Cert.AdamInAIdeal.main_v0_1) = v1 c
          ∧ r.2.mem ((c.tc : Thread Cert.AdamInAIdeal.nD Cert.AdamInAIdeal.τ).loc Cert.AdamInAIdeal.main_v0_2) = v2 c
          ∧ r.2.mem ((c.tc : Thread Cert.AdamInAIdeal.nD Cert.AdamInAIdeal.τ).loc Cert.AdamInAIdeal.main_v0_3) = v3 c
          ∧ r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
          ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
          ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
          ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ θ_run (Cert.AdamInARefIdeal.defs (F := Ideal)) (onTc (τ := Cert.AdamInARefIdeal.τ) (Cert.AdamInARefIdeal.main (F := Ideal))) ⟨m', fun _ => 0, g'⟩ (fun r => ∀ c : Dev Cert.AdamInARefIdeal.nD,
          r.2.mem ((c.tc : Thread Cert.AdamInARefIdeal.nD Cert.AdamInARefIdeal.τ).loc Cert.AdamInARefIdeal.main_v0) = v0 c
          ∧ r.2.mem ((c.tc : Thread Cert.AdamInARefIdeal.nD Cert.AdamInARefIdeal.τ).loc Cert.AdamInARefIdeal.main_v25) = v1 c
          ∧ r.2.mem ((c.tc : Thread Cert.AdamInARefIdeal.nD Cert.AdamInARefIdeal.τ).loc Cert.AdamInARefIdeal.main_v6) = v2 c
          ∧ r.2.mem ((c.tc : Thread Cert.AdamInARefIdeal.nD Cert.AdamInARefIdeal.τ).loc Cert.AdamInARefIdeal.main_v12) = v3 c
          ∧ r.2.mem ((c.tc : Thread Cert.AdamInARefIdeal.nD Cert.AdamInARefIdeal.τ).loc Cert.AdamInARefIdeal.main_arg0) = m' ((c.tc : Thread Cert.AdamInARefIdeal.nD Cert.AdamInARefIdeal.τ).loc Cert.AdamInARefIdeal.main_arg0)
          ∧ r.2.mem ((c.tc : Thread Cert.AdamInARefIdeal.nD Cert.AdamInARefIdeal.τ).loc Cert.AdamInARefIdeal.main_arg1) = m' ((c.tc : Thread Cert.AdamInARefIdeal.nD Cert.AdamInARefIdeal.τ).loc Cert.AdamInARefIdeal.main_arg1)
          ∧ r.2.mem ((c.tc : Thread Cert.AdamInARefIdeal.nD Cert.AdamInARefIdeal.τ).loc Cert.AdamInARefIdeal.main_arg2) = m' ((c.tc : Thread Cert.AdamInARefIdeal.nD Cert.AdamInARefIdeal.τ).loc Cert.AdamInARefIdeal.main_arg2)
          ∧ r.2.mem ((c.tc : Thread Cert.AdamInARefIdeal.nD Cert.AdamInARefIdeal.τ).loc Cert.AdamInARefIdeal.main_arg3) = m' ((c.tc : Thread Cert.AdamInARefIdeal.nD Cert.AdamInARefIdeal.τ).loc Cert.AdamInARefIdeal.main_arg3))

def preserves_AdamInB_AdamInBIdeal : Prop :=
  True

def algebraic_AdamInBIdeal_AdamInBRefIdeal [hAdamInBIdeal : Cert.AdamInBIdeal.Facts] [hAdamInBRefIdeal : Cert.AdamInBRefIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg)
    (m' : (ℓ : Loc Cert.AdamInBRefIdeal.nD Cert.AdamInBRefIdeal.τ Cert.AdamInBRefIdeal.sig) → Buf (Elt Ideal) ℓ) (g' : Dev Cert.AdamInBRefIdeal.nD → PrngReg), Pre_AdamInBIdeal m →
    (∀ c : Dev Cert.AdamInBIdeal.nD,
      m' ((c.tc : Thread Cert.AdamInBRefIdeal.nD Cert.AdamInBRefIdeal.τ).loc Cert.AdamInBRefIdeal.main_arg0) = m ((c.tc : Thread Cert.AdamInBIdeal.nD Cert.AdamInBIdeal.τ).loc Cert.AdamInBIdeal.main_arg0)
      ∧ m' ((c.tc : Thread Cert.AdamInBRefIdeal.nD Cert.AdamInBRefIdeal.τ).loc Cert.AdamInBRefIdeal.main_arg1) = m ((c.tc : Thread Cert.AdamInBIdeal.nD Cert.AdamInBIdeal.τ).loc Cert.AdamInBIdeal.main_arg1)
      ∧ m' ((c.tc : Thread Cert.AdamInBRefIdeal.nD Cert.AdamInBRefIdeal.τ).loc Cert.AdamInBRefIdeal.main_arg2) = m ((c.tc : Thread Cert.AdamInBIdeal.nD Cert.AdamInBIdeal.τ).loc Cert.AdamInBIdeal.main_arg2)
      ∧ m' ((c.tc : Thread Cert.AdamInBRefIdeal.nD Cert.AdamInBRefIdeal.τ).loc Cert.AdamInBRefIdeal.main_arg3) = m ((c.tc : Thread Cert.AdamInBIdeal.nD Cert.AdamInBIdeal.τ).loc Cert.AdamInBIdeal.main_arg3)) →
    ∃ (v0 : (c : Dev Cert.AdamInBIdeal.nD) → Buf (Elt Ideal) ((c.tc : Thread Cert.AdamInBIdeal.nD Cert.AdamInBIdeal.τ).loc Cert.AdamInBIdeal.main_v0_0)) (v1 : (c : Dev Cert.AdamInBIdeal.nD) → Buf (Elt Ideal) ((c.tc : Thread Cert.AdamInBIdeal.nD Cert.AdamInBIdeal.τ).loc Cert.AdamInBIdeal.main_v0_1)) (v2 : (c : Dev Cert.AdamInBIdeal.nD) → Buf (Elt Ideal) ((c.tc : Thread Cert.AdamInBIdeal.nD Cert.AdamInBIdeal.τ).loc Cert.AdamInBIdeal.main_v0_2)) (v3 : (c : Dev Cert.AdamInBIdeal.nD) → Buf (Elt Ideal) ((c.tc : Thread Cert.AdamInBIdeal.nD Cert.AdamInBIdeal.τ).loc Cert.AdamInBIdeal.main_v0_3)),
      θ_run (Cert.AdamInBIdeal.defs (F := Ideal)) (onTc (τ := Cert.AdamInBIdeal.τ) (Cert.AdamInBIdeal.main (F := Ideal))) ⟨m, fun _ => 0, g⟩ (fun r => ∀ c : Dev Cert.AdamInBIdeal.nD,
          r.2.mem ((c.tc : Thread Cert.AdamInBIdeal.nD Cert.AdamInBIdeal.τ).loc Cert.AdamInBIdeal.main_v0_0) = v0 c
          ∧ r.2.mem ((c.tc : Thread Cert.AdamInBIdeal.nD Cert.AdamInBIdeal.τ).loc Cert.AdamInBIdeal.main_v0_1) = v1 c
          ∧ r.2.mem ((c.tc : Thread Cert.AdamInBIdeal.nD Cert.AdamInBIdeal.τ).loc Cert.AdamInBIdeal.main_v0_2) = v2 c
          ∧ r.2.mem ((c.tc : Thread Cert.AdamInBIdeal.nD Cert.AdamInBIdeal.τ).loc Cert.AdamInBIdeal.main_v0_3) = v3 c
          ∧ r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
          ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
          ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
          ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ θ_run (Cert.AdamInBRefIdeal.defs (F := Ideal)) (onTc (τ := Cert.AdamInBRefIdeal.τ) (Cert.AdamInBRefIdeal.main (F := Ideal))) ⟨m', fun _ => 0, g'⟩ (fun r => ∀ c : Dev Cert.AdamInBRefIdeal.nD,
          r.2.mem ((c.tc : Thread Cert.AdamInBRefIdeal.nD Cert.AdamInBRefIdeal.τ).loc Cert.AdamInBRefIdeal.main_v0) = v0 c
          ∧ r.2.mem ((c.tc : Thread Cert.AdamInBRefIdeal.nD Cert.AdamInBRefIdeal.τ).loc Cert.AdamInBRefIdeal.main_v25) = v1 c
          ∧ r.2.mem ((c.tc : Thread Cert.AdamInBRefIdeal.nD Cert.AdamInBRefIdeal.τ).loc Cert.AdamInBRefIdeal.main_v6) = v2 c
          ∧ r.2.mem ((c.tc : Thread Cert.AdamInBRefIdeal.nD Cert.AdamInBRefIdeal.τ).loc Cert.AdamInBRefIdeal.main_v12) = v3 c
          ∧ r.2.mem ((c.tc : Thread Cert.AdamInBRefIdeal.nD Cert.AdamInBRefIdeal.τ).loc Cert.AdamInBRefIdeal.main_arg0) = m' ((c.tc : Thread Cert.AdamInBRefIdeal.nD Cert.AdamInBRefIdeal.τ).loc Cert.AdamInBRefIdeal.main_arg0)
          ∧ r.2.mem ((c.tc : Thread Cert.AdamInBRefIdeal.nD Cert.AdamInBRefIdeal.τ).loc Cert.AdamInBRefIdeal.main_arg1) = m' ((c.tc : Thread Cert.AdamInBRefIdeal.nD Cert.AdamInBRefIdeal.τ).loc Cert.AdamInBRefIdeal.main_arg1)
          ∧ r.2.mem ((c.tc : Thread Cert.AdamInBRefIdeal.nD Cert.AdamInBRefIdeal.τ).loc Cert.AdamInBRefIdeal.main_arg2) = m' ((c.tc : Thread Cert.AdamInBRefIdeal.nD Cert.AdamInBRefIdeal.τ).loc Cert.AdamInBRefIdeal.main_arg2)
          ∧ r.2.mem ((c.tc : Thread Cert.AdamInBRefIdeal.nD Cert.AdamInBRefIdeal.τ).loc Cert.AdamInBRefIdeal.main_arg3) = m' ((c.tc : Thread Cert.AdamInBRefIdeal.nD Cert.AdamInBRefIdeal.τ).loc Cert.AdamInBRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v1_0)) (v1 : (c : Dev Cert.GluFwdIdeal.nD) → Buf (Elt Ideal) ((c.tc : Thread Cert.GluFwdIdeal.nD Cert.GluFwdIdeal.τ).loc Cert.GluFwdIdeal.main_v1_1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v1_0) = v0 c
          ∧ r.2.mem ((c.tc : Thread Cert.GluFwdIdeal.nD Cert.GluFwdIdeal.τ).loc Cert.GluFwdIdeal.main_v1_1) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v33) = v0 c
          ∧ r.2.mem ((c.tc : Thread Cert.GluFwdRefIdeal.nD Cert.GluFwdRefIdeal.τ).loc Cert.GluFwdRefIdeal.main_v34) = v1 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_CrossA_CrossAIdeal : Prop :=
  True

def algebraic_CrossAIdeal_CrossARefIdeal [hCrossAIdeal : Cert.CrossAIdeal.Facts] [hCrossARefIdeal : Cert.CrossARefIdeal.Facts] : Prop :=
  ∀ (m : (ℓ : Loc Cert.CrossAIdeal.nD Cert.CrossAIdeal.τ Cert.CrossAIdeal.sig) → Buf (Elt Ideal) ℓ) (g : Dev Cert.CrossAIdeal.nD → PrngReg)
    (m' : (ℓ : Loc Cert.CrossARefIdeal.nD Cert.CrossARefIdeal.τ Cert.CrossARefIdeal.sig) → Buf (Elt Ideal) ℓ) (g' : Dev Cert.CrossARefIdeal.nD → PrngReg), Pre_CrossAIdeal m →
    (∀ c : Dev Cert.CrossAIdeal.nD,
      m' ((c.tc : Thread Cert.CrossARefIdeal.nD Cert.CrossARefIdeal.τ).loc Cert.CrossARefIdeal.main_arg0) = m ((c.tc : Thread Cert.CrossAIdeal.nD Cert.CrossAIdeal.τ).loc Cert.CrossAIdeal.main_arg0)
      ∧ m' ((c.tc : Thread Cert.CrossARefIdeal.nD Cert.CrossARefIdeal.τ).loc Cert.CrossARefIdeal.main_arg1) = m ((c.tc : Thread Cert.CrossAIdeal.nD Cert.CrossAIdeal.τ).loc Cert.CrossAIdeal.main_arg1)) →
    ∃ (v0 : (c : Dev Cert.CrossAIdeal.nD) → Buf (Elt Ideal) ((c.tc : Thread Cert.CrossAIdeal.nD Cert.CrossAIdeal.τ).loc Cert.CrossAIdeal.main_v0)),
      θ_run (Cert.CrossAIdeal.defs (F := Ideal)) (onTc (τ := Cert.CrossAIdeal.τ) (Cert.CrossAIdeal.main (F := Ideal))) ⟨m, fun _ => 0, g⟩ (fun r => ∀ c : Dev Cert.CrossAIdeal.nD,
          r.2.mem ((c.tc : Thread Cert.CrossAIdeal.nD Cert.CrossAIdeal.τ).loc Cert.CrossAIdeal.main_v0) = v0 c
          ∧ r.2.mem ((c.tc : Thread Cert.CrossAIdeal.nD Cert.CrossAIdeal.τ).loc Cert.CrossAIdeal.main_arg0) = m ((c.tc : Thread Cert.CrossAIdeal.nD Cert.CrossAIdeal.τ).loc Cert.CrossAIdeal.main_arg0)
          ∧ r.2.mem ((c.tc : Thread Cert.CrossAIdeal.nD Cert.CrossAIdeal.τ).loc Cert.CrossAIdeal.main_arg1) = m ((c.tc : Thread Cert.CrossAIdeal.nD Cert.CrossAIdeal.τ).loc Cert.CrossAIdeal.main_arg1))
      ∧ θ_run (Cert.CrossARefIdeal.defs (F := Ideal)) (onTc (τ := Cert.CrossARefIdeal.τ) (Cert.CrossARefIdeal.main (F := Ideal))) ⟨m', fun _ => 0, g'⟩ (fun r => ∀ c : Dev Cert.CrossARefIdeal.nD,
          r.2.mem ((c.tc : Thread Cert.CrossARefIdeal.nD Cert.CrossARefIdeal.τ).loc Cert.CrossARefIdeal.main_v69) = v0 c
          ∧ r.2.mem ((c.tc : Thread Cert.CrossARefIdeal.nD Cert.CrossARefIdeal.τ).loc Cert.CrossARefIdeal.main_arg0) = m' ((c.tc : Thread Cert.CrossARefIdeal.nD Cert.CrossARefIdeal.τ).loc Cert.CrossARefIdeal.main_arg0)
          ∧ r.2.mem ((c.tc : Thread Cert.CrossARefIdeal.nD Cert.CrossARefIdeal.τ).loc Cert.CrossARefIdeal.main_arg1) = m' ((c.tc : Thread Cert.CrossARefIdeal.nD Cert.CrossARefIdeal.τ).loc Cert.CrossARefIdeal.main_arg1))

def preserves_CrossB_CrossBIdeal : Prop :=
  True

def algebraic_CrossBIdeal_CrossBRefIdeal [hCrossBIdeal : Cert.CrossBIdeal.Facts] [hCrossBRefIdeal : Cert.CrossBRefIdeal.Facts] : Prop :=
  ∀ (m : (ℓ : Loc Cert.CrossBIdeal.nD Cert.CrossBIdeal.τ Cert.CrossBIdeal.sig) → Buf (Elt Ideal) ℓ) (g : Dev Cert.CrossBIdeal.nD → PrngReg)
    (m' : (ℓ : Loc Cert.CrossBRefIdeal.nD Cert.CrossBRefIdeal.τ Cert.CrossBRefIdeal.sig) → Buf (Elt Ideal) ℓ) (g' : Dev Cert.CrossBRefIdeal.nD → PrngReg), Pre_CrossBIdeal m →
    (∀ c : Dev Cert.CrossBIdeal.nD,
      m' ((c.tc : Thread Cert.CrossBRefIdeal.nD Cert.CrossBRefIdeal.τ).loc Cert.CrossBRefIdeal.main_arg0) = m ((c.tc : Thread Cert.CrossBIdeal.nD Cert.CrossBIdeal.τ).loc Cert.CrossBIdeal.main_arg0)
      ∧ m' ((c.tc : Thread Cert.CrossBRefIdeal.nD Cert.CrossBRefIdeal.τ).loc Cert.CrossBRefIdeal.main_arg1) = m ((c.tc : Thread Cert.CrossBIdeal.nD Cert.CrossBIdeal.τ).loc Cert.CrossBIdeal.main_arg1)) →
    ∃ (v0 : (c : Dev Cert.CrossBIdeal.nD) → Buf (Elt Ideal) ((c.tc : Thread Cert.CrossBIdeal.nD Cert.CrossBIdeal.τ).loc Cert.CrossBIdeal.main_v0)),
      θ_run (Cert.CrossBIdeal.defs (F := Ideal)) (onTc (τ := Cert.CrossBIdeal.τ) (Cert.CrossBIdeal.main (F := Ideal))) ⟨m, fun _ => 0, g⟩ (fun r => ∀ c : Dev Cert.CrossBIdeal.nD,
          r.2.mem ((c.tc : Thread Cert.CrossBIdeal.nD Cert.CrossBIdeal.τ).loc Cert.CrossBIdeal.main_v0) = v0 c
          ∧ r.2.mem ((c.tc : Thread Cert.CrossBIdeal.nD Cert.CrossBIdeal.τ).loc Cert.CrossBIdeal.main_arg0) = m ((c.tc : Thread Cert.CrossBIdeal.nD Cert.CrossBIdeal.τ).loc Cert.CrossBIdeal.main_arg0)
          ∧ r.2.mem ((c.tc : Thread Cert.CrossBIdeal.nD Cert.CrossBIdeal.τ).loc Cert.CrossBIdeal.main_arg1) = m ((c.tc : Thread Cert.CrossBIdeal.nD Cert.CrossBIdeal.τ).loc Cert.CrossBIdeal.main_arg1))
      ∧ θ_run (Cert.CrossBRefIdeal.defs (F := Ideal)) (onTc (τ := Cert.CrossBRefIdeal.τ) (Cert.CrossBRefIdeal.main (F := Ideal))) ⟨m', fun _ => 0, g'⟩ (fun r => ∀ c : Dev Cert.CrossBRefIdeal.nD,
          r.2.mem ((c.tc : Thread Cert.CrossBRefIdeal.nD Cert.CrossBRefIdeal.τ).loc Cert.CrossBRefIdeal.main_v68) = v0 c
          ∧ r.2.mem ((c.tc : Thread Cert.CrossBRefIdeal.nD Cert.CrossBRefIdeal.τ).loc Cert.CrossBRefIdeal.main_arg0) = m' ((c.tc : Thread Cert.CrossBRefIdeal.nD Cert.CrossBRefIdeal.τ).loc Cert.CrossBRefIdeal.main_arg0)
          ∧ r.2.mem ((c.tc : Thread Cert.CrossBRefIdeal.nD Cert.CrossBRefIdeal.τ).loc Cert.CrossBRefIdeal.main_arg1) = m' ((c.tc : Thread Cert.CrossBRefIdeal.nD Cert.CrossBRefIdeal.τ).loc Cert.CrossBRefIdeal.main_arg1))

def preserves_CrossGradA_CrossGradAIdeal : Prop :=
  True

def algebraic_CrossGradAIdeal_CrossGradARefIdeal [hCrossGradAIdeal : Cert.CrossGradAIdeal.Facts] [hCrossGradARefIdeal : Cert.CrossGradARefIdeal.Facts] : Prop :=
  ∀ (m : (ℓ : Loc Cert.CrossGradAIdeal.nD Cert.CrossGradAIdeal.τ Cert.CrossGradAIdeal.sig) → Buf (Elt Ideal) ℓ) (g : Dev Cert.CrossGradAIdeal.nD → PrngReg)
    (m' : (ℓ : Loc Cert.CrossGradARefIdeal.nD Cert.CrossGradARefIdeal.τ Cert.CrossGradARefIdeal.sig) → Buf (Elt Ideal) ℓ) (g' : Dev Cert.CrossGradARefIdeal.nD → PrngReg), Pre_CrossGradAIdeal m →
    (∀ c : Dev Cert.CrossGradAIdeal.nD,
      m' ((c.tc : Thread Cert.CrossGradARefIdeal.nD Cert.CrossGradARefIdeal.τ).loc Cert.CrossGradARefIdeal.main_arg0) = m ((c.tc : Thread Cert.CrossGradAIdeal.nD Cert.CrossGradAIdeal.τ).loc Cert.CrossGradAIdeal.main_arg0)
      ∧ m' ((c.tc : Thread Cert.CrossGradARefIdeal.nD Cert.CrossGradARefIdeal.τ).loc Cert.CrossGradARefIdeal.main_arg1) = m ((c.tc : Thread Cert.CrossGradAIdeal.nD Cert.CrossGradAIdeal.τ).loc Cert.CrossGradAIdeal.main_arg1)
      ∧ m' ((c.tc : Thread Cert.CrossGradARefIdeal.nD Cert.CrossGradARefIdeal.τ).loc Cert.CrossGradARefIdeal.main_arg2) = m ((c.tc : Thread Cert.CrossGradAIdeal.nD Cert.CrossGradAIdeal.τ).loc Cert.CrossGradAIdeal.main_arg2)) →
    ∃ (v0 : (c : Dev Cert.CrossGradAIdeal.nD) → Buf (Elt Ideal) ((c.tc : Thread Cert.CrossGradAIdeal.nD Cert.CrossGradAIdeal.τ).loc Cert.CrossGradAIdeal.main_v0_0)) (v1 : (c : Dev Cert.CrossGradAIdeal.nD) → Buf (Elt Ideal) ((c.tc : Thread Cert.CrossGradAIdeal.nD Cert.CrossGradAIdeal.τ).loc Cert.CrossGradAIdeal.main_v0_1)) (v2 : (c : Dev Cert.CrossGradAIdeal.nD) → Buf (Elt Ideal) ((c.tc : Thread Cert.CrossGradAIdeal.nD Cert.CrossGradAIdeal.τ).loc Cert.CrossGradAIdeal.main_v0_2)),
      θ_run (Cert.CrossGradAIdeal.defs (F := Ideal)) (onTc (τ := Cert.CrossGradAIdeal.τ) (Cert.CrossGradAIdeal.main (F := Ideal))) ⟨m, fun _ => 0, g⟩ (fun r => ∀ c : Dev Cert.CrossGradAIdeal.nD,
          r.2.mem ((c.tc : Thread Cert.CrossGradAIdeal.nD Cert.CrossGradAIdeal.τ).loc Cert.CrossGradAIdeal.main_v0_0) = v0 c
          ∧ r.2.mem ((c.tc : Thread Cert.CrossGradAIdeal.nD Cert.CrossGradAIdeal.τ).loc Cert.CrossGradAIdeal.main_v0_1) = v1 c
          ∧ r.2.mem ((c.tc : Thread Cert.CrossGradAIdeal.nD Cert.CrossGradAIdeal.τ).loc Cert.CrossGradAIdeal.main_v0_2) = v2 c
          ∧ r.2.mem ((c.tc : Thread Cert.CrossGradAIdeal.nD Cert.CrossGradAIdeal.τ).loc Cert.CrossGradAIdeal.main_arg0) = m ((c.tc : Thread Cert.CrossGradAIdeal.nD Cert.CrossGradAIdeal.τ).loc Cert.CrossGradAIdeal.main_arg0)
          ∧ r.2.mem ((c.tc : Thread Cert.CrossGradAIdeal.nD Cert.CrossGradAIdeal.τ).loc Cert.CrossGradAIdeal.main_arg1) = m ((c.tc : Thread Cert.CrossGradAIdeal.nD Cert.CrossGradAIdeal.τ).loc Cert.CrossGradAIdeal.main_arg1)
          ∧ r.2.mem ((c.tc : Thread Cert.CrossGradAIdeal.nD Cert.CrossGradAIdeal.τ).loc Cert.CrossGradAIdeal.main_arg2) = m ((c.tc : Thread Cert.CrossGradAIdeal.nD Cert.CrossGradAIdeal.τ).loc Cert.CrossGradAIdeal.main_arg2))
      ∧ θ_run (Cert.CrossGradARefIdeal.defs (F := Ideal)) (onTc (τ := Cert.CrossGradARefIdeal.τ) (Cert.CrossGradARefIdeal.main (F := Ideal))) ⟨m', fun _ => 0, g'⟩ (fun r => ∀ c : Dev Cert.CrossGradARefIdeal.nD,
          r.2.mem ((c.tc : Thread Cert.CrossGradARefIdeal.nD Cert.CrossGradARefIdeal.τ).loc Cert.CrossGradARefIdeal.main_v203) = v0 c
          ∧ r.2.mem ((c.tc : Thread Cert.CrossGradARefIdeal.nD Cert.CrossGradARefIdeal.τ).loc Cert.CrossGradARefIdeal.main_v200) = v1 c
          ∧ r.2.mem ((c.tc : Thread Cert.CrossGradARefIdeal.nD Cert.CrossGradARefIdeal.τ).loc Cert.CrossGradARefIdeal.main_v182) = v2 c
          ∧ r.2.mem ((c.tc : Thread Cert.CrossGradARefIdeal.nD Cert.CrossGradARefIdeal.τ).loc Cert.CrossGradARefIdeal.main_arg0) = m' ((c.tc : Thread Cert.CrossGradARefIdeal.nD Cert.CrossGradARefIdeal.τ).loc Cert.CrossGradARefIdeal.main_arg0)
          ∧ r.2.mem ((c.tc : Thread Cert.CrossGradARefIdeal.nD Cert.CrossGradARefIdeal.τ).loc Cert.CrossGradARefIdeal.main_arg1) = m' ((c.tc : Thread Cert.CrossGradARefIdeal.nD Cert.CrossGradARefIdeal.τ).loc Cert.CrossGradARefIdeal.main_arg1)
          ∧ r.2.mem ((c.tc : Thread Cert.CrossGradARefIdeal.nD Cert.CrossGradARefIdeal.τ).loc Cert.CrossGradARefIdeal.main_arg2) = m' ((c.tc : Thread Cert.CrossGradARefIdeal.nD Cert.CrossGradARefIdeal.τ).loc Cert.CrossGradARefIdeal.main_arg2))

def preserves_CrossGradB_CrossGradBIdeal : Prop :=
  True

def algebraic_CrossGradBIdeal_CrossGradBRefIdeal [hCrossGradBIdeal : Cert.CrossGradBIdeal.Facts] [hCrossGradBRefIdeal : Cert.CrossGradBRefIdeal.Facts] : Prop :=
  ∀ (m : (ℓ : Loc Cert.CrossGradBIdeal.nD Cert.CrossGradBIdeal.τ Cert.CrossGradBIdeal.sig) → Buf (Elt Ideal) ℓ) (g : Dev Cert.CrossGradBIdeal.nD → PrngReg)
    (m' : (ℓ : Loc Cert.CrossGradBRefIdeal.nD Cert.CrossGradBRefIdeal.τ Cert.CrossGradBRefIdeal.sig) → Buf (Elt Ideal) ℓ) (g' : Dev Cert.CrossGradBRefIdeal.nD → PrngReg), Pre_CrossGradBIdeal m →
    (∀ c : Dev Cert.CrossGradBIdeal.nD,
      m' ((c.tc : Thread Cert.CrossGradBRefIdeal.nD Cert.CrossGradBRefIdeal.τ).loc Cert.CrossGradBRefIdeal.main_arg0) = m ((c.tc : Thread Cert.CrossGradBIdeal.nD Cert.CrossGradBIdeal.τ).loc Cert.CrossGradBIdeal.main_arg0)
      ∧ m' ((c.tc : Thread Cert.CrossGradBRefIdeal.nD Cert.CrossGradBRefIdeal.τ).loc Cert.CrossGradBRefIdeal.main_arg1) = m ((c.tc : Thread Cert.CrossGradBIdeal.nD Cert.CrossGradBIdeal.τ).loc Cert.CrossGradBIdeal.main_arg1)
      ∧ m' ((c.tc : Thread Cert.CrossGradBRefIdeal.nD Cert.CrossGradBRefIdeal.τ).loc Cert.CrossGradBRefIdeal.main_arg2) = m ((c.tc : Thread Cert.CrossGradBIdeal.nD Cert.CrossGradBIdeal.τ).loc Cert.CrossGradBIdeal.main_arg2)) →
    ∃ (v0 : (c : Dev Cert.CrossGradBIdeal.nD) → Buf (Elt Ideal) ((c.tc : Thread Cert.CrossGradBIdeal.nD Cert.CrossGradBIdeal.τ).loc Cert.CrossGradBIdeal.main_v0_0)) (v1 : (c : Dev Cert.CrossGradBIdeal.nD) → Buf (Elt Ideal) ((c.tc : Thread Cert.CrossGradBIdeal.nD Cert.CrossGradBIdeal.τ).loc Cert.CrossGradBIdeal.main_v0_1)) (v2 : (c : Dev Cert.CrossGradBIdeal.nD) → Buf (Elt Ideal) ((c.tc : Thread Cert.CrossGradBIdeal.nD Cert.CrossGradBIdeal.τ).loc Cert.CrossGradBIdeal.main_v0_2)),
      θ_run (Cert.CrossGradBIdeal.defs (F := Ideal)) (onTc (τ := Cert.CrossGradBIdeal.τ) (Cert.CrossGradBIdeal.main (F := Ideal))) ⟨m, fun _ => 0, g⟩ (fun r => ∀ c : Dev Cert.CrossGradBIdeal.nD,
          r.2.mem ((c.tc : Thread Cert.CrossGradBIdeal.nD Cert.CrossGradBIdeal.τ).loc Cert.CrossGradBIdeal.main_v0_0) = v0 c
          ∧ r.2.mem ((c.tc : Thread Cert.CrossGradBIdeal.nD Cert.CrossGradBIdeal.τ).loc Cert.CrossGradBIdeal.main_v0_1) = v1 c
          ∧ r.2.mem ((c.tc : Thread Cert.CrossGradBIdeal.nD Cert.CrossGradBIdeal.τ).loc Cert.CrossGradBIdeal.main_v0_2) = v2 c
          ∧ r.2.mem ((c.tc : Thread Cert.CrossGradBIdeal.nD Cert.CrossGradBIdeal.τ).loc Cert.CrossGradBIdeal.main_arg0) = m ((c.tc : Thread Cert.CrossGradBIdeal.nD Cert.CrossGradBIdeal.τ).loc Cert.CrossGradBIdeal.main_arg0)
          ∧ r.2.mem ((c.tc : Thread Cert.CrossGradBIdeal.nD Cert.CrossGradBIdeal.τ).loc Cert.CrossGradBIdeal.main_arg1) = m ((c.tc : Thread Cert.CrossGradBIdeal.nD Cert.CrossGradBIdeal.τ).loc Cert.CrossGradBIdeal.main_arg1)
          ∧ r.2.mem ((c.tc : Thread Cert.CrossGradBIdeal.nD Cert.CrossGradBIdeal.τ).loc Cert.CrossGradBIdeal.main_arg2) = m ((c.tc : Thread Cert.CrossGradBIdeal.nD Cert.CrossGradBIdeal.τ).loc Cert.CrossGradBIdeal.main_arg2))
      ∧ θ_run (Cert.CrossGradBRefIdeal.defs (F := Ideal)) (onTc (τ := Cert.CrossGradBRefIdeal.τ) (Cert.CrossGradBRefIdeal.main (F := Ideal))) ⟨m', fun _ => 0, g'⟩ (fun r => ∀ c : Dev Cert.CrossGradBRefIdeal.nD,
          r.2.mem ((c.tc : Thread Cert.CrossGradBRefIdeal.nD Cert.CrossGradBRefIdeal.τ).loc Cert.CrossGradBRefIdeal.main_v202) = v0 c
          ∧ r.2.mem ((c.tc : Thread Cert.CrossGradBRefIdeal.nD Cert.CrossGradBRefIdeal.τ).loc Cert.CrossGradBRefIdeal.main_v199) = v1 c
          ∧ r.2.mem ((c.tc : Thread Cert.CrossGradBRefIdeal.nD Cert.CrossGradBRefIdeal.τ).loc Cert.CrossGradBRefIdeal.main_v181) = v2 c
          ∧ r.2.mem ((c.tc : Thread Cert.CrossGradBRefIdeal.nD Cert.CrossGradBRefIdeal.τ).loc Cert.CrossGradBRefIdeal.main_arg0) = m' ((c.tc : Thread Cert.CrossGradBRefIdeal.nD Cert.CrossGradBRefIdeal.τ).loc Cert.CrossGradBRefIdeal.main_arg0)
          ∧ r.2.mem ((c.tc : Thread Cert.CrossGradBRefIdeal.nD Cert.CrossGradBRefIdeal.τ).loc Cert.CrossGradBRefIdeal.main_arg1) = m' ((c.tc : Thread Cert.CrossGradBRefIdeal.nD Cert.CrossGradBRefIdeal.τ).loc Cert.CrossGradBRefIdeal.main_arg1)
          ∧ r.2.mem ((c.tc : Thread Cert.CrossGradBRefIdeal.nD Cert.CrossGradBRefIdeal.τ).loc Cert.CrossGradBRefIdeal.main_arg2) = m' ((c.tc : Thread Cert.CrossGradBRefIdeal.nD Cert.CrossGradBRefIdeal.τ).loc Cert.CrossGradBRefIdeal.main_arg2))

def Claim : Prop :=
  ∃ (hKernel : Cert.Kernel.Facts) (hKernelIdeal : Cert.KernelIdeal.Facts) (hReferenceIdeal : Cert.ReferenceIdeal.Facts) (hGuBwdW : Cert.GuBwdW.Facts) (hGuBwdWIdeal : Cert.GuBwdWIdeal.Facts) (hGuBwdWRefIdeal : Cert.GuBwdWRefIdeal.Facts) (hGuBwdX : Cert.GuBwdX.Facts) (hGuBwdXIdeal : Cert.GuBwdXIdeal.Facts) (hGuBwdXRefIdeal : Cert.GuBwdXRefIdeal.Facts) (hGuFwd : Cert.GuFwd.Facts) (hGuFwdIdeal : Cert.GuFwdIdeal.Facts) (hGuFwdRefIdeal : Cert.GuFwdRefIdeal.Facts) (hDAct : Cert.DAct.Facts) (hDActIdeal : Cert.DActIdeal.Facts) (hDActRefIdeal : Cert.DActRefIdeal.Facts) (hDwDown : Cert.DwDown.Facts) (hDwDownIdeal : Cert.DwDownIdeal.Facts) (hDwDownRefIdeal : Cert.DwDownRefIdeal.Facts) (hDnsFwd : Cert.DnsFwd.Facts) (hDnsFwdIdeal : Cert.DnsFwdIdeal.Facts) (hDnsFwdRefIdeal : Cert.DnsFwdRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hDown : Cert.Down.Facts) (hDownIdeal : Cert.DownIdeal.Facts) (hDownRefIdeal : Cert.DownRefIdeal.Facts) (hDownNorm : Cert.DownNorm.Facts) (hDownNormIdeal : Cert.DownNormIdeal.Facts) (hDownNormRefIdeal : Cert.DownNormRefIdeal.Facts) (hOutProj : Cert.OutProj.Facts) (hOutProjIdeal : Cert.OutProjIdeal.Facts) (hOutProjRefIdeal : Cert.OutProjRefIdeal.Facts) (hDMix : Cert.DMix.Facts) (hDMixIdeal : Cert.DMixIdeal.Facts) (hDMixRefIdeal : Cert.DMixRefIdeal.Facts) (hDwOut : Cert.DwOut.Facts) (hDwOutIdeal : Cert.DwOutIdeal.Facts) (hDwOutRefIdeal : Cert.DwOutRefIdeal.Facts) (hDwInA : Cert.DwInA.Facts) (hDwInAIdeal : Cert.DwInAIdeal.Facts) (hDwInARefIdeal : Cert.DwInARefIdeal.Facts) (hDwInB : Cert.DwInB.Facts) (hDwInBIdeal : Cert.DwInBIdeal.Facts) (hDwInBRefIdeal : Cert.DwInBRefIdeal.Facts) (hDInA : Cert.DInA.Facts) (hDInAIdeal : Cert.DInAIdeal.Facts) (hDInARefIdeal : Cert.DInARefIdeal.Facts) (hDInB : Cert.DInB.Facts) (hDInBIdeal : Cert.DInBIdeal.Facts) (hDInBRefIdeal : Cert.DInBRefIdeal.Facts) (hNormIn : Cert.NormIn.Facts) (hNormInIdeal : Cert.NormInIdeal.Facts) (hNormInRefIdeal : Cert.NormInRefIdeal.Facts) (hMemKv : Cert.MemKv.Facts) (hMemKvIdeal : Cert.MemKvIdeal.Facts) (hMemKvRefIdeal : Cert.MemKvRefIdeal.Facts) (hMemKvGrad : Cert.MemKvGrad.Facts) (hMemKvGradIdeal : Cert.MemKvGradIdeal.Facts) (hMemKvGradRefIdeal : Cert.MemKvGradRefIdeal.Facts) (hLossHead : Cert.LossHead.Facts) (hLossHeadIdeal : Cert.LossHeadIdeal.Facts) (hLossHeadRefIdeal : Cert.LossHeadRefIdeal.Facts) (hAdamGu : Cert.AdamGu.Facts) (hAdamGuIdeal : Cert.AdamGuIdeal.Facts) (hAdamGuRefIdeal : Cert.AdamGuRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamMem : Cert.AdamMem.Facts) (hAdamMemIdeal : Cert.AdamMemIdeal.Facts) (hAdamMemRefIdeal : Cert.AdamMemRefIdeal.Facts) (hAdamInA : Cert.AdamInA.Facts) (hAdamInAIdeal : Cert.AdamInAIdeal.Facts) (hAdamInARefIdeal : Cert.AdamInARefIdeal.Facts) (hAdamInB : Cert.AdamInB.Facts) (hAdamInBIdeal : Cert.AdamInBIdeal.Facts) (hAdamInBRefIdeal : Cert.AdamInBRefIdeal.Facts) (hAdamSmall : Cert.AdamSmall.Facts) (hAdamSmallIdeal : Cert.AdamSmallIdeal.Facts) (hAdamSmallRefIdeal : Cert.AdamSmallRefIdeal.Facts) (hGluFwd : Cert.GluFwd.Facts) (hGluFwdIdeal : Cert.GluFwdIdeal.Facts) (hGluFwdRefIdeal : Cert.GluFwdRefIdeal.Facts) (hCrossA : Cert.CrossA.Facts) (hCrossAIdeal : Cert.CrossAIdeal.Facts) (hCrossARefIdeal : Cert.CrossARefIdeal.Facts) (hCrossB : Cert.CrossB.Facts) (hCrossBIdeal : Cert.CrossBIdeal.Facts) (hCrossBRefIdeal : Cert.CrossBRefIdeal.Facts) (hCrossGradA : Cert.CrossGradA.Facts) (hCrossGradAIdeal : Cert.CrossGradAIdeal.Facts) (hCrossGradARefIdeal : Cert.CrossGradARefIdeal.Facts) (hCrossGradB : Cert.CrossGradB.Facts) (hCrossGradBIdeal : Cert.CrossGradBIdeal.Facts) (hCrossGradBRefIdeal : Cert.CrossGradBRefIdeal.Facts),
    quiescent_Kernel (hKernel := hKernel)
    ∧ quiescent_KernelIdeal (hKernelIdeal := hKernelIdeal)
    ∧ quiescent_ReferenceIdeal (hReferenceIdeal := hReferenceIdeal)
    ∧ quiescent_GuBwdW (hGuBwdW := hGuBwdW)
    ∧ quiescent_GuBwdWIdeal (hGuBwdWIdeal := hGuBwdWIdeal)
    ∧ quiescent_GuBwdWRefIdeal (hGuBwdWRefIdeal := hGuBwdWRefIdeal)
    ∧ quiescent_GuBwdX (hGuBwdX := hGuBwdX)
    ∧ quiescent_GuBwdXIdeal (hGuBwdXIdeal := hGuBwdXIdeal)
    ∧ quiescent_GuBwdXRefIdeal (hGuBwdXRefIdeal := hGuBwdXRefIdeal)
    ∧ quiescent_GuFwd (hGuFwd := hGuFwd)
    ∧ quiescent_GuFwdIdeal (hGuFwdIdeal := hGuFwdIdeal)
    ∧ quiescent_GuFwdRefIdeal (hGuFwdRefIdeal := hGuFwdRefIdeal)
    ∧ quiescent_DAct (hDAct := hDAct)
    ∧ quiescent_DActIdeal (hDActIdeal := hDActIdeal)
    ∧ quiescent_DActRefIdeal (hDActRefIdeal := hDActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DnsFwd (hDnsFwd := hDnsFwd)
    ∧ quiescent_DnsFwdIdeal (hDnsFwdIdeal := hDnsFwdIdeal)
    ∧ quiescent_DnsFwdRefIdeal (hDnsFwdRefIdeal := hDnsFwdRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_Down (hDown := hDown)
    ∧ quiescent_DownIdeal (hDownIdeal := hDownIdeal)
    ∧ quiescent_DownRefIdeal (hDownRefIdeal := hDownRefIdeal)
    ∧ quiescent_DownNorm (hDownNorm := hDownNorm)
    ∧ quiescent_DownNormIdeal (hDownNormIdeal := hDownNormIdeal)
    ∧ quiescent_DownNormRefIdeal (hDownNormRefIdeal := hDownNormRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DMix (hDMix := hDMix)
    ∧ quiescent_DMixIdeal (hDMixIdeal := hDMixIdeal)
    ∧ quiescent_DMixRefIdeal (hDMixRefIdeal := hDMixRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwInA (hDwInA := hDwInA)
    ∧ quiescent_DwInAIdeal (hDwInAIdeal := hDwInAIdeal)
    ∧ quiescent_DwInARefIdeal (hDwInARefIdeal := hDwInARefIdeal)
    ∧ quiescent_DwInB (hDwInB := hDwInB)
    ∧ quiescent_DwInBIdeal (hDwInBIdeal := hDwInBIdeal)
    ∧ quiescent_DwInBRefIdeal (hDwInBRefIdeal := hDwInBRefIdeal)
    ∧ quiescent_DInA (hDInA := hDInA)
    ∧ quiescent_DInAIdeal (hDInAIdeal := hDInAIdeal)
    ∧ quiescent_DInARefIdeal (hDInARefIdeal := hDInARefIdeal)
    ∧ quiescent_DInB (hDInB := hDInB)
    ∧ quiescent_DInBIdeal (hDInBIdeal := hDInBIdeal)
    ∧ quiescent_DInBRefIdeal (hDInBRefIdeal := hDInBRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemKvGrad (hMemKvGrad := hMemKvGrad)
    ∧ quiescent_MemKvGradIdeal (hMemKvGradIdeal := hMemKvGradIdeal)
    ∧ quiescent_MemKvGradRefIdeal (hMemKvGradRefIdeal := hMemKvGradRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMem (hAdamMem := hAdamMem)
    ∧ quiescent_AdamMemIdeal (hAdamMemIdeal := hAdamMemIdeal)
    ∧ quiescent_AdamMemRefIdeal (hAdamMemRefIdeal := hAdamMemRefIdeal)
    ∧ quiescent_AdamInA (hAdamInA := hAdamInA)
    ∧ quiescent_AdamInAIdeal (hAdamInAIdeal := hAdamInAIdeal)
    ∧ quiescent_AdamInARefIdeal (hAdamInARefIdeal := hAdamInARefIdeal)
    ∧ quiescent_AdamInB (hAdamInB := hAdamInB)
    ∧ quiescent_AdamInBIdeal (hAdamInBIdeal := hAdamInBIdeal)
    ∧ quiescent_AdamInBRefIdeal (hAdamInBRefIdeal := hAdamInBRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_CrossA (hCrossA := hCrossA)
    ∧ quiescent_CrossAIdeal (hCrossAIdeal := hCrossAIdeal)
    ∧ quiescent_CrossARefIdeal (hCrossARefIdeal := hCrossARefIdeal)
    ∧ quiescent_CrossB (hCrossB := hCrossB)
    ∧ quiescent_CrossBIdeal (hCrossBIdeal := hCrossBIdeal)
    ∧ quiescent_CrossBRefIdeal (hCrossBRefIdeal := hCrossBRefIdeal)
    ∧ quiescent_CrossGradA (hCrossGradA := hCrossGradA)
    ∧ quiescent_CrossGradAIdeal (hCrossGradAIdeal := hCrossGradAIdeal)
    ∧ quiescent_CrossGradARefIdeal (hCrossGradARefIdeal := hCrossGradARefIdeal)
    ∧ quiescent_CrossGradB (hCrossGradB := hCrossGradB)
    ∧ quiescent_CrossGradBIdeal (hCrossGradBIdeal := hCrossGradBIdeal)
    ∧ quiescent_CrossGradBRefIdeal (hCrossGradBRefIdeal := hCrossGradBRefIdeal)
    ∧ preserves_Kernel_KernelIdeal
    ∧ algebraic_KernelIdeal_ReferenceIdeal (hKernelIdeal := hKernelIdeal) (hReferenceIdeal := hReferenceIdeal)
    ∧ preserves_GuBwdW_GuBwdWIdeal
    ∧ algebraic_GuBwdWIdeal_GuBwdWRefIdeal (hGuBwdWIdeal := hGuBwdWIdeal) (hGuBwdWRefIdeal := hGuBwdWRefIdeal)
    ∧ preserves_GuBwdX_GuBwdXIdeal
    ∧ algebraic_GuBwdXIdeal_GuBwdXRefIdeal (hGuBwdXIdeal := hGuBwdXIdeal) (hGuBwdXRefIdeal := hGuBwdXRefIdeal)
    ∧ preserves_GuFwd_GuFwdIdeal
    ∧ algebraic_GuFwdIdeal_GuFwdRefIdeal (hGuFwdIdeal := hGuFwdIdeal) (hGuFwdRefIdeal := hGuFwdRefIdeal)
    ∧ preserves_DAct_DActIdeal
    ∧ algebraic_DActIdeal_DActRefIdeal (hDActIdeal := hDActIdeal) (hDActRefIdeal := hDActRefIdeal)
    ∧ preserves_DwDown_DwDownIdeal
    ∧ algebraic_DwDownIdeal_DwDownRefIdeal (hDwDownIdeal := hDwDownIdeal) (hDwDownRefIdeal := hDwDownRefIdeal)
    ∧ preserves_DnsFwd_DnsFwdIdeal
    ∧ algebraic_DnsFwdIdeal_DnsFwdRefIdeal (hDnsFwdIdeal := hDnsFwdIdeal) (hDnsFwdRefIdeal := hDnsFwdRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_Down_DownIdeal
    ∧ algebraic_DownIdeal_DownRefIdeal (hDownIdeal := hDownIdeal) (hDownRefIdeal := hDownRefIdeal)
    ∧ preserves_DownNorm_DownNormIdeal
    ∧ algebraic_DownNormIdeal_DownNormRefIdeal (hDownNormIdeal := hDownNormIdeal) (hDownNormRefIdeal := hDownNormRefIdeal)
    ∧ preserves_OutProj_OutProjIdeal
    ∧ algebraic_OutProjIdeal_OutProjRefIdeal (hOutProjIdeal := hOutProjIdeal) (hOutProjRefIdeal := hOutProjRefIdeal)
    ∧ preserves_DMix_DMixIdeal
    ∧ algebraic_DMixIdeal_DMixRefIdeal (hDMixIdeal := hDMixIdeal) (hDMixRefIdeal := hDMixRefIdeal)
    ∧ preserves_DwOut_DwOutIdeal
    ∧ algebraic_DwOutIdeal_DwOutRefIdeal (hDwOutIdeal := hDwOutIdeal) (hDwOutRefIdeal := hDwOutRefIdeal)
    ∧ preserves_DwInA_DwInAIdeal
    ∧ algebraic_DwInAIdeal_DwInARefIdeal (hDwInAIdeal := hDwInAIdeal) (hDwInARefIdeal := hDwInARefIdeal)
    ∧ preserves_DwInB_DwInBIdeal
    ∧ algebraic_DwInBIdeal_DwInBRefIdeal (hDwInBIdeal := hDwInBIdeal) (hDwInBRefIdeal := hDwInBRefIdeal)
    ∧ preserves_DInA_DInAIdeal
    ∧ algebraic_DInAIdeal_DInARefIdeal (hDInAIdeal := hDInAIdeal) (hDInARefIdeal := hDInARefIdeal)
    ∧ preserves_DInB_DInBIdeal
    ∧ algebraic_DInBIdeal_DInBRefIdeal (hDInBIdeal := hDInBIdeal) (hDInBRefIdeal := hDInBRefIdeal)
    ∧ preserves_NormIn_NormInIdeal
    ∧ algebraic_NormInIdeal_NormInRefIdeal (hNormInIdeal := hNormInIdeal) (hNormInRefIdeal := hNormInRefIdeal)
    ∧ preserves_MemKv_MemKvIdeal
    ∧ algebraic_MemKvIdeal_MemKvRefIdeal (hMemKvIdeal := hMemKvIdeal) (hMemKvRefIdeal := hMemKvRefIdeal)
    ∧ preserves_MemKvGrad_MemKvGradIdeal
    ∧ algebraic_MemKvGradIdeal_MemKvGradRefIdeal (hMemKvGradIdeal := hMemKvGradIdeal) (hMemKvGradRefIdeal := hMemKvGradRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMem_AdamMemIdeal
    ∧ algebraic_AdamMemIdeal_AdamMemRefIdeal (hAdamMemIdeal := hAdamMemIdeal) (hAdamMemRefIdeal := hAdamMemRefIdeal)
    ∧ preserves_AdamInA_AdamInAIdeal
    ∧ algebraic_AdamInAIdeal_AdamInARefIdeal (hAdamInAIdeal := hAdamInAIdeal) (hAdamInARefIdeal := hAdamInARefIdeal)
    ∧ preserves_AdamInB_AdamInBIdeal
    ∧ algebraic_AdamInBIdeal_AdamInBRefIdeal (hAdamInBIdeal := hAdamInBIdeal) (hAdamInBRefIdeal := hAdamInBRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_GluFwd_GluFwdIdeal
    ∧ algebraic_GluFwdIdeal_GluFwdRefIdeal (hGluFwdIdeal := hGluFwdIdeal) (hGluFwdRefIdeal := hGluFwdRefIdeal)
    ∧ preserves_CrossA_CrossAIdeal
    ∧ algebraic_CrossAIdeal_CrossARefIdeal (hCrossAIdeal := hCrossAIdeal) (hCrossARefIdeal := hCrossARefIdeal)
    ∧ preserves_CrossB_CrossBIdeal
    ∧ algebraic_CrossBIdeal_CrossBRefIdeal (hCrossBIdeal := hCrossBIdeal) (hCrossBRefIdeal := hCrossBRefIdeal)
    ∧ preserves_CrossGradA_CrossGradAIdeal
    ∧ algebraic_CrossGradAIdeal_CrossGradARefIdeal (hCrossGradAIdeal := hCrossGradAIdeal) (hCrossGradARefIdeal := hCrossGradARefIdeal)
    ∧ preserves_CrossGradB_CrossGradBIdeal
    ∧ algebraic_CrossGradBIdeal_CrossGradBRefIdeal (hCrossGradBIdeal := hCrossGradBIdeal) (hCrossGradBRefIdeal := hCrossGradBRefIdeal)
-- ==== Kernel.lean ====
abbrev S4096x768 : Shape := ⟨2, ![4096, 768]⟩
abbrev S64x6x64x64 : Shape := ⟨4, ![64, 6, 64, 64]⟩
abbrev S64x8x128 : Shape := ⟨3, ![64, 8, 128]⟩
abbrev S64x6x128x128 : Shape := ⟨4, ![64, 6, 128, 128]⟩
abbrev S64x768 : Shape := ⟨2, ![64, 768]⟩
abbrev S1x6x64x64 : Shape := ⟨4, ![1, 6, 64, 64]⟩
abbrev S1x8x128 : Shape := ⟨3, ![1, 8, 128]⟩
abbrev S1x6x128x128 : Shape := ⟨4, ![1, 6, 128, 128]⟩
abbrev S6x128x128 : Shape := ⟨3, ![6, 128, 128]⟩
abbrev S64x128 : Shape := ⟨2, ![64, 128]⟩
abbrev S1x64x128 : Shape := ⟨3, ![1, 64, 128]⟩
abbrev S6x64x128 : Shape := ⟨3, ![6, 64, 128]⟩
abbrev S6x64x64 : Shape := ⟨3, ![6, 64, 64]⟩
abbrev S1x6x128 : Shape := ⟨3, ![1, 6, 128]⟩
abbrev S6x128 : Shape := ⟨2, ![6, 128]⟩
abbrev S1x128 : Shape := ⟨2, ![1, 128]⟩
abbrev S6 : Shape := ⟨1, ![6]⟩
abbrev S6x1 : Shape := ⟨2, ![6, 1]⟩
abbrev S6x1x1 : Shape := ⟨3, ![6, 1, 1]⟩
abbrev S2x128 : Shape := ⟨2, ![2, 128]⟩
abbrev S8x128 : Shape := ⟨2, ![8, 128]⟩

abbrev nBuf : Space → Nat
  | .hbm => 14
  | .vmem => 29
  | .smem => 0
  | _ => 0

abbrev bufTy : (tb : Table) → Fin (tcTables nBuf tb) → BufTy
  | .hbm, ⟨0, _⟩ => ⟨S4096x768, .f32⟩
  | .hbm, ⟨1, _⟩ => ⟨S4096x768, .bf16⟩
  | .hbm, ⟨2, _⟩ => ⟨S4096x768, .bf16⟩
  | .hbm, ⟨3, _⟩ => ⟨S4096x768, .bf16⟩
  | .hbm, ⟨4, _⟩ => ⟨S64x6x64x64, .bf16⟩
  | .hbm, ⟨5, _⟩ => ⟨S64x8x128, .f32⟩
  | .hbm, ⟨6, _⟩ => ⟨S64x6x128x128, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S64x6x64x64, .f32⟩
  | .hbm, ⟨13, _⟩ => ⟨S64x8x128, .f32⟩
  | .local _ .vmem, ⟨0, _⟩ => ⟨S64x768, .f32⟩
  | .local _ .vmem, ⟨1, _⟩ => ⟨S64x768, .f32⟩
  | .local _ .vmem, ⟨2, _⟩ => ⟨S64x768, .bf16⟩
  | .local _ .vmem, ⟨3, _⟩ => ⟨S64x768, .bf16⟩
  | .local _ .vmem, ⟨4, _⟩ => ⟨S64x768, .bf16⟩
  | .local _ .vmem, ⟨5, _⟩ => ⟨S64x768, .bf16⟩
  | .local _ .vmem, ⟨6, _⟩ => ⟨S64x768, .bf16⟩
  | .local _ .vmem, ⟨7, _⟩ => ⟨S64x768, .bf16⟩
  | .local _ .vmem, ⟨8, _⟩ => ⟨S1x6x64x64, .bf16⟩
  | .local _ .vmem, ⟨9, _⟩ => ⟨S1x6x64x64, .bf16⟩
  | .local _ .vmem, ⟨10, _⟩ => ⟨S1x8x128, .f32⟩
  | .local _ .vmem, ⟨11, _⟩ => ⟨S1x8x128, .f32⟩
  | .local _ .vmem, ⟨12, _⟩ => ⟨S1x6x128x128, .f32⟩
  | .local _ .vmem, ⟨13, _⟩ => ⟨S1x6x128x128, .f32⟩
  | .local _ .vmem, ⟨14, _⟩ => ⟨S64x768, .f32⟩
  | .local _ .vmem, ⟨15, _⟩ => ⟨S64x768, .f32⟩
  | .local _ .vmem, ⟨16, _⟩ => ⟨S64x768, .f32⟩
  | .local _ .vmem, ⟨17, _⟩ => ⟨S64x768, .f32⟩
  | .local _ .vmem, ⟨18, _⟩ => ⟨S64x768, .f32⟩
  | .local _ .vmem, ⟨19, _⟩ => ⟨S64x768, .f32⟩
  | .local _ .vmem, ⟨20, _⟩ => ⟨S64x768, .f32⟩
  | .local _ .vmem, ⟨21, _⟩ => ⟨S64x768, .f32⟩
  | .local _ .vmem, ⟨22, _⟩ => ⟨S64x768, .f32⟩
  | .local _ .vmem, ⟨23, _⟩ => ⟨S64x768, .f32⟩
  | .local _ .vmem, ⟨24, _⟩ => ⟨S1x6x64x64, .f32⟩
  | .local _ .vmem, ⟨25, _⟩ => ⟨S1x6x64x64, .f32⟩
  | .local _ .vmem, ⟨26, _⟩ => ⟨S1x8x128, .f32⟩
  | .local _ .vmem, ⟨27, _⟩ => ⟨S1x8x128, .f32⟩
  | .local _ .vmem, ⟨28, _⟩ => ⟨S6x128x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_13 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x6x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x768 : Shape := ⟨2, ![4096, 768]⟩
abbrev S64x6x64x64 : Shape := ⟨4, ![64, 6, 64, 64]⟩
abbrev S64x8x128 : Shape := ⟨3, ![64, 8, 128]⟩
abbrev S64x6x128x128 : Shape := ⟨4, ![64, 6, 128, 128]⟩
abbrev S64x64x6x128 : Shape := ⟨4, ![64, 64, 6, 128]⟩
abbrev S64x6x64x128 : Shape := ⟨4, ![64, 6, 64, 128]⟩
abbrev S64x6x1 : Shape := ⟨3, ![64, 6, 1]⟩
abbrev S64x6 : Shape := ⟨2, ![64, 6]⟩
abbrev S_ : Shape := ⟨0, ![]⟩
abbrev S6x128x128 : Shape := ⟨3, ![6, 128, 128]⟩
abbrev S1x6x128x128 : Shape := ⟨4, ![1, 6, 128, 128]⟩
abbrev S1x6x64x128 : Shape := ⟨4, ![1, 6, 64, 128]⟩
abbrev S6x64x128 : Shape := ⟨3, ![6, 64, 128]⟩
abbrev S1x6x64x64 : Shape := ⟨4, ![1, 6, 64, 64]⟩
abbrev S6x64x64 : Shape := ⟨3, ![6, 64, 64]⟩
abbrev S1x6 : Shape := ⟨2, ![1, 6]⟩
abbrev S6 : Shape := ⟨1, ![6]⟩
abbrev S6x1x1 : Shape := ⟨3, ![6, 1, 1]⟩
abbrev S6x128x64 : Shape := ⟨3, ![6, 128, 64]⟩

abbrev nBuf : Space → Nat
  | .hbm => 176
  | .vmem => 0
  | .smem => 0
  | _ => 0

abbrev hbmTy0_0 (i : Nat) : BufTy := match i % 128 with
  | 0 => ⟨S4096x768, .f32⟩
  | 1 => ⟨S4096x768, .bf16⟩
  | 2 => ⟨S4096x768, .bf16⟩
  | 3 => ⟨S4096x768, .bf16⟩
  | 4 => ⟨S64x6x64x64, .bf16⟩
  | 5 => ⟨S64x8x128, .f32⟩
  | 6 => ⟨S64x6x128x128, .f32⟩
  | 7 => ⟨S4096x768, .f32⟩
  | 8 => ⟨S64x64x6x128, .f32⟩
  | 9 => ⟨S64x6x64x128, .f32⟩
  | 10 => ⟨S4096x768, .f32⟩
  | 11 => ⟨S64x64x6x128, .f32⟩
  | 12 => ⟨S64x6x64x128, .f32⟩
  | 13 => ⟨S64x6x64x64, .f32⟩
  | 14 => ⟨S4096x768, .f32⟩
  | 15 => ⟨S64x64x6x128, .f32⟩
  | 16 => ⟨S64x6x64x128, .f32⟩
  | 17 => ⟨S4096x768, .f32⟩
  | 18 => ⟨S64x64x6x128, .f32⟩
  | 19 => ⟨S64x6x64x128, .f32⟩
  | 20 => ⟨S64x6x1, .f32⟩
  | 21 => ⟨S64x6, .f32⟩
  | 22 => ⟨S_, .f32⟩
  | 23 => ⟨S6x128x128, .f32⟩
  | 24 => ⟨S64x64x6x128, .f32⟩
  | 25 => ⟨S64x6x64x128, .f32⟩
  | 26 => ⟨S_, .f32⟩
  | 27 => ⟨S64x6x64x128, .f32⟩
  | 28 => ⟨S_, .f32⟩
  | 29 => ⟨S64x6x64x128, .f32⟩
  | 30 => ⟨S_, .f32⟩
  | 31 => ⟨S64x6x64x64, .f32⟩
  | 32 => ⟨S_, .f32⟩
  | 33 => ⟨S64x6x64x128, .f32⟩
  | 34 => ⟨S_, .f32⟩
  | 35 => ⟨S64x6x64x128, .f32⟩
  | 36 => ⟨S_, .f32⟩
  | 37 => ⟨S64x6, .f32⟩
  | 38 => ⟨S_, .i32⟩
  | 39 => ⟨S64x6x128x128, .f32⟩
  | 40 => ⟨S64x6x64x128, .f32⟩
  | 41 => ⟨S64x6x64x128, .f32⟩
  | 42 => ⟨S64x6x64x64, .f32⟩
  | 43 => ⟨S64x6x64x128, .f32⟩
  | 44 => ⟨S64x6x64x128, .f32⟩
  | 45 => ⟨S64x6, .f32⟩
  | 46 => ⟨S64x6x64x128, .f32⟩
  | 47 => ⟨S_, .i32⟩
  | 48 => ⟨S6x128x128, .f32⟩
  | 49 => ⟨S64x6x64x128, .f32⟩
  | 50 => ⟨S64x6x64x128, .f32⟩
  | 51 => ⟨S64x6x64x64, .f32⟩
  | 52 => ⟨S64x6x64x128, .f32⟩
  | 53 => ⟨S64x6x64x128, .f32⟩
  | 54 => ⟨S64x6, .f32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S1x6x128x128, .f32⟩
  | 65 => ⟨S6x128x128, .f32⟩
  | 66 => ⟨S_, .i32⟩
  | 67 => ⟨S_, .i32⟩
  | 68 => ⟨S_, .i32⟩
  | 69 => ⟨S1x6x64x128, .f32⟩
  | 70 => ⟨S6x64x128, .f32⟩
  | 71 => ⟨S_, .i32⟩
  | 72 => ⟨S_, .i32⟩
  | 73 => ⟨S_, .i32⟩
  | 74 => ⟨S1x6x64x128, .f32⟩
  | 75 => ⟨S6x64x128, .f32⟩
  | 76 => ⟨S_, .i32⟩
  | 77 => ⟨S_, .i32⟩
  | 78 => ⟨S_, .i32⟩
  | 79 => ⟨S1x6x64x64, .f32⟩
  | 80 => ⟨S6x64x64, .f32⟩
  | 81 => ⟨S_, .i32⟩
  | 82 => ⟨S_, .i32⟩
  | 83 => ⟨S_, .i32⟩
  | 84 => ⟨S1x6x64x128, .f32⟩
  | 85 => ⟨S6x64x128, .f32⟩
  | 86 => ⟨S_, .i32⟩
  | 87 => ⟨S_, .i32⟩
  | 88 => ⟨S_, .i32⟩
  | 89 => ⟨S1x6x64x128, .f32⟩
  | 90 => ⟨S6x64x128, .f32⟩
  | 91 => ⟨S_, .i32⟩
  | 92 => ⟨S1x6, .f32⟩
  | 93 => ⟨S6, .f32⟩
  | 94 => ⟨S_, .i32⟩
  | 95 => ⟨S_, .i32⟩
  | 96 => ⟨S_, .i32⟩
  | 97 => ⟨S1x6x64x128, .f32⟩
  | 98 => ⟨S6x64x128, .f32⟩
  | 99 => ⟨S6x64x128, .f32⟩
  | 100 => ⟨S6x64x128, .f32⟩
  | 101 => ⟨S6x64x128, .f32⟩
  | 102 => ⟨S6x64x128, .f32⟩
  | 103 => ⟨S6x64x128, .f32⟩
  | 104 => ⟨S6x1x1, .f32⟩
  | 105 => ⟨S6x128x128, .f32⟩
  | 106 => ⟨S6x128x128, .f32⟩
  | 107 => ⟨S6x128x128, .f32⟩
  | 108 => ⟨S6x128x128, .f32⟩
  | 109 => ⟨S6x128x64, .f32⟩
  | 110 => ⟨S6x64x128, .f32⟩
  | 111 => ⟨S6x128x64, .f32⟩
  | 112 => ⟨S6x64x128, .f32⟩
  | 113 => ⟨S6x128x128, .f32⟩
  | 114 => ⟨S6x128x128, .f32⟩
  | 115 => ⟨S6x128x128, .f32⟩
  | 116 => ⟨S_, .f32⟩
  | 117 => ⟨S6, .f32⟩
  | 118 => ⟨S6x1x1, .f32⟩
  | 119 => ⟨S_, .f32⟩
  | 120 => ⟨S6, .f32⟩
  | 121 => ⟨S6x128x64, .f32⟩
  | 122 => ⟨S6x64x128, .f32⟩
  | 123 => ⟨S6x64x128, .f32⟩
  | 124 => ⟨S6x64x64, .f32⟩
  | 125 => ⟨S6x128x128, .f32⟩
  | 126 => ⟨S6x128x128, .f32⟩
  | 127 => ⟨S6x128x128, .f32⟩
  | _ => ⟨S4096x768, .f32⟩

abbrev hbmTy0_1 (i : Nat) : BufTy := match i % 128 with
  | 0 => ⟨S6x64x128, .f32⟩
  | 1 => ⟨S6x64x128, .f32⟩
  | 2 => ⟨S6x128x128, .f32⟩
  | 3 => ⟨S6x128x128, .f32⟩
  | 4 => ⟨S6x128x128, .f32⟩
  | 5 => ⟨S6x64x128, .f32⟩
  | 6 => ⟨S1x6x64x128, .f32⟩
  | 7 => ⟨S_, .i32⟩
  | 8 => ⟨S_, .i32⟩
  | 9 => ⟨S_, .i32⟩
  | 10 => ⟨S64x6x64x128, .f32⟩
  | 11 => ⟨S1x6x64x128, .f32⟩
  | 12 => ⟨S_, .i32⟩
  | 13 => ⟨S_, .i32⟩
  | 14 => ⟨S_, .i32⟩
  | 15 => ⟨S64x6x64x128, .f32⟩
  | 16 => ⟨S1x6x64x64, .f32⟩
  | 17 => ⟨S_, .i32⟩
  | 18 => ⟨S_, .i32⟩
  | 19 => ⟨S_, .i32⟩
  | 20 => ⟨S64x6x64x64, .f32⟩
  | 21 => ⟨S1x6x64x128, .f32⟩
  | 22 => ⟨S_, .i32⟩
  | 23 => ⟨S_, .i32⟩
  | 24 => ⟨S_, .i32⟩
  | 25 => ⟨S64x6x64x128, .f32⟩
  | 26 => ⟨S1x6x64x128, .f32⟩
  | 27 => ⟨S_, .i32⟩
  | 28 => ⟨S_, .i32⟩
  | 29 => ⟨S_, .i32⟩
  | 30 => ⟨S64x6x64x128, .f32⟩
  | 31 => ⟨S1x6, .f32⟩
  | 32 => ⟨S_, .i32⟩
  | 33 => ⟨S64x6, .f32⟩
  | 34 => ⟨S_, .i32⟩
  | 35 => ⟨S_, .i32⟩
  | 36 => ⟨S64x64x6x128, .f32⟩
  | 37 => ⟨S4096x768, .f32⟩
  | 38 => ⟨S64x64x6x128, .f32⟩
  | 39 => ⟨S4096x768, .f32⟩
  | 40 => ⟨S64x64x6x128, .f32⟩
  | 41 => ⟨S4096x768, .f32⟩
  | 42 => ⟨S64x64x6x128, .f32⟩
  | 43 => ⟨S4096x768, .f32⟩
  | 44 => ⟨S64x6x1, .f32⟩
  | 45 => ⟨S_, .i32⟩
  | 46 => ⟨S_, .f32⟩
  | 47 => ⟨S64x8x128, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_c : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v23_4 : Ref sig .tc := ⟨.hbm, 43, rfl⟩
abbrev main_v23_5 : Ref sig .tc := ⟨.hbm, 44, rfl⟩
abbrev main_v23_6 : Ref sig .tc := ⟨.hbm, 45, rfl⟩
abbrev main_v23_7 : Ref sig .tc := ⟨.hbm, 46, rfl⟩
abbrev main_v23_8 : Ref sig .tc := ⟨.hbm, 47, rfl⟩
abbrev main_v23_9 : Ref sig .tc := ⟨.hbm, 48, rfl⟩
abbrev main_v23_10 : Ref sig .tc := ⟨.hbm, 49, rfl⟩
abbrev main_v23_11 : Ref sig .tc := ⟨.hbm, 50, rfl⟩
abbrev main_v23_12 : Ref sig .tc := ⟨.hbm, 51, rfl⟩
abbrev main_v23_13 : Ref sig .tc := ⟨.hbm, 52, rfl⟩
abbrev main_v23_14 : Ref sig .tc := ⟨.hbm, 53, rfl⟩
abbrev main_v23_15 : Ref sig .tc := ⟨.hbm, 54, rfl⟩
abbrev main_while0c_c_22 : Ref sig .tc := ⟨.hbm, 55, rfl⟩
abbrev main_while0c_v34 : Ref sig .tc := ⟨.hbm, 56, rfl⟩
abbrev main_while0b_c_22 : Ref sig .tc := ⟨.hbm, 57, rfl⟩
abbrev main_while0b_v34 : Ref sig .tc := ⟨.hbm, 58, rfl⟩
abbrev main_while0b_c_23 : Ref sig .tc := ⟨.hbm, 59, rfl⟩
abbrev main_while0b_v35 : Ref sig .tc := ⟨.hbm, 60, rfl⟩
abbrev main_while0b_call0_c : Ref sig .tc := ⟨.hbm, 61, rfl⟩
abbrev main_while0b_call0_c_0 : Ref sig .tc := ⟨.hbm, 62, rfl⟩
abbrev main_while0b_call0_c_1 : Ref sig .tc := ⟨.hbm, 63, rfl⟩
abbrev main_while0b_call0_v0 : Ref sig .tc := ⟨.hbm, 64, rfl⟩
abbrev main_while0b_v36 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_c_1 : Ref sig .tc := ⟨.hbm, 68, rfl⟩
abbrev main_while0b_call1_v0 : Ref sig .tc := ⟨.hbm, 69, rfl⟩
abbrev main_while0b_v37 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_call2_v0 : Ref sig .tc := ⟨.hbm, 74, rfl⟩
abbrev main_while0b_v38 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_call3_c_1 : Ref sig .tc := ⟨.hbm, 78, rfl⟩
abbrev main_while0b_call3_v0 : Ref sig .tc := ⟨.hbm, 79, rfl⟩
abbrev main_while0b_v39 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_v0 : Ref sig .tc := ⟨.hbm, 84, rfl⟩
abbrev main_while0b_v40 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_c_1 : Ref sig .tc := ⟨.hbm, 88, rfl⟩
abbrev main_while0b_call5_v0 : Ref sig .tc := ⟨.hbm, 89, rfl⟩
abbrev main_while0b_v41 : Ref sig .tc := ⟨.hbm, 90, rfl⟩
abbrev main_while0b_call6_c : Ref sig .tc := ⟨.hbm, 91, rfl⟩
abbrev main_while0b_call6_v0 : Ref sig .tc := ⟨.hbm, 92, rfl⟩
abbrev main_while0b_v42 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_call7_v0 : Ref sig .tc := ⟨.hbm, 97, rfl⟩
abbrev main_while0b_v43 : Ref sig .tc := ⟨.hbm, 98, rfl⟩
abbrev main_while0b_v44 : Ref sig .tc := ⟨.hbm, 99, rfl⟩
abbrev main_while0b_v45 : Ref sig .tc := ⟨.hbm, 100, rfl⟩
abbrev main_while0b_v46 : Ref sig .tc := ⟨.hbm, 101, rfl⟩
abbrev main_while0b_v47 : Ref sig .tc := ⟨.hbm, 102, rfl⟩
abbrev main_while0b_v48 : Ref sig .tc := ⟨.hbm, 103, rfl⟩
abbrev main_while0b_v49 : Ref sig .tc := ⟨.hbm, 104, rfl⟩
abbrev main_while0b_v50 : Ref sig .tc := ⟨.hbm, 105, rfl⟩
abbrev main_while0b_v51 : Ref sig .tc := ⟨.hbm, 106, rfl⟩
abbrev main_while0b_v52 : Ref sig .tc := ⟨.hbm, 107, rfl⟩
abbrev main_while0b_v53 : Ref sig .tc := ⟨.hbm, 108, rfl⟩
abbrev main_while0b_v54 : Ref sig .tc := ⟨.hbm, 109, rfl⟩
abbrev main_while0b_v55 : Ref sig .tc := ⟨.hbm, 110, rfl⟩
abbrev main_while0b_v56 : Ref sig .tc := ⟨.hbm, 111, rfl⟩
abbrev main_while0b_v57 : Ref sig .tc := ⟨.hbm, 112, rfl⟩
abbrev main_while0b_v58 : Ref sig .tc := ⟨.hbm, 113, rfl⟩
abbrev main_while0b_v59 : Ref sig .tc := ⟨.hbm, 114, rfl⟩
abbrev main_while0b_v60 : Ref sig .tc := ⟨.hbm, 115, rfl⟩
abbrev main_while0b_cst_24 : Ref sig .tc := ⟨.hbm, 116, rfl⟩
abbrev main_while0b_v61 : Ref sig .tc := ⟨.hbm, 117, rfl⟩
abbrev main_while0b_v62 : Ref sig .tc := ⟨.hbm, 118, rfl⟩
abbrev main_while0b_cst_25 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_v71 : Ref sig .tc := ⟨.hbm, 128, rfl⟩
abbrev main_while0b_v72 : Ref sig .tc := ⟨.hbm, 129, rfl⟩
abbrev main_while0b_v73 : Ref sig .tc := ⟨.hbm, 130, rfl⟩
abbrev main_while0b_v74 : Ref sig .tc := ⟨.hbm, 131, rfl⟩
abbrev main_while0b_v75 : Ref sig .tc := ⟨.hbm, 132, rfl⟩
abbrev main_while0b_v76 : Ref sig .tc := ⟨.hbm, 133, rfl⟩
abbrev main_while0b_call8_v0 : Ref sig .tc := ⟨.hbm, 134, rfl⟩
abbrev main_while0b_call8_c : Ref sig .tc := ⟨.hbm, 135, rfl⟩
abbrev main_while0b_call8_c_0 : Ref sig .tc := ⟨.hbm, 136, rfl⟩
abbrev main_while0b_call8_c_1 : Ref sig .tc := ⟨.hbm, 137, rfl⟩
abbrev main_while0b_v77 : Ref sig .tc := ⟨.hbm, 138, rfl⟩
abbrev main_while0b_call9_v0 : Ref sig .tc := ⟨.hbm, 139, rfl⟩
abbrev main_while0b_call9_c : Ref sig .tc := ⟨.hbm, 140, rfl⟩
abbrev main_while0b_call9_c_0 : Ref sig .tc := ⟨.hbm, 141, rfl⟩
abbrev main_while0b_call9_c_1 : Ref sig .tc := ⟨.hbm, 142, rfl⟩
abbrev main_while0b_v78 : Ref sig .tc := ⟨.hbm, 143, rfl⟩
abbrev main_while0b_call10_v0 : Ref sig .tc := ⟨.hbm, 144, rfl⟩
abbrev main_while0b_call10_c : Ref sig .tc := ⟨.hbm, 145, rfl⟩
abbrev main_while0b_call10_c_0 : Ref sig .tc := ⟨.hbm, 146, rfl⟩
abbrev main_while0b_call10_c_1 : Ref sig .tc := ⟨.hbm, 147, rfl⟩
abbrev main_while0b_v79 : Ref sig .tc := ⟨.hbm, 148, rfl⟩
abbrev main_while0b_call11_v0 : Ref sig .tc := ⟨.hbm, 149, rfl⟩
abbrev main_while0b_call11_c : Ref sig .tc := ⟨.hbm, 150, rfl⟩
abbrev main_while0b_call11_c_0 : Ref sig .tc := ⟨.hbm, 151, rfl⟩
abbrev main_while0b_call11_c_1 : Ref sig .tc := ⟨.hbm, 152, rfl⟩
abbrev main_while0b_v80 : Ref sig .tc := ⟨.hbm, 153, rfl⟩
abbrev main_while0b_call12_v0 : Ref sig .tc := ⟨.hbm, 154, rfl⟩
abbrev main_while0b_call12_c : Ref sig .tc := ⟨.hbm, 155, rfl⟩
abbrev main_while0b_call12_c_0 : Ref sig .tc := ⟨.hbm, 156, rfl⟩
abbrev main_while0b_call12_c_1 : Ref sig .tc := ⟨.hbm, 157, rfl⟩
abbrev main_while0b_v81 : Ref sig .tc := ⟨.hbm, 158, rfl⟩
abbrev main_while0b_call13_v0 : Ref sig .tc := ⟨.hbm, 159, rfl⟩
abbrev main_while0b_call13_c : Ref sig .tc := ⟨.hbm, 160, rfl⟩
abbrev main_while0b_v82 : Ref sig .tc := ⟨.hbm, 161, rfl⟩
abbrev main_while0b_c_26 : Ref sig .tc := ⟨.hbm, 162, rfl⟩
abbrev main_while0b_v83 : Ref sig .tc := ⟨.hbm, 163, rfl⟩
abbrev main_v24 : Ref sig .tc := ⟨.hbm, 164, rfl⟩
abbrev main_v25 : Ref sig .tc := ⟨.hbm, 165, rfl⟩
abbrev main_v26 : Ref sig .tc := ⟨.hbm, 166, rfl⟩
abbrev main_v27 : Ref sig .tc := ⟨.hbm, 167, rfl⟩
abbrev main_v28 : Ref sig .tc := ⟨.hbm, 168, rfl⟩
abbrev main_v29 : Ref sig .tc := ⟨.hbm, 169, rfl⟩
abbrev main_v30 : Ref sig .tc := ⟨.hbm, 170, rfl⟩
abbrev main_v31 : Ref sig .tc := ⟨.hbm, 171, rfl⟩
abbrev main_v32 : Ref sig .tc := ⟨.hbm, 172, rfl⟩
abbrev main_c_6 : Ref sig .tc := ⟨.hbm, 173, rfl⟩
abbrev main_call14_v0 : Ref sig .tc := ⟨.hbm, 174, rfl⟩
abbrev main_v33 : Ref sig .tc := ⟨.hbm, 175, rfl⟩

abbrev nD : Nat := 1
abbrev τ : Topo := Topo.v7x

variable {F : FTy → Type} [FloatOps F]

abbrev main_while0_count : Scf.Loop 32 := ⟨0#32, 64#32, 1#32⟩
-- ==== GuBwdW.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GuBwdWRefIdeal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S4096x5632 : Shape := ⟨2, ![4096, 5632]⟩
abbrev S4096x2x2816 : Shape := ⟨3, ![4096, 2, 2816]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S2x4096x2816, .f32⟩
  | .hbm, ⟨7, _⟩ => ⟨S4096x2x2816, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GuBwdX.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1024 : Shape := ⟨1, ![1024]⟩
abbrev S1x1024 : Shape := ⟨2, ![1, 1024]⟩
abbrev S1x1024x1408 : Shape := ⟨3, ![1, 1024, 1408]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def k0_cond3 (i : grid0.Coords) : BitVec 1 :=
  let arg1 : BitVec 32 := BitVec.ofNat 32 (i 1).val
  let c0_i32_9 : BitVec 32 := 0#32
  let v13 : BitVec 1 := Scalar.cmpi .sgt arg1 c0_i32_9
  let v14 : BitVec 32 := Scalar.extui v13
  let c0_i32_10 : BitVec 32 := 0#32
  let v15 : BitVec 1 := Scalar.cmpi .ne v14 c0_i32_10
  v15

def k0_cond4 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_5 : BitVec 32 := 0#32
  let v6 : BitVec 1 := Scalar.cmpi .eq arg1 c0_i32_5
  let v7 : BitVec 1 := Scalar.andi v5 v6
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GuBwdXRefIdeal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4x1408 : Shape := ⟨3, ![1024, 4, 1408]⟩
abbrev S1024x5632 : Shape := ⟨2, ![1024, 5632]⟩
abbrev S4096x5632 : Shape := ⟨2, ![4096, 5632]⟩
abbrev S4096x2x2816 : Shape := ⟨3, ![4096, 2, 2816]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4x1024x1408, .f32⟩
  | .hbm, ⟨26, _⟩ => ⟨S1024x4x1408, .f32⟩
  | .hbm, ⟨27, _⟩ => ⟨S1024x5632, .f32⟩
  | .hbm, ⟨28, _⟩ => ⟨S4096x5632, .f32⟩
  | .hbm, ⟨29, _⟩ => ⟨S2x4096x2816, .f32⟩
  | .hbm, ⟨30, _⟩ => ⟨S4096x2x2816, .f32⟩
  | .hbm, ⟨31, _⟩ => ⟨S4096x5632, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== GuFwd.lean ====
abbrev S4096x1024 : Shape := ⟨2, ![4096, 1024]⟩
abbrev S4x1024x1408 : Shape := ⟨3, ![4, 1024, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GuFwdRefIdeal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S4096x5632, .f32⟩
  | .hbm, ⟨7, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DActRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DnsFwd.lean ====
abbrev S4096x768 : Shape := ⟨2, ![4096, 768]⟩
abbrev S64x6x64x64 : Shape := ⟨4, ![64, 6, 64, 64]⟩
abbrev S64x8x128 : Shape := ⟨3, ![64, 8, 128]⟩
abbrev S64x6x128x128 : Shape := ⟨4, ![64, 6, 128, 128]⟩
abbrev S64x768 : Shape := ⟨2, ![64, 768]⟩
abbrev S1x6x64x64 : Shape := ⟨4, ![1, 6, 64, 64]⟩
abbrev S1x8x128 : Shape := ⟨3, ![1, 8, 128]⟩
abbrev S1x6x128x128 : Shape := ⟨4, ![1, 6, 128, 128]⟩
abbrev S6x128x128 : Shape := ⟨3, ![6, 128, 128]⟩
abbrev S64x128 : Shape := ⟨2, ![64, 128]⟩
abbrev S1x64x128 : Shape := ⟨3, ![1, 64, 128]⟩
abbrev S6x64x128 : Shape := ⟨3, ![6, 64, 128]⟩
abbrev S6x64x64 : Shape := ⟨3, ![6, 64, 64]⟩
abbrev S1x6x128 : Shape := ⟨3, ![1, 6, 128]⟩
abbrev S6x128 : Shape := ⟨2, ![6, 128]⟩
abbrev S1x128 : Shape := ⟨2, ![1, 128]⟩
abbrev S6 : Shape := ⟨1, ![6]⟩
abbrev S6x1 : Shape := ⟨2, ![6, 1]⟩
abbrev S6x1x1 : Shape := ⟨3, ![6, 1, 1]⟩

abbrev nBuf : Space → Nat
  | .hbm => 8
  | .vmem => 17
  | .smem => 0
  | _ => 0

abbrev bufTy : (tb : Table) → Fin (tcTables nBuf tb) → BufTy
  | .hbm, ⟨0, _⟩ => ⟨S4096x768, .f32⟩
  | .hbm, ⟨1, _⟩ => ⟨S4096x768, .bf16⟩
  | .hbm, ⟨2, _⟩ => ⟨S4096x768, .bf16⟩
  | .hbm, ⟨3, _⟩ => ⟨S4096x768, .bf16⟩
  | .hbm, ⟨4, _⟩ => ⟨S64x6x64x64, .bf16⟩
  | .hbm, ⟨5, _⟩ => ⟨S64x8x128, .f32⟩
  | .hbm, ⟨6, _⟩ => ⟨S4096x768, .f32⟩
  | .hbm, ⟨7, _⟩ => ⟨S64x6x128x128, .f32⟩
  | .local _ .vmem, ⟨0, _⟩ => ⟨S64x768, .f32⟩
  | .local _ .vmem, ⟨1, _⟩ => ⟨S64x768, .f32⟩
  | .local _ .vmem, ⟨2, _⟩ => ⟨S64x768, .bf16⟩
  | .local _ .vmem, ⟨3, _⟩ => ⟨S64x768, .bf16⟩
  | .local _ .vmem, ⟨4, _⟩ => ⟨S64x768, .bf16⟩
  | .local _ .vmem, ⟨5, _⟩ => ⟨S64x768, .bf16⟩
  | .local _ .vmem, ⟨6, _⟩ => ⟨S64x768, .bf16⟩
  | .local _ .vmem, ⟨7, _⟩ => ⟨S64x768, .bf16⟩
  | .local _ .vmem, ⟨8, _⟩ => ⟨S1x6x64x64, .bf16⟩
  | .local _ .vmem, ⟨9, _⟩ => ⟨S1x6x64x64, .bf16⟩
  | .local _ .vmem, ⟨10, _⟩ => ⟨S1x8x128, .f32⟩
  | .local _ .vmem, ⟨11, _⟩ => ⟨S1x8x128, .f32⟩
  | .local _ .vmem, ⟨12, _⟩ => ⟨S64x768, .f32⟩
  | .local _ .vmem, ⟨13, _⟩ => ⟨S64x768, .f32⟩
  | .local _ .vmem, ⟨14, _⟩ => ⟨S1x6x128x128, .f32⟩
  | .local _ .vmem, ⟨15, _⟩ => ⟨S1x6x128x128, .f32⟩
  | .local _ .vmem, ⟨16, _⟩ => ⟨S6x128x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DnsFwdRefIdeal.lean ====
abbrev S4096x768 : Shape := ⟨2, ![4096, 768]⟩
abbrev S64x6x64x64 : Shape := ⟨4, ![64, 6, 64, 64]⟩
abbrev S64x8x128 : Shape := ⟨3, ![64, 8, 128]⟩
abbrev S64x64x6x128 : Shape := ⟨4, ![64, 64, 6, 128]⟩
abbrev S64x6x64x128 : Shape := ⟨4, ![64, 6, 64, 128]⟩
abbrev S64x6x1 : Shape := ⟨3, ![64, 6, 1]⟩
abbrev S64x6 : Shape := ⟨2, ![64, 6]⟩
abbrev S_ : Shape := ⟨0, ![]⟩
abbrev S6x128x128 : Shape := ⟨3, ![6, 128, 128]⟩
abbrev S64x6x128x128 : Shape := ⟨4, ![64, 6, 128, 128]⟩
abbrev S1x6x64x128 : Shape := ⟨4, ![1, 6, 64, 128]⟩
abbrev S6x64x128 : Shape := ⟨3, ![6, 64, 128]⟩
abbrev S1x6x64x64 : Shape := ⟨4, ![1, 6, 64, 64]⟩
abbrev S6x64x64 : Shape := ⟨3, ![6, 64, 64]⟩
abbrev S1x6 : Shape := ⟨2, ![1, 6]⟩
abbrev S6 : Shape := ⟨1, ![6]⟩
abbrev S6x1x1 : Shape := ⟨3, ![6, 1, 1]⟩
abbrev S1x6x128x128 : Shape := ⟨4, ![1, 6, 128, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .bf16⟩
  | .hbm, ⟨2, _⟩ => ⟨S4096x768, .bf16⟩
  | .hbm, ⟨3, _⟩ => ⟨S4096x768, .bf16⟩
  | .hbm, ⟨4, _⟩ => ⟨S64x6x64x64, .bf16⟩
  | .hbm, ⟨5, _⟩ => ⟨S64x8x128, .f32⟩
  | .hbm, ⟨6, _⟩ => ⟨S64x64x6x128, .f32⟩
  | .hbm, ⟨7, _⟩ => ⟨S64x6x64x128, .f32⟩
  | .hbm, ⟨8, _⟩ => ⟨S4096x768, .f32⟩
  | .hbm, ⟨9, _⟩ => ⟨S64x64x6x128, .f32⟩
  | .hbm, ⟨10, _⟩ => ⟨S64x6x64x128, .f32⟩
  | .hbm, ⟨11, _⟩ => ⟨S64x6x64x64, .f32⟩
  | .hbm, ⟨12, _⟩ => ⟨S4096x768, .f32⟩
  | .hbm, ⟨13, _⟩ => ⟨S64x64x6x128, .f32⟩
  | .hbm, ⟨14, _⟩ => ⟨S64x6x64x128, .f32⟩
  | .hbm, ⟨15, _⟩ => ⟨S4096x768, .f32⟩
  | .hbm, ⟨16, _⟩ => ⟨S64x64x6x128, .f32⟩
  | .hbm, ⟨17, _⟩ => ⟨S64x6x64x128, .f32⟩
  | .hbm, ⟨18, _⟩ => ⟨S64x6x1, .f32⟩
  | .hbm, ⟨19, _⟩ => ⟨S64x6, .f32⟩
  | .hbm, ⟨20, _⟩ => ⟨S_, .f32⟩
  | .hbm, ⟨21, _⟩ => ⟨S6x128x128, .f32⟩
  | .hbm, ⟨22, _⟩ => ⟨S_, .f32⟩
  | .hbm, ⟨23, _⟩ => ⟨S64x6x64x128, .f32⟩
  | .hbm, ⟨24, _⟩ => ⟨S_, .f32⟩
  | .hbm, ⟨25, _⟩ => ⟨S64x6x128x128, .f32⟩
  | .hbm, ⟨26, _⟩ => ⟨S_, .i32⟩
  | .hbm, ⟨27, _⟩ => ⟨S64x6x64x128, .f32⟩
  | .hbm, ⟨28, _⟩ => ⟨S64x6x64x128, .f32⟩
  | .hbm, ⟨29, _⟩ => ⟨S64x6x64x64, .f32⟩
  | .hbm, ⟨30, _⟩ => ⟨S64x6x64x128, .f32⟩
  | .hbm, ⟨31, _⟩ => ⟨S64x6x64x128, .f32⟩
  | .hbm, ⟨32, _⟩ => ⟨S64x6, .f32⟩
  | .hbm, ⟨33, _⟩ => ⟨S_, .i32⟩
  | .hbm, ⟨34, _⟩ => ⟨S6x128x128, .f32⟩
  | .hbm, ⟨35, _⟩ => ⟨S64x6x64x128, .f32⟩
  | .hbm, ⟨36, _⟩ => ⟨S64x6x128x128, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x6x64x128, .f32⟩
  | .hbm, ⟨43, _⟩ => ⟨S6x64x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x6x64x128, .f32⟩
  | .hbm, ⟨48, _⟩ => ⟨S6x64x128, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x6x64x64, .f32⟩
  | .hbm, ⟨53, _⟩ => ⟨S6x64x64, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x6x64x128, .f32⟩
  | .hbm, ⟨58, _⟩ => ⟨S6x64x128, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x6x64x128, .f32⟩
  | .hbm, ⟨63, _⟩ => ⟨S6x64x128, .f32⟩
  | .hbm, ⟨64, _⟩ => ⟨S_, .i32⟩
  | .hbm, ⟨65, _⟩ => ⟨S1x6, .f32⟩
  | .hbm, ⟨66, _⟩ => ⟨S6, .f32⟩
  | .hbm, ⟨67, _⟩ => ⟨S6x64x128, .f32⟩
  | .hbm, ⟨68, _⟩ => ⟨S6x64x128, .f32⟩
  | .hbm, ⟨69, _⟩ => ⟨S6x64x128, .f32⟩
  | .hbm, ⟨70, _⟩ => ⟨S6x64x128, .f32⟩
  | .hbm, ⟨71, _⟩ => ⟨S6x64x128, .f32⟩
  | .hbm, ⟨72, _⟩ => ⟨S6x1x1, .f32⟩
  | .hbm, ⟨73, _⟩ => ⟨S6x128x128, .f32⟩
  | .hbm, ⟨74, _⟩ => ⟨S6x128x128, .f32⟩
  | .hbm, ⟨75, _⟩ => ⟨S6x128x128, .f32⟩
  | .hbm, ⟨76, _⟩ => ⟨S6x128x128, .f32⟩
  | .hbm, ⟨77, _⟩ => ⟨S1x6x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S64x6x64x128, .f32⟩
  | .hbm, ⟨82, _⟩ => ⟨S1x6x128x128, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S64x6x128x128, .f32⟩
  | .hbm, ⟨87, _⟩ => ⟨S_, .i32⟩
  | .hbm, ⟨88, _⟩ => ⟨S_, .i32⟩
  | .hbm, ⟨89, _⟩ => ⟨S64x64x6x128, .f32⟩
  | .hbm, ⟨90, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_c : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev main_v17_5 : Ref sig .tc := ⟨.hbm, 32, rfl⟩
abbrev main_v17_6 : Ref sig .tc := ⟨.hbm, 33, rfl⟩
abbrev main_v17_7 : Ref sig .tc := ⟨.hbm, 34, rfl⟩
abbrev main_v17_8 : Ref sig .tc := ⟨.hbm, 35, rfl⟩
abbrev main_v17_9 : Ref sig .tc := ⟨.hbm, 36, rfl⟩
abbrev main_while0c_c_11 : Ref sig .tc := ⟨.hbm, 37, rfl⟩
abbrev main_while0c_v20 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_v0 : Ref sig .tc := ⟨.hbm, 42, rfl⟩
abbrev main_while0b_v20 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_v0 : Ref sig .tc := ⟨.hbm, 47, rfl⟩
abbrev main_while0b_v21 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_v0 : Ref sig .tc := ⟨.hbm, 52, rfl⟩
abbrev main_while0b_v22 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_c_1 : Ref sig .tc := ⟨.hbm, 56, rfl⟩
abbrev main_while0b_call3_v0 : Ref sig .tc := ⟨.hbm, 57, rfl⟩
abbrev main_while0b_v23 : Ref sig .tc := ⟨.hbm, 58, rfl⟩
abbrev main_while0b_call4_c : Ref sig .tc := ⟨.hbm, 59, rfl⟩
abbrev main_while0b_call4_c_0 : Ref sig .tc := ⟨.hbm, 60, rfl⟩
abbrev main_while0b_call4_c_1 : Ref sig .tc := ⟨.hbm, 61, rfl⟩
abbrev main_while0b_call4_v0 : Ref sig .tc := ⟨.hbm, 62, rfl⟩
abbrev main_while0b_v24 : Ref sig .tc := ⟨.hbm, 63, rfl⟩
abbrev main_while0b_call5_c : Ref sig .tc := ⟨.hbm, 64, rfl⟩
abbrev main_while0b_call5_v0 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_call6_v0 : Ref sig .tc := ⟨.hbm, 77, rfl⟩
abbrev main_while0b_call6_c : Ref sig .tc := ⟨.hbm, 78, rfl⟩
abbrev main_while0b_call6_c_0 : Ref sig .tc := ⟨.hbm, 79, rfl⟩
abbrev main_while0b_call6_c_1 : Ref sig .tc := ⟨.hbm, 80, rfl⟩
abbrev main_while0b_v36 : Ref sig .tc := ⟨.hbm, 81, rfl⟩
abbrev main_while0b_call7_v0 : Ref sig .tc := ⟨.hbm, 82, rfl⟩
abbrev main_while0b_call7_c : Ref sig .tc := ⟨.hbm, 83, rfl⟩
abbrev main_while0b_call7_c_0 : Ref sig .tc := ⟨.hbm, 84, rfl⟩
abbrev main_while0b_call7_c_1 : Ref sig .tc := ⟨.hbm, 85, rfl⟩
abbrev main_while0b_v37 : Ref sig .tc := ⟨.hbm, 86, rfl⟩
abbrev main_while0b_c_11 : Ref sig .tc := ⟨.hbm, 87, rfl⟩
abbrev main_while0b_v38 : Ref sig .tc := ⟨.hbm, 88, rfl⟩
abbrev main_v18 : Ref sig .tc := ⟨.hbm, 89, rfl⟩
abbrev main_v19 : Ref sig .tc := ⟨.hbm, 90, rfl⟩

abbrev nD : Nat := 1
abbrev τ : Topo := Topo.v7x

variable {F : FTy → Type} [FloatOps F]

abbrev main_while0_count : Scf.Loop 32 := ⟨0#32, 64#32, 1#32⟩
-- ==== ProjA.lean ====
abbrev S4096x1024 : Shape := ⟨2, ![4096, 1024]⟩
abbrev S1024x1280 : Shape := ⟨2, ![1024, 1280]⟩
abbrev S4096x1280 : Shape := ⟨2, ![4096, 1280]⟩
abbrev S1024x1024 : Shape := ⟨2, ![1024, 1024]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .bf16⟩
  | .hbm, ⟨2, _⟩ => ⟨S4096x1280, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjARefIdeal.lean ====
abbrev S4096x1024 : Shape := ⟨2, ![4096, 1024]⟩
abbrev S1024x1280 : Shape := ⟨2, ![1024, 1280]⟩
abbrev S4096x1280 : Shape := ⟨2, ![4096, 1280]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1280, .bf16⟩
  | .hbm, ⟨2, _⟩ => ⟨S4096x1024, .f32⟩
  | .hbm, ⟨3, _⟩ => ⟨S1024x1280, .f32⟩
  | .hbm, ⟨4, _⟩ => ⟨S4096x1280, .f32⟩
  | .hbm, ⟨5, _⟩ => ⟨S4096x1280, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjB.lean ====
abbrev S4096x1024 : Shape := ⟨2, ![4096, 1024]⟩
abbrev S1024x2688 : Shape := ⟨2, ![1024, 2688]⟩
abbrev S4096x2688 : Shape := ⟨2, ![4096, 2688]⟩
abbrev S1024x1024 : Shape := ⟨2, ![1024, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2688, .bf16⟩
  | .hbm, ⟨2, _⟩ => ⟨S4096x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBRefIdeal.lean ====
abbrev S4096x1024 : Shape := ⟨2, ![4096, 1024]⟩
abbrev S1024x2688 : Shape := ⟨2, ![1024, 2688]⟩
abbrev S4096x2688 : Shape := ⟨2, ![4096, 2688]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2688, .bf16⟩
  | .hbm, ⟨2, _⟩ => ⟨S4096x1024, .f32⟩
  | .hbm, ⟨3, _⟩ => ⟨S1024x2688, .f32⟩
  | .hbm, ⟨4, _⟩ => ⟨S4096x2688, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownNorm.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownNormRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutProj.lean ====
abbrev S4096x768 : Shape := ⟨2, ![4096, 768]⟩
abbrev S4096x256 : Shape := ⟨2, ![4096, 256]⟩
abbrev S1024x1024 : Shape := ⟨2, ![1024, 1024]⟩
abbrev S4096x1024 : Shape := ⟨2, ![4096, 1024]⟩
abbrev S1024 : Shape := ⟨1, ![1024]⟩
abbrev S1x1024 : Shape := ⟨2, ![1, 1024]⟩
abbrev S1024x768 : Shape := ⟨2, ![1024, 768]⟩
abbrev S1024x256 : Shape := ⟨2, ![1024, 256]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S1024x1024, .bf16⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S4096x768 : Shape := ⟨2, ![4096, 768]⟩
abbrev S4096x256 : Shape := ⟨2, ![4096, 256]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S1024x1024, .bf16⟩
  | .hbm, ⟨3, _⟩ => ⟨S4096x1024, .f32⟩
  | .hbm, ⟨4, _⟩ => ⟨S1024, .f32⟩
  | .hbm, ⟨5, _⟩ => ⟨S4096x768, .f32⟩
  | .hbm, ⟨6, _⟩ => ⟨S4096x256, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== DMix.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DMixRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S4096x768 : Shape := ⟨2, ![4096, 768]⟩
abbrev S4096x256 : Shape := ⟨2, ![4096, 256]⟩
abbrev S4096x1024 : Shape := ⟨2, ![4096, 1024]⟩
abbrev S1024x1024 : Shape := ⟨2, ![1024, 1024]⟩
abbrev S1024x768 : Shape := ⟨2, ![1024, 768]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S4096x1024, .f32⟩
  | .hbm, ⟨3, _⟩ => ⟨S1024x1024, .f32⟩
  | .local _ .vmem, ⟨0, _⟩ => ⟨S1024x768, .bf16⟩
  | .local _ .vmem, ⟨1, _⟩ => ⟨S1024x768, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DwOutRefIdeal.lean ====
abbrev S4096x768 : Shape := ⟨2, ![4096, 768]⟩
abbrev S4096x256 : Shape := ⟨2, ![4096, 256]⟩
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x256, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x768, .f32⟩
  | .hbm, ⟨6, _⟩ => ⟨S4096x256, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DwInA.lean ====
abbrev S4096x1024 : Shape := ⟨2, ![4096, 1024]⟩
abbrev S4096x256 : Shape := ⟨2, ![4096, 256]⟩
abbrev S1024x1280 : Shape := ⟨2, ![1024, 1280]⟩
abbrev S1024x1024 : Shape := ⟨2, ![1024, 1024]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x256, .bf16⟩
  | .hbm, ⟨3, _⟩ => ⟨S1024x1280, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x1280, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DwInARefIdeal.lean ====
abbrev S4096x1024 : Shape := ⟨2, ![4096, 1024]⟩
abbrev S4096x256 : Shape := ⟨2, ![4096, 256]⟩
abbrev S_ : Shape := ⟨0, ![]⟩
abbrev S1024x1280 : Shape := ⟨2, ![1024, 1280]⟩
abbrev S4096x1280 : Shape := ⟨2, ![4096, 1280]⟩
abbrev S1280x1024 : Shape := ⟨2, ![1280, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x256, .bf16⟩
  | .hbm, ⟨3, _⟩ => ⟨S_, .f32⟩
  | .hbm, ⟨4, _⟩ => ⟨S1024x1280, .f32⟩
  | .hbm, ⟨5, _⟩ => ⟨S4096x1024, .f32⟩
  | .hbm, ⟨6, _⟩ => ⟨S4096x1280, .f32⟩
  | .hbm, ⟨7, _⟩ => ⟨S4096x1024, .f32⟩
  | .hbm, ⟨8, _⟩ => ⟨S4096x256, .f32⟩
  | .hbm, ⟨9, _⟩ => ⟨S4096x1280, .f32⟩
  | .hbm, ⟨10, _⟩ => ⟨S1280x1024, .f32⟩
  | .hbm, ⟨11, _⟩ => ⟨S1024x1280, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DwInB.lean ====
abbrev S4096x1024 : Shape := ⟨2, ![4096, 1024]⟩
abbrev S4096x1536 : Shape := ⟨2, ![4096, 1536]⟩
abbrev S4096x768 : Shape := ⟨2, ![4096, 768]⟩
abbrev S4096x256 : Shape := ⟨2, ![4096, 256]⟩
abbrev S4096x128 : Shape := ⟨2, ![4096, 128]⟩
abbrev S1024x2688 : Shape := ⟨2, ![1024, 2688]⟩
abbrev S1024x1024 : Shape := ⟨2, ![1024, 1024]⟩
abbrev S1024x1536 : Shape := ⟨2, ![1024, 1536]⟩
abbrev S1024x768 : Shape := ⟨2, ![1024, 768]⟩
abbrev S1024x256 : Shape := ⟨2, ![1024, 256]⟩
abbrev S1024x128 : Shape := ⟨2, ![1024, 128]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x768, .bf16⟩
  | .hbm, ⟨3, _⟩ => ⟨S4096x256, .bf16⟩
  | .hbm, ⟨4, _⟩ => ⟨S4096x128, .bf16⟩
  | .hbm, ⟨5, _⟩ => ⟨S1024x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x768, .bf16⟩
  | .local _ .vmem, ⟨5, _⟩ => ⟨S1024x768, .bf16⟩
  | .local _ .vmem, ⟨6, _⟩ => ⟨S1024x256, .bf16⟩
  | .local _ .vmem, ⟨7, _⟩ => ⟨S1024x256, .bf16⟩
  | .local _ .vmem, ⟨8, _⟩ => ⟨S1024x128, .bf16⟩
  | .local _ .vmem, ⟨9, _⟩ => ⟨S1024x128, .bf16⟩
  | .local _ .vmem, ⟨10, _⟩ => ⟨S1024x2688, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S1024x2688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== DwInBRefIdeal.lean ====
abbrev S4096x1024 : Shape := ⟨2, ![4096, 1024]⟩
abbrev S4096x1536 : Shape := ⟨2, ![4096, 1536]⟩
abbrev S4096x768 : Shape := ⟨2, ![4096, 768]⟩
abbrev S4096x256 : Shape := ⟨2, ![4096, 256]⟩
abbrev S4096x128 : Shape := ⟨2, ![4096, 128]⟩
abbrev S_ : Shape := ⟨0, ![]⟩
abbrev S1024x2688 : Shape := ⟨2, ![1024, 2688]⟩
abbrev S4096x2688 : Shape := ⟨2, ![4096, 2688]⟩
abbrev S2688x1024 : Shape := ⟨2, ![2688, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x768, .bf16⟩
  | .hbm, ⟨3, _⟩ => ⟨S4096x256, .bf16⟩
  | .hbm, ⟨4, _⟩ => ⟨S4096x128, .bf16⟩
  | .hbm, ⟨5, _⟩ => ⟨S_, .f32⟩
  | .hbm, ⟨6, _⟩ => ⟨S1024x2688, .f32⟩
  | .hbm, ⟨7, _⟩ => ⟨S4096x1024, .f32⟩
  | .hbm, ⟨8, _⟩ => ⟨S4096x2688, .f32⟩
  | .hbm, ⟨9, _⟩ => ⟨S4096x1536, .f32⟩
  | .hbm, ⟨10, _⟩ => ⟨S4096x768, .f32⟩
  | .hbm, ⟨11, _⟩ => ⟨S4096x256, .f32⟩
  | .hbm, ⟨12, _⟩ => ⟨S4096x128, .f32⟩
  | .hbm, ⟨13, _⟩ => ⟨S4096x2688, .f32⟩
  | .hbm, ⟨14, _⟩ => ⟨S2688x1024, .f32⟩
  | .hbm, ⟨15, _⟩ => ⟨S1024x2688, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== DInA.lean ====
abbrev S4096x1024 : Shape := ⟨2, ![4096, 1024]⟩
abbrev S4096x256 : Shape := ⟨2, ![4096, 256]⟩
abbrev S1024x1280 : Shape := ⟨2, ![1024, 1280]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512x1280 : Shape := ⟨2, ![512, 1280]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x1280, .bf16⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1024x1280, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def k0_cond3 (i : grid0.Coords) : BitVec 1 :=
  let arg1 : BitVec 32 := BitVec.ofNat 32 (i 1).val
  let c0_i32_9 : BitVec 32 := 0#32
  let v13 : BitVec 1 := Scalar.cmpi .sgt arg1 c0_i32_9
  let v14 : BitVec 32 := Scalar.extui v13
  let c0_i32_10 : BitVec 32 := 0#32
  let v15 : BitVec 1 := Scalar.cmpi .ne v14 c0_i32_10
  v15

def k0_cond4 (i : grid0.Coords) : BitVec 1 :=
  let arg1 : BitVec 32 := BitVec.ofNat 32 (i 1).val
  let c0_i32_11 : BitVec 32 := 0#32
  let v16 : BitVec 1 := Scalar.cmpi .eq arg1 c0_i32_11
  let v17 : BitVec 32 := Scalar.extui v16
  let c0_i32_12 : BitVec 32 := 0#32
  let v18 : BitVec 1 := Scalar.cmpi .ne v17 c0_i32_12
  v18

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_5 : BitVec 32 := 0#32
  let v6 : BitVec 1 := Scalar.cmpi .eq arg1 c0_i32_5
  let v7 : BitVec 1 := Scalar.andi v5 v6
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DInARefIdeal.lean ====
abbrev S4096x1024 : Shape := ⟨2, ![4096, 1024]⟩
abbrev S4096x256 : Shape := ⟨2, ![4096, 256]⟩
abbrev S1024x1280 : Shape := ⟨2, ![1024, 1280]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1280 : Shape := ⟨2, ![4096, 1280]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x1280, .bf16⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x1280, .f32⟩
  | .hbm, ⟨27, _⟩ => ⟨S4096x1280, .f32⟩
  | .hbm, ⟨28, _⟩ => ⟨S4096x1024, .f32⟩
  | .hbm, ⟨29, _⟩ => ⟨S4096x256, .f32⟩
  | .hbm, ⟨30, _⟩ => ⟨S4096x1280, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== DInB.lean ====
abbrev S4096x1536 : Shape := ⟨2, ![4096, 1536]⟩
abbrev S4096x768 : Shape := ⟨2, ![4096, 768]⟩
abbrev S4096x256 : Shape := ⟨2, ![4096, 256]⟩
abbrev S4096x128 : Shape := ⟨2, ![4096, 128]⟩
abbrev S1024x2688 : Shape := ⟨2, ![1024, 2688]⟩
abbrev S4096x1024 : Shape := ⟨2, ![4096, 1024]⟩
abbrev S1024 : Shape := ⟨1, ![1024]⟩
abbrev S1x1024 : Shape := ⟨2, ![1, 1024]⟩
abbrev S512x1536 : Shape := ⟨2, ![512, 1536]⟩
abbrev S512x768 : Shape := ⟨2, ![512, 768]⟩
abbrev S512x256 : Shape := ⟨2, ![512, 256]⟩
abbrev S512x128 : Shape := ⟨2, ![512, 128]⟩
abbrev S512x1024 : Shape := ⟨2, ![512, 1024]⟩
abbrev S512x2688 : Shape := ⟨2, ![512, 2688]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x1536, .bf16⟩
  | .hbm, ⟨1, _⟩ => ⟨S4096x768, .bf16⟩
  | .hbm, ⟨2, _⟩ => ⟨S4096x256, .bf16⟩
  | .hbm, ⟨3, _⟩ => ⟨S4096x128, .bf16⟩
  | .hbm, ⟨4, _⟩ => ⟨S1024x2688, .bf16⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x768, .bf16⟩
  | .local _ .vmem, ⟨3, _⟩ => ⟨S512x768, .bf16⟩
  | .local _ .vmem, ⟨4, _⟩ => ⟨S512x256, .bf16⟩
  | .local _ .vmem, ⟨5, _⟩ => ⟨S512x256, .bf16⟩
  | .local _ .vmem, ⟨6, _⟩ => ⟨S512x128, .bf16⟩
  | .local _ .vmem, ⟨7, _⟩ => ⟨S512x128, .bf16⟩
  | .local _ .vmem, ⟨8, _⟩ => ⟨S1024x2688, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_11 : BitVec 32 := 0#32
  let v12 : BitVec 1 := Scalar.cmpi .eq arg1 c0_i32_11
  let v13 : BitVec 32 := Scalar.extui v12
  let c0_i32_12 : BitVec 32 := 0#32
  let v14 : BitVec 1 := Scalar.cmpi .ne v13 c0_i32_12
  v14

def k0_cond3 (i : grid0.Coords) : BitVec 1 :=
  let arg1 : BitVec 32 := BitVec.ofNat 32 (i 1).val
  let c0_i32_13 : BitVec 32 := 0#32
  let v15 : BitVec 1 := Scalar.cmpi .sgt arg1 c0_i32_13
  let v16 : BitVec 32 := Scalar.extui v15
  let c0_i32_14 : BitVec 32 := 0#32
  let v17 : BitVec 1 := Scalar.cmpi .ne v16 c0_i32_14
  v17

def k0_cond4 (i : grid0.Coords) : BitVec 1 :=
  let arg1 : BitVec 32 := BitVec.ofNat 32 (i 1).val
  let c0_i32_15 : BitVec 32 := 0#32
  let v18 : BitVec 1 := Scalar.cmpi .eq arg1 c0_i32_15
  let v19 : BitVec 32 := Scalar.extui v18
  let c0_i32_16 : BitVec 32 := 0#32
  let v20 : BitVec 1 := Scalar.cmpi .ne v19 c0_i32_16
  v20

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let arg1 : BitVec 32 := BitVec.ofNat 32 (i 1).val
  let c0_i32_9 : BitVec 32 := 0#32
  let v8 : BitVec 1 := Scalar.cmpi .eq arg1 c0_i32_9
  let v9 : BitVec 1 := Scalar.andi v7 v8
  let v10 : BitVec 32 := Scalar.extui v9
  let c0_i32_10 : BitVec 32 := 0#32
  let v11 : BitVec 1 := Scalar.cmpi .ne v10 c0_i32_10
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== DInBRefIdeal.lean ====
abbrev S4096x1536 : Shape := ⟨2, ![4096, 1536]⟩
abbrev S4096x768 : Shape := ⟨2, ![4096, 768]⟩
abbrev S4096x256 : Shape := ⟨2, ![4096, 256]⟩
abbrev S4096x128 : Shape := ⟨2, ![4096, 128]⟩
abbrev S1024x2688 : Shape := ⟨2, ![1024, 2688]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2688 : Shape := ⟨2, ![4096, 2688]⟩

abbrev nBuf : Space → Nat
  | .hbm => 63
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x768, .bf16⟩
  | .hbm, ⟨2, _⟩ => ⟨S4096x256, .bf16⟩
  | .hbm, ⟨3, _⟩ => ⟨S4096x128, .bf16⟩
  | .hbm, ⟨4, _⟩ => ⟨S1024x2688, .bf16⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2688, .f32⟩
  | .hbm, ⟨29, _⟩ => ⟨S4096x2688, .f32⟩
  | .hbm, ⟨30, _⟩ => ⟨S4096x1536, .f32⟩
  | .hbm, ⟨31, _⟩ => ⟨S4096x768, .f32⟩
  | .hbm, ⟨32, _⟩ => ⟨S4096x256, .f32⟩
  | .hbm, ⟨33, _⟩ => ⟨S4096x128, .f32⟩
  | .hbm, ⟨34, _⟩ => ⟨S4096x2688, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== NormIn.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemKv.lean ====
abbrev S256x1024 : Shape := ⟨2, ![256, 1024]⟩
abbrev S1024 : Shape := ⟨1, ![1024]⟩
abbrev S1024x512 : Shape := ⟨2, ![1024, 512]⟩
abbrev S1x1024 : Shape := ⟨2, ![1, 1024]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .bf16⟩
  | .hbm, ⟨3, _⟩ => ⟨S1x1024, .f32⟩
  | .hbm, ⟨4, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MemKvRefIdeal.lean ====
abbrev S256x1024 : Shape := ⟨2, ![256, 1024]⟩
abbrev S1024 : Shape := ⟨1, ![1024]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S1024x512, .f32⟩
  | .hbm, ⟨20, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MemKvGrad.lean ====
abbrev S256x1024 : Shape := ⟨2, ![256, 1024]⟩
abbrev S1024 : Shape := ⟨1, ![1024]⟩
abbrev S1024x512 : Shape := ⟨2, ![1024, 512]⟩
abbrev S256x512 : Shape := ⟨2, ![256, 512]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .bf16⟩
  | .hbm, ⟨3, _⟩ => ⟨S256x512, .f32⟩
  | .hbm, ⟨4, _⟩ => ⟨S1x1024, .f32⟩
  | .hbm, ⟨5, _⟩ => ⟨S1x1024, .f32⟩
  | .hbm, ⟨6, _⟩ => ⟨S1024x512, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S256x512, .f32⟩
  | .local _ .vmem, ⟨4, _⟩ => ⟨S1x1024, .f32⟩
  | .local _ .vmem, ⟨5, _⟩ => ⟨S1024x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemKvGradRefIdeal.lean ====
abbrev S256x1024 : Shape := ⟨2, ![256, 1024]⟩
abbrev S1024 : Shape := ⟨1, ![1024]⟩
abbrev S1024x512 : Shape := ⟨2, ![1024, 512]⟩
abbrev S256x512 : Shape := ⟨2, ![256, 512]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S512x1024 : Shape := ⟨2, ![512, 1024]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .bf16⟩
  | .hbm, ⟨3, _⟩ => ⟨S256x512, .f32⟩
  | .hbm, ⟨4, _⟩ => ⟨S1024x512, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x512, .f32⟩
  | .hbm, ⟨22, _⟩ => ⟨S512x1024, .f32⟩
  | .hbm, ⟨23, _⟩ => ⟨S1024x512, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdamGu.lean ====
abbrev S2x1024x1408 : Shape := ⟨3, ![2, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGuIdeal.lean ====
abbrev S2x1024x1408 : Shape := ⟨3, ![2, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGuRefIdeal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamDown.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownIdeal.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamOut.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamMem.lean ====
abbrev S2x256x512 : Shape := ⟨3, ![2, 256, 512]⟩
abbrev S256x512 : Shape := ⟨2, ![256, 512]⟩
abbrev S1x256x512 : Shape := ⟨3, ![1, 256, 512]⟩

abbrev nBuf : Space → Nat
  | .hbm => 9
  | .vmem => 16
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S256x512, .f32⟩
  | .hbm, ⟨4, _⟩ => ⟨S256x512, .f32⟩
  | .hbm, ⟨5, _⟩ => ⟨S2x256x512, .f32⟩
  | .hbm, ⟨6, _⟩ => ⟨S2x256x512, .f32⟩
  | .hbm, ⟨7, _⟩ => ⟨S2x256x512, .f32⟩
  | .hbm, ⟨8, _⟩ => ⟨S2x256x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | .local _ .vmem, ⟨7, _⟩ => ⟨S256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamMemRefIdeal.lean ====
abbrev S2x256x512 : Shape := ⟨3, ![2, 256, 512]⟩
abbrev S256x512 : Shape := ⟨2, ![256, 512]⟩
abbrev S1x256x512 : Shape := ⟨3, ![1, 256, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S256x512, .f32⟩
  | .hbm, ⟨4, _⟩ => ⟨S256x512, .f32⟩
  | .hbm, ⟨5, _⟩ => ⟨S1x256x512, .f32⟩
  | .hbm, ⟨6, _⟩ => ⟨S1x256x512, .f32⟩
  | .hbm, ⟨7, _⟩ => ⟨S2x256x512, .f32⟩
  | .hbm, ⟨8, _⟩ => ⟨S_, .f32⟩
  | .hbm, ⟨9, _⟩ => ⟨S2x256x512, .f32⟩
  | .hbm, ⟨10, _⟩ => ⟨S2x256x512, .f32⟩
  | .hbm, ⟨11, _⟩ => ⟨S_, .f32⟩
  | .hbm, ⟨12, _⟩ => ⟨S2x256x512, .f32⟩
  | .hbm, ⟨13, _⟩ => ⟨S2x256x512, .f32⟩
  | .hbm, ⟨14, _⟩ => ⟨S2x256x512, .f32⟩
  | .hbm, ⟨15, _⟩ => ⟨S_, .f32⟩
  | .hbm, ⟨16, _⟩ => ⟨S2x256x512, .f32⟩
  | .hbm, ⟨17, _⟩ => ⟨S2x256x512, .f32⟩
  | .hbm, ⟨18, _⟩ => ⟨S2x256x512, .f32⟩
  | .hbm, ⟨19, _⟩ => ⟨S_, .f32⟩
  | .hbm, ⟨20, _⟩ => ⟨S2x256x512, .f32⟩
  | .hbm, ⟨21, _⟩ => ⟨S2x256x512, .f32⟩
  | .hbm, ⟨22, _⟩ => ⟨S2x256x512, .f32⟩
  | .hbm, ⟨23, _⟩ => ⟨S_, .f32⟩
  | .hbm, ⟨24, _⟩ => ⟨S2x256x512, .f32⟩
  | .hbm, ⟨25, _⟩ => ⟨S2x256x512, .f32⟩
  | .hbm, ⟨26, _⟩ => ⟨S_, .f32⟩
  | .hbm, ⟨27, _⟩ => ⟨S2x256x512, .f32⟩
  | .hbm, ⟨28, _⟩ => ⟨S2x256x512, .f32⟩
  | .hbm, ⟨29, _⟩ => ⟨S2x256x512, .f32⟩
  | .hbm, ⟨30, _⟩ => ⟨S_, .f32⟩
  | .hbm, ⟨31, _⟩ => ⟨S2x256x512, .f32⟩
  | .hbm, ⟨32, _⟩ => ⟨S2x256x512, .f32⟩
  | .hbm, ⟨33, _⟩ => ⟨S2x256x512, .f32⟩
  | .hbm, ⟨34, _⟩ => ⟨S_, .f32⟩
  | .hbm, ⟨35, _⟩ => ⟨S2x256x512, .f32⟩
  | .hbm, ⟨36, _⟩ => ⟨S2x256x512, .f32⟩
  | .hbm, ⟨37, _⟩ => ⟨S2x256x512, .f32⟩
  | .hbm, ⟨38, _⟩ => ⟨S_, .f32⟩
  | .hbm, ⟨39, _⟩ => ⟨S2x256x512, .f32⟩
  | .hbm, ⟨40, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamInA.lean ====
abbrev S1x1024x320 : Shape := ⟨3, ![1, 1024, 320]⟩
abbrev S1024x320 : Shape := ⟨2, ![1024, 320]⟩
abbrev S1x512x320 : Shape := ⟨3, ![1, 512, 320]⟩
abbrev S512x320 : Shape := ⟨2, ![512, 320]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x320, .f32⟩
  | .hbm, ⟨1, _⟩ => ⟨S1x1024x320, .f32⟩
  | .hbm, ⟨2, _⟩ => ⟨S1x1024x320, .f32⟩
  | .hbm, ⟨3, _⟩ => ⟨S1024x320, .f32⟩
  | .hbm, ⟨4, _⟩ => ⟨S1x1024x320, .f32⟩
  | .hbm, ⟨5, _⟩ => ⟨S1x1024x320, .f32⟩
  | .hbm, ⟨6, _⟩ => ⟨S1x1024x320, .f32⟩
  | .hbm, ⟨7, _⟩ => ⟨S1x1024x320, .f32⟩
  | .local _ .vmem, ⟨0, _⟩ => ⟨S1x512x320, .f32⟩
  | .local _ .vmem, ⟨1, _⟩ => ⟨S1x512x320, .f32⟩
  | .local _ .vmem, ⟨2, _⟩ => ⟨S1x512x320, .f32⟩
  | .local _ .vmem, ⟨3, _⟩ => ⟨S1x512x320, .f32⟩
  | .local _ .vmem, ⟨4, _⟩ => ⟨S1x512x320, .f32⟩
  | .local _ .vmem, ⟨5, _⟩ => ⟨S1x512x320, .f32⟩
  | .local _ .vmem, ⟨6, _⟩ => ⟨S512x320, .f32⟩
  | .local _ .vmem, ⟨7, _⟩ => ⟨S512x320, .f32⟩
  | .local _ .vmem, ⟨8, _⟩ => ⟨S1x512x320, .f32⟩
  | .local _ .vmem, ⟨9, _⟩ => ⟨S1x512x320, .f32⟩
  | .local _ .vmem, ⟨10, _⟩ => ⟨S1x512x320, .f32⟩
  | .local _ .vmem, ⟨11, _⟩ => ⟨S1x512x320, .f32⟩
  | .local _ .vmem, ⟨12, _⟩ => ⟨S1x512x320, .f32⟩
  | .local _ .vmem, ⟨13, _⟩ => ⟨S1x512x320, .f32⟩
  | .local _ .vmem, ⟨14, _⟩ => ⟨S1x512x320, .f32⟩
  | .local _ .vmem, ⟨15, _⟩ => ⟨S1x512x320, .f32⟩
  | _, _ => ⟨S1x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInAIdeal.lean ====
abbrev S1x1024x320 : Shape := ⟨3, ![1, 1024, 320]⟩
abbrev S1024x320 : Shape := ⟨2, ![1024, 320]⟩
abbrev S1x512x320 : Shape := ⟨3, ![1, 512, 320]⟩
abbrev S512x320 : Shape := ⟨2, ![512, 320]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x320, .f32⟩
  | .hbm, ⟨1, _⟩ => ⟨S1x1024x320, .f32⟩
  | .hbm, ⟨2, _⟩ => ⟨S1x1024x320, .f32⟩
  | .hbm, ⟨3, _⟩ => ⟨S1024x320, .f32⟩
  | .hbm, ⟨4, _⟩ => ⟨S1x1024x320, .f32⟩
  | .hbm, ⟨5, _⟩ => ⟨S1x1024x320, .f32⟩
  | .hbm, ⟨6, _⟩ => ⟨S1x1024x320, .f32⟩
  | .hbm, ⟨7, _⟩ => ⟨S1x1024x320, .f32⟩
  | .local _ .vmem, ⟨0, _⟩ => ⟨S1x512x320, .f32⟩
  | .local _ .vmem, ⟨1, _⟩ => ⟨S1x512x320, .f32⟩
  | .local _ .vmem, ⟨2, _⟩ => ⟨S1x512x320, .f32⟩
  | .local _ .vmem, ⟨3, _⟩ => ⟨S1x512x320, .f32⟩
  | .local _ .vmem, ⟨4, _⟩ => ⟨S1x512x320, .f32⟩
  | .local _ .vmem, ⟨5, _⟩ => ⟨S1x512x320, .f32⟩
  | .local _ .vmem, ⟨6, _⟩ => ⟨S512x320, .f32⟩
  | .local _ .vmem, ⟨7, _⟩ => ⟨S512x320, .f32⟩
  | .local _ .vmem, ⟨8, _⟩ => ⟨S1x512x320, .f32⟩
  | .local _ .vmem, ⟨9, _⟩ => ⟨S1x512x320, .f32⟩
  | .local _ .vmem, ⟨10, _⟩ => ⟨S1x512x320, .f32⟩
  | .local _ .vmem, ⟨11, _⟩ => ⟨S1x512x320, .f32⟩
  | .local _ .vmem, ⟨12, _⟩ => ⟨S1x512x320, .f32⟩
  | .local _ .vmem, ⟨13, _⟩ => ⟨S1x512x320, .f32⟩
  | .local _ .vmem, ⟨14, _⟩ => ⟨S1x512x320, .f32⟩
  | .local _ .vmem, ⟨15, _⟩ => ⟨S1x512x320, .f32⟩
  | _, _ => ⟨S1x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInARefIdeal.lean ====
abbrev S1x1024x320 : Shape := ⟨3, ![1, 1024, 320]⟩
abbrev S1024x320 : Shape := ⟨2, ![1024, 320]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x320, .f32⟩
  | .hbm, ⟨1, _⟩ => ⟨S1x1024x320, .f32⟩
  | .hbm, ⟨2, _⟩ => ⟨S1x1024x320, .f32⟩
  | .hbm, ⟨3, _⟩ => ⟨S1024x320, .f32⟩
  | .hbm, ⟨4, _⟩ => ⟨S1x1024x320, .f32⟩
  | .hbm, ⟨5, _⟩ => ⟨S1x1024x320, .f32⟩
  | .hbm, ⟨6, _⟩ => ⟨S_, .f32⟩
  | .hbm, ⟨7, _⟩ => ⟨S1x1024x320, .f32⟩
  | .hbm, ⟨8, _⟩ => ⟨S1x1024x320, .f32⟩
  | .hbm, ⟨9, _⟩ => ⟨S_, .f32⟩
  | .hbm, ⟨10, _⟩ => ⟨S1x1024x320, .f32⟩
  | .hbm, ⟨11, _⟩ => ⟨S1x1024x320, .f32⟩
  | .hbm, ⟨12, _⟩ => ⟨S1x1024x320, .f32⟩
  | .hbm, ⟨13, _⟩ => ⟨S_, .f32⟩
  | .hbm, ⟨14, _⟩ => ⟨S1x1024x320, .f32⟩
  | .hbm, ⟨15, _⟩ => ⟨S1x1024x320, .f32⟩
  | .hbm, ⟨16, _⟩ => ⟨S1x1024x320, .f32⟩
  | .hbm, ⟨17, _⟩ => ⟨S_, .f32⟩
  | .hbm, ⟨18, _⟩ => ⟨S1x1024x320, .f32⟩
  | .hbm, ⟨19, _⟩ => ⟨S1x1024x320, .f32⟩
  | .hbm, ⟨20, _⟩ => ⟨S1x1024x320, .f32⟩
  | .hbm, ⟨21, _⟩ => ⟨S_, .f32⟩
  | .hbm, ⟨22, _⟩ => ⟨S1x1024x320, .f32⟩
  | .hbm, ⟨23, _⟩ => ⟨S1x1024x320, .f32⟩
  | .hbm, ⟨24, _⟩ => ⟨S_, .f32⟩
  | .hbm, ⟨25, _⟩ => ⟨S1x1024x320, .f32⟩
  | .hbm, ⟨26, _⟩ => ⟨S1x1024x320, .f32⟩
  | .hbm, ⟨27, _⟩ => ⟨S1x1024x320, .f32⟩
  | .hbm, ⟨28, _⟩ => ⟨S_, .f32⟩
  | .hbm, ⟨29, _⟩ => ⟨S1x1024x320, .f32⟩
  | .hbm, ⟨30, _⟩ => ⟨S1x1024x320, .f32⟩
  | .hbm, ⟨31, _⟩ => ⟨S1x1024x320, .f32⟩
  | .hbm, ⟨32, _⟩ => ⟨S_, .f32⟩
  | .hbm, ⟨33, _⟩ => ⟨S1x1024x320, .f32⟩
  | .hbm, ⟨34, _⟩ => ⟨S1x1024x320, .f32⟩
  | .hbm, ⟨35, _⟩ => ⟨S1x1024x320, .f32⟩
  | .hbm, ⟨36, _⟩ => ⟨S_, .f32⟩
  | .hbm, ⟨37, _⟩ => ⟨S1x1024x320, .f32⟩
  | .hbm, ⟨38, _⟩ => ⟨S1x1024x320, .f32⟩
  | _, _ => ⟨S1x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamInB.lean ====
abbrev S1x1024x643 : Shape := ⟨3, ![1, 1024, 643]⟩
abbrev S1024x643 : Shape := ⟨2, ![1024, 643]⟩
abbrev S1x256x643 : Shape := ⟨3, ![1, 256, 643]⟩
abbrev S256x643 : Shape := ⟨2, ![256, 643]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x643, .f32⟩
  | .hbm, ⟨1, _⟩ => ⟨S1x1024x643, .f32⟩
  | .hbm, ⟨2, _⟩ => ⟨S1x1024x643, .f32⟩
  | .hbm, ⟨3, _⟩ => ⟨S1024x643, .f32⟩
  | .hbm, ⟨4, _⟩ => ⟨S1x1024x643, .f32⟩
  | .hbm, ⟨5, _⟩ => ⟨S1x1024x643, .f32⟩
  | .hbm, ⟨6, _⟩ => ⟨S1x1024x643, .f32⟩
  | .hbm, ⟨7, _⟩ => ⟨S1x1024x643, .f32⟩
  | .local _ .vmem, ⟨0, _⟩ => ⟨S1x256x643, .f32⟩
  | .local _ .vmem, ⟨1, _⟩ => ⟨S1x256x643, .f32⟩
  | .local _ .vmem, ⟨2, _⟩ => ⟨S1x256x643, .f32⟩
  | .local _ .vmem, ⟨3, _⟩ => ⟨S1x256x643, .f32⟩
  | .local _ .vmem, ⟨4, _⟩ => ⟨S1x256x643, .f32⟩
  | .local _ .vmem, ⟨5, _⟩ => ⟨S1x256x643, .f32⟩
  | .local _ .vmem, ⟨6, _⟩ => ⟨S256x643, .f32⟩
  | .local _ .vmem, ⟨7, _⟩ => ⟨S256x643, .f32⟩
  | .local _ .vmem, ⟨8, _⟩ => ⟨S1x256x643, .f32⟩
  | .local _ .vmem, ⟨9, _⟩ => ⟨S1x256x643, .f32⟩
  | .local _ .vmem, ⟨10, _⟩ => ⟨S1x256x643, .f32⟩
  | .local _ .vmem, ⟨11, _⟩ => ⟨S1x256x643, .f32⟩
  | .local _ .vmem, ⟨12, _⟩ => ⟨S1x256x643, .f32⟩
  | .local _ .vmem, ⟨13, _⟩ => ⟨S1x256x643, .f32⟩
  | .local _ .vmem, ⟨14, _⟩ => ⟨S1x256x643, .f32⟩
  | .local _ .vmem, ⟨15, _⟩ => ⟨S1x256x643, .f32⟩
  | _, _ => ⟨S1x1024x643, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x643 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x643 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x643 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x643 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x643 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x643 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x643 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x643 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInBRefIdeal.lean ====
abbrev S1x1024x643 : Shape := ⟨3, ![1, 1024, 643]⟩
abbrev S1024x643 : Shape := ⟨2, ![1024, 643]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x643, .f32⟩
  | .hbm, ⟨1, _⟩ => ⟨S1x1024x643, .f32⟩
  | .hbm, ⟨2, _⟩ => ⟨S1x1024x643, .f32⟩
  | .hbm, ⟨3, _⟩ => ⟨S1024x643, .f32⟩
  | .hbm, ⟨4, _⟩ => ⟨S1x1024x643, .f32⟩
  | .hbm, ⟨5, _⟩ => ⟨S1x1024x643, .f32⟩
  | .hbm, ⟨6, _⟩ => ⟨S_, .f32⟩
  | .hbm, ⟨7, _⟩ => ⟨S1x1024x643, .f32⟩
  | .hbm, ⟨8, _⟩ => ⟨S1x1024x643, .f32⟩
  | .hbm, ⟨9, _⟩ => ⟨S_, .f32⟩
  | .hbm, ⟨10, _⟩ => ⟨S1x1024x643, .f32⟩
  | .hbm, ⟨11, _⟩ => ⟨S1x1024x643, .f32⟩
  | .hbm, ⟨12, _⟩ => ⟨S1x1024x643, .f32⟩
  | .hbm, ⟨13, _⟩ => ⟨S_, .f32⟩
  | .hbm, ⟨14, _⟩ => ⟨S1x1024x643, .f32⟩
  | .hbm, ⟨15, _⟩ => ⟨S1x1024x643, .f32⟩
  | .hbm, ⟨16, _⟩ => ⟨S1x1024x643, .f32⟩
  | .hbm, ⟨17, _⟩ => ⟨S_, .f32⟩
  | .hbm, ⟨18, _⟩ => ⟨S1x1024x643, .f32⟩
  | .hbm, ⟨19, _⟩ => ⟨S1x1024x643, .f32⟩
  | .hbm, ⟨20, _⟩ => ⟨S1x1024x643, .f32⟩
  | .hbm, ⟨21, _⟩ => ⟨S_, .f32⟩
  | .hbm, ⟨22, _⟩ => ⟨S1x1024x643, .f32⟩
  | .hbm, ⟨23, _⟩ => ⟨S1x1024x643, .f32⟩
  | .hbm, ⟨24, _⟩ => ⟨S_, .f32⟩
  | .hbm, ⟨25, _⟩ => ⟨S1x1024x643, .f32⟩
  | .hbm, ⟨26, _⟩ => ⟨S1x1024x643, .f32⟩
  | .hbm, ⟨27, _⟩ => ⟨S1x1024x643, .f32⟩
  | .hbm, ⟨28, _⟩ => ⟨S_, .f32⟩
  | .hbm, ⟨29, _⟩ => ⟨S1x1024x643, .f32⟩
  | .hbm, ⟨30, _⟩ => ⟨S1x1024x643, .f32⟩
  | .hbm, ⟨31, _⟩ => ⟨S1x1024x643, .f32⟩
  | .hbm, ⟨32, _⟩ => ⟨S_, .f32⟩
  | .hbm, ⟨33, _⟩ => ⟨S1x1024x643, .f32⟩
  | .hbm, ⟨34, _⟩ => ⟨S1x1024x643, .f32⟩
  | .hbm, ⟨35, _⟩ => ⟨S1x1024x643, .f32⟩
  | .hbm, ⟨36, _⟩ => ⟨S_, .f32⟩
  | .hbm, ⟨37, _⟩ => ⟨S1x1024x643, .f32⟩
  | .hbm, ⟨38, _⟩ => ⟨S1x1024x643, .f32⟩
  | _, _ => ⟨S1x1024x643, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamSmall.lean ====
abbrev S200x128 : Shape := ⟨2, ![200, 128]⟩

abbrev nBuf : Space → Nat
  | .hbm => 7
  | .vmem => 7
  | .smem => 0
  | _ => 0

abbrev bufTy : (tb : Table) → Fin (tcTables nBuf tb) → BufTy
  | .hbm, ⟨0, _⟩ => ⟨S200x128, .f32⟩
  | .hbm, ⟨1, _⟩ => ⟨S200x128, .f32⟩
  | .hbm, ⟨2, _⟩ => ⟨S200x128, .f32⟩
  | .hbm, ⟨3, _⟩ => ⟨S200x128, .f32⟩
  | .hbm, ⟨4, _⟩ => ⟨S200x128, .f32⟩
  | .hbm, ⟨5, _⟩ => ⟨S200x128, .f32⟩
  | .hbm, ⟨6, _⟩ => ⟨S200x128, .f32⟩
  | .local _ .vmem, ⟨0, _⟩ => ⟨S200x128, .f32⟩
  | .local _ .vmem, ⟨1, _⟩ => ⟨S200x128, .f32⟩
  | .local _ .vmem, ⟨2, _⟩ => ⟨S200x128, .f32⟩
  | .local _ .vmem, ⟨3, _⟩ => ⟨S200x128, .f32⟩
  | .local _ .vmem, ⟨4, _⟩ => ⟨S200x128, .f32⟩
  | .local _ .vmem, ⟨5, _⟩ => ⟨S200x128, .f32⟩
  | .local _ .vmem, ⟨6, _⟩ => ⟨S200x128, .f32⟩
  | _, _ => ⟨S200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S200x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S200x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S200x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S200x128 : Shape := ⟨2, ![200, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S200x128, .f32⟩
  | .hbm, ⟨1, _⟩ => ⟨S200x128, .f32⟩
  | .hbm, ⟨2, _⟩ => ⟨S200x128, .f32⟩
  | .hbm, ⟨3, _⟩ => ⟨S200x128, .f32⟩
  | .hbm, ⟨4, _⟩ => ⟨S_, .f32⟩
  | .hbm, ⟨5, _⟩ => ⟨S200x128, .f32⟩
  | .hbm, ⟨6, _⟩ => ⟨S200x128, .f32⟩
  | .hbm, ⟨7, _⟩ => ⟨S_, .f32⟩
  | .hbm, ⟨8, _⟩ => ⟨S200x128, .f32⟩
  | .hbm, ⟨9, _⟩ => ⟨S200x128, .f32⟩
  | .hbm, ⟨10, _⟩ => ⟨S200x128, .f32⟩
  | .hbm, ⟨11, _⟩ => ⟨S_, .f32⟩
  | .hbm, ⟨12, _⟩ => ⟨S200x128, .f32⟩
  | .hbm, ⟨13, _⟩ => ⟨S200x128, .f32⟩
  | .hbm, ⟨14, _⟩ => ⟨S200x128, .f32⟩
  | .hbm, ⟨15, _⟩ => ⟨S_, .f32⟩
  | .hbm, ⟨16, _⟩ => ⟨S200x128, .f32⟩
  | .hbm, ⟨17, _⟩ => ⟨S200x128, .f32⟩
  | .hbm, ⟨18, _⟩ => ⟨S200x128, .f32⟩
  | .hbm, ⟨19, _⟩ => ⟨S_, .f32⟩
  | .hbm, ⟨20, _⟩ => ⟨S200x128, .f32⟩
  | .hbm, ⟨21, _⟩ => ⟨S200x128, .f32⟩
  | .hbm, ⟨22, _⟩ => ⟨S_, .f32⟩
  | .hbm, ⟨23, _⟩ => ⟨S200x128, .f32⟩
  | .hbm, ⟨24, _⟩ => ⟨S200x128, .f32⟩
  | .hbm, ⟨25, _⟩ => ⟨S200x128, .f32⟩
  | .hbm, ⟨26, _⟩ => ⟨S_, .f32⟩
  | .hbm, ⟨27, _⟩ => ⟨S200x128, .f32⟩
  | .hbm, ⟨28, _⟩ => ⟨S200x128, .f32⟩
  | .hbm, ⟨29, _⟩ => ⟨S200x128, .f32⟩
  | .hbm, ⟨30, _⟩ => ⟨S_, .f32⟩
  | .hbm, ⟨31, _⟩ => ⟨S200x128, .f32⟩
  | .hbm, ⟨32, _⟩ => ⟨S200x128, .f32⟩
  | .hbm, ⟨33, _⟩ => ⟨S200x128, .f32⟩
  | .hbm, ⟨34, _⟩ => ⟨S_, .f32⟩
  | .hbm, ⟨35, _⟩ => ⟨S200x128, .f32⟩
  | .hbm, ⟨36, _⟩ => ⟨S200x128, .f32⟩
  | _, _ => ⟨S200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GluFwd.lean ====
abbrev S4096x5632 : Shape := ⟨2, ![4096, 5632]⟩
abbrev S3x2816 : Shape := ⟨2, ![3, 2816]⟩
abbrev S2816 : Shape := ⟨1, ![2816]⟩
abbrev S1x2816 : Shape := ⟨2, ![1, 2816]⟩
abbrev S4096x2816 : Shape := ⟨2, ![4096, 2816]⟩
abbrev S4096x128 : Shape := ⟨2, ![4096, 128]⟩
abbrev S3x128 : Shape := ⟨2, ![3, 128]⟩
abbrev S1x128 : Shape := ⟨2, ![1, 128]⟩
abbrev S16x128 : Shape := ⟨2, ![16, 128]⟩
abbrev S512x128 : Shape := ⟨2, ![512, 128]⟩
abbrev S528x128 : Shape := ⟨2, ![528, 128]⟩

abbrev nBuf : Space → Nat
  | .hbm => 6
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S3x2816, .f32⟩
  | .hbm, ⟨2, _⟩ => ⟨S2816, .f32⟩
  | .hbm, ⟨3, _⟩ => ⟨S1x2816, .f32⟩
  | .hbm, ⟨4, _⟩ => ⟨S4096x2816, .bf16⟩
  | .hbm, ⟨5, _⟩ => ⟨S4096x2816, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S3x128, .f32⟩
  | .local _ .vmem, ⟨5, _⟩ => ⟨S3x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c7_i32 : BitVec 32 := 7#32
  let v48 : BitVec 32 := Scalar.addi c0_i32 c7_i32
  let c1_i32_18 : BitVec 32 := 1#32
  ⟨c0_i32, v48, c1_i32_18⟩
def k0_mult1 (k0_t1 : Fin k0_t1_loop.trips) : BitVec 32 :=
  let c1_i32_21 : BitVec 32 := 1#32
  let c0_i32 : BitVec 32 := 0#32
  let c1_i32_18 : BitVec 32 := 1#32
  let arg7 : BitVec 32 := Scf.iv c0_i32 c1_i32_18 k0_t1
  let c1_i32_20 : BitVec 32 := 1#32
  let v49 : BitVec 32 := Scalar.muli arg7 c1_i32_20
  let v50 : BitVec 32 := Scalar.addi c1_i32_21 v49
  let c512_i32 : BitVec 32 := 512#32
  let v51 : BitVec 32 := Scalar.muli v50 c512_i32
  v51
def k0_off1 (k0_t1 : Fin k0_t1_loop.trips) : Fin 2 → Nat :=
  let c1_i32_21 : BitVec 32 := 1#32
  let c0_i32 : BitVec 32 := 0#32
  let c1_i32_18 : BitVec 32 := 1#32
  let arg7 : BitVec 32 := Scf.iv c0_i32 c1_i32_18 k0_t1
  let c1_i32_20 : BitVec 32 := 1#32
  let v49 : BitVec 32 := Scalar.muli arg7 c1_i32_20
  let v50 : BitVec 32 := Scalar.addi c1_i32_21 v49
  let c512_i32 : BitVec 32 := 512#32
  let v51 : BitVec 32 := Scalar.muli v50 c512_i32
  let v52 : BitVec 32 := v51
  let c16_i32 : BitVec 32 := 16#32
  let v53 : BitVec 32 := Scalar.subi v52 c16_i32
  let v54 : Index := Scalar.indexCast v53
  let c0_22 : Index := 0#32
  ![v54.toNat, 0]
def k0_off2 (k0_t1 : Fin k0_t1_loop.trips) : Fin 2 → Nat :=
  let c1_i32_21 : BitVec 32 := 1#32
  let c0_i32 : BitVec 32 := 0#32
  let c1_i32_18 : BitVec 32 := 1#32
  let arg7 : BitVec 32 := Scf.iv c0_i32 c1_i32_18 k0_t1
  let c1_i32_20 : BitVec 32 := 1#32
  let v49 : BitVec 32 := Scalar.muli arg7 c1_i32_20
  let v50 : BitVec 32 := Scalar.addi c1_i32_21 v49
  let c512_i32 : BitVec 32 := 512#32
  let v51 : BitVec 32 := Scalar.muli v50 c512_i32
  let v52 : BitVec 32 := v51
  let v84 : Index := Scalar.indexCast v52
  let c0_29 : Index := 0#32
  ![v84.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluFwdRefIdeal.lean ====
abbrev S4096x5632 : Shape := ⟨2, ![4096, 5632]⟩
abbrev S3x2816 : Shape := ⟨2, ![3, 2816]⟩
abbrev S2816 : Shape := ⟨1, ![2816]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩

abbrev nBuf : Space → Nat
  | .hbm => 48
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x2816, .f32⟩
  | .hbm, ⟨2, _⟩ => ⟨S2816, .f32⟩
  | .hbm, ⟨3, _⟩ => ⟨S4096x2816, .bf16⟩
  | .hbm, ⟨4, _⟩ => ⟨S4096x2816, .f32⟩
  | .hbm, ⟨5, _⟩ => ⟨S4096x2816, .bf16⟩
  | .hbm, ⟨6, _⟩ => ⟨S4096x2816, .f32⟩
  | .hbm, ⟨7, _⟩ => ⟨S_, .f32⟩
  | .hbm, ⟨8, _⟩ => ⟨S2x2816, .f32⟩
  | .hbm, ⟨9, _⟩ => ⟨S4098x2816, .f32⟩
  | .hbm, ⟨10, _⟩ => ⟨S1x2816, .f32⟩
  | .hbm, ⟨11, _⟩ => ⟨S2816, .f32⟩
  | .hbm, ⟨12, _⟩ => ⟨S4096x2816, .f32⟩
  | .hbm, ⟨13, _⟩ => ⟨S1x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S1x2816, .f32⟩
  | .hbm, ⟨20, _⟩ => ⟨S2816, .f32⟩
  | .hbm, ⟨21, _⟩ => ⟨S4096x2816, .f32⟩
  | .hbm, ⟨22, _⟩ => ⟨S1x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S1x2816, .f32⟩
  | .hbm, ⟨27, _⟩ => ⟨S2816, .f32⟩
  | .hbm, ⟨28, _⟩ => ⟨S4096x2816, .f32⟩
  | .hbm, ⟨29, _⟩ => ⟨S1x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S1x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .bf16⟩
  | .hbm, ⟨47, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== CrossA.lean ====
abbrev S4096x1280 : Shape := ⟨2, ![4096, 1280]⟩
abbrev S256x512 : Shape := ⟨2, ![256, 512]⟩
abbrev S4096x256 : Shape := ⟨2, ![4096, 256]⟩
abbrev S512x256 : Shape := ⟨2, ![512, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1280, .bf16⟩
  | .hbm, ⟨1, _⟩ => ⟨S256x512, .f32⟩
  | .hbm, ⟨2, _⟩ => ⟨S4096x256, .bf16⟩
  | .local _ .vmem, ⟨0, _⟩ => ⟨S512x256, .bf16⟩
  | .local _ .vmem, ⟨1, _⟩ => ⟨S512x256, .bf16⟩
  | .local _ .vmem, ⟨2, _⟩ => ⟨S256x256, .f32⟩
  | .local _ .vmem, ⟨3, _⟩ => ⟨S256x256, .f32⟩
  | .local _ .vmem, ⟨4, _⟩ => ⟨S512x256, .bf16⟩
  | .local _ .vmem, ⟨5, _⟩ => ⟨S512x256, .bf16⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CrossARefIdeal.lean ====
abbrev S4096x1280 : Shape := ⟨2, ![4096, 1280]⟩
abbrev S256x512 : Shape := ⟨2, ![256, 512]⟩
abbrev S4096x256 : Shape := ⟨2, ![4096, 256]⟩
abbrev S256x256 : Shape := ⟨2, ![256, 256]⟩
abbrev S4096x64 : Shape := ⟨2, ![4096, 64]⟩
abbrev S256x64 : Shape := ⟨2, ![256, 64]⟩
abbrev S_ : Shape := ⟨0, ![]⟩
abbrev S4096 : Shape := ⟨1, ![4096]⟩
abbrev S4096x1 : Shape := ⟨2, ![4096, 1]⟩

abbrev nBuf : Space → Nat
  | .hbm => 84
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S256x512, .f32⟩
  | .hbm, ⟨2, _⟩ => ⟨S4096x256, .bf16⟩
  | .hbm, ⟨3, _⟩ => ⟨S4096x256, .f32⟩
  | .hbm, ⟨4, _⟩ => ⟨S256x256, .f32⟩
  | .hbm, ⟨5, _⟩ => ⟨S256x256, .f32⟩
  | .hbm, ⟨6, _⟩ => ⟨S4096x64, .f32⟩
  | .hbm, ⟨7, _⟩ => ⟨S256x64, .f32⟩
  | .hbm, ⟨8, _⟩ => ⟨S4096x256, .f32⟩
  | .hbm, ⟨9, _⟩ => ⟨S_, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S256x64, .f32⟩
  | .hbm, ⟨24, _⟩ => ⟨S4096x64, .f32⟩
  | .hbm, ⟨25, _⟩ => ⟨S4096x64, .f32⟩
  | .hbm, ⟨26, _⟩ => ⟨S256x64, .f32⟩
  | .hbm, ⟨27, _⟩ => ⟨S4096x256, .f32⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x256, .f32⟩
  | .hbm, ⟨41, _⟩ => ⟨S4096x256, .f32⟩
  | .hbm, ⟨42, _⟩ => ⟨S256x64, .f32⟩
  | .hbm, ⟨43, _⟩ => ⟨S4096x64, .f32⟩
  | .hbm, ⟨44, _⟩ => ⟨S4096x64, .f32⟩
  | .hbm, ⟨45, _⟩ => ⟨S256x64, .f32⟩
  | .hbm, ⟨46, _⟩ => ⟨S4096x256, .f32⟩
  | .hbm, ⟨47, _⟩ => ⟨S_, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x256, .f32⟩
  | .hbm, ⟨60, _⟩ => ⟨S4096x256, .f32⟩
  | .hbm, ⟨61, _⟩ => ⟨S256x64, .f32⟩
  | .hbm, ⟨62, _⟩ => ⟨S4096x64, .f32⟩
  | .hbm, ⟨63, _⟩ => ⟨S4096x64, .f32⟩
  | .hbm, ⟨64, _⟩ => ⟨S256x64, .f32⟩
  | .hbm, ⟨65, _⟩ => ⟨S4096x256, .f32⟩
  | .hbm, ⟨66, _⟩ => ⟨S_, .f32⟩
  | .hbm, ⟨67, _⟩ => ⟨S4096x256, .f32⟩
  | .hbm, ⟨68, _⟩ => ⟨S4096x256, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x256, .f32⟩
  | .hbm, ⟨79, _⟩ => ⟨S4096x256, .f32⟩
  | .hbm, ⟨80, _⟩ => ⟨S256x64, .f32⟩
  | .hbm, ⟨81, _⟩ => ⟨S4096x64, .f32⟩
  | .hbm, ⟨82, _⟩ => ⟨S4096x256, .f32⟩
  | .hbm, ⟨83, _⟩ => ⟨S4096x256, .bf16⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_8 : Ref sig .tc := ⟨.hbm, 66, rfl⟩
abbrev main_v55 : Ref sig .tc := ⟨.hbm, 67, rfl⟩
abbrev main_v56 : Ref sig .tc := ⟨.hbm, 68, rfl⟩
abbrev main_cst_9 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_10 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]
-- ==== CrossB.lean ====
abbrev S4096x2688 : Shape := ⟨2, ![4096, 2688]⟩
abbrev S256x512 : Shape := ⟨2, ![256, 512]⟩
abbrev S4096x256 : Shape := ⟨2, ![4096, 256]⟩
abbrev S512x256 : Shape := ⟨2, ![512, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x2688, .f32⟩
  | .hbm, ⟨1, _⟩ => ⟨S256x512, .f32⟩
  | .hbm, ⟨2, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S512x256, .bf16⟩
  | .local _ .vmem, ⟨5, _⟩ => ⟨S512x256, .bf16⟩
  | _, _ => ⟨S4096x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CrossBRefIdeal.lean ====
abbrev S4096x2688 : Shape := ⟨2, ![4096, 2688]⟩
abbrev S256x512 : Shape := ⟨2, ![256, 512]⟩
abbrev S4096x256 : Shape := ⟨2, ![4096, 256]⟩
abbrev S256x256 : Shape := ⟨2, ![256, 256]⟩
abbrev S4096x64 : Shape := ⟨2, ![4096, 64]⟩
abbrev S256x64 : Shape := ⟨2, ![256, 64]⟩
abbrev S_ : Shape := ⟨0, ![]⟩
abbrev S4096 : Shape := ⟨1, ![4096]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x2688, .f32⟩
  | .hbm, ⟨1, _⟩ => ⟨S256x512, .f32⟩
  | .hbm, ⟨2, _⟩ => ⟨S4096x256, .f32⟩
  | .hbm, ⟨3, _⟩ => ⟨S256x256, .f32⟩
  | .hbm, ⟨4, _⟩ => ⟨S256x256, .f32⟩
  | .hbm, ⟨5, _⟩ => ⟨S4096x64, .f32⟩
  | .hbm, ⟨6, _⟩ => ⟨S256x64, .f32⟩
  | .hbm, ⟨7, _⟩ => ⟨S4096x256, .f32⟩
  | .hbm, ⟨8, _⟩ => ⟨S_, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S256x64, .f32⟩
  | .hbm, ⟨23, _⟩ => ⟨S4096x64, .f32⟩
  | .hbm, ⟨24, _⟩ => ⟨S4096x64, .f32⟩
  | .hbm, ⟨25, _⟩ => ⟨S256x64, .f32⟩
  | .hbm, ⟨26, _⟩ => ⟨S4096x256, .f32⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x256, .f32⟩
  | .hbm, ⟨40, _⟩ => ⟨S4096x256, .f32⟩
  | .hbm, ⟨41, _⟩ => ⟨S256x64, .f32⟩
  | .hbm, ⟨42, _⟩ => ⟨S4096x64, .f32⟩
  | .hbm, ⟨43, _⟩ => ⟨S4096x64, .f32⟩
  | .hbm, ⟨44, _⟩ => ⟨S256x64, .f32⟩
  | .hbm, ⟨45, _⟩ => ⟨S4096x256, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x256, .f32⟩
  | .hbm, ⟨59, _⟩ => ⟨S4096x256, .f32⟩
  | .hbm, ⟨60, _⟩ => ⟨S256x64, .f32⟩
  | .hbm, ⟨61, _⟩ => ⟨S4096x64, .f32⟩
  | .hbm, ⟨62, _⟩ => ⟨S4096x64, .f32⟩
  | .hbm, ⟨63, _⟩ => ⟨S256x64, .f32⟩
  | .hbm, ⟨64, _⟩ => ⟨S4096x256, .f32⟩
  | .hbm, ⟨65, _⟩ => ⟨S_, .f32⟩
  | .hbm, ⟨66, _⟩ => ⟨S4096x256, .f32⟩
  | .hbm, ⟨67, _⟩ => ⟨S4096x256, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x256, .f32⟩
  | .hbm, ⟨72, _⟩ => ⟨S4096x256, .f32⟩
  | .hbm, ⟨73, _⟩ => ⟨S4096x256, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x256, .f32⟩
  | .hbm, ⟨78, _⟩ => ⟨S4096x256, .f32⟩
  | .hbm, ⟨79, _⟩ => ⟨S256x64, .f32⟩
  | .hbm, ⟨80, _⟩ => ⟨S4096x64, .f32⟩
  | .hbm, ⟨81, _⟩ => ⟨S4096x256, .f32⟩
  | .hbm, ⟨82, _⟩ => ⟨S4096x256, .bf16⟩
  | _, _ => ⟨S4096x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_5 : Ref sig .tc := ⟨.hbm, 46, rfl⟩
abbrev main_v38 : Ref sig .tc := ⟨.hbm, 47, rfl⟩
abbrev main_v39 : Ref sig .tc := ⟨.hbm, 48, rfl⟩
abbrev main_cst_6 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_8 : Ref sig .tc := ⟨.hbm, 65, rfl⟩
abbrev main_v54 : Ref sig .tc := ⟨.hbm, 66, rfl⟩
abbrev main_v55 : Ref sig .tc := ⟨.hbm, 67, rfl⟩
abbrev main_cst_9 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_10 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩

abbrev nD : Nat := 1
abbrev τ : Topo := Topo.v7x

variable {F : FTy → Type} [FloatOps F]
-- ==== CrossGradA.lean ====
abbrev S4096x1280 : Shape := ⟨2, ![4096, 1280]⟩
abbrev S256x512 : Shape := ⟨2, ![256, 512]⟩
abbrev S4096x1024 : Shape := ⟨2, ![4096, 1024]⟩
abbrev S4096x256 : Shape := ⟨2, ![4096, 256]⟩
abbrev S256x256 : Shape := ⟨2, ![256, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1280, .bf16⟩
  | .hbm, ⟨1, _⟩ => ⟨S256x512, .f32⟩
  | .hbm, ⟨2, _⟩ => ⟨S4096x1024, .f32⟩
  | .hbm, ⟨3, _⟩ => ⟨S4096x256, .bf16⟩
  | .hbm, ⟨4, _⟩ => ⟨S256x256, .f32⟩
  | .hbm, ⟨5, _⟩ => ⟨S256x256, .f32⟩
  | .local _ .vmem, ⟨0, _⟩ => ⟨S512x256, .bf16⟩
  | .local _ .vmem, ⟨1, _⟩ => ⟨S512x256, .bf16⟩
  | .local _ .vmem, ⟨2, _⟩ => ⟨S256x256, .f32⟩
  | .local _ .vmem, ⟨3, _⟩ => ⟨S256x256, .f32⟩
  | .local _ .vmem, ⟨4, _⟩ => ⟨S512x256, .f32⟩
  | .local _ .vmem, ⟨5, _⟩ => ⟨S512x256, .f32⟩
  | .local _ .vmem, ⟨6, _⟩ => ⟨S512x256, .bf16⟩
  | .local _ .vmem, ⟨7, _⟩ => ⟨S512x256, .bf16⟩
  | .local _ .vmem, ⟨8, _⟩ => ⟨S256x256, .f32⟩
  | .local _ .vmem, ⟨9, _⟩ => ⟨S256x256, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CrossGradARefIdeal.lean ====
abbrev S4096x1280 : Shape := ⟨2, ![4096, 1280]⟩
abbrev S256x512 : Shape := ⟨2, ![256, 512]⟩
abbrev S4096x1024 : Shape := ⟨2, ![4096, 1024]⟩
abbrev S4096x256 : Shape := ⟨2, ![4096, 256]⟩
abbrev S256x256 : Shape := ⟨2, ![256, 256]⟩
abbrev S4096x64 : Shape := ⟨2, ![4096, 64]⟩
abbrev S256x64 : Shape := ⟨2, ![256, 64]⟩
abbrev S_ : Shape := ⟨0, ![]⟩
abbrev S4096 : Shape := ⟨1, ![4096]⟩
abbrev S4096x1 : Shape := ⟨2, ![4096, 1]⟩
abbrev S64x256 : Shape := ⟨2, ![64, 256]⟩

abbrev nBuf : Space → Nat
  | .hbm => 251
  | .vmem => 0
  | .smem => 0
  | _ => 0

abbrev hbmTy0_0 (i : Nat) : BufTy := match i % 128 with
  | 0 => ⟨S4096x1280, .bf16⟩
  | 1 => ⟨S256x512, .f32⟩
  | 2 => ⟨S4096x1024, .f32⟩
  | 3 => ⟨S4096x256, .bf16⟩
  | 4 => ⟨S4096x256, .f32⟩
  | 5 => ⟨S4096x256, .f32⟩
  | 6 => ⟨S256x256, .f32⟩
  | 7 => ⟨S256x256, .f32⟩
  | 8 => ⟨S4096x64, .f32⟩
  | 9 => ⟨S256x64, .f32⟩
  | 10 => ⟨S4096x256, .f32⟩
  | 11 => ⟨S_, .f32⟩
  | 12 => ⟨S4096x256, .f32⟩
  | 13 => ⟨S4096x256, .f32⟩
  | 14 => ⟨S_, .f32⟩
  | 15 => ⟨S4096, .f32⟩
  | 16 => ⟨S4096x1, .f32⟩
  | 17 => ⟨S4096x256, .f32⟩
  | 18 => ⟨S4096x256, .i1⟩
  | 19 => ⟨S4096x256, .f32⟩
  | 20 => ⟨S_, .f32⟩
  | 21 => ⟨S4096, .f32⟩
  | 22 => ⟨S4096x1, .f32⟩
  | 23 => ⟨S4096x256, .f32⟩
  | 24 => ⟨S4096x256, .f32⟩
  | 25 => ⟨S4096x256, .f32⟩
  | 26 => ⟨S_, .f32⟩
  | 27 => ⟨S4096, .f32⟩
  | 28 => ⟨S4096x1, .f32⟩
  | 29 => ⟨S4096x256, .f32⟩
  | 30 => ⟨S4096x256, .f32⟩
  | 31 => ⟨S4096x1, .f32⟩
  | 32 => ⟨S_, .f32⟩
  | 33 => ⟨S4096x1, .f32⟩
  | 34 => ⟨S4096x1, .f32⟩
  | 35 => ⟨S256x64, .f32⟩
  | 36 => ⟨S4096x64, .f32⟩
  | 37 => ⟨S4096x64, .f32⟩
  | 38 => ⟨S256x64, .f32⟩
  | 39 => ⟨S4096x256, .f32⟩
  | 40 => ⟨S_, .f32⟩
  | 41 => ⟨S4096x256, .f32⟩
  | 42 => ⟨S4096x256, .f32⟩
  | 43 => ⟨S_, .f32⟩
  | 44 => ⟨S4096, .f32⟩
  | 45 => ⟨S4096x1, .f32⟩
  | 46 => ⟨S4096x256, .f32⟩
  | 47 => ⟨S4096x256, .i1⟩
  | 48 => ⟨S4096x256, .f32⟩
  | 49 => ⟨S_, .f32⟩
  | 50 => ⟨S4096, .f32⟩
  | 51 => ⟨S4096x1, .f32⟩
  | 52 => ⟨S4096x256, .f32⟩
  | 53 => ⟨S4096x256, .f32⟩
  | 54 => ⟨S4096x256, .f32⟩
  | 55 => ⟨S_, .f32⟩
  | 56 => ⟨S4096, .f32⟩
  | 57 => ⟨S4096x1, .f32⟩
  | 58 => ⟨S4096x256, .f32⟩
  | 59 => ⟨S4096x256, .f32⟩
  | 60 => ⟨S4096x1, .f32⟩
  | 61 => ⟨S_, .f32⟩
  | 62 => ⟨S4096x1, .f32⟩
  | 63 => ⟨S4096x1, .f32⟩
  | 64 => ⟨S256x64, .f32⟩
  | 65 => ⟨S4096x64, .f32⟩
  | 66 => ⟨S4096x64, .f32⟩
  | 67 => ⟨S256x64, .f32⟩
  | 68 => ⟨S4096x256, .f32⟩
  | 69 => ⟨S_, .f32⟩
  | 70 => ⟨S4096x256, .f32⟩
  | 71 => ⟨S4096x256, .f32⟩
  | 72 => ⟨S_, .f32⟩
  | 73 => ⟨S4096, .f32⟩
  | 74 => ⟨S4096x1, .f32⟩
  | 75 => ⟨S4096x256, .f32⟩
  | 76 => ⟨S4096x256, .i1⟩
  | 77 => ⟨S4096x256, .f32⟩
  | 78 => ⟨S_, .f32⟩
  | 79 => ⟨S4096, .f32⟩
  | 80 => ⟨S4096x1, .f32⟩
  | 81 => ⟨S4096x256, .f32⟩
  | 82 => ⟨S4096x256, .f32⟩
  | 83 => ⟨S4096x256, .f32⟩
  | 84 => ⟨S_, .f32⟩
  | 85 => ⟨S4096, .f32⟩
  | 86 => ⟨S4096x1, .f32⟩
  | 87 => ⟨S4096x256, .f32⟩
  | 88 => ⟨S4096x256, .f32⟩
  | 89 => ⟨S4096x1, .f32⟩
  | 90 => ⟨S_, .f32⟩
  | 91 => ⟨S4096x1, .f32⟩
  | 92 => ⟨S4096x1, .f32⟩
  | 93 => ⟨S256x64, .f32⟩
  | 94 => ⟨S4096x64, .f32⟩
  | 95 => ⟨S4096x64, .f32⟩
  | 96 => ⟨S256x64, .f32⟩
  | 97 => ⟨S4096x256, .f32⟩
  | 98 => ⟨S_, .f32⟩
  | 99 => ⟨S4096x256, .f32⟩
  | 100 => ⟨S4096x256, .f32⟩
  | 101 => ⟨S_, .f32⟩
  | 102 => ⟨S4096, .f32⟩
  | 103 => ⟨S4096x1, .f32⟩
  | 104 => ⟨S4096x256, .f32⟩
  | 105 => ⟨S4096x256, .i1⟩
  | 106 => ⟨S4096x256, .f32⟩
  | 107 => ⟨S_, .f32⟩
  | 108 => ⟨S4096, .f32⟩
  | 109 => ⟨S4096x1, .f32⟩
  | 110 => ⟨S4096x256, .f32⟩
  | 111 => ⟨S4096x256, .f32⟩
  | 112 => ⟨S4096x256, .f32⟩
  | 113 => ⟨S_, .f32⟩
  | 114 => ⟨S4096, .f32⟩
  | 115 => ⟨S4096x1, .f32⟩
  | 116 => ⟨S4096x256, .f32⟩
  | 117 => ⟨S4096x256, .f32⟩
  | 118 => ⟨S4096x1, .f32⟩
  | 119 => ⟨S_, .f32⟩
  | 120 => ⟨S4096x1, .f32⟩
  | 121 => ⟨S4096x1, .f32⟩
  | 122 => ⟨S256x64, .f32⟩
  | 123 => ⟨S4096x64, .f32⟩
  | 124 => ⟨S4096x256, .f32⟩
  | 125 => ⟨S4096x64, .f32⟩
  | 126 => ⟨S4096x64, .f32⟩
  | 127 => ⟨S4096x64, .f32⟩
  | _ => ⟨S4096x1280, .bf16⟩

abbrev hbmTy0_1 (i : Nat) : BufTy := match i % 128 with
  | 0 => ⟨S4096x64, .f32⟩
  | 1 => ⟨S64x256, .f32⟩
  | 2 => ⟨S256x64, .f32⟩
  | 3 => ⟨S4096x256, .f32⟩
  | 4 => ⟨S_, .f32⟩
  | 5 => ⟨S256x256, .f32⟩
  | 6 => ⟨S4096x256, .f32⟩
  | 7 => ⟨S4096x256, .f32⟩
  | 8 => ⟨S4096x256, .f32⟩
  | 9 => ⟨S_, .f32⟩
  | 10 => ⟨S4096, .f32⟩
  | 11 => ⟨S4096x1, .f32⟩
  | 12 => ⟨S4096x1, .f32⟩
  | 13 => ⟨S4096x256, .f32⟩
  | 14 => ⟨S4096x256, .f32⟩
  | 15 => ⟨S_, .f32⟩
  | 16 => ⟨S4096, .f32⟩
  | 17 => ⟨S4096x256, .f32⟩
  | 18 => ⟨S4096x256, .f32⟩
  | 19 => ⟨S4096x256, .f32⟩
  | 20 => ⟨S_, .f32⟩
  | 21 => ⟨S4096x256, .f32⟩
  | 22 => ⟨S4096x256, .f32⟩
  | 23 => ⟨S256x64, .f32⟩
  | 24 => ⟨S4096x64, .f32⟩
  | 25 => ⟨S_, .f32⟩
  | 26 => ⟨S256x256, .f32⟩
  | 27 => ⟨S_, .f32⟩
  | 28 => ⟨S4096x256, .f32⟩
  | 29 => ⟨S64x256, .f32⟩
  | 30 => ⟨S256x64, .f32⟩
  | 31 => ⟨S4096x256, .f32⟩
  | 32 => ⟨S_, .f32⟩
  | 33 => ⟨S256x256, .f32⟩
  | 34 => ⟨S256x256, .f32⟩
  | 35 => ⟨S4096x256, .f32⟩
  | 36 => ⟨S4096x256, .f32⟩
  | 37 => ⟨S4096x256, .f32⟩
  | 38 => ⟨S_, .f32⟩
  | 39 => ⟨S4096, .f32⟩
  | 40 => ⟨S4096x1, .f32⟩
  | 41 => ⟨S4096x1, .f32⟩
  | 42 => ⟨S4096x256, .f32⟩
  | 43 => ⟨S4096x256, .f32⟩
  | 44 => ⟨S_, .f32⟩
  | 45 => ⟨S4096, .f32⟩
  | 46 => ⟨S4096x256, .f32⟩
  | 47 => ⟨S4096x256, .f32⟩
  | 48 => ⟨S4096x256, .f32⟩
  | 49 => ⟨S_, .f32⟩
  | 50 => ⟨S4096x256, .f32⟩
  | 51 => ⟨S4096x256, .f32⟩
  | 52 => ⟨S256x64, .f32⟩
  | 53 => ⟨S4096x64, .f32⟩
  | 54 => ⟨S_, .f32⟩
  | 55 => ⟨S256x256, .f32⟩
  | 56 => ⟨S256x256, .f32⟩
  | 57 => ⟨S_, .f32⟩
  | 58 => ⟨S4096x256, .f32⟩
  | 59 => ⟨S4096x256, .f32⟩
  | 60 => ⟨S64x256, .f32⟩
  | 61 => ⟨S256x64, .f32⟩
  | 62 => ⟨S4096x256, .f32⟩
  | 63 => ⟨S_, .f32⟩
  | 64 => ⟨S256x256, .f32⟩
  | 65 => ⟨S256x256, .f32⟩
  | 66 => ⟨S4096x256, .f32⟩
  | 67 => ⟨S4096x256, .f32⟩
  | 68 => ⟨S4096x256, .f32⟩
  | 69 => ⟨S_, .f32⟩
  | 70 => ⟨S4096, .f32⟩
  | 71 => ⟨S4096x1, .f32⟩
  | 72 => ⟨S4096x1, .f32⟩
  | 73 => ⟨S4096x256, .f32⟩
  | 74 => ⟨S4096x256, .f32⟩
  | 75 => ⟨S_, .f32⟩
  | 76 => ⟨S4096, .f32⟩
  | 77 => ⟨S4096x256, .f32⟩
  | 78 => ⟨S4096x256, .f32⟩
  | 79 => ⟨S4096x256, .f32⟩
  | 80 => ⟨S_, .f32⟩
  | 81 => ⟨S4096x256, .f32⟩
  | 82 => ⟨S4096x256, .f32⟩
  | 83 => ⟨S256x64, .f32⟩
  | 84 => ⟨S4096x64, .f32⟩
  | 85 => ⟨S_, .f32⟩
  | 86 => ⟨S256x256, .f32⟩
  | 87 => ⟨S256x256, .f32⟩
  | 88 => ⟨S_, .f32⟩
  | 89 => ⟨S4096x256, .f32⟩
  | 90 => ⟨S4096x256, .f32⟩
  | 91 => ⟨S64x256, .f32⟩
  | 92 => ⟨S256x64, .f32⟩
  | 93 => ⟨S4096x256, .f32⟩
  | 94 => ⟨S_, .f32⟩
  | 95 => ⟨S256x256, .f32⟩
  | 96 => ⟨S256x256, .f32⟩
  | 97 => ⟨S4096x256, .f32⟩
  | 98 => ⟨S4096x256, .f32⟩
  | 99 => ⟨S4096x256, .f32⟩
  | 100 => ⟨S_, .f32⟩
  | 101 => ⟨S4096, .f32⟩
  | 102 => ⟨S4096x1, .f32⟩
  | 103 => ⟨S4096x1, .f32⟩
  | 104 => ⟨S4096x256, .f32⟩
  | 105 => ⟨S4096x256, .f32⟩
  | 106 => ⟨S_, .f32⟩
  | 107 => ⟨S4096, .f32⟩
  | 108 => ⟨S4096x256, .f32⟩
  | 109 => ⟨S4096x256, .f32⟩
  | 110 => ⟨S4096x256, .f32⟩
  | 111 => ⟨S_, .f32⟩
  | 112 => ⟨S4096x256, .f32⟩
  | 113 => ⟨S4096x256, .f32⟩
  | 114 => ⟨S256x64, .f32⟩
  | 115 => ⟨S4096x64, .f32⟩
  | 116 => ⟨S_, .f32⟩
  | 117 => ⟨S256x256, .f32⟩
  | 118 => ⟨S256x256, .f32⟩
  | 119 => ⟨S_, .f32⟩
  | 120 => ⟨S4096x256, .f32⟩
  | 121 => ⟨S4096x256, .f32⟩
  | 122 => ⟨S4096x256, .bf16⟩
  | _ => ⟨S4096x1280, .bf16⟩

abbrev hbmTy (i : Nat) : BufTy := match i / 128 with
  | 0 => hbmTy0_0 i
  | 1 => hbmTy0_1 i
  | _ => ⟨S4096x1280, .bf16⟩

abbrev bufTy : (tb : Table) → Fin (tcTables nBuf tb) → BufTy
  | .hbm, ⟨i, _⟩ => hbmTy i
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_13 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_14 : Ref sig .tc := ⟨.hbm, 98, rfl⟩
abbrev main_v80 : Ref sig .tc := ⟨.hbm, 99, rfl⟩
abbrev main_v81 : Ref sig .tc := ⟨.hbm, 100, rfl⟩
abbrev main_cst_15 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_16 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_17 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_18 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_19 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_20 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_21 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_22 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_23 : Ref sig .tc := ⟨.hbm, 153, rfl⟩
abbrev main_v126 : Ref sig .tc := ⟨.hbm, 154, rfl⟩
abbrev main_cst_24 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_25 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_26 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_27 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_28 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_29 : Ref sig .tc := ⟨.hbm, 182, rfl⟩
abbrev main_v149 : Ref sig .tc := ⟨.hbm, 183, rfl⟩
abbrev main_v150 : Ref sig .tc := ⟨.hbm, 184, rfl⟩
abbrev main_cst_30 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_31 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_32 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_33 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_34 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_cst_35 : Ref sig .tc := ⟨.hbm, 213, rfl⟩
abbrev main_v174 : Ref sig .tc := ⟨.hbm, 214, rfl⟩
abbrev main_v175 : Ref sig .tc := ⟨.hbm, 215, rfl⟩
abbrev main_cst_36 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_cst_37 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_cst_38 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_cst_39 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_cst_40 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_cst_41 : Ref sig .tc := ⟨.hbm, 244, rfl⟩
abbrev main_v199 : Ref sig .tc := ⟨.hbm, 245, rfl⟩
abbrev main_v200 : Ref sig .tc := ⟨.hbm, 246, rfl⟩
abbrev main_cst_42 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩

abbrev nD : Nat := 1
abbrev τ : Topo := Topo.v7x

variable {F : FTy → Type} [FloatOps F]
-- ==== CrossGradB.lean ====
abbrev S4096x2688 : Shape := ⟨2, ![4096, 2688]⟩
abbrev S256x512 : Shape := ⟨2, ![256, 512]⟩
abbrev S4096x1024 : Shape := ⟨2, ![4096, 1024]⟩
abbrev S4096x256 : Shape := ⟨2, ![4096, 256]⟩
abbrev S256x256 : Shape := ⟨2, ![256, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2688, .f32⟩
  | .hbm, ⟨1, _⟩ => ⟨S256x512, .f32⟩
  | .hbm, ⟨2, _⟩ => ⟨S4096x1024, .f32⟩
  | .hbm, ⟨3, _⟩ => ⟨S4096x256, .bf16⟩
  | .hbm, ⟨4, _⟩ => ⟨S256x256, .f32⟩
  | .hbm, ⟨5, _⟩ => ⟨S256x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S512x256, .f32⟩
  | .local _ .vmem, ⟨5, _⟩ => ⟨S512x256, .f32⟩
  | .local _ .vmem, ⟨6, _⟩ => ⟨S512x256, .bf16⟩
  | .local _ .vmem, ⟨7, _⟩ => ⟨S512x256, .bf16⟩
  | .local _ .vmem, ⟨8, _⟩ => ⟨S256x256, .f32⟩
  | .local _ .vmem, ⟨9, _⟩ => ⟨S256x256, .f32⟩
  | _, _ => ⟨S4096x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CrossGradBRefIdeal.lean ====
abbrev S4096x2688 : Shape := ⟨2, ![4096, 2688]⟩
abbrev S256x512 : Shape := ⟨2, ![256, 512]⟩
abbrev S4096x1024 : Shape := ⟨2, ![4096, 1024]⟩
abbrev S4096x256 : Shape := ⟨2, ![4096, 256]⟩
abbrev S256x256 : Shape := ⟨2, ![256, 256]⟩
abbrev S4096x64 : Shape := ⟨2, ![4096, 64]⟩
abbrev S256x64 : Shape := ⟨2, ![256, 64]⟩
abbrev S_ : Shape := ⟨0, ![]⟩
abbrev S4096 : Shape := ⟨1, ![4096]⟩
abbrev S4096x1 : Shape := ⟨2, ![4096, 1]⟩
abbrev S64x256 : Shape := ⟨2, ![64, 256]⟩

abbrev nBuf : Space → Nat
  | .hbm => 250
  | .vmem => 0
  | .smem => 0
  | _ => 0

abbrev hbmTy0_0 (i : Nat) : BufTy := match i % 128 with
  | 0 => ⟨S4096x2688, .f32⟩
  | 1 => ⟨S256x512, .f32⟩
  | 2 => ⟨S4096x1024, .f32⟩
  | 3 => ⟨S4096x256, .f32⟩
  | 4 => ⟨S4096x256, .f32⟩
  | 5 => ⟨S256x256, .f32⟩
  | 6 => ⟨S256x256, .f32⟩
  | 7 => ⟨S4096x64, .f32⟩
  | 8 => ⟨S256x64, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096, .f32⟩
  | 15 => ⟨S4096x1, .f32⟩
  | 16 => ⟨S4096x256, .f32⟩
  | 17 => ⟨S4096x256, .i1⟩
  | 18 => ⟨S4096x256, .f32⟩
  | 19 => ⟨S_, .f32⟩
  | 20 => ⟨S4096, .f32⟩
  | 21 => ⟨S4096x1, .f32⟩
  | 22 => ⟨S4096x256, .f32⟩
  | 23 => ⟨S4096x256, .f32⟩
  | 24 => ⟨S4096x256, .f32⟩
  | 25 => ⟨S_, .f32⟩
  | 26 => ⟨S4096, .f32⟩
  | 27 => ⟨S4096x1, .f32⟩
  | 28 => ⟨S4096x256, .f32⟩
  | 29 => ⟨S4096x256, .f32⟩
  | 30 => ⟨S4096x1, .f32⟩
  | 31 => ⟨S_, .f32⟩
  | 32 => ⟨S4096x1, .f32⟩
  | 33 => ⟨S4096x1, .f32⟩
  | 34 => ⟨S256x64, .f32⟩
  | 35 => ⟨S4096x64, .f32⟩
  | 36 => ⟨S4096x64, .f32⟩
  | 37 => ⟨S256x64, .f32⟩
  | 38 => ⟨S4096x256, .f32⟩
  | 39 => ⟨S_, .f32⟩
  | 40 => ⟨S4096x256, .f32⟩
  | 41 => ⟨S4096x256, .f32⟩
  | 42 => ⟨S_, .f32⟩
  | 43 => ⟨S4096, .f32⟩
  | 44 => ⟨S4096x1, .f32⟩
  | 45 => ⟨S4096x256, .f32⟩
  | 46 => ⟨S4096x256, .i1⟩
  | 47 => ⟨S4096x256, .f32⟩
  | 48 => ⟨S_, .f32⟩
  | 49 => ⟨S4096, .f32⟩
  | 50 => ⟨S4096x1, .f32⟩
  | 51 => ⟨S4096x256, .f32⟩
  | 52 => ⟨S4096x256, .f32⟩
  | 53 => ⟨S4096x256, .f32⟩
  | 54 => ⟨S_, .f32⟩
  | 55 => ⟨S4096, .f32⟩
  | 56 => ⟨S4096x1, .f32⟩
  | 57 => ⟨S4096x256, .f32⟩
  | 58 => ⟨S4096x256, .f32⟩
  | 59 => ⟨S4096x1, .f32⟩
  | 60 => ⟨S_, .f32⟩
  | 61 => ⟨S4096x1, .f32⟩
  | 62 => ⟨S4096x1, .f32⟩
  | 63 => ⟨S256x64, .f32⟩
  | 64 => ⟨S4096x64, .f32⟩
  | 65 => ⟨S4096x64, .f32⟩
  | 66 => ⟨S256x64, .f32⟩
  | 67 => ⟨S4096x256, .f32⟩
  | 68 => ⟨S_, .f32⟩
  | 69 => ⟨S4096x256, .f32⟩
  | 70 => ⟨S4096x256, .f32⟩
  | 71 => ⟨S_, .f32⟩
  | 72 => ⟨S4096, .f32⟩
  | 73 => ⟨S4096x1, .f32⟩
  | 74 => ⟨S4096x256, .f32⟩
  | 75 => ⟨S4096x256, .i1⟩
  | 76 => ⟨S4096x256, .f32⟩
  | 77 => ⟨S_, .f32⟩
  | 78 => ⟨S4096, .f32⟩
  | 79 => ⟨S4096x1, .f32⟩
  | 80 => ⟨S4096x256, .f32⟩
  | 81 => ⟨S4096x256, .f32⟩
  | 82 => ⟨S4096x256, .f32⟩
  | 83 => ⟨S_, .f32⟩
  | 84 => ⟨S4096, .f32⟩
  | 85 => ⟨S4096x1, .f32⟩
  | 86 => ⟨S4096x256, .f32⟩
  | 87 => ⟨S4096x256, .f32⟩
  | 88 => ⟨S4096x1, .f32⟩
  | 89 => ⟨S_, .f32⟩
  | 90 => ⟨S4096x1, .f32⟩
  | 91 => ⟨S4096x1, .f32⟩
  | 92 => ⟨S256x64, .f32⟩
  | 93 => ⟨S4096x64, .f32⟩
  | 94 => ⟨S4096x64, .f32⟩
  | 95 => ⟨S256x64, .f32⟩
  | 96 => ⟨S4096x256, .f32⟩
  | 97 => ⟨S_, .f32⟩
  | 98 => ⟨S4096x256, .f32⟩
  | 99 => ⟨S4096x256, .f32⟩
  | 100 => ⟨S_, .f32⟩
  | 101 => ⟨S4096, .f32⟩
  | 102 => ⟨S4096x1, .f32⟩
  | 103 => ⟨S4096x256, .f32⟩
  | 104 => ⟨S4096x256, .i1⟩
  | 105 => ⟨S4096x256, .f32⟩
  | 106 => ⟨S_, .f32⟩
  | 107 => ⟨S4096, .f32⟩
  | 108 => ⟨S4096x1, .f32⟩
  | 109 => ⟨S4096x256, .f32⟩
  | 110 => ⟨S4096x256, .f32⟩
  | 111 => ⟨S4096x256, .f32⟩
  | 112 => ⟨S_, .f32⟩
  | 113 => ⟨S4096, .f32⟩
  | 114 => ⟨S4096x1, .f32⟩
  | 115 => ⟨S4096x256, .f32⟩
  | 116 => ⟨S4096x256, .f32⟩
  | 117 => ⟨S4096x1, .f32⟩
  | 118 => ⟨S_, .f32⟩
  | 119 => ⟨S4096x1, .f32⟩
  | 120 => ⟨S4096x1, .f32⟩
  | 121 => ⟨S256x64, .f32⟩
  | 122 => ⟨S4096x64, .f32⟩
  | 123 => ⟨S4096x256, .f32⟩
  | 124 => ⟨S4096x64, .f32⟩
  | 125 => ⟨S4096x64, .f32⟩
  | 126 => ⟨S4096x64, .f32⟩
  | 127 => ⟨S4096x64, .f32⟩
  | _ => ⟨S4096x2688, .f32⟩

abbrev hbmTy0_1 (i : Nat) : BufTy := match i % 128 with
  | 0 => ⟨S64x256, .f32⟩
  | 1 => ⟨S256x64, .f32⟩
  | 2 => ⟨S4096x256, .f32⟩
  | 3 => ⟨S_, .f32⟩
  | 4 => ⟨S256x256, .f32⟩
  | 5 => ⟨S4096x256, .f32⟩
  | 6 => ⟨S4096x256, .f32⟩
  | 7 => ⟨S4096x256, .f32⟩
  | 8 => ⟨S_, .f32⟩
  | 9 => ⟨S4096, .f32⟩
  | 10 => ⟨S4096x1, .f32⟩
  | 11 => ⟨S4096x1, .f32⟩
  | 12 => ⟨S4096x256, .f32⟩
  | 13 => ⟨S4096x256, .f32⟩
  | 14 => ⟨S_, .f32⟩
  | 15 => ⟨S4096, .f32⟩
  | 16 => ⟨S4096x256, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S256x64, .f32⟩
  | 23 => ⟨S4096x64, .f32⟩
  | 24 => ⟨S_, .f32⟩
  | 25 => ⟨S256x256, .f32⟩
  | 26 => ⟨S_, .f32⟩
  | 27 => ⟨S4096x256, .f32⟩
  | 28 => ⟨S64x256, .f32⟩
  | 29 => ⟨S256x64, .f32⟩
  | 30 => ⟨S4096x256, .f32⟩
  | 31 => ⟨S_, .f32⟩
  | 32 => ⟨S256x256, .f32⟩
  | 33 => ⟨S256x256, .f32⟩
  | 34 => ⟨S4096x256, .f32⟩
  | 35 => ⟨S4096x256, .f32⟩
  | 36 => ⟨S4096x256, .f32⟩
  | 37 => ⟨S_, .f32⟩
  | 38 => ⟨S4096, .f32⟩
  | 39 => ⟨S4096x1, .f32⟩
  | 40 => ⟨S4096x1, .f32⟩
  | 41 => ⟨S4096x256, .f32⟩
  | 42 => ⟨S4096x256, .f32⟩
  | 43 => ⟨S_, .f32⟩
  | 44 => ⟨S4096, .f32⟩
  | 45 => ⟨S4096x256, .f32⟩
  | 46 => ⟨S4096x256, .f32⟩
  | 47 => ⟨S4096x256, .f32⟩
  | 48 => ⟨S_, .f32⟩
  | 49 => ⟨S4096x256, .f32⟩
  | 50 => ⟨S4096x256, .f32⟩
  | 51 => ⟨S256x64, .f32⟩
  | 52 => ⟨S4096x64, .f32⟩
  | 53 => ⟨S_, .f32⟩
  | 54 => ⟨S256x256, .f32⟩
  | 55 => ⟨S256x256, .f32⟩
  | 56 => ⟨S_, .f32⟩
  | 57 => ⟨S4096x256, .f32⟩
  | 58 => ⟨S4096x256, .f32⟩
  | 59 => ⟨S64x256, .f32⟩
  | 60 => ⟨S256x64, .f32⟩
  | 61 => ⟨S4096x256, .f32⟩
  | 62 => ⟨S_, .f32⟩
  | 63 => ⟨S256x256, .f32⟩
  | 64 => ⟨S256x256, .f32⟩
  | 65 => ⟨S4096x256, .f32⟩
  | 66 => ⟨S4096x256, .f32⟩
  | 67 => ⟨S4096x256, .f32⟩
  | 68 => ⟨S_, .f32⟩
  | 69 => ⟨S4096, .f32⟩
  | 70 => ⟨S4096x1, .f32⟩
  | 71 => ⟨S4096x1, .f32⟩
  | 72 => ⟨S4096x256, .f32⟩
  | 73 => ⟨S4096x256, .f32⟩
  | 74 => ⟨S_, .f32⟩
  | 75 => ⟨S4096, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S256x64, .f32⟩
  | 83 => ⟨S4096x64, .f32⟩
  | 84 => ⟨S_, .f32⟩
  | 85 => ⟨S256x256, .f32⟩
  | 86 => ⟨S256x256, .f32⟩
  | 87 => ⟨S_, .f32⟩
  | 88 => ⟨S4096x256, .f32⟩
  | 89 => ⟨S4096x256, .f32⟩
  | 90 => ⟨S64x256, .f32⟩
  | 91 => ⟨S256x64, .f32⟩
  | 92 => ⟨S4096x256, .f32⟩
  | 93 => ⟨S_, .f32⟩
  | 94 => ⟨S256x256, .f32⟩
  | 95 => ⟨S256x256, .f32⟩
  | 96 => ⟨S4096x256, .f32⟩
  | 97 => ⟨S4096x256, .f32⟩
  | 98 => ⟨S4096x256, .f32⟩
  | 99 => ⟨S_, .f32⟩
  | 100 => ⟨S4096, .f32⟩
  | 101 => ⟨S4096x1, .f32⟩
  | 102 => ⟨S4096x1, .f32⟩
  | 103 => ⟨S4096x256, .f32⟩
  | 104 => ⟨S4096x256, .f32⟩
  | 105 => ⟨S_, .f32⟩
  | 106 => ⟨S4096, .f32⟩
  | 107 => ⟨S4096x256, .f32⟩
  | 108 => ⟨S4096x256, .f32⟩
  | 109 => ⟨S4096x256, .f32⟩
  | 110 => ⟨S_, .f32⟩
  | 111 => ⟨S4096x256, .f32⟩
  | 112 => ⟨S4096x256, .f32⟩
  | 113 => ⟨S256x64, .f32⟩
  | 114 => ⟨S4096x64, .f32⟩
  | 115 => ⟨S_, .f32⟩
  | 116 => ⟨S256x256, .f32⟩
  | 117 => ⟨S256x256, .f32⟩
  | 118 => ⟨S_, .f32⟩
  | 119 => ⟨S4096x256, .f32⟩
  | 120 => ⟨S4096x256, .f32⟩
  | 121 => ⟨S4096x256, .bf16⟩
  | _ => ⟨S4096x2688, .f32⟩

abbrev hbmTy (i : Nat) : BufTy := match i / 128 with
  | 0 => hbmTy0_0 i
  | 1 => hbmTy0_1 i
  | _ => ⟨S4096x2688, .f32⟩

abbrev bufTy : (tb : Table) → Fin (tcTables nBuf tb) → BufTy
  | .hbm, ⟨i, _⟩ => hbmTy i
  | _, _ => ⟨S4096x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_14 : Ref sig .tc := ⟨.hbm, 97, rfl⟩
abbrev main_v79 : Ref sig .tc := ⟨.hbm, 98, rfl⟩
abbrev main_v80 : Ref sig .tc := ⟨.hbm, 99, rfl⟩
abbrev main_cst_15 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_16 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_17 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_18 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_19 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_20 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_21 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_22 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_23 : Ref sig .tc := ⟨.hbm, 152, rfl⟩
abbrev main_v125 : Ref sig .tc := ⟨.hbm, 153, rfl⟩
abbrev main_cst_24 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_25 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_26 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_27 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_28 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_29 : Ref sig .tc := ⟨.hbm, 181, rfl⟩
abbrev main_v148 : Ref sig .tc := ⟨.hbm, 182, rfl⟩
abbrev main_v149 : Ref sig .tc := ⟨.hbm, 183, rfl⟩
abbrev main_cst_30 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_31 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_cst_32 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_33 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_34 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_cst_35 : Ref sig .tc := ⟨.hbm, 212, rfl⟩
abbrev main_v173 : Ref sig .tc := ⟨.hbm, 213, rfl⟩
abbrev main_v174 : Ref sig .tc := ⟨.hbm, 214, rfl⟩
abbrev main_cst_36 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_cst_37 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_cst_38 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_cst_39 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_cst_40 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_cst_41 : Ref sig .tc := ⟨.hbm, 243, rfl⟩
abbrev main_v198 : Ref sig .tc := ⟨.hbm, 244, rfl⟩
abbrev main_v199 : Ref sig .tc := ⟨.hbm, 245, rfl⟩
abbrev main_cst_42 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩

abbrev nD : Nat := 1
abbrev τ : Topo := Topo.v7x

variable {F : FTy → Type} [FloatOps F]
-- ==== Proof.Chunk.lean ====
/-
  One chunk of the delta rule's backward pass, written once over the extended reals: what a chunk holds (six heads,
  sixty-four tokens, one hundred and twenty-eight lanes), the gradients it gives back, and the cotangent of the
  incoming state. Both programs are shown to compute these functions.
-/
module

public import Idealize.ShloMosaic.Lib.Pointwise

@[expose] public section

noncomputable section

namespace Cert.Dns

/-- What one chunk holds: the five matrices per head, the intra-chunk attention, the decay of the chunk, the state
    that came into it, and the cotangent of what it put out. -/
structure Chunk where
  u : Fin 6 → Fin 64 → Fin 128 → EReal
  w : Fin 6 → Fin 64 → Fin 128 → EReal
  qd : Fin 6 → Fin 64 → Fin 128 → EReal
  kt : Fin 6 → Fin 64 → Fin 128 → EReal
  att : Fin 6 → Fin 64 → Fin 64 → EReal
  dc : Fin 6 → EReal
  st : Fin 6 → Fin 128 → Fin 128 → EReal
  ct : Fin 6 → Fin 64 → Fin 128 → EReal

/-- A cotangent of the state: one square matrix per head. -/
abbrev Cot := Fin 6 → Fin 128 → Fin 128 → EReal

variable (x : Chunk) (g : Cot)

/-- The corrected values of the chunk: `u - w S`. -/
def delta (h : Fin 6) (t : Fin 64) (e : Fin 128) : EReal := x.u h t e - ∑ k : Fin 128, x.w h t k * x.st h k e

/-- The cotangent of the corrected values, which is the cotangent of `u`. -/
def du (h : Fin 6) (t : Fin 64) (e : Fin 128) : EReal :=
  (∑ k : Fin 128, x.kt h t k * g h k e) + ∑ s : Fin 64, x.att h s t * x.ct h s e

/-- The cotangent of `w`. -/
def dw (h : Fin 6) (t : Fin 64) (k : Fin 128) : EReal := ∑ e : Fin 128, -(du x g h t e) * x.st h k e

/-- The cotangent of the decayed queries. -/
def dqd (h : Fin 6) (t : Fin 64) (k : Fin 128) : EReal := ∑ e : Fin 128, x.ct h t e * x.st h k e

/-- The cotangent of the decayed keys. -/
def dkt (h : Fin 6) (t : Fin 64) (k : Fin 128) : EReal := ∑ e : Fin 128, delta x h t e * g h k e

/-- The cotangent of the intra-chunk attention. -/
def datt (h : Fin 6) (t : Fin 64) (s : Fin 64) : EReal := ∑ e : Fin 128, x.ct h t e * delta x h s e

/-- The cotangent of the chunk's decay. -/
def ddc (h : Fin 6) : EReal := ∑ k : Fin 128, ∑ e : Fin 128, g h k e * x.st h k e

/-- The cotangent of the state that came into the chunk, given that of the state that left it. -/
def back : Cot := fun h k e =>
  (x.dc h * g h k e + ∑ t : Fin 64, x.qd h t k * x.ct h t e) + ∑ t : Fin 64, x.w h t k * -(du x g h t e)

/-- The cotangent that chunk `63 - t` receives: the last chunk receives none, every other what its successor leaves. -/
def cot (chunk : ℕ → Chunk) : ℕ → Cot
  | 0 => fun _ _ _ => 0
  | t + 1 => back (chunk (63 - t)) (cot chunk t)

end Cert.Dns

end
-- ==== Proof.Args.lean ====
/-
  The arrays the call takes, cut into chunks, and the six arrays it returns as functions of them: each chunk's
  gradients at the cotangent its successors leave.
-/
module

public import proofs.«01_k».proof.Proof.Chunk
public import Idealize.ShloMosaic.Lib.Pointwise

@[expose] public section

noncomputable section
namespace Cert.Dns

open Idealize.ShloMosaic

/-- A matrix of all tokens: a row per token, the lanes of the six heads side by side. -/
abbrev Rows := (⟨2, ![4096, 768]⟩ : Shape).Idx → EReal

/-- The arrays of the call, over the extended reals. -/
structure Args where
  u : Rows
  w : Rows
  qd : Rows
  kt : Rows
  att : (⟨4, ![64, 6, 64, 64]⟩ : Shape).Idx → EReal
  dc : (⟨3, ![64, 8, 128]⟩ : Shape).Idx → EReal
  st : (⟨4, ![64, 6, 128, 128]⟩ : Shape).Idx → EReal
  ct : Rows

/-- Token `t` of chunk `n`, among all tokens. -/
def tok (n t : Fin 64) : Fin 4096 := ⟨n.val * 64 + t.val, by omega⟩

/-- Lane `e` of head `h`, among all lanes. -/
def lane (h : Fin 6) (e : Fin 128) : Fin 768 := ⟨h.val * 128 + e.val, by omega⟩

/-- Chunk `n` of the arrays. -/
def Args.chunk (A : Args) (n : Fin 64) : Chunk where
  u h t e := A.u (ix2 (tok n t) (lane h e))
  w h t e := A.w (ix2 (tok n t) (lane h e))
  qd h t e := A.qd (ix2 (tok n t) (lane h e))
  kt h t e := A.kt (ix2 (tok n t) (lane h e))
  att h t s := A.att (ix4 n h t s)
  dc h := A.dc (ix3 n ⟨h.val, by omega⟩ 0)
  st h k e := A.st (ix4 n h k e)
  ct h t e := A.ct (ix2 (tok n t) (lane h e))

/-- All chunks, by number. -/
def Args.chunks (A : Args) (n : ℕ) : Chunk := A.chunk (Fin.ofNat 64 n)

/-- The cotangent that reaches the state leaving chunk `n`. -/
def Args.cotAt (A : Args) (n : Fin 64) : Cot := cot A.chunks (63 - n.val)

/-- Per-chunk, per-head matrices laid out as rows of tokens. -/
def rows (f : Fin 64 → Fin 6 → Fin 64 → Fin 128 → EReal) : Rows := fun j =>
  f ⟨(j 0).val / 64, by have : (j 0).val < 4096 := (j 0).isLt; omega⟩
    ⟨(j 1).val / 128, by have : (j 1).val < 768 := (j 1).isLt; omega⟩
    ⟨(j 0).val % 64, Nat.mod_lt _ (by omega)⟩ ⟨(j 1).val % 128, Nat.mod_lt _ (by omega)⟩

/-- The rows at a token and a lane given by its chunk and its place in the chunk. -/
theorem rows_at (f : Fin 64 → Fin 6 → Fin 64 → Fin 128 → EReal) (n t : Fin 64) (x : Fin 768)
    (j : (⟨2, ![4096, 768]⟩ : Shape).Idx) (h0 : (j 0).val = n.val * 64 + t.val) (h1 : (j 1).val = x.val) :
    rows f j = f n ⟨x.val / 128, by omega⟩ t ⟨x.val % 128, Nat.mod_lt _ (by omega)⟩ := by
  unfold rows
  congr 1 <;> apply Fin.ext <;> simp only [h0, h1] <;> omega

variable (A : Args)

/-- The gradient of `u`. -/
def resDu : Rows := rows fun n => du (A.chunk n) (A.cotAt n)
/-- The gradient of `w`. -/
def resDw : Rows := rows fun n => dw (A.chunk n) (A.cotAt n)
/-- The gradient of the decayed queries. -/
def resDqd : Rows := rows fun n => dqd (A.chunk n)
/-- The gradient of the decayed keys. -/
def resDkt : Rows := rows fun n => dkt (A.chunk n) (A.cotAt n)
/-- The gradient of the intra-chunk attention. -/
def resDatt : (⟨4, ![64, 6, 64, 64]⟩ : Shape).Idx → EReal := fun j => datt (A.chunk (j 0)) (j 1) (j 2) (j 3)
/-- The gradient of the chunks' decays, in lane zero of the first six rows. -/
def resDdc : (⟨3, ![64, 8, 128]⟩ : Shape).Idx → EReal := fun j =>
  if h : (j 1).val < 6 ∧ (j 2).val < 1 then ddc (A.chunk (j 0)) (A.cotAt (j 0)) ⟨(j 1).val, h.1⟩ else 0

end Cert.Dns
end
-- ==== Proof.KernelValue.lean ====
module

public import proofs.«01_k».proof.Proof.Chunk
public import proofs.«01_k».proof.Proof.Gen.KernelIdeal.Value
public import Idealize.ShloMosaic.Lib.Pipeline.ValueKit.Acc
public import Idealize.ShloMosaic.Lib.Tactic

@[expose] public section

set_option maxRecDepth 16384

noncomputable section
namespace Cert.KernelIdeal.Value

open Cert.KernelIdeal Cert.KernelIdeal.Gen Idealize.ShloMosaic Idealize.ShloMosaic.TcCoe Idealize.SL.Sem
open Idealize.ShloMosaic.Pipeline (Dat)

/-- The column of a flat row that holds lane `e` of head `h`. -/
abbrev col (h : Fin 6) (e : Fin 128) : Fin 768 := ⟨128 * h.val + e.val, by omega⟩

/-- The six heads of a block of flat rows, one above the other. -/
def stk (X : S64x768.Idx → EReal) : FVec Ideal S6x64x128 .f32 := fun j => X (ix2 (j 1) (col (j 0) (j 2)))

theorem pay8_eq (X : Vec Ideal S64x768 .f32) :
    k0_pay8 (View.ld X (Rect.unit ![0, 0] ![64, 128] inb_S64x768_S64x128_0_0))
      (View.ld X (Rect.unit ![0, 128] ![64, 128] inb_S64x768_S64x128_0_128))
      (View.ld X (Rect.unit ![0, 256] ![64, 128] inb_S64x768_S64x128_0_256))
      (View.ld X (Rect.unit ![0, 384] ![64, 128] inb_S64x768_S64x128_0_384))
      (View.ld X (Rect.unit ![0, 512] ![64, 128] inb_S64x768_S64x128_0_512))
      (View.ld X (Rect.unit ![0, 640] ![64, 128] inb_S64x768_S64x128_0_640)) = stk X := by
  funext j
  idx_vars j
  pointwise [k0_pay8, stk]
  fin_vals j0 with hk
  all_goals simp [hk, col]

theorem pay20_eq (X : Vec Ideal S64x768 .f32) :
    k0_pay20 (View.ld X (Rect.unit ![0, 0] ![64, 128] inb_S64x768_S64x128_0_0))
      (View.ld X (Rect.unit ![0, 128] ![64, 128] inb_S64x768_S64x128_0_128))
      (View.ld X (Rect.unit ![0, 256] ![64, 128] inb_S64x768_S64x128_0_256))
      (View.ld X (Rect.unit ![0, 384] ![64, 128] inb_S64x768_S64x128_0_384))
      (View.ld X (Rect.unit ![0, 512] ![64, 128] inb_S64x768_S64x128_0_512))
      (View.ld X (Rect.unit ![0, 640] ![64, 128] inb_S64x768_S64x128_0_640)) = stk X := by
  funext j
  idx_vars j
  pointwise [k0_pay20, stk]
  fin_vals j0 with hk
  all_goals simp [hk, col]

theorem pay14_eq (X : Vec Ideal S64x768 .bf16) :
    k0_pay14 (View.ld X (Rect.unit ![0, 0] ![64, 128] inb_S64x768_S64x128_0_0))
      (View.ld X (Rect.unit ![0, 128] ![64, 128] inb_S64x768_S64x128_0_128))
      (View.ld X (Rect.unit ![0, 256] ![64, 128] inb_S64x768_S64x128_0_256))
      (View.ld X (Rect.unit ![0, 384] ![64, 128] inb_S64x768_S64x128_0_384))
      (View.ld X (Rect.unit ![0, 512] ![64, 128] inb_S64x768_S64x128_0_512))
      (View.ld X (Rect.unit ![0, 640] ![64, 128] inb_S64x768_S64x128_0_640)) = stk X := by
  funext j
  idx_vars j
  pointwise [k0_pay14, stk]
  fin_vals j0 with hk
  all_goals simp [hk, col]

theorem pay15_eq (X : Vec Ideal S64x768 .bf16) :
    k0_pay15 (View.ld X (Rect.unit ![0, 0] ![64, 128] inb_S64x768_S64x128_0_0))
      (View.ld X (Rect.unit ![0, 128] ![64, 128] inb_S64x768_S64x128_0_128))
      (View.ld X (Rect.unit ![0, 256] ![64, 128] inb_S64x768_S64x128_0_256))
      (View.ld X (Rect.unit ![0, 384] ![64, 128] inb_S64x768_S64x128_0_384))
      (View.ld X (Rect.unit ![0, 512] ![64, 128] inb_S64x768_S64x128_0_512))
      (View.ld X (Rect.unit ![0, 640] ![64, 128] inb_S64x768_S64x128_0_640)) = stk X := by
  funext j
  idx_vars j
  pointwise [k0_pay15, stk]
  fin_vals j0 with hk
  all_goals simp [hk, col]

theorem pay13_eq (X : Vec Ideal S64x768 .bf16) :
    k0_pay13 (View.ld X (Rect.unit ![0, 512] ![64, 128] inb_S64x768_S64x128_0_512))
      (View.ld X (Rect.unit ![0, 640] ![64, 128] inb_S64x768_S64x128_0_640))
      (k0_pay9 (View.ld X (Rect.unit ![0, 0] ![64, 128] inb_S64x768_S64x128_0_0)))
      (k0_pay10 (View.ld X (Rect.unit ![0, 128] ![64, 128] inb_S64x768_S64x128_0_128)))
      (k0_pay11 (View.ld X (Rect.unit ![0, 256] ![64, 128] inb_S64x768_S64x128_0_256)))
      (k0_pay12 (View.ld X (Rect.unit ![0, 384] ![64, 128] inb_S64x768_S64x128_0_384))) = stk X := by
  funext j
  idx_vars j
  pointwise [k0_pay13, k0_pay9, k0_pay10, k0_pay11, k0_pay12, stk]
  fin_vals j0 with hk
  all_goals simp [hk, col]

theorem first_lane (s : Fin 128) : IntOp.cmpi CmpIPredicate.eq (BitVec.ofNat 32 s.val) 0#32 = if s = 0 then 1#1 else 0#1 := by
  revert s; decide +kernel

theorem pay18_apply (v : Vec Ideal S1x6x128 .f32) (h : Fin 6) :
    k0_pay18 (F := Ideal) v (ix3 h 0 0) = v (ix3 0 h 0) := by
  pointwise [k0_pay18, k0_pay17]
  simp only [first_lane]
  rw [Finset.sum_eq_single 0]
  · rfl
  · intro b _ hb
    rw [if_neg hb]; rfl
  · simp

/-- The chunk that one point's blocks hold. -/
def ofBlocks (X0 : Vec Ideal S64x768 .f32) (X1 X2 X3 : Vec Ideal S64x768 .bf16) (X4 : Vec Ideal S1x6x64x64 .bf16)
    (X5 : Vec Ideal S1x8x128 .f32) (X6 : Vec Ideal S1x6x128x128 .f32) (X7 : Vec Ideal S64x768 .f32) : Dns.Chunk where
  u h t e := X0 (ix2 t (col h e))
  w h t e := X1 (ix2 t (col h e))
  qd h t e := X2 (ix2 t (col h e))
  kt h t e := X3 (ix2 t (col h e))
  att h t s := X4 (ix4 0 h t s)
  dc h := X5 (ix3 0 ⟨h.val, by omega⟩ 0)
  st h k e := X6 (ix4 0 h k e)
  ct h t e := X7 (ix2 t (col h e))

/-- A carried scratch as one matrix per head. -/
def toCot (a : Vec Ideal S6x128x128 .f32) : Dns.Cot := fun h k e => a (ix3 h k e)

variable (m : (ℓ : Loc nD τ sig) → Buf (Elt Ideal) ℓ)

/-- The chunk that point `t` reads. -/
def kx (c : Dev nD) (t : Fin cfg0.N) : Dns.Chunk :=
  ofBlocks (iblk m c 0 t) (iblk m c 1 t) (iblk m c 2 t) (iblk m c 3 t) (iblk m c 4 t) (iblk m c 5 t) (iblk m c 6 t)
    (iblk m c 7 t)

theorem read_scratch (h : (Memref.whole cc0_scratch0).IsWhole) (x : Vec Ideal S6x128x128 .f32) :
    View.read (Elt Ideal) (View.whole cc0_scratch0) (h.unread x) = x := h.read_unread x

/-- What the body leaves in the scratch, over what it found there. -/
theorem pay32_eq (X0 : Vec Ideal S64x768 .f32) (X1 X2 X3 : Vec Ideal S64x768 .bf16) (X4 : Vec Ideal S1x6x64x64 .bf16)
    (X5 : Vec Ideal S1x8x128 .f32) (X6 : Vec Ideal S1x6x128x128 .f32) (X7 : Vec Ideal S64x768 .f32)
    (a : Vec Ideal S6x128x128 .f32) (h : Fin 6) (k e : Fin 128) :
    k0_pay32 (stk X1) (stk X2) (stk X3) (k0_pay16 X4)
      (k0_pay18 (View.ld X5 (Rect.unit ![0, 0, 0] ![1, 6, 128] inb_S1x8x128_S1x6x128_0_0_0))) (stk X7) (k0_pay21 a)
      (k0_pay22 a) (ix3 h k e) = Dns.back (ofBlocks X0 X1 X2 X3 X4 X5 X6 X7) (toCot a) h k e := by
  pointwise [k0_pay32]
  rw [pay18_apply]
  pointwise [k0_pay29, k0_pay27, k0_pay16, k0_pay21, k0_pay22, stk, Dns.back, Dns.du, ofBlocks, toCot]
  simp only [zero_sub]

/-- What the scratch holds when point `t`'s products read it: zero at the first point, else what the point before left. -/
def bef (c : Dev nD) (t : Fin cfg0.N) : Vec Ideal S6x128x128 .f32 :=
  if t.val % 64 = 0 then k0_pay6 (F := Ideal)
  else (outsAt0 m c (t.val - 1) (lt_of_le_of_lt (Nat.sub_le _ _) t.isLt)).2.2.2.2.2.2

/-- One matrix per head, laid side by side along a flat row. -/
def flat (V : Fin 6 → Fin 64 → Fin 128 → EReal) : Vec Ideal S64x768 .f32 :=
  fun j => V ⟨(j 1).val / 128, by have : (j 1).val < 768 := (j 1).isLt; omega⟩ (j 0) ⟨(j 1).val % 128, by omega⟩

/-- Six column blocks stored one by one make the flat rows. -/
theorem canon6 (V : Fin 6 → Fin 64 → Fin 128 → EReal) (p0 p1 p2 p3 p4 p5 : Vec Ideal S64x128 .f32)
    (h0 : ∀ t e, p0 (ix2 t e) = V 0 t e) (h1 : ∀ t e, p1 (ix2 t e) = V 1 t e) (h2 : ∀ t e, p2 (ix2 t e) = V 2 t e)
    (h3 : ∀ t e, p3 (ix2 t e) = V 3 t e) (h4 : ∀ t e, p4 (ix2 t e) = V 4 t e) (h5 : ∀ t e, p5 (ix2 t e) = V 5 t e) :
    View.canon (Val := Elt Ideal) [⟨Rect.unit ![0, 640] ![64, 128] inb_S64x768_S64x128_0_640, p5⟩,
      ⟨Rect.unit ![0, 512] ![64, 128] inb_S64x768_S64x128_0_512, p4⟩,
      ⟨Rect.unit ![0, 384] ![64, 128] inb_S64x768_S64x128_0_384, p3⟩,
      ⟨Rect.unit ![0, 256] ![64, 128] inb_S64x768_S64x128_0_256, p2⟩,
      ⟨Rect.unit ![0, 128] ![64, 128] inb_S64x768_S64x128_0_128, p1⟩,
      ⟨Rect.unit ![0, 0] ![64, 128] inb_S64x768_S64x128_0_0, p0⟩] = flat V := by
  funext y
  apply View.canon_apply_of_pieces (Val := Elt Ideal)
  · intro p hp
    simp only [List.mem_cons, List.not_mem_nil, or_false] at hp
    have key : ∀ (o : ℕ) (k : Fin 6) (ho : o = 128 * k.val) (inb) (q : Vec Ideal S64x128 .f32)
        (hq : ∀ t e, q (ix2 t e) = V k t e) (x : S64x128.Idx),
        q x = flat V ((Rect.unit (s := S64x768) ![0, o] ![64, 128] inb).emb x) := by
      intro o k ho inb q hq x
      obtain ⟨a, b, rfl⟩ : ∃ (a : Fin 64) (b : Fin 128), x = ix2 a b := ⟨x 0, x 1, eq_ix2 x⟩
      rw [hq]
      unfold flat
      congr 1
      · apply Fin.ext
        show k.val = (o + 1 * b.val) / 128
        omega
      · apply Fin.ext
        show a.val = 0 + 1 * a.val
        omega
      · apply Fin.ext
        show b.val = (o + 1 * b.val) % 128
        omega
    rcases hp with rfl | rfl | rfl | rfl | rfl | rfl
    · exact key 640 5 rfl inb_S64x768_S64x128_0_640 _ h5
    · exact key 512 4 rfl inb_S64x768_S64x128_0_512 _ h4
    · exact key 384 3 rfl inb_S64x768_S64x128_0_384 _ h3
    · exact key 256 2 rfl inb_S64x768_S64x128_0_256 _ h2
    · exact key 128 1 rfl inb_S64x768_S64x128_0_128 _ h1
    · exact key 0 0 rfl inb_S64x768_S64x128_0_0 _ h0
  · obtain ⟨a, b, rfl⟩ : ∃ (a : Fin 64) (b : Fin 768), y = ix2 a b := ⟨y 0, y 1, eq_ix2 y⟩
    have mem : ∀ (o : ℕ) (inb) (h : o ≤ b.val ∧ b.val < o + 128),
        ix2 a b ∈ (Rect.unit (s := S64x768) ![0, o] ![64, 128] inb).set := by
      intro o inb h
      rw [Rect.mem_set_unit]
      intro ax
      match ax with
      | ⟨0, _⟩ => exact ⟨Nat.zero_le _, show a.val < 0 + 64 by omega⟩
      | ⟨1, _⟩ => exact h
    by_cases c1 : b.val < 128
    · exact ⟨⟨Rect.unit ![0, 0] ![64, 128] inb_S64x768_S64x128_0_0, p0⟩, .tail _ (.tail _ (.tail _ (.tail _ (.tail _ (.head _))))), mem 0 inb_S64x768_S64x128_0_0 (by omega)⟩
    by_cases c2 : b.val < 256
    · exact ⟨⟨Rect.unit ![0, 128] ![64, 128] inb_S64x768_S64x128_0_128, p1⟩, .tail _ (.tail _ (.tail _ (.tail _ (.head _)))), mem 128 inb_S64x768_S64x128_0_128 (by omega)⟩
    by_cases c3 : b.val < 384
    · exact ⟨⟨Rect.unit ![0, 256] ![64, 128] inb_S64x768_S64x128_0_256, p2⟩, .tail _ (.tail _ (.tail _ (.head _))), mem 256 inb_S64x768_S64x128_0_256 (by omega)⟩
    by_cases c4 : b.val < 512
    · exact ⟨⟨Rect.unit ![0, 384] ![64, 128] inb_S64x768_S64x128_0_384, p3⟩, .tail _ (.tail _ (.head _)), mem 384 inb_S64x768_S64x128_0_384 (by omega)⟩
    by_cases c5 : b.val < 640
    · exact ⟨⟨Rect.unit ![0, 512] ![64, 128] inb_S64x768_S64x128_0_512, p4⟩, .tail _ (.head _), mem 512 inb_S64x768_S64x128_0_512 (by omega)⟩
    · exact ⟨⟨Rect.unit ![0, 640] ![64, 128] inb_S64x768_S64x128_0_640, p5⟩, .head _, mem 640 inb_S64x768_S64x128_0_640 (by omega)⟩

/-- What point `t` writes back of the gradient of `u`. -/
theorem flushed8_eq (c : Dev nD) (t : Fin cfg0.N) : (dats m 0 c).flushed 8 t
    = (cfg0.win 8).cut (grid0.coords t) (flat (Dns.du (kx m c t) (toCot (bef m c t)))) := by
  by_cases h0 : t.val % 64 = 0
  · rw [flushed8_A m c t h0, bef, if_pos h0]
    frame_out
    simp only [pay8_eq, pay20_eq, pay13_eq, pay14_eq, pay15_eq, read_scratch]
    refine congrArg _ (canon6 _ _ _ _ _ _ _ ?_ ?_ ?_ ?_ ?_ ?_)
    all_goals intro t e
    all_goals pointwise [k0_pay33, k0_pay34, k0_pay35, k0_pay36, k0_pay37, k0_pay38, k0_pay27, k0_pay16, k0_pay21, k0_pay22, stk, Dns.du, Dns.dw, Dns.dqd, Dns.dkt, Dns.delta,
      kx, ofBlocks, toCot]
    all_goals try simp only [zero_sub]
  · rw [flushed8_B m c t h0, bef, if_neg h0]
    frame_out
    simp only [pay8_eq, pay20_eq, pay13_eq, pay14_eq, pay15_eq, read_scratch]
    refine congrArg _ (canon6 _ _ _ _ _ _ _ ?_ ?_ ?_ ?_ ?_ ?_)
    all_goals intro t e
    all_goals pointwise [k0_pay33, k0_pay34, k0_pay35, k0_pay36, k0_pay37, k0_pay38, k0_pay27, k0_pay16, k0_pay21, k0_pay22, stk, Dns.du, Dns.dw, Dns.dqd, Dns.dkt, Dns.delta,
      kx, ofBlocks, toCot]
    all_goals try simp only [zero_sub]

/-- What point `t` writes back of the gradient of `w`. -/
theorem flushed9_eq (c : Dev nD) (t : Fin cfg0.N) : (dats m 0 c).flushed 9 t
    = (cfg0.win 9).cut (grid0.coords t) (flat (Dns.dw (kx m c t) (toCot (bef m c t)))) := by
  by_cases h0 : t.val % 64 = 0
  · rw [flushed9_A m c t h0, bef, if_pos h0]
    frame_out
    simp only [pay8_eq, pay20_eq, pay13_eq, pay14_eq, pay15_eq, read_scratch]
    refine congrArg _ (canon6 _ _ _ _ _ _ _ ?_ ?_ ?_ ?_ ?_ ?_)
    all_goals intro t e
    all_goals pointwise [k0_pay39, k0_pay40, k0_pay41, k0_pay42, k0_pay43, k0_pay44, k0_pay30, k0_pay29, k0_pay27, k0_pay7, k0_pay16, k0_pay21, k0_pay22, stk, Dns.du, Dns.dw, Dns.dqd, Dns.dkt, Dns.delta,
      kx, ofBlocks, toCot]
    all_goals try simp only [zero_sub]
  · rw [flushed9_B m c t h0, bef, if_neg h0]
    frame_out
    simp only [pay8_eq, pay20_eq, pay13_eq, pay14_eq, pay15_eq, read_scratch]
    refine congrArg _ (canon6 _ _ _ _ _ _ _ ?_ ?_ ?_ ?_ ?_ ?_)
    all_goals intro t e
    all_goals pointwise [k0_pay39, k0_pay40, k0_pay41, k0_pay42, k0_pay43, k0_pay44, k0_pay30, k0_pay29, k0_pay27, k0_pay7, k0_pay16, k0_pay21, k0_pay22, stk, Dns.du, Dns.dw, Dns.dqd, Dns.dkt, Dns.delta,
      kx, ofBlocks, toCot]
    all_goals try simp only [zero_sub]

/-- What point `t` writes back of the gradient of the decayed queries. -/
theorem flushed10_eq (c : Dev nD) (t : Fin cfg0.N) : (dats m 0 c).flushed 10 t
    = (cfg0.win 10).cut (grid0.coords t) (flat (Dns.dqd (kx m c t))) := by
  by_cases h0 : t.val % 64 = 0
  · rw [flushed10_A m c t h0]
    frame_out
    simp only [pay8_eq, pay20_eq, pay13_eq, pay14_eq, pay15_eq, read_scratch]
    refine congrArg _ (canon6 _ _ _ _ _ _ _ ?_ ?_ ?_ ?_ ?_ ?_)
    all_goals intro t e
    all_goals pointwise [k0_pay45, k0_pay46, k0_pay47, k0_pay48, k0_pay49, k0_pay50, k0_pay28, k0_pay7, k0_pay16, k0_pay21, k0_pay22, stk, Dns.du, Dns.dw, Dns.dqd, Dns.dkt, Dns.delta,
      kx, ofBlocks, toCot]
    all_goals try simp only [zero_sub]
  · rw [flushed10_B m c t h0]
    frame_out
    simp only [pay8_eq, pay20_eq, pay13_eq, pay14_eq, pay15_eq, read_scratch]
    refine congrArg _ (canon6 _ _ _ _ _ _ _ ?_ ?_ ?_ ?_ ?_ ?_)
    all_goals intro t e
    all_goals pointwise [k0_pay45, k0_pay46, k0_pay47, k0_pay48, k0_pay49, k0_pay50, k0_pay28, k0_pay7, k0_pay16, k0_pay21, k0_pay22, stk, Dns.du, Dns.dw, Dns.dqd, Dns.dkt, Dns.delta,
      kx, ofBlocks, toCot]
    all_goals try simp only [zero_sub]

/-- What point `t` writes back of the gradient of the decayed keys. -/
theorem flushed11_eq (c : Dev nD) (t : Fin cfg0.N) : (dats m 0 c).flushed 11 t
    = (cfg0.win 11).cut (grid0.coords t) (flat (Dns.dkt (kx m c t) (toCot (bef m c t)))) := by
  by_cases h0 : t.val % 64 = 0
  · rw [flushed11_A m c t h0, bef, if_pos h0]
    frame_out
    simp only [pay8_eq, pay20_eq, pay13_eq, pay14_eq, pay15_eq, read_scratch]
    refine congrArg _ (canon6 _ _ _ _ _ _ _ ?_ ?_ ?_ ?_ ?_ ?_)
    all_goals intro t e
    all_goals pointwise [k0_pay51, k0_pay52, k0_pay53, k0_pay1, k0_pay2, k0_pay3, k0_pay25, k0_pay23, k0_pay24, k0_pay19, k0_pay7, k0_pay16, k0_pay21, k0_pay22, stk, Dns.du, Dns.dw, Dns.dqd, Dns.dkt, Dns.delta,
      kx, ofBlocks, toCot]
    all_goals try simp only [zero_sub]
  · rw [flushed11_B m c t h0, bef, if_neg h0]
    frame_out
    simp only [pay8_eq, pay20_eq, pay13_eq, pay14_eq, pay15_eq, read_scratch]
    refine congrArg _ (canon6 _ _ _ _ _ _ _ ?_ ?_ ?_ ?_ ?_ ?_)
    all_goals intro t e
    all_goals pointwise [k0_pay51, k0_pay52, k0_pay53, k0_pay1, k0_pay2, k0_pay3, k0_pay25, k0_pay23, k0_pay24, k0_pay19, k0_pay7, k0_pay16, k0_pay21, k0_pay22, stk, Dns.du, Dns.dw, Dns.dqd, Dns.dkt, Dns.delta,
      kx, ofBlocks, toCot]
    all_goals try simp only [zero_sub]

/-- What point `t` writes back of the gradient of the attention. -/
theorem flushed12_eq (c : Dev nD) (t : Fin cfg0.N) : (dats m 0 c).flushed 12 t
    = (cfg0.win 12).cut (grid0.coords t)
      (fun j : S1x6x64x64.Idx => (Dns.datt (kx m c t) (j 1) (j 2) (j 3) : EReal)) := by
  by_cases h0 : t.val % 64 = 0
  · rw [flushed12_A m c t h0]
    frame_out
    simp only [pay8_eq, pay20_eq, pay13_eq, pay14_eq, pay15_eq, read_scratch]
    refine congrArg _ ?_
    funext j
    idx_vars j
    pointwise [k0_pay4, k0_pay26, k0_pay19, k0_pay7, stk, Dns.datt, Dns.delta, kx, ofBlocks]
  · rw [flushed12_B m c t h0]
    frame_out
    simp only [pay8_eq, pay20_eq, pay13_eq, pay14_eq, pay15_eq, read_scratch]
    refine congrArg _ ?_
    funext j
    idx_vars j
    pointwise [k0_pay4, k0_pay26, k0_pay19, k0_pay7, stk, Dns.datt, Dns.delta, kx, ofBlocks]

/-- The six decays of a chunk in the first lane of six rows, zero elsewhere. -/
def lane0 (V : Fin 6 → EReal) : Vec Ideal S1x8x128 .f32 :=
  fun j => if h : (j 1).val < 6 then (if (j 2).val = 0 then V ⟨(j 1).val, h⟩ else 0) else 0

theorem pay5_eq (X6 : Vec Ideal S1x6x128x128 .f32) (a : Vec Ideal S6x128x128 .f32) (x : Dns.Chunk)
    (hx : ∀ h k e, x.st h k e = X6 (ix4 0 h k e)) :
    k0_pay5 (k0_pay31 (k0_pay7 X6) k0_pay17 (k0_pay21 a)) = lane0 (Dns.ddc x (toCot a)) := by
  funext j
  idx_vars j
  pointwise [k0_pay5, k0_pay31, k0_pay17, k0_pay7, k0_pay21, lane0, Dns.ddc, toCot]
  simp only [hx, first_lane]
  by_cases h : j1.val < 6
  · rw [dif_pos h, dif_pos h]
    by_cases hz : j2 = 0
    · subst hz
      simp [Scalar.select]
    · have hz' : ¬ j2.val = 0 := fun hh => hz (Fin.ext hh)
      rw [if_neg hz, if_neg hz']
      simp [Scalar.select]
  · rw [dif_neg h, dif_neg h]

/-- What point `t` writes back of the gradient of the decays. -/
theorem flushed13_eq (c : Dev nD) (t : Fin cfg0.N) : (dats m 0 c).flushed 13 t
    = (cfg0.win 13).cut (grid0.coords t) (lane0 (Dns.ddc (kx m c t) (toCot (bef m c t)))) := by
  by_cases h0 : t.val % 64 = 0
  · rw [flushed13_A m c t h0, bef, if_pos h0]
    frame_out
    rw [pay5_eq _ _ (kx m c t) (fun _ _ _ => rfl)]
  · rw [flushed13_B m c t h0, bef, if_neg h0]
    frame_out
    simp only [read_scratch]
    rw [pay5_eq _ _ (kx m c t) (fun _ _ _ => rfl)]

/-- What point `t` leaves in the scratch. -/
theorem scratch_eq (c : Dev nD) (t : Fin cfg0.N) : toCot (outsAt0 m c t.val t.isLt).2.2.2.2.2.2
    = Dns.back (kx m c t) (toCot (bef m c t)) := by
  funext h k e
  by_cases h0 : t.val % 64 = 0
  · rw [outsAt0_A m c t h0, bef, if_pos h0]
    dsimp only
    frame_out
    simp only [pay8_eq, pay20_eq, pay13_eq, pay14_eq, pay15_eq, read_scratch]
    exact pay32_eq _ _ _ _ _ _ _ _ _ h k e
  · rw [outsAt0_B m c t h0, bef, if_neg h0]
    dsimp only
    frame_out
    simp only [pay8_eq, pay20_eq, pay13_eq, pay14_eq, pay15_eq, read_scratch]
    exact pay32_eq _ _ _ _ _ _ _ _ _ h k e

end Cert.KernelIdeal.Value
end
-- ==== Proof.ArrValue.lean ====
/-
  The arrays the kernel leaves: point `t` reads chunk `63 - t` of the arguments, the scratch carries the cotangent of
  the state from point to point, and the blocks written back tile the six results.
-/
module

public import proofs.«01_k».proof.Proof.Args
public import proofs.«01_k».proof.Proof.KernelValue
public import Idealize.ShloMosaic.Lib.Pipeline.ValueKit

@[expose] public section

set_option maxRecDepth 16384

noncomputable section
namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arrays the kernel is given. -/
def kerArgs : Dns.Args where
  u := m ((c.tc : Thread nD τ).loc main_arg0)
  w := m ((c.tc : Thread nD τ).loc main_arg1)
  qd := m ((c.tc : Thread nD τ).loc main_arg2)
  kt := m ((c.tc : Thread nD τ).loc main_arg3)
  att := m ((c.tc : Thread nD τ).loc main_arg4)
  dc := m ((c.tc : Thread nD τ).loc main_arg5)
  st := m ((c.tc : Thread nD τ).loc main_arg6)
  ct := m ((c.tc : Thread nD τ).loc main_arg7)

theorem idx : ∀ t : Fin cfg0.N, win0_0.index t = ![63 - t.val, 0] ∧ win0_1.index t = ![63 - t.val, 0]
    ∧ win0_2.index t = ![63 - t.val, 0] ∧ win0_3.index t = ![63 - t.val, 0] ∧ win0_4.index t = ![63 - t.val, 0, 0, 0]
    ∧ win0_5.index t = ![63 - t.val, 0, 0] ∧ win0_6.index t = ![63 - t.val, 0, 0, 0] ∧ win0_7.index t = ![63 - t.val, 0]
    ∧ win0_8.index t = ![63 - t.val, 0] ∧ win0_9.index t = ![63 - t.val, 0]
    ∧ win0_10.index t = ![63 - t.val, 0] ∧ win0_11.index t = ![63 - t.val, 0] ∧ win0_12.index t = ![63 - t.val, 0, 0, 0]
    ∧ win0_13.index t = ![63 - t.val, 0, 0] := by decide +kernel

/-- The chunk that point `t` works on. -/
def rev (t : Fin cfg0.N) : Fin 64 := ⟨63 - t.val, by omega⟩

/-- Point `t` reads chunk `63 - t` of the arguments. -/
theorem kx_eq (t : Fin cfg0.N) : kx m c t = (kerArgs m c).chunk (rev t) := by
  unfold kx ofBlocks Dns.Args.chunk
  rw [Dns.Chunk.mk.injEq]
  refine ⟨?_, ?_, ?_, ?_, ?_, ?_, ?_, ?_⟩
  · funext h t' e
    blk_ext [iblk, V, idx t, col, Dns.tok, Dns.lane, rev, kerArgs]
  · funext h t' e
    blk_ext [iblk, V, idx t, col, Dns.tok, Dns.lane, rev, kerArgs]
  · funext h t' e
    blk_ext [iblk, V, idx t, col, Dns.tok, Dns.lane, rev, kerArgs]
  · funext h t' e
    blk_ext [iblk, V, idx t, col, Dns.tok, Dns.lane, rev, kerArgs]
  · funext h t' e
    blk_ext [iblk, V, idx t, col, Dns.tok, Dns.lane, rev, kerArgs]
  · funext h
    blk_ext [iblk, V, idx t, col, Dns.tok, Dns.lane, rev, kerArgs]
  · funext h t' e
    blk_ext [iblk, V, idx t, col, Dns.tok, Dns.lane, rev, kerArgs]
  · funext h t' e
    blk_ext [iblk, V, idx t, col, Dns.tok, Dns.lane, rev, kerArgs]

/-- The cotangent that point `t` finds is the one that reaches its chunk. -/
theorem bef_cot (c : Dev nD) : ∀ (n : ℕ) (h : n < cfg0.N), toCot (bef m c ⟨n, h⟩) = Dns.cot (kerArgs m c).chunks n
  | 0, h => by
    have e0 : bef m c ⟨0, h⟩ = k0_pay6 (F := Ideal) := if_pos rfl
    rw [e0]
    funext a b e
    unfold toCot
    pointwise [k0_pay6]
    rfl
  | n + 1, h => by
    have hN : n + 1 < 64 := h
    have h' : n < cfg0.N := by omega
    unfold bef
    rw [if_neg (by show ¬ (n + 1) % 64 = 0; omega)]
    refine (scratch_eq m c ⟨n, h'⟩).trans ?_
    rw [bef_cot c n h', kx_eq]
    show _ = Dns.back ((kerArgs m c).chunks (63 - n)) _
    unfold Dns.Args.chunks
    congr 2
    apply Fin.ext
    show 63 - n = (63 - n) % 64
    omega

theorem cot_rev (t : Fin cfg0.N) : toCot (bef m c t) = (kerArgs m c).cotAt (rev t) := by
  rw [bef_cot m c t.val t.isLt]
  unfold Dns.Args.cotAt rev
  have : t.val < 64 := t.isLt
  congr 1
  show t.val = 63 - (63 - t.val)
  omega

theorem arr_du : (dats m 0 c).arrAt 8 cfg0.N = Dns.resDu (kerArgs m c) := by
  refine (dats m 0 c).arrAt_eq_of_covers 8 _ (by decide +kernel) fun t hf y => ?_
  show (dats m 0 c).flushed 8 t y = _
  rw [flushed8_eq, kx_eq, cot_rev]
  have e := (idx t).2.2.2.2.2.2.2.2.1
  idx_vars y
  refine Eq.trans ?_ (Dns.rows_at (fun n => Dns.du ((kerArgs m c).chunk n) ((kerArgs m c).cotAt n)) (rev t) y0 y1 _ ?_ ?_).symm
  · rfl
  · blk_simp [e]
    rfl
  · blk_simp [e]

theorem arr_dw : (dats m 0 c).arrAt 9 cfg0.N = Dns.resDw (kerArgs m c) := by
  refine (dats m 0 c).arrAt_eq_of_covers 9 _ (by decide +kernel) fun t hf y => ?_
  show (dats m 0 c).flushed 9 t y = _
  rw [flushed9_eq, kx_eq, cot_rev]
  have e := (idx t).2.2.2.2.2.2.2.2.2.1
  idx_vars y
  refine Eq.trans ?_ (Dns.rows_at (fun n => Dns.dw ((kerArgs m c).chunk n) ((kerArgs m c).cotAt n)) (rev t) y0 y1 _ ?_ ?_).symm
  · rfl
  · blk_simp [e]
    rfl
  · blk_simp [e]

theorem arr_dqd : (dats m 0 c).arrAt 10 cfg0.N = Dns.resDqd (kerArgs m c) := by
  refine (dats m 0 c).arrAt_eq_of_covers 10 _ (by decide +kernel) fun t hf y => ?_
  show (dats m 0 c).flushed 10 t y = _
  rw [flushed10_eq, kx_eq]
  have e := (idx t).2.2.2.2.2.2.2.2.2.2.1
  idx_vars y
  refine Eq.trans ?_ (Dns.rows_at (fun n => Dns.dqd ((kerArgs m c).chunk n)) (rev t) y0 y1 _ ?_ ?_).symm
  · rfl
  · blk_simp [e]
    rfl
  · blk_simp [e]

theorem arr_dkt : (dats m 0 c).arrAt 11 cfg0.N = Dns.resDkt (kerArgs m c) := by
  refine (dats m 0 c).arrAt_eq_of_covers 11 _ (by decide +kernel) fun t hf y => ?_
  show (dats m 0 c).flushed 11 t y = _
  rw [flushed11_eq, kx_eq, cot_rev]
  have e := (idx t).2.2.2.2.2.2.2.2.2.2.2.1
  idx_vars y
  refine Eq.trans ?_ (Dns.rows_at (fun n => Dns.dkt ((kerArgs m c).chunk n) ((kerArgs m c).cotAt n)) (rev t) y0 y1 _ ?_ ?_).symm
  · rfl
  · blk_simp [e]
    rfl
  · blk_simp [e]

theorem arr_datt : (dats m 0 c).arrAt 12 cfg0.N = Dns.resDatt (kerArgs m c) := by
  refine (dats m 0 c).arrAt_eq_of_covers 12 _ (by decide +kernel) fun t hf y => ?_
  show (dats m 0 c).flushed 12 t y = _
  rw [flushed12_eq, kx_eq]
  have e := (idx t).2.2.2.2.2.2.2.2.2.2.2.2.1
  idx_vars y
  have ei : ((cfg0.win 12).blk t).view.emb (ix4 y0 y1 y2 y3) = ix4 (rev t) y1 y2 y3 := by
    blk_ext [e, rev]
  rw [ei]
  rfl

theorem arr_ddc : (dats m 0 c).arrAt 13 cfg0.N = Dns.resDdc (kerArgs m c) := by
  refine (dats m 0 c).arrAt_eq_of_covers 13 _ (by decide +kernel) fun t hf y => ?_
  show (dats m 0 c).flushed 13 t y = _
  rw [flushed13_eq, kx_eq, cot_rev]
  have e := (idx t).2.2.2.2.2.2.2.2.2.2.2.2.2
  idx_vars y
  have ei : ((cfg0.win 13).blk t).view.emb (ix3 y0 y1 y2) = ix3 (rev t) y1 y2 := by
    blk_ext [e, rev]
  rw [ei]
  show lane0 (Dns.ddc ((kerArgs m c).chunk (rev t)) ((kerArgs m c).cotAt (rev t))) (ix3 y0 y1 y2) = _
  unfold lane0 Dns.resDdc
  show (if h : y1.val < 6 then (if y2.val = 0 then _ else _) else _) = if h : y1.val < 6 ∧ y2.val < 1 then _ else _
  by_cases h1 : y1.val < 6
  · by_cases h2 : y2.val = 0
    · rw [dif_pos h1, if_pos h2, dif_pos ⟨h1, by omega⟩]
      rfl
    · rw [dif_pos h1, if_neg h2, dif_neg (by omega)]
  · rw [dif_neg h1, dif_neg (by omega)]

end Cert.KernelIdeal.Value
end
-- ==== Proof.ChunkSlices.lean ====
/-
  Arrays that hold one block per chunk: a host loop reads the block of one chunk with a dynamic slice and writes it
  with a dynamic update. Both are read here as plain functions of the chunk's number.
-/
module

public import Idealize.ShloMosaic.Lib.Pointwise

@[expose] public section

noncomputable section
namespace Cert.Dns

open Idealize.ShloMosaic

/-- An axis that is taken whole starts at zero. -/
theorem start_whole (s t : Shape) (ht : t.rank = s.rank) (start : Fin s.rank → Int) (a : Fin s.rank)
    (h : s.size a = t.size (a.cast ht.symm)) : Host.clampedStart s t ht start a = 0 := by
  unfold Host.clampedStart
  omega

/-- The axis of chunks starts at the chunk asked for. -/
theorem start_at (s t : Shape) (ht : t.rank = s.rank) (start : Fin s.rank → Int) (a : Fin s.rank) (n : Fin 64)
    (h : s.size a = 64) (h' : t.size (a.cast ht.symm) = 1) (hs : start a = (BitVec.ofNat 32 n.val).toInt) :
    Host.clampedStart s t ht start a = n.val := by
  have e : (BitVec.ofNat 32 n.val).toInt = (n.val : Int) := by
    have := n.isLt
    rw [BitVec.toInt_eq_toNat_of_lt, BitVec.toNat_ofNat, Nat.mod_eq_of_lt] <;>
      (try rw [BitVec.toNat_ofNat, Nat.mod_eq_of_lt]) <;> omega
  unfold Host.clampedStart
  rw [hs, e]
  have := n.isLt
  omega

variable {α : Type} {a b c : ℕ} (n : Fin 64)

/-- The block of one chunk of a four-axis array. -/
theorem slice4 (X : (⟨4, ![64, a, b, c]⟩ : Shape).Idx → α) (start : Fin 4 → Int)
    (h : (⟨4, ![64, a, b, c]⟩ : Shape).Slices (fun _ => 0) ⟨4, ![1, a, b, c]⟩)
    (hs : start 0 = (BitVec.ofNat 32 n.val).toInt) :
    Host.dynamicSlice ⟨4, ![1, a, b, c]⟩ X start h = fun j => X (ix4 n (j 1) (j 2) (j 3)) := by
  funext j
  rw [Host.dynamicSlice_apply]
  congr 1
  funext d
  apply Fin.ext
  fin_cases d
  · show Host.clampedStart _ _ _ _ 0 + (j 0).val = n.val
    rw [start_at _ _ _ _ 0 n rfl rfl hs]
    have : (j 0).val < 1 := (j 0).isLt
    omega
  · show Host.clampedStart _ _ _ _ 1 + (j 1).val = (j 1).val
    rw [start_whole ⟨4, ![64, a, b, c]⟩ ⟨4, ![1, a, b, c]⟩ h.1 start 1 rfl, zero_add]
  · show Host.clampedStart _ _ _ _ 2 + (j 2).val = (j 2).val
    rw [start_whole ⟨4, ![64, a, b, c]⟩ ⟨4, ![1, a, b, c]⟩ h.1 start 2 rfl, zero_add]
  · show Host.clampedStart _ _ _ _ 3 + (j 3).val = (j 3).val
    rw [start_whole ⟨4, ![64, a, b, c]⟩ ⟨4, ![1, a, b, c]⟩ h.1 start 3 rfl, zero_add]

/-- The block of one chunk of a two-axis array. -/
theorem slice2 (X : (⟨2, ![64, a]⟩ : Shape).Idx → α) (start : Fin 2 → Int)
    (h : (⟨2, ![64, a]⟩ : Shape).Slices (fun _ => 0) ⟨2, ![1, a]⟩)
    (hs : start 0 = (BitVec.ofNat 32 n.val).toInt) :
    Host.dynamicSlice ⟨2, ![1, a]⟩ X start h = fun j => X (ix2 n (j 1)) := by
  funext j
  rw [Host.dynamicSlice_apply]
  congr 1
  funext d
  apply Fin.ext
  fin_cases d
  · show Host.clampedStart _ _ _ _ 0 + (j 0).val = n.val
    rw [start_at _ _ _ _ 0 n rfl rfl hs]
    have : (j 0).val < 1 := (j 0).isLt
    omega
  · show Host.clampedStart _ _ _ _ 1 + (j 1).val = (j 1).val
    rw [start_whole ⟨2, ![64, a]⟩ ⟨2, ![1, a]⟩ h.1 start 1 rfl, zero_add]

/-- A four-axis array with the block of one chunk replaced. -/
theorem update4 (X : (⟨4, ![64, a, b, c]⟩ : Shape).Idx → α) (U : (⟨4, ![1, a, b, c]⟩ : Shape).Idx → α)
    (start : Fin 4 → Int) (h : (⟨4, ![64, a, b, c]⟩ : Shape).Slices (fun _ => 0) ⟨4, ![1, a, b, c]⟩)
    (hs : start 0 = (BitVec.ofNat 32 n.val).toInt) (m : Fin 64) (p : Fin a) (q : Fin b) (r : Fin c) :
    Host.dynamicUpdateSlice X U start h (ix4 m p q r) =
      if m = n then U (ix4 0 p q r) else X (ix4 m p q r) := by
  have s0 := start_at ⟨4, ![64, a, b, c]⟩ ⟨4, ![1, a, b, c]⟩ h.1 start 0 n rfl rfl hs
  have s1 := start_whole ⟨4, ![64, a, b, c]⟩ ⟨4, ![1, a, b, c]⟩ h.1 start 1 rfl
  have s2 := start_whole ⟨4, ![64, a, b, c]⟩ ⟨4, ![1, a, b, c]⟩ h.1 start 2 rfl
  have s3 := start_whole ⟨4, ![64, a, b, c]⟩ ⟨4, ![1, a, b, c]⟩ h.1 start 3 rfl
  rw [Host.dynamicUpdateSlice_apply]
  by_cases e : m = n
  · rw [if_pos e, dif_pos]
    · congr 1
      funext d
      apply Fin.ext
      fin_cases d
      · show m.val - Host.clampedStart _ _ _ _ 0 = 0
        rw [s0, e, Nat.sub_self]
      · show p.val - Host.clampedStart _ _ _ _ 1 = p.val
        rw [s1, Nat.sub_zero]
      · show q.val - Host.clampedStart _ _ _ _ 2 = q.val
        rw [s2, Nat.sub_zero]
      · show r.val - Host.clampedStart _ _ _ _ 3 = r.val
        rw [s3, Nat.sub_zero]
    · intro d
      fin_cases d
      · show Host.clampedStart _ _ _ _ 0 ≤ m.val ∧ m.val < Host.clampedStart _ _ _ _ 0 + 1
        rw [s0, e]
        omega
      · show Host.clampedStart _ _ _ _ 1 ≤ p.val ∧ p.val < Host.clampedStart _ _ _ _ 1 + a
        rw [s1]
        omega
      · show Host.clampedStart _ _ _ _ 2 ≤ q.val ∧ q.val < Host.clampedStart _ _ _ _ 2 + b
        rw [s2]
        omega
      · show Host.clampedStart _ _ _ _ 3 ≤ r.val ∧ r.val < Host.clampedStart _ _ _ _ 3 + c
        rw [s3]
        omega
  · rw [if_neg e, dif_neg]
    intro hin
    have := hin 0
    rw [s0] at this
    have t : n.val ≤ m.val ∧ m.val < n.val + 1 := this
    exact e (Fin.ext (by omega))

/-- A two-axis array with the block of one chunk replaced. -/
theorem update2 (X : (⟨2, ![64, a]⟩ : Shape).Idx → α) (U : (⟨2, ![1, a]⟩ : Shape).Idx → α)
    (start : Fin 2 → Int) (h : (⟨2, ![64, a]⟩ : Shape).Slices (fun _ => 0) ⟨2, ![1, a]⟩)
    (hs : start 0 = (BitVec.ofNat 32 n.val).toInt) (m : Fin 64) (p : Fin a) :
    Host.dynamicUpdateSlice X U start h (ix2 m p) = if m = n then U (ix2 0 p) else X (ix2 m p) := by
  have s0 := start_at ⟨2, ![64, a]⟩ ⟨2, ![1, a]⟩ h.1 start 0 n rfl rfl hs
  have s1 := start_whole ⟨2, ![64, a]⟩ ⟨2, ![1, a]⟩ h.1 start 1 rfl
  rw [Host.dynamicUpdateSlice_apply]
  by_cases e : m = n
  · rw [if_pos e, dif_pos]
    · congr 1
      funext d
      apply Fin.ext
      fin_cases d
      · show m.val - Host.clampedStart _ _ _ _ 0 = 0
        rw [s0, e, Nat.sub_self]
      · show p.val - Host.clampedStart _ _ _ _ 1 = p.val
        rw [s1, Nat.sub_zero]
    · intro d
      fin_cases d
      · show Host.clampedStart _ _ _ _ 0 ≤ m.val ∧ m.val < Host.clampedStart _ _ _ _ 0 + 1
        rw [s0, e]
        omega
      · show Host.clampedStart _ _ _ _ 1 ≤ p.val ∧ p.val < Host.clampedStart _ _ _ _ 1 + a
        rw [s1]
        omega
  · rw [if_neg e, dif_neg]
    intro hin
    have := hin 0
    rw [s0] at this
    have t : n.val ≤ m.val ∧ m.val < n.val + 1 := this
    exact e (Fin.ext (by omega))

end Cert.Dns
end
-- ==== Proof.RefStep.lean ====
module

public import proofs.«01_k».proof.Proof.Chunk
public import proofs.«01_k».proof.Proof.ChunkSlices
public import proofs.«01_k».proof.Proof.Gen.ReferenceIdeal.Run
public import Idealize.ShloMosaic.Lib.Tactic
public import Idealize.ShloMosaic.Lib.Tactic.CleanTypes

@[expose] public section

set_option maxRecDepth 16384

noncomputable section
namespace Cert.ReferenceIdeal.Value

open Cert.ReferenceIdeal Cert.ReferenceIdeal.Gen Idealize.ShloMosaic Idealize.ShloMosaic.TcCoe Idealize.SL.Sem Idealize.ShloMosaic.StableHlo

/-- What the loop carries, over the extended reals. -/
abbrev Val := Valuation τ sig (Elt Ideal)

variable {V : Val} {n : Fin 64}

/-- The trip works on chunk `n`. -/
abbrev At (V : Val) (n : Fin 64) : Prop := res_main_while0b_v35 V = fun _ => BitVec.ofNat 32 n.val

/-- Chunk `n` as the loop's arrays hold it. -/
def chunkOf (V : Val) (n : Fin 64) : Dns.Chunk where
  u h t e := V (Proc.devRef .tc main_v23_1) (ix4 n h t e)
  w h t k := V (Proc.devRef .tc main_v23_2) (ix4 n h t k)
  qd h t k := V (Proc.devRef .tc main_v23_4) (ix4 n h t k)
  kt h t k := V (Proc.devRef .tc main_v23_5) (ix4 n h t k)
  att h t s := V (Proc.devRef .tc main_v23_3) (ix4 n h t s)
  dc h := V (Proc.devRef .tc main_v23_6) (ix2 n h)
  st h k e := V (Proc.devRef .tc main_v23_0) (ix4 n h k e)
  ct h t e := V (Proc.devRef .tc main_v23_7) (ix4 n h t e)

/-- The cotangent of the state as the loop carries it. -/
def cotOf (V : Val) : Dns.Cot := fun h k e => V (Proc.devRef .tc main_v23_9) (ix3 h k e)

theorem slice_wide (X : S64x6x64x128.Idx → EReal) (start : Fin 4 → Int) (h) (hs : start 0 = (BitVec.ofNat 32 n.val).toInt) :
    Host.dynamicSlice S1x6x64x128 X start h = fun j => X (ix4 n (j 1) (j 2) (j 3)) := Dns.slice4 n X start h hs
theorem slice_state (X : S64x6x128x128.Idx → EReal) (start : Fin 4 → Int) (h) (hs : start 0 = (BitVec.ofNat 32 n.val).toInt) :
    Host.dynamicSlice S1x6x128x128 X start h = fun j => X (ix4 n (j 1) (j 2) (j 3)) := Dns.slice4 n X start h hs
theorem slice_square (X : S64x6x64x64.Idx → EReal) (start : Fin 4 → Int) (h) (hs : start 0 = (BitVec.ofNat 32 n.val).toInt) :
    Host.dynamicSlice S1x6x64x64 X start h = fun j => X (ix4 n (j 1) (j 2) (j 3)) := Dns.slice4 n X start h hs
theorem slice_row (X : S64x6.Idx → EReal) (start : Fin 2 → Int) (h) (hs : start 0 = (BitVec.ofNat 32 n.val).toInt) :
    Host.dynamicSlice S1x6 X start h = fun j => X (ix2 n (j 1)) := Dns.slice2 n X start h hs

theorem v36_apply (hn : At V n) (h : Fin 6) (k e : Fin 128) : res_main_while0b_v36 V (ix3 h k e) = (chunkOf V n).st h k e := by
  unfold res_main_while0b_v36
  rw [hn]
  clean_types
  rw [slice_state (n := n) _ _ _ rfl]
  pointwise
  rfl

theorem v38_apply (hn : At V n) (h : Fin 6) (t : Fin 64) (e : Fin 128) : res_main_while0b_v38 V (ix3 h t e) = (chunkOf V n).w h t e := by
  unfold res_main_while0b_v38
  rw [hn]
  clean_types
  rw [slice_wide (n := n) _ _ _ rfl]
  pointwise
  rfl

theorem v39_apply (hn : At V n) (h : Fin 6) (t s : Fin 64) : res_main_while0b_v39 V (ix3 h t s) = (chunkOf V n).att h t s := by
  unfold res_main_while0b_v39
  rw [hn]
  clean_types
  rw [slice_square (n := n) _ _ _ rfl]
  pointwise
  rfl

theorem v40_apply (hn : At V n) (h : Fin 6) (t : Fin 64) (e : Fin 128) : res_main_while0b_v40 V (ix3 h t e) = (chunkOf V n).qd h t e := by
  unfold res_main_while0b_v40
  rw [hn]
  clean_types
  rw [slice_wide (n := n) _ _ _ rfl]
  pointwise
  rfl

theorem v41_apply (hn : At V n) (h : Fin 6) (t : Fin 64) (e : Fin 128) : res_main_while0b_v41 V (ix3 h t e) = (chunkOf V n).kt h t e := by
  unfold res_main_while0b_v41
  rw [hn]
  clean_types
  rw [slice_wide (n := n) _ _ _ rfl]
  pointwise
  rfl

theorem v43_apply (hn : At V n) (h : Fin 6) (t : Fin 64) (e : Fin 128) : res_main_while0b_v43 V (ix3 h t e) = (chunkOf V n).ct h t e := by
  unfold res_main_while0b_v43
  rw [hn]
  clean_types
  rw [slice_wide (n := n) _ _ _ rfl]
  pointwise
  rfl

theorem v49_apply (hn : At V n) (h : Fin 6) : res_main_while0b_v49 V (ix3 h 0 0) = (chunkOf V n).dc h := by
  unfold res_main_while0b_v49
  rw [hn]
  clean_types
  rw [slice_row (n := n) _ _ _ rfl]
  pointwise
  rfl

theorem v45_apply (hn : At V n) (h : Fin 6) (t : Fin 64) (e : Fin 128) :
    res_main_while0b_v45 V (ix3 h t e) = Dns.delta (chunkOf V n) h t e := by
  unfold res_main_while0b_v45
  rw [hn]
  clean_types
  rw [slice_wide (n := n) _ _ _ rfl]
  pointwise
  simp only [v38_apply hn, v36_apply hn]
  rfl

theorem v66_apply (hn : At V n) (h : Fin 6) (t : Fin 64) (e : Fin 128) :
    res_main_while0b_v66 V (ix3 h t e) = Dns.du (chunkOf V n) (cotOf V) h t e := by
  unfold res_main_while0b_v66
  clean_types
  pointwise
  simp only [v41_apply hn, v43_apply hn, v39_apply hn]
  unfold Dns.du
  congr 1 <;> exact Finset.sum_congr rfl fun _ _ => mul_comm _ _

theorem v72_apply (hn : At V n) (h : Fin 6) (t : Fin 64) (e : Fin 128) :
    res_main_while0b_v72 V (ix3 h t e) = -Dns.du (chunkOf V n) (cotOf V) h t e := by
  unfold res_main_while0b_v72
  pointwise
  rw [v66_apply hn]

theorem step_cot (hn : At V n) : (fun h k e => step_main_v23_9 V (ix3 h k e)) = Dns.back (chunkOf V n) (cotOf V) := by
  funext h k e
  unfold step_main_v23_9
  rw [id_eq]
  clean_types
  pointwise
  simp only [v49_apply hn, v43_apply hn, v40_apply hn, v72_apply hn, v38_apply hn]
  unfold Dns.back
  refine congrArg₂ (· + ·) (congrArg₂ (· + ·) rfl ?_) ?_ <;> exact Finset.sum_congr rfl fun _ _ => mul_comm _ _

theorem step_du (hn : At V n) (m : Fin 64) (h : Fin 6) (t : Fin 64) (e : Fin 128) :
    step_main_v23_10 V (ix4 m h t e) = if m = n then Dns.du (chunkOf V n) (cotOf V) h t e else V (Proc.devRef .tc main_v23_10) (ix4 m h t e) := by
  unfold step_main_v23_10
  rw [hn, id_eq]
  refine (Dns.update4 n _ _ _ _ rfl m h t e).trans (if_congr Iff.rfl ?_ rfl)
  pointwise
  rw [v66_apply hn]

theorem step_dw (hn : At V n) (m : Fin 64) (h : Fin 6) (t : Fin 64) (e : Fin 128) :
    step_main_v23_11 V (ix4 m h t e) = if m = n then Dns.dw (chunkOf V n) (cotOf V) h t e else V (Proc.devRef .tc main_v23_11) (ix4 m h t e) := by
  unfold step_main_v23_11
  rw [hn, id_eq]
  refine (Dns.update4 n _ _ _ _ rfl m h t e).trans (if_congr Iff.rfl ?_ rfl)
  pointwise
  simp only [v72_apply hn, v36_apply hn]
  rfl

theorem step_datt (hn : At V n) (m : Fin 64) (h : Fin 6) (t s : Fin 64) :
    step_main_v23_12 V (ix4 m h t s) = if m = n then Dns.datt (chunkOf V n) h t s else V (Proc.devRef .tc main_v23_12) (ix4 m h t s) := by
  unfold step_main_v23_12
  rw [hn, id_eq]
  refine (Dns.update4 n _ _ _ _ rfl m h t s).trans (if_congr Iff.rfl ?_ rfl)
  pointwise
  simp only [v43_apply hn, v45_apply hn]
  rfl

theorem step_dqd (hn : At V n) (m : Fin 64) (h : Fin 6) (t : Fin 64) (e : Fin 128) :
    step_main_v23_13 V (ix4 m h t e) = if m = n then Dns.dqd (chunkOf V n) h t e else V (Proc.devRef .tc main_v23_13) (ix4 m h t e) := by
  unfold step_main_v23_13
  rw [hn, id_eq]
  refine (Dns.update4 n _ _ _ _ rfl m h t e).trans (if_congr Iff.rfl ?_ rfl)
  pointwise
  simp only [v43_apply hn, v36_apply hn]
  rfl

theorem step_dkt (hn : At V n) (m : Fin 64) (h : Fin 6) (t : Fin 64) (e : Fin 128) :
    step_main_v23_14 V (ix4 m h t e) = if m = n then Dns.dkt (chunkOf V n) (cotOf V) h t e else V (Proc.devRef .tc main_v23_14) (ix4 m h t e) := by
  unfold step_main_v23_14
  rw [hn, id_eq]
  refine (Dns.update4 n _ _ _ _ rfl m h t e).trans (if_congr Iff.rfl ?_ rfl)
  pointwise
  simp only [v45_apply hn]
  show ∑ x : Fin 128, cotOf V h e x * Dns.delta (chunkOf V n) h t x = _
  exact Finset.sum_congr rfl fun _ _ => mul_comm _ _

theorem step_ddc (hn : At V n) (m : Fin 64) (h : Fin 6) :
    step_main_v23_15 V (ix2 m h) = if m = n then Dns.ddc (chunkOf V n) (cotOf V) h else V (Proc.devRef .tc main_v23_15) (ix2 m h) := by
  unfold step_main_v23_15
  rw [hn, id_eq]
  refine (Dns.update2 n _ _ _ _ rfl m h).trans (if_congr Iff.rfl ?_ rfl)
  clean_types
  pointwise
  simp only [v36_apply hn]
  show ∑ _p : Fin 1, ∑ _q : Fin 1, ∑ k : Fin 128, ∑ e : Fin 128, cotOf V h k e * (chunkOf V n).st h k e = _
  simp only [Finset.univ_unique, Finset.sum_singleton]
  rfl

/-- The trip counted `k` works on chunk `63 - k`. -/
theorem at_of {k : ℕ} (hk : k < 64) (hc : V (Proc.devRef .tc main_v23_8) = fun _ => BitVec.ofNat 32 k) :
    At V ⟨63 - k, by omega⟩ := by
  unfold At res_main_while0b_v35
  rw [hc]
  funext j
  have e : (64#32 - BitVec.ofNat 32 k) - 1#32 = BitVec.ofNat 32 (63 - k) := by
    apply BitVec.eq_of_toNat_eq
    simp only [BitVec.toNat_sub, BitVec.toNat_ofNat]
    omega
  exact e

/-- All chunks of the arrays the loop starts from. -/
def chunks (V0 : Val) (n : ℕ) : Dns.Chunk := chunkOf V0 (Fin.ofNat 64 n)

/-- What holds before trip `k`: the inputs are untouched, the cotangent is that of chunk `64 - k`, and every chunk
    passed already holds its gradients. -/
structure Inv (V0 V : Val) (k : ℕ) : Prop where
  ins : chunkOf V = chunkOf V0
  ctr : V (Proc.devRef .tc main_v23_8) = fun _ => BitVec.ofNat 32 k
  cot : cotOf V = Dns.cot (chunks V0) k
  du : ∀ n : Fin 64, 63 - n.val < k → ∀ h t e, V (Proc.devRef .tc main_v23_10) (ix4 n h t e) = Dns.du (chunkOf V0 n) (Dns.cot (chunks V0) (63 - n.val)) h t e
  dw : ∀ n : Fin 64, 63 - n.val < k → ∀ h t e, V (Proc.devRef .tc main_v23_11) (ix4 n h t e) = Dns.dw (chunkOf V0 n) (Dns.cot (chunks V0) (63 - n.val)) h t e
  datt : ∀ n : Fin 64, 63 - n.val < k → ∀ h t e, V (Proc.devRef .tc main_v23_12) (ix4 n h t e) = Dns.datt (chunkOf V0 n) h t e
  dqd : ∀ n : Fin 64, 63 - n.val < k → ∀ h t e, V (Proc.devRef .tc main_v23_13) (ix4 n h t e) = Dns.dqd (chunkOf V0 n) h t e
  dkt : ∀ n : Fin 64, 63 - n.val < k → ∀ h t e, V (Proc.devRef .tc main_v23_14) (ix4 n h t e) = Dns.dkt (chunkOf V0 n) (Dns.cot (chunks V0) (63 - n.val)) h t e
  ddc : ∀ n : Fin 64, 63 - n.val < k → ∀ h, V (Proc.devRef .tc main_v23_15) (ix2 n h) = Dns.ddc (chunkOf V0 n) (Dns.cot (chunks V0) (63 - n.val)) h

theorem chunkOf_STEP : chunkOf (STEP V) = chunkOf V := by
  funext n
  unfold chunkOf
  rw [STEP_main_v23_0, STEP_main_v23_1, STEP_main_v23_2, STEP_main_v23_3, STEP_main_v23_4, STEP_main_v23_5, STEP_main_v23_6, STEP_main_v23_7]

theorem inv_step {V0 V : Val} {k : ℕ} (hk : k < 64) (I : Inv V0 V k) : Inv V0 (STEP V) (k + 1) := by
  have hn := at_of hk I.ctr
  have hp : ∀ m : Fin 64, 63 - m.val < k + 1 → m ≠ ⟨63 - k, by omega⟩ → 63 - m.val < k := by
    intro m h1 h2
    have : m.val ≠ 63 - k := fun e => h2 (Fin.ext e)
    omega
  have hl : 63 - (63 - k) = k := by omega
  refine ⟨chunkOf_STEP.trans I.ins, ?_, ?_, ?_, ?_, ?_, ?_, ?_, ?_⟩
  · rw [STEP_main_v23_8]
    unfold step_main_v23_8
    rw [id_eq, I.ctr]
    funext j
    show BitVec.ofNat 32 k + 1#32 = BitVec.ofNat 32 (k + 1)
    rw [BitVec.ofNat_add]
  · unfold cotOf
    rw [STEP_main_v23_9, step_cot hn, I.ins, I.cot]
    show _ = Dns.back (chunks V0 (63 - k)) _
    unfold chunks
    congr 2
    apply Fin.ext
    show 63 - k = (63 - k) % 64
    omega
  · intro m hm h t e
    rw [STEP_main_v23_10, step_du hn]
    split
    · next e => rw [e, I.ins, I.cot, hl]
    · next e => exact I.du m (hp m hm e) h t _
  · intro m hm h t e
    rw [STEP_main_v23_11, step_dw hn]
    split
    · next e => rw [e, I.ins, I.cot, hl]
    · next e => exact I.dw m (hp m hm e) h t _
  · intro m hm h t e
    rw [STEP_main_v23_12, step_datt hn]
    split
    · next e => rw [e, I.ins]
    · next e => exact I.datt m (hp m hm e) h t _
  · intro m hm h t e
    rw [STEP_main_v23_13, step_dqd hn]
    split
    · next e => rw [e, I.ins]
    · next e => exact I.dqd m (hp m hm e) h t _
  · intro m hm h t e
    rw [STEP_main_v23_14, step_dkt hn]
    split
    · next e => rw [e, I.ins, I.cot, hl]
    · next e => exact I.dkt m (hp m hm e) h t _
  · intro m hm h
    rw [STEP_main_v23_15, step_ddc hn]
    split
    · next e => rw [e, I.ins, I.cot, hl]
    · next e => exact I.ddc m (hp m hm e) h

/-- After all trips every chunk holds its gradients. -/
theorem inv_all (V0 : Val) (hc : V0 (Proc.devRef .tc main_v23_8) = fun _ => BitVec.ofNat 32 0)
    (hz : cotOf V0 = fun _ _ _ => 0) : ∀ k ≤ 64, Inv V0 (STEP^[k] V0) k
  | 0, _ => ⟨rfl, hc, hz, fun _ h => absurd h (by omega), fun _ h => absurd h (by omega), fun _ h => absurd h (by omega),
      fun _ h => absurd h (by omega), fun _ h => absurd h (by omega), fun _ h => absurd h (by omega)⟩
  | k + 1, h => by
    rw [Function.iterate_succ_apply']
    exact inv_step (by omega) (inv_all V0 hc hz k (by omega))

end Cert.ReferenceIdeal.Value
end
-- ==== Proof.RefValue.lean ====
/-
  The values of the reference: its loop starts from the arrays cut into chunks, and the six arrays it returns are the
  chunks' gradients.
-/
module

public import proofs.«01_k».proof.Proof.Args
public import proofs.«01_k».proof.Proof.RefStep

@[expose] public section

set_option maxRecDepth 16384

noncomputable section
namespace Cert.ReferenceIdeal.Value

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The arrays the reference is given. -/
def refArgs : Dns.Args where
  u := m ((c.tc : Thread nD τ).loc main_arg0)
  w := m ((c.tc : Thread nD τ).loc main_arg1)
  qd := m ((c.tc : Thread nD τ).loc main_arg2)
  kt := m ((c.tc : Thread nD τ).loc main_arg3)
  att := m ((c.tc : Thread nD τ).loc main_arg4)
  dc := m ((c.tc : Thread nD τ).loc main_arg5)
  st := m ((c.tc : Thread nD τ).loc main_arg6)
  ct := m ((c.tc : Thread nD τ).loc main_arg7)

/-- What the loop starts from. -/
abbrev entry : Val := entryContents (preI (F := Ideal)) m c

theorem entry_u (n : Fin 64) (h : Fin 6) (t : Fin 64) (e : Fin 128) :
    entry m c (Proc.devRef .tc main_v23_1) (ix4 n h t e) = (refArgs m c).u (ix2 (Dns.tok n t) (Dns.lane h e)) := by
  have a : entry m c (Proc.devRef .tc main_v23_1) = transpose S64x6x64x128 [0, 2, 1, 3]
      (shapeCast S64x64x6x128 (m ((c.tc : Thread nD τ).loc main_arg0)) shapeCasts_S4096x768_S64x64x6x128)
      transposes_S64x64x6x128_S64x6x64x128_0_2_1_3 := by
    simp only [entryContents, afterL_cons, afterL_nil]
    after_reads_simp
    rfl
  rw [a]
  clean_types
  pointwise
  rfl

theorem entry_w (n : Fin 64) (h : Fin 6) (t : Fin 64) (e : Fin 128) :
    entry m c (Proc.devRef .tc main_v23_2) (ix4 n h t e) = (refArgs m c).w (ix2 (Dns.tok n t) (Dns.lane h e)) := by
  have a : entry m c (Proc.devRef .tc main_v23_2) = transpose S64x6x64x128 [0, 2, 1, 3]
      (shapeCast S64x64x6x128 (extf (F := Ideal) .f32 (m ((c.tc : Thread nD τ).loc main_arg1)) bitsLt_bf16_f32) shapeCasts_S4096x768_S64x64x6x128)
      transposes_S64x64x6x128_S64x6x64x128_0_2_1_3 := by
    simp only [entryContents, afterL_cons, afterL_nil]
    after_reads_simp
    rfl
  rw [a]
  clean_types
  pointwise
  rfl

theorem entry_qd (n : Fin 64) (h : Fin 6) (t : Fin 64) (e : Fin 128) :
    entry m c (Proc.devRef .tc main_v23_4) (ix4 n h t e) = (refArgs m c).qd (ix2 (Dns.tok n t) (Dns.lane h e)) := by
  have a : entry m c (Proc.devRef .tc main_v23_4) = transpose S64x6x64x128 [0, 2, 1, 3]
      (shapeCast S64x64x6x128 (extf (F := Ideal) .f32 (m ((c.tc : Thread nD τ).loc main_arg2)) bitsLt_bf16_f32) shapeCasts_S4096x768_S64x64x6x128)
      transposes_S64x64x6x128_S64x6x64x128_0_2_1_3 := by
    simp only [entryContents, afterL_cons, afterL_nil]
    after_reads_simp
    rfl
  rw [a]
  clean_types
  pointwise
  rfl

theorem entry_kt (n : Fin 64) (h : Fin 6) (t : Fin 64) (e : Fin 128) :
    entry m c (Proc.devRef .tc main_v23_5) (ix4 n h t e) = (refArgs m c).kt (ix2 (Dns.tok n t) (Dns.lane h e)) := by
  have a : entry m c (Proc.devRef .tc main_v23_5) = transpose S64x6x64x128 [0, 2, 1, 3]
      (shapeCast S64x64x6x128 (extf (F := Ideal) .f32 (m ((c.tc : Thread nD τ).loc main_arg3)) bitsLt_bf16_f32) shapeCasts_S4096x768_S64x64x6x128)
      transposes_S64x64x6x128_S64x6x64x128_0_2_1_3 := by
    simp only [entryContents, afterL_cons, afterL_nil]
    after_reads_simp
    rfl
  rw [a]
  clean_types
  pointwise
  rfl

theorem entry_ct (n : Fin 64) (h : Fin 6) (t : Fin 64) (e : Fin 128) :
    entry m c (Proc.devRef .tc main_v23_7) (ix4 n h t e) = (refArgs m c).ct (ix2 (Dns.tok n t) (Dns.lane h e)) := by
  have a : entry m c (Proc.devRef .tc main_v23_7) = transpose S64x6x64x128 [0, 2, 1, 3]
      (shapeCast S64x64x6x128 (m ((c.tc : Thread nD τ).loc main_arg7)) shapeCasts_S4096x768_S64x64x6x128)
      transposes_S64x64x6x128_S64x6x64x128_0_2_1_3 := by
    simp only [entryContents, afterL_cons, afterL_nil]
    after_reads_simp
    rfl
  rw [a]
  clean_types
  pointwise
  rfl

theorem entry_att (n : Fin 64) (h : Fin 6) (t s : Fin 64) :
    entry m c (Proc.devRef .tc main_v23_3) (ix4 n h t s) = (refArgs m c).att (ix4 n h t s) := by
  simp only [entryContents, afterL_cons, afterL_nil]
  after_reads_simp
  rfl

theorem entry_st (n : Fin 64) (h : Fin 6) (k e : Fin 128) :
    entry m c (Proc.devRef .tc main_v23_0) (ix4 n h k e) = (refArgs m c).st (ix4 n h k e) := by
  simp only [entryContents, afterL_cons, afterL_nil]
  after_reads_simp
  rfl

theorem entry_dc (n : Fin 64) (h : Fin 6) :
    entry m c (Proc.devRef .tc main_v23_6) (ix2 n h) = (refArgs m c).dc (ix3 n ⟨h.val, by omega⟩ 0) := by
  have a : entry m c (Proc.devRef .tc main_v23_6) = shapeCast S64x6 (extractStridedSlice S64x6x1 ![0, 0, 0]
      (m ((c.tc : Thread nD τ).loc main_arg5)) slices_S64x8x128_S64x6x1_0_0_0) shapeCasts_S64x6x1_S64x6 := by
    simp only [entryContents, afterL_cons, afterL_nil]
    after_reads_simp
    rfl
  rw [a]
  clean_types
  pointwise
  rfl

theorem entry_ctr : entry m c (Proc.devRef .tc main_v23_8) = fun _ => BitVec.ofNat 32 0 := ctr_entry m c

theorem entry_cot : cotOf (entry m c) = fun _ _ _ => 0 := by
  funext h k e
  unfold cotOf
  simp only [entryContents, afterL_cons, afterL_nil]
  after_reads_simp
  rw [id_eq]
  pointwise

theorem entry_chunk (n : Fin 64) : chunkOf (entry m c) n = (refArgs m c).chunk n := by
  unfold chunkOf Dns.Args.chunk
  rw [Dns.Chunk.mk.injEq]
  exact ⟨funext fun h => funext fun t => funext fun e => entry_u m c n h t e,
    funext fun h => funext fun t => funext fun e => entry_w m c n h t e,
    funext fun h => funext fun t => funext fun e => entry_qd m c n h t e,
    funext fun h => funext fun t => funext fun e => entry_kt m c n h t e,
    funext fun h => funext fun t => funext fun s => entry_att m c n h t s,
    funext fun h => entry_dc m c n h,
    funext fun h => funext fun k => funext fun e => entry_st m c n h k e,
    funext fun h => funext fun t => funext fun e => entry_ct m c n h t e⟩

theorem entry_chunks : chunks (entry m c) = (refArgs m c).chunks := by
  funext n
  exact entry_chunk m c _

/-- What holds after the loop. -/
theorem final : Inv (entry m c) (STEP^[64] (entry m c)) 64 := inv_all _ (entry_ctr m c) (entry_cot m c) 64 le_rfl

theorem out_du : out_main_v25 (STEP^[64] (entry m c)) = Dns.resDu (refArgs m c) := by
  funext x
  idx_vars x
  unfold out_main_v25
  clean_types
  pointwise
  refine ((final m c).du ⟨x0.val / 64, by omega⟩ (by omega) _ _ _).trans ?_
  rw [entry_chunk, entry_chunks]
  rfl

theorem out_dw : out_main_v27 (STEP^[64] (entry m c)) = Dns.resDw (refArgs m c) := by
  funext x
  idx_vars x
  unfold out_main_v27
  clean_types
  pointwise
  refine ((final m c).dw ⟨x0.val / 64, by omega⟩ (by omega) _ _ _).trans ?_
  rw [entry_chunk, entry_chunks]
  rfl

theorem out_dqd : out_main_v29 (STEP^[64] (entry m c)) = Dns.resDqd (refArgs m c) := by
  funext x
  idx_vars x
  unfold out_main_v29
  clean_types
  pointwise
  refine ((final m c).dqd ⟨x0.val / 64, by omega⟩ (by omega) _ _ _).trans ?_
  rw [entry_chunk]
  rfl

theorem out_dkt : out_main_v31 (STEP^[64] (entry m c)) = Dns.resDkt (refArgs m c) := by
  funext x
  idx_vars x
  unfold out_main_v31
  clean_types
  pointwise
  refine ((final m c).dkt ⟨x0.val / 64, by omega⟩ (by omega) _ _ _).trans ?_
  rw [entry_chunk, entry_chunks]
  rfl

theorem out_datt : STEP^[64] (entry m c) (Proc.devRef .tc main_v23_12) = Dns.resDatt (refArgs m c) := by
  funext x
  idx_vars x
  refine ((final m c).datt x0 (by omega) x1 x2 x3).trans ?_
  rw [entry_chunk]
  rfl

theorem out_ddc : out_main_v33 (STEP^[64] (entry m c)) = Dns.resDdc (refArgs m c) := by
  funext x
  idx_vars x
  unfold out_main_v33
  clean_types
  pointwise
  unfold Dns.resDdc
  refine dite_congr rfl (fun hh => ?_) (fun hh => ?_)
  · refine ((final m c).ddc x0 (by omega) _).trans ?_
    rw [entry_chunk, entry_chunks]
    rfl
  · show ((((0#32 : BitVec 32).toInt : ℝ)) : EReal) = 0
    simp

end Cert.ReferenceIdeal.Value
end
-- ==== Proof.Mm.lean ====
/-
  The products of the dense layers over the extended reals: plain sums over the contracted coordinate, and pieces of a
  matrix laid side by side.
-/
module

public import Idealize.ShloMosaic.Lib.Pointwise

@[expose] public section

noncomputable section
namespace Cert.Mm

open Idealize.ShloMosaic

/-- A matrix over the extended reals. -/
abbrev Mat (r c : ℕ) := (⟨2, ![r, c]⟩ : Shape).Idx → EReal

/-- Several matrices of one shape. -/
abbrev Mats (p r c : ℕ) := (⟨3, ![p, r, c]⟩ : Shape).Idx → EReal

/-- Rows of `a` by columns of `b`. -/
def nn {M K N : ℕ} (a : Mat M K) (b : Mat K N) : Mat M N := fun j => ∑ k : Fin K, a (ix2 (j 0) k) * b (ix2 k (j 1))

/-- Rows of `a` by rows of `b`: the gradient of a product's left factor. -/
def nt {M N K : ℕ} (a : Mat M N) (b : Mat K N) : Mat M K := fun j => ∑ n : Fin N, a (ix2 (j 0) n) * b (ix2 (j 1) n)

/-- Columns of `a` by columns of `b`: the gradient of a product's right factor. -/
def tn {M K N : ℕ} (a : Mat M K) (b : Mat M N) : Mat K N := fun j => ∑ i : Fin M, a (ix2 i (j 0)) * b (ix2 i (j 1))

theorem ix2_eq {M N : ℕ} {i i' : Fin M} {j j' : Fin N} (h0 : i.val = i'.val) (h1 : j.val = j'.val) :
    ix2 i j = ix2 i' j' := by
  rw [Fin.ext h0, Fin.ext h1]

theorem ix3_eq {P M N : ℕ} {p p' : Fin P} {i i' : Fin M} {j j' : Fin N} (hp : p.val = p'.val) (h0 : i.val = i'.val)
    (h1 : j.val = j'.val) : ix3 p i j = ix3 p' i' j' := by
  rw [Fin.ext hp, Fin.ext h0, Fin.ext h1]

theorem width_pos {x N p C : ℕ} (h : N = p * C) (e : x < N) : 0 < C := by
  rcases Nat.eq_zero_or_pos C with z | z
  · rw [h, z] at e
    exact absurd e (Nat.not_lt_zero _)
  · exact z

theorem piece_lt {x N p C : ℕ} (h : N = p * C) (e : x < N) : x / C < p :=
  Nat.div_lt_of_lt_mul (by rw [Nat.mul_comm, ← h]; exact e)

theorem column_lt {x y N p C : ℕ} (h : N = p * C) (e : x < p) (f : y < C) : x * C + y < N :=
  calc x * C + y < x * C + C := Nat.add_lt_add_left f _
    _ = (x + 1) * C := (Nat.succ_mul _ _).symm
    _ ≤ N := h ▸ Nat.mul_le_mul_right C e

/-- Pieces of one shape laid side by side. -/
def beside {p R C N : ℕ} (h : N = p * C) (t : Mats p R C) : Mat R N := fun j =>
  t (ix3 ⟨(j 1).val / C, piece_lt h (j 1).isLt⟩ (j 0) ⟨(j 1).val % C, Nat.mod_lt _ (width_pos h (j 1).isLt)⟩)

/-- Columns cut into pieces of one width. -/
def apart {p R C N : ℕ} (h : N = p * C) (a : Mat R N) : Mats p R C := fun j =>
  a (ix2 (j 1) ⟨(j 0).val * C + (j 2).val, column_lt h (j 0).isLt (j 2).isLt⟩)

/-- Two rows laid end to end. -/
def glue {A B N : ℕ} (h : N = A + B) (f : Fin A → EReal) (g : Fin B → EReal) : Fin N → EReal := fun j =>
  if e : j.val < A then f ⟨j.val, e⟩ else g ⟨j.val - A, by omega⟩

/-- Two matrices laid side by side. -/
def pair {M A B N : ℕ} (h : N = A + B) (a : Mat M A) (b : Mat M B) : Mat M N := fun j =>
  glue h (fun x => a (ix2 (j 0) x)) (fun x => b (ix2 (j 0) x)) (j 1)

theorem pair_eq {M M' A B N : ℕ} {h : N = A + B} {a : Mat M A} {b : Mat M B} {a' : Mat M' A} {b' : Mat M' B} {i : Fin M}
    {i' : Fin M'} (ha : ∀ x, a (ix2 i x) = a' (ix2 i' x)) (hb : ∀ x, b (ix2 i x) = b' (ix2 i' x)) (k : Fin N) :
    pair h a b (ix2 i k) = pair h a' b' (ix2 i' k) := by
  show glue h (fun x => a (ix2 i x)) (fun x => b (ix2 i x)) k = glue h (fun x => a' (ix2 i' x)) (fun x => b' (ix2 i' x)) k
  rw [funext ha, funext hb]

theorem sum_pair {M A B N : ℕ} (h : N = A + B) (a : Mat M A) (b : Mat M B) (w : Fin N → EReal) (i : Fin M) :
    ∑ k : Fin N, pair h a b (ix2 i k) * w k
      = ∑ x : Fin A, a (ix2 i x) * w ⟨x.val, by omega⟩ + ∑ x : Fin B, b (ix2 i x) * w ⟨A + x.val, by omega⟩ := by
  subst h
  rw [Fin.sum_univ_add]
  refine congrArg₂ (· + ·) (Finset.sum_congr rfl fun x _ => congrArg (· * w ⟨x.val, by omega⟩) ?_)
    (Finset.sum_congr rfl fun x _ => congrArg (· * w ⟨A + x.val, by omega⟩) ?_)
  · exact dif_pos x.isLt
  · refine (dif_neg (by
      show ¬A + x.val < A
      omega)).trans ?_
    exact congrArg (fun k => b (ix2 i k)) (Fin.ext (Nat.add_sub_cancel_left A x.val))

/-- A product added to what the residual stream holds. -/
def plus {M N : ℕ} (h p : Mat M N) : Mat M N := fun j => h j + p j

end Cert.Mm

end
-- ==== Proof.GuBwdWValue.lean ====
/-
  The gradient of the gate and up projection: one shard of the weight at a time, summed over four tiles of tokens in a
  scratch buffer.
-/
module

public import proofs.«01_k».proof.Proof.Mm
public import proofs.«01_k».proof.Proof.Gen.GuBwdWIdeal.Value
public import proofs.«01_k».proof.Proof.Gen.GuBwdWRefIdeal.Run
public import Idealize.ShloMosaic.Lib.Pipeline.ValueKit

@[expose] public section

set_option maxRecDepth 16384

noncomputable section

namespace Cert.GuBwdWIdeal.Value

open Cert.GuBwdWIdeal Cert.GuBwdWIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val % 4, 0] ∧ win0_1.index t = ![t.val / 8, t.val % 4, t.val / 4 % 2]
    ∧ win0_2.index t = ![t.val / 4, 0, 0] := by decide +kernel

theorem zero_at (i : Fin 1024) (j : Fin 1408) : k0_pay1 (F := Ideal) (ix2 i j) = 0 := by
  unfold k0_pay1
  pointwise

theorem pay_at (o : Vec Ideal S1024x1408 .f32) (a : Vec Ideal S1024x1024 .bf16) (b : Vec Ideal S1x1024x1408 .bf16)
    (i : Fin 1024) (j : Fin 1408) :
    k0_pay2 o a b (ix2 i j) = o (ix2 i j) + ∑ n : Fin 1024, a (ix2 n i) * b (ix3 0 n j) := by
  unfold k0_pay2
  pointwise

theorem cast_at (o : Vec Ideal S1024x1408 .f32) (s : Fin 1) (i : Fin 1024) (j : Fin 1408) :
    k0_pay3 o (ix3 s i j) = o (ix2 i j) := by
  unfold k0_pay3
  pointwise

/-- What tile `t` adds. -/
def part (t : Fin cfg0.N) : S1024x1408.Idx → EReal := fun y =>
  ∑ n : Fin 1024, (show EReal from iblk m c 0 t (ix2 n (y 0))) * (show EReal from iblk m c 1 t (ix3 0 n (y 1)))

theorem part_at (t : Fin cfg0.N) (i : Fin 1024) (j : Fin 1408) : part m c t (ix2 i j) =
    ∑ n : Fin 1024, (show EReal from iblk m c 0 t (ix2 n i)) * (show EReal from iblk m c 1 t (ix3 0 n j)) := rfl

theorem held (t : Fin cfg0.N) (h : t.val % 4 = 3) (y : S1024x1408.Idx) :
    (outsAt0 m c t.val t.isLt).2 y
      = (0 : EReal) + ∑ s : Fin 4, part m c ⟨4 * (t.val / 4) + s.val, Pipeline.run_point_lt_of_flush t h s⟩ y := by
  refine Pipeline.eq_sum_fin_of_reset_step_apply_of_flush (fun n h => (outsAt0 m c n h).2) 4 (fun _ => (0 : EReal)) (part m c) ?_ ?_ t h y
  · intro t h0 y
    show (outsAt0 m c t.val t.isLt).2 y = _
    rw [outsAt0_A m c t h0 (by omega)]
    dsimp only
    frame_out
    idx_vars y
    rw [pay_at, zero_at]
    rfl
  · intro t h0 y
    show (outsAt0 m c t.val t.isLt).2 y = _
    by_cases h1 : t.val % 4 = 3
    · rw [outsAt0_C m c t h0 h1]
      dsimp only
      frame_out
      idx_vars y
      rw [pay_at, (Memref.isWhole_whole cc0_scratch0).read_unread]
      rfl
    · rw [outsAt0_B m c t h0 h1]
      dsimp only
      frame_out
      idx_vars y
      rw [pay_at, (Memref.isWhole_whole cc0_scratch0).read_unread]
      rfl

theorem written (t : Fin cfg0.N) (h : t.val % 4 = 3) :
    (outsAt0 m c t.val t.isLt).1 = k0_pay3 (outsAt0 m c t.val t.isLt).2 := by
  rw [outsAt0_C m c t (by omega) h]
  dsimp only
  frame_out

theorem shard_lt (t : Fin cfg0.N) : t.val / 4 < 4 := by
  have h : t.val < 16 := lt_of_lt_of_eq t.isLt N_0
  omega

theorem rows_at (t : Fin cfg0.N) (n k : Fin 1024) :
    iblk m c 0 t (ix2 n k) = m ((c.tc : Thread nD τ).loc main_arg0) (ix2 ⟨t.val % 4 * 1024 + n.val, by omega⟩ k) := by
  have e := (idx t).1
  blk_ext [iblk, V, e]

theorem wide_at (t : Fin cfg0.N) (n : Fin 1024) (k : Fin 1408) :
    iblk m c 1 t (ix3 0 n k) = m ((c.tc : Thread nD τ).loc main_arg1)
      (ix3 ⟨t.val / 8, by have := shard_lt t; omega⟩ ⟨t.val % 4 * 1024 + n.val, by omega⟩ ⟨t.val / 4 % 2 * 1408 + k.val, by omega⟩) := by
  have e := (idx t).2.1
  blk_ext [iblk, V, e]

theorem arr : (dats m 0 c).arrAt 2 cfg0.N
    = Mm.apart (p := 4) (C := 1408) (N := 5632) rfl (Mm.tn (m ((c.tc : Thread nD τ).loc main_arg0))
        (Mm.beside (p := 2) (C := 2816) rfl (m ((c.tc : Thread nD τ).loc main_arg1)))) := by
  refine (dats m 0 c).arrAt_eq_of_covers 2 _ (by decide +kernel) fun t hf y => ?_
  show (dats m 0 c).flushed 2 t y = _
  rw [flushed2]
  have h3 : t.val % 4 = 3 := (flush0_2 t).mp hf
  have e2 := (idx t).2.2
  rw [written m c t h3]
  idx_vars y
  have ej : ((cfg0.win 2).blk t).view.emb (ix3 y0 y1 y2) = ix3 ⟨t.val / 4, shard_lt t⟩ y1 y2 := by
    blk_ext [e2]
  refine (cast_at _ _ _ _).trans ((held m c t h3 _).trans ?_)
  rw [zero_add, ej]
  refine (Finset.sum_congr rfl fun s _ => part_at m c _ _ _).trans ?_
  show _ = ∑ i : Fin 4096, (show EReal from m ((c.tc : Thread nD τ).loc main_arg0) (ix2 i y1))
    * (show EReal from m ((c.tc : Thread nD τ).loc main_arg1)
        (ix3 ⟨(t.val / 4 * 1408 + y2.val) / 2816, _⟩ i ⟨(t.val / 4 * 1408 + y2.val) % 2816, _⟩))
  refine Fin.sum_mul_add_congr fun s n hl => congrArg₂ (· * ·) ?_ ?_
  · refine (rows_at m c _ _ _).trans (congrArg (m ((c.tc : Thread nD τ).loc main_arg0)) (Mm.ix2_eq ?_ rfl))
    show (4 * (t.val / 4) + s.val) % 4 * 1024 + n.val = s.val * 1024 + n.val
    omega
  · refine (wide_at m c _ _ _).trans (congrArg (m ((c.tc : Thread nD τ).loc main_arg1)) (Mm.ix3_eq ?_ ?_ ?_))
    · show (4 * (t.val / 4) + s.val) / 8 = (t.val / 4 * 1408 + y2.val) / 2816
      omega
    · show (4 * (t.val / 4) + s.val) % 4 * 1024 + n.val = s.val * 1024 + n.val
      omega
    · show (4 * (t.val / 4) + s.val) / 4 % 2 * 1408 + y2.val = (t.val / 4 * 1408 + y2.val) % 2816
      omega

end Cert.GuBwdWIdeal.Value

namespace Cert.GuBwdWRefIdeal.Value

open Cert.GuBwdWRefIdeal Cert.GuBwdWRefIdeal.Gen Idealize.ShloMosaic Idealize.ShloMosaic.TcCoe Idealize.SL.Sem

theorem out (a : FVec Ideal S4096x1024 .bf16) (b : FVec Ideal S2x4096x2816 .bf16) :
    truncf .bf16 (transpose S4x1024x1408 [1, 0, 2] (shapeCast _ (transpose S1024x5632 [1, 0]
        (Host.dotGeneral dot_S4096x5632_S4096x1024_S5632x1024_0_0_1_1_n_n none
          (shapeCast _ (transpose S4096x2x2816 [1, 0, 2] (extf (F := Ideal) .f32 b bitsLt_bf16_f32) transposes_S2x4096x2816_S4096x2x2816_1_0_2)
            shapeCasts_S4096x2x2816_S4096x5632) (extf (F := Ideal) .f32 a bitsLt_bf16_f32)) transposes_S5632x1024_S1024x5632_1_0)
        shapeCasts_S1024x5632_S1024x4x1408) transposes_S1024x4x1408_S4x1024x1408_1_0_2) bitsLt_bf16_f32
      = Mm.apart (p := 4) (C := 1408) rfl (Mm.tn a (Mm.beside (p := 2) (C := 2816) (N := 5632) rfl b)) := by
  funext j
  idx_vars j
  pointwise [Mm.apart, Mm.tn, Mm.beside]
  exact Finset.sum_congr rfl fun _ _ => mul_comm _ _

end Cert.GuBwdWRefIdeal.Value

end
-- ==== Proof.Norm.lean ====
/-
  The gradient of a root-mean-square norm of 1024 lanes over the extended reals, row by row.
-/
module

public import proofs.«01_k».proof.Proof.Mm

@[expose] public section

noncomputable section
namespace Cert.Norm

open Idealize.ShloMosaic Mm

/-- A row of lanes. -/
abbrev Row := Fin 1024 → EReal

/-- A row of a matrix. -/
def row {M : ℕ} (a : Mat M 1024) (i : Fin M) : Row := fun x => a (ix2 i x)

/-- The mean of the squares, and the epsilon. -/
def spread (h : Row) : EReal :=
  Ideal.div (∑ x : Fin 1024, h x * h x) (Ideal.ofBits .f32 0x44800000#32) + Ideal.ofBits .f32 0x358637BD#32

/-- What the norm multiplies the row by. -/
def scale (h : Row) : EReal := Ideal.rsqrt (spread h)

/-- The cotangent of the mean of the squares, spread over the lanes. -/
def slope (h g d : Row) : EReal :=
  Ideal.div ((∑ x : Fin 1024, h x * (d x * g x)) * (Ideal.ofBits .f32 0xBF000000#32 * Ideal.div (scale h) (spread h)))
    (Ideal.ofBits .f32 0x44800000#32)

/-- The gradient of the row. -/
def back (h g d : Row) (j : Fin 1024) : EReal := d j * g j * scale h + h j * slope h g d + slope h g d * h j

/-- What the row adds to the gradient of the gain. -/
def gain (h d : Row) (j : Fin 1024) : EReal := h j * scale h * d j

/-- The gradient of the rows, added to the residual's. -/
def resX {M : ℕ} (h d r : Mat M 1024) (g : Row) : Mat M 1024 := fun j => r j + back (row h (j 0)) g (row d (j 0)) (j 1)

/-- The gradient of the gain, as one row. -/
def resG {M : ℕ} (h d : Mat M 1024) : Mat 1 1024 := fun j => ∑ i : Fin M, gain (row h i) (row d i) (j 1)

/-- A normed row. -/
def put (h g : Row) (j : Fin 1024) : EReal := h j * scale h * g j

/-- The normed rows. -/
def res {M : ℕ} (h : Mat M 1024) (g : Row) : Mat M 1024 := fun j => put (row h (j 0)) g (j 1)

end Cert.Norm

end
-- ==== Proof.GuBwdXValue.lean ====
/-
  The gradient through the gate and up projection and the norm before it: the product summed over the four shards, then
  the norm's gradient of the tile of tokens.
-/
module

public import proofs.«01_k».proof.Proof.Norm
public import proofs.«01_k».proof.Proof.Gen.GuBwdXIdeal.Value
public import proofs.«01_k».proof.Proof.Gen.GuBwdXRefIdeal.Run
public import Idealize.ShloMosaic.Lib.Pipeline.ValueKit

@[expose] public section

set_option maxRecDepth 16384

noncomputable section

namespace Cert.GuBwdXIdeal.Value

open Cert.GuBwdXIdeal Cert.GuBwdXIdeal.Gen Idealize.ShloMosaic Idealize.ShloMosaic.TcCoe Idealize.SL.Sem
open Idealize.ShloMosaic.Pipeline (Dat)

theorem prod_at (a b : Vec Ideal S1x1024x1408 .bf16) (i j : Fin 1024) :
    k0_pay1 a b (ix2 i j) = ∑ k : Fin 1408, a (ix3 0 i k) * b (ix3 0 j k) := by
  unfold k0_pay1
  pointwise

theorem zero_at (d : Fin 1) (j : Fin 1024) : k0_pay2 (F := Ideal) (ix2 d j) = 0 := by
  unfold k0_pay2
  pointwise

theorem add_at (a b : Vec Ideal S1x1024x1408 .bf16) (o : Vec Ideal S1024x1024 .f32) (i j : Fin 1024) :
    k0_pay3 a b o (ix2 i j) = o (ix2 i j) + ∑ k : Fin 1408, a (ix3 0 i k) * b (ix3 0 j k) := by
  unfold k0_pay3
  pointwise [prod_at]

theorem gadd_at (x y : Vec Ideal S1x1024 .f32) (d : Fin 1) (j : Fin 1024) :
    k0_pay4 x y (ix2 d j) = y (ix2 d j) + x (ix2 d j) := by
  unfold k0_pay4
  pointwise

theorem back_at (h : Vec Ideal S1024x1024 .f32) (g : Vec Ideal S1x1024 .f32) (s r : Vec Ideal S1024x1024 .f32) (i j : Fin 1024) :
    k0_pay9 h g s r (ix2 i j) = r (ix2 i j) + Norm.back (Norm.row h i) (fun x => g (ix2 0 x)) (Norm.row s i) j := by
  unfold k0_pay9
  pointwise [k0_pay5, k0_pay6, k0_pay7]
  rw [Fin.sum_univ_one]
  rfl

theorem gain_at (h s : Vec Ideal S1024x1024 .f32) (d : Fin 1) (j : Fin 1024) :
    k0_pay8 h s (ix2 d j) = ∑ i : Fin 1024, Norm.gain (Norm.row h i) (Norm.row s i) j := by
  unfold k0_pay8
  pointwise [k0_pay5, k0_pay6, k0_pay7]
  rfl

variable (m : (ℓ : Loc nD τ sig) → Buf (Elt Ideal) ℓ) (c : Dev nD)

theorem out_A (t : Fin cfg0.N) (h0 : t.val % 16 = 0) :
    outsAt0 m c t.val t.isLt = (k0_pay1 (iblk m c 0 t) (iblk m c 1 t), k0_pay2 (F := Ideal)) := by
  rw [outsAt0_A m c t h0 (by omega) (by omega) (by omega)]
  frame_out

theorem out_D (t : Fin cfg0.N) (h0 : ¬t.val % 16 = 0) (h1 : t.val % 4 = 0) :
    outsAt0 m c t.val t.isLt = (k0_pay1 (iblk m c 0 t) (iblk m c 1 t),
      (outsAt0 m c (t.val - 1) (Nat.lt_of_le_of_lt (Nat.sub_le _ _) t.isLt)).2) := by
  rw [outsAt0_D m c t h0 h1 (by omega) (by omega)]
  frame_out
  rfl

theorem out_B (t : Fin cfg0.N) (h1 : ¬t.val % 4 = 0) (h3 : ¬t.val % 4 = 3) :
    outsAt0 m c t.val t.isLt = (k0_pay3 (iblk m c 0 t) (iblk m c 1 t) (outsAt0 m c (t.val - 1) (Nat.lt_of_le_of_lt (Nat.sub_le _ _) t.isLt)).1,
      (outsAt0 m c (t.val - 1) (Nat.lt_of_le_of_lt (Nat.sub_le _ _) t.isLt)).2) := by
  rw [outsAt0_B m c t (by omega) h1 (by omega) h3]
  frame_out
  rfl

/-- The product of a tile of tokens with all shards, at its last shard. -/
def tile (t : Fin cfg0.N) : Vec Ideal S1024x1024 .f32 :=
  k0_pay3 (iblk m c 0 t) (iblk m c 1 t) (outsAt0 m c (t.val - 1) (Nat.lt_of_le_of_lt (Nat.sub_le _ _) t.isLt)).1

theorem out_C (t : Fin cfg0.N) (h3 : t.val % 4 = 3) :
    outsAt0 m c t.val t.isLt = (k0_pay9 (iblk m c 2 t) (iblk m c 3 t) (tile m c t) (iblk m c 4 t),
      k0_pay4 (k0_pay8 (iblk m c 2 t) (tile m c t)) (outsAt0 m c (t.val - 1) (Nat.lt_of_le_of_lt (Nat.sub_le _ _) t.isLt)).2) := by
  rw [outsAt0_C m c t (by omega) (by omega) (by omega) h3]
  unfold tile
  frame_out

theorem idx : ∀ t : Fin cfg0.N, win0_0.index t = ![t.val % 4 / 2, t.val / 4, t.val % 2] ∧ win0_1.index t = ![t.val % 4, 0, 0]
    ∧ win0_2.index t = ![t.val / 4, 0] ∧ win0_3.index t = ![0, 0] ∧ win0_4.index t = ![t.val / 4, 0]
    ∧ win0_5.index t = ![t.val / 4, 0] ∧ win0_6.index t = ![0, 0] := by decide +kernel

theorem tile_lt (t : Fin cfg0.N) : t.val / 4 < 4 := by
  have h : t.val < 16 := lt_of_lt_of_eq t.isLt N_0
  omega

theorem wide_at (t : Fin cfg0.N) (i : Fin 1024) (k : Fin 1408) :
    iblk m c 0 t (ix3 0 i k) = m ((c.tc : Thread nD τ).loc main_arg0)
      (ix3 ⟨t.val % 4 / 2, by omega⟩ ⟨t.val / 4 * 1024 + i.val, by have := tile_lt t; omega⟩ ⟨t.val % 2 * 1408 + k.val, by omega⟩) := by
  have e := (idx t).1
  blk_ext [iblk, V, e]

theorem weight_at (t : Fin cfg0.N) (j : Fin 1024) (k : Fin 1408) :
    iblk m c 1 t (ix3 0 j k) = m ((c.tc : Thread nD τ).loc main_arg1) (ix3 ⟨t.val % 4, by omega⟩ j k) := by
  have e := (idx t).2.1
  blk_ext [iblk, V, e]

theorem rows_at (t : Fin cfg0.N) (i x : Fin 1024) :
    iblk m c 2 t (ix2 i x) = m ((c.tc : Thread nD τ).loc main_arg2) (ix2 ⟨t.val / 4 * 1024 + i.val, by have := tile_lt t; omega⟩ x) := by
  have e := (idx t).2.2.1
  blk_ext [iblk, V, e]

theorem lanes_at (t : Fin cfg0.N) (x : Fin 1024) :
    iblk m c 3 t (ix2 0 x) = m ((c.tc : Thread nD τ).loc main_arg3) (ix1 x) := by
  have e := (idx t).2.2.2.1
  blk_ext! [iblk, e]

theorem rest_at (t : Fin cfg0.N) (i x : Fin 1024) :
    iblk m c 4 t (ix2 i x) = m ((c.tc : Thread nD τ).loc main_arg4) (ix2 ⟨t.val / 4 * 1024 + i.val, by have := tile_lt t; omega⟩ x) := by
  have e := (idx t).2.2.2.2.1
  blk_ext [iblk, V, e]

/-- The product of all tokens with all shards. -/
abbrev whole : Mm.Mat 4096 1024 :=
  Mm.nt (Mm.beside (p := 2) (C := 2816) (N := 5632) rfl (m ((c.tc : Thread nD τ).loc main_arg0)))
    (Mm.beside (p := 4) (C := 1408) rfl (m ((c.tc : Thread nD τ).loc main_arg1)))

/-- What the shard of point `t` adds. -/
def part (t : Fin cfg0.N) (i j : Fin 1024) : EReal :=
  ∑ k : Fin 1408, (show EReal from iblk m c 0 t (ix3 0 i k)) * (show EReal from iblk m c 1 t (ix3 0 j k))

theorem first_at (t : Fin cfg0.N) (h1 : t.val % 4 = 0) (i j : Fin 1024) :
    (outsAt0 m c t.val t.isLt).1 (ix2 i j) = part m c t i j := by
  by_cases h0 : t.val % 16 = 0
  · rw [out_A m c t h0]
    exact prod_at _ _ i j
  · rw [out_D m c t h0 h1]
    exact prod_at _ _ i j

theorem next_at (t : Fin cfg0.N) (h1 : ¬t.val % 4 = 0) (h3 : ¬t.val % 4 = 3) (i j : Fin 1024) :
    (outsAt0 m c t.val t.isLt).1 (ix2 i j)
      = (outsAt0 m c (t.val - 1) (Nat.lt_of_le_of_lt (Nat.sub_le _ _) t.isLt)).1 (ix2 i j) + part m c t i j := by
  rw [out_B m c t h1 h3]
  exact add_at _ _ _ i j

theorem tile_parts (q : Fin 4) (h : ∀ s : Fin 4, 4 * q.val + s.val < cfg0.N) (i j : Fin 1024) :
    tile m c ⟨4 * q.val + 3, h 3⟩ (ix2 i j) = ∑ s : Fin 4, part m c ⟨4 * q.val + s.val, h s⟩ i j := by
  unfold tile
  rw [add_at, Fin.sum_univ_four]
  refine congrArg₂ (· + ·) ?_ rfl
  refine (next_at m c ⟨4 * q.val + 2, h 2⟩ (by show ¬(4 * q.val + 2) % 4 = 0; omega) (by show ¬(4 * q.val + 2) % 4 = 3; omega) i j).trans ?_
  refine congrArg₂ (· + ·) ?_ rfl
  refine (next_at m c ⟨4 * q.val + 1, h 1⟩ (by show ¬(4 * q.val + 1) % 4 = 0; omega) (by show ¬(4 * q.val + 1) % 4 = 3; omega) i j).trans ?_
  refine congrArg₂ (· + ·) ?_ rfl
  exact first_at m c ⟨4 * q.val + 0, h 0⟩ (by show (4 * q.val + 0) % 4 = 0; omega) i j

theorem tile_at (q : Fin 4) (h : 4 * q.val + 3 < cfg0.N) (i j : Fin 1024) :
    tile m c ⟨4 * q.val + 3, h⟩ (ix2 i j) = whole m c (ix2 ⟨q.val * 1024 + i.val, by omega⟩ j) := by
  refine (tile_parts m c q (fun s => lt_of_le_of_lt (by omega) h) i j).trans ?_
  show _ = ∑ k : Fin 5632, (show EReal from m ((c.tc : Thread nD τ).loc main_arg0)
      (ix3 ⟨k.val / 2816, _⟩ ⟨q.val * 1024 + i.val, _⟩ ⟨k.val % 2816, _⟩))
    * (show EReal from m ((c.tc : Thread nD τ).loc main_arg1) (ix3 ⟨k.val / 1408, _⟩ j ⟨k.val % 1408, _⟩))
  refine Fin.sum_mul_add_congr fun s n hl => congrArg₂ (· * ·) ?_ ?_
  · refine (wide_at m c _ _ _).trans (congrArg (m ((c.tc : Thread nD τ).loc main_arg0)) (Mm.ix3_eq ?_ ?_ ?_))
    · show (4 * q.val + s.val) % 4 / 2 = (s.val * 1408 + n.val) / 2816
      omega
    · show (4 * q.val + s.val) / 4 * 1024 + i.val = q.val * 1024 + i.val
      omega
    · show (4 * q.val + s.val) % 2 * 1408 + n.val = (s.val * 1408 + n.val) % 2816
      omega
  · refine (weight_at m c _ _ _).trans (congrArg (m ((c.tc : Thread nD τ).loc main_arg1)) (Mm.ix3_eq ?_ rfl ?_))
    · show (4 * q.val + s.val) % 4 = (s.val * 1408 + n.val) / 1408
      omega
    · show n.val = (s.val * 1408 + n.val) % 1408
      omega

theorem arr_x : (dats m 0 c).arrAt 5 cfg0.N
    = Norm.resX (m ((c.tc : Thread nD τ).loc main_arg2)) (whole m c) (m ((c.tc : Thread nD τ).loc main_arg4))
        (fun x => m ((c.tc : Thread nD τ).loc main_arg3) (ix1 x)) := by
  refine (dats m 0 c).arrAt_eq_of_covers 5 _ (by decide +kernel) fun t hf y => ?_
  show (dats m 0 c).flushed 5 t y = _
  rw [flushed5]
  have h3 : t.val % 4 = 3 := (flush0_5 t).mp hf
  have e5 := (idx t).2.2.2.2.2.1
  have hq := tile_lt t
  have et : 4 * (⟨t.val / 4, hq⟩ : Fin 4).val + 3 = t.val := by
    show 4 * (t.val / 4) + 3 = t.val
    omega
  idx_vars y
  have ej : ((cfg0.win 5).blk t).view.emb (ix2 y0 y1) = ix2 ⟨t.val / 4 * 1024 + y0.val, by omega⟩ y1 := by
    blk_ext [e5]
  rw [ej, out_C m c t h3]
  refine (back_at _ _ _ _ _ _).trans ?_
  have ed : ∀ x, tile m c t (ix2 y0 x) = whole m c (ix2 ⟨t.val / 4 * 1024 + y0.val, by omega⟩ x) := fun x =>
    (congrArg (fun p => tile m c p (ix2 y0 x)) (Fin.ext et.symm)).trans
      (tile_at m c ⟨t.val / 4, hq⟩ (lt_of_eq_of_lt et t.isLt) y0 x)
  have eh : Norm.row (iblk m c 2 t) y0 = Norm.row (m ((c.tc : Thread nD τ).loc main_arg2)) ⟨t.val / 4 * 1024 + y0.val, by omega⟩ :=
    funext fun x => rows_at m c t y0 x
  have eg : (fun x => iblk m c 3 t (ix2 0 x)) = fun x => m ((c.tc : Thread nD τ).loc main_arg3) (ix1 x) :=
    funext fun x => lanes_at m c t x
  have ed' : Norm.row (tile m c t) y0 = Norm.row (whole m c) ⟨t.val / 4 * 1024 + y0.val, by omega⟩ := funext ed
  rw [eh, eg, ed', rest_at]
  rfl

/-- What tile `q` of tokens adds to the gradient of the gain. -/
def gpart (q : ℕ) (j : Fin 1024) : EReal :=
  if h : 4 * q + 3 < cfg0.N then
    ∑ i : Fin 1024, Norm.gain (Norm.row (iblk m c 2 ⟨4 * q + 3, h⟩) i) (Norm.row (tile m c ⟨4 * q + 3, h⟩) i) j
  else 0

theorem held (d : Fin 1) (j : Fin 1024) : ∀ (n : ℕ) (hn : n < cfg0.N),
    (outsAt0 m c n hn).2 (ix2 d j) = ∑ q ∈ Finset.range ((n + 1) / 4), gpart m c q j
  | 0, hn => by
    refine (congrFun (congrArg Prod.snd (out_A m c ⟨0, hn⟩ rfl)) _).trans ?_
    exact zero_at d j
  | n + 1, hn => by
    have hN : n + 1 < 16 := lt_of_lt_of_eq hn N_0
    have ih := held d j n (Nat.lt_of_succ_lt hn)
    by_cases h3 : (n + 1) % 4 = 3
    · refine (congrFun (congrArg Prod.snd (out_C m c ⟨n + 1, hn⟩ h3)) _).trans ?_
      refine (gadd_at _ _ d j).trans ?_
      have e1 : (n + 1 + 1) / 4 = (n + 1) / 4 + 1 := by omega
      have e2 : 4 * ((n + 1) / 4) + 3 = n + 1 := by omega
      rw [e1, Finset.sum_range_succ]
      refine congrArg₂ (· + ·) ih ?_
      rw [gain_at]
      unfold gpart
      rw [dif_pos (lt_of_eq_of_lt e2 hn)]
      exact congrArg (fun p => ∑ i : Fin 1024, Norm.gain (Norm.row (iblk m c 2 p) i) (Norm.row (tile m c p) i) j)
        (Fin.ext e2.symm)
    · have e1 : (n + 1 + 1) / 4 = (n + 1) / 4 := by omega
      rw [e1]
      by_cases h1 : (n + 1) % 4 = 0
      · exact (congrFun (congrArg Prod.snd (out_D m c ⟨n + 1, hn⟩ (by show ¬(n + 1) % 16 = 0; omega) h1)) _).trans ih
      · exact (congrFun (congrArg Prod.snd (out_B m c ⟨n + 1, hn⟩ h1 h3)) _).trans ih

theorem arr_g : (dats m 0 c).arrAt 6 cfg0.N = Norm.resG (m ((c.tc : Thread nD τ).loc main_arg2)) (whole m c) := by
  refine (dats m 0 c).arrAt_eq_of_covers 6 _ (by decide +kernel) fun t hf y => ?_
  show (dats m 0 c).flushed 6 t y = _
  rw [flushed6]
  have h15 : t.val % 16 = 15 := (flush0_6 t).mp hf
  have hN : t.val < 16 := lt_of_lt_of_eq t.isLt N_0
  have e6 := (idx t).2.2.2.2.2.2
  idx_vars y
  have ej : ((cfg0.win 6).blk t).view.emb (ix2 y0 y1) = ix2 y0 y1 := by
    blk_ext [e6]
  rw [ej]
  refine (held m c _ _ t.val t.isLt).trans ?_
  have e : (t.val + 1) / 4 = 4 := by omega
  rw [e, Finset.sum_range]
  show _ = ∑ i : Fin 4096, Norm.gain (Norm.row (m ((c.tc : Thread nD τ).loc main_arg2)) i) (Norm.row (whole m c) i) y1
  have hp : ∀ q : Fin 4, 4 * q.val + 3 < cfg0.N := fun q => lt_of_lt_of_eq (by omega) N_0.symm
  have eq : ∀ q : Fin 4, gpart m c q.val y1 = ∑ i : Fin 1024, Norm.gain (Norm.row (iblk m c 2 ⟨4 * q.val + 3, hp q⟩) i)
      (Norm.row (tile m c ⟨4 * q.val + 3, hp q⟩) i) y1 := fun q => dif_pos (hp q)
  refine (Finset.sum_congr rfl fun q _ => eq q).trans ?_
  refine Fin.sum_mul_add_congr fun q n hl => ?_
  have eh : Norm.row (iblk m c 2 ⟨4 * q.val + 3, hp q⟩) n = Norm.row (m ((c.tc : Thread nD τ).loc main_arg2)) ⟨q.val * 1024 + n.val, hl⟩ :=
    funext fun x => (rows_at m c _ n x).trans (congrArg (m ((c.tc : Thread nD τ).loc main_arg2)) (Mm.ix2_eq (by
      show (4 * q.val + 3) / 4 * 1024 + n.val = q.val * 1024 + n.val
      omega) rfl))
  have ed : Norm.row (tile m c ⟨4 * q.val + 3, hp q⟩) n = Norm.row (whole m c) ⟨q.val * 1024 + n.val, hl⟩ :=
    funext fun x => tile_at m c q (hp q) n x
  rw [eh, ed]

end Cert.GuBwdXIdeal.Value

namespace Cert.GuBwdXRefIdeal.Value

open Cert.GuBwdXRefIdeal Cert.GuBwdXRefIdeal.Gen Idealize.ShloMosaic Idealize.ShloMosaic.TcCoe Idealize.SL.Sem

/-- The host's product. -/
abbrev prodT (a : FVec Ideal S2x4096x2816 .bf16) (b : FVec Ideal S4x1024x1408 .bf16) : FVec Ideal S4096x1024 .f32 :=
  Host.dotGeneral dot_S4096x5632_S1024x5632_S4096x1024_1_1_0_0_n_n none
    (shapeCast _ (transpose S4096x2x2816 [1, 0, 2] (extf (F := Ideal) .f32 a bitsLt_bf16_f32) transposes_S2x4096x2816_S4096x2x2816_1_0_2)
      shapeCasts_S4096x2x2816_S4096x5632)
    (shapeCast _ (transpose S1024x4x1408 [1, 0, 2] (extf (F := Ideal) .f32 b bitsLt_bf16_f32) transposes_S4x1024x1408_S1024x4x1408_1_0_2)
      shapeCasts_S1024x4x1408_S1024x5632)

/-- The mean of the squares of each row, and the epsilon. -/
abbrev meanT (h : FVec Ideal S4096x1024 .f32) : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The gain, once per row. -/
abbrev gainT (g : FVec Ideal S1024 .f32) : FVec Ideal S4096x1024 .f32 :=
  broadcastInDim S4096x1024 ![0, 1] bcast_S1x1024_S4096x1024_0_1 (broadcastInDim S1x1024 ![1] bcast_S1024_S1x1024_1 g)

/-- The cotangent of each row's mean of squares. -/
abbrev slopeT (h : FVec Ideal S4096x1024 .f32) (g : FVec Ideal S1024 .f32) (d : FVec Ideal S4096x1024 .f32) : FVec Ideal S4096 .f32 :=
  Host.reduceAdd (Host.divf (mulf (shapeCast _ (Host.reduceAdd (mulf h (mulf d (gainT g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (meanT h)) (meanT h)))) (broadcastInDim S4096x1 ![] bcast_S_S4096x1 (constant S_ .f32 0x44800000#32))) (constant S_ .f32 0x00000000#32) reducesTo_S4096x1_S4096_d1 h_S_

theorem mean_at (h : FVec Ideal S4096x1024 .f32) (i : Fin 4096) (z : Fin 1) : meanT h (ix2 i z) = Norm.spread (Norm.row h i) := by
  pointwise
  rfl

theorem gain_at (g : FVec Ideal S1024 .f32) (i : Fin 4096) (x : Fin 1024) : gainT g (ix2 i x) = g (ix1 x) := by
  pointwise

theorem slope_at (h : FVec Ideal S4096x1024 .f32) (g : FVec Ideal S1024 .f32) (d : FVec Ideal S4096x1024 .f32) (i : Fin 4096) :
    slopeT h g d (ix1 i) = Norm.slope (Norm.row h i) (fun x => g (ix1 x)) (Norm.row d i) := by
  pointwise [mean_at, gain_at]
  rw [Fin.sum_univ_one]
  rfl

theorem prod (a : FVec Ideal S2x4096x2816 .bf16) (b : FVec Ideal S4x1024x1408 .bf16) :
    prodT a b = Mm.nt (Mm.beside (p := 2) (C := 2816) (N := 5632) rfl a) (Mm.beside (p := 4) (C := 1408) rfl b) := by
  funext j
  idx_vars j
  pointwise [Mm.nt, Mm.beside]

theorem out_x (h d r : FVec Ideal S4096x1024 .f32) (g : FVec Ideal S1024 .f32) :
    addf r (addf (addf (mulf (mulf d (gainT g)) (broadcastInDim S4096x1024 ![0, 1] bcast_S4096x1_S4096x1024_0_1 (Host.rsqrt (meanT h)))) (mulf h (broadcastInDim S4096x1024 ![0] bcast_S4096_S4096x1024_0 (slopeT h g d)))) (mulf (broadcastInDim S4096x1024 ![0] bcast_S4096_S4096x1024_0 (slopeT h g d)) h))
      = Norm.resX h d r (fun x => g (ix1 x)) := by
  funext j
  idx_vars j
  pointwise [mean_at, gain_at, slope_at]
  rfl

theorem out_g (h d : FVec Ideal S4096x1024 .f32) :
    broadcastInDim S1x1024 ![1] bcast_S1024_S1x1024_1 (Host.reduceAdd (shapeCast _ (Host.reduceAdd (mulf (mulf h (broadcastInDim S4096x1024 ![0, 1] bcast_S4096x1_S4096x1024_0_1 (Host.rsqrt (meanT h)))) d) (constant S_ .f32 0x00000000#32) reducesTo_S4096x1024_S1024_d0 h_S_) shapeCasts_S1024_S1x1024) (constant S_ .f32 0x00000000#32) reducesTo_S1x1024_S1024_d0 h_S_)
      = Norm.resG h d := by
  funext j
  idx_vars j
  pointwise [mean_at]
  rw [Fin.sum_univ_one]
  rfl

variable (m : (ℓ : Loc nD τ sig) → Buf (Elt Ideal) ℓ) (c : Dev nD)

theorem out0 : res_main_v44 m c = Norm.resX (m ((c.tc : Thread nD τ).loc main_arg2))
    (Mm.nt (Mm.beside (p := 2) (C := 2816) (N := 5632) rfl (m ((c.tc : Thread nD τ).loc main_arg0)))
      (Mm.beside (p := 4) (C := 1408) rfl (m ((c.tc : Thread nD τ).loc main_arg1))))
    (m ((c.tc : Thread nD τ).loc main_arg4)) (fun x => m ((c.tc : Thread nD τ).loc main_arg3) (ix1 x)) := by
  rw [← prod]
  exact out_x _ _ _ _

theorem out1 (a : FVec Ideal S2x4096x2816 .bf16) (b : FVec Ideal S4x1024x1408 .bf16) (h : FVec Ideal S4096x1024 .f32) :
    broadcastInDim S1x1024 ![1] bcast_S1024_S1x1024_1 (Host.reduceAdd (shapeCast _ (Host.reduceAdd (mulf (mulf h (broadcastInDim S4096x1024 ![0, 1] bcast_S4096x1_S4096x1024_0_1 (Host.rsqrt (meanT h)))) (prodT a b)) (constant S_ .f32 0x00000000#32) reducesTo_S4096x1024_S1024_d0 h_S_) shapeCasts_S1024_S1x1024) (constant S_ .f32 0x00000000#32) reducesTo_S1x1024_S1024_d0 h_S_)
      = Norm.resG h (Mm.nt (Mm.beside (p := 2) (C := 2816) (N := 5632) rfl a) (Mm.beside (p := 4) (C := 1408) rfl b)) := by
  rw [← prod]
  exact out_g _ _

end Cert.GuBwdXRefIdeal.Value

end
-- ==== Proof.GuFwdValue.lean ====
/-
  The gate and up projection: each tile of tokens by one shard of the weight at a time, against the product with the
  four shards side by side.
-/
module

public import proofs.«01_k».proof.Proof.Mm
public import proofs.«01_k».proof.Proof.Gen.GuFwdIdeal.Value
public import proofs.«01_k».proof.Proof.Gen.GuFwdRefIdeal.Run
public import Idealize.ShloMosaic.Lib.Pipeline.ValueKit

@[expose] public section

set_option maxRecDepth 16384

noncomputable section

namespace Cert.GuFwdIdeal.Value

open Cert.GuFwdIdeal Cert.GuFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val % 4, 0] ∧ win0_1.index t = ![t.val / 4, 0, 0]
    ∧ win0_2.index t = ![t.val % 4, t.val / 4] := by decide +kernel

theorem pay_at (a : Vec Ideal S1024x1024 .bf16) (b : Vec Ideal S1x1024x1408 .bf16) (i : Fin 1024) (j : Fin 1408) :
    k0_pay1 a b (ix2 i j) = ∑ n : Fin 1024, a (ix2 i n) * b (ix3 0 n j) := by
  unfold k0_pay1
  pointwise

theorem arr : (dats m 0 c).arrAt 2 cfg0.N
    = Mm.nn (m ((c.tc : Thread nD τ).loc main_arg0)) (Mm.beside (p := 4) (C := 1408) rfl (m ((c.tc : Thread nD τ).loc main_arg1))) := by
  refine (dats m 0 c).arrAt_eq_of_covers 2 _ (by decide +kernel) fun t hf y => ?_
  show (dats m 0 c).flushed 2 t y = _
  rw [flushed2]
  frame_out
  obtain ⟨e0, e1, e2⟩ := idx t
  idx_vars y
  refine (pay_at _ _ _ _).trans ?_
  unfold Mm.nn Mm.beside
  refine Finset.sum_congr rfl fun n _ => congrArg₂ (· * ·) ?_ ?_
  · blk_ext [iblk, V, e0, e2]
  · blk_ext [iblk, V, e1, e2]

end Cert.GuFwdIdeal.Value

namespace Cert.GuFwdRefIdeal.Value

open Cert.GuFwdRefIdeal Cert.GuFwdRefIdeal.Gen Idealize.ShloMosaic Idealize.ShloMosaic.TcCoe Idealize.SL.Sem

theorem out (a : FVec Ideal S4096x1024 .bf16) (b : FVec Ideal S4x1024x1408 .bf16) :
    truncf .bf16 (Host.dotGeneral dot_S4096x1024_S1024x5632_S4096x5632_1_0_0_1_n_n none (extf (F := Ideal) .f32 a bitsLt_bf16_f32)
        (shapeCast _ (transpose S1024x4x1408 [1, 0, 2] (extf (F := Ideal) .f32 b bitsLt_bf16_f32) transposes_S4x1024x1408_S1024x4x1408_1_0_2)
          shapeCasts_S1024x4x1408_S1024x5632)) bitsLt_bf16_f32
      = Mm.nn a (Mm.beside (p := 4) (C := 1408) rfl b) := by
  funext j
  idx_vars j
  pointwise [Mm.nn, Mm.beside]

end Cert.GuFwdRefIdeal.Value

end
-- ==== Proof.DActValue.lean ====
/-
  The gradient of the gated hidden layer: four tiles of tokens, each a product with the whole weight, against the
  gradient of the plain product.
-/
module

public import proofs.«01_k».proof.Proof.Mm
public import proofs.«01_k».proof.Proof.Gen.DActIdeal.Value
public import proofs.«01_k».proof.Proof.Gen.DActRefIdeal.Run
public import Idealize.ShloMosaic.Lib.Pipeline.ValueKit

@[expose] public section

set_option maxRecDepth 16384

noncomputable section

namespace Cert.DActIdeal.Value

open Cert.DActIdeal Cert.DActIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] := by
  decide +kernel

theorem pay_at (a : Vec Ideal S1024x1024 .f32) (b : Vec Ideal S2816x1024 .bf16) (i : Fin 1024) (j : Fin 2816) :
    k0_pay1 a b (ix2 i j) = ∑ n : Fin 1024, a (ix2 i n) * b (ix2 j n) := by
  unfold k0_pay1
  pointwise

theorem arr : (dats m 0 c).arrAt 2 cfg0.N
    = Mm.nt (m ((c.tc : Thread nD τ).loc main_arg0)) (m ((c.tc : Thread nD τ).loc main_arg1)) := by
  refine (dats m 0 c).arrAt_eq_of_covers 2 _ (by decide +kernel) fun t hf y => ?_
  show (dats m 0 c).flushed 2 t y = _
  rw [flushed2]
  frame_out
  obtain ⟨e0, e1, e2⟩ := idx t
  idx_vars y
  refine (pay_at _ _ _ _).trans ?_
  unfold Mm.nt
  refine Finset.sum_congr rfl fun n _ => congrArg₂ (· * ·) ?_ ?_
  · blk_ext [iblk, V, e0, e2]
  · blk_ext [iblk, V, e1, e2]

end Cert.DActIdeal.Value

namespace Cert.DActRefIdeal.Value

open Cert.DActRefIdeal Cert.DActRefIdeal.Gen Idealize.ShloMosaic Idealize.ShloMosaic.TcCoe Idealize.SL.Sem

theorem out (a : FVec Ideal S4096x1024 .f32) (b : FVec Ideal S2816x1024 .bf16) :
    truncf .bf16 (Host.dotGeneral dot_S4096x1024_S2816x1024_S4096x2816_1_1_0_0_n_n none a (extf (F := Ideal) .f32 b bitsLt_bf16_f32)) bitsLt_bf16_f32
      = Mm.nt a b := by
  funext j
  idx_vars j
  pointwise [Mm.nt]

end Cert.DActRefIdeal.Value

end
-- ==== Proof.DwDownValue.lean ====
/-
  The gradient of the down projection: two tiles of its rows, each summed over four tiles of tokens.
-/
module

public import proofs.«01_k».proof.Proof.Mm
public import proofs.«01_k».proof.Proof.Gen.DwDownIdeal.Value
public import proofs.«01_k».proof.Proof.Gen.DwDownRefIdeal.Run
public import Idealize.ShloMosaic.Lib.Pipeline.ValueKit

@[expose] public section

set_option maxRecDepth 16384

noncomputable section

namespace Cert.DwDownIdeal.Value

open Cert.DwDownIdeal Cert.DwDownIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val % 4, t.val / 4] ∧ win0_1.index t = ![t.val % 4, 0]
    ∧ win0_2.index t = ![t.val / 4, 0] := by decide +kernel

theorem zero_at (i : Fin 1408) (j : Fin 1024) : k0_pay1 (F := Ideal) (ix2 i j) = 0 := by
  unfold k0_pay1
  pointwise

theorem pay_at (o : Vec Ideal S1408x1024 .f32) (a : Vec Ideal S1024x1408 .bf16) (b : Vec Ideal S1024x1024 .f32)
    (i : Fin 1408) (j : Fin 1024) :
    k0_pay2 o a b (ix2 i j) = o (ix2 i j) + ∑ n : Fin 1024, a (ix2 n i) * b (ix2 n j) := by
  unfold k0_pay2
  pointwise

/-- What tile `t` adds. -/
def part (t : Fin cfg0.N) : S1408x1024.Idx → EReal := fun y =>
  ∑ n : Fin 1024, (show EReal from iblk m c 0 t (ix2 n (y 0))) * (show EReal from iblk m c 1 t (ix2 n (y 1)))

theorem part_at (t : Fin cfg0.N) (i : Fin 1408) (j : Fin 1024) : part m c t (ix2 i j) =
    ∑ n : Fin 1024, (show EReal from iblk m c 0 t (ix2 n i)) * (show EReal from iblk m c 1 t (ix2 n j)) := rfl

theorem held (t : Fin cfg0.N) (h : t.val % 4 = 3) (y : S1408x1024.Idx) :
    outsAt0 m c t.val t.isLt y
      = (0 : EReal) + ∑ s : Fin 4, part m c ⟨4 * (t.val / 4) + s.val, Pipeline.run_point_lt_of_flush t h s⟩ y := by
  refine Pipeline.eq_sum_fin_of_reset_step_apply_of_flush (fun n h => outsAt0 m c n h) 4 (fun _ => (0 : EReal)) (part m c) ?_ ?_ t h y
  · intro t h0 y
    show outsAt0 m c t.val t.isLt y = _
    rw [outsAt0_A m c t h0, out_A_2_eq]
    idx_vars y
    rw [pay_at, zero_at]
    rfl
  · intro t h0 y
    show outsAt0 m c t.val t.isLt y = _
    rw [outsAt0_B m c t h0, out_B_2_eq]
    idx_vars y
    rw [pay_at]
    rfl

theorem arr : (dats m 0 c).arrAt 2 cfg0.N
    = Mm.tn (m ((c.tc : Thread nD τ).loc main_arg0)) (m ((c.tc : Thread nD τ).loc main_arg1)) := by
  refine (dats m 0 c).arrAt_eq_of_covers 2 _ (by decide +kernel) fun t hf y => ?_
  show (dats m 0 c).flushed 2 t y = _
  rw [flushed2]
  have h3 : t.val % 4 = 3 := (flush0_2 t).mp hf
  have e2 := (idx t).2.2
  idx_vars y
  refine (held m c t h3 _).trans ?_
  rw [zero_add]
  refine (Finset.sum_congr rfl fun s _ => part_at m c _ _ _).trans ?_
  unfold Mm.tn
  refine Fin.sum_mul_add_congr fun s n hl => congrArg₂ (· * ·) ?_ ?_
  · have e := (idx ⟨4 * (t.val / 4) + s.val, Pipeline.run_point_lt_of_flush t h3 s⟩).1
    blk_ext [iblk, V, e, e2]
  · have e := (idx ⟨4 * (t.val / 4) + s.val, Pipeline.run_point_lt_of_flush t h3 s⟩).2.1
    blk_ext [iblk, V, e, e2]

end Cert.DwDownIdeal.Value

namespace Cert.DwDownRefIdeal.Value

open Cert.DwDownRefIdeal Cert.DwDownRefIdeal.Gen Idealize.ShloMosaic Idealize.ShloMosaic.TcCoe Idealize.SL.Sem

theorem out (a : FVec Ideal S4096x2816 .bf16) (b : FVec Ideal S4096x1024 .f32) :
    transpose S2816x1024 [1, 0] (Host.dotGeneral dot_S4096x1024_S4096x2816_S1024x2816_0_0_1_1_n_n none b (extf (F := Ideal) .f32 a bitsLt_bf16_f32))
      transposes_S1024x2816_S2816x1024_1_0 = Mm.tn a b := by
  funext j
  idx_vars j
  pointwise [Mm.tn]
  exact Finset.sum_congr rfl fun _ _ => mul_comm _ _

end Cert.DwDownRefIdeal.Value

end
-- ==== Proof.Forward.lean ====
/-
  One chunk of the delta rule's forward pass, written once over the extended reals: what a chunk holds, what it puts
  out, and the state that it leaves; and the two arrays the call returns as functions of its arguments.
-/
module

public import proofs.«01_k».proof.Proof.Args

@[expose] public section

noncomputable section

namespace Cert.Scan

open Idealize.ShloMosaic

/-- What one chunk holds: four matrices per head, the intra-chunk attention, and the decay of the chunk. -/
structure Chunk where
  u : Fin 6 → Fin 64 → Fin 128 → EReal
  w : Fin 6 → Fin 64 → Fin 128 → EReal
  qd : Fin 6 → Fin 64 → Fin 128 → EReal
  kt : Fin 6 → Fin 64 → Fin 128 → EReal
  att : Fin 6 → Fin 64 → Fin 64 → EReal
  dc : Fin 6 → EReal

/-- A state: one square matrix per head. -/
abbrev State := Fin 6 → Fin 128 → Fin 128 → EReal

variable (x : Chunk) (s : State)

/-- The corrected values of the chunk. -/
def delta (h : Fin 6) (t : Fin 64) (e : Fin 128) : EReal := x.u h t e - ∑ k : Fin 128, x.w h t k * s h k e

/-- What the chunk puts out. -/
def out (h : Fin 6) (t : Fin 64) (e : Fin 128) : EReal :=
  (∑ k : Fin 128, x.qd h t k * s h k e) + ∑ r : Fin 64, x.att h t r * delta x s h r e

/-- The state that the chunk leaves. -/
def next : State := fun h k e => x.dc h * s h k e + ∑ t : Fin 64, x.kt h t k * delta x s h t e

/-- The state that comes into each chunk: zero into the first. -/
def state (chunk : ℕ → Chunk) : ℕ → State
  | 0 => fun _ _ _ => 0
  | n + 1 => next (chunk n) (state chunk n)

/-- The arrays of the call. -/
structure Args where
  u : Dns.Rows
  w : Dns.Rows
  qd : Dns.Rows
  kt : Dns.Rows
  att : (⟨4, ![64, 6, 64, 64]⟩ : Shape).Idx → EReal
  dc : (⟨3, ![64, 8, 128]⟩ : Shape).Idx → EReal

/-- Chunk `n` of the arrays. -/
def Args.chunk (A : Args) (n : Fin 64) : Chunk where
  u h t e := A.u (ix2 (Dns.tok n t) (Dns.lane h e))
  w h t e := A.w (ix2 (Dns.tok n t) (Dns.lane h e))
  qd h t e := A.qd (ix2 (Dns.tok n t) (Dns.lane h e))
  kt h t e := A.kt (ix2 (Dns.tok n t) (Dns.lane h e))
  att h t s := A.att (ix4 n h t s)
  dc h := A.dc (ix3 n ⟨h.val, by omega⟩ 0)

/-- All chunks, by number. -/
def Args.chunks (A : Args) (n : ℕ) : Chunk := A.chunk (Fin.ofNat 64 n)

/-- What all chunks put out, a row per token. -/
def resOut (A : Args) : Dns.Rows := Dns.rows fun n => out (A.chunk n) (state A.chunks n.val)

/-- The state that comes into each chunk. -/
def resStates (A : Args) : (⟨4, ![64, 6, 128, 128]⟩ : Shape).Idx → EReal := fun j =>
  state A.chunks (j 0).val (j 1) (j 2) (j 3)

end Cert.Scan

end
-- ==== Proof.DnsFwdValue.lean ====
/-
  The arrays the forward scan leaves: point `t` reads chunk `t` of the arguments, and the scratch carries the state.
-/
module

public import proofs.«01_k».proof.Proof.Forward
public import proofs.«01_k».proof.Proof.KernelValue
public import proofs.«01_k».proof.Proof.Gen.DnsFwdIdeal.Value
public import Idealize.ShloMosaic.Lib.Pipeline.ValueKit

@[expose] public section

set_option maxRecDepth 16384

noncomputable section
namespace Cert.DnsFwdIdeal.Value

open Cert.DnsFwdIdeal Cert.DnsFwdIdeal.Gen Idealize.ShloMosaic Idealize.ShloMosaic.TcCoe Idealize.SL.Sem
open Idealize.ShloMosaic.Pipeline (Dat)
open Cert.KernelIdeal.Value (col stk flat canon6 first_lane)

theorem pay6_eq (X : Vec Ideal S64x768 .f32) :
    k0_pay6 (View.ld X (Rect.unit ![0, 0] ![64, 128] inb_S64x768_S64x128_0_0))
      (View.ld X (Rect.unit ![0, 128] ![64, 128] inb_S64x768_S64x128_0_128))
      (View.ld X (Rect.unit ![0, 256] ![64, 128] inb_S64x768_S64x128_0_256))
      (View.ld X (Rect.unit ![0, 384] ![64, 128] inb_S64x768_S64x128_0_384))
      (View.ld X (Rect.unit ![0, 512] ![64, 128] inb_S64x768_S64x128_0_512))
      (View.ld X (Rect.unit ![0, 640] ![64, 128] inb_S64x768_S64x128_0_640)) = stk X := by
  funext j
  idx_vars j
  pointwise [k0_pay6, stk]
  fin_vals j0 with hk
  all_goals simp [hk, col]

theorem pay7_eq (X : Vec Ideal S64x768 .bf16) :
    k0_pay7 (View.ld X (Rect.unit ![0, 0] ![64, 128] inb_S64x768_S64x128_0_0))
      (View.ld X (Rect.unit ![0, 128] ![64, 128] inb_S64x768_S64x128_0_128))
      (View.ld X (Rect.unit ![0, 256] ![64, 128] inb_S64x768_S64x128_0_256))
      (View.ld X (Rect.unit ![0, 384] ![64, 128] inb_S64x768_S64x128_0_384))
      (View.ld X (Rect.unit ![0, 512] ![64, 128] inb_S64x768_S64x128_0_512))
      (View.ld X (Rect.unit ![0, 640] ![64, 128] inb_S64x768_S64x128_0_640)) = stk X := by
  funext j
  idx_vars j
  pointwise [k0_pay7, stk]
  fin_vals j0 with hk
  all_goals simp [hk, col]

theorem pay8_eq (X : Vec Ideal S64x768 .bf16) :
    k0_pay8 (View.ld X (Rect.unit ![0, 0] ![64, 128] inb_S64x768_S64x128_0_0))
      (View.ld X (Rect.unit ![0, 128] ![64, 128] inb_S64x768_S64x128_0_128))
      (View.ld X (Rect.unit ![0, 256] ![64, 128] inb_S64x768_S64x128_0_256))
      (View.ld X (Rect.unit ![0, 384] ![64, 128] inb_S64x768_S64x128_0_384))
      (View.ld X (Rect.unit ![0, 512] ![64, 128] inb_S64x768_S64x128_0_512))
      (View.ld X (Rect.unit ![0, 640] ![64, 128] inb_S64x768_S64x128_0_640)) = stk X := by
  funext j
  idx_vars j
  pointwise [k0_pay8, stk]
  fin_vals j0 with hk
  all_goals simp [hk, col]

theorem pay9_eq (X : Vec Ideal S64x768 .bf16) :
    k0_pay9 (View.ld X (Rect.unit ![0, 0] ![64, 128] inb_S64x768_S64x128_0_0))
      (View.ld X (Rect.unit ![0, 128] ![64, 128] inb_S64x768_S64x128_0_128))
      (View.ld X (Rect.unit ![0, 256] ![64, 128] inb_S64x768_S64x128_0_256))
      (View.ld X (Rect.unit ![0, 384] ![64, 128] inb_S64x768_S64x128_0_384))
      (View.ld X (Rect.unit ![0, 512] ![64, 128] inb_S64x768_S64x128_0_512))
      (View.ld X (Rect.unit ![0, 640] ![64, 128] inb_S64x768_S64x128_0_640)) = stk X := by
  funext j
  idx_vars j
  pointwise [k0_pay9, stk]
  fin_vals j0 with hk
  all_goals simp [hk, col]

/-- The chunk that one point's blocks hold. -/
def ofBlocks (X0 : Vec Ideal S64x768 .f32) (X1 X2 X3 : Vec Ideal S64x768 .bf16) (X4 : Vec Ideal S1x6x64x64 .bf16)
    (X5 : Vec Ideal S1x8x128 .f32) : Scan.Chunk where
  u h t e := X0 (ix2 t (col h e))
  w h t e := X1 (ix2 t (col h e))
  qd h t e := X2 (ix2 t (col h e))
  kt h t e := X3 (ix2 t (col h e))
  att h t s := X4 (ix4 0 h t s)
  dc h := X5 (ix3 0 ⟨h.val, by omega⟩ 0)

/-- A carried scratch as one matrix per head. -/
def toState (a : Vec Ideal S6x128x128 .f32) : Scan.State := fun h k e => a (ix3 h k e)

section
variable (X0 : Vec Ideal S64x768 .f32) (X1 X2 X3 : Vec Ideal S64x768 .bf16) (X4 : Vec Ideal S1x6x64x64 .bf16)
  (X5 : Vec Ideal S1x8x128 .f32) (a : Vec Ideal S6x128x128 .f32)

theorem pay10_apply (h : Fin 6) (t : Fin 64) (e : Fin 128) :
    k0_pay10 a (stk X0) (stk X1) (ix3 h t e) = Scan.delta (ofBlocks X0 X1 X2 X3 X4 X5) (toState a) h t e := by
  pointwise [k0_pay10, stk, Scan.delta, ofBlocks, toState]

theorem pay11_apply (h : Fin 6) (t : Fin 64) (e : Fin 128) :
    k0_pay11 a (stk X0) (stk X1) (stk X2) X4 (ix3 h t e) = Scan.out (ofBlocks X0 X1 X2 X3 X4 X5) (toState a) h t e := by
  unfold k0_pay11
  pointwise [pay10_apply X0 X1 X2 X3 X4 X5]
  rfl

theorem pay12_apply (h : Fin 6) (k e : Fin 128) :
    k0_pay12 a (stk X0) (stk X1) (stk X3) (View.ld X5 (Rect.unit ![0, 0, 0] ![1, 6, 128] inb_S1x8x128_S1x6x128_0_0_0)) (ix3 h k e)
      = Scan.next (ofBlocks X0 X1 X2 X3 X4 X5) (toState a) h k e := by
  unfold k0_pay12
  pointwise [pay10_apply X0 X1 X2 X3 X4 X5]
  simp only [first_lane]
  rw [Finset.sum_eq_single 0]
  · rfl
  · intro b _ hb
    rw [if_neg hb]; rfl
  · simp

end

variable (m : (ℓ : Loc nD τ sig) → Buf (Elt Ideal) ℓ)

/-- The chunk that point `t` reads. -/
def kx (c : Dev nD) (t : Fin cfg0.N) : Scan.Chunk :=
  ofBlocks (iblk m c 0 t) (iblk m c 1 t) (iblk m c 2 t) (iblk m c 3 t) (iblk m c 4 t) (iblk m c 5 t)

theorem read_scratch (h : (Memref.whole cc0_scratch0).IsWhole) (x : Vec Ideal S6x128x128 .f32) :
    View.read (Elt Ideal) (View.whole cc0_scratch0) (h.unread x) = x := h.read_unread x

/-- What the scratch holds when point `t`'s products read it: zero at the first point, else what the point before left. -/
def bef (c : Dev nD) (t : Fin cfg0.N) : Vec Ideal S6x128x128 .f32 :=
  if t.val % 64 = 0 then k0_pay4 (F := Ideal)
  else (outsAt0 m c (t.val - 1) (lt_of_le_of_lt (Nat.sub_le _ _) t.isLt)).2.2

/-- What point `t` writes back of the output. -/
theorem flushed6_eq' (c : Dev nD) (t : Fin cfg0.N) : (dats m 0 c).flushed 6 t
    = (cfg0.win 6).cut (grid0.coords t) (flat (Scan.out (kx m c t) (toState (bef m c t)))) := by
  by_cases h0 : t.val % 64 = 0
  · rw [flushed6_A m c t h0, bef, if_pos h0]
    frame_out
    simp only [pay6_eq, pay7_eq, pay8_eq, pay9_eq, read_scratch]
    refine congrArg _ (canon6 _ _ _ _ _ _ _ ?_ ?_ ?_ ?_ ?_ ?_)
    all_goals intro t e
    all_goals pointwise [k0_pay1, k0_pay2, k0_pay13, k0_pay14, k0_pay15, k0_pay16]
    all_goals exact pay11_apply _ _ _ _ _ _ _ _ _ _
  · rw [flushed6_B m c t h0, bef, if_neg h0]
    frame_out
    simp only [pay6_eq, pay7_eq, pay8_eq, pay9_eq, read_scratch]
    refine congrArg _ (canon6 _ _ _ _ _ _ _ ?_ ?_ ?_ ?_ ?_ ?_)
    all_goals intro t e
    all_goals pointwise [k0_pay1, k0_pay2, k0_pay13, k0_pay14, k0_pay15, k0_pay16]
    all_goals exact pay11_apply _ _ _ _ _ _ _ _ _ _

/-- What point `t` writes back of the incoming states. -/
theorem flushed7_eq' (c : Dev nD) (t : Fin cfg0.N) : (dats m 0 c).flushed 7 t
    = (cfg0.win 7).cut (grid0.coords t) (k0_pay5 (bef m c t)) := by
  by_cases h0 : t.val % 64 = 0
  · rw [flushed7_A m c t h0, bef, if_pos h0]
    frame_out
  · rw [flushed7_B m c t h0, bef, if_neg h0]
    frame_out
    simp only [read_scratch]

/-- What point `t` leaves in the scratch. -/
theorem scratch_eq (c : Dev nD) (t : Fin cfg0.N) : toState (outsAt0 m c t.val t.isLt).2.2
    = Scan.next (kx m c t) (toState (bef m c t)) := by
  funext h k e
  by_cases h0 : t.val % 64 = 0
  · rw [outsAt0_A m c t h0, bef, if_pos h0]
    dsimp only
    frame_out
    simp only [pay6_eq, pay7_eq, pay8_eq, pay9_eq, read_scratch]
    unfold toState
    pointwise [k0_pay3]
    exact pay12_apply _ _ _ _ _ _ _ h k e
  · rw [outsAt0_B m c t h0, bef, if_neg h0]
    dsimp only
    frame_out
    simp only [pay6_eq, pay7_eq, pay8_eq, pay9_eq, read_scratch]
    unfold toState
    pointwise [k0_pay3]
    exact pay12_apply _ _ _ _ _ _ _ h k e

variable (c : Dev nD)

/-- The arrays the kernel is given. -/
def kerArgs : Scan.Args where
  u := m ((c.tc : Thread nD τ).loc main_arg0)
  w := m ((c.tc : Thread nD τ).loc main_arg1)
  qd := m ((c.tc : Thread nD τ).loc main_arg2)
  kt := m ((c.tc : Thread nD τ).loc main_arg3)
  att := m ((c.tc : Thread nD τ).loc main_arg4)
  dc := m ((c.tc : Thread nD τ).loc main_arg5)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0, 0, 0]
    ∧ win0_5.index t = ![t.val, 0, 0] ∧ win0_6.index t = ![t.val, 0] ∧ win0_7.index t = ![t.val, 0, 0, 0] := by decide +kernel

/-- The chunk that point `t` works on. -/
def num (t : Fin cfg0.N) : Fin 64 := ⟨t.val, lt_of_lt_of_eq t.isLt N_0⟩

theorem kx_eq (t : Fin cfg0.N) : kx m c t = (kerArgs m c).chunk (num t) := by
  unfold kx ofBlocks Scan.Args.chunk
  rw [Scan.Chunk.mk.injEq]
  refine ⟨?_, ?_, ?_, ?_, ?_, ?_⟩
  · funext h t' e
    blk_ext [iblk, V, idx t, col, Dns.tok, Dns.lane, num, kerArgs]
  · funext h t' e
    blk_ext [iblk, V, idx t, col, Dns.tok, Dns.lane, num, kerArgs]
  · funext h t' e
    blk_ext [iblk, V, idx t, col, Dns.tok, Dns.lane, num, kerArgs]
  · funext h t' e
    blk_ext [iblk, V, idx t, col, Dns.tok, Dns.lane, num, kerArgs]
  · funext h t' e
    blk_ext [iblk, V, idx t, col, Dns.tok, Dns.lane, num, kerArgs]
  · funext h
    blk_ext [iblk, V, idx t, col, Dns.tok, Dns.lane, num, kerArgs]

/-- The state that point `t` finds is the one that comes into its chunk. -/
theorem bef_state : ∀ (n : ℕ) (h : n < cfg0.N), toState (bef m c ⟨n, h⟩) = Scan.state (kerArgs m c).chunks n
  | 0, h => by
    have e0 : bef m c ⟨0, h⟩ = k0_pay4 (F := Ideal) := if_pos rfl
    rw [e0]
    funext a b e
    unfold toState
    pointwise [k0_pay4]
    rfl
  | n + 1, h => by
    have hN : n + 1 < 64 := h
    have h' : n < cfg0.N := by omega
    unfold bef
    rw [if_neg (by show ¬ (n + 1) % 64 = 0; omega)]
    refine (scratch_eq m c ⟨n, h'⟩).trans ?_
    rw [bef_state n h', kx_eq]
    show _ = Scan.next ((kerArgs m c).chunks n) _
    unfold Scan.Args.chunks
    congr 2
    apply Fin.ext
    show n = n % 64
    omega

theorem state_num (t : Fin cfg0.N) : toState (bef m c t) = Scan.state (kerArgs m c).chunks (num t).val :=
  bef_state m c t.val t.isLt

theorem arr_out : (dats m 0 c).arrAt 6 cfg0.N = Scan.resOut (kerArgs m c) := by
  refine (dats m 0 c).arrAt_eq_of_covers 6 _ (by decide +kernel) fun t hf y => ?_
  show (dats m 0 c).flushed 6 t y = _
  rw [flushed6_eq', kx_eq, state_num]
  have e := (idx t).2.2.2.2.2.2.1
  idx_vars y
  refine Eq.trans ?_ (Dns.rows_at (fun n => Scan.out ((kerArgs m c).chunk n) (Scan.state (kerArgs m c).chunks n.val)) (num t) y0 y1 _ ?_ ?_).symm
  · rfl
  · blk_simp [e]
    rfl
  · blk_simp [e]

theorem arr_states : (dats m 0 c).arrAt 7 cfg0.N = Scan.resStates (kerArgs m c) := by
  refine (dats m 0 c).arrAt_eq_of_covers 7 _ (by decide +kernel) fun t hf y => ?_
  show (dats m 0 c).flushed 7 t y = _
  rw [flushed7_eq']
  have e := (idx t).2.2.2.2.2.2.2
  idx_vars y
  have ei : ((cfg0.win 7).blk t).view.emb (ix4 y0 y1 y2 y3) = ix4 (num t) y1 y2 y3 := by
    blk_ext [e, num]
  rw [ei]
  show k0_pay5 (bef m c t) (ix4 y0 y1 y2 y3) = Scan.state (kerArgs m c).chunks (num t).val y1 y2 y3
  rw [← state_num]
  pointwise [k0_pay5]
  rfl

end Cert.DnsFwdIdeal.Value
end
-- ==== Proof.DnsFwdRefValue.lean ====
/-
  The reference's forward scan: each trip of its loop puts out one chunk and keeps the state that came into it.
-/
module

public import proofs.«01_k».proof.Proof.Forward
public import proofs.«01_k».proof.Proof.ChunkSlices
public import proofs.«01_k».proof.Proof.Gen.DnsFwdRefIdeal.Run
public import Idealize.ShloMosaic.Lib.Tactic
public import Idealize.ShloMosaic.Lib.Tactic.CleanTypes

@[expose] public section

set_option maxRecDepth 16384

noncomputable section
namespace Cert.DnsFwdRefIdeal.Value

open Cert.DnsFwdRefIdeal Cert.DnsFwdRefIdeal.Gen Idealize.ShloMosaic Idealize.ShloMosaic.TcCoe Idealize.SL.Sem Idealize.ShloMosaic.StableHlo

/-- What the loop carries, over the extended reals. -/
abbrev Val := Valuation τ sig (Elt Ideal)

variable {V : Val} {n : Fin 64}

/-- The trip works on chunk `n`. -/
abbrev At (V : Val) (n : Fin 64) : Prop := V (Proc.devRef .tc main_v17_6) = fun _ => BitVec.ofNat 32 n.val

/-- Chunk `n` as the loop's arrays hold it. -/
def chunkOf (V : Val) (n : Fin 64) : Scan.Chunk where
  u h t e := V (Proc.devRef .tc main_v17_0) (ix4 n h t e)
  w h t k := V (Proc.devRef .tc main_v17_1) (ix4 n h t k)
  qd h t k := V (Proc.devRef .tc main_v17_3) (ix4 n h t k)
  kt h t k := V (Proc.devRef .tc main_v17_4) (ix4 n h t k)
  att h t s := V (Proc.devRef .tc main_v17_2) (ix4 n h t s)
  dc h := V (Proc.devRef .tc main_v17_5) (ix2 n h)

/-- The state as the loop carries it. -/
def stateOf (V : Val) : Scan.State := fun h k e => V (Proc.devRef .tc main_v17_7) (ix3 h k e)

theorem slice_wide (X : S64x6x64x128.Idx → EReal) (start : Fin 4 → Int) (h) (hs : start 0 = (BitVec.ofNat 32 n.val).toInt) :
    Host.dynamicSlice S1x6x64x128 X start h = fun j => X (ix4 n (j 1) (j 2) (j 3)) := Dns.slice4 n X start h hs
theorem slice_square (X : S64x6x64x64.Idx → EReal) (start : Fin 4 → Int) (h) (hs : start 0 = (BitVec.ofNat 32 n.val).toInt) :
    Host.dynamicSlice S1x6x64x64 X start h = fun j => X (ix4 n (j 1) (j 2) (j 3)) := Dns.slice4 n X start h hs
theorem slice_row (X : S64x6.Idx → EReal) (start : Fin 2 → Int) (h) (hs : start 0 = (BitVec.ofNat 32 n.val).toInt) :
    Host.dynamicSlice S1x6 X start h = fun j => X (ix2 n (j 1)) := Dns.slice2 n X start h hs

theorem v27_apply (hn : At V n) (h : Fin 6) (t : Fin 64) (e : Fin 128) :
    res_main_while0b_v27 V (ix3 h t e) = Scan.delta (chunkOf V n) (stateOf V) h t e := by
  unfold res_main_while0b_v27
  rw [hn]
  clean_types
  rw [slice_wide (n := n) _ _ _ rfl, slice_wide (n := n) _ _ _ rfl]
  pointwise
  rfl

theorem step_state (hn : At V n) : (fun h k e => step_main_v17_7 V (ix3 h k e)) = Scan.next (chunkOf V n) (stateOf V) := by
  funext h k e
  unfold step_main_v17_7
  rw [id_eq, hn]
  clean_types
  rw [slice_wide (n := n) _ _ _ rfl, slice_row (n := n) _ _ _ rfl]
  pointwise
  simp only [v27_apply hn]
  rfl

theorem step_out (hn : At V n) (m : Fin 64) (h : Fin 6) (t : Fin 64) (e : Fin 128) :
    step_main_v17_8 V (ix4 m h t e) = if m = n then Scan.out (chunkOf V n) (stateOf V) h t e else V (Proc.devRef .tc main_v17_8) (ix4 m h t e) := by
  unfold step_main_v17_8
  rw [hn, id_eq]
  refine (Dns.update4 n _ _ _ _ rfl m h t e).trans (if_congr Iff.rfl ?_ rfl)
  clean_types
  rw [slice_wide (n := n) _ _ _ rfl, slice_square (n := n) _ _ _ rfl]
  pointwise
  simp only [v27_apply hn]
  rfl

theorem step_keep (hn : At V n) (m : Fin 64) (h : Fin 6) (k e : Fin 128) :
    step_main_v17_9 V (ix4 m h k e) = if m = n then stateOf V h k e else V (Proc.devRef .tc main_v17_9) (ix4 m h k e) := by
  unfold step_main_v17_9
  rw [hn, id_eq]
  refine (Dns.update4 n _ _ _ _ rfl m h k e).trans (if_congr Iff.rfl ?_ rfl)
  pointwise
  rfl

/-- All chunks of the arrays the loop starts from. -/
def chunks (V0 : Val) (n : ℕ) : Scan.Chunk := chunkOf V0 (Fin.ofNat 64 n)

/-- What holds before trip `k`: the inputs are untouched, the state is that which comes into chunk `k`, and every chunk
    passed already holds its output and its incoming state. -/
structure Inv (V0 V : Val) (k : ℕ) : Prop where
  ins : chunkOf V = chunkOf V0
  ctr : V (Proc.devRef .tc main_v17_6) = fun _ => BitVec.ofNat 32 k
  state : stateOf V = Scan.state (chunks V0) k
  out : ∀ n : Fin 64, n.val < k → ∀ h t e, V (Proc.devRef .tc main_v17_8) (ix4 n h t e) = Scan.out (chunkOf V0 n) (Scan.state (chunks V0) n.val) h t e
  keep : ∀ n : Fin 64, n.val < k → ∀ h t e, V (Proc.devRef .tc main_v17_9) (ix4 n h t e) = Scan.state (chunks V0) n.val h t e

theorem chunkOf_STEP : chunkOf (STEP V) = chunkOf V := by
  funext n
  unfold chunkOf
  rw [STEP_main_v17_0, STEP_main_v17_1, STEP_main_v17_2, STEP_main_v17_3, STEP_main_v17_4, STEP_main_v17_5]

theorem inv_step {V0 V : Val} {k : ℕ} (hk : k < 64) (I : Inv V0 V k) : Inv V0 (STEP V) (k + 1) := by
  have hn : At V ⟨k, hk⟩ := I.ctr
  have hp : ∀ m : Fin 64, m.val < k + 1 → m ≠ ⟨k, hk⟩ → m.val < k := by
    intro m h1 h2
    have : m.val ≠ k := fun e => h2 (Fin.ext e)
    omega
  refine ⟨chunkOf_STEP.trans I.ins, ?_, ?_, ?_, ?_⟩
  · rw [STEP_main_v17_6]
    unfold step_main_v17_6
    rw [id_eq, I.ctr]
    funext j
    show BitVec.ofNat 32 k + 1#32 = BitVec.ofNat 32 (k + 1)
    rw [BitVec.ofNat_add]
  · unfold stateOf
    rw [STEP_main_v17_7, step_state hn, I.ins, I.state]
    show _ = Scan.next (chunks V0 k) _
    unfold chunks
    congr 2
    apply Fin.ext
    show k = k % 64
    omega
  · intro m hm h t e
    rw [STEP_main_v17_8, step_out hn]
    split
    · next e => rw [e, I.ins, I.state]
    · next e => exact I.out m (hp m hm e) h t _
  · intro m hm h t e
    rw [STEP_main_v17_9, step_keep hn]
    split
    · next e => rw [e, I.state]
    · next e => exact I.keep m (hp m hm e) h t _

theorem inv_all (V0 : Val) (hc : V0 (Proc.devRef .tc main_v17_6) = fun _ => BitVec.ofNat 32 0)
    (hz : stateOf V0 = fun _ _ _ => 0) : ∀ k ≤ 64, Inv V0 (STEP^[k] V0) k
  | 0, _ => ⟨rfl, hc, hz, fun _ h => absurd h (by omega), fun _ h => absurd h (by omega)⟩
  | k + 1, h => by
    rw [Function.iterate_succ_apply']
    exact inv_step (by omega) (inv_all V0 hc hz k (by omega))

variable (m : (ℓ : Loc nD τ sig) → Buf (Elt Ideal) ℓ) (c : Dev nD)

/-- The arrays the reference is given. -/
def refArgs : Scan.Args where
  u := m ((c.tc : Thread nD τ).loc main_arg0)
  w := m ((c.tc : Thread nD τ).loc main_arg1)
  qd := m ((c.tc : Thread nD τ).loc main_arg2)
  kt := m ((c.tc : Thread nD τ).loc main_arg3)
  att := m ((c.tc : Thread nD τ).loc main_arg4)
  dc := m ((c.tc : Thread nD τ).loc main_arg5)

/-- What the loop starts from. -/
abbrev entry : Val := entryContents (preI (F := Ideal)) m c

theorem entry_u (n : Fin 64) (h : Fin 6) (t : Fin 64) (e : Fin 128) :
    entry m c (Proc.devRef .tc main_v17_0) (ix4 n h t e) = (refArgs m c).u (ix2 (Dns.tok n t) (Dns.lane h e)) := by
  have a : entry m c (Proc.devRef .tc main_v17_0) = transpose S64x6x64x128 [0, 2, 1, 3]
      (shapeCast S64x64x6x128 (m ((c.tc : Thread nD τ).loc main_arg0)) shapeCasts_S4096x768_S64x64x6x128)
      transposes_S64x64x6x128_S64x6x64x128_0_2_1_3 := by
    simp only [entryContents, afterL_cons, afterL_nil]
    after_reads_simp
    rfl
  rw [a]
  clean_types
  pointwise
  rfl

theorem entry_w (n : Fin 64) (h : Fin 6) (t : Fin 64) (e : Fin 128) :
    entry m c (Proc.devRef .tc main_v17_1) (ix4 n h t e) = (refArgs m c).w (ix2 (Dns.tok n t) (Dns.lane h e)) := by
  have a : entry m c (Proc.devRef .tc main_v17_1) = transpose S64x6x64x128 [0, 2, 1, 3]
      (shapeCast S64x64x6x128 (extf (F := Ideal) .f32 (m ((c.tc : Thread nD τ).loc main_arg1)) bitsLt_bf16_f32) shapeCasts_S4096x768_S64x64x6x128)
      transposes_S64x64x6x128_S64x6x64x128_0_2_1_3 := by
    simp only [entryContents, afterL_cons, afterL_nil]
    after_reads_simp
    rfl
  rw [a]
  clean_types
  pointwise
  rfl

theorem entry_qd (n : Fin 64) (h : Fin 6) (t : Fin 64) (e : Fin 128) :
    entry m c (Proc.devRef .tc main_v17_3) (ix4 n h t e) = (refArgs m c).qd (ix2 (Dns.tok n t) (Dns.lane h e)) := by
  have a : entry m c (Proc.devRef .tc main_v17_3) = transpose S64x6x64x128 [0, 2, 1, 3]
      (shapeCast S64x64x6x128 (extf (F := Ideal) .f32 (m ((c.tc : Thread nD τ).loc main_arg2)) bitsLt_bf16_f32) shapeCasts_S4096x768_S64x64x6x128)
      transposes_S64x64x6x128_S64x6x64x128_0_2_1_3 := by
    simp only [entryContents, afterL_cons, afterL_nil]
    after_reads_simp
    rfl
  rw [a]
  clean_types
  pointwise
  rfl

theorem entry_kt (n : Fin 64) (h : Fin 6) (t : Fin 64) (e : Fin 128) :
    entry m c (Proc.devRef .tc main_v17_4) (ix4 n h t e) = (refArgs m c).kt (ix2 (Dns.tok n t) (Dns.lane h e)) := by
  have a : entry m c (Proc.devRef .tc main_v17_4) = transpose S64x6x64x128 [0, 2, 1, 3]
      (shapeCast S64x64x6x128 (extf (F := Ideal) .f32 (m ((c.tc : Thread nD τ).loc main_arg3)) bitsLt_bf16_f32) shapeCasts_S4096x768_S64x64x6x128)
      transposes_S64x64x6x128_S64x6x64x128_0_2_1_3 := by
    simp only [entryContents, afterL_cons, afterL_nil]
    after_reads_simp
    rfl
  rw [a]
  clean_types
  pointwise
  rfl

theorem entry_att (n : Fin 64) (h : Fin 6) (t s : Fin 64) :
    entry m c (Proc.devRef .tc main_v17_2) (ix4 n h t s) = (refArgs m c).att (ix4 n h t s) := by
  simp only [entryContents, afterL_cons, afterL_nil]
  after_reads_simp
  rfl

theorem entry_dc (n : Fin 64) (h : Fin 6) :
    entry m c (Proc.devRef .tc main_v17_5) (ix2 n h) = (refArgs m c).dc (ix3 n ⟨h.val, by omega⟩ 0) := by
  have a : entry m c (Proc.devRef .tc main_v17_5) = shapeCast S64x6 (extractStridedSlice S64x6x1 ![0, 0, 0]
      (m ((c.tc : Thread nD τ).loc main_arg5)) slices_S64x8x128_S64x6x1_0_0_0) shapeCasts_S64x6x1_S64x6 := by
    simp only [entryContents, afterL_cons, afterL_nil]
    after_reads_simp
    rfl
  rw [a]
  clean_types
  pointwise
  rfl

theorem entry_ctr : entry m c (Proc.devRef .tc main_v17_6) = fun _ => BitVec.ofNat 32 0 := ctr_entry m c

theorem entry_state : stateOf (entry m c) = fun _ _ _ => 0 := by
  funext h k e
  unfold stateOf
  simp only [entryContents, afterL_cons, afterL_nil]
  after_reads_simp
  rw [id_eq]
  pointwise

theorem entry_chunk (n : Fin 64) : chunkOf (entry m c) n = (refArgs m c).chunk n := by
  unfold chunkOf Scan.Args.chunk
  rw [Scan.Chunk.mk.injEq]
  exact ⟨funext fun h => funext fun t => funext fun e => entry_u m c n h t e,
    funext fun h => funext fun t => funext fun e => entry_w m c n h t e,
    funext fun h => funext fun t => funext fun e => entry_qd m c n h t e,
    funext fun h => funext fun t => funext fun e => entry_kt m c n h t e,
    funext fun h => funext fun t => funext fun s => entry_att m c n h t s,
    funext fun h => entry_dc m c n h⟩

theorem entry_chunks : chunks (entry m c) = (refArgs m c).chunks := by
  funext n
  exact entry_chunk m c _

/-- What holds after the loop. -/
theorem final : Inv (entry m c) (STEP^[64] (entry m c)) 64 := inv_all _ (entry_ctr m c) (entry_state m c) 64 le_rfl

theorem out_rows : out_main_v19 (STEP^[64] (entry m c)) = Scan.resOut (refArgs m c) := by
  funext x
  idx_vars x
  unfold out_main_v19
  clean_types
  pointwise
  refine ((final m c).out ⟨x0.val / 64, by omega⟩ (Fin.isLt _) _ _ _).trans ?_
  rw [entry_chunk, entry_chunks]
  rfl

theorem out_states : STEP^[64] (entry m c) (Proc.devRef .tc main_v17_9) = Scan.resStates (refArgs m c) := by
  funext x
  idx_vars x
  refine ((final m c).keep x0 x0.isLt x1 x2 x3).trans ?_
  rw [entry_chunks]
  rfl

end Cert.DnsFwdRefIdeal.Value
end
-- ==== Proof.ProjValue.lean ====
/-
  The projections into the mixers, the last down projection, and the gradient of the projection out: tiles of tokens and
  columns, each one product, against the plain products.
-/
module

public import proofs.«01_k».proof.Proof.Norm
public import proofs.«01_k».proof.Proof.Gen.ProjAIdeal.Value
public import proofs.«01_k».proof.Proof.Gen.ProjARefIdeal.Run
public import proofs.«01_k».proof.Proof.Gen.ProjBIdeal.Value
public import proofs.«01_k».proof.Proof.Gen.ProjBRefIdeal.Run
public import proofs.«01_k».proof.Proof.Gen.DownIdeal.Value
public import proofs.«01_k».proof.Proof.Gen.DownRefIdeal.Run
public import proofs.«01_k».proof.Proof.Gen.DMixIdeal.Value
public import proofs.«01_k».proof.Proof.Gen.DMixRefIdeal.Run
public import Idealize.ShloMosaic.Lib.Pipeline.ValueKit

@[expose] public section

set_option maxRecDepth 16384

noncomputable section

namespace Cert.ProjAIdeal.Value

open Cert.ProjAIdeal Cert.ProjAIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val % 4, 0] ∧ win0_1.index t = ![0, t.val / 4]
    ∧ win0_2.index t = ![t.val % 4, t.val / 4] := by decide +kernel

theorem pay_at (a : Vec Ideal S1024x1024 .bf16) (b : Vec Ideal S1024x640 .bf16) (i : Fin 1024) (j : Fin 640) :
    k0_pay1 a b (ix2 i j) = ∑ k : Fin 1024, a (ix2 i k) * b (ix2 k j) := by
  unfold k0_pay1
  pointwise

theorem arr : (dats m 0 c).arrAt 2 cfg0.N = Mm.nn (m ((c.tc : Thread nD τ).loc main_arg0)) (m ((c.tc : Thread nD τ).loc main_arg1)) := by
  refine (dats m 0 c).arrAt_eq_of_covers 2 _ (by decide +kernel) fun t hf y => ?_
  show (dats m 0 c).flushed 2 t y = _
  rw [flushed2]
  frame_out
  obtain ⟨e0, e1, e2⟩ := idx t
  idx_vars y
  refine (pay_at _ _ _ _).trans ?_
  unfold Mm.nn
  refine Finset.sum_congr rfl fun n _ => congrArg₂ (· * ·) ?_ ?_
  · blk_ext [iblk, V, e0, e2]
  · blk_ext [iblk, V, e1, e2]

end Cert.ProjAIdeal.Value

namespace Cert.ProjARefIdeal.Value

open Cert.ProjARefIdeal Cert.ProjARefIdeal.Gen Idealize.ShloMosaic Idealize.ShloMosaic.TcCoe Idealize.SL.Sem

theorem out (a : FVec Ideal S4096x1024 .bf16) (b : FVec Ideal S1024x1280 .bf16) :
    truncf .bf16 (Host.dotGeneral dot_S4096x1024_S1024x1280_S4096x1280_1_0_0_1_n_n none (extf (F := Ideal) .f32 a bitsLt_bf16_f32) (extf (F := Ideal) .f32 b bitsLt_bf16_f32)) bitsLt_bf16_f32
      = Mm.nn a b := by
  funext j
  idx_vars j
  pointwise [Mm.nn]

end Cert.ProjARefIdeal.Value

namespace Cert.ProjBIdeal.Value

open Cert.ProjBIdeal Cert.ProjBIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val % 4, 0] ∧ win0_1.index t = ![0, t.val / 4]
    ∧ win0_2.index t = ![t.val % 4, t.val / 4] := by decide +kernel

theorem pay_at (a : Vec Ideal S1024x1024 .bf16) (b : Vec Ideal S1024x896 .bf16) (i : Fin 1024) (j : Fin 896) :
    k0_pay1 a b (ix2 i j) = ∑ k : Fin 1024, a (ix2 i k) * b (ix2 k j) := by
  unfold k0_pay1
  pointwise

theorem arr : (dats m 0 c).arrAt 2 cfg0.N = Mm.nn (m ((c.tc : Thread nD τ).loc main_arg0)) (m ((c.tc : Thread nD τ).loc main_arg1)) := by
  refine (dats m 0 c).arrAt_eq_of_covers 2 _ (by decide +kernel) fun t hf y => ?_
  show (dats m 0 c).flushed 2 t y = _
  rw [flushed2]
  frame_out
  obtain ⟨e0, e1, e2⟩ := idx t
  idx_vars y
  refine (pay_at _ _ _ _).trans ?_
  unfold Mm.nn
  refine Finset.sum_congr rfl fun n _ => congrArg₂ (· * ·) ?_ ?_
  · blk_ext [iblk, V, e0, e2]
  · blk_ext [iblk, V, e1, e2]

end Cert.ProjBIdeal.Value

namespace Cert.ProjBRefIdeal.Value

open Cert.ProjBRefIdeal Cert.ProjBRefIdeal.Gen Idealize.ShloMosaic Idealize.ShloMosaic.TcCoe Idealize.SL.Sem

theorem out (a : FVec Ideal S4096x1024 .bf16) (b : FVec Ideal S1024x2688 .bf16) :
    Host.dotGeneral dot_S4096x1024_S1024x2688_S4096x2688_1_0_0_1_n_n none (extf (F := Ideal) .f32 a bitsLt_bf16_f32) (extf (F := Ideal) .f32 b bitsLt_bf16_f32)
      = Mm.nn a b := by
  funext j
  idx_vars j
  pointwise [Mm.nn]

end Cert.ProjBRefIdeal.Value

namespace Cert.DownIdeal.Value

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] := by decide +kernel

theorem pay_at (r : Vec Ideal S1024x1024 .f32) (a : Vec Ideal S1024x2816 .bf16) (b : Vec Ideal S2816x1024 .bf16) (i j : Fin 1024) :
    k0_pay1 r a b (ix2 i j) = r (ix2 i j) + ∑ k : Fin 2816, a (ix2 i k) * b (ix2 k j) := by
  unfold k0_pay1
  pointwise

theorem arr : (dats m 0 c).arrAt 3 cfg0.N = Mm.plus (m ((c.tc : Thread nD τ).loc main_arg2)) (Mm.nn (m ((c.tc : Thread nD τ).loc main_arg0)) (m ((c.tc : Thread nD τ).loc main_arg1))) := by
  refine (dats m 0 c).arrAt_eq_of_covers 3 _ (by decide +kernel) fun t hf y => ?_
  show (dats m 0 c).flushed 3 t y = _
  rw [flushed3]
  frame_out
  obtain ⟨e0, e1, e2, e3⟩ := idx t
  idx_vars y
  refine (pay_at _ _ _ _ _).trans ?_
  unfold Mm.plus Mm.nn
  refine congrArg₂ (· + ·) ?_ (Finset.sum_congr rfl fun n _ => congrArg₂ (· * ·) ?_ ?_)
  · blk_ext [iblk, V, e2, e3]
  · blk_ext [iblk, V, e0, e3]
  · blk_ext [iblk, V, e1, e3]

end Cert.DownIdeal.Value

namespace Cert.DownRefIdeal.Value

open Cert.DownRefIdeal Cert.DownRefIdeal.Gen Idealize.ShloMosaic Idealize.ShloMosaic.TcCoe Idealize.SL.Sem

theorem out (a : FVec Ideal S4096x2816 .bf16) (b : FVec Ideal S2816x1024 .bf16) (h : FVec Ideal S4096x1024 .f32) :
    addf h (Host.dotGeneral dot_S4096x2816_S2816x1024_S4096x1024_1_0_0_1_n_n none (extf (F := Ideal) .f32 a bitsLt_bf16_f32) (extf (F := Ideal) .f32 b bitsLt_bf16_f32))
      = Mm.plus h (Mm.nn a b) := by
  funext j
  idx_vars j
  pointwise [Mm.plus, Mm.nn]

end Cert.DownRefIdeal.Value

namespace Cert.DMixIdeal.Value

open Cert.DMixIdeal Cert.DMixIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] := by
  decide +kernel

theorem pay_at (a : Vec Ideal S1024x1024 .f32) (b : Vec Ideal S1024x1024 .bf16) (i j : Fin 1024) :
    k0_pay1 a b (ix2 i j) = ∑ n : Fin 1024, a (ix2 i n) * b (ix2 j n) := by
  unfold k0_pay1
  pointwise

theorem arr : (dats m 0 c).arrAt 2 cfg0.N = Mm.nt (m ((c.tc : Thread nD τ).loc main_arg0)) (m ((c.tc : Thread nD τ).loc main_arg1)) := by
  refine (dats m 0 c).arrAt_eq_of_covers 2 _ (by decide +kernel) fun t hf y => ?_
  show (dats m 0 c).flushed 2 t y = _
  rw [flushed2]
  frame_out
  obtain ⟨e0, e1, e2⟩ := idx t
  idx_vars y
  refine (pay_at _ _ _ _).trans ?_
  unfold Mm.nt
  refine Finset.sum_congr rfl fun n _ => congrArg₂ (· * ·) ?_ ?_
  · blk_ext [iblk, V, e0, e2]
  · blk_ext [iblk, V, e1, e2]

end Cert.DMixIdeal.Value

namespace Cert.DMixRefIdeal.Value

open Cert.DMixRefIdeal Cert.DMixRefIdeal.Gen Idealize.ShloMosaic Idealize.ShloMosaic.TcCoe Idealize.SL.Sem

theorem out (a : FVec Ideal S4096x1024 .f32) (b : FVec Ideal S1024x1024 .bf16) :
    Host.dotGeneral dot_S4096x1024_S1024x1024_S4096x1024_1_1_0_0_n_n none a (extf (F := Ideal) .f32 b bitsLt_bf16_f32)
      = Mm.nt a b := by
  funext j
  idx_vars j
  pointwise [Mm.nt]

end Cert.DMixRefIdeal.Value

end
-- ==== Proof.PiecesValue.lean ====
/-
  The gradients of the projections for their weights where one factor comes in pieces: each summed over four tiles of
  tokens, against the plain product with the pieces laid side by side.
-/
module

public import proofs.«01_k».proof.Proof.Norm
public import proofs.«01_k».proof.Proof.Gen.DwOutIdeal.Value
public import proofs.«01_k».proof.Proof.Gen.DwOutRefIdeal.Run
public import proofs.«01_k».proof.Proof.Gen.DwInAIdeal.Value
public import proofs.«01_k».proof.Proof.Gen.DwInARefIdeal.Run
public import proofs.«01_k».proof.Proof.Gen.DwInBIdeal.Value
public import proofs.«01_k».proof.Proof.Gen.DwInBRefIdeal.Run
public import Idealize.ShloMosaic.Lib.Pipeline.ValueKit

@[expose] public section

set_option maxRecDepth 16384

noncomputable section

namespace Cert.DwOutIdeal.Value

open Cert.DwOutIdeal Cert.DwOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] := by decide +kernel

theorem zero_at (i : Fin 1024) (j : Fin 1024) : k0_pay1 (F := Ideal) (ix2 i j) = 0 := by
  unfold k0_pay1
  pointwise

theorem pay_at (o : Vec Ideal S1024x1024 .f32) (p0 : Vec Ideal S1024x768 .bf16) (p1 : Vec Ideal S1024x256 .bf16) (q : Vec Ideal S1024x1024 .f32) (i : Fin 1024) (j : Fin 1024) :
    k0_pay2 o p0 p1 q (ix2 i j) = o (ix2 i j) + ∑ x : Fin 1024, Mm.pair (N := 1024) rfl p0 p1 (ix2 x i) * q (ix2 x j) := by
  unfold k0_pay2
  pointwise
  rfl

theorem row_lt (t : Fin cfg0.N) (n : Fin 1024) : t.val * 1024 + n.val < 4096 := by
  have h : t.val < 4 := lt_of_lt_of_eq t.isLt N_0
  omega

theorem read0_at (t : Fin cfg0.N) (n : Fin 1024) (k : Fin 768) :
    (show Mm.Mat 1024 768 from iblk m c 0 t) (ix2 n k) = (m ((c.tc : Thread nD τ).loc main_arg0)) (ix2 ⟨t.val * 1024 + n.val, row_lt t n⟩ k) := by
  have e := (idx t).1
  show iblk m c 0 t (ix2 n k) = _
  blk_ext [iblk, V, e]

theorem read1_at (t : Fin cfg0.N) (n : Fin 1024) (k : Fin 256) :
    (show Mm.Mat 1024 256 from iblk m c 1 t) (ix2 n k) = (m ((c.tc : Thread nD τ).loc main_arg1)) (ix2 ⟨t.val * 1024 + n.val, row_lt t n⟩ k) := by
  have e := (idx t).2.1
  show iblk m c 1 t (ix2 n k) = _
  blk_ext [iblk, V, e]

theorem read2_at (t : Fin cfg0.N) (n : Fin 1024) (k : Fin 1024) :
    (show Mm.Mat 1024 1024 from iblk m c 2 t) (ix2 n k) = (m ((c.tc : Thread nD τ).loc main_arg2)) (ix2 ⟨t.val * 1024 + n.val, row_lt t n⟩ k) := by
  have e := (idx t).2.2.1
  show iblk m c 2 t (ix2 n k) = _
  blk_ext [iblk, V, e]

/-- What tile `t` adds. -/
def part (t : Fin cfg0.N) : S1024x1024.Idx → EReal := fun y =>
  ∑ x : Fin 1024, Mm.pair (N := 1024) rfl (show Mm.Mat 1024 768 from iblk m c 0 t) (show Mm.Mat 1024 256 from iblk m c 1 t) (ix2 x (y 0)) * (show Mm.Mat 1024 1024 from iblk m c 2 t) (ix2 x (y 1))

theorem part_at (t : Fin cfg0.N) (i : Fin 1024) (j : Fin 1024) : part m c t (ix2 i j) =
    ∑ x : Fin 1024, Mm.pair (N := 1024) rfl (show Mm.Mat 1024 768 from iblk m c 0 t) (show Mm.Mat 1024 256 from iblk m c 1 t) (ix2 x i) * (show Mm.Mat 1024 1024 from iblk m c 2 t) (ix2 x j) := rfl

theorem held (t : Fin cfg0.N) (h : t.val % 4 = 3) (y : S1024x1024.Idx) :
    outsAt0 m c t.val t.isLt y
      = (0 : EReal) + ∑ s : Fin 4, part m c ⟨4 * (t.val / 4) + s.val, Pipeline.run_point_lt_of_flush t h s⟩ y := by
  refine Pipeline.eq_sum_fin_of_reset_step_apply_of_flush (fun n h => outsAt0 m c n h) 4 (fun _ => (0 : EReal)) (part m c) ?_ ?_ t h y
  · intro t h0 y
    show outsAt0 m c t.val t.isLt y = _
    rw [outsAt0_A m c t h0, out_A_3_eq]
    idx_vars y
    rw [pay_at, zero_at]
    rfl
  · intro t h0 y
    show outsAt0 m c t.val t.isLt y = _
    rw [outsAt0_B m c t h0, out_B_3_eq]
    idx_vars y
    rw [pay_at]
    rfl

theorem arr : (dats m 0 c).arrAt 3 cfg0.N = Mm.tn (Mm.pair (N := 1024) rfl (m ((c.tc : Thread nD τ).loc main_arg0)) (m ((c.tc : Thread nD τ).loc main_arg1))) (m ((c.tc : Thread nD τ).loc main_arg2)) := by
  refine (dats m 0 c).arrAt_eq_of_covers 3 _ (by decide +kernel) fun t hf y => ?_
  show (dats m 0 c).flushed 3 t y = _
  rw [flushed3]
  have h3 : t.val % 4 = 3 := (flush0_3 t).mp hf
  have hN : t.val < 4 := lt_of_lt_of_eq t.isLt N_0
  have ew := (idx t).2.2.2
  idx_vars y
  have ej : ((cfg0.win 3).blk t).view.emb (ix2 y0 y1) = ix2 y0 y1 := by
    blk_ext [ew]
  rw [ej]
  refine (held m c t h3 _).trans ?_
  rw [zero_add]
  refine (Finset.sum_congr rfl fun s _ => part_at m c _ _ _).trans ?_
  show _ = ∑ i : Fin 4096, Mm.pair (N := 1024) rfl (m ((c.tc : Thread nD τ).loc main_arg0)) (m ((c.tc : Thread nD τ).loc main_arg1)) (ix2 i y0) * (show Mm.Mat 4096 1024 from (m ((c.tc : Thread nD τ).loc main_arg2))) (ix2 i y1)
  refine Fin.sum_mul_add_congr fun s n hl => ?_
  have er : ∀ h, (⟨(4 * (t.val / 4) + s.val) * 1024 + n.val, h⟩ : Fin 4096) = ⟨s.val * 1024 + n.val, hl⟩ := fun h =>
    Fin.ext (by
      show (4 * (t.val / 4) + s.val) * 1024 + n.val = s.val * 1024 + n.val
      omega)
  rw [← er (by omega)]
  exact congrArg₂ (· * ·) (Mm.pair_eq (fun x => read0_at m c _ _ x) (fun x => read1_at m c _ _ x) _) (read2_at m c _ _ _)

end Cert.DwOutIdeal.Value

namespace Cert.DwOutRefIdeal.Value

open Cert.DwOutRefIdeal Cert.DwOutRefIdeal.Gen Idealize.ShloMosaic Idealize.ShloMosaic.TcCoe Idealize.SL.Sem

theorem out (a : FVec Ideal S4096x768 .bf16) (b : FVec Ideal S4096x256 .bf16) (d : FVec Ideal S4096x1024 .f32) :
    transpose S1024x1024 [1, 0] (Host.dotGeneral dot_S4096x1024_S4096x1024_S1024x1024_0_0_1_1_n_n none d (concatenate S4096x1024 1 [⟨S4096x768, (extf (F := Ideal) .f32 a bitsLt_bf16_f32)⟩, ⟨S4096x256, (extf (F := Ideal) .f32 b bitsLt_bf16_f32)⟩] concatenates_S4096x768_S4096x256_S4096x1024_d1)) transposes_S1024x1024_S1024x1024_1_0
      = Mm.tn (Mm.pair (N := 1024) rfl a b) d := by
  funext j
  idx_vars j
  pointwise [Mm.tn]
  exact Finset.sum_congr rfl fun _ _ => mul_comm _ _

end Cert.DwOutRefIdeal.Value

namespace Cert.DwInAIdeal.Value

open Cert.DwInAIdeal Cert.DwInAIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] := by decide +kernel

theorem zero_at (i : Fin 1024) (j : Fin 1280) : k0_pay1 (F := Ideal) (ix2 i j) = 0 := by
  unfold k0_pay1
  pointwise

theorem pay_at (o : Vec Ideal S1024x1280 .f32) (q : Vec Ideal S1024x1024 .bf16) (p0 : Vec Ideal S1024x1024 .bf16) (p1 : Vec Ideal S1024x256 .bf16) (i : Fin 1024) (j : Fin 1280) :
    k0_pay2 o q p0 p1 (ix2 i j) = o (ix2 i j) + ∑ x : Fin 1024, q (ix2 x i) * Mm.pair (N := 1280) rfl p0 p1 (ix2 x j) := by
  unfold k0_pay2
  pointwise
  rfl

theorem row_lt (t : Fin cfg0.N) (n : Fin 1024) : t.val * 1024 + n.val < 4096 := by
  have h : t.val < 4 := lt_of_lt_of_eq t.isLt N_0
  omega

theorem read1_at (t : Fin cfg0.N) (n : Fin 1024) (k : Fin 1024) :
    (show Mm.Mat 1024 1024 from iblk m c 1 t) (ix2 n k) = (m ((c.tc : Thread nD τ).loc main_arg1)) (ix2 ⟨t.val * 1024 + n.val, row_lt t n⟩ k) := by
  have e := (idx t).2.1
  show iblk m c 1 t (ix2 n k) = _
  blk_ext [iblk, V, e]

theorem read2_at (t : Fin cfg0.N) (n : Fin 1024) (k : Fin 256) :
    (show Mm.Mat 1024 256 from iblk m c 2 t) (ix2 n k) = (m ((c.tc : Thread nD τ).loc main_arg2)) (ix2 ⟨t.val * 1024 + n.val, row_lt t n⟩ k) := by
  have e := (idx t).2.2.1
  show iblk m c 2 t (ix2 n k) = _
  blk_ext [iblk, V, e]

theorem read0_at (t : Fin cfg0.N) (n : Fin 1024) (k : Fin 1024) :
    (show Mm.Mat 1024 1024 from iblk m c 0 t) (ix2 n k) = (m ((c.tc : Thread nD τ).loc main_arg0)) (ix2 ⟨t.val * 1024 + n.val, row_lt t n⟩ k) := by
  have e := (idx t).1
  show iblk m c 0 t (ix2 n k) = _
  blk_ext [iblk, V, e]

/-- What tile `t` adds. -/
def part (t : Fin cfg0.N) : S1024x1280.Idx → EReal := fun y =>
  ∑ x : Fin 1024, (show Mm.Mat 1024 1024 from iblk m c 0 t) (ix2 x (y 0)) * Mm.pair (N := 1280) rfl (show Mm.Mat 1024 1024 from iblk m c 1 t) (show Mm.Mat 1024 256 from iblk m c 2 t) (ix2 x (y 1))

theorem part_at (t : Fin cfg0.N) (i : Fin 1024) (j : Fin 1280) : part m c t (ix2 i j) =
    ∑ x : Fin 1024, (show Mm.Mat 1024 1024 from iblk m c 0 t) (ix2 x i) * Mm.pair (N := 1280) rfl (show Mm.Mat 1024 1024 from iblk m c 1 t) (show Mm.Mat 1024 256 from iblk m c 2 t) (ix2 x j) := rfl

theorem held (t : Fin cfg0.N) (h : t.val % 4 = 3) (y : S1024x1280.Idx) :
    outsAt0 m c t.val t.isLt y
      = (0 : EReal) + ∑ s : Fin 4, part m c ⟨4 * (t.val / 4) + s.val, Pipeline.run_point_lt_of_flush t h s⟩ y := by
  refine Pipeline.eq_sum_fin_of_reset_step_apply_of_flush (fun n h => outsAt0 m c n h) 4 (fun _ => (0 : EReal)) (part m c) ?_ ?_ t h y
  · intro t h0 y
    show outsAt0 m c t.val t.isLt y = _
    rw [outsAt0_A m c t h0, out_A_3_eq]
    idx_vars y
    rw [pay_at, zero_at]
    rfl
  · intro t h0 y
    show outsAt0 m c t.val t.isLt y = _
    rw [outsAt0_B m c t h0, out_B_3_eq]
    idx_vars y
    rw [pay_at]
    rfl

theorem arr : (dats m 0 c).arrAt 3 cfg0.N = Mm.tn (m ((c.tc : Thread nD τ).loc main_arg0)) (Mm.pair (N := 1280) rfl (m ((c.tc : Thread nD τ).loc main_arg1)) (m ((c.tc : Thread nD τ).loc main_arg2))) := by
  refine (dats m 0 c).arrAt_eq_of_covers 3 _ (by decide +kernel) fun t hf y => ?_
  show (dats m 0 c).flushed 3 t y = _
  rw [flushed3]
  have h3 : t.val % 4 = 3 := (flush0_3 t).mp hf
  have hN : t.val < 4 := lt_of_lt_of_eq t.isLt N_0
  have ew := (idx t).2.2.2
  idx_vars y
  have ej : ((cfg0.win 3).blk t).view.emb (ix2 y0 y1) = ix2 y0 y1 := by
    blk_ext [ew]
  rw [ej]
  refine (held m c t h3 _).trans ?_
  rw [zero_add]
  refine (Finset.sum_congr rfl fun s _ => part_at m c _ _ _).trans ?_
  show _ = ∑ i : Fin 4096, (show Mm.Mat 4096 1024 from (m ((c.tc : Thread nD τ).loc main_arg0))) (ix2 i y0) * Mm.pair (N := 1280) rfl (m ((c.tc : Thread nD τ).loc main_arg1)) (m ((c.tc : Thread nD τ).loc main_arg2)) (ix2 i y1)
  refine Fin.sum_mul_add_congr fun s n hl => ?_
  have er : ∀ h, (⟨(4 * (t.val / 4) + s.val) * 1024 + n.val, h⟩ : Fin 4096) = ⟨s.val * 1024 + n.val, hl⟩ := fun h =>
    Fin.ext (by
      show (4 * (t.val / 4) + s.val) * 1024 + n.val = s.val * 1024 + n.val
      omega)
  rw [← er (by omega)]
  exact congrArg₂ (· * ·) (read0_at m c _ _ _) (Mm.pair_eq (fun x => read1_at m c _ _ x) (fun x => read2_at m c _ _ x) _)

end Cert.DwInAIdeal.Value

namespace Cert.DwInARefIdeal.Value

open Cert.DwInARefIdeal Cert.DwInARefIdeal.Gen Idealize.ShloMosaic Idealize.ShloMosaic.TcCoe Idealize.SL.Sem

theorem out (n : FVec Ideal S4096x1024 .bf16) (a : FVec Ideal S4096x1024 .bf16) (b : FVec Ideal S4096x256 .bf16) :
    transpose S1024x1280 [1, 0] (Host.dotGeneral dot_S4096x1280_S4096x1024_S1280x1024_0_0_1_1_n_n none (concatenate S4096x1280 1 [⟨S4096x1024, (extf (F := Ideal) .f32 a bitsLt_bf16_f32)⟩, ⟨S4096x256, (extf (F := Ideal) .f32 b bitsLt_bf16_f32)⟩] concatenates_S4096x1024_S4096x256_S4096x1280_d1) (extf (F := Ideal) .f32 n bitsLt_bf16_f32)) transposes_S1280x1024_S1024x1280_1_0
      = Mm.tn n (Mm.pair (N := 1280) rfl a b) := by
  funext j
  idx_vars j
  pointwise [Mm.tn]
  exact Finset.sum_congr rfl fun _ _ => mul_comm _ _

end Cert.DwInARefIdeal.Value

namespace Cert.DwInBIdeal.Value

open Cert.DwInBIdeal Cert.DwInBIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] := by decide +kernel

theorem zero_at (i : Fin 1024) (j : Fin 2688) : k0_pay1 (F := Ideal) (ix2 i j) = 0 := by
  unfold k0_pay1
  pointwise

theorem pay_at (o : Vec Ideal S1024x2688 .f32) (q : Vec Ideal S1024x1024 .bf16) (p0 : Vec Ideal S1024x1536 .bf16) (p1 : Vec Ideal S1024x768 .bf16) (p2 : Vec Ideal S1024x256 .bf16) (p3 : Vec Ideal S1024x128 .bf16) (i : Fin 1024) (j : Fin 2688) :
    k0_pay2 o q p0 p1 p2 p3 (ix2 i j) = o (ix2 i j) + ∑ x : Fin 1024, q (ix2 x i) * Mm.pair (N := 2688) rfl p0 (Mm.pair (N := 1152) rfl p1 (Mm.pair (N := 384) rfl p2 p3)) (ix2 x j) := by
  unfold k0_pay2
  pointwise
  rfl

theorem row_lt (t : Fin cfg0.N) (n : Fin 1024) : t.val * 1024 + n.val < 4096 := by
  have h : t.val < 4 := lt_of_lt_of_eq t.isLt N_0
  omega

theorem read1_at (t : Fin cfg0.N) (n : Fin 1024) (k : Fin 1536) :
    (show Mm.Mat 1024 1536 from iblk m c 1 t) (ix2 n k) = (m ((c.tc : Thread nD τ).loc main_arg1)) (ix2 ⟨t.val * 1024 + n.val, row_lt t n⟩ k) := by
  have e := (idx t).2.1
  show iblk m c 1 t (ix2 n k) = _
  blk_ext [iblk, V, e]

theorem read2_at (t : Fin cfg0.N) (n : Fin 1024) (k : Fin 768) :
    (show Mm.Mat 1024 768 from iblk m c 2 t) (ix2 n k) = (m ((c.tc : Thread nD τ).loc main_arg2)) (ix2 ⟨t.val * 1024 + n.val, row_lt t n⟩ k) := by
  have e := (idx t).2.2.1
  show iblk m c 2 t (ix2 n k) = _
  blk_ext [iblk, V, e]

theorem read3_at (t : Fin cfg0.N) (n : Fin 1024) (k : Fin 256) :
    (show Mm.Mat 1024 256 from iblk m c 3 t) (ix2 n k) = (m ((c.tc : Thread nD τ).loc main_arg3)) (ix2 ⟨t.val * 1024 + n.val, row_lt t n⟩ k) := by
  have e := (idx t).2.2.2.1
  show iblk m c 3 t (ix2 n k) = _
  blk_ext [iblk, V, e]

theorem read4_at (t : Fin cfg0.N) (n : Fin 1024) (k : Fin 128) :
    (show Mm.Mat 1024 128 from iblk m c 4 t) (ix2 n k) = (m ((c.tc : Thread nD τ).loc main_arg4)) (ix2 ⟨t.val * 1024 + n.val, row_lt t n⟩ k) := by
  have e := (idx t).2.2.2.2.1
  show iblk m c 4 t (ix2 n k) = _
  blk_ext [iblk, V, e]

theorem read0_at (t : Fin cfg0.N) (n : Fin 1024) (k : Fin 1024) :
    (show Mm.Mat 1024 1024 from iblk m c 0 t) (ix2 n k) = (m ((c.tc : Thread nD τ).loc main_arg0)) (ix2 ⟨t.val * 1024 + n.val, row_lt t n⟩ k) := by
  have e := (idx t).1
  show iblk m c 0 t (ix2 n k) = _
  blk_ext [iblk, V, e]

/-- What tile `t` adds. -/
def part (t : Fin cfg0.N) : S1024x2688.Idx → EReal := fun y =>
  ∑ x : Fin 1024, (show Mm.Mat 1024 1024 from iblk m c 0 t) (ix2 x (y 0)) * Mm.pair (N := 2688) rfl (show Mm.Mat 1024 1536 from iblk m c 1 t) (Mm.pair (N := 1152) rfl (show Mm.Mat 1024 768 from iblk m c 2 t) (Mm.pair (N := 384) rfl (show Mm.Mat 1024 256 from iblk m c 3 t) (show Mm.Mat 1024 128 from iblk m c 4 t))) (ix2 x (y 1))

theorem part_at (t : Fin cfg0.N) (i : Fin 1024) (j : Fin 2688) : part m c t (ix2 i j) =
    ∑ x : Fin 1024, (show Mm.Mat 1024 1024 from iblk m c 0 t) (ix2 x i) * Mm.pair (N := 2688) rfl (show Mm.Mat 1024 1536 from iblk m c 1 t) (Mm.pair (N := 1152) rfl (show Mm.Mat 1024 768 from iblk m c 2 t) (Mm.pair (N := 384) rfl (show Mm.Mat 1024 256 from iblk m c 3 t) (show Mm.Mat 1024 128 from iblk m c 4 t))) (ix2 x j) := rfl

theorem held (t : Fin cfg0.N) (h : t.val % 4 = 3) (y : S1024x2688.Idx) :
    outsAt0 m c t.val t.isLt y
      = (0 : EReal) + ∑ s : Fin 4, part m c ⟨4 * (t.val / 4) + s.val, Pipeline.run_point_lt_of_flush t h s⟩ y := by
  refine Pipeline.eq_sum_fin_of_reset_step_apply_of_flush (fun n h => outsAt0 m c n h) 4 (fun _ => (0 : EReal)) (part m c) ?_ ?_ t h y
  · intro t h0 y
    show outsAt0 m c t.val t.isLt y = _
    rw [outsAt0_A m c t h0, out_A_5_eq]
    idx_vars y
    rw [pay_at, zero_at]
    rfl
  · intro t h0 y
    show outsAt0 m c t.val t.isLt y = _
    rw [outsAt0_B m c t h0, out_B_5_eq]
    idx_vars y
    rw [pay_at]
    rfl

theorem arr : (dats m 0 c).arrAt 5 cfg0.N = Mm.tn (m ((c.tc : Thread nD τ).loc main_arg0)) (Mm.pair (N := 2688) rfl (m ((c.tc : Thread nD τ).loc main_arg1)) (Mm.pair (N := 1152) rfl (m ((c.tc : Thread nD τ).loc main_arg2)) (Mm.pair (N := 384) rfl (m ((c.tc : Thread nD τ).loc main_arg3)) (m ((c.tc : Thread nD τ).loc main_arg4))))) := by
  refine (dats m 0 c).arrAt_eq_of_covers 5 _ (by decide +kernel) fun t hf y => ?_
  show (dats m 0 c).flushed 5 t y = _
  rw [flushed5]
  have h3 : t.val % 4 = 3 := (flush0_5 t).mp hf
  have hN : t.val < 4 := lt_of_lt_of_eq t.isLt N_0
  have ew := (idx t).2.2.2.2.2
  idx_vars y
  have ej : ((cfg0.win 5).blk t).view.emb (ix2 y0 y1) = ix2 y0 y1 := by
    blk_ext [ew]
  rw [ej]
  refine (held m c t h3 _).trans ?_
  rw [zero_add]
  refine (Finset.sum_congr rfl fun s _ => part_at m c _ _ _).trans ?_
  show _ = ∑ i : Fin 4096, (show Mm.Mat 4096 1024 from (m ((c.tc : Thread nD τ).loc main_arg0))) (ix2 i y0) * Mm.pair (N := 2688) rfl (m ((c.tc : Thread nD τ).loc main_arg1)) (Mm.pair (N := 1152) rfl (m ((c.tc : Thread nD τ).loc main_arg2)) (Mm.pair (N := 384) rfl (m ((c.tc : Thread nD τ).loc main_arg3)) (m ((c.tc : Thread nD τ).loc main_arg4)))) (ix2 i y1)
  refine Fin.sum_mul_add_congr fun s n hl => ?_
  have er : ∀ h, (⟨(4 * (t.val / 4) + s.val) * 1024 + n.val, h⟩ : Fin 4096) = ⟨s.val * 1024 + n.val, hl⟩ := fun h =>
    Fin.ext (by
      show (4 * (t.val / 4) + s.val) * 1024 + n.val = s.val * 1024 + n.val
      omega)
  rw [← er (by omega)]
  exact congrArg₂ (· * ·) (read0_at m c _ _ _) (Mm.pair_eq (fun x => read1_at m c _ _ x) (fun _ => Mm.pair_eq (fun x => read2_at m c _ _ x) (fun _ => Mm.pair_eq (fun x => read3_at m c _ _ x) (fun x => read4_at m c _ _ x) _) _) _)

end Cert.DwInBIdeal.Value

namespace Cert.DwInBRefIdeal.Value

open Cert.DwInBRefIdeal Cert.DwInBRefIdeal.Gen Idealize.ShloMosaic Idealize.ShloMosaic.TcCoe Idealize.SL.Sem

theorem out (n : FVec Ideal S4096x1024 .bf16) (a : FVec Ideal S4096x1536 .bf16) (b : FVec Ideal S4096x768 .bf16)
    (p : FVec Ideal S4096x256 .bf16) (q : FVec Ideal S4096x128 .bf16) :
    transpose S1024x2688 [1, 0] (Host.dotGeneral (φ₁ := .f32) (φ₂ := .f32) dot_S4096x2688_S4096x1024_S2688x1024_0_0_1_1_n_n none ((concatenate S4096x2688 1 [⟨S4096x1536, ((extf (F := Ideal) .f32 a bitsLt_bf16_f32) : (⟨S4096x1536, .f32⟩ : BufTy).Contents (Elt Ideal))⟩, ⟨S4096x768, ((extf (F := Ideal) .f32 b bitsLt_bf16_f32) : (⟨S4096x768, .f32⟩ : BufTy).Contents (Elt Ideal))⟩, ⟨S4096x256, ((extf (F := Ideal) .f32 p bitsLt_bf16_f32) : (⟨S4096x256, .f32⟩ : BufTy).Contents (Elt Ideal))⟩, ⟨S4096x128, ((extf (F := Ideal) .f32 q bitsLt_bf16_f32) : (⟨S4096x128, .f32⟩ : BufTy).Contents (Elt Ideal))⟩] concatenates_S4096x1536_S4096x768_S4096x256_S4096x128_S4096x2688_d1 : (⟨S4096x2688, .f32⟩ : BufTy).Contents (Elt Ideal))) (extf (F := Ideal) .f32 n bitsLt_bf16_f32)) transposes_S2688x1024_S1024x2688_1_0
      = Mm.tn n (Mm.pair (N := 2688) rfl a (Mm.pair (N := 1152) rfl b (Mm.pair (N := 384) rfl p q))) := by
  funext j
  idx_vars j
  pointwise [Mm.tn]
  exact Finset.sum_congr rfl fun _ _ => mul_comm _ _

end Cert.DwInBRefIdeal.Value

end
-- ==== Proof.NormFwdValue.lean ====
/-
  The products that close a residual branch, and the norm that opens the next one.
-/
module

public import proofs.«01_k».proof.Proof.Norm
public import proofs.«01_k».proof.Proof.Gen.DownNormIdeal.Value
public import proofs.«01_k».proof.Proof.Gen.DownNormRefIdeal.Run
public import proofs.«01_k».proof.Proof.Gen.OutProjIdeal.Value
public import proofs.«01_k».proof.Proof.Gen.OutProjRefIdeal.Run
public import proofs.«01_k».proof.Proof.Gen.NormInIdeal.Value
public import proofs.«01_k».proof.Proof.Gen.NormInRefIdeal.Run
public import Idealize.ShloMosaic.Lib.Pipeline.ValueKit

@[expose] public section

set_option maxRecDepth 16384

noncomputable section

namespace Cert.DownNormIdeal.Value

open Cert.DownNormIdeal Cert.DownNormIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] := by decide +kernel

theorem row_lt (t : Fin cfg0.N) (n : Fin 1024) : t.val * 1024 + n.val < 4096 := by
  have h : t.val < 4 := lt_of_lt_of_eq t.isLt N_0
  omega

theorem sum_at (r : Vec Ideal S1024x1024 .f32) (p0 : Vec Ideal S1024x2816 .bf16) (w : Vec Ideal S2816x1024 .bf16) (i j : Fin 1024) :
    k0_pay1 r p0 w (ix2 i j) = r (ix2 i j) + ∑ k : Fin 2816, p0 (ix2 i k) * w (ix2 k j) := by
  unfold k0_pay1
  pointwise

theorem norm_at (r : Vec Ideal S1024x1024 .f32) (p0 : Vec Ideal S1024x2816 .bf16) (w : Vec Ideal S2816x1024 .bf16) (g : Vec Ideal S1x1024 .f32) (i j : Fin 1024) :
    k0_pay2 r p0 w g (ix2 i j) = Norm.put (Norm.row (k0_pay1 r p0 w) i) (fun x => g (ix2 0 x)) j := by
  unfold k0_pay2
  pointwise
  rfl

theorem read0_at (t : Fin cfg0.N) (n : Fin 1024) (x : Fin 2816) :
    (show Mm.Mat 1024 2816 from iblk m c 0 t) (ix2 n x) = (m ((c.tc : Thread nD τ).loc main_arg0)) (ix2 ⟨t.val * 1024 + n.val, row_lt t n⟩ x) := by
  have e := (idx t).1
  show iblk m c 0 t (ix2 n x) = _
  blk_ext [iblk, V, e]

theorem read2_at (t : Fin cfg0.N) (n : Fin 1024) (x : Fin 1024) :
    (show Mm.Mat 1024 1024 from iblk m c 2 t) (ix2 n x) = (m ((c.tc : Thread nD τ).loc main_arg2)) (ix2 ⟨t.val * 1024 + n.val, row_lt t n⟩ x) := by
  have e := (idx t).2.2.1
  show iblk m c 2 t (ix2 n x) = _
  blk_ext [iblk, V, e]

theorem weight_at (t : Fin cfg0.N) (k : Fin 2816) (x : Fin 1024) :
    iblk m c 1 t (ix2 k x) = (m ((c.tc : Thread nD τ).loc main_arg1)) (ix2 k x) := by
  have e := (idx t).2.1
  blk_ext [iblk, V, e]

theorem lanes_at (t : Fin cfg0.N) (x : Fin 1024) : iblk m c 3 t (ix2 0 x) = (m ((c.tc : Thread nD τ).loc main_arg3)) (ix1 x) := by
  have e := (idx t).2.2.2.1
  blk_ext! [iblk, e]

/-- The residual stream after the branch. -/
abbrev whole : Mm.Mat 4096 1024 := Mm.plus (m ((c.tc : Thread nD τ).loc main_arg2)) (Mm.nn ((m ((c.tc : Thread nD τ).loc main_arg0))) (m ((c.tc : Thread nD τ).loc main_arg1)))

theorem tile_at (t : Fin cfg0.N) (i j : Fin 1024) :
    k0_pay1 (iblk m c 2 t) (iblk m c 0 t) (iblk m c 1 t) (ix2 i j)
      = whole m c (ix2 ⟨t.val * 1024 + i.val, row_lt t i⟩ j) := by
  refine (sum_at _ _ _ _ _).trans ?_
  unfold whole Mm.plus Mm.nn
  exact congrArg₂ (· + ·) (read2_at m c t i j) (Finset.sum_congr rfl fun k _ => congrArg₂ (· * ·) (read0_at m c _ _ _) (weight_at m c t k j))

theorem arr_h : (dats m 0 c).arrAt 4 cfg0.N = whole m c := by
  refine (dats m 0 c).arrAt_eq_of_covers 4 _ (by decide +kernel) fun t hf y => ?_
  show (dats m 0 c).flushed 4 t y = _
  rw [flushed4]
  frame_out
  have eo := (idx t).2.2.2.2.1
  idx_vars y
  have ej : ((cfg0.win 4).blk t).view.emb (ix2 y0 y1) = ix2 ⟨t.val * 1024 + y0.val, row_lt t y0⟩ y1 := by
    blk_ext [eo]
  rw [ej]
  exact tile_at m c t y0 y1

theorem arr_n : (dats m 0 c).arrAt 5 cfg0.N = Norm.res (whole m c) (fun x => (m ((c.tc : Thread nD τ).loc main_arg3)) (ix1 x)) := by
  refine (dats m 0 c).arrAt_eq_of_covers 5 _ (by decide +kernel) fun t hf y => ?_
  show (dats m 0 c).flushed 5 t y = _
  rw [flushed5]
  frame_out
  have eo := (idx t).2.2.2.2.2
  idx_vars y
  have ej : ((cfg0.win 5).blk t).view.emb (ix2 y0 y1) = ix2 ⟨t.val * 1024 + y0.val, row_lt t y0⟩ y1 := by
    blk_ext [eo]
  rw [ej]
  refine (norm_at _ _ _ _ _ _).trans ?_
  show _ = Norm.put (Norm.row (whole m c) ⟨t.val * 1024 + y0.val, row_lt t y0⟩) (fun x => (m ((c.tc : Thread nD τ).loc main_arg3)) (ix1 x)) y1
  exact congrArg₂ (fun h g => Norm.put h g y1) (funext fun x => tile_at m c t y0 x) (funext fun x => lanes_at m c t x)

end Cert.DownNormIdeal.Value

namespace Cert.DownNormRefIdeal.Value

open Cert.DownNormRefIdeal Cert.DownNormRefIdeal.Gen Idealize.ShloMosaic Idealize.ShloMosaic.TcCoe Idealize.SL.Sem

theorem normed (h : FVec Ideal S4096x1024 .f32) (g : FVec Ideal S1024 .f32) :
    truncf .bf16 (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32
      = Norm.res h (fun x => g (ix1 x)) := by
  funext j
  idx_vars j
  pointwise
  rfl

/-- The host's residual stream. -/
abbrev sumT (h : FVec Ideal S4096x1024 .f32) (a : FVec Ideal S4096x2816 .bf16) (b : FVec Ideal S2816x1024 .bf16) : FVec Ideal S4096x1024 .f32 :=
  addf h (Host.dotGeneral dot_S4096x2816_S2816x1024_S4096x1024_1_0_0_1_n_n none (extf (F := Ideal) .f32 a bitsLt_bf16_f32) (extf (F := Ideal) .f32 b bitsLt_bf16_f32))

theorem out_h (h : FVec Ideal S4096x1024 .f32) (a : FVec Ideal S4096x2816 .bf16) (b : FVec Ideal S2816x1024 .bf16) :
    sumT h a b = Mm.plus h (Mm.nn a b) := by
  funext j
  idx_vars j
  pointwise [Mm.plus, Mm.nn]

theorem out_n (p : FVec Ideal S4096x1024 .f32) (a : FVec Ideal S4096x2816 .bf16) (b : FVec Ideal S2816x1024 .bf16) (g : FVec Ideal S1024 .f32) :
    truncf .bf16 (mulf (mulf (sumT p a b) (broadcastInDim S4096x1024 ![0, 1] bcast_S4096x1_S4096x1024_0_1 (Host.rsqrt (addf (Host.divf (broadcastInDim S4096x1 ![0] bcast_S4096_S4096x1_0 (Host.reduceAdd (mulf (sumT p a b) (sumT p a b)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32
      = Norm.res (Mm.plus p (Mm.nn a b)) (fun x => g (ix1 x)) := by
  rw [← out_h]
  exact normed _ _

end Cert.DownNormRefIdeal.Value

namespace Cert.OutProjIdeal.Value

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_6.index t = ![t.val, 0] := by decide +kernel

theorem row_lt (t : Fin cfg0.N) (n : Fin 1024) : t.val * 1024 + n.val < 4096 := by
  have h : t.val < 4 := lt_of_lt_of_eq t.isLt N_0
  omega

theorem sum_at (r : Vec Ideal S1024x1024 .f32) (p0 : Vec Ideal S1024x768 .bf16) (p1 : Vec Ideal S1024x256 .bf16) (w : Vec Ideal S1024x1024 .bf16) (i j : Fin 1024) :
    k0_pay1 r p0 p1 w (ix2 i j) = r (ix2 i j) + ∑ k : Fin 1024, Mm.pair (N := 1024) rfl p0 p1 (ix2 i k) * w (ix2 k j) := by
  unfold k0_pay1
  pointwise
  exact congrArg _ (Mm.sum_pair (N := 1024) rfl p0 p1 (fun k => w (ix2 k j)) i).symm

theorem norm_at (r : Vec Ideal S1024x1024 .f32) (p0 : Vec Ideal S1024x768 .bf16) (p1 : Vec Ideal S1024x256 .bf16) (w : Vec Ideal S1024x1024 .bf16) (g : Vec Ideal S1x1024 .f32) (i j : Fin 1024) :
    k0_pay2 r p0 p1 w g (ix2 i j) = Norm.put (Norm.row (k0_pay1 r p0 p1 w) i) (fun x => g (ix2 0 x)) j := by
  unfold k0_pay2
  pointwise
  rfl

theorem read0_at (t : Fin cfg0.N) (n : Fin 1024) (x : Fin 768) :
    (show Mm.Mat 1024 768 from iblk m c 0 t) (ix2 n x) = (m ((c.tc : Thread nD τ).loc main_arg0)) (ix2 ⟨t.val * 1024 + n.val, row_lt t n⟩ x) := by
  have e := (idx t).1
  show iblk m c 0 t (ix2 n x) = _
  blk_ext [iblk, V, e]

theorem read1_at (t : Fin cfg0.N) (n : Fin 1024) (x : Fin 256) :
    (show Mm.Mat 1024 256 from iblk m c 1 t) (ix2 n x) = (m ((c.tc : Thread nD τ).loc main_arg1)) (ix2 ⟨t.val * 1024 + n.val, row_lt t n⟩ x) := by
  have e := (idx t).2.1
  show iblk m c 1 t (ix2 n x) = _
  blk_ext [iblk, V, e]

theorem read3_at (t : Fin cfg0.N) (n : Fin 1024) (x : Fin 1024) :
    (show Mm.Mat 1024 1024 from iblk m c 3 t) (ix2 n x) = (m ((c.tc : Thread nD τ).loc main_arg3)) (ix2 ⟨t.val * 1024 + n.val, row_lt t n⟩ x) := by
  have e := (idx t).2.2.2.1
  show iblk m c 3 t (ix2 n x) = _
  blk_ext [iblk, V, e]

theorem weight_at (t : Fin cfg0.N) (k : Fin 1024) (x : Fin 1024) :
    iblk m c 2 t (ix2 k x) = (m ((c.tc : Thread nD τ).loc main_arg2)) (ix2 k x) := by
  have e := (idx t).2.2.1
  blk_ext [iblk, V, e]

theorem lanes_at (t : Fin cfg0.N) (x : Fin 1024) : iblk m c 4 t (ix2 0 x) = (m ((c.tc : Thread nD τ).loc main_arg4)) (ix1 x) := by
  have e := (idx t).2.2.2.2.1
  blk_ext! [iblk, e]

/-- The residual stream after the branch. -/
abbrev whole : Mm.Mat 4096 1024 := Mm.plus (m ((c.tc : Thread nD τ).loc main_arg3)) (Mm.nn (Mm.pair (N := 1024) rfl (m ((c.tc : Thread nD τ).loc main_arg0)) (m ((c.tc : Thread nD τ).loc main_arg1))) (m ((c.tc : Thread nD τ).loc main_arg2)))

theorem tile_at (t : Fin cfg0.N) (i j : Fin 1024) :
    k0_pay1 (iblk m c 3 t) (iblk m c 0 t) (iblk m c 1 t) (iblk m c 2 t) (ix2 i j)
      = whole m c (ix2 ⟨t.val * 1024 + i.val, row_lt t i⟩ j) := by
  refine (sum_at _ _ _ _ _ _).trans ?_
  unfold whole Mm.plus Mm.nn
  exact congrArg₂ (· + ·) (read3_at m c t i j) (Finset.sum_congr rfl fun k _ => congrArg₂ (· * ·) (Mm.pair_eq (fun x => read0_at m c _ _ x) (fun x => read1_at m c _ _ x) _) (weight_at m c t k j))

theorem arr_h : (dats m 0 c).arrAt 5 cfg0.N = whole m c := by
  refine (dats m 0 c).arrAt_eq_of_covers 5 _ (by decide +kernel) fun t hf y => ?_
  show (dats m 0 c).flushed 5 t y = _
  rw [flushed5]
  frame_out
  have eo := (idx t).2.2.2.2.2.1
  idx_vars y
  have ej : ((cfg0.win 5).blk t).view.emb (ix2 y0 y1) = ix2 ⟨t.val * 1024 + y0.val, row_lt t y0⟩ y1 := by
    blk_ext [eo]
  rw [ej]
  exact tile_at m c t y0 y1

theorem arr_n : (dats m 0 c).arrAt 6 cfg0.N = Norm.res (whole m c) (fun x => (m ((c.tc : Thread nD τ).loc main_arg4)) (ix1 x)) := by
  refine (dats m 0 c).arrAt_eq_of_covers 6 _ (by decide +kernel) fun t hf y => ?_
  show (dats m 0 c).flushed 6 t y = _
  rw [flushed6]
  frame_out
  have eo := (idx t).2.2.2.2.2.2
  idx_vars y
  have ej : ((cfg0.win 6).blk t).view.emb (ix2 y0 y1) = ix2 ⟨t.val * 1024 + y0.val, row_lt t y0⟩ y1 := by
    blk_ext [eo]
  rw [ej]
  refine (norm_at _ _ _ _ _ _ _).trans ?_
  show _ = Norm.put (Norm.row (whole m c) ⟨t.val * 1024 + y0.val, row_lt t y0⟩) (fun x => (m ((c.tc : Thread nD τ).loc main_arg4)) (ix1 x)) y1
  exact congrArg₂ (fun h g => Norm.put h g y1) (funext fun x => tile_at m c t y0 x) (funext fun x => lanes_at m c t x)

end Cert.OutProjIdeal.Value

namespace Cert.OutProjRefIdeal.Value

open Cert.OutProjRefIdeal Cert.OutProjRefIdeal.Gen Idealize.ShloMosaic Idealize.ShloMosaic.TcCoe Idealize.SL.Sem

theorem normed (h : FVec Ideal S4096x1024 .f32) (g : FVec Ideal S1024 .f32) :
    truncf .bf16 (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32
      = Norm.res h (fun x => g (ix1 x)) := by
  funext j
  idx_vars j
  pointwise
  rfl

/-- The host's residual stream. -/
abbrev sumT (h : FVec Ideal S4096x1024 .f32) (a : FVec Ideal S4096x768 .bf16) (a' : FVec Ideal S4096x256 .bf16) (b : FVec Ideal S1024x1024 .bf16) : FVec Ideal S4096x1024 .f32 :=
  addf h (Host.dotGeneral dot_S4096x1024_S1024x1024_S4096x1024_1_0_0_1_n_n none (concatenate S4096x1024 1 [⟨S4096x768, (extf (F := Ideal) .f32 a bitsLt_bf16_f32)⟩, ⟨S4096x256, (extf (F := Ideal) .f32 a' bitsLt_bf16_f32)⟩] concatenates_S4096x768_S4096x256_S4096x1024_d1) (extf (F := Ideal) .f32 b bitsLt_bf16_f32))

theorem out_h (h : FVec Ideal S4096x1024 .f32) (a : FVec Ideal S4096x768 .bf16) (a' : FVec Ideal S4096x256 .bf16) (b : FVec Ideal S1024x1024 .bf16) :
    sumT h a a' b = Mm.plus h (Mm.nn (Mm.pair (N := 1024) rfl a a') b) := by
  funext j
  idx_vars j
  pointwise [Mm.plus, Mm.nn]
  exact congrArg _ (Mm.sum_pair (N := 1024) rfl a a' (fun k => b (ix2 k j1)) j0).symm

theorem out_n (p : FVec Ideal S4096x1024 .f32) (a : FVec Ideal S4096x768 .bf16) (a' : FVec Ideal S4096x256 .bf16) (b : FVec Ideal S1024x1024 .bf16) (g : FVec Ideal S1024 .f32) :
    truncf .bf16 (mulf (mulf (sumT p a a' b) (broadcastInDim S4096x1024 ![0, 1] bcast_S4096x1_S4096x1024_0_1 (Host.rsqrt (addf (Host.divf (broadcastInDim S4096x1 ![0] bcast_S4096_S4096x1_0 (Host.reduceAdd (mulf (sumT p a a' b) (sumT p a a' b)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32
      = Norm.res (Mm.plus p (Mm.nn (Mm.pair (N := 1024) rfl a a') b)) (fun x => g (ix1 x)) := by
  rw [← out_h]
  exact normed _ _

end Cert.OutProjRefIdeal.Value

namespace Cert.NormInIdeal.Value

open Cert.NormInIdeal Cert.NormInIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] := by decide +kernel

theorem row_lt (t : Fin cfg0.N) (n : Fin 512) : t.val * 512 + n.val < 4096 := by
  have h : t.val < 8 := lt_of_lt_of_eq t.isLt N_0
  omega

theorem norm_at (h : Vec Ideal S512x1024 .f32) (g : Vec Ideal S1x1024 .f32) (i : Fin 512) (j : Fin 1024) :
    k0_pay1 h g (ix2 i j) = Norm.put (Norm.row h i) (fun x => g (ix2 0 x)) j := by
  unfold k0_pay1
  pointwise
  rfl

theorem row_at (t : Fin cfg0.N) (n : Fin 512) (x : Fin 1024) :
    iblk m c 0 t (ix2 n x) = (m ((c.tc : Thread nD τ).loc main_arg0)) (ix2 ⟨t.val * 512 + n.val, row_lt t n⟩ x) := by
  have e := (idx t).1
  blk_ext [iblk, V, e]

theorem lanes_at (t : Fin cfg0.N) (x : Fin 1024) : iblk m c 1 t (ix2 0 x) = (m ((c.tc : Thread nD τ).loc main_arg1)) (ix1 x) := by
  have e := (idx t).2.1
  blk_ext! [iblk, e]

theorem arr : (dats m 0 c).arrAt 2 cfg0.N = Norm.res (m ((c.tc : Thread nD τ).loc main_arg0)) (fun x => (m ((c.tc : Thread nD τ).loc main_arg1)) (ix1 x)) := by
  refine (dats m 0 c).arrAt_eq_of_covers 2 _ (by decide +kernel) fun t hf y => ?_
  show (dats m 0 c).flushed 2 t y = _
  rw [flushed2]
  frame_out
  have eo := (idx t).2.2
  idx_vars y
  have ej : ((cfg0.win 2).blk t).view.emb (ix2 y0 y1) = ix2 ⟨t.val * 512 + y0.val, row_lt t y0⟩ y1 := by
    blk_ext [eo]
  rw [ej]
  refine (norm_at _ _ _ _).trans ?_
  show _ = Norm.put (Norm.row (m ((c.tc : Thread nD τ).loc main_arg0)) ⟨t.val * 512 + y0.val, row_lt t y0⟩) (fun x => (m ((c.tc : Thread nD τ).loc main_arg1)) (ix1 x)) y1
  exact congrArg₂ (fun h g => Norm.put h g y1) (funext fun x => row_at m c t y0 x) (funext fun x => lanes_at m c t x)

end Cert.NormInIdeal.Value

namespace Cert.NormInRefIdeal.Value

open Cert.NormInRefIdeal Cert.NormInRefIdeal.Gen Idealize.ShloMosaic Idealize.ShloMosaic.TcCoe Idealize.SL.Sem

theorem normed (h : FVec Ideal S4096x1024 .f32) (g : FVec Ideal S1024 .f32) :
    truncf .bf16 (mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) bitsLt_bf16_f32
      = Norm.res h (fun x => g (ix1 x)) := by
  funext j
  idx_vars j
  pointwise
  rfl

end Cert.NormInRefIdeal.Value

end
-- ==== Proof.MemKvValue.lean ====
/-
  The keys and values of the memory branch: the norm of the memory rows and their product, and its gradients.
-/
module

public import proofs.«01_k».proof.Proof.Norm
public import proofs.«01_k».proof.Proof.Gen.MemKvIdeal.Value
public import proofs.«01_k».proof.Proof.Gen.MemKvRefIdeal.Run
public import proofs.«01_k».proof.Proof.Gen.MemKvGradIdeal.Value
public import proofs.«01_k».proof.Proof.Gen.MemKvGradRefIdeal.Run
public import Idealize.ShloMosaic.Lib.Pipeline.ValueKit

@[expose] public section

set_option maxRecDepth 16384

noncomputable section

namespace Cert.MemKvIdeal.Value

open Cert.MemKvIdeal Cert.MemKvIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] := by decide +kernel

theorem pay_at (h : Vec Ideal S256x1024 .f32) (g : Vec Ideal S1x1024 .f32) (w : Vec Ideal S1024x512 .bf16) (i : Fin 256) (j : Fin 512) :
    k0_pay1 h g w (ix2 i j) = ∑ k : Fin 1024, Norm.put (Norm.row h i) (fun x => g (ix2 0 x)) k * w (ix2 k j) := by
  unfold k0_pay1
  pointwise
  rfl

theorem row_at (t : Fin cfg0.N) (n : Fin 256) (x : Fin 1024) : iblk m c 0 t (ix2 n x) = (m ((c.tc : Thread nD τ).loc main_arg0)) (ix2 n x) := by
  have e := (idx t).1
  blk_ext [iblk, V, e]

theorem lanes_at (t : Fin cfg0.N) (x : Fin 1024) : iblk m c 1 t (ix2 0 x) = (m ((c.tc : Thread nD τ).loc main_arg1)) (ix1 x) := by
  have e := (idx t).2.1
  blk_ext! [iblk, e]

theorem weight_at (t : Fin cfg0.N) (k : Fin 1024) (x : Fin 512) : iblk m c 2 t (ix2 k x) = (m ((c.tc : Thread nD τ).loc main_arg2)) (ix2 k x) := by
  have e := (idx t).2.2.1
  blk_ext [iblk, V, e]

theorem arr : (dats m 0 c).arrAt 3 cfg0.N = Mm.nn (Norm.res (m ((c.tc : Thread nD τ).loc main_arg0)) (fun x => (m ((c.tc : Thread nD τ).loc main_arg1)) (ix1 x))) (m ((c.tc : Thread nD τ).loc main_arg2)) := by
  refine (dats m 0 c).arrAt_eq_of_covers 3 _ (by decide +kernel) fun t hf y => ?_
  show (dats m 0 c).flushed 3 t y = _
  rw [flushed3]
  frame_out
  have eo := (idx t).2.2.2
  idx_vars y
  have ej : ((cfg0.win 3).blk t).view.emb (ix2 y0 y1) = ix2 y0 y1 := by
    blk_ext [eo]
  rw [ej]
  refine (pay_at _ _ _ _ _).trans ?_
  unfold Mm.nn
  exact Finset.sum_congr rfl fun k _ => congrArg₂ (· * ·)
    (congrArg₂ (fun h g => Norm.put h g k) (funext fun x => row_at m c t y0 x) (funext fun x => lanes_at m c t x))
    (weight_at m c t k y1)

end Cert.MemKvIdeal.Value

namespace Cert.MemKvRefIdeal.Value

open Cert.MemKvRefIdeal Cert.MemKvRefIdeal.Gen Idealize.ShloMosaic Idealize.ShloMosaic.TcCoe Idealize.SL.Sem

theorem normed (h : FVec Ideal S256x1024 .f32) (g : FVec Ideal S1024 .f32) :
    mulf (mulf h (broadcastInDim S256x1024 ![0, 1] bcast_S256x1_S256x1024_0_1 (Host.rsqrt (addf (Host.divf (broadcastInDim S256x1 ![0] bcast_S256_S256x1_0 (Host.reduceAdd (mulf h h) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 g))
      = Norm.res h (fun x => g (ix1 x)) := by
  funext j
  idx_vars j
  pointwise
  rfl

theorem out (h : FVec Ideal S256x1024 .f32) (g : FVec Ideal S1024 .f32) (w : FVec Ideal S1024x512 .bf16) :
    Host.dotGeneral dot_S256x1024_S1024x512_S256x512_1_0_0_1_n_n none (mulf (mulf h (broadcastInDim S256x1024 ![0, 1] bcast_S256x1_S256x1024_0_1 (Host.rsqrt (addf (Host.divf (broadcastInDim S256x1 ![0] bcast_S256_S256x1_0 (Host.reduceAdd (mulf h h) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 g))) (extf (F := Ideal) .f32 w bitsLt_bf16_f32)
      = Mm.nn (Norm.res h (fun x => g (ix1 x))) w := by
  rw [normed]
  funext j
  idx_vars j
  pointwise [Mm.nn]

end Cert.MemKvRefIdeal.Value

namespace Cert.MemKvGradIdeal.Value

open Cert.MemKvGradIdeal Cert.MemKvGradIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := by decide +kernel

theorem dw_at (g : Vec Ideal S1x1024 .f32) (h : Vec Ideal S256x1024 .f32) (d : Vec Ideal S256x512 .f32) (i : Fin 1024) (j : Fin 512) :
    k0_pay3 g h d (ix2 i j) = ∑ k : Fin 256, Norm.put (Norm.row h k) (fun x => g (ix2 0 x)) i * d (ix2 k j) := by
  unfold k0_pay3
  pointwise [k0_pay1, k0_pay2]
  rfl

theorem dg_at (h : Vec Ideal S256x1024 .f32) (d : Vec Ideal S256x512 .f32) (w : Vec Ideal S1024x512 .bf16) (z : Fin 1) (j : Fin 1024) :
    k0_pay4 h d w (ix2 z j) = ∑ i : Fin 256, Norm.gain (Norm.row h i) (fun x => ∑ k : Fin 512, (show EReal from d (ix2 i k)) * w (ix2 x k)) j := by
  unfold k0_pay4
  pointwise [k0_pay1, k0_pay2]
  rfl

theorem row_at (t : Fin cfg0.N) (n : Fin 256) (x : Fin 1024) : iblk m c 0 t (ix2 n x) = (m ((c.tc : Thread nD τ).loc main_arg0)) (ix2 n x) := by
  have e := (idx t).1
  blk_ext [iblk, V, e]

theorem lanes_at (t : Fin cfg0.N) (x : Fin 1024) : iblk m c 1 t (ix2 0 x) = (m ((c.tc : Thread nD τ).loc main_arg1)) (ix1 x) := by
  have e := (idx t).2.1
  blk_ext! [iblk, e]

theorem weight_at (t : Fin cfg0.N) (k : Fin 1024) (x : Fin 512) : iblk m c 2 t (ix2 k x) = (m ((c.tc : Thread nD τ).loc main_arg2)) (ix2 k x) := by
  have e := (idx t).2.2.1
  blk_ext [iblk, V, e]

theorem cot_at (t : Fin cfg0.N) (k : Fin 256) (x : Fin 512) : iblk m c 3 t (ix2 k x) = (m ((c.tc : Thread nD τ).loc main_arg3)) (ix2 k x) := by
  have e := (idx t).2.2.2.1
  blk_ext [iblk, V, e]

theorem arr_g : (dats m 0 c).arrAt 4 cfg0.N = Norm.resG (m ((c.tc : Thread nD τ).loc main_arg0)) (Mm.nt (m ((c.tc : Thread nD τ).loc main_arg3)) (m ((c.tc : Thread nD τ).loc main_arg2))) := by
  refine (dats m 0 c).arrAt_eq_of_covers 4 _ (by decide +kernel) fun t hf y => ?_
  show (dats m 0 c).flushed 4 t y = _
  rw [flushed4]
  frame_out
  have eo := (idx t).2.2.2.2.1
  idx_vars y
  have ej : ((cfg0.win 4).blk t).view.emb (ix2 y0 y1) = ix2 y0 y1 := by
    blk_ext [eo]
  rw [ej]
  refine (dg_at _ _ _ _ _).trans ?_
  show _ = ∑ i : Fin 256, Norm.gain (Norm.row (m ((c.tc : Thread nD τ).loc main_arg0)) i) (Norm.row (Mm.nt (m ((c.tc : Thread nD τ).loc main_arg3)) (m ((c.tc : Thread nD τ).loc main_arg2))) i) y1
  exact Finset.sum_congr rfl fun i _ => congrArg₂ (fun h d => Norm.gain h d y1) (funext fun x => row_at m c t i x)
    (funext fun x => Finset.sum_congr rfl fun k _ => congrArg₂ (fun p q : EReal => p * q) (cot_at m c t i k) (weight_at m c t x k))

theorem arr_w : (dats m 0 c).arrAt 5 cfg0.N = Mm.tn (Norm.res (m ((c.tc : Thread nD τ).loc main_arg0)) (fun x => (m ((c.tc : Thread nD τ).loc main_arg1)) (ix1 x))) (m ((c.tc : Thread nD τ).loc main_arg3)) := by
  refine (dats m 0 c).arrAt_eq_of_covers 5 _ (by decide +kernel) fun t hf y => ?_
  show (dats m 0 c).flushed 5 t y = _
  rw [flushed5]
  frame_out
  have eo := (idx t).2.2.2.2.2
  idx_vars y
  have ej : ((cfg0.win 5).blk t).view.emb (ix2 y0 y1) = ix2 y0 y1 := by
    blk_ext [eo]
  rw [ej]
  refine (dw_at _ _ _ _ _).trans ?_
  unfold Mm.tn
  exact Finset.sum_congr rfl fun k _ => congrArg₂ (· * ·)
    (congrArg₂ (fun h g => Norm.put h g y0) (funext fun x => row_at m c t k x) (funext fun x => lanes_at m c t x))
    (cot_at m c t k y1)

end Cert.MemKvGradIdeal.Value

namespace Cert.MemKvGradRefIdeal.Value

open Cert.MemKvGradRefIdeal Cert.MemKvGradRefIdeal.Gen Idealize.ShloMosaic Idealize.ShloMosaic.TcCoe Idealize.SL.Sem

theorem normed (h : FVec Ideal S256x1024 .f32) (g : FVec Ideal S1024 .f32) :
    mulf (mulf h (broadcastInDim S256x1024 ![0, 1] bcast_S256x1_S256x1024_0_1 (Host.rsqrt (addf (Host.divf (broadcastInDim S256x1 ![0] bcast_S256_S256x1_0 (Host.reduceAdd (mulf h h) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 g))
      = Norm.res h (fun x => g (ix1 x)) := by
  funext j
  idx_vars j
  pointwise
  rfl

theorem prod (d : FVec Ideal S256x512 .f32) (w : FVec Ideal S1024x512 .bf16) :
    Host.dotGeneral dot_S256x512_S1024x512_S256x1024_1_1_0_0_n_n none d (extf (F := Ideal) .f32 w bitsLt_bf16_f32) = Mm.nt d w := by
  funext j
  idx_vars j
  pointwise [Mm.nt]

theorem out_d (h d : FVec Ideal S256x1024 .f32) :
    broadcastInDim S1x1024 ![1] bcast_S1024_S1x1024_1 (Host.reduceAdd (shapeCast _ (Host.reduceAdd (mulf (mulf h (broadcastInDim S256x1024 ![0, 1] bcast_S256x1_S256x1024_0_1 (Host.rsqrt (addf (Host.divf (broadcastInDim S256x1 ![0] bcast_S256_S256x1_0 (Host.reduceAdd (mulf h h) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) d) (constant S_ .f32 0x00000000#32) reducesTo_S256x1024_S1024_d0 h_S_) shapeCasts_S1024_S1x1024) (constant S_ .f32 0x00000000#32) reducesTo_S1x1024_S1024_d0 h_S_)
      = Norm.resG h d := by
  funext j
  idx_vars j
  pointwise
  rw [Fin.sum_univ_one]
  rfl

theorem out_g (h : FVec Ideal S256x1024 .f32) (d : FVec Ideal S256x512 .f32) (w : FVec Ideal S1024x512 .bf16) :
    broadcastInDim S1x1024 ![1] bcast_S1024_S1x1024_1 (Host.reduceAdd (shapeCast _ (Host.reduceAdd (mulf (mulf h (broadcastInDim S256x1024 ![0, 1] bcast_S256x1_S256x1024_0_1 (Host.rsqrt (addf (Host.divf (broadcastInDim S256x1 ![0] bcast_S256_S256x1_0 (Host.reduceAdd (mulf h h) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (Host.dotGeneral dot_S256x512_S1024x512_S256x1024_1_1_0_0_n_n none d (extf (F := Ideal) .f32 w bitsLt_bf16_f32))) (constant S_ .f32 0x00000000#32) reducesTo_S256x1024_S1024_d0 h_S_) shapeCasts_S1024_S1x1024) (constant S_ .f32 0x00000000#32) reducesTo_S1x1024_S1024_d0 h_S_)
      = Norm.resG h (Mm.nt d w) := by
  rw [← prod]
  exact out_d _ _

theorem out_w (h : FVec Ideal S256x1024 .f32) (g : FVec Ideal S1024 .f32) (d : FVec Ideal S256x512 .f32) :
    transpose S1024x512 [1, 0] (Host.dotGeneral dot_S256x512_S256x1024_S512x1024_0_0_1_1_n_n none d (mulf (mulf h (broadcastInDim S256x1024 ![0, 1] bcast_S256x1_S256x1024_0_1 (Host.rsqrt (addf (Host.divf (broadcastInDim S256x1 ![0] bcast_S256_S256x1_0 (Host.reduceAdd (mulf h h) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 g)))) transposes_S512x1024_S1024x512_1_0
      = Mm.tn (Norm.res h (fun x => g (ix1 x))) d := by
  rw [normed]
  funext j
  idx_vars j
  pointwise [Mm.tn]
  exact Finset.sum_congr rfl fun _ _ => mul_comm _ _

end Cert.MemKvGradRefIdeal.Value

end
-- ==== Proof.DInValue.lean ====
/-
  The gradients through the projections into the mixers and the norm before them: eight tiles of tokens, the gradient of
  the projection in pieces side by side.
-/
module

public import proofs.«01_k».proof.Proof.Norm
public import proofs.«01_k».proof.Proof.Gen.DInAIdeal.Value
public import proofs.«01_k».proof.Proof.Gen.DInARefIdeal.Run
public import proofs.«01_k».proof.Proof.Gen.DInBIdeal.Value
public import proofs.«01_k».proof.Proof.Gen.DInBRefIdeal.Run
public import Idealize.ShloMosaic.Lib.Pipeline.ValueKit

@[expose] public section

set_option maxRecDepth 16384

noncomputable section

namespace Cert.DInAIdeal.Value

open Cert.DInAIdeal Cert.DInAIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_6.index t = ![t.val, 0] ∧ win0_7.index t = ![0, 0] := by decide +kernel

theorem row_lt (t : Fin cfg0.N) (n : Fin 512) : t.val * 512 + n.val < 4096 := by
  have h : t.val < 8 := lt_of_lt_of_eq t.isLt N_0
  omega

theorem prod_at (p0 : Vec Ideal S512x1024 .bf16) (p1 : Vec Ideal S512x256 .bf16) (w : Vec Ideal S1024x1280 .bf16) (i : Fin 512) (j : Fin 1024) :
    k0_pay1 p0 p1 w (ix2 i j) = ∑ k : Fin 1280, Mm.pair (N := 1280) rfl p0 p1 (ix2 i k) * w (ix2 j k) := by
  unfold k0_pay1
  pointwise
  exact (Mm.sum_pair (N := 1280) rfl p0 p1 (fun k => w (ix2 j k)) i).symm

theorem zero_at (d : Fin 1) (j : Fin 1024) : k0_pay2 (F := Ideal) (ix2 d j) = 0 := by
  unfold k0_pay2
  pointwise

theorem gadd_at (x y : Vec Ideal S1x1024 .f32) (d : Fin 1) (j : Fin 1024) :
    k0_pay4 x y (ix2 d j) = y (ix2 d j) + x (ix2 d j) := by
  unfold k0_pay4
  pointwise

theorem back_at (h : Vec Ideal S512x1024 .f32) (g : Vec Ideal S1x1024 .f32) (s r : Vec Ideal S512x1024 .f32) (i : Fin 512) (j : Fin 1024) :
    k0_pay9 h g s r (ix2 i j) = r (ix2 i j) + Norm.back (Norm.row h i) (fun x => g (ix2 0 x)) (Norm.row s i) j := by
  unfold k0_pay9
  pointwise [k0_pay5, k0_pay6, k0_pay7]
  rw [Fin.sum_univ_one]
  rfl

theorem gain_at (h s : Vec Ideal S512x1024 .f32) (d : Fin 1) (j : Fin 1024) :
    k0_pay8 h s (ix2 d j) = ∑ i : Fin 512, Norm.gain (Norm.row h i) (Norm.row s i) j := by
  unfold k0_pay8
  pointwise [k0_pay5, k0_pay6, k0_pay7]
  rfl

theorem read0_at (t : Fin cfg0.N) (n : Fin 512) (x : Fin 1024) :
    (show Mm.Mat 512 1024 from iblk m c 0 t) (ix2 n x) = (m ((c.tc : Thread nD τ).loc main_arg0)) (ix2 ⟨t.val * 512 + n.val, row_lt t n⟩ x) := by
  have e := (idx t).1
  show iblk m c 0 t (ix2 n x) = _
  blk_ext [iblk, V, e]

theorem read1_at (t : Fin cfg0.N) (n : Fin 512) (x : Fin 256) :
    (show Mm.Mat 512 256 from iblk m c 1 t) (ix2 n x) = (m ((c.tc : Thread nD τ).loc main_arg1)) (ix2 ⟨t.val * 512 + n.val, row_lt t n⟩ x) := by
  have e := (idx t).2.1
  show iblk m c 1 t (ix2 n x) = _
  blk_ext [iblk, V, e]

theorem read3_at (t : Fin cfg0.N) (n : Fin 512) (x : Fin 1024) :
    (show Mm.Mat 512 1024 from iblk m c 3 t) (ix2 n x) = (m ((c.tc : Thread nD τ).loc main_arg3)) (ix2 ⟨t.val * 512 + n.val, row_lt t n⟩ x) := by
  have e := (idx t).2.2.2.1
  show iblk m c 3 t (ix2 n x) = _
  blk_ext [iblk, V, e]

theorem read5_at (t : Fin cfg0.N) (n : Fin 512) (x : Fin 1024) :
    (show Mm.Mat 512 1024 from iblk m c 5 t) (ix2 n x) = (m ((c.tc : Thread nD τ).loc main_arg5)) (ix2 ⟨t.val * 512 + n.val, row_lt t n⟩ x) := by
  have e := (idx t).2.2.2.2.2.1
  show iblk m c 5 t (ix2 n x) = _
  blk_ext [iblk, V, e]

theorem weight_at (t : Fin cfg0.N) (j : Fin 1024) (k : Fin 1280) : iblk m c 2 t (ix2 j k) = (m ((c.tc : Thread nD τ).loc main_arg2)) (ix2 j k) := by
  have e := (idx t).2.2.1
  blk_ext [iblk, V, e]

theorem lanes_at (t : Fin cfg0.N) (x : Fin 1024) : iblk m c 4 t (ix2 0 x) = (m ((c.tc : Thread nD τ).loc main_arg4)) (ix1 x) := by
  have e := (idx t).2.2.2.2.1
  blk_ext! [iblk, e]

/-- The product of all tokens. -/
abbrev whole : Mm.Mat 4096 1024 := Mm.nt (Mm.pair (N := 1280) rfl (m ((c.tc : Thread nD τ).loc main_arg0)) (m ((c.tc : Thread nD τ).loc main_arg1))) (m ((c.tc : Thread nD τ).loc main_arg2))

/-- The product of a tile of tokens. -/
def tile (t : Fin cfg0.N) : Vec Ideal S512x1024 .f32 := k0_pay1 (iblk m c 0 t) (iblk m c 1 t) (iblk m c 2 t)

theorem tile_at (t : Fin cfg0.N) (i : Fin 512) (j : Fin 1024) :
    tile m c t (ix2 i j) = whole m c (ix2 ⟨t.val * 512 + i.val, row_lt t i⟩ j) := by
  refine (prod_at _ _ _ _ _).trans ?_
  exact Finset.sum_congr rfl fun k _ => congrArg₂ (fun p q : EReal => p * q) (Mm.pair_eq (fun x => read0_at m c _ _ x) (fun x => read1_at m c _ _ x) _) (weight_at m c t j k)

theorem out_A (t : Fin cfg0.N) (h0 : t.val % 8 = 0) :
    outsAt0 m c t.val t.isLt = (k0_pay9 (iblk m c 3 t) (iblk m c 4 t) (tile m c t) (iblk m c 5 t),
      k0_pay4 (k0_pay8 (iblk m c 3 t) (tile m c t)) (k0_pay2 (F := Ideal))) := by
  rw [outsAt0_A m c t h0]
  unfold tile
  frame_out

theorem out_B (t : Fin cfg0.N) (h0 : ¬t.val % 8 = 0) :
    outsAt0 m c t.val t.isLt = (k0_pay9 (iblk m c 3 t) (iblk m c 4 t) (tile m c t) (iblk m c 5 t),
      k0_pay4 (k0_pay8 (iblk m c 3 t) (tile m c t)) (outsAt0 m c (t.val - 1) (Nat.lt_of_le_of_lt (Nat.sub_le _ _) t.isLt)).2) := by
  rw [outsAt0_B m c t h0]
  unfold tile
  frame_out

theorem fst_eq (t : Fin cfg0.N) : (outsAt0 m c t.val t.isLt).1
    = k0_pay9 (iblk m c 3 t) (iblk m c 4 t) (tile m c t) (iblk m c 5 t) := by
  by_cases h0 : t.val % 8 = 0
  · rw [out_A m c t h0]
  · rw [out_B m c t h0]

theorem rows_eq (t : Fin cfg0.N) (i : Fin 512) : Norm.row (show Mm.Mat 512 1024 from iblk m c 3 t) i
    = Norm.row (m ((c.tc : Thread nD τ).loc main_arg3)) ⟨t.val * 512 + i.val, row_lt t i⟩ := funext fun x => read3_at m c t i x

theorem tile_eq (t : Fin cfg0.N) (i : Fin 512) : Norm.row (tile m c t) i
    = Norm.row (whole m c) ⟨t.val * 512 + i.val, row_lt t i⟩ := funext fun x => tile_at m c t i x

theorem arr_x : (dats m 0 c).arrAt 6 cfg0.N = Norm.resX (m ((c.tc : Thread nD τ).loc main_arg3)) (whole m c) (m ((c.tc : Thread nD τ).loc main_arg5)) (fun x => (m ((c.tc : Thread nD τ).loc main_arg4)) (ix1 x)) := by
  refine (dats m 0 c).arrAt_eq_of_covers 6 _ (by decide +kernel) fun t hf y => ?_
  show (dats m 0 c).flushed 6 t y = _
  rw [flushed6]
  have eo := (idx t).2.2.2.2.2.2.1
  idx_vars y
  have ej : ((cfg0.win 6).blk t).view.emb (ix2 y0 y1) = ix2 ⟨t.val * 512 + y0.val, row_lt t y0⟩ y1 := by
    blk_ext [eo]
  rw [ej, fst_eq]
  refine (back_at _ _ _ _ _ _).trans ?_
  show _ = (show EReal from (m ((c.tc : Thread nD τ).loc main_arg5)) (ix2 ⟨t.val * 512 + y0.val, row_lt t y0⟩ y1)) + Norm.back (Norm.row (m ((c.tc : Thread nD τ).loc main_arg3)) ⟨t.val * 512 + y0.val, row_lt t y0⟩)
    (fun x => (m ((c.tc : Thread nD τ).loc main_arg4)) (ix1 x)) (Norm.row (whole m c) ⟨t.val * 512 + y0.val, row_lt t y0⟩) y1
  refine congrArg₂ (· + ·) (read5_at m c t y0 y1) ?_
  have eg : (fun x => iblk m c 4 t (ix2 0 x)) = fun x => (m ((c.tc : Thread nD τ).loc main_arg4)) (ix1 x) := funext fun x => lanes_at m c t x
  exact (congrArg₂ (fun h d => Norm.back h (fun x => iblk m c 4 t (ix2 0 x)) d y1) (rows_eq m c t y0) (tile_eq m c t y0)).trans
    (congrArg (fun g => Norm.back _ g _ y1) eg)

/-- What tile `q` of tokens adds to the gradient of the gain. -/
def gpart (q : ℕ) (j : Fin 1024) : EReal :=
  if h : q < cfg0.N then
    ∑ i : Fin 512, Norm.gain (Norm.row (show Mm.Mat 512 1024 from iblk m c 3 ⟨q, h⟩) i) (Norm.row (tile m c ⟨q, h⟩) i) j
  else 0

theorem held (d : Fin 1) (j : Fin 1024) : ∀ (n : ℕ) (hn : n < cfg0.N),
    (outsAt0 m c n hn).2 (ix2 d j) = ∑ q ∈ Finset.range (n + 1), gpart m c q j
  | 0, hn => by
    refine (congrFun (congrArg Prod.snd (out_A m c ⟨0, hn⟩ rfl)) _).trans ?_
    refine (gadd_at _ _ d j).trans ?_
    rw [zero_at, zero_add, gain_at, Finset.sum_range_one]
    unfold gpart
    rw [dif_pos hn]
  | n + 1, hn => by
    have hN : n + 1 < 8 := lt_of_lt_of_eq hn N_0
    refine (congrFun (congrArg Prod.snd (out_B m c ⟨n + 1, hn⟩ (by show ¬(n + 1) % 8 = 0; omega))) _).trans ?_
    refine (gadd_at _ _ d j).trans ?_
    rw [Finset.sum_range_succ]
    refine congrArg₂ (· + ·) (held d j n (Nat.lt_of_succ_lt hn)) ?_
    rw [gain_at]
    unfold gpart
    rw [dif_pos hn]

theorem arr_g : (dats m 0 c).arrAt 7 cfg0.N = Norm.resG (m ((c.tc : Thread nD τ).loc main_arg3)) (whole m c) := by
  refine (dats m 0 c).arrAt_eq_of_covers 7 _ (by decide +kernel) fun t hf y => ?_
  show (dats m 0 c).flushed 7 t y = _
  rw [flushed7]
  have h7 : t.val % 8 = 7 := (flush0_7 t).mp hf
  have hN : t.val < 8 := lt_of_lt_of_eq t.isLt N_0
  have eo := (idx t).2.2.2.2.2.2.2
  idx_vars y
  have ej : ((cfg0.win 7).blk t).view.emb (ix2 y0 y1) = ix2 y0 y1 := by
    blk_ext [eo]
  rw [ej]
  refine (held m c _ _ t.val t.isLt).trans ?_
  have e : t.val + 1 = 8 := by omega
  rw [e, Finset.sum_range]
  show _ = ∑ i : Fin 4096, Norm.gain (Norm.row (m ((c.tc : Thread nD τ).loc main_arg3)) i) (Norm.row (whole m c) i) y1
  have hp : ∀ q : Fin 8, q.val < cfg0.N := fun q => lt_of_lt_of_eq q.isLt N_0.symm
  have eq : ∀ q : Fin 8, gpart m c q.val y1 = ∑ i : Fin 512, Norm.gain (Norm.row (show Mm.Mat 512 1024 from iblk m c 3 ⟨q.val, hp q⟩) i)
      (Norm.row (tile m c ⟨q.val, hp q⟩) i) y1 := fun q => dif_pos (hp q)
  refine (Finset.sum_congr rfl fun q _ => eq q).trans ?_
  refine Fin.sum_mul_add_congr fun q n hl => ?_
  exact congrArg₂ (fun h d => Norm.gain h d y1) (rows_eq m c ⟨q.val, hp q⟩ n) (tile_eq m c ⟨q.val, hp q⟩ n)

end Cert.DInAIdeal.Value

namespace Cert.DInARefIdeal.Value

open Cert.DInARefIdeal Cert.DInARefIdeal.Gen Idealize.ShloMosaic Idealize.ShloMosaic.TcCoe Idealize.SL.Sem

/-- The host's product. -/
abbrev prodT (p0 : FVec Ideal S4096x1024 .bf16) (p1 : FVec Ideal S4096x256 .bf16) (w : FVec Ideal S1024x1280 .bf16) : FVec Ideal S4096x1024 .f32 :=
  Host.dotGeneral (φ₁ := .f32) (φ₂ := .f32) dot_S4096x1280_S1024x1280_S4096x1024_1_1_0_0_n_n none (concatenate S4096x1280 1 [⟨S4096x1024, (extf (F := Ideal) .f32 p0 bitsLt_bf16_f32)⟩, ⟨S4096x256, (extf (F := Ideal) .f32 p1 bitsLt_bf16_f32)⟩] concatenates_S4096x1024_S4096x256_S4096x1280_d1) (extf (F := Ideal) .f32 w bitsLt_bf16_f32)

/-- The mean of the squares of each row, and the epsilon. -/
abbrev meanT (h : FVec Ideal S4096x1024 .f32) : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The gain, once per row. -/
abbrev gainT (g : FVec Ideal S1024 .f32) : FVec Ideal S4096x1024 .f32 :=
  broadcastInDim S4096x1024 ![0, 1] bcast_S1x1024_S4096x1024_0_1 (broadcastInDim S1x1024 ![1] bcast_S1024_S1x1024_1 g)

/-- The cotangent of each row's mean of squares. -/
abbrev slopeT (h : FVec Ideal S4096x1024 .f32) (g : FVec Ideal S1024 .f32) (d : FVec Ideal S4096x1024 .f32) : FVec Ideal S4096 .f32 :=
  Host.reduceAdd (Host.divf (mulf (shapeCast _ (Host.reduceAdd (mulf h (mulf d (gainT g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (meanT h)) (meanT h)))) (broadcastInDim S4096x1 ![] bcast_S_S4096x1 (constant S_ .f32 0x44800000#32))) (constant S_ .f32 0x00000000#32) reducesTo_S4096x1_S4096_d1 h_S_

theorem mean_at (h : FVec Ideal S4096x1024 .f32) (i : Fin 4096) (z : Fin 1) : meanT h (ix2 i z) = Norm.spread (Norm.row h i) := by
  pointwise
  rfl

theorem gain_at (g : FVec Ideal S1024 .f32) (i : Fin 4096) (x : Fin 1024) : gainT g (ix2 i x) = g (ix1 x) := by
  pointwise

theorem slope_at (h : FVec Ideal S4096x1024 .f32) (g : FVec Ideal S1024 .f32) (d : FVec Ideal S4096x1024 .f32) (i : Fin 4096) :
    slopeT h g d (ix1 i) = Norm.slope (Norm.row h i) (fun x => g (ix1 x)) (Norm.row d i) := by
  pointwise [mean_at, gain_at]
  rw [Fin.sum_univ_one]
  rfl

theorem prod (p0 : FVec Ideal S4096x1024 .bf16) (p1 : FVec Ideal S4096x256 .bf16) (w : FVec Ideal S1024x1280 .bf16) : prodT p0 p1 w = Mm.nt (Mm.pair (N := 1280) rfl p0 p1) w := by
  funext j
  idx_vars j
  pointwise [Mm.nt]
  exact (Mm.sum_pair (N := 1280) rfl p0 p1 (fun k => w (ix2 j1 k)) j0).symm

theorem out_x (h d r : FVec Ideal S4096x1024 .f32) (g : FVec Ideal S1024 .f32) :
    addf r (addf (addf (mulf (mulf d (gainT g)) (broadcastInDim S4096x1024 ![0, 1] bcast_S4096x1_S4096x1024_0_1 (Host.rsqrt (meanT h)))) (mulf h (broadcastInDim S4096x1024 ![0] bcast_S4096_S4096x1024_0 (slopeT h g d)))) (mulf (broadcastInDim S4096x1024 ![0] bcast_S4096_S4096x1024_0 (slopeT h g d)) h))
      = Norm.resX h d r (fun x => g (ix1 x)) := by
  funext j
  idx_vars j
  pointwise [mean_at, gain_at, slope_at]
  rfl

theorem out_g (h d : FVec Ideal S4096x1024 .f32) :
    broadcastInDim S1x1024 ![1] bcast_S1024_S1x1024_1 (Host.reduceAdd (shapeCast _ (Host.reduceAdd (mulf (mulf h (broadcastInDim S4096x1024 ![0, 1] bcast_S4096x1_S4096x1024_0_1 (Host.rsqrt (meanT h)))) d) (constant S_ .f32 0x00000000#32) reducesTo_S4096x1024_S1024_d0 h_S_) shapeCasts_S1024_S1x1024) (constant S_ .f32 0x00000000#32) reducesTo_S1x1024_S1024_d0 h_S_) = Norm.resG h d := by
  funext j
  idx_vars j
  pointwise [mean_at]
  rw [Fin.sum_univ_one]
  rfl

variable (m : (ℓ : Loc nD τ sig) → Buf (Elt Ideal) ℓ) (c : Dev nD)

theorem out0 : res_main_v42 m c = Norm.resX (m ((c.tc : Thread nD τ).loc main_arg3)) (Mm.nt (Mm.pair (N := 1280) rfl (m ((c.tc : Thread nD τ).loc main_arg0)) (m ((c.tc : Thread nD τ).loc main_arg1))) (m ((c.tc : Thread nD τ).loc main_arg2))) (m ((c.tc : Thread nD τ).loc main_arg5)) (fun x => (m ((c.tc : Thread nD τ).loc main_arg4)) (ix1 x)) := by
  rw [← prod]
  exact out_x _ _ _ _

theorem out1 (p0 : FVec Ideal S4096x1024 .bf16) (p1 : FVec Ideal S4096x256 .bf16) (w : FVec Ideal S1024x1280 .bf16) (h : FVec Ideal S4096x1024 .f32) :
    broadcastInDim S1x1024 ![1] bcast_S1024_S1x1024_1 (Host.reduceAdd (shapeCast _ (Host.reduceAdd (mulf (mulf h (broadcastInDim S4096x1024 ![0, 1] bcast_S4096x1_S4096x1024_0_1 (Host.rsqrt (meanT h)))) (prodT p0 p1 w)) (constant S_ .f32 0x00000000#32) reducesTo_S4096x1024_S1024_d0 h_S_) shapeCasts_S1024_S1x1024) (constant S_ .f32 0x00000000#32) reducesTo_S1x1024_S1024_d0 h_S_) = Norm.resG h (Mm.nt (Mm.pair (N := 1280) rfl p0 p1) w) := by
  rw [← prod]
  exact out_g _ _

end Cert.DInARefIdeal.Value

namespace Cert.DInBIdeal.Value

open Cert.DInBIdeal Cert.DInBIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![0, 0] ∧ win0_7.index t = ![t.val, 0] ∧ win0_8.index t = ![t.val, 0] ∧ win0_9.index t = ![0, 0] := by decide +kernel

theorem row_lt (t : Fin cfg0.N) (n : Fin 512) : t.val * 512 + n.val < 4096 := by
  have h : t.val < 8 := lt_of_lt_of_eq t.isLt N_0
  omega

theorem prod_at (p0 : Vec Ideal S512x1536 .bf16) (p1 : Vec Ideal S512x768 .bf16) (p2 : Vec Ideal S512x256 .bf16) (p3 : Vec Ideal S512x128 .bf16) (w : Vec Ideal S1024x2688 .bf16) (i : Fin 512) (j : Fin 1024) :
    k0_pay1 p0 p1 p2 p3 w (ix2 i j) = ∑ k : Fin 2688, Mm.pair (N := 2688) rfl p0 (Mm.pair (N := 1152) rfl p1 (Mm.pair (N := 384) rfl p2 p3)) (ix2 i k) * w (ix2 j k) := by
  unfold k0_pay1
  pointwise
  rfl

theorem zero_at (d : Fin 1) (j : Fin 1024) : k0_pay2 (F := Ideal) (ix2 d j) = 0 := by
  unfold k0_pay2
  pointwise

theorem gadd_at (x y : Vec Ideal S1x1024 .f32) (d : Fin 1) (j : Fin 1024) :
    k0_pay4 x y (ix2 d j) = y (ix2 d j) + x (ix2 d j) := by
  unfold k0_pay4
  pointwise

theorem back_at (h : Vec Ideal S512x1024 .f32) (g : Vec Ideal S1x1024 .f32) (s r : Vec Ideal S512x1024 .f32) (i : Fin 512) (j : Fin 1024) :
    k0_pay9 h g s r (ix2 i j) = r (ix2 i j) + Norm.back (Norm.row h i) (fun x => g (ix2 0 x)) (Norm.row s i) j := by
  unfold k0_pay9
  pointwise [k0_pay5, k0_pay6, k0_pay7]
  rw [Fin.sum_univ_one]
  rfl

theorem gain_at (h s : Vec Ideal S512x1024 .f32) (d : Fin 1) (j : Fin 1024) :
    k0_pay8 h s (ix2 d j) = ∑ i : Fin 512, Norm.gain (Norm.row h i) (Norm.row s i) j := by
  unfold k0_pay8
  pointwise [k0_pay5, k0_pay6, k0_pay7]
  rfl

theorem read0_at (t : Fin cfg0.N) (n : Fin 512) (x : Fin 1536) :
    (show Mm.Mat 512 1536 from iblk m c 0 t) (ix2 n x) = (m ((c.tc : Thread nD τ).loc main_arg0)) (ix2 ⟨t.val * 512 + n.val, row_lt t n⟩ x) := by
  have e := (idx t).1
  show iblk m c 0 t (ix2 n x) = _
  blk_ext [iblk, V, e]

theorem read1_at (t : Fin cfg0.N) (n : Fin 512) (x : Fin 768) :
    (show Mm.Mat 512 768 from iblk m c 1 t) (ix2 n x) = (m ((c.tc : Thread nD τ).loc main_arg1)) (ix2 ⟨t.val * 512 + n.val, row_lt t n⟩ x) := by
  have e := (idx t).2.1
  show iblk m c 1 t (ix2 n x) = _
  blk_ext [iblk, V, e]

theorem read2_at (t : Fin cfg0.N) (n : Fin 512) (x : Fin 256) :
    (show Mm.Mat 512 256 from iblk m c 2 t) (ix2 n x) = (m ((c.tc : Thread nD τ).loc main_arg2)) (ix2 ⟨t.val * 512 + n.val, row_lt t n⟩ x) := by
  have e := (idx t).2.2.1
  show iblk m c 2 t (ix2 n x) = _
  blk_ext [iblk, V, e]

theorem read3_at (t : Fin cfg0.N) (n : Fin 512) (x : Fin 128) :
    (show Mm.Mat 512 128 from iblk m c 3 t) (ix2 n x) = (m ((c.tc : Thread nD τ).loc main_arg3)) (ix2 ⟨t.val * 512 + n.val, row_lt t n⟩ x) := by
  have e := (idx t).2.2.2.1
  show iblk m c 3 t (ix2 n x) = _
  blk_ext [iblk, V, e]

theorem read5_at (t : Fin cfg0.N) (n : Fin 512) (x : Fin 1024) :
    (show Mm.Mat 512 1024 from iblk m c 5 t) (ix2 n x) = (m ((c.tc : Thread nD τ).loc main_arg5)) (ix2 ⟨t.val * 512 + n.val, row_lt t n⟩ x) := by
  have e := (idx t).2.2.2.2.2.1
  show iblk m c 5 t (ix2 n x) = _
  blk_ext [iblk, V, e]

theorem read7_at (t : Fin cfg0.N) (n : Fin 512) (x : Fin 1024) :
    (show Mm.Mat 512 1024 from iblk m c 7 t) (ix2 n x) = (m ((c.tc : Thread nD τ).loc main_arg7)) (ix2 ⟨t.val * 512 + n.val, row_lt t n⟩ x) := by
  have e := (idx t).2.2.2.2.2.2.2.1
  show iblk m c 7 t (ix2 n x) = _
  blk_ext [iblk, V, e]

theorem weight_at (t : Fin cfg0.N) (j : Fin 1024) (k : Fin 2688) : iblk m c 4 t (ix2 j k) = (m ((c.tc : Thread nD τ).loc main_arg4)) (ix2 j k) := by
  have e := (idx t).2.2.2.2.1
  blk_ext [iblk, V, e]

theorem lanes_at (t : Fin cfg0.N) (x : Fin 1024) : iblk m c 6 t (ix2 0 x) = (m ((c.tc : Thread nD τ).loc main_arg6)) (ix1 x) := by
  have e := (idx t).2.2.2.2.2.2.1
  blk_ext! [iblk, e]

/-- The product of all tokens. -/
abbrev whole : Mm.Mat 4096 1024 := Mm.nt (Mm.pair (N := 2688) rfl (m ((c.tc : Thread nD τ).loc main_arg0)) (Mm.pair (N := 1152) rfl (m ((c.tc : Thread nD τ).loc main_arg1)) (Mm.pair (N := 384) rfl (m ((c.tc : Thread nD τ).loc main_arg2)) (m ((c.tc : Thread nD τ).loc main_arg3))))) (m ((c.tc : Thread nD τ).loc main_arg4))

/-- The product of a tile of tokens. -/
def tile (t : Fin cfg0.N) : Vec Ideal S512x1024 .f32 := k0_pay1 (iblk m c 0 t) (iblk m c 1 t) (iblk m c 2 t) (iblk m c 3 t) (iblk m c 4 t)

theorem tile_at (t : Fin cfg0.N) (i : Fin 512) (j : Fin 1024) :
    tile m c t (ix2 i j) = whole m c (ix2 ⟨t.val * 512 + i.val, row_lt t i⟩ j) := by
  refine (prod_at _ _ _ _ _ _ _).trans ?_
  exact Finset.sum_congr rfl fun k _ => congrArg₂ (fun p q : EReal => p * q) (Mm.pair_eq (fun x => read0_at m c _ _ x) (fun _ => Mm.pair_eq (fun x => read1_at m c _ _ x) (fun _ => Mm.pair_eq (fun x => read2_at m c _ _ x) (fun x => read3_at m c _ _ x) _) _) _) (weight_at m c t j k)

theorem out_A (t : Fin cfg0.N) (h0 : t.val % 8 = 0) :
    outsAt0 m c t.val t.isLt = (k0_pay9 (iblk m c 5 t) (iblk m c 6 t) (tile m c t) (iblk m c 7 t),
      k0_pay4 (k0_pay8 (iblk m c 5 t) (tile m c t)) (k0_pay2 (F := Ideal))) := by
  rw [outsAt0_A m c t h0]
  unfold tile
  frame_out

theorem out_B (t : Fin cfg0.N) (h0 : ¬t.val % 8 = 0) :
    outsAt0 m c t.val t.isLt = (k0_pay9 (iblk m c 5 t) (iblk m c 6 t) (tile m c t) (iblk m c 7 t),
      k0_pay4 (k0_pay8 (iblk m c 5 t) (tile m c t)) (outsAt0 m c (t.val - 1) (Nat.lt_of_le_of_lt (Nat.sub_le _ _) t.isLt)).2) := by
  rw [outsAt0_B m c t h0]
  unfold tile
  frame_out

theorem fst_eq (t : Fin cfg0.N) : (outsAt0 m c t.val t.isLt).1
    = k0_pay9 (iblk m c 5 t) (iblk m c 6 t) (tile m c t) (iblk m c 7 t) := by
  by_cases h0 : t.val % 8 = 0
  · rw [out_A m c t h0]
  · rw [out_B m c t h0]

theorem rows_eq (t : Fin cfg0.N) (i : Fin 512) : Norm.row (show Mm.Mat 512 1024 from iblk m c 5 t) i
    = Norm.row (m ((c.tc : Thread nD τ).loc main_arg5)) ⟨t.val * 512 + i.val, row_lt t i⟩ := funext fun x => read5_at m c t i x

theorem tile_eq (t : Fin cfg0.N) (i : Fin 512) : Norm.row (tile m c t) i
    = Norm.row (whole m c) ⟨t.val * 512 + i.val, row_lt t i⟩ := funext fun x => tile_at m c t i x

theorem arr_x : (dats m 0 c).arrAt 8 cfg0.N = Norm.resX (m ((c.tc : Thread nD τ).loc main_arg5)) (whole m c) (m ((c.tc : Thread nD τ).loc main_arg7)) (fun x => (m ((c.tc : Thread nD τ).loc main_arg6)) (ix1 x)) := by
  refine (dats m 0 c).arrAt_eq_of_covers 8 _ (by decide +kernel) fun t hf y => ?_
  show (dats m 0 c).flushed 8 t y = _
  rw [flushed8]
  have eo := (idx t).2.2.2.2.2.2.2.2.1
  idx_vars y
  have ej : ((cfg0.win 8).blk t).view.emb (ix2 y0 y1) = ix2 ⟨t.val * 512 + y0.val, row_lt t y0⟩ y1 := by
    blk_ext [eo]
  rw [ej, fst_eq]
  refine (back_at _ _ _ _ _ _).trans ?_
  show _ = (show EReal from (m ((c.tc : Thread nD τ).loc main_arg7)) (ix2 ⟨t.val * 512 + y0.val, row_lt t y0⟩ y1)) + Norm.back (Norm.row (m ((c.tc : Thread nD τ).loc main_arg5)) ⟨t.val * 512 + y0.val, row_lt t y0⟩)
    (fun x => (m ((c.tc : Thread nD τ).loc main_arg6)) (ix1 x)) (Norm.row (whole m c) ⟨t.val * 512 + y0.val, row_lt t y0⟩) y1
  refine congrArg₂ (· + ·) (read7_at m c t y0 y1) ?_
  have eg : (fun x => iblk m c 6 t (ix2 0 x)) = fun x => (m ((c.tc : Thread nD τ).loc main_arg6)) (ix1 x) := funext fun x => lanes_at m c t x
  exact (congrArg₂ (fun h d => Norm.back h (fun x => iblk m c 6 t (ix2 0 x)) d y1) (rows_eq m c t y0) (tile_eq m c t y0)).trans
    (congrArg (fun g => Norm.back _ g _ y1) eg)

/-- What tile `q` of tokens adds to the gradient of the gain. -/
def gpart (q : ℕ) (j : Fin 1024) : EReal :=
  if h : q < cfg0.N then
    ∑ i : Fin 512, Norm.gain (Norm.row (show Mm.Mat 512 1024 from iblk m c 5 ⟨q, h⟩) i) (Norm.row (tile m c ⟨q, h⟩) i) j
  else 0

theorem held (d : Fin 1) (j : Fin 1024) : ∀ (n : ℕ) (hn : n < cfg0.N),
    (outsAt0 m c n hn).2 (ix2 d j) = ∑ q ∈ Finset.range (n + 1), gpart m c q j
  | 0, hn => by
    refine (congrFun (congrArg Prod.snd (out_A m c ⟨0, hn⟩ rfl)) _).trans ?_
    refine (gadd_at _ _ d j).trans ?_
    rw [zero_at, zero_add, gain_at, Finset.sum_range_one]
    unfold gpart
    rw [dif_pos hn]
  | n + 1, hn => by
    have hN : n + 1 < 8 := lt_of_lt_of_eq hn N_0
    refine (congrFun (congrArg Prod.snd (out_B m c ⟨n + 1, hn⟩ (by show ¬(n + 1) % 8 = 0; omega))) _).trans ?_
    refine (gadd_at _ _ d j).trans ?_
    rw [Finset.sum_range_succ]
    refine congrArg₂ (· + ·) (held d j n (Nat.lt_of_succ_lt hn)) ?_
    rw [gain_at]
    unfold gpart
    rw [dif_pos hn]

theorem arr_g : (dats m 0 c).arrAt 9 cfg0.N = Norm.resG (m ((c.tc : Thread nD τ).loc main_arg5)) (whole m c) := by
  refine (dats m 0 c).arrAt_eq_of_covers 9 _ (by decide +kernel) fun t hf y => ?_
  show (dats m 0 c).flushed 9 t y = _
  rw [flushed9]
  have h7 : t.val % 8 = 7 := (flush0_9 t).mp hf
  have hN : t.val < 8 := lt_of_lt_of_eq t.isLt N_0
  have eo := (idx t).2.2.2.2.2.2.2.2.2
  idx_vars y
  have ej : ((cfg0.win 9).blk t).view.emb (ix2 y0 y1) = ix2 y0 y1 := by
    blk_ext [eo]
  rw [ej]
  refine (held m c _ _ t.val t.isLt).trans ?_
  have e : t.val + 1 = 8 := by omega
  rw [e, Finset.sum_range]
  show _ = ∑ i : Fin 4096, Norm.gain (Norm.row (m ((c.tc : Thread nD τ).loc main_arg5)) i) (Norm.row (whole m c) i) y1
  have hp : ∀ q : Fin 8, q.val < cfg0.N := fun q => lt_of_lt_of_eq q.isLt N_0.symm
  have eq : ∀ q : Fin 8, gpart m c q.val y1 = ∑ i : Fin 512, Norm.gain (Norm.row (show Mm.Mat 512 1024 from iblk m c 5 ⟨q.val, hp q⟩) i)
      (Norm.row (tile m c ⟨q.val, hp q⟩) i) y1 := fun q => dif_pos (hp q)
  refine (Finset.sum_congr rfl fun q _ => eq q).trans ?_
  refine Fin.sum_mul_add_congr fun q n hl => ?_
  exact congrArg₂ (fun h d => Norm.gain h d y1) (rows_eq m c ⟨q.val, hp q⟩ n) (tile_eq m c ⟨q.val, hp q⟩ n)

end Cert.DInBIdeal.Value

namespace Cert.DInBRefIdeal.Value

open Cert.DInBRefIdeal Cert.DInBRefIdeal.Gen Idealize.ShloMosaic Idealize.ShloMosaic.TcCoe Idealize.SL.Sem

/-- The host's product. -/
abbrev prodT (p0 : FVec Ideal S4096x1536 .bf16) (p1 : FVec Ideal S4096x768 .bf16) (p2 : FVec Ideal S4096x256 .bf16) (p3 : FVec Ideal S4096x128 .bf16) (w : FVec Ideal S1024x2688 .bf16) : FVec Ideal S4096x1024 .f32 :=
  Host.dotGeneral (φ₁ := .f32) (φ₂ := .f32) dot_S4096x2688_S1024x2688_S4096x1024_1_1_0_0_n_n none ((concatenate S4096x2688 1 [⟨S4096x1536, ((extf (F := Ideal) .f32 p0 bitsLt_bf16_f32) : (⟨S4096x1536, .f32⟩ : BufTy).Contents (Elt Ideal))⟩, ⟨S4096x768, ((extf (F := Ideal) .f32 p1 bitsLt_bf16_f32) : (⟨S4096x768, .f32⟩ : BufTy).Contents (Elt Ideal))⟩, ⟨S4096x256, ((extf (F := Ideal) .f32 p2 bitsLt_bf16_f32) : (⟨S4096x256, .f32⟩ : BufTy).Contents (Elt Ideal))⟩, ⟨S4096x128, ((extf (F := Ideal) .f32 p3 bitsLt_bf16_f32) : (⟨S4096x128, .f32⟩ : BufTy).Contents (Elt Ideal))⟩] concatenates_S4096x1536_S4096x768_S4096x256_S4096x128_S4096x2688_d1 : (⟨S4096x2688, .f32⟩ : BufTy).Contents (Elt Ideal))) (extf (F := Ideal) .f32 w bitsLt_bf16_f32)

/-- The mean of the squares of each row, and the epsilon. -/
abbrev meanT (h : FVec Ideal S4096x1024 .f32) : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The gain, once per row. -/
abbrev gainT (g : FVec Ideal S1024 .f32) : FVec Ideal S4096x1024 .f32 :=
  broadcastInDim S4096x1024 ![0, 1] bcast_S1x1024_S4096x1024_0_1 (broadcastInDim S1x1024 ![1] bcast_S1024_S1x1024_1 g)

/-- The cotangent of each row's mean of squares. -/
abbrev slopeT (h : FVec Ideal S4096x1024 .f32) (g : FVec Ideal S1024 .f32) (d : FVec Ideal S4096x1024 .f32) : FVec Ideal S4096 .f32 :=
  Host.reduceAdd (Host.divf (mulf (shapeCast _ (Host.reduceAdd (mulf h (mulf d (gainT g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (meanT h)) (meanT h)))) (broadcastInDim S4096x1 ![] bcast_S_S4096x1 (constant S_ .f32 0x44800000#32))) (constant S_ .f32 0x00000000#32) reducesTo_S4096x1_S4096_d1 h_S_

theorem mean_at (h : FVec Ideal S4096x1024 .f32) (i : Fin 4096) (z : Fin 1) : meanT h (ix2 i z) = Norm.spread (Norm.row h i) := by
  pointwise
  rfl

theorem gain_at (g : FVec Ideal S1024 .f32) (i : Fin 4096) (x : Fin 1024) : gainT g (ix2 i x) = g (ix1 x) := by
  pointwise

theorem slope_at (h : FVec Ideal S4096x1024 .f32) (g : FVec Ideal S1024 .f32) (d : FVec Ideal S4096x1024 .f32) (i : Fin 4096) :
    slopeT h g d (ix1 i) = Norm.slope (Norm.row h i) (fun x => g (ix1 x)) (Norm.row d i) := by
  pointwise [mean_at, gain_at]
  rw [Fin.sum_univ_one]
  rfl

theorem prod (p0 : FVec Ideal S4096x1536 .bf16) (p1 : FVec Ideal S4096x768 .bf16) (p2 : FVec Ideal S4096x256 .bf16) (p3 : FVec Ideal S4096x128 .bf16) (w : FVec Ideal S1024x2688 .bf16) : prodT p0 p1 p2 p3 w = Mm.nt (Mm.pair (N := 2688) rfl p0 (Mm.pair (N := 1152) rfl p1 (Mm.pair (N := 384) rfl p2 p3))) w := by
  funext j
  idx_vars j
  pointwise [Mm.nt]
  rfl

theorem out_x (h d r : FVec Ideal S4096x1024 .f32) (g : FVec Ideal S1024 .f32) :
    addf r (addf (addf (mulf (mulf d (gainT g)) (broadcastInDim S4096x1024 ![0, 1] bcast_S4096x1_S4096x1024_0_1 (Host.rsqrt (meanT h)))) (mulf h (broadcastInDim S4096x1024 ![0] bcast_S4096_S4096x1024_0 (slopeT h g d)))) (mulf (broadcastInDim S4096x1024 ![0] bcast_S4096_S4096x1024_0 (slopeT h g d)) h))
      = Norm.resX h d r (fun x => g (ix1 x)) := by
  funext j
  idx_vars j
  pointwise [mean_at, gain_at, slope_at]
  rfl

theorem out_g (h d : FVec Ideal S4096x1024 .f32) :
    broadcastInDim S1x1024 ![1] bcast_S1024_S1x1024_1 (Host.reduceAdd (shapeCast _ (Host.reduceAdd (mulf (mulf h (broadcastInDim S4096x1024 ![0, 1] bcast_S4096x1_S4096x1024_0_1 (Host.rsqrt (meanT h)))) d) (constant S_ .f32 0x00000000#32) reducesTo_S4096x1024_S1024_d0 h_S_) shapeCasts_S1024_S1x1024) (constant S_ .f32 0x00000000#32) reducesTo_S1x1024_S1024_d0 h_S_) = Norm.resG h d := by
  funext j
  idx_vars j
  pointwise [mean_at]
  rw [Fin.sum_univ_one]
  rfl

variable (m : (ℓ : Loc nD τ sig) → Buf (Elt Ideal) ℓ) (c : Dev nD)

theorem out0 : res_main_v44 m c = Norm.resX (m ((c.tc : Thread nD τ).loc main_arg5)) (Mm.nt (Mm.pair (N := 2688) rfl (m ((c.tc : Thread nD τ).loc main_arg0)) (Mm.pair (N := 1152) rfl (m ((c.tc : Thread nD τ).loc main_arg1)) (Mm.pair (N := 384) rfl (m ((c.tc : Thread nD τ).loc main_arg2)) (m ((c.tc : Thread nD τ).loc main_arg3))))) (m ((c.tc : Thread nD τ).loc main_arg4))) (m ((c.tc : Thread nD τ).loc main_arg7)) (fun x => (m ((c.tc : Thread nD τ).loc main_arg6)) (ix1 x)) := by
  rw [← prod]
  exact out_x _ _ _ _

theorem out1 (p0 : FVec Ideal S4096x1536 .bf16) (p1 : FVec Ideal S4096x768 .bf16) (p2 : FVec Ideal S4096x256 .bf16) (p3 : FVec Ideal S4096x128 .bf16) (w : FVec Ideal S1024x2688 .bf16) (h : FVec Ideal S4096x1024 .f32) :
    broadcastInDim S1x1024 ![1] bcast_S1024_S1x1024_1 (Host.reduceAdd (shapeCast _ (Host.reduceAdd (mulf (mulf h (broadcastInDim S4096x1024 ![0, 1] bcast_S4096x1_S4096x1024_0_1 (Host.rsqrt (meanT h)))) (prodT p0 p1 p2 p3 w)) (constant S_ .f32 0x00000000#32) reducesTo_S4096x1024_S1024_d0 h_S_) shapeCasts_S1024_S1x1024) (constant S_ .f32 0x00000000#32) reducesTo_S1x1024_S1024_d0 h_S_) = Norm.resG h (Mm.nt (Mm.pair (N := 2688) rfl p0 (Mm.pair (N := 1152) rfl p1 (Mm.pair (N := 384) rfl p2 p3))) w) := by
  rw [← prod]
  exact out_g _ _

end Cert.DInBRefIdeal.Value

end
-- ==== Proof.Adam.lean ====
/-
  The optimiser's update over the extended reals, entry by entry: the two running means of the gradient and of its square,
  and the step taken from them.
-/
module

public import proofs.«01_k».proof.Proof.Mm

@[expose] public section

noncomputable section
namespace Cert.Adam

open Idealize.ShloMosaic

/-- The mean of the gradients after one more. -/
def avg (m g : EReal) : EReal := Ideal.ofBits .f32 0x3F666666#32 * m + Ideal.ofBits .f32 0x3DCCCCCD#32 * g

/-- The mean of the squares after one more. -/
def sqr (v g : EReal) : EReal := Ideal.ofBits .f32 0x3F7FBE77#32 * v + Ideal.ofBits .f32 0x3A83126F#32 * (g * g)

/-- The step of a weight from the two new means. -/
def step (w m v : EReal) : EReal :=
  Ideal.ofBits .f32 0xBA83126F#32 * (Ideal.div (Ideal.div m (Ideal.ofBits .f32 0x3F26BD02#32))
      (Ideal.sqrt (Ideal.div v (Ideal.ofBits .f32 0x3C231ACC#32)) + Ideal.ofBits .f32 0x322BCC77#32)
    + Ideal.ofBits .f32 0x3C23D70A#32 * w)

/-- The means of the gradients, entry by entry. -/
def avgs {s : Shape} (m g : s.Idx → EReal) : s.Idx → EReal := fun j => avg (m j) (g j)

/-- The means of the squares, entry by entry. -/
def sqrs {s : Shape} (v g : s.Idx → EReal) : s.Idx → EReal := fun j => sqr (v j) (g j)

/-- The steps, entry by entry. -/
def steps {s : Shape} (w m v g : s.Idx → EReal) : s.Idx → EReal := fun j => step (w j) (avg (m j) (g j)) (sqr (v j) (g j))

/-- Two layers' matrices, one after the other. -/
def stack {r c : ℕ} (a b : Mm.Mat r c) : Mm.Mats 2 r c := fun j =>
  if (j 0).val < 1 then a (ix2 (j 1) (j 2)) else b (ix2 (j 1) (j 2))

/-- One layer's matrix. -/
def lone {r c : ℕ} (a : Mm.Mat r c) : Mm.Mats 1 r c := fun j => a (ix2 (j 1) (j 2))

end Cert.Adam

end
-- ==== Proof.AdamPairValue.lean ====
/-
  The optimiser's update of the weights both layers have: tiles of rows of one layer after the other, entry by entry.
-/
module

public import proofs.«01_k».proof.Proof.Adam
public import proofs.«01_k».proof.Proof.Gen.AdamGuIdeal.Value
public import proofs.«01_k».proof.Proof.Gen.AdamGuRefIdeal.Run
public import proofs.«01_k».proof.Proof.Gen.AdamDownIdeal.Value
public import proofs.«01_k».proof.Proof.Gen.AdamDownRefIdeal.Run
public import proofs.«01_k».proof.Proof.Gen.AdamOutIdeal.Value
public import proofs.«01_k».proof.Proof.Gen.AdamOutRefIdeal.Run
public import proofs.«01_k».proof.Proof.Gen.AdamMemIdeal.Value
public import proofs.«01_k».proof.Proof.Gen.AdamMemRefIdeal.Run
public import Idealize.ShloMosaic.Lib.Pipeline.ValueKit

@[expose] public section

set_option maxRecDepth 16384

noncomputable section

namespace Cert.AdamGuIdeal.Value

open Cert.AdamGuIdeal Cert.AdamGuIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val / 8, t.val % 8, 0] ∧ win0_1.index t = ![t.val / 8, t.val % 8, 0] ∧ win0_2.index t = ![t.val / 8, t.val % 8, 0] ∧ win0_3.index t = ![t.val % 8, 0] ∧ win0_4.index t = ![t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] := by decide +kernel

theorem lay_lt (t : Fin cfg0.N) : t.val / 8 < 2 := by
  have h : t.val < 16 := lt_of_lt_of_eq t.isLt N_0
  omega

theorem row_lt (t : Fin cfg0.N) (n : Fin 128) : t.val % 8 * 128 + n.val < 1024 := by omega

theorem layer : ∀ t : Fin cfg0.N, (grid0.coords t 0).val = t.val / 8 := by decide +kernel

theorem pick_at (i : grid0.Coords) (a : Vec Ideal S128x1408 .f32) (b : Vec Ideal S128x1408 .f32) (r : Fin 128) (x : Fin 1408) :
    k0_pay5 i a b (ix2 r x) = if (i 0).val < 1 then a (ix2 r x) else b (ix2 r x) := by
  unfold k0_pay5
  have h : (i 0).val < 2 := (i 0).isLt
  obtain e | e : (i 0).val = 0 ∨ (i 0).val = 1 := by omega
  · rw [e]; rfl
  · rw [e]; rfl

theorem avg_at (i : grid0.Coords) (a : Vec Ideal S128x1408 .f32) (b : Vec Ideal S128x1408 .f32) (p : Vec Ideal S1x128x1408 .f32) (r : Fin 128) (x : Fin 1408) :
    k0_pay6 i a b p (ix2 r x) = Adam.avg (p (ix3 0 r x)) (k0_pay5 i a b (ix2 r x)) := by
  unfold k0_pay6
  pointwise
  rfl

theorem sqr_at (i : grid0.Coords) (a : Vec Ideal S128x1408 .f32) (b : Vec Ideal S128x1408 .f32) (p : Vec Ideal S1x128x1408 .f32) (r : Fin 128) (x : Fin 1408) :
    k0_pay7 i a b p (ix2 r x) = Adam.sqr (p (ix3 0 r x)) (k0_pay5 i a b (ix2 r x)) := by
  unfold k0_pay7
  pointwise
  rfl

theorem step_at (i : grid0.Coords) (a : Vec Ideal S128x1408 .f32) (b : Vec Ideal S128x1408 .f32) (w p q : Vec Ideal S1x128x1408 .f32) (r : Fin 128) (x : Fin 1408) :
    k0_pay8 i a b w p q (ix2 r x) = Adam.step (w (ix3 0 r x)) (Adam.avg (p (ix3 0 r x)) (k0_pay5 i a b (ix2 r x)))
      (Adam.sqr (q (ix3 0 r x)) (k0_pay5 i a b (ix2 r x))) := by
  unfold k0_pay8
  pointwise [avg_at, sqr_at]
  rfl

theorem cast1_at (a : FVec Ideal S128x1408 .f32) (d : Fin 1) (r : Fin 128) (x : Fin 1408) : k0_pay1 a (ix3 d r x) = a (ix2 r x) := by
  unfold k0_pay1
  pointwise

theorem cast2_at (a : FVec Ideal S128x1408 .f32) (d : Fin 1) (r : Fin 128) (x : Fin 1408) : k0_pay2 a (ix3 d r x) = a (ix2 r x) := by
  unfold k0_pay2
  pointwise

theorem cast3_at (a : FVec Ideal S128x1408 .f32) (d : Fin 1) (r : Fin 128) (x : Fin 1408) : k0_pay3 a (ix3 d r x) = a (ix2 r x) := by
  unfold k0_pay3
  pointwise

theorem cast4_at (a : FVec Ideal S128x1408 .f32) (d : Fin 1) (r : Fin 128) (x : Fin 1408) : k0_pay4 a (ix3 d r x) = a (ix2 r x) := by
  unfold k0_pay4
  pointwise

theorem read0_at (t : Fin cfg0.N) (n : Fin 128) (x : Fin 1408) :
    iblk m c 0 t (ix3 0 n x) = (m ((c.tc : Thread nD τ).loc main_arg0)) (ix3 ⟨t.val / 8, lay_lt t⟩ ⟨t.val % 8 * 128 + n.val, row_lt t n⟩ x) := by
  have e := (idx t).1
  blk_ext [iblk, V, e]

theorem read1_at (t : Fin cfg0.N) (n : Fin 128) (x : Fin 1408) :
    iblk m c 1 t (ix3 0 n x) = (m ((c.tc : Thread nD τ).loc main_arg1)) (ix3 ⟨t.val / 8, lay_lt t⟩ ⟨t.val % 8 * 128 + n.val, row_lt t n⟩ x) := by
  have e := (idx t).2.1
  blk_ext [iblk, V, e]

theorem read2_at (t : Fin cfg0.N) (n : Fin 128) (x : Fin 1408) :
    iblk m c 2 t (ix3 0 n x) = (m ((c.tc : Thread nD τ).loc main_arg2)) (ix3 ⟨t.val / 8, lay_lt t⟩ ⟨t.val % 8 * 128 + n.val, row_lt t n⟩ x) := by
  have e := (idx t).2.2.1
  blk_ext [iblk, V, e]

theorem read3_at (t : Fin cfg0.N) (n : Fin 128) (x : Fin 1408) :
    iblk m c 3 t (ix2 n x) = (m ((c.tc : Thread nD τ).loc main_arg3)) (ix2 ⟨t.val % 8 * 128 + n.val, row_lt t n⟩ x) := by
  have e := (idx t).2.2.2.1
  blk_ext [iblk, V, e]

theorem read4_at (t : Fin cfg0.N) (n : Fin 128) (x : Fin 1408) :
    iblk m c 4 t (ix2 n x) = (m ((c.tc : Thread nD τ).loc main_arg4)) (ix2 ⟨t.val % 8 * 128 + n.val, row_lt t n⟩ x) := by
  have e := (idx t).2.2.2.2.1
  blk_ext [iblk, V, e]

theorem grad_at (t : Fin cfg0.N) (n : Fin 128) (x : Fin 1408) :
    k0_pay5 (grid0.coords t) (iblk m c 3 t) (iblk m c 4 t) (ix2 n x) = (Adam.stack (m ((c.tc : Thread nD τ).loc main_arg3)) (m ((c.tc : Thread nD τ).loc main_arg4))) (ix3 ⟨t.val / 8, lay_lt t⟩ ⟨t.val % 8 * 128 + n.val, row_lt t n⟩ x) := by
  refine (pick_at _ _ _ n x).trans ?_
  rw [layer t, read3_at, read4_at]
  rfl

theorem arr_g : (dats m 0 c).arrAt 5 cfg0.N = (Adam.stack (m ((c.tc : Thread nD τ).loc main_arg3)) (m ((c.tc : Thread nD τ).loc main_arg4))) := by
  refine (dats m 0 c).arrAt_eq_of_covers 5 _ (by decide +kernel) fun t hf y => ?_
  show (dats m 0 c).flushed 5 t y = _
  rw [flushed5]
  have eo := (idx t).2.2.2.2.2.1
  frame_out
  idx_vars y
  have ej : ((cfg0.win 5).blk t).view.emb (ix3 y0 y1 y2) = ix3 ⟨t.val / 8, lay_lt t⟩ ⟨t.val % 8 * 128 + y1.val, row_lt t y1⟩ y2 := by
    blk_ext [eo]
  rw [ej]
  exact (cast1_at _ _ _ _).trans (grad_at m c t y1 y2)

theorem arr_d : (dats m 0 c).arrAt 6 cfg0.N = Adam.steps (m ((c.tc : Thread nD τ).loc main_arg0)) (m ((c.tc : Thread nD τ).loc main_arg1)) (m ((c.tc : Thread nD τ).loc main_arg2)) (Adam.stack (m ((c.tc : Thread nD τ).loc main_arg3)) (m ((c.tc : Thread nD τ).loc main_arg4))) := by
  refine (dats m 0 c).arrAt_eq_of_covers 6 _ (by decide +kernel) fun t hf y => ?_
  show (dats m 0 c).flushed 6 t y = _
  rw [flushed6]
  have eo := (idx t).2.2.2.2.2.2.1
  frame_out
  idx_vars y
  have ej : ((cfg0.win 6).blk t).view.emb (ix3 y0 y1 y2) = ix3 ⟨t.val / 8, lay_lt t⟩ ⟨t.val % 8 * 128 + y1.val, row_lt t y1⟩ y2 := by
    blk_ext [eo]
  rw [ej]
  refine (cast2_at _ _ _ _).trans ((step_at _ _ _ _ _ _ _ _).trans ?_)
  rw [show k0_pay5 (grid0.coords t) (iblk m c 3 t) (iblk m c 4 t) (ix2 y1 y2) = _ from grad_at m c t y1 y2, read0_at, read1_at, read2_at]
  rfl

theorem arr_m : (dats m 0 c).arrAt 7 cfg0.N = Adam.avgs (m ((c.tc : Thread nD τ).loc main_arg1)) (Adam.stack (m ((c.tc : Thread nD τ).loc main_arg3)) (m ((c.tc : Thread nD τ).loc main_arg4))) := by
  refine (dats m 0 c).arrAt_eq_of_covers 7 _ (by decide +kernel) fun t hf y => ?_
  show (dats m 0 c).flushed 7 t y = _
  rw [flushed7]
  have eo := (idx t).2.2.2.2.2.2.2.1
  frame_out
  idx_vars y
  have ej : ((cfg0.win 7).blk t).view.emb (ix3 y0 y1 y2) = ix3 ⟨t.val / 8, lay_lt t⟩ ⟨t.val % 8 * 128 + y1.val, row_lt t y1⟩ y2 := by
    blk_ext [eo]
  rw [ej]
  refine (cast3_at _ _ _ _).trans ((avg_at _ _ _ _ _ _).trans ?_)
  rw [show k0_pay5 (grid0.coords t) (iblk m c 3 t) (iblk m c 4 t) (ix2 y1 y2) = _ from grad_at m c t y1 y2, read1_at]
  rfl

theorem arr_v : (dats m 0 c).arrAt 8 cfg0.N = Adam.sqrs (m ((c.tc : Thread nD τ).loc main_arg2)) (Adam.stack (m ((c.tc : Thread nD τ).loc main_arg3)) (m ((c.tc : Thread nD τ).loc main_arg4))) := by
  refine (dats m 0 c).arrAt_eq_of_covers 8 _ (by decide +kernel) fun t hf y => ?_
  show (dats m 0 c).flushed 8 t y = _
  rw [flushed8]
  have eo := (idx t).2.2.2.2.2.2.2.2
  frame_out
  idx_vars y
  have ej : ((cfg0.win 8).blk t).view.emb (ix3 y0 y1 y2) = ix3 ⟨t.val / 8, lay_lt t⟩ ⟨t.val % 8 * 128 + y1.val, row_lt t y1⟩ y2 := by
    blk_ext [eo]
  rw [ej]
  refine (cast4_at _ _ _ _).trans ((sqr_at _ _ _ _ _ _).trans ?_)
  rw [show k0_pay5 (grid0.coords t) (iblk m c 3 t) (iblk m c 4 t) (ix2 y1 y2) = _ from grad_at m c t y1 y2, read2_at]
  rfl

end Cert.AdamGuIdeal.Value

namespace Cert.AdamGuRefIdeal.Value

open Cert.AdamGuRefIdeal Cert.AdamGuRefIdeal.Gen Idealize.ShloMosaic Idealize.ShloMosaic.TcCoe Idealize.SL.Sem

theorem out_g (a3 : FVec Ideal S1024x1408 .f32) (a4 : FVec Ideal S1024x1408 .f32) :
    concatenate S2x1024x1408 0 [⟨S1x1024x1408, (broadcastInDim S1x1024x1408 ![1, 2] bcast_S1024x1408_S1x1024x1408_1_2 a3)⟩, ⟨S1x1024x1408, (broadcastInDim S1x1024x1408 ![1, 2] bcast_S1024x1408_S1x1024x1408_1_2 a4)⟩] concatenates_S1x1024x1408_S1x1024x1408_S2x1024x1408_d0
      = (Adam.stack a3 a4) := by
  funext j
  idx_vars j
  pointwise
  rfl

theorem out_d_of (a0 : FVec Ideal S2x1024x1408 .f32) (a1 : FVec Ideal S2x1024x1408 .f32) (a2 : FVec Ideal S2x1024x1408 .f32) (g : FVec Ideal S2x1024x1408 .f32) :
    mulf (broadcastInDim S2x1024x1408 ![] bcast_S_S2x1024x1408 (constant S_ .f32 0xBA83126F#32)) (addf (Host.divf (Host.divf (addf (mulf (broadcastInDim S2x1024x1408 ![] bcast_S_S2x1024x1408 (constant S_ .f32 0x3F666666#32)) a1) (mulf (broadcastInDim S2x1024x1408 ![] bcast_S_S2x1024x1408 (constant S_ .f32 0x3DCCCCCD#32)) g)) (broadcastInDim S2x1024x1408 ![] bcast_S_S2x1024x1408 (constant S_ .f32 0x3F26BD02#32))) (addf (Host.sqrt (Host.divf (addf (mulf (broadcastInDim S2x1024x1408 ![] bcast_S_S2x1024x1408 (constant S_ .f32 0x3F7FBE77#32)) a2) (mulf (broadcastInDim S2x1024x1408 ![] bcast_S_S2x1024x1408 (constant S_ .f32 0x3A83126F#32)) (mulf g g))) (broadcastInDim S2x1024x1408 ![] bcast_S_S2x1024x1408 (constant S_ .f32 0x3C231ACC#32)))) (broadcastInDim S2x1024x1408 ![] bcast_S_S2x1024x1408 (constant S_ .f32 0x322BCC77#32)))) (mulf (broadcastInDim S2x1024x1408 ![] bcast_S_S2x1024x1408 (constant S_ .f32 0x3C23D70A#32)) a0))
      = Adam.steps a0 a1 a2 g := by
  funext j
  idx_vars j
  pointwise
  rfl

theorem out_d (a0 : FVec Ideal S2x1024x1408 .f32) (a1 : FVec Ideal S2x1024x1408 .f32) (a2 : FVec Ideal S2x1024x1408 .f32) (a3 : FVec Ideal S1024x1408 .f32) (a4 : FVec Ideal S1024x1408 .f32) :
    mulf (broadcastInDim S2x1024x1408 ![] bcast_S_S2x1024x1408 (constant S_ .f32 0xBA83126F#32)) (addf (Host.divf (Host.divf (addf (mulf (broadcastInDim S2x1024x1408 ![] bcast_S_S2x1024x1408 (constant S_ .f32 0x3F666666#32)) a1) (mulf (broadcastInDim S2x1024x1408 ![] bcast_S_S2x1024x1408 (constant S_ .f32 0x3DCCCCCD#32)) (concatenate S2x1024x1408 0 [⟨S1x1024x1408, (broadcastInDim S1x1024x1408 ![1, 2] bcast_S1024x1408_S1x1024x1408_1_2 a3)⟩, ⟨S1x1024x1408, (broadcastInDim S1x1024x1408 ![1, 2] bcast_S1024x1408_S1x1024x1408_1_2 a4)⟩] concatenates_S1x1024x1408_S1x1024x1408_S2x1024x1408_d0))) (broadcastInDim S2x1024x1408 ![] bcast_S_S2x1024x1408 (constant S_ .f32 0x3F26BD02#32))) (addf (Host.sqrt (Host.divf (addf (mulf (broadcastInDim S2x1024x1408 ![] bcast_S_S2x1024x1408 (constant S_ .f32 0x3F7FBE77#32)) a2) (mulf (broadcastInDim S2x1024x1408 ![] bcast_S_S2x1024x1408 (constant S_ .f32 0x3A83126F#32)) (mulf (concatenate S2x1024x1408 0 [⟨S1x1024x1408, (broadcastInDim S1x1024x1408 ![1, 2] bcast_S1024x1408_S1x1024x1408_1_2 a3)⟩, ⟨S1x1024x1408, (broadcastInDim S1x1024x1408 ![1, 2] bcast_S1024x1408_S1x1024x1408_1_2 a4)⟩] concatenates_S1x1024x1408_S1x1024x1408_S2x1024x1408_d0) (concatenate S2x1024x1408 0 [⟨S1x1024x1408, (broadcastInDim S1x1024x1408 ![1, 2] bcast_S1024x1408_S1x1024x1408_1_2 a3)⟩, ⟨S1x1024x1408, (broadcastInDim S1x1024x1408 ![1, 2] bcast_S1024x1408_S1x1024x1408_1_2 a4)⟩] concatenates_S1x1024x1408_S1x1024x1408_S2x1024x1408_d0)))) (broadcastInDim S2x1024x1408 ![] bcast_S_S2x1024x1408 (constant S_ .f32 0x3C231ACC#32)))) (broadcastInDim S2x1024x1408 ![] bcast_S_S2x1024x1408 (constant S_ .f32 0x322BCC77#32)))) (mulf (broadcastInDim S2x1024x1408 ![] bcast_S_S2x1024x1408 (constant S_ .f32 0x3C23D70A#32)) a0))
      = Adam.steps a0 a1 a2 (Adam.stack a3 a4) :=
  (out_d_of a0 a1 a2 _).trans (congrArg (fun g => Adam.steps a0 a1 a2 g) (out_g a3 a4))

theorem out_m_of (a1 : FVec Ideal S2x1024x1408 .f32) (g : FVec Ideal S2x1024x1408 .f32) :
    addf (mulf (broadcastInDim S2x1024x1408 ![] bcast_S_S2x1024x1408 (constant S_ .f32 0x3F666666#32)) a1) (mulf (broadcastInDim S2x1024x1408 ![] bcast_S_S2x1024x1408 (constant S_ .f32 0x3DCCCCCD#32)) g)
      = Adam.avgs a1 g := by
  funext j
  idx_vars j
  pointwise
  rfl

theorem out_m (a1 : FVec Ideal S2x1024x1408 .f32) (a3 : FVec Ideal S1024x1408 .f32) (a4 : FVec Ideal S1024x1408 .f32) :
    addf (mulf (broadcastInDim S2x1024x1408 ![] bcast_S_S2x1024x1408 (constant S_ .f32 0x3F666666#32)) a1) (mulf (broadcastInDim S2x1024x1408 ![] bcast_S_S2x1024x1408 (constant S_ .f32 0x3DCCCCCD#32)) (concatenate S2x1024x1408 0 [⟨S1x1024x1408, (broadcastInDim S1x1024x1408 ![1, 2] bcast_S1024x1408_S1x1024x1408_1_2 a3)⟩, ⟨S1x1024x1408, (broadcastInDim S1x1024x1408 ![1, 2] bcast_S1024x1408_S1x1024x1408_1_2 a4)⟩] concatenates_S1x1024x1408_S1x1024x1408_S2x1024x1408_d0))
      = Adam.avgs a1 (Adam.stack a3 a4) :=
  (out_m_of a1 _).trans (congrArg (fun g => Adam.avgs a1 g) (out_g a3 a4))

theorem out_v_of (a2 : FVec Ideal S2x1024x1408 .f32) (g : FVec Ideal S2x1024x1408 .f32) :
    addf (mulf (broadcastInDim S2x1024x1408 ![] bcast_S_S2x1024x1408 (constant S_ .f32 0x3F7FBE77#32)) a2) (mulf (broadcastInDim S2x1024x1408 ![] bcast_S_S2x1024x1408 (constant S_ .f32 0x3A83126F#32)) (mulf g g))
      = Adam.sqrs a2 g := by
  funext j
  idx_vars j
  pointwise
  rfl

theorem out_v (a2 : FVec Ideal S2x1024x1408 .f32) (a3 : FVec Ideal S1024x1408 .f32) (a4 : FVec Ideal S1024x1408 .f32) :
    addf (mulf (broadcastInDim S2x1024x1408 ![] bcast_S_S2x1024x1408 (constant S_ .f32 0x3F7FBE77#32)) a2) (mulf (broadcastInDim S2x1024x1408 ![] bcast_S_S2x1024x1408 (constant S_ .f32 0x3A83126F#32)) (mulf (concatenate S2x1024x1408 0 [⟨S1x1024x1408, (broadcastInDim S1x1024x1408 ![1, 2] bcast_S1024x1408_S1x1024x1408_1_2 a3)⟩, ⟨S1x1024x1408, (broadcastInDim S1x1024x1408 ![1, 2] bcast_S1024x1408_S1x1024x1408_1_2 a4)⟩] concatenates_S1x1024x1408_S1x1024x1408_S2x1024x1408_d0) (concatenate S2x1024x1408 0 [⟨S1x1024x1408, (broadcastInDim S1x1024x1408 ![1, 2] bcast_S1024x1408_S1x1024x1408_1_2 a3)⟩, ⟨S1x1024x1408, (broadcastInDim S1x1024x1408 ![1, 2] bcast_S1024x1408_S1x1024x1408_1_2 a4)⟩] concatenates_S1x1024x1408_S1x1024x1408_S2x1024x1408_d0)))
      = Adam.sqrs a2 (Adam.stack a3 a4) :=
  (out_v_of a2 _).trans (congrArg (fun g => Adam.sqrs a2 g) (out_g a3 a4))

end Cert.AdamGuRefIdeal.Value

namespace Cert.AdamDownIdeal.Value

open Cert.AdamDownIdeal Cert.AdamDownIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val % 4, 0] ∧ win0_4.index t = ![t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] := by decide +kernel

theorem lay_lt (t : Fin cfg0.N) : t.val / 4 < 2 := by
  have h : t.val < 8 := lt_of_lt_of_eq t.isLt N_0
  omega

theorem row_lt (t : Fin cfg0.N) (n : Fin 176) : t.val % 4 * 176 + n.val < 704 := by omega

theorem layer : ∀ t : Fin cfg0.N, (grid0.coords t 0).val = t.val / 4 := by decide +kernel

theorem pick_at (i : grid0.Coords) (a : Vec Ideal S176x1024 .f32) (b : Vec Ideal S176x1024 .f32) (r : Fin 176) (x : Fin 1024) :
    k0_pay5 i a b (ix2 r x) = if (i 0).val < 1 then a (ix2 r x) else b (ix2 r x) := by
  unfold k0_pay5
  have h : (i 0).val < 2 := (i 0).isLt
  obtain e | e : (i 0).val = 0 ∨ (i 0).val = 1 := by omega
  · rw [e]; rfl
  · rw [e]; rfl

theorem avg_at (i : grid0.Coords) (a : Vec Ideal S176x1024 .f32) (b : Vec Ideal S176x1024 .f32) (p : Vec Ideal S1x176x1024 .f32) (r : Fin 176) (x : Fin 1024) :
    k0_pay6 i a b p (ix2 r x) = Adam.avg (p (ix3 0 r x)) (k0_pay5 i a b (ix2 r x)) := by
  unfold k0_pay6
  pointwise
  rfl

theorem sqr_at (i : grid0.Coords) (a : Vec Ideal S176x1024 .f32) (b : Vec Ideal S176x1024 .f32) (p : Vec Ideal S1x176x1024 .f32) (r : Fin 176) (x : Fin 1024) :
    k0_pay7 i a b p (ix2 r x) = Adam.sqr (p (ix3 0 r x)) (k0_pay5 i a b (ix2 r x)) := by
  unfold k0_pay7
  pointwise
  rfl

theorem step_at (i : grid0.Coords) (a : Vec Ideal S176x1024 .f32) (b : Vec Ideal S176x1024 .f32) (w p q : Vec Ideal S1x176x1024 .f32) (r : Fin 176) (x : Fin 1024) :
    k0_pay8 i a b w p q (ix2 r x) = Adam.step (w (ix3 0 r x)) (Adam.avg (p (ix3 0 r x)) (k0_pay5 i a b (ix2 r x)))
      (Adam.sqr (q (ix3 0 r x)) (k0_pay5 i a b (ix2 r x))) := by
  unfold k0_pay8
  pointwise [avg_at, sqr_at]
  rfl

theorem cast1_at (a : FVec Ideal S176x1024 .f32) (d : Fin 1) (r : Fin 176) (x : Fin 1024) : k0_pay1 a (ix3 d r x) = a (ix2 r x) := by
  unfold k0_pay1
  pointwise

theorem cast2_at (a : FVec Ideal S176x1024 .f32) (d : Fin 1) (r : Fin 176) (x : Fin 1024) : k0_pay2 a (ix3 d r x) = a (ix2 r x) := by
  unfold k0_pay2
  pointwise

theorem cast3_at (a : FVec Ideal S176x1024 .f32) (d : Fin 1) (r : Fin 176) (x : Fin 1024) : k0_pay3 a (ix3 d r x) = a (ix2 r x) := by
  unfold k0_pay3
  pointwise

theorem cast4_at (a : FVec Ideal S176x1024 .f32) (d : Fin 1) (r : Fin 176) (x : Fin 1024) : k0_pay4 a (ix3 d r x) = a (ix2 r x) := by
  unfold k0_pay4
  pointwise

theorem read0_at (t : Fin cfg0.N) (n : Fin 176) (x : Fin 1024) :
    iblk m c 0 t (ix3 0 n x) = (m ((c.tc : Thread nD τ).loc main_arg0)) (ix3 ⟨t.val / 4, lay_lt t⟩ ⟨t.val % 4 * 176 + n.val, row_lt t n⟩ x) := by
  have e := (idx t).1
  blk_ext [iblk, V, e]

theorem read1_at (t : Fin cfg0.N) (n : Fin 176) (x : Fin 1024) :
    iblk m c 1 t (ix3 0 n x) = (m ((c.tc : Thread nD τ).loc main_arg1)) (ix3 ⟨t.val / 4, lay_lt t⟩ ⟨t.val % 4 * 176 + n.val, row_lt t n⟩ x) := by
  have e := (idx t).2.1
  blk_ext [iblk, V, e]

theorem read2_at (t : Fin cfg0.N) (n : Fin 176) (x : Fin 1024) :
    iblk m c 2 t (ix3 0 n x) = (m ((c.tc : Thread nD τ).loc main_arg2)) (ix3 ⟨t.val / 4, lay_lt t⟩ ⟨t.val % 4 * 176 + n.val, row_lt t n⟩ x) := by
  have e := (idx t).2.2.1
  blk_ext [iblk, V, e]

theorem read3_at (t : Fin cfg0.N) (n : Fin 176) (x : Fin 1024) :
    iblk m c 3 t (ix2 n x) = (m ((c.tc : Thread nD τ).loc main_arg3)) (ix2 ⟨t.val % 4 * 176 + n.val, row_lt t n⟩ x) := by
  have e := (idx t).2.2.2.1
  blk_ext [iblk, V, e]

theorem read4_at (t : Fin cfg0.N) (n : Fin 176) (x : Fin 1024) :
    iblk m c 4 t (ix2 n x) = (m ((c.tc : Thread nD τ).loc main_arg4)) (ix2 ⟨t.val % 4 * 176 + n.val, row_lt t n⟩ x) := by
  have e := (idx t).2.2.2.2.1
  blk_ext [iblk, V, e]

theorem grad_at (t : Fin cfg0.N) (n : Fin 176) (x : Fin 1024) :
    k0_pay5 (grid0.coords t) (iblk m c 3 t) (iblk m c 4 t) (ix2 n x) = (Adam.stack (m ((c.tc : Thread nD τ).loc main_arg3)) (m ((c.tc : Thread nD τ).loc main_arg4))) (ix3 ⟨t.val / 4, lay_lt t⟩ ⟨t.val % 4 * 176 + n.val, row_lt t n⟩ x) := by
  refine (pick_at _ _ _ n x).trans ?_
  rw [layer t, read3_at, read4_at]
  rfl

theorem arr_g : (dats m 0 c).arrAt 5 cfg0.N = (Adam.stack (m ((c.tc : Thread nD τ).loc main_arg3)) (m ((c.tc : Thread nD τ).loc main_arg4))) := by
  refine (dats m 0 c).arrAt_eq_of_covers 5 _ (by decide +kernel) fun t hf y => ?_
  show (dats m 0 c).flushed 5 t y = _
  rw [flushed5]
  have eo := (idx t).2.2.2.2.2.1
  frame_out
  idx_vars y
  have ej : ((cfg0.win 5).blk t).view.emb (ix3 y0 y1 y2) = ix3 ⟨t.val / 4, lay_lt t⟩ ⟨t.val % 4 * 176 + y1.val, row_lt t y1⟩ y2 := by
    blk_ext [eo]
  rw [ej]
  exact (cast1_at _ _ _ _).trans (grad_at m c t y1 y2)

theorem arr_d : (dats m 0 c).arrAt 6 cfg0.N = Adam.steps (m ((c.tc : Thread nD τ).loc main_arg0)) (m ((c.tc : Thread nD τ).loc main_arg1)) (m ((c.tc : Thread nD τ).loc main_arg2)) (Adam.stack (m ((c.tc : Thread nD τ).loc main_arg3)) (m ((c.tc : Thread nD τ).loc main_arg4))) := by
  refine (dats m 0 c).arrAt_eq_of_covers 6 _ (by decide +kernel) fun t hf y => ?_
  show (dats m 0 c).flushed 6 t y = _
  rw [flushed6]
  have eo := (idx t).2.2.2.2.2.2.1
  frame_out
  idx_vars y
  have ej : ((cfg0.win 6).blk t).view.emb (ix3 y0 y1 y2) = ix3 ⟨t.val / 4, lay_lt t⟩ ⟨t.val % 4 * 176 + y1.val, row_lt t y1⟩ y2 := by
    blk_ext [eo]
  rw [ej]
  refine (cast2_at _ _ _ _).trans ((step_at _ _ _ _ _ _ _ _).trans ?_)
  rw [show k0_pay5 (grid0.coords t) (iblk m c 3 t) (iblk m c 4 t) (ix2 y1 y2) = _ from grad_at m c t y1 y2, read0_at, read1_at, read2_at]
  rfl

theorem arr_m : (dats m 0 c).arrAt 7 cfg0.N = Adam.avgs (m ((c.tc : Thread nD τ).loc main_arg1)) (Adam.stack (m ((c.tc : Thread nD τ).loc main_arg3)) (m ((c.tc : Thread nD τ).loc main_arg4))) := by
  refine (dats m 0 c).arrAt_eq_of_covers 7 _ (by decide +kernel) fun t hf y => ?_
  show (dats m 0 c).flushed 7 t y = _
  rw [flushed7]
  have eo := (idx t).2.2.2.2.2.2.2.1
  frame_out
  idx_vars y
  have ej : ((cfg0.win 7).blk t).view.emb (ix3 y0 y1 y2) = ix3 ⟨t.val / 4, lay_lt t⟩ ⟨t.val % 4 * 176 + y1.val, row_lt t y1⟩ y2 := by
    blk_ext [eo]
  rw [ej]
  refine (cast3_at _ _ _ _).trans ((avg_at _ _ _ _ _ _).trans ?_)
  rw [show k0_pay5 (grid0.coords t) (iblk m c 3 t) (iblk m c 4 t) (ix2 y1 y2) = _ from grad_at m c t y1 y2, read1_at]
  rfl

theorem arr_v : (dats m 0 c).arrAt 8 cfg0.N = Adam.sqrs (m ((c.tc : Thread nD τ).loc main_arg2)) (Adam.stack (m ((c.tc : Thread nD τ).loc main_arg3)) (m ((c.tc : Thread nD τ).loc main_arg4))) := by
  refine (dats m 0 c).arrAt_eq_of_covers 8 _ (by decide +kernel) fun t hf y => ?_
  show (dats m 0 c).flushed 8 t y = _
  rw [flushed8]
  have eo := (idx t).2.2.2.2.2.2.2.2
  frame_out
  idx_vars y
  have ej : ((cfg0.win 8).blk t).view.emb (ix3 y0 y1 y2) = ix3 ⟨t.val / 4, lay_lt t⟩ ⟨t.val % 4 * 176 + y1.val, row_lt t y1⟩ y2 := by
    blk_ext [eo]
  rw [ej]
  refine (cast4_at _ _ _ _).trans ((sqr_at _ _ _ _ _ _).trans ?_)
  rw [show k0_pay5 (grid0.coords t) (iblk m c 3 t) (iblk m c 4 t) (ix2 y1 y2) = _ from grad_at m c t y1 y2, read2_at]
  rfl

end Cert.AdamDownIdeal.Value

namespace Cert.AdamDownRefIdeal.Value

open Cert.AdamDownRefIdeal Cert.AdamDownRefIdeal.Gen Idealize.ShloMosaic Idealize.ShloMosaic.TcCoe Idealize.SL.Sem

theorem out_g (a3 : FVec Ideal S704x1024 .f32) (a4 : FVec Ideal S704x1024 .f32) :
    concatenate S2x704x1024 0 [⟨S1x704x1024, (broadcastInDim S1x704x1024 ![1, 2] bcast_S704x1024_S1x704x1024_1_2 a3)⟩, ⟨S1x704x1024, (broadcastInDim S1x704x1024 ![1, 2] bcast_S704x1024_S1x704x1024_1_2 a4)⟩] concatenates_S1x704x1024_S1x704x1024_S2x704x1024_d0
      = (Adam.stack a3 a4) := by
  funext j
  idx_vars j
  pointwise
  rfl

theorem out_d_of (a0 : FVec Ideal S2x704x1024 .f32) (a1 : FVec Ideal S2x704x1024 .f32) (a2 : FVec Ideal S2x704x1024 .f32) (g : FVec Ideal S2x704x1024 .f32) :
    mulf (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) a1) (mulf (broadcastInDim S2x704x1024 ![] bcast_S_S2x704x1024 (constant S_ .f32 0x3DCCCCCD#32)) g)) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) a2) (mulf (broadcastInDim S2x704x1024 ![] bcast_S_S2x704x1024 (constant S_ .f32 0x3A83126F#32)) (mulf g g))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) a0))
      = Adam.steps a0 a1 a2 g := by
  funext j
  idx_vars j
  pointwise
  rfl

theorem out_d (a0 : FVec Ideal S2x704x1024 .f32) (a1 : FVec Ideal S2x704x1024 .f32) (a2 : FVec Ideal S2x704x1024 .f32) (a3 : FVec Ideal S704x1024 .f32) (a4 : FVec Ideal S704x1024 .f32) :
    mulf (broadcastInDim S2x704x1024 ![] bcast_S_S2x704x1024 (constant S_ .f32 0xBA83126F#32)) (addf (Host.divf (Host.divf (addf (mulf (broadcastInDim S2x704x1024 ![] bcast_S_S2x704x1024 (constant S_ .f32 0x3F666666#32)) a1) (mulf (broadcastInDim S2x704x1024 ![] bcast_S_S2x704x1024 (constant S_ .f32 0x3DCCCCCD#32)) (concatenate S2x704x1024 0 [⟨S1x704x1024, (broadcastInDim S1x704x1024 ![1, 2] bcast_S704x1024_S1x704x1024_1_2 a3)⟩, ⟨S1x704x1024, (broadcastInDim S1x704x1024 ![1, 2] bcast_S704x1024_S1x704x1024_1_2 a4)⟩] concatenates_S1x704x1024_S1x704x1024_S2x704x1024_d0))) (broadcastInDim S2x704x1024 ![] bcast_S_S2x704x1024 (constant S_ .f32 0x3F26BD02#32))) (addf (Host.sqrt (Host.divf (addf (mulf (broadcastInDim S2x704x1024 ![] bcast_S_S2x704x1024 (constant S_ .f32 0x3F7FBE77#32)) a2) (mulf (broadcastInDim S2x704x1024 ![] bcast_S_S2x704x1024 (constant S_ .f32 0x3A83126F#32)) (mulf (concatenate S2x704x1024 0 [⟨S1x704x1024, (broadcastInDim S1x704x1024 ![1, 2] bcast_S704x1024_S1x704x1024_1_2 a3)⟩, ⟨S1x704x1024, (broadcastInDim S1x704x1024 ![1, 2] bcast_S704x1024_S1x704x1024_1_2 a4)⟩] concatenates_S1x704x1024_S1x704x1024_S2x704x1024_d0) (concatenate S2x704x1024 0 [⟨S1x704x1024, (broadcastInDim S1x704x1024 ![1, 2] bcast_S704x1024_S1x704x1024_1_2 a3)⟩, ⟨S1x704x1024, (broadcastInDim S1x704x1024 ![1, 2] bcast_S704x1024_S1x704x1024_1_2 a4)⟩] concatenates_S1x704x1024_S1x704x1024_S2x704x1024_d0)))) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) a0))
      = Adam.steps a0 a1 a2 (Adam.stack a3 a4) :=
  (out_d_of a0 a1 a2 _).trans (congrArg (fun g => Adam.steps a0 a1 a2 g) (out_g a3 a4))

theorem out_m_of (a1 : FVec Ideal S2x704x1024 .f32) (g : FVec Ideal S2x704x1024 .f32) :
    addf (mulf (broadcastInDim S2x704x1024 ![] bcast_S_S2x704x1024 (constant S_ .f32 0x3F666666#32)) a1) (mulf (broadcastInDim S2x704x1024 ![] bcast_S_S2x704x1024 (constant S_ .f32 0x3DCCCCCD#32)) g)
      = Adam.avgs a1 g := by
  funext j
  idx_vars j
  pointwise
  rfl

theorem out_m (a1 : FVec Ideal S2x704x1024 .f32) (a3 : FVec Ideal S704x1024 .f32) (a4 : FVec Ideal S704x1024 .f32) :
    addf (mulf (broadcastInDim S2x704x1024 ![] bcast_S_S2x704x1024 (constant S_ .f32 0x3F666666#32)) a1) (mulf (broadcastInDim S2x704x1024 ![] bcast_S_S2x704x1024 (constant S_ .f32 0x3DCCCCCD#32)) (concatenate S2x704x1024 0 [⟨S1x704x1024, (broadcastInDim S1x704x1024 ![1, 2] bcast_S704x1024_S1x704x1024_1_2 a3)⟩, ⟨S1x704x1024, (broadcastInDim S1x704x1024 ![1, 2] bcast_S704x1024_S1x704x1024_1_2 a4)⟩] concatenates_S1x704x1024_S1x704x1024_S2x704x1024_d0))
      = Adam.avgs a1 (Adam.stack a3 a4) :=
  (out_m_of a1 _).trans (congrArg (fun g => Adam.avgs a1 g) (out_g a3 a4))

theorem out_v_of (a2 : FVec Ideal S2x704x1024 .f32) (g : FVec Ideal S2x704x1024 .f32) :
    addf (mulf (broadcastInDim S2x704x1024 ![] bcast_S_S2x704x1024 (constant S_ .f32 0x3F7FBE77#32)) a2) (mulf (broadcastInDim S2x704x1024 ![] bcast_S_S2x704x1024 (constant S_ .f32 0x3A83126F#32)) (mulf g g))
      = Adam.sqrs a2 g := by
  funext j
  idx_vars j
  pointwise
  rfl

theorem out_v (a2 : FVec Ideal S2x704x1024 .f32) (a3 : FVec Ideal S704x1024 .f32) (a4 : FVec Ideal S704x1024 .f32) :
    addf (mulf (broadcastInDim S2x704x1024 ![] bcast_S_S2x704x1024 (constant S_ .f32 0x3F7FBE77#32)) a2) (mulf (broadcastInDim S2x704x1024 ![] bcast_S_S2x704x1024 (constant S_ .f32 0x3A83126F#32)) (mulf (concatenate S2x704x1024 0 [⟨S1x704x1024, (broadcastInDim S1x704x1024 ![1, 2] bcast_S704x1024_S1x704x1024_1_2 a3)⟩, ⟨S1x704x1024, (broadcastInDim S1x704x1024 ![1, 2] bcast_S704x1024_S1x704x1024_1_2 a4)⟩] concatenates_S1x704x1024_S1x704x1024_S2x704x1024_d0) (concatenate S2x704x1024 0 [⟨S1x704x1024, (broadcastInDim S1x704x1024 ![1, 2] bcast_S704x1024_S1x704x1024_1_2 a3)⟩, ⟨S1x704x1024, (broadcastInDim S1x704x1024 ![1, 2] bcast_S704x1024_S1x704x1024_1_2 a4)⟩] concatenates_S1x704x1024_S1x704x1024_S2x704x1024_d0)))
      = Adam.sqrs a2 (Adam.stack a3 a4) :=
  (out_v_of a2 _).trans (congrArg (fun g => Adam.sqrs a2 g) (out_g a3 a4))

end Cert.AdamDownRefIdeal.Value

namespace Cert.AdamOutIdeal.Value

open Cert.AdamOutIdeal Cert.AdamOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val % 1, 0] ∧ win0_4.index t = ![t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] := by decide +kernel

theorem lay_lt (t : Fin cfg0.N) : t.val / 1 < 2 := by
  have h : t.val < 2 := lt_of_lt_of_eq t.isLt N_0
  omega

theorem row_lt (t : Fin cfg0.N) (n : Fin 256) : t.val % 1 * 256 + n.val < 256 := by omega

theorem layer : ∀ t : Fin cfg0.N, (grid0.coords t 0).val = t.val / 1 := by decide +kernel

theorem pick_at (i : grid0.Coords) (a : Vec Ideal S256x1024 .f32) (b : Vec Ideal S256x1024 .f32) (r : Fin 256) (x : Fin 1024) :
    k0_pay5 i a b (ix2 r x) = if (i 0).val < 1 then a (ix2 r x) else b (ix2 r x) := by
  unfold k0_pay5
  have h : (i 0).val < 2 := (i 0).isLt
  obtain e | e : (i 0).val = 0 ∨ (i 0).val = 1 := by omega
  · rw [e]; rfl
  · rw [e]; rfl

theorem avg_at (i : grid0.Coords) (a : Vec Ideal S256x1024 .f32) (b : Vec Ideal S256x1024 .f32) (p : Vec Ideal S1x256x1024 .f32) (r : Fin 256) (x : Fin 1024) :
    k0_pay6 i a b p (ix2 r x) = Adam.avg (p (ix3 0 r x)) (k0_pay5 i a b (ix2 r x)) := by
  unfold k0_pay6
  pointwise
  rfl

theorem sqr_at (i : grid0.Coords) (a : Vec Ideal S256x1024 .f32) (b : Vec Ideal S256x1024 .f32) (p : Vec Ideal S1x256x1024 .f32) (r : Fin 256) (x : Fin 1024) :
    k0_pay7 i a b p (ix2 r x) = Adam.sqr (p (ix3 0 r x)) (k0_pay5 i a b (ix2 r x)) := by
  unfold k0_pay7
  pointwise
  rfl

theorem step_at (i : grid0.Coords) (a : Vec Ideal S256x1024 .f32) (b : Vec Ideal S256x1024 .f32) (w p q : Vec Ideal S1x256x1024 .f32) (r : Fin 256) (x : Fin 1024) :
    k0_pay8 i a b w p q (ix2 r x) = Adam.step (w (ix3 0 r x)) (Adam.avg (p (ix3 0 r x)) (k0_pay5 i a b (ix2 r x)))
      (Adam.sqr (q (ix3 0 r x)) (k0_pay5 i a b (ix2 r x))) := by
  unfold k0_pay8
  pointwise [avg_at, sqr_at]
  rfl

theorem cast1_at (a : FVec Ideal S256x1024 .f32) (d : Fin 1) (r : Fin 256) (x : Fin 1024) : k0_pay1 a (ix3 d r x) = a (ix2 r x) := by
  unfold k0_pay1
  pointwise

theorem cast2_at (a : FVec Ideal S256x1024 .f32) (d : Fin 1) (r : Fin 256) (x : Fin 1024) : k0_pay2 a (ix3 d r x) = a (ix2 r x) := by
  unfold k0_pay2
  pointwise

theorem cast3_at (a : FVec Ideal S256x1024 .f32) (d : Fin 1) (r : Fin 256) (x : Fin 1024) : k0_pay3 a (ix3 d r x) = a (ix2 r x) := by
  unfold k0_pay3
  pointwise

theorem cast4_at (a : FVec Ideal S256x1024 .f32) (d : Fin 1) (r : Fin 256) (x : Fin 1024) : k0_pay4 a (ix3 d r x) = a (ix2 r x) := by
  unfold k0_pay4
  pointwise

theorem read0_at (t : Fin cfg0.N) (n : Fin 256) (x : Fin 1024) :
    iblk m c 0 t (ix3 0 n x) = (m ((c.tc : Thread nD τ).loc main_arg0)) (ix3 ⟨t.val / 1, lay_lt t⟩ ⟨t.val % 1 * 256 + n.val, row_lt t n⟩ x) := by
  have e := (idx t).1
  blk_ext [iblk, V, e]

theorem read1_at (t : Fin cfg0.N) (n : Fin 256) (x : Fin 1024) :
    iblk m c 1 t (ix3 0 n x) = (m ((c.tc : Thread nD τ).loc main_arg1)) (ix3 ⟨t.val / 1, lay_lt t⟩ ⟨t.val % 1 * 256 + n.val, row_lt t n⟩ x) := by
  have e := (idx t).2.1
  blk_ext [iblk, V, e]

theorem read2_at (t : Fin cfg0.N) (n : Fin 256) (x : Fin 1024) :
    iblk m c 2 t (ix3 0 n x) = (m ((c.tc : Thread nD τ).loc main_arg2)) (ix3 ⟨t.val / 1, lay_lt t⟩ ⟨t.val % 1 * 256 + n.val, row_lt t n⟩ x) := by
  have e := (idx t).2.2.1
  blk_ext [iblk, V, e]

theorem read3_at (t : Fin cfg0.N) (n : Fin 256) (x : Fin 1024) :
    iblk m c 3 t (ix2 n x) = (m ((c.tc : Thread nD τ).loc main_arg3)) (ix2 ⟨t.val % 1 * 256 + n.val, row_lt t n⟩ x) := by
  have e := (idx t).2.2.2.1
  blk_ext [iblk, V, e]

theorem read4_at (t : Fin cfg0.N) (n : Fin 256) (x : Fin 1024) :
    iblk m c 4 t (ix2 n x) = (m ((c.tc : Thread nD τ).loc main_arg4)) (ix2 ⟨t.val % 1 * 256 + n.val, row_lt t n⟩ x) := by
  have e := (idx t).2.2.2.2.1
  blk_ext [iblk, V, e]

theorem grad_at (t : Fin cfg0.N) (n : Fin 256) (x : Fin 1024) :
    k0_pay5 (grid0.coords t) (iblk m c 3 t) (iblk m c 4 t) (ix2 n x) = (Adam.stack (m ((c.tc : Thread nD τ).loc main_arg3)) (m ((c.tc : Thread nD τ).loc main_arg4))) (ix3 ⟨t.val / 1, lay_lt t⟩ ⟨t.val % 1 * 256 + n.val, row_lt t n⟩ x) := by
  refine (pick_at _ _ _ n x).trans ?_
  rw [layer t, read3_at, read4_at]
  rfl

theorem arr_g : (dats m 0 c).arrAt 5 cfg0.N = (Adam.stack (m ((c.tc : Thread nD τ).loc main_arg3)) (m ((c.tc : Thread nD τ).loc main_arg4))) := by
  refine (dats m 0 c).arrAt_eq_of_covers 5 _ (by decide +kernel) fun t hf y => ?_
  show (dats m 0 c).flushed 5 t y = _
  rw [flushed5]
  have eo := (idx t).2.2.2.2.2.1
  frame_out
  idx_vars y
  have ej : ((cfg0.win 5).blk t).view.emb (ix3 y0 y1 y2) = ix3 ⟨t.val / 1, lay_lt t⟩ ⟨t.val % 1 * 256 + y1.val, row_lt t y1⟩ y2 := by
    blk_ext [eo]
  rw [ej]
  exact (cast1_at _ _ _ _).trans (grad_at m c t y1 y2)

theorem arr_d : (dats m 0 c).arrAt 6 cfg0.N = Adam.steps (m ((c.tc : Thread nD τ).loc main_arg0)) (m ((c.tc : Thread nD τ).loc main_arg1)) (m ((c.tc : Thread nD τ).loc main_arg2)) (Adam.stack (m ((c.tc : Thread nD τ).loc main_arg3)) (m ((c.tc : Thread nD τ).loc main_arg4))) := by
  refine (dats m 0 c).arrAt_eq_of_covers 6 _ (by decide +kernel) fun t hf y => ?_
  show (dats m 0 c).flushed 6 t y = _
  rw [flushed6]
  have eo := (idx t).2.2.2.2.2.2.1
  frame_out
  idx_vars y
  have ej : ((cfg0.win 6).blk t).view.emb (ix3 y0 y1 y2) = ix3 ⟨t.val / 1, lay_lt t⟩ ⟨t.val % 1 * 256 + y1.val, row_lt t y1⟩ y2 := by
    blk_ext [eo]
  rw [ej]
  refine (cast2_at _ _ _ _).trans ((step_at _ _ _ _ _ _ _ _).trans ?_)
  rw [show k0_pay5 (grid0.coords t) (iblk m c 3 t) (iblk m c 4 t) (ix2 y1 y2) = _ from grad_at m c t y1 y2, read0_at, read1_at, read2_at]
  rfl

theorem arr_m : (dats m 0 c).arrAt 7 cfg0.N = Adam.avgs (m ((c.tc : Thread nD τ).loc main_arg1)) (Adam.stack (m ((c.tc : Thread nD τ).loc main_arg3)) (m ((c.tc : Thread nD τ).loc main_arg4))) := by
  refine (dats m 0 c).arrAt_eq_of_covers 7 _ (by decide +kernel) fun t hf y => ?_
  show (dats m 0 c).flushed 7 t y = _
  rw [flushed7]
  have eo := (idx t).2.2.2.2.2.2.2.1
  frame_out
  idx_vars y
  have ej : ((cfg0.win 7).blk t).view.emb (ix3 y0 y1 y2) = ix3 ⟨t.val / 1, lay_lt t⟩ ⟨t.val % 1 * 256 + y1.val, row_lt t y1⟩ y2 := by
    blk_ext [eo]
  rw [ej]
  refine (cast3_at _ _ _ _).trans ((avg_at _ _ _ _ _ _).trans ?_)
  rw [show k0_pay5 (grid0.coords t) (iblk m c 3 t) (iblk m c 4 t) (ix2 y1 y2) = _ from grad_at m c t y1 y2, read1_at]
  rfl

theorem arr_v : (dats m 0 c).arrAt 8 cfg0.N = Adam.sqrs (m ((c.tc : Thread nD τ).loc main_arg2)) (Adam.stack (m ((c.tc : Thread nD τ).loc main_arg3)) (m ((c.tc : Thread nD τ).loc main_arg4))) := by
  refine (dats m 0 c).arrAt_eq_of_covers 8 _ (by decide +kernel) fun t hf y => ?_
  show (dats m 0 c).flushed 8 t y = _
  rw [flushed8]
  have eo := (idx t).2.2.2.2.2.2.2.2
  frame_out
  idx_vars y
  have ej : ((cfg0.win 8).blk t).view.emb (ix3 y0 y1 y2) = ix3 ⟨t.val / 1, lay_lt t⟩ ⟨t.val % 1 * 256 + y1.val, row_lt t y1⟩ y2 := by
    blk_ext [eo]
  rw [ej]
  refine (cast4_at _ _ _ _).trans ((sqr_at _ _ _ _ _ _).trans ?_)
  rw [show k0_pay5 (grid0.coords t) (iblk m c 3 t) (iblk m c 4 t) (ix2 y1 y2) = _ from grad_at m c t y1 y2, read2_at]
  rfl

end Cert.AdamOutIdeal.Value

namespace Cert.AdamOutRefIdeal.Value

open Cert.AdamOutRefIdeal Cert.AdamOutRefIdeal.Gen Idealize.ShloMosaic Idealize.ShloMosaic.TcCoe Idealize.SL.Sem

theorem out_g (a3 : FVec Ideal S256x1024 .f32) (a4 : FVec Ideal S256x1024 .f32) :
    concatenate S2x256x1024 0 [⟨S1x256x1024, (broadcastInDim S1x256x1024 ![1, 2] bcast_S256x1024_S1x256x1024_1_2 a3)⟩, ⟨S1x256x1024, (broadcastInDim S1x256x1024 ![1, 2] bcast_S256x1024_S1x256x1024_1_2 a4)⟩] concatenates_S1x256x1024_S1x256x1024_S2x256x1024_d0
      = (Adam.stack a3 a4) := by
  funext j
  idx_vars j
  pointwise
  rfl

theorem out_d_of (a0 : FVec Ideal S2x256x1024 .f32) (a1 : FVec Ideal S2x256x1024 .f32) (a2 : FVec Ideal S2x256x1024 .f32) (g : FVec Ideal S2x256x1024 .f32) :
    mulf (broadcastInDim S2x256x1024 ![] bcast_S_S2x256x1024 (constant S_ .f32 0xBA83126F#32)) (addf (Host.divf (Host.divf (addf (mulf (broadcastInDim S2x256x1024 ![] bcast_S_S2x256x1024 (constant S_ .f32 0x3F666666#32)) a1) (mulf (broadcastInDim S2x256x1024 ![] bcast_S_S2x256x1024 (constant S_ .f32 0x3DCCCCCD#32)) g)) (broadcastInDim S2x256x1024 ![] bcast_S_S2x256x1024 (constant S_ .f32 0x3F26BD02#32))) (addf (Host.sqrt (Host.divf (addf (mulf (broadcastInDim S2x256x1024 ![] bcast_S_S2x256x1024 (constant S_ .f32 0x3F7FBE77#32)) a2) (mulf (broadcastInDim S2x256x1024 ![] bcast_S_S2x256x1024 (constant S_ .f32 0x3A83126F#32)) (mulf g g))) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) a0))
      = Adam.steps a0 a1 a2 g := by
  funext j
  idx_vars j
  pointwise
  rfl

theorem out_d (a0 : FVec Ideal S2x256x1024 .f32) (a1 : FVec Ideal S2x256x1024 .f32) (a2 : FVec Ideal S2x256x1024 .f32) (a3 : FVec Ideal S256x1024 .f32) (a4 : FVec Ideal S256x1024 .f32) :
    mulf (broadcastInDim S2x256x1024 ![] bcast_S_S2x256x1024 (constant S_ .f32 0xBA83126F#32)) (addf (Host.divf (Host.divf (addf (mulf (broadcastInDim S2x256x1024 ![] bcast_S_S2x256x1024 (constant S_ .f32 0x3F666666#32)) a1) (mulf (broadcastInDim S2x256x1024 ![] bcast_S_S2x256x1024 (constant S_ .f32 0x3DCCCCCD#32)) (concatenate S2x256x1024 0 [⟨S1x256x1024, (broadcastInDim S1x256x1024 ![1, 2] bcast_S256x1024_S1x256x1024_1_2 a3)⟩, ⟨S1x256x1024, (broadcastInDim S1x256x1024 ![1, 2] bcast_S256x1024_S1x256x1024_1_2 a4)⟩] concatenates_S1x256x1024_S1x256x1024_S2x256x1024_d0))) (broadcastInDim S2x256x1024 ![] bcast_S_S2x256x1024 (constant S_ .f32 0x3F26BD02#32))) (addf (Host.sqrt (Host.divf (addf (mulf (broadcastInDim S2x256x1024 ![] bcast_S_S2x256x1024 (constant S_ .f32 0x3F7FBE77#32)) a2) (mulf (broadcastInDim S2x256x1024 ![] bcast_S_S2x256x1024 (constant S_ .f32 0x3A83126F#32)) (mulf (concatenate S2x256x1024 0 [⟨S1x256x1024, (broadcastInDim S1x256x1024 ![1, 2] bcast_S256x1024_S1x256x1024_1_2 a3)⟩, ⟨S1x256x1024, (broadcastInDim S1x256x1024 ![1, 2] bcast_S256x1024_S1x256x1024_1_2 a4)⟩] concatenates_S1x256x1024_S1x256x1024_S2x256x1024_d0) (concatenate S2x256x1024 0 [⟨S1x256x1024, (broadcastInDim S1x256x1024 ![1, 2] bcast_S256x1024_S1x256x1024_1_2 a3)⟩, ⟨S1x256x1024, (broadcastInDim S1x256x1024 ![1, 2] bcast_S256x1024_S1x256x1024_1_2 a4)⟩] concatenates_S1x256x1024_S1x256x1024_S2x256x1024_d0)))) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) a0))
      = Adam.steps a0 a1 a2 (Adam.stack a3 a4) :=
  (out_d_of a0 a1 a2 _).trans (congrArg (fun g => Adam.steps a0 a1 a2 g) (out_g a3 a4))

theorem out_m_of (a1 : FVec Ideal S2x256x1024 .f32) (g : FVec Ideal S2x256x1024 .f32) :
    addf (mulf (broadcastInDim S2x256x1024 ![] bcast_S_S2x256x1024 (constant S_ .f32 0x3F666666#32)) a1) (mulf (broadcastInDim S2x256x1024 ![] bcast_S_S2x256x1024 (constant S_ .f32 0x3DCCCCCD#32)) g)
      = Adam.avgs a1 g := by
  funext j
  idx_vars j
  pointwise
  rfl

theorem out_m (a1 : FVec Ideal S2x256x1024 .f32) (a3 : FVec Ideal S256x1024 .f32) (a4 : FVec Ideal S256x1024 .f32) :
    addf (mulf (broadcastInDim S2x256x1024 ![] bcast_S_S2x256x1024 (constant S_ .f32 0x3F666666#32)) a1) (mulf (broadcastInDim S2x256x1024 ![] bcast_S_S2x256x1024 (constant S_ .f32 0x3DCCCCCD#32)) (concatenate S2x256x1024 0 [⟨S1x256x1024, (broadcastInDim S1x256x1024 ![1, 2] bcast_S256x1024_S1x256x1024_1_2 a3)⟩, ⟨S1x256x1024, (broadcastInDim S1x256x1024 ![1, 2] bcast_S256x1024_S1x256x1024_1_2 a4)⟩] concatenates_S1x256x1024_S1x256x1024_S2x256x1024_d0))
      = Adam.avgs a1 (Adam.stack a3 a4) :=
  (out_m_of a1 _).trans (congrArg (fun g => Adam.avgs a1 g) (out_g a3 a4))

theorem out_v_of (a2 : FVec Ideal S2x256x1024 .f32) (g : FVec Ideal S2x256x1024 .f32) :
    addf (mulf (broadcastInDim S2x256x1024 ![] bcast_S_S2x256x1024 (constant S_ .f32 0x3F7FBE77#32)) a2) (mulf (broadcastInDim S2x256x1024 ![] bcast_S_S2x256x1024 (constant S_ .f32 0x3A83126F#32)) (mulf g g))
      = Adam.sqrs a2 g := by
  funext j
  idx_vars j
  pointwise
  rfl

theorem out_v (a2 : FVec Ideal S2x256x1024 .f32) (a3 : FVec Ideal S256x1024 .f32) (a4 : FVec Ideal S256x1024 .f32) :
    addf (mulf (broadcastInDim S2x256x1024 ![] bcast_S_S2x256x1024 (constant S_ .f32 0x3F7FBE77#32)) a2) (mulf (broadcastInDim S2x256x1024 ![] bcast_S_S2x256x1024 (constant S_ .f32 0x3A83126F#32)) (mulf (concatenate S2x256x1024 0 [⟨S1x256x1024, (broadcastInDim S1x256x1024 ![1, 2] bcast_S256x1024_S1x256x1024_1_2 a3)⟩, ⟨S1x256x1024, (broadcastInDim S1x256x1024 ![1, 2] bcast_S256x1024_S1x256x1024_1_2 a4)⟩] concatenates_S1x256x1024_S1x256x1024_S2x256x1024_d0) (concatenate S2x256x1024 0 [⟨S1x256x1024, (broadcastInDim S1x256x1024 ![1, 2] bcast_S256x1024_S1x256x1024_1_2 a3)⟩, ⟨S1x256x1024, (broadcastInDim S1x256x1024 ![1, 2] bcast_S256x1024_S1x256x1024_1_2 a4)⟩] concatenates_S1x256x1024_S1x256x1024_S2x256x1024_d0)))
      = Adam.sqrs a2 (Adam.stack a3 a4) :=
  (out_v_of a2 _).trans (congrArg (fun g => Adam.sqrs a2 g) (out_g a3 a4))

end Cert.AdamOutRefIdeal.Value

namespace Cert.AdamMemIdeal.Value

open Cert.AdamMemIdeal Cert.AdamMemIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val % 1, 0] ∧ win0_4.index t = ![t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] := by decide +kernel

theorem lay_lt (t : Fin cfg0.N) : t.val / 1 < 2 := by
  have h : t.val < 2 := lt_of_lt_of_eq t.isLt N_0
  omega

theorem row_lt (t : Fin cfg0.N) (n : Fin 256) : t.val % 1 * 256 + n.val < 256 := by omega

theorem layer : ∀ t : Fin cfg0.N, (grid0.coords t 0).val = t.val / 1 := by decide +kernel

theorem pick_at (i : grid0.Coords) (a : Vec Ideal S256x512 .f32) (b : Vec Ideal S256x512 .f32) (r : Fin 256) (x : Fin 512) :
    k0_pay5 i a b (ix2 r x) = if (i 0).val < 1 then a (ix2 r x) else b (ix2 r x) := by
  unfold k0_pay5
  have h : (i 0).val < 2 := (i 0).isLt
  obtain e | e : (i 0).val = 0 ∨ (i 0).val = 1 := by omega
  · rw [e]; rfl
  · rw [e]; rfl

theorem avg_at (i : grid0.Coords) (a : Vec Ideal S256x512 .f32) (b : Vec Ideal S256x512 .f32) (p : Vec Ideal S1x256x512 .f32) (r : Fin 256) (x : Fin 512) :
    k0_pay6 i a b p (ix2 r x) = Adam.avg (p (ix3 0 r x)) (k0_pay5 i a b (ix2 r x)) := by
  unfold k0_pay6
  pointwise
  rfl

theorem sqr_at (i : grid0.Coords) (a : Vec Ideal S256x512 .f32) (b : Vec Ideal S256x512 .f32) (p : Vec Ideal S1x256x512 .f32) (r : Fin 256) (x : Fin 512) :
    k0_pay7 i a b p (ix2 r x) = Adam.sqr (p (ix3 0 r x)) (k0_pay5 i a b (ix2 r x)) := by
  unfold k0_pay7
  pointwise
  rfl

theorem step_at (i : grid0.Coords) (a : Vec Ideal S256x512 .f32) (b : Vec Ideal S256x512 .f32) (w p q : Vec Ideal S1x256x512 .f32) (r : Fin 256) (x : Fin 512) :
    k0_pay8 i a b w p q (ix2 r x) = Adam.step (w (ix3 0 r x)) (Adam.avg (p (ix3 0 r x)) (k0_pay5 i a b (ix2 r x)))
      (Adam.sqr (q (ix3 0 r x)) (k0_pay5 i a b (ix2 r x))) := by
  unfold k0_pay8
  pointwise [avg_at, sqr_at]
  rfl

theorem cast1_at (a : FVec Ideal S256x512 .f32) (d : Fin 1) (r : Fin 256) (x : Fin 512) : k0_pay1 a (ix3 d r x) = a (ix2 r x) := by
  unfold k0_pay1
  pointwise

theorem cast2_at (a : FVec Ideal S256x512 .f32) (d : Fin 1) (r : Fin 256) (x : Fin 512) : k0_pay2 a (ix3 d r x) = a (ix2 r x) := by
  unfold k0_pay2
  pointwise

theorem cast3_at (a : FVec Ideal S256x512 .f32) (d : Fin 1) (r : Fin 256) (x : Fin 512) : k0_pay3 a (ix3 d r x) = a (ix2 r x) := by
  unfold k0_pay3
  pointwise

theorem cast4_at (a : FVec Ideal S256x512 .f32) (d : Fin 1) (r : Fin 256) (x : Fin 512) : k0_pay4 a (ix3 d r x) = a (ix2 r x) := by
  unfold k0_pay4
  pointwise

theorem read0_at (t : Fin cfg0.N) (n : Fin 256) (x : Fin 512) :
    iblk m c 0 t (ix3 0 n x) = (m ((c.tc : Thread nD τ).loc main_arg0)) (ix3 ⟨t.val / 1, lay_lt t⟩ ⟨t.val % 1 * 256 + n.val, row_lt t n⟩ x) := by
  have e := (idx t).1
  blk_ext [iblk, V, e]

theorem read1_at (t : Fin cfg0.N) (n : Fin 256) (x : Fin 512) :
    iblk m c 1 t (ix3 0 n x) = (m ((c.tc : Thread nD τ).loc main_arg1)) (ix3 ⟨t.val / 1, lay_lt t⟩ ⟨t.val % 1 * 256 + n.val, row_lt t n⟩ x) := by
  have e := (idx t).2.1
  blk_ext [iblk, V, e]

theorem read2_at (t : Fin cfg0.N) (n : Fin 256) (x : Fin 512) :
    iblk m c 2 t (ix3 0 n x) = (m ((c.tc : Thread nD τ).loc main_arg2)) (ix3 ⟨t.val / 1, lay_lt t⟩ ⟨t.val % 1 * 256 + n.val, row_lt t n⟩ x) := by
  have e := (idx t).2.2.1
  blk_ext [iblk, V, e]

theorem read3_at (t : Fin cfg0.N) (n : Fin 256) (x : Fin 512) :
    iblk m c 3 t (ix2 n x) = (m ((c.tc : Thread nD τ).loc main_arg3)) (ix2 ⟨t.val % 1 * 256 + n.val, row_lt t n⟩ x) := by
  have e := (idx t).2.2.2.1
  blk_ext [iblk, V, e]

theorem read4_at (t : Fin cfg0.N) (n : Fin 256) (x : Fin 512) :
    iblk m c 4 t (ix2 n x) = (m ((c.tc : Thread nD τ).loc main_arg4)) (ix2 ⟨t.val % 1 * 256 + n.val, row_lt t n⟩ x) := by
  have e := (idx t).2.2.2.2.1
  blk_ext [iblk, V, e]

theorem grad_at (t : Fin cfg0.N) (n : Fin 256) (x : Fin 512) :
    k0_pay5 (grid0.coords t) (iblk m c 3 t) (iblk m c 4 t) (ix2 n x) = (Adam.stack (m ((c.tc : Thread nD τ).loc main_arg3)) (m ((c.tc : Thread nD τ).loc main_arg4))) (ix3 ⟨t.val / 1, lay_lt t⟩ ⟨t.val % 1 * 256 + n.val, row_lt t n⟩ x) := by
  refine (pick_at _ _ _ n x).trans ?_
  rw [layer t, read3_at, read4_at]
  rfl

theorem arr_g : (dats m 0 c).arrAt 5 cfg0.N = (Adam.stack (m ((c.tc : Thread nD τ).loc main_arg3)) (m ((c.tc : Thread nD τ).loc main_arg4))) := by
  refine (dats m 0 c).arrAt_eq_of_covers 5 _ (by decide +kernel) fun t hf y => ?_
  show (dats m 0 c).flushed 5 t y = _
  rw [flushed5]
  have eo := (idx t).2.2.2.2.2.1
  frame_out
  idx_vars y
  have ej : ((cfg0.win 5).blk t).view.emb (ix3 y0 y1 y2) = ix3 ⟨t.val / 1, lay_lt t⟩ ⟨t.val % 1 * 256 + y1.val, row_lt t y1⟩ y2 := by
    blk_ext [eo]
  rw [ej]
  exact (cast1_at _ _ _ _).trans (grad_at m c t y1 y2)

theorem arr_d : (dats m 0 c).arrAt 6 cfg0.N = Adam.steps (m ((c.tc : Thread nD τ).loc main_arg0)) (m ((c.tc : Thread nD τ).loc main_arg1)) (m ((c.tc : Thread nD τ).loc main_arg2)) (Adam.stack (m ((c.tc : Thread nD τ).loc main_arg3)) (m ((c.tc : Thread nD τ).loc main_arg4))) := by
  refine (dats m 0 c).arrAt_eq_of_covers 6 _ (by decide +kernel) fun t hf y => ?_
  show (dats m 0 c).flushed 6 t y = _
  rw [flushed6]
  have eo := (idx t).2.2.2.2.2.2.1
  frame_out
  idx_vars y
  have ej : ((cfg0.win 6).blk t).view.emb (ix3 y0 y1 y2) = ix3 ⟨t.val / 1, lay_lt t⟩ ⟨t.val % 1 * 256 + y1.val, row_lt t y1⟩ y2 := by
    blk_ext [eo]
  rw [ej]
  refine (cast2_at _ _ _ _).trans ((step_at _ _ _ _ _ _ _ _).trans ?_)
  rw [show k0_pay5 (grid0.coords t) (iblk m c 3 t) (iblk m c 4 t) (ix2 y1 y2) = _ from grad_at m c t y1 y2, read0_at, read1_at, read2_at]
  rfl

theorem arr_m : (dats m 0 c).arrAt 7 cfg0.N = Adam.avgs (m ((c.tc : Thread nD τ).loc main_arg1)) (Adam.stack (m ((c.tc : Thread nD τ).loc main_arg3)) (m ((c.tc : Thread nD τ).loc main_arg4))) := by
  refine (dats m 0 c).arrAt_eq_of_covers 7 _ (by decide +kernel) fun t hf y => ?_
  show (dats m 0 c).flushed 7 t y = _
  rw [flushed7]
  have eo := (idx t).2.2.2.2.2.2.2.1
  frame_out
  idx_vars y
  have ej : ((cfg0.win 7).blk t).view.emb (ix3 y0 y1 y2) = ix3 ⟨t.val / 1, lay_lt t⟩ ⟨t.val % 1 * 256 + y1.val, row_lt t y1⟩ y2 := by
    blk_ext [eo]
  rw [ej]
  refine (cast3_at _ _ _ _).trans ((avg_at _ _ _ _ _ _).trans ?_)
  rw [show k0_pay5 (grid0.coords t) (iblk m c 3 t) (iblk m c 4 t) (ix2 y1 y2) = _ from grad_at m c t y1 y2, read1_at]
  rfl

theorem arr_v : (dats m 0 c).arrAt 8 cfg0.N = Adam.sqrs (m ((c.tc : Thread nD τ).loc main_arg2)) (Adam.stack (m ((c.tc : Thread nD τ).loc main_arg3)) (m ((c.tc : Thread nD τ).loc main_arg4))) := by
  refine (dats m 0 c).arrAt_eq_of_covers 8 _ (by decide +kernel) fun t hf y => ?_
  show (dats m 0 c).flushed 8 t y = _
  rw [flushed8]
  have eo := (idx t).2.2.2.2.2.2.2.2
  frame_out
  idx_vars y
  have ej : ((cfg0.win 8).blk t).view.emb (ix3 y0 y1 y2) = ix3 ⟨t.val / 1, lay_lt t⟩ ⟨t.val % 1 * 256 + y1.val, row_lt t y1⟩ y2 := by
    blk_ext [eo]
  rw [ej]
  refine (cast4_at _ _ _ _).trans ((sqr_at _ _ _ _ _ _).trans ?_)
  rw [show k0_pay5 (grid0.coords t) (iblk m c 3 t) (iblk m c 4 t) (ix2 y1 y2) = _ from grad_at m c t y1 y2, read2_at]
  rfl

end Cert.AdamMemIdeal.Value

namespace Cert.AdamMemRefIdeal.Value

open Cert.AdamMemRefIdeal Cert.AdamMemRefIdeal.Gen Idealize.ShloMosaic Idealize.ShloMosaic.TcCoe Idealize.SL.Sem

theorem out_g (a3 : FVec Ideal S256x512 .f32) (a4 : FVec Ideal S256x512 .f32) :
    concatenate S2x256x512 0 [⟨S1x256x512, (broadcastInDim S1x256x512 ![1, 2] bcast_S256x512_S1x256x512_1_2 a3)⟩, ⟨S1x256x512, (broadcastInDim S1x256x512 ![1, 2] bcast_S256x512_S1x256x512_1_2 a4)⟩] concatenates_S1x256x512_S1x256x512_S2x256x512_d0
      = (Adam.stack a3 a4) := by
  funext j
  idx_vars j
  pointwise
  rfl

theorem out_d_of (a0 : FVec Ideal S2x256x512 .f32) (a1 : FVec Ideal S2x256x512 .f32) (a2 : FVec Ideal S2x256x512 .f32) (g : FVec Ideal S2x256x512 .f32) :
    mulf (broadcastInDim S2x256x512 ![] bcast_S_S2x256x512 (constant S_ .f32 0xBA83126F#32)) (addf (Host.divf (Host.divf (addf (mulf (broadcastInDim S2x256x512 ![] bcast_S_S2x256x512 (constant S_ .f32 0x3F666666#32)) a1) (mulf (broadcastInDim S2x256x512 ![] bcast_S_S2x256x512 (constant S_ .f32 0x3DCCCCCD#32)) g)) (broadcastInDim S2x256x512 ![] bcast_S_S2x256x512 (constant S_ .f32 0x3F26BD02#32))) (addf (Host.sqrt (Host.divf (addf (mulf (broadcastInDim S2x256x512 ![] bcast_S_S2x256x512 (constant S_ .f32 0x3F7FBE77#32)) a2) (mulf (broadcastInDim S2x256x512 ![] bcast_S_S2x256x512 (constant S_ .f32 0x3A83126F#32)) (mulf g g))) (broadcastInDim S2x256x512 ![] bcast_S_S2x256x512 (constant S_ .f32 0x3C231ACC#32)))) (broadcastInDim S2x256x512 ![] bcast_S_S2x256x512 (constant S_ .f32 0x322BCC77#32)))) (mulf (broadcastInDim S2x256x512 ![] bcast_S_S2x256x512 (constant S_ .f32 0x3C23D70A#32)) a0))
      = Adam.steps a0 a1 a2 g := by
  funext j
  idx_vars j
  pointwise
  rfl

theorem out_d (a0 : FVec Ideal S2x256x512 .f32) (a1 : FVec Ideal S2x256x512 .f32) (a2 : FVec Ideal S2x256x512 .f32) (a3 : FVec Ideal S256x512 .f32) (a4 : FVec Ideal S256x512 .f32) :
    mulf (broadcastInDim S2x256x512 ![] bcast_S_S2x256x512 (constant S_ .f32 0xBA83126F#32)) (addf (Host.divf (Host.divf (addf (mulf (broadcastInDim S2x256x512 ![] bcast_S_S2x256x512 (constant S_ .f32 0x3F666666#32)) a1) (mulf (broadcastInDim S2x256x512 ![] bcast_S_S2x256x512 (constant S_ .f32 0x3DCCCCCD#32)) (concatenate S2x256x512 0 [⟨S1x256x512, (broadcastInDim S1x256x512 ![1, 2] bcast_S256x512_S1x256x512_1_2 a3)⟩, ⟨S1x256x512, (broadcastInDim S1x256x512 ![1, 2] bcast_S256x512_S1x256x512_1_2 a4)⟩] concatenates_S1x256x512_S1x256x512_S2x256x512_d0))) (broadcastInDim S2x256x512 ![] bcast_S_S2x256x512 (constant S_ .f32 0x3F26BD02#32))) (addf (Host.sqrt (Host.divf (addf (mulf (broadcastInDim S2x256x512 ![] bcast_S_S2x256x512 (constant S_ .f32 0x3F7FBE77#32)) a2) (mulf (broadcastInDim S2x256x512 ![] bcast_S_S2x256x512 (constant S_ .f32 0x3A83126F#32)) (mulf (concatenate S2x256x512 0 [⟨S1x256x512, (broadcastInDim S1x256x512 ![1, 2] bcast_S256x512_S1x256x512_1_2 a3)⟩, ⟨S1x256x512, (broadcastInDim S1x256x512 ![1, 2] bcast_S256x512_S1x256x512_1_2 a4)⟩] concatenates_S1x256x512_S1x256x512_S2x256x512_d0) (concatenate S2x256x512 0 [⟨S1x256x512, (broadcastInDim S1x256x512 ![1, 2] bcast_S256x512_S1x256x512_1_2 a3)⟩, ⟨S1x256x512, (broadcastInDim S1x256x512 ![1, 2] bcast_S256x512_S1x256x512_1_2 a4)⟩] concatenates_S1x256x512_S1x256x512_S2x256x512_d0)))) (broadcastInDim S2x256x512 ![] bcast_S_S2x256x512 (constant S_ .f32 0x3C231ACC#32)))) (broadcastInDim S2x256x512 ![] bcast_S_S2x256x512 (constant S_ .f32 0x322BCC77#32)))) (mulf (broadcastInDim S2x256x512 ![] bcast_S_S2x256x512 (constant S_ .f32 0x3C23D70A#32)) a0))
      = Adam.steps a0 a1 a2 (Adam.stack a3 a4) :=
  (out_d_of a0 a1 a2 _).trans (congrArg (fun g => Adam.steps a0 a1 a2 g) (out_g a3 a4))

theorem out_m_of (a1 : FVec Ideal S2x256x512 .f32) (g : FVec Ideal S2x256x512 .f32) :
    addf (mulf (broadcastInDim S2x256x512 ![] bcast_S_S2x256x512 (constant S_ .f32 0x3F666666#32)) a1) (mulf (broadcastInDim S2x256x512 ![] bcast_S_S2x256x512 (constant S_ .f32 0x3DCCCCCD#32)) g)
      = Adam.avgs a1 g := by
  funext j
  idx_vars j
  pointwise
  rfl

theorem out_m (a1 : FVec Ideal S2x256x512 .f32) (a3 : FVec Ideal S256x512 .f32) (a4 : FVec Ideal S256x512 .f32) :
    addf (mulf (broadcastInDim S2x256x512 ![] bcast_S_S2x256x512 (constant S_ .f32 0x3F666666#32)) a1) (mulf (broadcastInDim S2x256x512 ![] bcast_S_S2x256x512 (constant S_ .f32 0x3DCCCCCD#32)) (concatenate S2x256x512 0 [⟨S1x256x512, (broadcastInDim S1x256x512 ![1, 2] bcast_S256x512_S1x256x512_1_2 a3)⟩, ⟨S1x256x512, (broadcastInDim S1x256x512 ![1, 2] bcast_S256x512_S1x256x512_1_2 a4)⟩] concatenates_S1x256x512_S1x256x512_S2x256x512_d0))
      = Adam.avgs a1 (Adam.stack a3 a4) :=
  (out_m_of a1 _).trans (congrArg (fun g => Adam.avgs a1 g) (out_g a3 a4))

theorem out_v_of (a2 : FVec Ideal S2x256x512 .f32) (g : FVec Ideal S2x256x512 .f32) :
    addf (mulf (broadcastInDim S2x256x512 ![] bcast_S_S2x256x512 (constant S_ .f32 0x3F7FBE77#32)) a2) (mulf (broadcastInDim S2x256x512 ![] bcast_S_S2x256x512 (constant S_ .f32 0x3A83126F#32)) (mulf g g))
      = Adam.sqrs a2 g := by
  funext j
  idx_vars j
  pointwise
  rfl

theorem out_v (a2 : FVec Ideal S2x256x512 .f32) (a3 : FVec Ideal S256x512 .f32) (a4 : FVec Ideal S256x512 .f32) :
    addf (mulf (broadcastInDim S2x256x512 ![] bcast_S_S2x256x512 (constant S_ .f32 0x3F7FBE77#32)) a2) (mulf (broadcastInDim S2x256x512 ![] bcast_S_S2x256x512 (constant S_ .f32 0x3A83126F#32)) (mulf (concatenate S2x256x512 0 [⟨S1x256x512, (broadcastInDim S1x256x512 ![1, 2] bcast_S256x512_S1x256x512_1_2 a3)⟩, ⟨S1x256x512, (broadcastInDim S1x256x512 ![1, 2] bcast_S256x512_S1x256x512_1_2 a4)⟩] concatenates_S1x256x512_S1x256x512_S2x256x512_d0) (concatenate S2x256x512 0 [⟨S1x256x512, (broadcastInDim S1x256x512 ![1, 2] bcast_S256x512_S1x256x512_1_2 a3)⟩, ⟨S1x256x512, (broadcastInDim S1x256x512 ![1, 2] bcast_S256x512_S1x256x512_1_2 a4)⟩] concatenates_S1x256x512_S1x256x512_S2x256x512_d0)))
      = Adam.sqrs a2 (Adam.stack a3 a4) :=
  (out_v_of a2 _).trans (congrArg (fun g => Adam.sqrs a2 g) (out_g a3 a4))

end Cert.AdamMemRefIdeal.Value

end
-- ==== Proof.AdamOneValue.lean ====
/-
  The optimiser's update of the weights one layer has, and of the packed small weights.
-/
module

public import proofs.«01_k».proof.Proof.Adam
public import proofs.«01_k».proof.Proof.Gen.AdamInAIdeal.Value
public import proofs.«01_k».proof.Proof.Gen.AdamInARefIdeal.Run
public import proofs.«01_k».proof.Proof.Gen.AdamInBIdeal.Value
public import proofs.«01_k».proof.Proof.Gen.AdamInBRefIdeal.Run
public import proofs.«01_k».proof.Proof.Gen.AdamSmallIdeal.Value
public import proofs.«01_k».proof.Proof.Gen.AdamSmallRefIdeal.Run
public import Idealize.ShloMosaic.Lib.Pipeline.ValueKit

@[expose] public section

set_option maxRecDepth 16384

noncomputable section

namespace Cert.AdamInAIdeal.Value

open Cert.AdamInAIdeal Cert.AdamInAIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] := by decide +kernel

theorem lay_lt (t : Fin cfg0.N) : t.val / 2 < 1 := by
  have h : t.val < 2 := lt_of_lt_of_eq t.isLt N_0
  omega

theorem row_lt (t : Fin cfg0.N) (n : Fin 512) : t.val % 2 * 512 + n.val < 1024 := by omega

theorem avg_at (a : Vec Ideal S512x320 .f32) (p : Vec Ideal S1x512x320 .f32) (r : Fin 512) (x : Fin 320) :
    k0_pay4 a p (ix2 r x) = Adam.avg (p (ix3 0 r x)) (a (ix2 r x)) := by
  unfold k0_pay4
  pointwise
  rfl

theorem sqr_at (a : Vec Ideal S512x320 .f32) (p : Vec Ideal S1x512x320 .f32) (r : Fin 512) (x : Fin 320) :
    k0_pay5 a p (ix2 r x) = Adam.sqr (p (ix3 0 r x)) (a (ix2 r x)) := by
  unfold k0_pay5
  pointwise
  rfl

theorem step_at (a : Vec Ideal S512x320 .f32) (w p q : Vec Ideal S1x512x320 .f32) (r : Fin 512) (x : Fin 320) :
    k0_pay6 a w p q (ix2 r x) = Adam.step (w (ix3 0 r x)) (Adam.avg (p (ix3 0 r x)) (a (ix2 r x)))
      (Adam.sqr (q (ix3 0 r x)) (a (ix2 r x))) := by
  unfold k0_pay6
  pointwise [avg_at, sqr_at]
  rfl

theorem cast7_at (a : FVec Ideal S512x320 .f32) (d : Fin 1) (r : Fin 512) (x : Fin 320) : k0_pay7 a (ix3 d r x) = a (ix2 r x) := by
  unfold k0_pay7
  pointwise

theorem cast1_at (a : FVec Ideal S512x320 .f32) (d : Fin 1) (r : Fin 512) (x : Fin 320) : k0_pay1 a (ix3 d r x) = a (ix2 r x) := by
  unfold k0_pay1
  pointwise

theorem cast2_at (a : FVec Ideal S512x320 .f32) (d : Fin 1) (r : Fin 512) (x : Fin 320) : k0_pay2 a (ix3 d r x) = a (ix2 r x) := by
  unfold k0_pay2
  pointwise

theorem cast3_at (a : FVec Ideal S512x320 .f32) (d : Fin 1) (r : Fin 512) (x : Fin 320) : k0_pay3 a (ix3 d r x) = a (ix2 r x) := by
  unfold k0_pay3
  pointwise

theorem read0_at (t : Fin cfg0.N) (n : Fin 512) (x : Fin 320) :
    iblk m c 0 t (ix3 0 n x) = (m ((c.tc : Thread nD τ).loc main_arg0)) (ix3 ⟨t.val / 2, lay_lt t⟩ ⟨t.val % 2 * 512 + n.val, row_lt t n⟩ x) := by
  have e := (idx t).1
  blk_ext [iblk, V, e]

theorem read1_at (t : Fin cfg0.N) (n : Fin 512) (x : Fin 320) :
    iblk m c 1 t (ix3 0 n x) = (m ((c.tc : Thread nD τ).loc main_arg1)) (ix3 ⟨t.val / 2, lay_lt t⟩ ⟨t.val % 2 * 512 + n.val, row_lt t n⟩ x) := by
  have e := (idx t).2.1
  blk_ext [iblk, V, e]

theorem read2_at (t : Fin cfg0.N) (n : Fin 512) (x : Fin 320) :
    iblk m c 2 t (ix3 0 n x) = (m ((c.tc : Thread nD τ).loc main_arg2)) (ix3 ⟨t.val / 2, lay_lt t⟩ ⟨t.val % 2 * 512 + n.val, row_lt t n⟩ x) := by
  have e := (idx t).2.2.1
  blk_ext [iblk, V, e]

theorem read3_at (t : Fin cfg0.N) (n : Fin 512) (x : Fin 320) :
    iblk m c 3 t (ix2 n x) = (m ((c.tc : Thread nD τ).loc main_arg3)) (ix2 ⟨t.val % 2 * 512 + n.val, row_lt t n⟩ x) := by
  have e := (idx t).2.2.2.1
  blk_ext [iblk, V, e]

theorem grad_at (t : Fin cfg0.N) (n : Fin 512) (x : Fin 320) :
    iblk m c 3 t (ix2 n x) = (Adam.lone (m ((c.tc : Thread nD τ).loc main_arg3))) (ix3 ⟨t.val / 2, lay_lt t⟩ ⟨t.val % 2 * 512 + n.val, row_lt t n⟩ x) := read3_at m c t n x

theorem arr_g : (dats m 0 c).arrAt 4 cfg0.N = (Adam.lone (m ((c.tc : Thread nD τ).loc main_arg3))) := by
  refine (dats m 0 c).arrAt_eq_of_covers 4 _ (by decide +kernel) fun t hf y => ?_
  show (dats m 0 c).flushed 4 t y = _
  rw [flushed4]
  have eo := (idx t).2.2.2.2.1
  frame_out
  idx_vars y
  have ej : ((cfg0.win 4).blk t).view.emb (ix3 y0 y1 y2) = ix3 ⟨t.val / 2, lay_lt t⟩ ⟨t.val % 2 * 512 + y1.val, row_lt t y1⟩ y2 := by
    blk_ext [eo]
  rw [ej]
  exact (cast7_at _ _ _ _).trans (grad_at m c t y1 y2)

theorem arr_d : (dats m 0 c).arrAt 5 cfg0.N = Adam.steps (m ((c.tc : Thread nD τ).loc main_arg0)) (m ((c.tc : Thread nD τ).loc main_arg1)) (m ((c.tc : Thread nD τ).loc main_arg2)) (Adam.lone (m ((c.tc : Thread nD τ).loc main_arg3))) := by
  refine (dats m 0 c).arrAt_eq_of_covers 5 _ (by decide +kernel) fun t hf y => ?_
  show (dats m 0 c).flushed 5 t y = _
  rw [flushed5]
  have eo := (idx t).2.2.2.2.2.1
  frame_out
  idx_vars y
  have ej : ((cfg0.win 5).blk t).view.emb (ix3 y0 y1 y2) = ix3 ⟨t.val / 2, lay_lt t⟩ ⟨t.val % 2 * 512 + y1.val, row_lt t y1⟩ y2 := by
    blk_ext [eo]
  rw [ej]
  refine (cast1_at _ _ _ _).trans ((step_at _ _ _ _ _ _).trans ?_)
  rw [show iblk m c 3 t (ix2 y1 y2) = _ from grad_at m c t y1 y2, read0_at, read1_at, read2_at]
  rfl

theorem arr_m : (dats m 0 c).arrAt 6 cfg0.N = Adam.avgs (m ((c.tc : Thread nD τ).loc main_arg1)) (Adam.lone (m ((c.tc : Thread nD τ).loc main_arg3))) := by
  refine (dats m 0 c).arrAt_eq_of_covers 6 _ (by decide +kernel) fun t hf y => ?_
  show (dats m 0 c).flushed 6 t y = _
  rw [flushed6]
  have eo := (idx t).2.2.2.2.2.2.1
  frame_out
  idx_vars y
  have ej : ((cfg0.win 6).blk t).view.emb (ix3 y0 y1 y2) = ix3 ⟨t.val / 2, lay_lt t⟩ ⟨t.val % 2 * 512 + y1.val, row_lt t y1⟩ y2 := by
    blk_ext [eo]
  rw [ej]
  refine (cast2_at _ _ _ _).trans ((avg_at _ _ _ _).trans ?_)
  rw [show iblk m c 3 t (ix2 y1 y2) = _ from grad_at m c t y1 y2, read1_at]
  rfl

theorem arr_v : (dats m 0 c).arrAt 7 cfg0.N = Adam.sqrs (m ((c.tc : Thread nD τ).loc main_arg2)) (Adam.lone (m ((c.tc : Thread nD τ).loc main_arg3))) := by
  refine (dats m 0 c).arrAt_eq_of_covers 7 _ (by decide +kernel) fun t hf y => ?_
  show (dats m 0 c).flushed 7 t y = _
  rw [flushed7]
  have eo := (idx t).2.2.2.2.2.2.2
  frame_out
  idx_vars y
  have ej : ((cfg0.win 7).blk t).view.emb (ix3 y0 y1 y2) = ix3 ⟨t.val / 2, lay_lt t⟩ ⟨t.val % 2 * 512 + y1.val, row_lt t y1⟩ y2 := by
    blk_ext [eo]
  rw [ej]
  refine (cast3_at _ _ _ _).trans ((sqr_at _ _ _ _).trans ?_)
  rw [show iblk m c 3 t (ix2 y1 y2) = _ from grad_at m c t y1 y2, read2_at]
  rfl

end Cert.AdamInAIdeal.Value

namespace Cert.AdamInARefIdeal.Value

open Cert.AdamInARefIdeal Cert.AdamInARefIdeal.Gen Idealize.ShloMosaic Idealize.ShloMosaic.TcCoe Idealize.SL.Sem

theorem out_g (a3 : FVec Ideal S1024x320 .f32) :
    broadcastInDim S1x1024x320 ![1, 2] bcast_S1024x320_S1x1024x320_1_2 a3
      = (Adam.lone a3) := by
  funext j
  idx_vars j
  pointwise
  rfl

theorem out_d_of (a0 : FVec Ideal S1x1024x320 .f32) (a1 : FVec Ideal S1x1024x320 .f32) (a2 : FVec Ideal S1x1024x320 .f32) (g : FVec Ideal S1x1024x320 .f32) :
    mulf (broadcastInDim S1x1024x320 ![] bcast_S_S1x1024x320 (constant S_ .f32 0xBA83126F#32)) (addf (Host.divf (Host.divf (addf (mulf (broadcastInDim S1x1024x320 ![] bcast_S_S1x1024x320 (constant S_ .f32 0x3F666666#32)) a1) (mulf (broadcastInDim S1x1024x320 ![] bcast_S_S1x1024x320 (constant S_ .f32 0x3DCCCCCD#32)) g)) (broadcastInDim S1x1024x320 ![] bcast_S_S1x1024x320 (constant S_ .f32 0x3F26BD02#32))) (addf (Host.sqrt (Host.divf (addf (mulf (broadcastInDim S1x1024x320 ![] bcast_S_S1x1024x320 (constant S_ .f32 0x3F7FBE77#32)) a2) (mulf (broadcastInDim S1x1024x320 ![] bcast_S_S1x1024x320 (constant S_ .f32 0x3A83126F#32)) (mulf g g))) (broadcastInDim S1x1024x320 ![] bcast_S_S1x1024x320 (constant S_ .f32 0x3C231ACC#32)))) (broadcastInDim S1x1024x320 ![] bcast_S_S1x1024x320 (constant S_ .f32 0x322BCC77#32)))) (mulf (broadcastInDim S1x1024x320 ![] bcast_S_S1x1024x320 (constant S_ .f32 0x3C23D70A#32)) a0))
      = Adam.steps a0 a1 a2 g := by
  funext j
  idx_vars j
  pointwise
  rfl

theorem out_d (a0 : FVec Ideal S1x1024x320 .f32) (a1 : FVec Ideal S1x1024x320 .f32) (a2 : FVec Ideal S1x1024x320 .f32) (a3 : FVec Ideal S1024x320 .f32) :
    mulf (broadcastInDim S1x1024x320 ![] bcast_S_S1x1024x320 (constant S_ .f32 0xBA83126F#32)) (addf (Host.divf (Host.divf (addf (mulf (broadcastInDim S1x1024x320 ![] bcast_S_S1x1024x320 (constant S_ .f32 0x3F666666#32)) a1) (mulf (broadcastInDim S1x1024x320 ![] bcast_S_S1x1024x320 (constant S_ .f32 0x3DCCCCCD#32)) (broadcastInDim S1x1024x320 ![1, 2] bcast_S1024x320_S1x1024x320_1_2 a3))) (broadcastInDim S1x1024x320 ![] bcast_S_S1x1024x320 (constant S_ .f32 0x3F26BD02#32))) (addf (Host.sqrt (Host.divf (addf (mulf (broadcastInDim S1x1024x320 ![] bcast_S_S1x1024x320 (constant S_ .f32 0x3F7FBE77#32)) a2) (mulf (broadcastInDim S1x1024x320 ![] bcast_S_S1x1024x320 (constant S_ .f32 0x3A83126F#32)) (mulf (broadcastInDim S1x1024x320 ![1, 2] bcast_S1024x320_S1x1024x320_1_2 a3) (broadcastInDim S1x1024x320 ![1, 2] bcast_S1024x320_S1x1024x320_1_2 a3)))) (broadcastInDim S1x1024x320 ![] bcast_S_S1x1024x320 (constant S_ .f32 0x3C231ACC#32)))) (broadcastInDim S1x1024x320 ![] bcast_S_S1x1024x320 (constant S_ .f32 0x322BCC77#32)))) (mulf (broadcastInDim S1x1024x320 ![] bcast_S_S1x1024x320 (constant S_ .f32 0x3C23D70A#32)) a0))
      = Adam.steps a0 a1 a2 (Adam.lone a3) :=
  (out_d_of a0 a1 a2 _).trans (congrArg (fun g => Adam.steps a0 a1 a2 g) (out_g a3))

theorem out_m_of (a1 : FVec Ideal S1x1024x320 .f32) (g : FVec Ideal S1x1024x320 .f32) :
    addf (mulf (broadcastInDim S1x1024x320 ![] bcast_S_S1x1024x320 (constant S_ .f32 0x3F666666#32)) a1) (mulf (broadcastInDim S1x1024x320 ![] bcast_S_S1x1024x320 (constant S_ .f32 0x3DCCCCCD#32)) g)
      = Adam.avgs a1 g := by
  funext j
  idx_vars j
  pointwise
  rfl

theorem out_m (a1 : FVec Ideal S1x1024x320 .f32) (a3 : FVec Ideal S1024x320 .f32) :
    addf (mulf (broadcastInDim S1x1024x320 ![] bcast_S_S1x1024x320 (constant S_ .f32 0x3F666666#32)) a1) (mulf (broadcastInDim S1x1024x320 ![] bcast_S_S1x1024x320 (constant S_ .f32 0x3DCCCCCD#32)) (broadcastInDim S1x1024x320 ![1, 2] bcast_S1024x320_S1x1024x320_1_2 a3))
      = Adam.avgs a1 (Adam.lone a3) :=
  (out_m_of a1 _).trans (congrArg (fun g => Adam.avgs a1 g) (out_g a3))

theorem out_v_of (a2 : FVec Ideal S1x1024x320 .f32) (g : FVec Ideal S1x1024x320 .f32) :
    addf (mulf (broadcastInDim S1x1024x320 ![] bcast_S_S1x1024x320 (constant S_ .f32 0x3F7FBE77#32)) a2) (mulf (broadcastInDim S1x1024x320 ![] bcast_S_S1x1024x320 (constant S_ .f32 0x3A83126F#32)) (mulf g g))
      = Adam.sqrs a2 g := by
  funext j
  idx_vars j
  pointwise
  rfl

theorem out_v (a2 : FVec Ideal S1x1024x320 .f32) (a3 : FVec Ideal S1024x320 .f32) :
    addf (mulf (broadcastInDim S1x1024x320 ![] bcast_S_S1x1024x320 (constant S_ .f32 0x3F7FBE77#32)) a2) (mulf (broadcastInDim S1x1024x320 ![] bcast_S_S1x1024x320 (constant S_ .f32 0x3A83126F#32)) (mulf (broadcastInDim S1x1024x320 ![1, 2] bcast_S1024x320_S1x1024x320_1_2 a3) (broadcastInDim S1x1024x320 ![1, 2] bcast_S1024x320_S1x1024x320_1_2 a3)))
      = Adam.sqrs a2 (Adam.lone a3) :=
  (out_v_of a2 _).trans (congrArg (fun g => Adam.sqrs a2 g) (out_g a3))

end Cert.AdamInARefIdeal.Value

namespace Cert.AdamInBIdeal.Value

open Cert.AdamInBIdeal Cert.AdamInBIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] := by decide +kernel

theorem lay_lt (t : Fin cfg0.N) : t.val / 4 < 1 := by
  have h : t.val < 4 := lt_of_lt_of_eq t.isLt N_0
  omega

theorem row_lt (t : Fin cfg0.N) (n : Fin 256) : t.val % 4 * 256 + n.val < 1024 := by omega

theorem avg_at (a : Vec Ideal S256x643 .f32) (p : Vec Ideal S1x256x643 .f32) (r : Fin 256) (x : Fin 643) :
    k0_pay4 a p (ix2 r x) = Adam.avg (p (ix3 0 r x)) (a (ix2 r x)) := by
  unfold k0_pay4
  pointwise
  rfl

theorem sqr_at (a : Vec Ideal S256x643 .f32) (p : Vec Ideal S1x256x643 .f32) (r : Fin 256) (x : Fin 643) :
    k0_pay5 a p (ix2 r x) = Adam.sqr (p (ix3 0 r x)) (a (ix2 r x)) := by
  unfold k0_pay5
  pointwise
  rfl

theorem step_at (a : Vec Ideal S256x643 .f32) (w p q : Vec Ideal S1x256x643 .f32) (r : Fin 256) (x : Fin 643) :
    k0_pay6 a w p q (ix2 r x) = Adam.step (w (ix3 0 r x)) (Adam.avg (p (ix3 0 r x)) (a (ix2 r x)))
      (Adam.sqr (q (ix3 0 r x)) (a (ix2 r x))) := by
  unfold k0_pay6
  pointwise [avg_at, sqr_at]
  rfl

theorem cast7_at (a : FVec Ideal S256x643 .f32) (d : Fin 1) (r : Fin 256) (x : Fin 643) : k0_pay7 a (ix3 d r x) = a (ix2 r x) := by
  unfold k0_pay7
  pointwise

theorem cast1_at (a : FVec Ideal S256x643 .f32) (d : Fin 1) (r : Fin 256) (x : Fin 643) : k0_pay1 a (ix3 d r x) = a (ix2 r x) := by
  unfold k0_pay1
  pointwise

theorem cast2_at (a : FVec Ideal S256x643 .f32) (d : Fin 1) (r : Fin 256) (x : Fin 643) : k0_pay2 a (ix3 d r x) = a (ix2 r x) := by
  unfold k0_pay2
  pointwise

theorem cast3_at (a : FVec Ideal S256x643 .f32) (d : Fin 1) (r : Fin 256) (x : Fin 643) : k0_pay3 a (ix3 d r x) = a (ix2 r x) := by
  unfold k0_pay3
  pointwise

theorem read0_at (t : Fin cfg0.N) (n : Fin 256) (x : Fin 643) :
    iblk m c 0 t (ix3 0 n x) = (m ((c.tc : Thread nD τ).loc main_arg0)) (ix3 ⟨t.val / 4, lay_lt t⟩ ⟨t.val % 4 * 256 + n.val, row_lt t n⟩ x) := by
  have e := (idx t).1
  blk_ext [iblk, V, e]

theorem read1_at (t : Fin cfg0.N) (n : Fin 256) (x : Fin 643) :
    iblk m c 1 t (ix3 0 n x) = (m ((c.tc : Thread nD τ).loc main_arg1)) (ix3 ⟨t.val / 4, lay_lt t⟩ ⟨t.val % 4 * 256 + n.val, row_lt t n⟩ x) := by
  have e := (idx t).2.1
  blk_ext [iblk, V, e]

theorem read2_at (t : Fin cfg0.N) (n : Fin 256) (x : Fin 643) :
    iblk m c 2 t (ix3 0 n x) = (m ((c.tc : Thread nD τ).loc main_arg2)) (ix3 ⟨t.val / 4, lay_lt t⟩ ⟨t.val % 4 * 256 + n.val, row_lt t n⟩ x) := by
  have e := (idx t).2.2.1
  blk_ext [iblk, V, e]

theorem read3_at (t : Fin cfg0.N) (n : Fin 256) (x : Fin 643) :
    iblk m c 3 t (ix2 n x) = (m ((c.tc : Thread nD τ).loc main_arg3)) (ix2 ⟨t.val % 4 * 256 + n.val, row_lt t n⟩ x) := by
  have e := (idx t).2.2.2.1
  blk_ext [iblk, V, e]

theorem grad_at (t : Fin cfg0.N) (n : Fin 256) (x : Fin 643) :
    iblk m c 3 t (ix2 n x) = (Adam.lone (m ((c.tc : Thread nD τ).loc main_arg3))) (ix3 ⟨t.val / 4, lay_lt t⟩ ⟨t.val % 4 * 256 + n.val, row_lt t n⟩ x) := read3_at m c t n x

theorem arr_g : (dats m 0 c).arrAt 4 cfg0.N = (Adam.lone (m ((c.tc : Thread nD τ).loc main_arg3))) := by
  refine (dats m 0 c).arrAt_eq_of_covers 4 _ (by decide +kernel) fun t hf y => ?_
  show (dats m 0 c).flushed 4 t y = _
  rw [flushed4]
  have eo := (idx t).2.2.2.2.1
  frame_out
  idx_vars y
  have ej : ((cfg0.win 4).blk t).view.emb (ix3 y0 y1 y2) = ix3 ⟨t.val / 4, lay_lt t⟩ ⟨t.val % 4 * 256 + y1.val, row_lt t y1⟩ y2 := by
    blk_ext [eo]
  rw [ej]
  exact (cast7_at _ _ _ _).trans (grad_at m c t y1 y2)

theorem arr_d : (dats m 0 c).arrAt 5 cfg0.N = Adam.steps (m ((c.tc : Thread nD τ).loc main_arg0)) (m ((c.tc : Thread nD τ).loc main_arg1)) (m ((c.tc : Thread nD τ).loc main_arg2)) (Adam.lone (m ((c.tc : Thread nD τ).loc main_arg3))) := by
  refine (dats m 0 c).arrAt_eq_of_covers 5 _ (by decide +kernel) fun t hf y => ?_
  show (dats m 0 c).flushed 5 t y = _
  rw [flushed5]
  have eo := (idx t).2.2.2.2.2.1
  frame_out
  idx_vars y
  have ej : ((cfg0.win 5).blk t).view.emb (ix3 y0 y1 y2) = ix3 ⟨t.val / 4, lay_lt t⟩ ⟨t.val % 4 * 256 + y1.val, row_lt t y1⟩ y2 := by
    blk_ext [eo]
  rw [ej]
  refine (cast1_at _ _ _ _).trans ((step_at _ _ _ _ _ _).trans ?_)
  rw [show iblk m c 3 t (ix2 y1 y2) = _ from grad_at m c t y1 y2, read0_at, read1_at, read2_at]
  rfl

theorem arr_m : (dats m 0 c).arrAt 6 cfg0.N = Adam.avgs (m ((c.tc : Thread nD τ).loc main_arg1)) (Adam.lone (m ((c.tc : Thread nD τ).loc main_arg3))) := by
  refine (dats m 0 c).arrAt_eq_of_covers 6 _ (by decide +kernel) fun t hf y => ?_
  show (dats m 0 c).flushed 6 t y = _
  rw [flushed6]
  have eo := (idx t).2.2.2.2.2.2.1
  frame_out
  idx_vars y
  have ej : ((cfg0.win 6).blk t).view.emb (ix3 y0 y1 y2) = ix3 ⟨t.val / 4, lay_lt t⟩ ⟨t.val % 4 * 256 + y1.val, row_lt t y1⟩ y2 := by
    blk_ext [eo]
  rw [ej]
  refine (cast2_at _ _ _ _).trans ((avg_at _ _ _ _).trans ?_)
  rw [show iblk m c 3 t (ix2 y1 y2) = _ from grad_at m c t y1 y2, read1_at]
  rfl

theorem arr_v : (dats m 0 c).arrAt 7 cfg0.N = Adam.sqrs (m ((c.tc : Thread nD τ).loc main_arg2)) (Adam.lone (m ((c.tc : Thread nD τ).loc main_arg3))) := by
  refine (dats m 0 c).arrAt_eq_of_covers 7 _ (by decide +kernel) fun t hf y => ?_
  show (dats m 0 c).flushed 7 t y = _
  rw [flushed7]
  have eo := (idx t).2.2.2.2.2.2.2
  frame_out
  idx_vars y
  have ej : ((cfg0.win 7).blk t).view.emb (ix3 y0 y1 y2) = ix3 ⟨t.val / 4, lay_lt t⟩ ⟨t.val % 4 * 256 + y1.val, row_lt t y1⟩ y2 := by
    blk_ext [eo]
  rw [ej]
  refine (cast3_at _ _ _ _).trans ((sqr_at _ _ _ _).trans ?_)
  rw [show iblk m c 3 t (ix2 y1 y2) = _ from grad_at m c t y1 y2, read2_at]
  rfl

end Cert.AdamInBIdeal.Value

namespace Cert.AdamInBRefIdeal.Value

open Cert.AdamInBRefIdeal Cert.AdamInBRefIdeal.Gen Idealize.ShloMosaic Idealize.ShloMosaic.TcCoe Idealize.SL.Sem

theorem out_g (a3 : FVec Ideal S1024x643 .f32) :
    broadcastInDim S1x1024x643 ![1, 2] bcast_S1024x643_S1x1024x643_1_2 a3
      = (Adam.lone a3) := by
  funext j
  idx_vars j
  pointwise
  rfl

theorem out_d_of (a0 : FVec Ideal S1x1024x643 .f32) (a1 : FVec Ideal S1x1024x643 .f32) (a2 : FVec Ideal S1x1024x643 .f32) (g : FVec Ideal S1x1024x643 .f32) :
    mulf (broadcastInDim S1x1024x643 ![] bcast_S_S1x1024x643 (constant S_ .f32 0xBA83126F#32)) (addf (Host.divf (Host.divf (addf (mulf (broadcastInDim S1x1024x643 ![] bcast_S_S1x1024x643 (constant S_ .f32 0x3F666666#32)) a1) (mulf (broadcastInDim S1x1024x643 ![] bcast_S_S1x1024x643 (constant S_ .f32 0x3DCCCCCD#32)) g)) (broadcastInDim S1x1024x643 ![] bcast_S_S1x1024x643 (constant S_ .f32 0x3F26BD02#32))) (addf (Host.sqrt (Host.divf (addf (mulf (broadcastInDim S1x1024x643 ![] bcast_S_S1x1024x643 (constant S_ .f32 0x3F7FBE77#32)) a2) (mulf (broadcastInDim S1x1024x643 ![] bcast_S_S1x1024x643 (constant S_ .f32 0x3A83126F#32)) (mulf g g))) (broadcastInDim S1x1024x643 ![] bcast_S_S1x1024x643 (constant S_ .f32 0x3C231ACC#32)))) (broadcastInDim S1x1024x643 ![] bcast_S_S1x1024x643 (constant S_ .f32 0x322BCC77#32)))) (mulf (broadcastInDim S1x1024x643 ![] bcast_S_S1x1024x643 (constant S_ .f32 0x3C23D70A#32)) a0))
      = Adam.steps a0 a1 a2 g := by
  funext j
  idx_vars j
  pointwise
  rfl

theorem out_d (a0 : FVec Ideal S1x1024x643 .f32) (a1 : FVec Ideal S1x1024x643 .f32) (a2 : FVec Ideal S1x1024x643 .f32) (a3 : FVec Ideal S1024x643 .f32) :
    mulf (broadcastInDim S1x1024x643 ![] bcast_S_S1x1024x643 (constant S_ .f32 0xBA83126F#32)) (addf (Host.divf (Host.divf (addf (mulf (broadcastInDim S1x1024x643 ![] bcast_S_S1x1024x643 (constant S_ .f32 0x3F666666#32)) a1) (mulf (broadcastInDim S1x1024x643 ![] bcast_S_S1x1024x643 (constant S_ .f32 0x3DCCCCCD#32)) (broadcastInDim S1x1024x643 ![1, 2] bcast_S1024x643_S1x1024x643_1_2 a3))) (broadcastInDim S1x1024x643 ![] bcast_S_S1x1024x643 (constant S_ .f32 0x3F26BD02#32))) (addf (Host.sqrt (Host.divf (addf (mulf (broadcastInDim S1x1024x643 ![] bcast_S_S1x1024x643 (constant S_ .f32 0x3F7FBE77#32)) a2) (mulf (broadcastInDim S1x1024x643 ![] bcast_S_S1x1024x643 (constant S_ .f32 0x3A83126F#32)) (mulf (broadcastInDim S1x1024x643 ![1, 2] bcast_S1024x643_S1x1024x643_1_2 a3) (broadcastInDim S1x1024x643 ![1, 2] bcast_S1024x643_S1x1024x643_1_2 a3)))) (broadcastInDim S1x1024x643 ![] bcast_S_S1x1024x643 (constant S_ .f32 0x3C231ACC#32)))) (broadcastInDim S1x1024x643 ![] bcast_S_S1x1024x643 (constant S_ .f32 0x322BCC77#32)))) (mulf (broadcastInDim S1x1024x643 ![] bcast_S_S1x1024x643 (constant S_ .f32 0x3C23D70A#32)) a0))
      = Adam.steps a0 a1 a2 (Adam.lone a3) :=
  (out_d_of a0 a1 a2 _).trans (congrArg (fun g => Adam.steps a0 a1 a2 g) (out_g a3))

theorem out_m_of (a1 : FVec Ideal S1x1024x643 .f32) (g : FVec Ideal S1x1024x643 .f32) :
    addf (mulf (broadcastInDim S1x1024x643 ![] bcast_S_S1x1024x643 (constant S_ .f32 0x3F666666#32)) a1) (mulf (broadcastInDim S1x1024x643 ![] bcast_S_S1x1024x643 (constant S_ .f32 0x3DCCCCCD#32)) g)
      = Adam.avgs a1 g := by
  funext j
  idx_vars j
  pointwise
  rfl

theorem out_m (a1 : FVec Ideal S1x1024x643 .f32) (a3 : FVec Ideal S1024x643 .f32) :
    addf (mulf (broadcastInDim S1x1024x643 ![] bcast_S_S1x1024x643 (constant S_ .f32 0x3F666666#32)) a1) (mulf (broadcastInDim S1x1024x643 ![] bcast_S_S1x1024x643 (constant S_ .f32 0x3DCCCCCD#32)) (broadcastInDim S1x1024x643 ![1, 2] bcast_S1024x643_S1x1024x643_1_2 a3))
      = Adam.avgs a1 (Adam.lone a3) :=
  (out_m_of a1 _).trans (congrArg (fun g => Adam.avgs a1 g) (out_g a3))

theorem out_v_of (a2 : FVec Ideal S1x1024x643 .f32) (g : FVec Ideal S1x1024x643 .f32) :
    addf (mulf (broadcastInDim S1x1024x643 ![] bcast_S_S1x1024x643 (constant S_ .f32 0x3F7FBE77#32)) a2) (mulf (broadcastInDim S1x1024x643 ![] bcast_S_S1x1024x643 (constant S_ .f32 0x3A83126F#32)) (mulf g g))
      = Adam.sqrs a2 g := by
  funext j
  idx_vars j
  pointwise
  rfl

theorem out_v (a2 : FVec Ideal S1x1024x643 .f32) (a3 : FVec Ideal S1024x643 .f32) :
    addf (mulf (broadcastInDim S1x1024x643 ![] bcast_S_S1x1024x643 (constant S_ .f32 0x3F7FBE77#32)) a2) (mulf (broadcastInDim S1x1024x643 ![] bcast_S_S1x1024x643 (constant S_ .f32 0x3A83126F#32)) (mulf (broadcastInDim S1x1024x643 ![1, 2] bcast_S1024x643_S1x1024x643_1_2 a3) (broadcastInDim S1x1024x643 ![1, 2] bcast_S1024x643_S1x1024x643_1_2 a3)))
      = Adam.sqrs a2 (Adam.lone a3) :=
  (out_v_of a2 _).trans (congrArg (fun g => Adam.sqrs a2 g) (out_g a3))

end Cert.AdamInBRefIdeal.Value

namespace Cert.AdamSmallIdeal.Value

open Cert.AdamSmallIdeal Cert.AdamSmallIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] := by decide +kernel

theorem avg_at (a p : Vec Ideal S200x128 .f32) (r : Fin 200) (x : Fin 128) :
    k0_pay1 a p (ix2 r x) = Adam.avg (p (ix2 r x)) (a (ix2 r x)) := by
  unfold k0_pay1
  pointwise
  rfl

theorem sqr_at (a p : Vec Ideal S200x128 .f32) (r : Fin 200) (x : Fin 128) :
    k0_pay2 a p (ix2 r x) = Adam.sqr (p (ix2 r x)) (a (ix2 r x)) := by
  unfold k0_pay2
  pointwise
  rfl

theorem step_at (w a p q : Vec Ideal S200x128 .f32) (r : Fin 200) (x : Fin 128) :
    k0_pay3 w a p q (ix2 r x) = Adam.step (w (ix2 r x)) (Adam.avg (p (ix2 r x)) (a (ix2 r x))) (Adam.sqr (q (ix2 r x)) (a (ix2 r x))) := by
  unfold k0_pay3
  pointwise [avg_at, sqr_at]
  rfl

theorem read0_at (t : Fin cfg0.N) (n : Fin 200) (x : Fin 128) : iblk m c 0 t (ix2 n x) = (m ((c.tc : Thread nD τ).loc main_arg0)) (ix2 n x) := by
  have e := (idx t).1
  blk_ext [iblk, V, e]

theorem read1_at (t : Fin cfg0.N) (n : Fin 200) (x : Fin 128) : iblk m c 1 t (ix2 n x) = (m ((c.tc : Thread nD τ).loc main_arg1)) (ix2 n x) := by
  have e := (idx t).2.1
  blk_ext [iblk, V, e]

theorem read2_at (t : Fin cfg0.N) (n : Fin 200) (x : Fin 128) : iblk m c 2 t (ix2 n x) = (m ((c.tc : Thread nD τ).loc main_arg2)) (ix2 n x) := by
  have e := (idx t).2.2.1
  blk_ext [iblk, V, e]

theorem read3_at (t : Fin cfg0.N) (n : Fin 200) (x : Fin 128) : iblk m c 3 t (ix2 n x) = (m ((c.tc : Thread nD τ).loc main_arg3)) (ix2 n x) := by
  have e := (idx t).2.2.2.1
  blk_ext [iblk, V, e]

theorem arr_d : (dats m 0 c).arrAt 4 cfg0.N = Adam.steps (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  show (dats m 0 c).flushed 4 t y = _
  rw [flushed4]
  have eo := (idx t).2.2.2.2.1
  frame_out
  idx_vars y
  have ej : ((cfg0.win 4).blk t).view.emb (ix2 y0 y1) = ix2 y0 y1 := by
    blk_ext [eo]
  rw [ej]
  refine (step_at _ _ _ _ _ _).trans ?_
  rw [read0_at, read3_at, read1_at, read2_at]
  rfl

theorem arr_m : (dats m 0 c).arrAt 5 cfg0.N = Adam.avgs (m ((c.tc : Thread nD τ).loc main_arg1)) (m ((c.tc : Thread nD τ).loc main_arg3)) := by
  refine (dats m 0 c).arrAt_eq_of_covers 5 _ (by decide +kernel) fun t hf y => ?_
  show (dats m 0 c).flushed 5 t y = _
  rw [flushed5]
  have eo := (idx t).2.2.2.2.2.1
  frame_out
  idx_vars y
  have ej : ((cfg0.win 5).blk t).view.emb (ix2 y0 y1) = ix2 y0 y1 := by
    blk_ext [eo]
  rw [ej]
  refine (avg_at _ _ _ _).trans ?_
  rw [read3_at, read1_at]
  rfl

theorem arr_v : (dats m 0 c).arrAt 6 cfg0.N = Adam.sqrs (m ((c.tc : Thread nD τ).loc main_arg2)) (m ((c.tc : Thread nD τ).loc main_arg3)) := by
  refine (dats m 0 c).arrAt_eq_of_covers 6 _ (by decide +kernel) fun t hf y => ?_
  show (dats m 0 c).flushed 6 t y = _
  rw [flushed6]
  have eo := (idx t).2.2.2.2.2.2
  frame_out
  idx_vars y
  have ej : ((cfg0.win 6).blk t).view.emb (ix2 y0 y1) = ix2 y0 y1 := by
    blk_ext [eo]
  rw [ej]
  refine (sqr_at _ _ _ _).trans ?_
  rw [read3_at, read2_at]
  rfl

end Cert.AdamSmallIdeal.Value

namespace Cert.AdamSmallRefIdeal.Value

open Cert.AdamSmallRefIdeal Cert.AdamSmallRefIdeal.Gen Idealize.ShloMosaic Idealize.ShloMosaic.TcCoe Idealize.SL.Sem

theorem out_d (a0 : FVec Ideal S200x128 .f32) (a1 : FVec Ideal S200x128 .f32) (a2 : FVec Ideal S200x128 .f32) (a3 : FVec Ideal S200x128 .f32) :
    mulf (broadcastInDim S200x128 ![] bcast_S_S200x128 (constant S_ .f32 0xBA83126F#32)) (addf (Host.divf (Host.divf (addf (mulf (broadcastInDim S200x128 ![] bcast_S_S200x128 (constant S_ .f32 0x3F666666#32)) a1) (mulf (broadcastInDim S200x128 ![] bcast_S_S200x128 (constant S_ .f32 0x3DCCCCCD#32)) a3)) (broadcastInDim S200x128 ![] bcast_S_S200x128 (constant S_ .f32 0x3F26BD02#32))) (addf (Host.sqrt (Host.divf (addf (mulf (broadcastInDim S200x128 ![] bcast_S_S200x128 (constant S_ .f32 0x3F7FBE77#32)) a2) (mulf (broadcastInDim S200x128 ![] bcast_S_S200x128 (constant S_ .f32 0x3A83126F#32)) (mulf a3 a3))) (broadcastInDim S200x128 ![] bcast_S_S200x128 (constant S_ .f32 0x3C231ACC#32)))) (broadcastInDim S200x128 ![] bcast_S_S200x128 (constant S_ .f32 0x322BCC77#32)))) (mulf (broadcastInDim S200x128 ![] bcast_S_S200x128 (constant S_ .f32 0x3C23D70A#32)) a0))
      = Adam.steps a0 a1 a2 a3 := by
  funext j
  idx_vars j
  pointwise
  rfl

theorem out_m (a1 : FVec Ideal S200x128 .f32) (a3 : FVec Ideal S200x128 .f32) :
    addf (mulf (broadcastInDim S200x128 ![] bcast_S_S200x128 (constant S_ .f32 0x3F666666#32)) a1) (mulf (broadcastInDim S200x128 ![] bcast_S_S200x128 (constant S_ .f32 0x3DCCCCCD#32)) a3)
      = Adam.avgs a1 a3 := by
  funext j
  idx_vars j
  pointwise
  rfl

theorem out_v (a2 : FVec Ideal S200x128 .f32) (a3 : FVec Ideal S200x128 .f32) :
    addf (mulf (broadcastInDim S200x128 ![] bcast_S_S200x128 (constant S_ .f32 0x3F7FBE77#32)) a2) (mulf (broadcastInDim S200x128 ![] bcast_S_S200x128 (constant S_ .f32 0x3A83126F#32)) (mulf a3 a3))
      = Adam.sqrs a2 a3 := by
  funext j
  idx_vars j
  pointwise
  rfl

end Cert.AdamSmallRefIdeal.Value

end
-- ==== Proof.Loss.lean ====
/-
  The loss head: half the mean of the squared errors of the normed rows, and its gradient.
-/
module

public import proofs.«01_k».proof.Proof.Norm
public import Idealize.ShloMosaic.Lib.Pipeline.ValueKit

@[expose] public section

noncomputable section

namespace Cert.Loss

open Idealize.ShloMosaic Mm Norm

/-- The error of a row. -/
def err (h g t : Row) : Row := fun j => put h g j - t j

/-- The mean of a row's squared errors. -/
def part (h g t : Row) : EReal := Ideal.div (∑ x : Fin 1024, err h g t x * err h g t x) (Ideal.ofBits .f32 0x44800000#32)

/-- The cotangent of a squared error. -/
def rate : EReal := Ideal.div (Ideal.ofBits .f32 0x3F000000#32) (Ideal.ofBits .f32 0x44800000#32)

/-- The cotangent of a normed row. -/
def ct (h g t : Row) : Row := fun j => rate * (Ideal.ofBits .f32 0x40000000#32 * err h g t j)

/-- The loss, on each of the lanes. -/
def resL {M : ℕ} (h t : Mat M 1024) (g : Row) : Mat 1 128 := fun _ =>
  Ideal.ofBits .f32 0x3F000000#32 * ∑ i : Fin M, part (row h i) g (row t i)

/-- The gradient of the rows. -/
def resH {M : ℕ} (h t : Mat M 1024) (g : Row) : Mat M 1024 := fun j =>
  back (row h (j 0)) g (ct (row h (j 0)) g (row t (j 0))) (j 1)

/-- The gradient of the gain, as one row. -/
def resG {M : ℕ} (h t : Mat M 1024) (g : Row) : Mat 1 1024 := fun j =>
  ∑ i : Fin M, gain (row h i) (ct (row h i) g (row t i)) (j 1)

theorem half_eq : Ideal.ofBits .f32 0x3F000000#32 = (((1 / 2 : ℝ)) : EReal) := by
  simp [Ideal.ofBits, Ideal.ieee, -EReal.coe_mul]; norm_num

theorem two_eq : Ideal.ofBits .f32 0x40000000#32 = 1 + 1 := by
  rw [show (1 + 1 : EReal) = ((2 : ℝ) : EReal) by norm_cast]
  simp [Ideal.ofBits, Ideal.ieee, -EReal.coe_mul]; norm_num

theorem many_eq : Ideal.ofBits .f32 0x44800000#32 = ((1024 : ℝ) : EReal) := by
  simp [Ideal.ofBits, Ideal.ieee, -EReal.coe_mul]; norm_num

theorem rate_eq : rate = (((1 / 2048 : ℝ)) : EReal) := by
  unfold rate
  rw [half_eq, many_eq, Ideal.div_coe (by norm_num)]
  norm_cast
  norm_num

theorem half_add (x y : EReal) : Ideal.ofBits .f32 0x3F000000#32 * (x + y)
    = Ideal.ofBits .f32 0x3F000000#32 * x + Ideal.ofBits .f32 0x3F000000#32 * y := by
  rw [half_eq]
  exact EReal.left_distrib_of_nonneg_of_ne_top (by norm_cast; norm_num) (EReal.coe_ne_top _) _ _

theorem half_sum (n : ℕ) (f : ℕ → EReal) : ∑ q ∈ Finset.range n, Ideal.ofBits .f32 0x3F000000#32 * f q
    = Ideal.ofBits .f32 0x3F000000#32 * ∑ q ∈ Finset.range n, f q := by
  induction n with
  | zero => simp
  | succ n ih => rw [Finset.sum_range_succ, Finset.sum_range_succ, half_add, ih]

/-- A square is differentiated factor by factor. -/
theorem twice (e : EReal) : e * rate + rate * e = rate * (Ideal.ofBits .f32 0x40000000#32 * e) := by
  have h2 : (1 + 1 : EReal) * e = e + e := by
    rw [EReal.right_distrib_of_nonneg zero_le_one zero_le_one, one_mul]
  rw [two_eq, h2, rate_eq, mul_comm e]
  exact (EReal.left_distrib_of_nonneg_of_ne_top (by norm_cast; norm_num) (EReal.coe_ne_top _) _ _).symm

end Cert.Loss

end
-- ==== Proof.LossHeadValue.lean ====
/-
  The loss head: eight tiles of tokens; the loss and the gradient of the gain are added up over the tiles.
-/
module

public import proofs.«01_k».proof.Proof.Loss
public import proofs.«01_k».proof.Proof.Gen.LossHeadIdeal.Value
public import proofs.«01_k».proof.Proof.Gen.LossHeadRefIdeal.Run
public import Idealize.ShloMosaic.Lib.Pipeline.ValueKit

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] := by decide +kernel

theorem row_lt (t : Fin cfg0.N) (n : Fin 512) : t.val * 512 + n.val < 4096 := by
  have h : t.val < 8 := lt_of_lt_of_eq t.isLt N_0
  omega

theorem zero_at (d : Fin 1) (j : Fin 1024) : k0_pay1 (F := Ideal) (ix2 d j) = 0 := by
  unfold k0_pay1
  pointwise

theorem none_at (d : Fin 1) (j : Fin 128) : k0_pay2 (F := Ideal) (ix2 d j) = 0 := by
  unfold k0_pay2
  pointwise

theorem half_at : k0_pay10 (F := Ideal) = Ideal.ofBits .f32 0x3F000000#32 := by
  unfold k0_pay10
  pointwise
  simp

theorem err_at (h : Vec Ideal S512x1024 .f32) (g : Vec Ideal S1x1024 .f32) (t : Vec Ideal S512x1024 .f32) (i : Fin 512) (j : Fin 1024) :
    k0_pay8 h g t (ix2 i j) = Loss.err (Norm.row h i) (fun x => g (ix2 0 x)) (Norm.row t i) j := by
  unfold k0_pay8
  pointwise [k0_pay3, k0_pay4, k0_pay5, k0_pay7]
  rfl

theorem part_at (h : Vec Ideal S512x1024 .f32) (g : Vec Ideal S1x1024 .f32) (t : Vec Ideal S512x1024 .f32) (d e : Fin 1) : k0_pay9 h g t (ix2 d e) = Ideal.ofBits .f32 0x3F000000#32
    * ∑ i : Fin 512, Loss.part (Norm.row h i) (fun x => g (ix2 0 x)) (Norm.row t i) := by
  unfold k0_pay9
  pointwise [err_at]
  rfl

theorem ct_at (h : Vec Ideal S512x1024 .f32) (g : Vec Ideal S1x1024 .f32) (t : Vec Ideal S512x1024 .f32) (i : Fin 512) (j : Fin 1024) :
    k0_pay11 (k0_pay8 h g t) (k0_pay10 (F := Ideal)) (ix2 i j) = Loss.ct (Norm.row h i) (fun x => g (ix2 0 x)) (Norm.row t i) j := by
  unfold k0_pay11
  pointwise [err_at]
  rw [Fin.sum_univ_one, half_at]
  exact Loss.twice _

theorem back_at (h : Vec Ideal S512x1024 .f32) (g : Vec Ideal S1x1024 .f32) (e : FVec Ideal S512x1024 .f32) (p : Ideal .f32) (i : Fin 512) (j : Fin 1024) :
    k0_pay12 h (k0_pay3 g) (k0_pay5 h) (k0_pay6 h) e p (ix2 i j)
      = Norm.back (Norm.row h i) (fun x => g (ix2 0 x)) (Norm.row (k0_pay11 e p) i) j := by
  unfold k0_pay12
  pointwise [k0_pay3, k0_pay4, k0_pay5, k0_pay6]
  rw [Fin.sum_univ_one]
  rfl

theorem gain_at (h : Vec Ideal S512x1024 .f32) (e : FVec Ideal S512x1024 .f32) (p : Ideal .f32) (v : Vec Ideal S1x1024 .f32) (d : Fin 1) (j : Fin 1024) :
    k0_pay13 (k0_pay7 h) e p v (ix2 d j) = v (ix2 d j) + ∑ i : Fin 512, Norm.gain (Norm.row h i) (Norm.row (k0_pay11 e p) i) j := by
  unfold k0_pay13
  pointwise [k0_pay4, k0_pay5, k0_pay7]
  rfl

theorem more_at (x : FVec Ideal S1x1 .f32) (v : Vec Ideal S1x128 .f32) (d : Fin 1) (j : Fin 128) :
    k0_pay14 x v (ix2 d j) = v (ix2 d j) + x (ix2 0 0) := by
  unfold k0_pay14
  pointwise

theorem read0_at (t : Fin cfg0.N) (n : Fin 512) (x : Fin 1024) :
    (show Mm.Mat 512 1024 from iblk m c 0 t) (ix2 n x) = (m ((c.tc : Thread nD τ).loc main_arg0)) (ix2 ⟨t.val * 512 + n.val, row_lt t n⟩ x) := by
  have e := (idx t).1
  show iblk m c 0 t (ix2 n x) = _
  blk_ext [iblk, V, e]

theorem rows0_eq (t : Fin cfg0.N) (i : Fin 512) : Norm.row (show Mm.Mat 512 1024 from iblk m c 0 t) i
    = Norm.row (m ((c.tc : Thread nD τ).loc main_arg0)) ⟨t.val * 512 + i.val, row_lt t i⟩ := funext fun x => read0_at m c t i x

theorem read2_at (t : Fin cfg0.N) (n : Fin 512) (x : Fin 1024) :
    (show Mm.Mat 512 1024 from iblk m c 2 t) (ix2 n x) = (m ((c.tc : Thread nD τ).loc main_arg2)) (ix2 ⟨t.val * 512 + n.val, row_lt t n⟩ x) := by
  have e := (idx t).2.2.1
  show iblk m c 2 t (ix2 n x) = _
  blk_ext [iblk, V, e]

theorem rows2_eq (t : Fin cfg0.N) (i : Fin 512) : Norm.row (show Mm.Mat 512 1024 from iblk m c 2 t) i
    = Norm.row (m ((c.tc : Thread nD τ).loc main_arg2)) ⟨t.val * 512 + i.val, row_lt t i⟩ := funext fun x => read2_at m c t i x

theorem lanes_at (t : Fin cfg0.N) (x : Fin 1024) : iblk m c 1 t (ix2 0 x) = (m ((c.tc : Thread nD τ).loc main_arg1)) (ix1 x) := by
  have e := (idx t).2.1
  blk_ext! [iblk, e]

theorem lanes_eq (t : Fin cfg0.N) : (fun x => iblk m c 1 t (ix2 0 x)) = (fun x => (m ((c.tc : Thread nD τ).loc main_arg1)) (ix1 x)) := funext fun x => lanes_at m c t x

/-- A tile's errors. -/
abbrev errs (t : Fin cfg0.N) : FVec Ideal S512x1024 .f32 := k0_pay8 (iblk m c 0 t) (iblk m c 1 t) (iblk m c 2 t)

theorem ct_eq (t : Fin cfg0.N) (i : Fin 512) : Norm.row (k0_pay11 (errs m c t) (k0_pay10 (F := Ideal))) i
    = Loss.ct (Norm.row (m ((c.tc : Thread nD τ).loc main_arg0)) ⟨t.val * 512 + i.val, row_lt t i⟩) (fun x => (m ((c.tc : Thread nD τ).loc main_arg1)) (ix1 x)) (Norm.row (m ((c.tc : Thread nD τ).loc main_arg2)) ⟨t.val * 512 + i.val, row_lt t i⟩) := by
  funext j
  refine (ct_at _ _ _ i j).trans ?_
  rw [lanes_eq]
  exact congrArg₂ (fun h t => Loss.ct h (fun x => (m ((c.tc : Thread nD τ).loc main_arg1)) (ix1 x)) t j) (rows0_eq m c t i) (rows2_eq m c t i)

theorem out_A (t : Fin cfg0.N) (h0 : t.val % 8 = 0) :
    outsAt0 m c t.val t.isLt = (k0_pay14 (k0_pay9 (iblk m c 0 t) (iblk m c 1 t) (iblk m c 2 t)) (k0_pay2 (F := Ideal)),
      k0_pay12 (iblk m c 0 t) (k0_pay3 (iblk m c 1 t)) (k0_pay5 (iblk m c 0 t)) (k0_pay6 (iblk m c 0 t)) (errs m c t) (k0_pay10 (F := Ideal)),
      k0_pay13 (k0_pay7 (iblk m c 0 t)) (errs m c t) (k0_pay10 (F := Ideal)) (k0_pay1 (F := Ideal))) := by
  rw [outsAt0_A m c t h0]
  frame_out

theorem out_B (t : Fin cfg0.N) (h0 : ¬t.val % 8 = 0) :
    outsAt0 m c t.val t.isLt = (k0_pay14 (k0_pay9 (iblk m c 0 t) (iblk m c 1 t) (iblk m c 2 t))
        (outsAt0 m c (t.val - 1) (Nat.lt_of_le_of_lt (Nat.sub_le _ _) t.isLt)).1,
      k0_pay12 (iblk m c 0 t) (k0_pay3 (iblk m c 1 t)) (k0_pay5 (iblk m c 0 t)) (k0_pay6 (iblk m c 0 t)) (errs m c t) (k0_pay10 (F := Ideal)),
      k0_pay13 (k0_pay7 (iblk m c 0 t)) (errs m c t) (k0_pay10 (F := Ideal))
        (outsAt0 m c (t.val - 1) (Nat.lt_of_le_of_lt (Nat.sub_le _ _) t.isLt)).2.2) := by
  rw [outsAt0_B m c t h0]
  frame_out

theorem mid_eq (t : Fin cfg0.N) : (outsAt0 m c t.val t.isLt).2.1
    = k0_pay12 (iblk m c 0 t) (k0_pay3 (iblk m c 1 t)) (k0_pay5 (iblk m c 0 t)) (k0_pay6 (iblk m c 0 t)) (errs m c t) (k0_pay10 (F := Ideal)) := by
  by_cases h0 : t.val % 8 = 0
  · rw [out_A m c t h0]
  · rw [out_B m c t h0]

theorem arr_h : (dats m 0 c).arrAt 4 cfg0.N = Loss.resH (m ((c.tc : Thread nD τ).loc main_arg0)) (m ((c.tc : Thread nD τ).loc main_arg2)) (fun x => (m ((c.tc : Thread nD τ).loc main_arg1)) (ix1 x)) := by
  refine (dats m 0 c).arrAt_eq_of_covers 4 _ (by decide +kernel) fun t hf y => ?_
  show (dats m 0 c).flushed 4 t y = _
  rw [flushed4]
  have eo := (idx t).2.2.2.2.1
  idx_vars y
  have ej : ((cfg0.win 4).blk t).view.emb (ix2 y0 y1) = ix2 ⟨t.val * 512 + y0.val, row_lt t y0⟩ y1 := by
    blk_ext [eo]
  rw [ej, mid_eq]
  refine (back_at _ _ _ _ _ _).trans ?_
  rw [ct_eq, lanes_eq]
  exact congrArg (fun h => Norm.back h (fun x => (m ((c.tc : Thread nD τ).loc main_arg1)) (ix1 x)) _ y1) (rows0_eq m c t y0)

/-- What tile `q` of tokens adds to the gradient of the gain. -/
def gpart (q : ℕ) (j : Fin 1024) : EReal :=
  if h : q < cfg0.N then
    ∑ i : Fin 512, Norm.gain (Norm.row (show Mm.Mat 512 1024 from iblk m c 0 ⟨q, h⟩) i)
      (Norm.row (k0_pay11 (errs m c ⟨q, h⟩) (k0_pay10 (F := Ideal))) i) j
  else 0

theorem held (d : Fin 1) (j : Fin 1024) : ∀ (n : ℕ) (hn : n < cfg0.N),
    (outsAt0 m c n hn).2.2 (ix2 d j) = ∑ q ∈ Finset.range (n + 1), gpart m c q j
  | 0, hn => by
    refine (congrFun (congrArg (fun z => z.2.2) (out_A m c ⟨0, hn⟩ rfl)) _).trans ?_
    refine (gain_at _ _ _ _ d j).trans ?_
    rw [zero_at, zero_add, Finset.sum_range_one]
    unfold gpart
    rw [dif_pos hn]
  | n + 1, hn => by
    have hN : n + 1 < 8 := lt_of_lt_of_eq hn N_0
    refine (congrFun (congrArg (fun z => z.2.2) (out_B m c ⟨n + 1, hn⟩ (by show ¬(n + 1) % 8 = 0; omega))) _).trans ?_
    refine (gain_at _ _ _ _ d j).trans ?_
    rw [Finset.sum_range_succ]
    refine congrArg₂ (· + ·) (held d j n (Nat.lt_of_succ_lt hn)) ?_
    unfold gpart
    rw [dif_pos hn]

theorem arr_g : (dats m 0 c).arrAt 5 cfg0.N = Loss.resG (m ((c.tc : Thread nD τ).loc main_arg0)) (m ((c.tc : Thread nD τ).loc main_arg2)) (fun x => (m ((c.tc : Thread nD τ).loc main_arg1)) (ix1 x)) := by
  refine (dats m 0 c).arrAt_eq_of_covers 5 _ (by decide +kernel) fun t hf y => ?_
  show (dats m 0 c).flushed 5 t y = _
  rw [flushed5]
  have h7 : t.val % 8 = 7 := (flush0_5 t).mp hf
  have hN : t.val < 8 := lt_of_lt_of_eq t.isLt N_0
  have eo := (idx t).2.2.2.2.2
  idx_vars y
  have ej : ((cfg0.win 5).blk t).view.emb (ix2 y0 y1) = ix2 y0 y1 := by
    blk_ext [eo]
  rw [ej]
  refine (held m c _ _ t.val t.isLt).trans ?_
  have e : t.val + 1 = 8 := by omega
  rw [e, Finset.sum_range]
  show _ = ∑ i : Fin 4096, Norm.gain (Norm.row (m ((c.tc : Thread nD τ).loc main_arg0)) i) (Loss.ct (Norm.row (m ((c.tc : Thread nD τ).loc main_arg0)) i) (fun x => (m ((c.tc : Thread nD τ).loc main_arg1)) (ix1 x)) (Norm.row (m ((c.tc : Thread nD τ).loc main_arg2)) i)) y1
  have hp : ∀ q : Fin 8, q.val < cfg0.N := fun q => lt_of_lt_of_eq q.isLt N_0.symm
  have eq : ∀ q : Fin 8, gpart m c q.val y1 = ∑ i : Fin 512, Norm.gain (Norm.row (show Mm.Mat 512 1024 from iblk m c 0 ⟨q.val, hp q⟩) i)
      (Norm.row (k0_pay11 (errs m c ⟨q.val, hp q⟩) (k0_pay10 (F := Ideal))) i) y1 := fun q => dif_pos (hp q)
  refine (Finset.sum_congr rfl fun q _ => eq q).trans ?_
  refine Fin.sum_mul_add_congr fun q n hl => ?_
  exact congrArg₂ (fun h d => Norm.gain h d y1) (rows0_eq m c ⟨q.val, hp q⟩ n) (ct_eq m c ⟨q.val, hp q⟩ n)

/-- The squared errors of tile `q`, before they are halved. -/
def lpart (q : ℕ) : EReal :=
  if h : q < cfg0.N then
    ∑ i : Fin 512, Loss.part (Norm.row (show Mm.Mat 512 1024 from iblk m c 0 ⟨q, h⟩) i) (fun x => iblk m c 1 ⟨q, h⟩ (ix2 0 x))
      (Norm.row (show Mm.Mat 512 1024 from iblk m c 2 ⟨q, h⟩) i)
  else 0

theorem kept (d : Fin 1) (j : Fin 128) : ∀ (n : ℕ) (hn : n < cfg0.N),
    (outsAt0 m c n hn).1 (ix2 d j) = ∑ q ∈ Finset.range (n + 1), Ideal.ofBits .f32 0x3F000000#32 * lpart m c q
  | 0, hn => by
    refine (congrFun (congrArg Prod.fst (out_A m c ⟨0, hn⟩ rfl)) _).trans ?_
    refine (more_at _ _ d j).trans ?_
    rw [none_at, zero_add, Finset.sum_range_one, part_at]
    unfold lpart
    rw [dif_pos hn]
  | n + 1, hn => by
    have hN : n + 1 < 8 := lt_of_lt_of_eq hn N_0
    refine (congrFun (congrArg Prod.fst (out_B m c ⟨n + 1, hn⟩ (by show ¬(n + 1) % 8 = 0; omega))) _).trans ?_
    refine (more_at _ _ d j).trans ?_
    rw [Finset.sum_range_succ]
    refine congrArg₂ (· + ·) (kept d j n (Nat.lt_of_succ_lt hn)) ?_
    rw [part_at]
    unfold lpart
    rw [dif_pos hn]

theorem arr_l : (dats m 0 c).arrAt 3 cfg0.N = Loss.resL (m ((c.tc : Thread nD τ).loc main_arg0)) (m ((c.tc : Thread nD τ).loc main_arg2)) (fun x => (m ((c.tc : Thread nD τ).loc main_arg1)) (ix1 x)) := by
  refine (dats m 0 c).arrAt_eq_of_covers 3 _ (by decide +kernel) fun t hf y => ?_
  show (dats m 0 c).flushed 3 t y = _
  rw [flushed3]
  have h7 : t.val % 8 = 7 := (flush0_3 t).mp hf
  have hN : t.val < 8 := lt_of_lt_of_eq t.isLt N_0
  idx_vars y
  refine (kept m c _ _ t.val t.isLt).trans ?_
  have e : t.val + 1 = 8 := by omega
  rw [Loss.half_sum, e, Finset.sum_range]
  show _ = Ideal.ofBits .f32 0x3F000000#32 * ∑ i : Fin 4096, Loss.part (Norm.row (m ((c.tc : Thread nD τ).loc main_arg0)) i) (fun x => (m ((c.tc : Thread nD τ).loc main_arg1)) (ix1 x)) (Norm.row (m ((c.tc : Thread nD τ).loc main_arg2)) i)
  have hp : ∀ q : Fin 8, q.val < cfg0.N := fun q => lt_of_lt_of_eq q.isLt N_0.symm
  have eq : ∀ q : Fin 8, lpart m c q.val = ∑ i : Fin 512, Loss.part (Norm.row (show Mm.Mat 512 1024 from iblk m c 0 ⟨q.val, hp q⟩) i)
      (fun x => (m ((c.tc : Thread nD τ).loc main_arg1)) (ix1 x)) (Norm.row (show Mm.Mat 512 1024 from iblk m c 2 ⟨q.val, hp q⟩) i) := fun q =>
    (dif_pos (hp q)).trans (congrArg (fun g => ∑ i : Fin 512, Loss.part (Norm.row (show Mm.Mat 512 1024 from iblk m c 0 ⟨q.val, hp q⟩) i)
      g (Norm.row (show Mm.Mat 512 1024 from iblk m c 2 ⟨q.val, hp q⟩) i)) (lanes_eq m c ⟨q.val, hp q⟩))
  refine congrArg (fun z : EReal => Ideal.ofBits .f32 0x3F000000#32 * z) ?_
  refine (Finset.sum_congr rfl fun q _ => eq q).trans ?_
  refine Fin.sum_mul_add_congr fun q n hl => ?_
  exact congrArg₂ (fun h d => Loss.part h (fun x => (m ((c.tc : Thread nD τ).loc main_arg1)) (ix1 x)) d) (rows0_eq m c ⟨q.val, hp q⟩ n) (rows2_eq m c ⟨q.val, hp q⟩ n)

end Cert.LossHeadIdeal.Value

namespace Cert.LossHeadRefIdeal.Value

open Cert.LossHeadRefIdeal Cert.LossHeadRefIdeal.Gen Idealize.ShloMosaic Idealize.ShloMosaic.TcCoe Idealize.SL.Sem

/-- The mean of the squares of each row, and the epsilon. -/
abbrev meanT (h : FVec Ideal S4096x1024 .f32) : FVec Ideal S4096x1 .f32 :=
  addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The gain, once per row. -/
abbrev gainT (g : FVec Ideal S1024 .f32) : FVec Ideal S4096x1024 .f32 :=
  broadcastInDim S4096x1024 ![0, 1] bcast_S1x1024_S4096x1024_0_1 (broadcastInDim S1x1024 ![1] bcast_S1024_S1x1024_1 g)

/-- The errors. -/
abbrev errT (h : FVec Ideal S4096x1024 .f32) (g : FVec Ideal S1024 .f32) (t : FVec Ideal S4096x1024 .f32) : FVec Ideal S4096x1024 .f32 :=
  subf (mulf (mulf h (broadcastInDim S4096x1024 ![0, 1] bcast_S4096x1_S4096x1024_0_1 (Host.rsqrt (meanT h)))) (gainT g)) t

/-- The cotangent of the normed rows. -/
abbrev ctT (h : FVec Ideal S4096x1024 .f32) (g : FVec Ideal S1024 .f32) (t : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (errT h g t))

/-- The cotangent of each row's mean of squares. -/
abbrev slopeT (h : FVec Ideal S4096x1024 .f32) (g : FVec Ideal S1024 .f32) (d : FVec Ideal S4096x1024 .f32) : FVec Ideal S4096 .f32 :=
  Host.reduceAdd (Host.divf (mulf (shapeCast _ (Host.reduceAdd (mulf h (mulf (d) (gainT g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (meanT h)) (meanT h)))) (broadcastInDim S4096x1 ![] bcast_S_S4096x1 (constant S_ .f32 0x44800000#32))) (constant S_ .f32 0x00000000#32) reducesTo_S4096x1_S4096_d1 h_S_

theorem mean_at (h : FVec Ideal S4096x1024 .f32) (i : Fin 4096) (z : Fin 1) : meanT h (ix2 i z) = Norm.spread (Norm.row h i) := by
  pointwise
  rfl

theorem gain_at (g : FVec Ideal S1024 .f32) (i : Fin 4096) (x : Fin 1024) : gainT g (ix2 i x) = g (ix1 x) := by
  pointwise

theorem err_at (h : FVec Ideal S4096x1024 .f32) (g : FVec Ideal S1024 .f32) (t : FVec Ideal S4096x1024 .f32) (i : Fin 4096) (j : Fin 1024) :
    errT h g t (ix2 i j) = Loss.err (Norm.row h i) (fun x => g (ix1 x)) (Norm.row t i) j := by
  pointwise [mean_at, gain_at]
  rfl

theorem ct_at (h : FVec Ideal S4096x1024 .f32) (g : FVec Ideal S1024 .f32) (t : FVec Ideal S4096x1024 .f32) (i : Fin 4096) (j : Fin 1024) :
    ctT h g t (ix2 i j) = Loss.ct (Norm.row h i) (fun x => g (ix1 x)) (Norm.row t i) j := by
  pointwise [err_at]
  rfl

theorem slope_at (h : FVec Ideal S4096x1024 .f32) (g : FVec Ideal S1024 .f32) (d : FVec Ideal S4096x1024 .f32) (i : Fin 4096) :
    slopeT h g d (ix1 i) = Norm.slope (Norm.row h i) (fun x => g (ix1 x)) (Norm.row d i) := by
  pointwise [mean_at, gain_at]
  rw [Fin.sum_univ_one]
  rfl

theorem ct_row (h : FVec Ideal S4096x1024 .f32) (g : FVec Ideal S1024 .f32) (t : FVec Ideal S4096x1024 .f32) (i : Fin 4096) :
    Norm.row (ctT h g t) i = Loss.ct (Norm.row h i) (fun x => g (ix1 x)) (Norm.row t i) := funext fun j => ct_at h g t i j

theorem out_l (h : FVec Ideal S4096x1024 .f32) (g : FVec Ideal S1024 .f32) (t : FVec Ideal S4096x1024 .f32) :
    broadcastInDim S1x128 ![] bcast_S_S1x128 (mulf (constant S_ .f32 0x3F000000#32) (Host.reduceAdd (Host.divf (Host.reduceAdd (mulf (errT h g t) (errT h g t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))
      = Loss.resL h t (fun x => g (ix1 x)) := by
  funext j
  idx_vars j
  pointwise [err_at]
  rfl

theorem out_d (h : FVec Ideal S4096x1024 .f32) (g : FVec Ideal S1024 .f32) (t : FVec Ideal S4096x1024 .f32) (d : FVec Ideal S4096x1024 .f32) :
    addf (addf (mulf (mulf (d) (gainT g)) (broadcastInDim S4096x1024 ![0, 1] bcast_S4096x1_S4096x1024_0_1 (Host.rsqrt (meanT h)))) (mulf h (broadcastInDim S4096x1024 ![0] bcast_S4096_S4096x1024_0 (slopeT h g (d))))) (mulf (broadcastInDim S4096x1024 ![0] bcast_S4096_S4096x1024_0 (slopeT h g (d))) h)
      = fun j => Norm.back (Norm.row h (j 0)) (fun x => g (ix1 x)) (Norm.row d (j 0)) (j 1) := by
  funext j
  idx_vars j
  pointwise [mean_at, gain_at, slope_at]
  rfl

theorem out_h (h : FVec Ideal S4096x1024 .f32) (g : FVec Ideal S1024 .f32) (t : FVec Ideal S4096x1024 .f32) :
    addf (addf (mulf (mulf (ctT h g t) (gainT g)) (broadcastInDim S4096x1024 ![0, 1] bcast_S4096x1_S4096x1024_0_1 (Host.rsqrt (meanT h)))) (mulf h (broadcastInDim S4096x1024 ![0] bcast_S4096_S4096x1024_0 (slopeT h g (ctT h g t))))) (mulf (broadcastInDim S4096x1024 ![0] bcast_S4096_S4096x1024_0 (slopeT h g (ctT h g t))) h)
      = Loss.resH h t (fun x => g (ix1 x)) := by
  refine (out_d h g t (ctT h g t)).trans (funext fun j => ?_)
  exact congrArg (fun d => Norm.back (Norm.row h (j 0)) (fun x => g (ix1 x)) d (j 1)) (ct_row h g t (j 0))

theorem out_g (h : FVec Ideal S4096x1024 .f32) (g : FVec Ideal S1024 .f32) (t : FVec Ideal S4096x1024 .f32) :
    broadcastInDim S1x1024 ![1] bcast_S1024_S1x1024_1 (Host.reduceAdd (shapeCast _ (Host.reduceAdd (mulf (mulf h (broadcastInDim S4096x1024 ![0, 1] bcast_S4096x1_S4096x1024_0_1 (Host.rsqrt (meanT h)))) (ctT h g t)) (constant S_ .f32 0x00000000#32) reducesTo_S4096x1024_S1024_d0 h_S_) shapeCasts_S1024_S1x1024) (constant S_ .f32 0x00000000#32) reducesTo_S1x1024_S1024_d0 h_S_)
      = Loss.resG h t (fun x => g (ix1 x)) := by
  funext j
  idx_vars j
  pointwise [mean_at, ct_at]
  rw [Fin.sum_univ_one]
  rfl

variable (m : (ℓ : Loc nD τ sig) → Buf (Elt Ideal) ℓ) (c : Dev nD)

theorem res_h : res_main_v50 m c = Loss.resH (m ((c.tc : Thread nD τ).loc main_arg0)) (m ((c.tc : Thread nD τ).loc main_arg2)) (fun x => (m ((c.tc : Thread nD τ).loc main_arg1)) (ix1 x)) := out_h _ _ _

end Cert.LossHeadRefIdeal.Value

end
-- ==== Proof.Glu.lean ====
/-
  The gated unit: a causal convolution of three taps over the rows of the gate, and the gated activation.
-/
module

public import proofs.«01_k».proof.Proof.Norm
public import Idealize.ShloMosaic.Lib.Pipeline.ValueKit

@[expose] public section

noncomputable section

namespace Cert.Glu

open Idealize.ShloMosaic Mm

/-- The entry `k` rows earlier; zero before the first row. -/
def ago {M N : ℕ} (x : Mat M N) (k : ℕ) (i : Fin M) (j : Fin N) : EReal :=
  if k ≤ i.val then x (ix2 ⟨i.val - k, by omega⟩ j) else 0

/-- The convolution, with its bias. -/
def conv {M N : ℕ} (x : Mat M N) (w : Mat 3 N) (b : Fin N → EReal) (i : Fin M) (j : Fin N) : EReal :=
  w (ix2 2 j) * ago x 0 i j + w (ix2 1 j) * ago x 1 i j + w (ix2 0 j) * ago x 2 i j + b j

/-- The gate's activation times the other half. -/
def gated (p u : EReal) : EReal := p * Ideal.div 1 (1 + Ideal.exp (-p)) * u

/-- The columns of the gate. -/
def gate {M : ℕ} (x : Mat M 5632) : Mat M 2816 := fun y => x (ix2 (y 0) ⟨(y 1).val, by have : (y 1).val < 2816 := (y 1).isLt; omega⟩)

/-- The columns of the other half. -/
def half {M : ℕ} (x : Mat M 5632) : Mat M 2816 := fun y => x (ix2 (y 0) ⟨2816 + (y 1).val, by have : (y 1).val < 2816 := (y 1).isLt; omega⟩)

/-- The convolved gate. -/
def pre {M : ℕ} (x : Mat M 5632) (w : Mat 3 2816) (b : Fin 2816 → EReal) : Mat M 2816 := fun y => conv (gate x) w b (y 0) (y 1)

/-- The activations. -/
def act {M : ℕ} (x : Mat M 5632) (w : Mat 3 2816) (b : Fin 2816 → EReal) : Mat M 2816 := fun y =>
  gated (conv (gate x) w b (y 0) (y 1)) (half x y)

/-- The convolution of a column depends on that column alone. -/
theorem conv_eq {M N N' : ℕ} {x : Mat M N} {x' : Mat M N'} {w : Mat 3 N} {w' : Mat 3 N'} {b : Fin N → EReal} {b' : Fin N' → EReal}
    {j : Fin N} {j' : Fin N'} (hx : ∀ i, x (ix2 i j) = x' (ix2 i j')) (hw : ∀ k, w (ix2 k j) = w' (ix2 k j')) (hb : b j = b' j') (i : Fin M) :
    conv x w b i j = conv x' w' b' i j' := by
  unfold conv ago
  simp only [hx, hw, hb]

end Cert.Glu

end
-- ==== Proof.GluFwdValue.lean ====
/-
  The gated unit: column blocks of 128, each in eight tiles of rows with the rows before a tile read beside it.
-/
module

public import proofs.«01_k».proof.Proof.Glu
public import proofs.«01_k».proof.Proof.Gen.GluFwdIdeal.Value
public import proofs.«01_k».proof.Proof.Gen.GluFwdRefIdeal.Run
public import Idealize.ShloMosaic.Lib.Pipeline.ValueKit

@[expose] public section

set_option maxRecDepth 16384

noncomputable section

namespace Cert.GluFwdIdeal.Value

open Cert.GluFwdIdeal Cert.GluFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem later1 : ∀ i : Fin 512, IntOp.cmpi CmpIPredicate.sge (BitVec.ofNat 32 (16 + i.val)) 1#32 = 1#1 := by decide +kernel

theorem later2 : ∀ i : Fin 512, IntOp.cmpi CmpIPredicate.sge (BitVec.ofNat 32 (16 + i.val)) 2#32 = 1#1 := by decide +kernel

theorem off1 : ∀ k : Fin k0_t1_loop.trips, k0_off1 k = ![k.val * 512 + 496, 0] := by decide +kernel

theorem off2 : ∀ k : Fin k0_t1_loop.trips, k0_off2 k = ![k.val * 512 + 512, 0] := by decide +kernel

theorem trips_eq : k0_t1_loop.trips = 7 := by decide +kernel

/-- What a block's convolution is. -/
def bconv (x : Vec Ideal S4096x128 .bf16) (w : Vec Ideal S3x128 .f32) (b : FVec Ideal S1x128 .f32) : Vec Ideal S4096x128 .bf16 := fun y =>
  Glu.conv (show Mm.Mat 4096 128 from x) w (fun j => b (ix2 0 j)) (y 0) (y 1)

/-- What a block's activations are. -/
def bact (x u : Vec Ideal S4096x128 .bf16) (w : Vec Ideal S3x128 .f32) (b : FVec Ideal S1x128 .f32) : Vec Ideal S4096x128 .bf16 := fun y =>
  Glu.gated (Glu.conv (show Mm.Mat 4096 128 from x) w (fun j => b (ix2 0 j)) (y 0) (y 1)) (u y)

theorem ago_first (x : Mm.Mat 4096 128) (i : Fin 512) (j : Fin 128) (d r : ℕ) (hr : r + d = 16) (P : ¬ r + i.val < 16 → r + i.val - 16 < 4096) :
    (if h : r + i.val < 16 then (0 : EReal) else x (ix2 (⟨r + i.val - 16, P h⟩ : Fin 4096) j)) = Glu.ago x d (⟨i.val, by omega⟩ : Fin 4096) j := by
  unfold Glu.ago
  by_cases h : d ≤ i.val
  · rw [dif_neg (by omega), if_pos h]
    refine congrArg x (congrArg (ix2 · j) (Fin.ext ?_))
    show r + i.val - 16 = i.val - d
    omega
  · rw [dif_pos (by omega), if_neg h]

theorem first_at (w : Vec Ideal S3x128 .f32) (b : Vec Ideal S1x128 .f32) (x : Vec Ideal S4096x128 .bf16) (i : Fin 512) (j : Fin 128) :
    k0_pay8 w b (View.ld x (Rect.unit ![0, 0] ![512, 128] inb_S4096x128_S512x128_0_0)) (ix2 i j)
      = Glu.conv (show Mm.Mat 4096 128 from x) w (fun j => b (ix2 0 j)) ⟨i.val, by omega⟩ j := by
  unfold k0_pay8
  pointwise [k0_pay7]
  rw [later1, later2]
  unfold Glu.conv
  have e1 : (16 + i.val + 528 - 1) % 528 = 15 + i.val := by omega
  have e2 : (16 + i.val + 528 - 2) % 528 = 14 + i.val := by omega
  simp only [e1, e2]

  rw [ago_first x i j 1 15 rfl, ago_first x i j 2 14 rfl]
  rfl

theorem later_at (w : Vec Ideal S3x128 .f32) (b : FVec Ideal S1x128 .f32) (x : Vec Ideal S4096x128 .bf16) (k : Fin k0_t1_loop.trips) (i : Fin 512) (j : Fin 128)
    (h : k.val * 512 + 512 + i.val < 4096) :
    k0_pay3 w b (View.ld x (Rect.unit (k0_off1 k) S528x128.size (k0_off1_inb k))) (ix2 i j)
      = Glu.conv (show Mm.Mat 4096 128 from x) w (fun j => b (ix2 0 j)) ⟨k.val * 512 + 512 + i.val, h⟩ j := by
  unfold k0_pay3
  pointwise
  rw [later1, later2]
  unfold Glu.conv Glu.ago
  have e1 : (16 + i.val + 528 - 1) % 528 = 15 + i.val := by omega
  have e2 : (16 + i.val + 528 - 2) % 528 = 14 + i.val := by omega
  have e3 := off1 k
  simp only [e1, e2]
  rw [if_pos (by omega), if_pos (by omega), if_pos (by omega)]
  have p0 : ∀ (d : ℕ) (hd : d ≤ 2) (q0 q1), (ix2 (⟨k0_off1 k 0 + (16 - d + i.val), q0⟩ : Fin 4096) (⟨k0_off1 k 1 + j.val, q1⟩ : Fin 128) : S4096x128.Idx)
      = ix2 ⟨k.val * 512 + 512 + i.val - d, by omega⟩ j := by
    intro d hd q0 q1
    congr 1
    · apply Fin.ext
      show k0_off1 k 0 + (16 - d + i.val) = k.val * 512 + 512 + i.val - d
      rw [e3]
      show k.val * 512 + 496 + (16 - d + i.val) = k.val * 512 + 512 + i.val - d
      omega
    · apply Fin.ext
      show k0_off1 k 1 + j.val = j.val
      rw [e3]
      exact Nat.zero_add _
  have p1 := p0 0 (by omega)
  have p2 := p0 1 (by omega)
  have p3 := p0 2 (by omega)
  simp only [Nat.reduceSub] at p1 p2 p3
  rw [p1, p2, p3]
  rfl

theorem gate_at (i : Fin 512) (j : Fin 128) (u : FVec Ideal S512x128 .f32) (w : Vec Ideal S3x128 .f32) (b : Vec Ideal S1x128 .f32) (x : Vec Ideal S512x128 .bf16) :
    k0_pay1 (k0_pay8 w b x) u (k0_pay11 w b x) (ix2 i j) = Glu.gated (k0_pay8 w b x (ix2 i j)) (u (ix2 i j)) := by
  unfold k0_pay1
  pointwise [k0_pay11]
  rw [zero_sub]
  rfl

theorem gate2_at (i : Fin 512) (j : Fin 128) (u : FVec Ideal S512x128 .f32) (w : Vec Ideal S3x128 .f32) (b : FVec Ideal S1x128 .f32) (x : Vec Ideal S528x128 .bf16) :
    k0_pay2 (k0_pay3 w b x) u (k0_pay6 w b x) (Scalar.ofBits .f32 0x3F800000#32) (ix2 i j) = Glu.gated (k0_pay3 w b x (ix2 i j)) (u (ix2 i j)) := by
  unfold k0_pay2
  pointwise [k0_pay6]
  rw [zero_sub]
  rfl

theorem trip_p (i : grid0.Coords) (a1 : Memref sig .tc .vmem S4096x128 .bf16) (h1 : a1.IsWhole) (a2 : Memref sig .tc .vmem S4096x128 .bf16) (h2 : a2.IsWhole)
    (a3 : Memref sig .tc .vmem S3x128 .f32) (h3 : a3.IsWhole) (a4 : Memref sig .tc .vmem S1x128 .f32) (h4 : a4.IsWhole)
    (a5 : Memref sig .tc .vmem S4096x128 .bf16) (h5 : a5.IsWhole) (a6 : Memref sig .tc .vmem S4096x128 .bf16) (h6 : a6.IsWhole)
    (w : Vec Ideal S3x128 .f32) (b : FVec Ideal S1x128 .f32) (x u : Vec Ideal S4096x128 .bf16) (k : Fin k0_t1_loop.trips) :
    (tripL_k0_t1 Variants.none c none i a1 h1 a2 h2 a3 h3 a4 h4 a5 h5 a6 h6 w b (h1.unread x) (h2.unread u) k).2
      = [⟨Rect.unit (s := S4096x128) (k0_off2 k) S512x128.size (k0_off2_inb k), k0_pay4 w b (View.ld x (Rect.unit (k0_off1 k) S528x128.size (k0_off1_inb k)))⟩] := by
  show (trip_k0_t1 Variants.none c none i a1 h1 a2 h2 a3 h3 a4 h4 a5 h5 a6 h6 w b (h1.unread x) (h2.unread u) k).2.1 = _
  unfold trip_k0_t1
  frame_out

theorem trip_a (i : grid0.Coords) (a1 : Memref sig .tc .vmem S4096x128 .bf16) (h1 : a1.IsWhole) (a2 : Memref sig .tc .vmem S4096x128 .bf16) (h2 : a2.IsWhole)
    (a3 : Memref sig .tc .vmem S3x128 .f32) (h3 : a3.IsWhole) (a4 : Memref sig .tc .vmem S1x128 .f32) (h4 : a4.IsWhole)
    (a5 : Memref sig .tc .vmem S4096x128 .bf16) (h5 : a5.IsWhole) (a6 : Memref sig .tc .vmem S4096x128 .bf16) (h6 : a6.IsWhole)
    (w : Vec Ideal S3x128 .f32) (b : FVec Ideal S1x128 .f32) (x u : Vec Ideal S4096x128 .bf16) (k : Fin k0_t1_loop.trips) :
    (tripL_k0_t1 Variants.none c none i a1 h1 a2 h2 a3 h3 a4 h4 a5 h5 a6 h6 w b (h1.unread x) (h2.unread u) k).1
      = [⟨Rect.unit (s := S4096x128) (k0_off2 k) S512x128.size (k0_off2_inb k),
          k0_pay2 (k0_pay3 w b (View.ld x (Rect.unit (k0_off1 k) S528x128.size (k0_off1_inb k)))) (k0_pay5 (View.ld u (Rect.unit (k0_off2 k) S512x128.size (k0_off2_inb k))))
            (k0_pay6 w b (View.ld x (Rect.unit (k0_off1 k) S528x128.size (k0_off1_inb k)))) (Scalar.ofBits .f32 0x3F800000#32)⟩] := by
  show (trip_k0_t1 Variants.none c none i a1 h1 a2 h2 a3 h3 a4 h4 a5 h5 a6 h6 w b (h1.unread x) (h2.unread u) k).1 = _
  unfold trip_k0_t1
  frame_out

/-- Pieces of 512 rows, stored one after another from the top, make the whole block. -/
theorem canon_tiles (G : Vec Ideal S4096x128 .bf16) (L : ℕ → List (View.Piece (Elt Ideal) S4096x128 .bf16)) (p0 : Vec Ideal S512x128 .bf16)
    (q : Fin k0_t1_loop.trips → Vec Ideal S512x128 .bf16) (hL : L 0 = [])
    (hS : ∀ k : Fin k0_t1_loop.trips, L (k.val + 1) = [⟨Rect.unit (s := S4096x128) (k0_off2 k) S512x128.size (k0_off2_inb k), q k⟩] ++ L k.val)
    (h0 : ∀ (i : Fin 512) (j : Fin 128), p0 (ix2 i j) = G (ix2 (⟨i.val, by omega⟩ : Fin 4096) j))
    (hq : ∀ (k : Fin k0_t1_loop.trips) (i : Fin 512) (j : Fin 128) (h : k.val * 512 + 512 + i.val < 4096), q k (ix2 i j) = G (ix2 (⟨k.val * 512 + 512 + i.val, h⟩ : Fin 4096) j)) :
    View.canon (Val := Elt Ideal) (L k0_t1_loop.trips ++ [⟨Rect.unit ![0, 0] ![512, 128] inb_S4096x128_S512x128_0_0, p0⟩]) = G := by
  have key : ∀ n ≤ k0_t1_loop.trips, (∀ p ∈ L n, ∀ x, p.2 x = G (p.1.emb x)) ∧
      ∀ y : S4096x128.Idx, 512 ≤ (y 0).val → (y 0).val < n * 512 + 512 → ∃ p ∈ L n, y ∈ p.1.set := by
    intro n
    induction n with
    | zero =>
      intro _
      rw [hL]
      exact ⟨fun p hp => absurd hp (List.not_mem_nil), fun y h1 h2 => absurd h2 (by omega)⟩
    | succ n ih =>
      intro hn
      obtain ⟨ih1, ih2⟩ := ih (by omega)
      have e := hS ⟨n, hn⟩
      have o := off2 ⟨n, hn⟩
      have hn7 : n < 7 := trips_eq ▸ hn
      simp only at e o
      rw [e]
      constructor
      · intro p hp x
        rcases List.mem_append.1 hp with hp | hp
        · rw [List.mem_singleton] at hp
          subst hp
          obtain ⟨a, b, rfl⟩ : ∃ (a : Fin 512) (b : Fin 128), x = ix2 a b := ⟨x 0, x 1, eq_ix2 x⟩
          refine (hq ⟨n, hn⟩ a b (by show n * 512 + 512 + a.val < 4096; omega)).trans ?_
          refine congrArg G (funext fun d => ?_)
          match d with
          | 0 =>
            apply Fin.ext
            show n * 512 + 512 + a.val = k0_off2 ⟨n, hn⟩ 0 + 1 * a.val
            rw [o]
            show n * 512 + 512 + a.val = n * 512 + 512 + 1 * a.val
            omega
          | 1 =>
            apply Fin.ext
            show b.val = k0_off2 ⟨n, hn⟩ 1 + 1 * b.val
            rw [o]
            show b.val = 0 + 1 * b.val
            omega
        · exact ih1 p hp x
      · intro y h1 h2
        by_cases h : (y 0).val < n * 512 + 512
        · obtain ⟨p, hp, hy⟩ := ih2 y h1 h
          exact ⟨p, List.mem_append_right _ hp, hy⟩
        · refine ⟨_, List.mem_append_left _ (List.mem_singleton.2 rfl), ?_⟩
          rw [Rect.mem_set_unit]
          intro d
          rw [o]
          match d with
          | 0 => exact ⟨by show n * 512 + 512 ≤ (y 0).val; omega, by show (y 0).val < n * 512 + 512 + 512; omega⟩
          | 1 => exact ⟨Nat.zero_le _, by show (y 1).val < 0 + 128; have : (y 1).val < 128 := (y 1).isLt; omega⟩
  obtain ⟨k1, k2⟩ := key _ le_rfl
  funext y
  apply View.canon_apply_of_pieces (Val := Elt Ideal)
  · intro p hp x
    rcases List.mem_append.1 hp with hp | hp
    · exact k1 p hp x
    · rw [List.mem_singleton] at hp
      subst hp
      obtain ⟨a, b, rfl⟩ : ∃ (a : Fin 512) (b : Fin 128), x = ix2 a b := ⟨x 0, x 1, eq_ix2 x⟩
      refine (h0 a b).trans ?_
      refine congrArg G (funext fun d => ?_)
      match d with
      | 0 => exact Fin.ext (show a.val = 0 + 1 * a.val by omega)
      | 1 => exact Fin.ext (show b.val = 0 + 1 * b.val by omega)
  · by_cases h : (y 0).val < 512
    · refine ⟨_, List.mem_append_right _ (List.mem_singleton.2 rfl), ?_⟩
      rw [Rect.mem_set_unit]
      intro d
      match d with
      | 0 => exact ⟨Nat.zero_le _, by show (y 0).val < 0 + 512; omega⟩
      | 1 => exact ⟨Nat.zero_le _, by show (y 1).val < 0 + 128; have : (y 1).val < 128 := (y 1).isLt; omega⟩
    · obtain ⟨p, hp, hy⟩ := k2 y (by omega) (by rw [trips_eq]; have : (y 0).val < 4096 := (y 0).isLt; omega)
      exact ⟨p, List.mem_append_left _ hp, hy⟩

theorem bias (b0 : Vec Ideal S1x128 .f32) : (fun j : Fin 128 => k0_pay7 b0 (ix2 0 j)) = fun j => b0 (ix2 0 j) := by
  funext j
  unfold k0_pay7
  pointwise

theorem loop_p (i : grid0.Coords) (a1 : Memref sig .tc .vmem S4096x128 .bf16) (h1 : a1.IsWhole) (a2 : Memref sig .tc .vmem S4096x128 .bf16) (h2 : a2.IsWhole)
    (a3 : Memref sig .tc .vmem S3x128 .f32) (h3 : a3.IsWhole) (a4 : Memref sig .tc .vmem S1x128 .f32) (h4 : a4.IsWhole)
    (a5 : Memref sig .tc .vmem S4096x128 .bf16) (h5 : a5.IsWhole) (a6 : Memref sig .tc .vmem S4096x128 .bf16) (h6 : a6.IsWhole)
    (w : Vec Ideal S3x128 .f32) (b0 : Vec Ideal S1x128 .f32) (x u : Vec Ideal S4096x128 .bf16) :
    View.canon (Val := Elt Ideal) ((pb_k0_t1 Variants.none c none i a1 h1 a2 h2 a3 h3 a4 h4 a5 h5 a6 h6 w (k0_pay7 b0) (h1.unread x) (h2.unread u) k0_t1_loop.trips).2
        ++ [⟨Rect.unit ![0, 0] ![512, 128] inb_S4096x128_S512x128_0_0, k0_pay9 w b0 (View.ld x (Rect.unit ![0, 0] ![512, 128] inb_S4096x128_S512x128_0_0))⟩])
      = bconv x w (k0_pay7 b0) := by
  refine canon_tiles _ (fun n => (pb_k0_t1 Variants.none c none i a1 h1 a2 h2 a3 h3 a4 h4 a5 h5 a6 h6 w (k0_pay7 b0) (h1.unread x) (h2.unread u) n).2)
    _ (fun k => k0_pay4 w (k0_pay7 b0) (View.ld x (Rect.unit (k0_off1 k) S528x128.size (k0_off1_inb k)))) rfl ?_ ?_ ?_
  · intro k
    show (pb_k0_t1 Variants.none c none i a1 h1 a2 h2 a3 h3 a4 h4 a5 h5 a6 h6 w (k0_pay7 b0) (h1.unread x) (h2.unread u) (k.val + 1)).2 = _
    rw [pb_k0_t1_succ, ← trip_p c i a1 h1 a2 h2 a3 h3 a4 h4 a5 h5 a6 h6 w (k0_pay7 b0) x u k]
  · intro i j
    refine (first_at w b0 x i j).trans ?_
    unfold bconv
    rw [bias]
    rfl
  · intro k i j h
    exact later_at w (k0_pay7 b0) x k i j h

theorem loop_a (i : grid0.Coords) (a1 : Memref sig .tc .vmem S4096x128 .bf16) (h1 : a1.IsWhole) (a2 : Memref sig .tc .vmem S4096x128 .bf16) (h2 : a2.IsWhole)
    (a3 : Memref sig .tc .vmem S3x128 .f32) (h3 : a3.IsWhole) (a4 : Memref sig .tc .vmem S1x128 .f32) (h4 : a4.IsWhole)
    (a5 : Memref sig .tc .vmem S4096x128 .bf16) (h5 : a5.IsWhole) (a6 : Memref sig .tc .vmem S4096x128 .bf16) (h6 : a6.IsWhole)
    (w : Vec Ideal S3x128 .f32) (b0 : Vec Ideal S1x128 .f32) (x u : Vec Ideal S4096x128 .bf16) :
    View.canon (Val := Elt Ideal) ((pb_k0_t1 Variants.none c none i a1 h1 a2 h2 a3 h3 a4 h4 a5 h5 a6 h6 w (k0_pay7 b0) (h1.unread x) (h2.unread u) k0_t1_loop.trips).1
        ++ [⟨Rect.unit ![0, 0] ![512, 128] inb_S4096x128_S512x128_0_0, k0_pay1 (k0_pay8 w b0 (View.ld x (Rect.unit ![0, 0] ![512, 128] inb_S4096x128_S512x128_0_0)))
          (k0_pay10 (View.ld u (Rect.unit ![0, 0] ![512, 128] inb_S4096x128_S512x128_0_0)))
          (k0_pay11 w b0 (View.ld x (Rect.unit ![0, 0] ![512, 128] inb_S4096x128_S512x128_0_0)))⟩])
      = bact x u w (k0_pay7 b0) := by
  refine canon_tiles _ (fun n => (pb_k0_t1 Variants.none c none i a1 h1 a2 h2 a3 h3 a4 h4 a5 h5 a6 h6 w (k0_pay7 b0) (h1.unread x) (h2.unread u) n).1)
    _ (fun k => k0_pay2 (k0_pay3 w (k0_pay7 b0) (View.ld x (Rect.unit (k0_off1 k) S528x128.size (k0_off1_inb k)))) (k0_pay5 (View.ld u (Rect.unit (k0_off2 k) S512x128.size (k0_off2_inb k))))
            (k0_pay6 w (k0_pay7 b0) (View.ld x (Rect.unit (k0_off1 k) S528x128.size (k0_off1_inb k)))) (Scalar.ofBits .f32 0x3F800000#32)) rfl ?_ ?_ ?_
  · intro k
    show (pb_k0_t1 Variants.none c none i a1 h1 a2 h2 a3 h3 a4 h4 a5 h5 a6 h6 w (k0_pay7 b0) (h1.unread x) (h2.unread u) (k.val + 1)).1 = _
    rw [pb_k0_t1_succ, ← trip_a c i a1 h1 a2 h2 a3 h3 a4 h4 a5 h5 a6 h6 w (k0_pay7 b0) x u k]
  · intro i j
    refine (gate_at i j _ w b0 _).trans ?_
    rw [first_at]
    unfold k0_pay10
    pointwise
    unfold bact
    rw [bias]
    rfl
  · intro k i j h
    refine (gate2_at i j _ w (k0_pay7 b0) _).trans ?_
    rw [later_at w (k0_pay7 b0) x k i j h]
    refine congrArg (Glu.gated _) ?_
    unfold k0_pay5
    pointwise
    refine congrArg u (funext fun d => ?_)
    have o := off2 k
    match d with
    | 0 =>
      apply Fin.ext
      show k0_off2 k 0 + i.val = k.val * 512 + 512 + i.val
      rw [o]
      rfl
    | 1 =>
      apply Fin.ext
      show k0_off2 k 1 + j.val = j.val
      rw [o]
      exact Nat.zero_add _

theorem pre_block (t : Fin cfg0.N) : (outsAt0 m c t).2 = bconv (iblk m c 0 t) (iblk m c 2 t) (k0_pay7 (iblk m c 3 t)) := by
  unfold outsAt0
  frame_out
  exact loop_p c _ _ _ _ _ _ _ _ _ _ _ _ _ _ _ _ (iblk m c 1 t)

theorem act_block (t : Fin cfg0.N) : (outsAt0 m c t).1 = bact (iblk m c 0 t) (iblk m c 1 t) (iblk m c 2 t) (k0_pay7 (iblk m c 3 t)) := by
  unfold outsAt0
  frame_out
  exact loop_a c _ _ _ _ _ _ _ _ _ _ _ _ _ _ _ _ _

theorem idx : ∀ t : Fin cfg0.N, win0_0.index t = ![0, t.val] ∧ win0_1.index t = ![0, 22 + t.val] ∧ win0_2.index t = ![0, t.val] ∧ win0_3.index t = ![0, t.val] ∧ win0_4.index t = ![0, t.val] ∧ win0_5.index t = ![0, t.val] := by
  decide +kernel

theorem col_lt (t : Fin cfg0.N) (n : Fin 128) : t.val * 128 + n.val < 2816 := by
  have h : t.val < 22 := lt_of_lt_of_eq t.isLt N_0
  omega

theorem gate_read (t : Fin cfg0.N) (i : Fin 4096) (j : Fin 128) :
    (show Mm.Mat 4096 128 from iblk m c 0 t) (ix2 i j) = Glu.gate (M := 4096) (m ((c.tc : Thread nD τ).loc main_arg0)) (ix2 i (⟨t.val * 128 + j.val, col_lt t j⟩ : Fin 2816)) := by
  have e := (idx t).1
  show iblk m c 0 t (ix2 i j) = (m ((c.tc : Thread nD τ).loc main_arg0)) (ix2 i ⟨t.val * 128 + j.val, by have := col_lt t j; omega⟩)
  blk_ext [iblk, V, e]

theorem half_read (t : Fin cfg0.N) (i : Fin 4096) (j : Fin 128) :
    iblk m c 1 t (ix2 i j) = Glu.half (M := 4096) (m ((c.tc : Thread nD τ).loc main_arg0)) (ix2 i (⟨t.val * 128 + j.val, col_lt t j⟩ : Fin 2816)) := by
  have e := (idx t).2.1
  show iblk m c 1 t (ix2 i j) = (m ((c.tc : Thread nD τ).loc main_arg0)) (ix2 i ⟨2816 + (t.val * 128 + j.val), by have := col_lt t j; omega⟩)
  blk_ext [iblk, V, e]

theorem taps_read (t : Fin cfg0.N) (k : Fin 3) (j : Fin 128) :
    iblk m c 2 t (ix2 k j) = (m ((c.tc : Thread nD τ).loc main_arg1)) (ix2 k (⟨t.val * 128 + j.val, col_lt t j⟩ : Fin 2816)) := by
  have e := (idx t).2.2.1
  blk_ext [iblk, V, e]

theorem bias_read (t : Fin cfg0.N) (j : Fin 128) :
    iblk m c 3 t (ix2 0 j) = (m ((c.tc : Thread nD τ).loc main_arg2)) (ix1 (⟨t.val * 128 + j.val, col_lt t j⟩ : Fin 2816)) := by
  have e := (idx t).2.2.2.1
  blk_ext! [iblk, e]

theorem conv_read (t : Fin cfg0.N) (i : Fin 4096) (j : Fin 128) :
    Glu.conv (show Mm.Mat 4096 128 from iblk m c 0 t) (iblk m c 2 t) (fun j => k0_pay7 (iblk m c 3 t) (ix2 0 j)) i j
      = Glu.conv (Glu.gate (M := 4096) (m ((c.tc : Thread nD τ).loc main_arg0))) (m ((c.tc : Thread nD τ).loc main_arg1)) (fun x => (m ((c.tc : Thread nD τ).loc main_arg2)) (ix1 x)) i (⟨t.val * 128 + j.val, col_lt t j⟩ : Fin 2816) := by
  rw [bias]
  exact Glu.conv_eq (fun i => gate_read m c t i j) (fun k => taps_read m c t k j) (bias_read m c t j) i

theorem arr_a : (dats m 0 c).arrAt 4 cfg0.N = Glu.act (M := 4096) (m ((c.tc : Thread nD τ).loc main_arg0)) (m ((c.tc : Thread nD τ).loc main_arg1)) (fun x => (m ((c.tc : Thread nD τ).loc main_arg2)) (ix1 x)) := by
  refine (dats m 0 c).arrAt_eq_of_covers 4 _ (by decide +kernel) fun t hf y => ?_
  show (dats m 0 c).flushed 4 t y = _
  rw [flushed4, act_block]
  have eo := (idx t).2.2.2.2.1
  idx_vars y
  have ej : ((cfg0.win 4).blk t).view.emb (ix2 y0 y1) = ix2 y0 (⟨t.val * 128 + y1.val, col_lt t y1⟩ : Fin 2816) := by
    blk_ext [eo]
  rw [ej]
  exact congrArg₂ Glu.gated (conv_read m c t y0 y1) (half_read m c t y0 y1)

theorem arr_p : (dats m 0 c).arrAt 5 cfg0.N = Glu.pre (M := 4096) (m ((c.tc : Thread nD τ).loc main_arg0)) (m ((c.tc : Thread nD τ).loc main_arg1)) (fun x => (m ((c.tc : Thread nD τ).loc main_arg2)) (ix1 x)) := by
  refine (dats m 0 c).arrAt_eq_of_covers 5 _ (by decide +kernel) fun t hf y => ?_
  show (dats m 0 c).flushed 5 t y = _
  rw [flushed5, pre_block]
  have eo := (idx t).2.2.2.2.2
  idx_vars y
  have ej : ((cfg0.win 5).blk t).view.emb (ix2 y0 y1) = ix2 y0 (⟨t.val * 128 + y1.val, col_lt t y1⟩ : Fin 2816) := by
    blk_ext [eo]
  rw [ej]
  exact conv_read m c t y0 y1

end Cert.GluFwdIdeal.Value

namespace Cert.GluFwdRefIdeal.Value

open Cert.GluFwdRefIdeal Cert.GluFwdRefIdeal.Gen Idealize.ShloMosaic Idealize.ShloMosaic.TcCoe Idealize.SL.Sem

theorem two_ago (x : FVec Ideal S4096x5632 .bf16) (i : Fin 4096) (j : Fin 2816) (P : ¬ i.val < 2 → i.val - 2 < 4096) (Q) :
    (if h : i.val < 2 then (0 : EReal) else x (ix2 (⟨i.val - 2, P h⟩ : Fin 4096) (⟨j.val, Q⟩ : Fin 5632))) = Glu.ago (Glu.gate (M := 4096) x) 2 i j := by
  unfold Glu.ago
  by_cases h : i.val < 2
  · rw [dif_pos h, if_neg (by omega)]
  · rw [dif_neg h, if_pos (by omega)]
    rfl

theorem one_ago (x : FVec Ideal S4096x5632 .bf16) (i : Fin 4096) (j : Fin 2816) (P : ¬ 1 + i.val < 2 → 1 + i.val - 2 < 4096) (Q) :
    (if h : 1 + i.val < 2 then (0 : EReal) else x (ix2 (⟨1 + i.val - 2, P h⟩ : Fin 4096) (⟨j.val, Q⟩ : Fin 5632))) = Glu.ago (Glu.gate (M := 4096) x) 1 i j := by
  unfold Glu.ago
  by_cases h : 1 + i.val < 2
  · rw [dif_pos h, if_neg (by omega)]
  · rw [dif_neg h, if_pos (by omega)]
    refine congrArg x (congrArg (ix2 · _) (Fin.ext ?_))
    show 1 + i.val - 2 = i.val - 1
    omega

theorem pre_at (x : FVec Ideal S4096x5632 .bf16) (w : FVec Ideal S3x2816 .f32) (b : FVec Ideal S2816 .f32) (i : Fin 4096) (j : Fin 2816) :
    (addf (addf (addf (addf (broadcastInDim S4096x2816 ![] bcast_S_S4096x2816 (constant S_ .f32 0x00000000#32)) (mulf (broadcastInDim S4096x2816 ![0, 1] bcast_S1x2816_S4096x2816_0_1 (broadcastInDim S1x2816 ![1] bcast_S2816_S1x2816_1 (shapeCast _ (extractStridedSlice S1x2816 ![0, 0] w slices_S3x2816_S1x2816_0_0) shapeCasts_S1x2816_S2816))) (extractStridedSlice S4096x2816 ![0, 0] (concatenate S4098x2816 0 [⟨S2x2816, (broadcastInDim S2x2816 ![] bcast_S_S2x2816 (constant S_ .f32 0x00000000#32))⟩, ⟨S4096x2816, (extf .f32 (extractStridedSlice S4096x2816 ![0, 0] x slices_S4096x5632_S4096x2816_0_0) bitsLt_bf16_f32)⟩] concatenates_S2x2816_S4096x2816_S4098x2816_d0) slices_S4098x2816_S4096x2816_0_0))) (mulf (broadcastInDim S4096x2816 ![0, 1] bcast_S1x2816_S4096x2816_0_1 (broadcastInDim S1x2816 ![1] bcast_S2816_S1x2816_1 (shapeCast _ (extractStridedSlice S1x2816 ![1, 0] w slices_S3x2816_S1x2816_1_0) shapeCasts_S1x2816_S2816))) (extractStridedSlice S4096x2816 ![1, 0] (concatenate S4098x2816 0 [⟨S2x2816, (broadcastInDim S2x2816 ![] bcast_S_S2x2816 (constant S_ .f32 0x00000000#32))⟩, ⟨S4096x2816, (extf .f32 (extractStridedSlice S4096x2816 ![0, 0] x slices_S4096x5632_S4096x2816_0_0) bitsLt_bf16_f32)⟩] concatenates_S2x2816_S4096x2816_S4098x2816_d0) slices_S4098x2816_S4096x2816_1_0))) (mulf (broadcastInDim S4096x2816 ![0, 1] bcast_S1x2816_S4096x2816_0_1 (broadcastInDim S1x2816 ![1] bcast_S2816_S1x2816_1 (shapeCast _ (extractStridedSlice S1x2816 ![2, 0] w slices_S3x2816_S1x2816_2_0) shapeCasts_S1x2816_S2816))) (extractStridedSlice S4096x2816 ![2, 0] (concatenate S4098x2816 0 [⟨S2x2816, (broadcastInDim S2x2816 ![] bcast_S_S2x2816 (constant S_ .f32 0x00000000#32))⟩, ⟨S4096x2816, (extf .f32 (extractStridedSlice S4096x2816 ![0, 0] x slices_S4096x5632_S4096x2816_0_0) bitsLt_bf16_f32)⟩] concatenates_S2x2816_S4096x2816_S4098x2816_d0) slices_S4098x2816_S4096x2816_2_0))) (broadcastInDim S4096x2816 ![0, 1] bcast_S1x2816_S4096x2816_0_1 (broadcastInDim S1x2816 ![1] bcast_S2816_S1x2816_1 b))) (ix2 i j) = Glu.conv (Glu.gate x) w (fun x => b (ix1 x)) i j := by
  pointwise
  have hj : j.val < 5632 := by omega
  show ((w (ix2 0 j) * if h : i.val < 2 then (0 : EReal) else x (ix2 (⟨i.val - 2, by omega⟩ : Fin 4096) (⟨j.val, hj⟩ : Fin 5632)))
      + w (ix2 1 j) * if h : 1 + i.val < 2 then (0 : EReal) else x (ix2 (⟨1 + i.val - 2, by omega⟩ : Fin 4096) (⟨j.val, hj⟩ : Fin 5632)))
      + w (ix2 2 j) * x (ix2 i (⟨j.val, hj⟩ : Fin 5632)) + b (ix1 j) = _
  rw [two_ago, one_ago]
  unfold Glu.conv
  exact congrArg (· + b (ix1 j)) ((add_comm _ _).trans ((congrArg _ (add_comm _ _)).trans (add_assoc _ _ _).symm))

theorem out_p (x : FVec Ideal S4096x5632 .bf16) (w : FVec Ideal S3x2816 .f32) (b : FVec Ideal S2816 .f32) :
    truncf .bf16 (addf (addf (addf (addf (broadcastInDim S4096x2816 ![] bcast_S_S4096x2816 (constant S_ .f32 0x00000000#32)) (mulf (broadcastInDim S4096x2816 ![0, 1] bcast_S1x2816_S4096x2816_0_1 (broadcastInDim S1x2816 ![1] bcast_S2816_S1x2816_1 (shapeCast _ (extractStridedSlice S1x2816 ![0, 0] w slices_S3x2816_S1x2816_0_0) shapeCasts_S1x2816_S2816))) (extractStridedSlice S4096x2816 ![0, 0] (concatenate S4098x2816 0 [⟨S2x2816, (broadcastInDim S2x2816 ![] bcast_S_S2x2816 (constant S_ .f32 0x00000000#32))⟩, ⟨S4096x2816, (extf .f32 (extractStridedSlice S4096x2816 ![0, 0] x slices_S4096x5632_S4096x2816_0_0) bitsLt_bf16_f32)⟩] concatenates_S2x2816_S4096x2816_S4098x2816_d0) slices_S4098x2816_S4096x2816_0_0))) (mulf (broadcastInDim S4096x2816 ![0, 1] bcast_S1x2816_S4096x2816_0_1 (broadcastInDim S1x2816 ![1] bcast_S2816_S1x2816_1 (shapeCast _ (extractStridedSlice S1x2816 ![1, 0] w slices_S3x2816_S1x2816_1_0) shapeCasts_S1x2816_S2816))) (extractStridedSlice S4096x2816 ![1, 0] (concatenate S4098x2816 0 [⟨S2x2816, (broadcastInDim S2x2816 ![] bcast_S_S2x2816 (constant S_ .f32 0x00000000#32))⟩, ⟨S4096x2816, (extf .f32 (extractStridedSlice S4096x2816 ![0, 0] x slices_S4096x5632_S4096x2816_0_0) bitsLt_bf16_f32)⟩] concatenates_S2x2816_S4096x2816_S4098x2816_d0) slices_S4098x2816_S4096x2816_1_0))) (mulf (broadcastInDim S4096x2816 ![0, 1] bcast_S1x2816_S4096x2816_0_1 (broadcastInDim S1x2816 ![1] bcast_S2816_S1x2816_1 (shapeCast _ (extractStridedSlice S1x2816 ![2, 0] w slices_S3x2816_S1x2816_2_0) shapeCasts_S1x2816_S2816))) (extractStridedSlice S4096x2816 ![2, 0] (concatenate S4098x2816 0 [⟨S2x2816, (broadcastInDim S2x2816 ![] bcast_S_S2x2816 (constant S_ .f32 0x00000000#32))⟩, ⟨S4096x2816, (extf .f32 (extractStridedSlice S4096x2816 ![0, 0] x slices_S4096x5632_S4096x2816_0_0) bitsLt_bf16_f32)⟩] concatenates_S2x2816_S4096x2816_S4098x2816_d0) slices_S4098x2816_S4096x2816_2_0))) (broadcastInDim S4096x2816 ![0, 1] bcast_S1x2816_S4096x2816_0_1 (broadcastInDim S1x2816 ![1] bcast_S2816_S1x2816_1 b))) bitsLt_bf16_f32 = Glu.pre (M := 4096) x w (fun x => b (ix1 x)) := by
  funext y
  idx_vars y
  exact pre_at x w b y0 y1

theorem res_a (m : (ℓ : Loc nD τ sig) → Buf (Elt Ideal) ℓ) (c : Dev nD) :
    res_main_v33 m c = Glu.act (M := 4096) (m ((c.tc : Thread nD τ).loc main_arg0)) (m ((c.tc : Thread nD τ).loc main_arg1)) (fun x => (m ((c.tc : Thread nD τ).loc main_arg2)) (ix1 x)) := by
  unfold res_main_v33
  funext y
  idx_vars y
  have e := pre_at (m ((c.tc : Thread nD τ).loc main_arg0)) (m ((c.tc : Thread nD τ).loc main_arg1)) (m ((c.tc : Thread nD τ).loc main_arg2)) y0 y1
  pointwise at e
  pointwise
  exact congrArg (fun p => Glu.gated p _) e

end Cert.GluFwdRefIdeal.Value

end
-- ==== Proof.Attn.lean ====
/-
  Attention of rows of queries over 256 memory slots, in four heads of 64 lanes: what a head's scores and weights are,
  and that a sum over all lanes with the other heads' lanes zeroed is the sum over the head's own lanes.
-/
module

public import proofs.«01_k».proof.Proof.Mm

@[expose] public section

set_option maxRecDepth 16384

noncomputable section

namespace Cert.Attn

open Idealize.ShloMosaic Mm

/-- Lane `x` of head `h` among the 256 lanes. -/
def lane (h : Fin 4) (x : Fin 64) : Fin 256 := ⟨64 * h.val + x.val, by omega⟩

/-- The head a lane belongs to. -/
def head (j : Fin 256) : Fin 4 := ⟨j.val / 64, by omega⟩

/-- One on the lanes of head `h`, zero elsewhere. -/
def mask (h : Fin 4) (j : Fin 256) : EReal := if j.val / 64 = h.val then 1 else 0

/-- The 256 columns of `a` from `o` on. -/
def cols {R W : ℕ} (o : ℕ) (P : o + 256 ≤ W) (a : Mat R W) : Mat R 256 := fun j => a (ix2 (j 0) ⟨o + (j 1).val, by have := (j 1).isLt; change (j 1).val < 256 at this; omega⟩)

theorem cols_at {R W : ℕ} (o : ℕ) (P : o + 256 ≤ W) (a : Mat R W) (i : Fin R) (l : Fin 256) :
    cols o P a (ix2 i l) = a (ix2 i ⟨o + l.val, by omega⟩) := rfl

theorem cols_first {R W : ℕ} (P : 0 + 256 ≤ W) (a : Mat R W) (i : Fin R) (l : Fin 256) :
    cols 0 P a (ix2 i l) = a (ix2 i ⟨l.val, by omega⟩) := congrArg (fun p => a (ix2 i p)) (Fin.ext (Nat.zero_add _))

theorem lane_0 (x : Fin 64) : lane 0 x = ⟨x.val, by omega⟩ := Fin.ext (Nat.zero_add _)

theorem lane_1 (x : Fin 64) : lane 1 x = ⟨64 + x.val, by omega⟩ := rfl

theorem lane_2 (x : Fin 64) : lane 2 x = ⟨128 + x.val, by omega⟩ := rfl

theorem lane_3 (x : Fin 64) : lane 3 x = ⟨192 + x.val, by omega⟩ := rfl

/-- An eighth: what scores are scaled by. -/
def scale : EReal := Ideal.ofBits FTy.f32 1040187392#32

/-- The largest entry of a row. -/
def top {N : ℕ} (r : Fin N → EReal) : EReal := Finset.fold max (Ideal.ofBits FTy.f32 4286578688#32) r Finset.univ

/-- The exponentials of a row, its largest entry taken off. -/
def raised {N : ℕ} (r : Fin N → EReal) (n : Fin N) : EReal := Ideal.exp (r n - top r)

/-- The weights of a row of scores. -/
def soft {N : ℕ} (r : Fin N → EReal) (n : Fin N) : EReal := Ideal.div (raised r n) (∑ x : Fin N, raised r x)

/-- Scores of one row of queries over the slots, of head `h`. -/
def score {R : ℕ} (q : Mat R 256) (k : Mat 256 256) (h : Fin 4) (i : Fin R) (n : Fin 256) : EReal :=
  (∑ x : Fin 64, q (ix2 i (lane h x)) * k (ix2 n (lane h x))) * scale

/-- Attention: each lane is the weighted sum of the slots' values, by the weights of the lane's head. -/
def at2 {R : ℕ} (q : Mat R 256) (k v : Mat 256 256) (i : Fin R) (j : Fin 256) : EReal :=
  ∑ n : Fin 256, soft (score q k (head j) i) n * v (ix2 n j)

/-- Attention as an array. -/
def res {R : ℕ} (q : Mat R 256) (k v : Mat 256 256) : Mat R 256 := fun j => at2 q k v (j 0) (j 1)

theorem at2_eq {R R' : ℕ} {q : Mat R 256} {q' : Mat R' 256} {k v k' v' : Mat 256 256} (i : Fin R) (i' : Fin R')
    (hq : ∀ x, q (ix2 i x) = q' (ix2 i' x)) (hk : ∀ n x, k (ix2 n x) = k' (ix2 n x)) (hv : ∀ n x, v (ix2 n x) = v' (ix2 n x)) (j : Fin 256) :
    at2 q k v i j = at2 q' k' v' i' j := by
  have e : score q k (head j) i = score q' k' (head j) i' := by
    funext n
    unfold score
    simp only [hq, hk]
  unfold at2
  simp only [e, hv]

theorem lanes : ∀ h : Fin 4, ∀ j : Fin 256,
    BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 j.val) 0#32))
                  (BitVec.setWidth 32 (IntOp.cmpi CmpIPredicate.slt (BitVec.ofNat 32 j.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 j.val) 64#32) 0#32))
            (IntOp.subi (IntOp.divsi ArithUnit.vector (BitVec.ofNat 32 j.val) 64#32) 1#32)
            (IntOp.divsi ArithUnit.vector (BitVec.ofNat 32 j.val) 64#32))
          (BitVec.ofNat 32 h.val)) = if j.val / 64 = h.val then 1#32 else 0#32 := by decide +kernel

theorem mask_of (h : Fin 4) (j : Fin 256) :
    (FloatOps.sitofp (F := Ideal) FTy.f32 (if j.val / 64 = h.val then 1#32 else 0#32) : EReal) = mask h j := by
  unfold mask
  split
  · show (((1#32 : BitVec 32).toInt : ℝ) : EReal) = 1
    rw [show (1#32 : BitVec 32).toInt = 1 from by decide]; norm_num
  · show (((0#32 : BitVec 32).toInt : ℝ) : EReal) = 0
    rw [show (0#32 : BitVec 32).toInt = 0 from by decide]; norm_num

theorem mask_head (j : Fin 256) : mask (head j) j = 1 := if_pos rfl

theorem mask_other (h : Fin 4) (j : Fin 256) (e : head j ≠ h) : mask h j = 0 := if_neg fun a => e (Fin.ext a)

/-- A sum over all lanes of what only the lanes of head `h` have is a sum over those. -/
theorem sum_lanes (h : Fin 4) (f g : Fin 256 → EReal) : ∑ x : Fin 256, f x * mask h x * g x = ∑ x : Fin 64, f (lane h x) * g (lane h x) := by
  have e : ∀ x : Fin 256, f x * mask h x * g x = if x ∈ Finset.univ.map ⟨lane h, fun a b e => Fin.ext (by have := congrArg Fin.val e; change 64 * h.val + a.val = 64 * h.val + b.val at this; omega)⟩ then f x * g x else 0 := by
    intro x
    by_cases a : head x = h
    · rw [if_pos, ← a, mask_head, mul_one]
      refine Finset.mem_map.mpr ⟨⟨x.val % 64, by omega⟩, Finset.mem_univ _, Fin.ext ?_⟩
      show 64 * h.val + x.val % 64 = x.val
      have := congrArg Fin.val a
      change x.val / 64 = h.val at this
      omega
    · rw [if_neg, mask_other h x a, mul_zero, zero_mul]
      intro b
      obtain ⟨y, _, b⟩ := Finset.mem_map.mp b
      refine a (Fin.ext ?_)
      have := congrArg Fin.val b
      change 64 * h.val + y.val = x.val at this
      show x.val / 64 = h.val
      omega
  rw [Finset.sum_congr rfl fun x _ => e x, Finset.sum_ite_mem, Finset.univ_inter, Finset.sum_map]
  rfl

/-- What head `h` adds to lane `j`. -/
theorem part (h : Fin 4) (j : Fin 256) (w u : Fin 256 → EReal) :
    ∑ n : Fin 256, w n * (u n * mask h j) = if head j = h then ∑ n : Fin 256, w n * u n else 0 := by
  by_cases a : head j = h
  · rw [if_pos a, ← a, mask_head]
    simp only [mul_one]
  · rw [if_neg a, mask_other h j a]
    simp only [mul_zero, Finset.sum_const_zero]

/-- Of the four heads' additions to a lane only its own head's is there. -/
theorem own (j : Fin 256) (f : Fin 4 → EReal) :
    0 + (if head j = 0 then f 0 else 0) + (if head j = 1 then f 1 else 0) + (if head j = 2 then f 2 else 0) + (if head j = 3 then f 3 else 0) = f (head j) := by
  generalize head j = h
  fin_cases h <;> simp

theorem sum_lanes_right (h : Fin 4) (f g : Fin 256 → EReal) : ∑ x : Fin 256, f x * (g x * mask h x) = ∑ x : Fin 64, f (lane h x) * g (lane h x) := by
  rw [← sum_lanes]
  refine Finset.sum_congr rfl fun x _ => ?_
  rw [mul_comm (g x), mul_assoc]

/-- What head `h` adds to lane `j`, over rows. -/
theorem part_rows {N : ℕ} (h : Fin 4) (j : Fin 256) (w u : Fin N → EReal) :
    ∑ n : Fin N, w n * (u n * mask h j) = if head j = h then ∑ n : Fin N, w n * u n else 0 := by
  by_cases a : head j = h
  · rw [if_pos a, ← a, mask_head]
    simp only [mul_one]
  · rw [if_neg a, mask_other h j a]
    simp only [mul_zero, Finset.sum_const_zero]

theorem kept (h : Fin 4) (j : Fin 256) (a : EReal) : a * mask h j = if head j = h then a else 0 := by
  by_cases e : head j = h
  · rw [if_pos e, ← e, mask_head, mul_one]
  · rw [if_neg e, mask_other h j e, mul_zero]

theorem own_last (j : Fin 256) (f : Fin 4 → EReal) :
    (if head j = 3 then f 3 else 0) + (if head j = 2 then f 2 else 0) + (if head j = 1 then f 1 else 0) + (if head j = 0 then f 0 else 0) = f (head j) := by
  generalize head j = h
  fin_cases h <;> simp

theorem own_bare (j : Fin 256) (f : Fin 4 → EReal) :
    (if head j = 0 then f 0 else 0) + (if head j = 1 then f 1 else 0) + (if head j = 2 then f 2 else 0) + (if head j = 3 then f 3 else 0) = f (head j) := by
  generalize head j = h
  fin_cases h <;> simp

end Cert.Attn

end
-- ==== Proof.CrossValue.lean ====
/-
  Attention of the tokens over the memory slots: the kernel takes eight tiles of rows, and each head by zeroing the
  other heads' lanes; the reference slices the heads out.
-/
module

public import proofs.«01_k».proof.Proof.Attn
public import proofs.«01_k».proof.Proof.Gen.CrossAIdeal.Value
public import proofs.«01_k».proof.Proof.Gen.CrossARefIdeal.Run
public import proofs.«01_k».proof.Proof.Gen.CrossBIdeal.Value
public import proofs.«01_k».proof.Proof.Gen.CrossBRefIdeal.Run
public import Idealize.ShloMosaic.Lib.Pipeline.ValueKit

@[expose] public section

set_option maxRecDepth 16384

noncomputable section

namespace Cert.CrossAIdeal.Value

open Cert.CrossAIdeal Cert.CrossAIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem mask0 (x0 : Vec Ideal S512x256 .bf16) (x1 x2 : Vec Ideal S256x256 .f32)(j : Fin 256) : k0_pay4 (F := Ideal) (ix2 0 j) = Attn.mask 0 j := by
  unfold k0_pay4
  pointwise
  exact (congrArg (FloatOps.sitofp (F := Ideal) FTy.f32) (Attn.lanes 0 j)).trans (Attn.mask_of 0 j)

theorem mask1 (x0 : Vec Ideal S512x256 .bf16) (x1 x2 : Vec Ideal S256x256 .f32)(j : Fin 256) : k0_pay7 (F := Ideal) (k0_pay16 x0 x1 x2) (ix2 0 j) = Attn.mask 1 j := by
  unfold k0_pay7 k0_pay16
  pointwise
  exact (congrArg (FloatOps.sitofp (F := Ideal) FTy.f32) (Attn.lanes 1 j)).trans (Attn.mask_of 1 j)

theorem mask2 (x0 : Vec Ideal S512x256 .bf16) (x1 x2 : Vec Ideal S256x256 .f32)(j : Fin 256) : k0_pay10 (F := Ideal) (k0_pay16 x0 x1 x2) (ix2 0 j) = Attn.mask 2 j := by
  unfold k0_pay10 k0_pay16
  pointwise
  exact (congrArg (FloatOps.sitofp (F := Ideal) FTy.f32) (Attn.lanes 2 j)).trans (Attn.mask_of 2 j)

theorem mask3 (x0 : Vec Ideal S512x256 .bf16) (x1 x2 : Vec Ideal S256x256 .f32)(j : Fin 256) : k0_pay14 (F := Ideal) (k0_pay16 x0 x1 x2) (ix2 0 j) = Attn.mask 3 j := by
  unfold k0_pay14 k0_pay16
  pointwise
  exact (congrArg (FloatOps.sitofp (F := Ideal) FTy.f32) (Attn.lanes 3 j)).trans (Attn.mask_of 3 j)

theorem out_at (x0 : Vec Ideal S512x256 .bf16) (x1 x2 : Vec Ideal S256x256 .f32) (i : Fin 512) (j : Fin 256) : Gen.out0_3 x0 x1 x2 (ix2 i j) = Attn.at2 (show Mm.Mat 512 256 from x0) x1 x2 i j := by
  unfold out0_3
  frame_out
  unfold k0_pay1 k0_pay13 k0_pay9 k0_pay6 k0_pay3 k0_pay5 k0_pay8 k0_pay11 k0_pay12 k0_pay15 k0_pay17 k0_pay2
  pointwise
  simp only [mask0 x0 x1 x2, mask1 x0 x1 x2, mask2 x0 x1 x2, mask3 x0 x1 x2, Attn.sum_lanes, Attn.part]
  exact Attn.own_bare j fun h => ∑ n : Fin 256, Attn.soft (Attn.score (show Mm.Mat 512 256 from x0) x1 h i) n * x2 (ix2 n j)

theorem idx : ∀ t : Fin cfg0.N, win0_0.index t = ![t.val, 4] ∧ win0_1.index t = ![0, 0] ∧ win0_2.index t = ![0, 1] ∧ win0_3.index t = ![t.val, 0] := by decide +kernel

theorem q_block (t : Fin cfg0.N) (i : Fin 512) (x : Fin 256) (P : 512 * t.val + i.val < 4096) :
    (show EReal from iblk m c 0 t (ix2 i x)) = Attn.cols (W := 1280) 1024 (by decide) (m ((c.tc : Thread nD τ).loc main_arg0)) (ix2 ⟨512 * t.val + i.val, P⟩ x) := by
  have e := (idx t).1
  blk_ext [iblk, V, e]

theorem k_block (t : Fin cfg0.N) (n : Fin 256) (x : Fin 256) :
    (show EReal from iblk m c 1 t (ix2 n x)) = Attn.cols (W := 512) 0 (by decide) (m ((c.tc : Thread nD τ).loc main_arg1)) (ix2 n x) := by
  have e := (idx t).2.1
  blk_ext [iblk, V, e]

theorem v_block (t : Fin cfg0.N) (n : Fin 256) (x : Fin 256) :
    (show EReal from iblk m c 2 t (ix2 n x)) = Attn.cols (W := 512) 256 (by decide) (m ((c.tc : Thread nD τ).loc main_arg1)) (ix2 n x) := by
  have e := (idx t).2.2.1
  blk_ext [iblk, V, e]

theorem arr : (dats m 0 c).arrAt 3 cfg0.N = Attn.res (Attn.cols (W := 1280) 1024 (by decide) (m ((c.tc : Thread nD τ).loc main_arg0))) (Attn.cols (W := 512) 0 (by decide) (m ((c.tc : Thread nD τ).loc main_arg1))) (Attn.cols (W := 512) 256 (by decide) (m ((c.tc : Thread nD τ).loc main_arg1))) := by
  refine (dats m 0 c).arrAt_eq_of_covers 3 _ (by decide +kernel) fun t hf y => ?_
  show (dats m 0 c).flushed 3 t y = _
  rw [flushed3]
  idx_vars y
  refine (out_at _ _ _ y0 y1).trans ?_
  have eo := (idx t).2.2.2
  have ht : t.val < 8 := N_0 ▸ t.isLt
  have ej : ((cfg0.win 3).blk t).view.emb (ix2 y0 y1) = ix2 ⟨512 * t.val + y0.val, by omega⟩ y1 := by blk_ext [eo]
  rw [ej]
  refine Attn.at2_eq _ _ (fun x => q_block m c t y0 x _) (fun n x => k_block m c t n x) (fun n x => v_block m c t n x) y1

end Cert.CrossAIdeal.Value

namespace Cert.CrossBIdeal.Value

open Cert.CrossBIdeal Cert.CrossBIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem mask0 (j : Fin 256) : k0_pay3 (F := Ideal) (ix2 0 j) = Attn.mask 0 j := by
  unfold k0_pay3
  pointwise
  exact (congrArg (FloatOps.sitofp (F := Ideal) FTy.f32) (Attn.lanes 0 j)).trans (Attn.mask_of 0 j)

theorem mask1 (j : Fin 256) : k0_pay7 (F := Ideal) (iota .tc S1x256 32 [1] iota_S1x256_d1_w32) (ix2 0 j) = Attn.mask 1 j := by
  unfold k0_pay7
  pointwise
  exact (congrArg (FloatOps.sitofp (F := Ideal) FTy.f32) (Attn.lanes 1 j)).trans (Attn.mask_of 1 j)

theorem mask2 (j : Fin 256) : k0_pay11 (F := Ideal) (iota .tc S1x256 32 [1] iota_S1x256_d1_w32) (ix2 0 j) = Attn.mask 2 j := by
  unfold k0_pay11
  pointwise
  exact (congrArg (FloatOps.sitofp (F := Ideal) FTy.f32) (Attn.lanes 2 j)).trans (Attn.mask_of 2 j)

theorem mask3 (j : Fin 256) : k0_pay15 (F := Ideal) (iota .tc S1x256 32 [1] iota_S1x256_d1_w32) (ix2 0 j) = Attn.mask 3 j := by
  unfold k0_pay15
  pointwise
  exact (congrArg (FloatOps.sitofp (F := Ideal) FTy.f32) (Attn.lanes 3 j)).trans (Attn.mask_of 3 j)

theorem out_at (c : Dev nD) (i0 : grid0.Coords) (arg1 : Memref sig .tc .vmem S512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .bf16) (harg4 : arg4.IsWhole) (x0 : Vec Ideal S512x256 .f32) (x1 x2 : Vec Ideal S256x256 .f32) (i : Fin 512) (j : Fin 256) : Gen.out0_A_3 c i0 arg1 harg1 arg2 harg2 arg3 harg3 arg4 harg4 x0 x1 x2 (ix2 i j) = Attn.at2 (show Mm.Mat 512 256 from x0) x1 x2 i j := by
  frame_out
  unfold k0_pay1 k0_pay14 k0_pay10 k0_pay9 k0_pay6 k0_pay2 k0_pay5 k0_pay8 k0_pay12 k0_pay13 k0_pay16 k0_pay4
  pointwise
  have h1 := mask1
  have h2 := mask2
  have h3 := mask3
  generalize (iota .tc S1x256 32 [1] iota_S1x256_d1_w32) = v at h1 h2 h3 ⊢
  simp only [mask0, h1, h2, h3, Attn.sum_lanes, Attn.part]
  exact Attn.own_bare j fun h => ∑ n : Fin 256, Attn.soft (Attn.score (show Mm.Mat 512 256 from x0) x1 h i) n * x2 (ix2 n j)

theorem idx : ∀ t : Fin cfg0.N, win0_0.index t = ![t.val, 9] ∧ win0_1.index t = ![0, 0] ∧ win0_2.index t = ![0, 1] ∧ win0_3.index t = ![t.val, 0] := by decide +kernel

theorem q_block (t : Fin cfg0.N) (i : Fin 512) (x : Fin 256) (P : 512 * t.val + i.val < 4096) :
    (show EReal from X0_0 m c t (ix2 i x)) = Attn.cols (W := 2688) 2304 (by decide) (m ((c.tc : Thread nD τ).loc main_arg0)) (ix2 ⟨512 * t.val + i.val, P⟩ x) := by
  unfold X0_0 Pipeline.Window.fill
  rw [dif_pos (moved0_0 t _)]
  have e := (idx t).1
  blk_ext [iblk, V, e]

theorem k_block (t : Fin cfg0.N) (n : Fin 256) (x : Fin 256) :
    (show EReal from iblk m c 1 t (ix2 n x)) = Attn.cols (W := 512) 0 (by decide) (m ((c.tc : Thread nD τ).loc main_arg1)) (ix2 n x) := by
  have e := (idx t).2.1
  blk_ext [iblk, V, e]

theorem v_block (t : Fin cfg0.N) (n : Fin 256) (x : Fin 256) :
    (show EReal from iblk m c 2 t (ix2 n x)) = Attn.cols (W := 512) 256 (by decide) (m ((c.tc : Thread nD τ).loc main_arg1)) (ix2 n x) := by
  have e := (idx t).2.2.1
  blk_ext [iblk, V, e]

theorem arr : (dats m 0 c).arrAt 3 cfg0.N = Attn.res (Attn.cols (W := 2688) 2304 (by decide) (m ((c.tc : Thread nD τ).loc main_arg0))) (Attn.cols (W := 512) 0 (by decide) (m ((c.tc : Thread nD τ).loc main_arg1))) (Attn.cols (W := 512) 256 (by decide) (m ((c.tc : Thread nD τ).loc main_arg1))) := by
  refine (dats m 0 c).arrAt_eq_of_covers 3 _ (by decide +kernel) fun t hf y => ?_
  show (dats m 0 c).flushed 3 t y = _
  rw [flushed3_A]
  idx_vars y
  refine (out_at c _ _ _ _ _ _ _ _ _ _ _ _ y0 y1).trans ?_
  have eo := (idx t).2.2.2
  have ht : t.val < 8 := N_0 ▸ t.isLt
  have ej : ((cfg0.win 3).blk t).view.emb (ix2 y0 y1) = ix2 ⟨512 * t.val + y0.val, by omega⟩ y1 := by blk_ext [eo]
  rw [ej]
  refine Attn.at2_eq _ _ (fun x => q_block m c t y0 x _) (fun n x => k_block m c t n x) (fun n x => v_block m c t n x) y1

end Cert.CrossBIdeal.Value

namespace Cert.CrossARefIdeal.Value

open Cert.CrossARefIdeal Cert.CrossARefIdeal.Gen Idealize.ShloMosaic Idealize.ShloMosaic.TcCoe Idealize.SL.Sem

variable (m : (ℓ : Loc nD τ sig) → Buf (Elt Ideal) ℓ) (c : Dev nD)

set_option maxHeartbeats 2000000 in
theorem res_at (i : Fin 4096) (j : Fin 256) : res_main_v69 m c (ix2 i j) = Attn.at2 (Attn.cols (W := 1280) 1024 (by decide) (m ((c.tc : Thread nD τ).loc main_arg0))) (Attn.cols (W := 512) 0 (by decide) (m ((c.tc : Thread nD τ).loc main_arg1))) (Attn.cols (W := 512) 256 (by decide) (m ((c.tc : Thread nD τ).loc main_arg1))) i j := by
  unfold res_main_v69
  pointwise
  unfold Attn.at2
  split
  · rw [show Attn.head j = 0 from Fin.ext (by show j.val / 64 = 0; omega)]
    unfold Attn.soft Attn.raised Attn.top Attn.score Attn.scale
    simp only [Attn.cols_first, Attn.cols_at, Attn.lane_0]
    rfl
  split
  · rw [show Attn.head j = 1 from Fin.ext (by show j.val / 64 = 1; omega)]
    unfold Attn.soft Attn.raised Attn.top Attn.score Attn.scale
    simp only [show 64 + (j.val - 64) = j.val from by omega]
    simp only [Attn.cols_first, Attn.cols_at, Attn.lane_1]
    rfl
  split
  · rw [show Attn.head j = 2 from Fin.ext (by show j.val / 64 = 2; omega)]
    unfold Attn.soft Attn.raised Attn.top Attn.score Attn.scale
    simp only [show 128 + (j.val - 64 - 64) = j.val from by omega]
    simp only [Attn.cols_first, Attn.cols_at, Attn.lane_2]
    rfl
  · rw [show Attn.head j = 3 from Fin.ext (by show j.val / 64 = 3; omega)]
    unfold Attn.soft Attn.raised Attn.top Attn.score Attn.scale
    simp only [show 192 + (j.val - 64 - 64 - 64) = j.val from by omega]
    simp only [Attn.cols_first, Attn.cols_at, Attn.lane_3]
    rfl

theorem res : res_main_v69 m c = Attn.res (Attn.cols (W := 1280) 1024 (by decide) (m ((c.tc : Thread nD τ).loc main_arg0))) (Attn.cols (W := 512) 0 (by decide) (m ((c.tc : Thread nD τ).loc main_arg1))) (Attn.cols (W := 512) 256 (by decide) (m ((c.tc : Thread nD τ).loc main_arg1))) := by
  funext y
  idx_vars y
  exact res_at m c y0 y1

end Cert.CrossARefIdeal.Value

namespace Cert.CrossBRefIdeal.Value

open Cert.CrossBRefIdeal Cert.CrossBRefIdeal.Gen Idealize.ShloMosaic Idealize.ShloMosaic.TcCoe Idealize.SL.Sem

variable (m : (ℓ : Loc nD τ sig) → Buf (Elt Ideal) ℓ) (c : Dev nD)

set_option maxHeartbeats 2000000 in
theorem res_at (i : Fin 4096) (j : Fin 256) : res_main_v68 m c (ix2 i j) = Attn.at2 (Attn.cols (W := 2688) 2304 (by decide) (m ((c.tc : Thread nD τ).loc main_arg0))) (Attn.cols (W := 512) 0 (by decide) (m ((c.tc : Thread nD τ).loc main_arg1))) (Attn.cols (W := 512) 256 (by decide) (m ((c.tc : Thread nD τ).loc main_arg1))) i j := by
  unfold res_main_v68
  pointwise
  unfold Attn.at2
  split
  · rw [show Attn.head j = 0 from Fin.ext (by show j.val / 64 = 0; omega)]
    unfold Attn.soft Attn.raised Attn.top Attn.score Attn.scale
    simp only [Attn.cols_first, Attn.cols_at, Attn.lane_0]
    rfl
  split
  · rw [show Attn.head j = 1 from Fin.ext (by show j.val / 64 = 1; omega)]
    unfold Attn.soft Attn.raised Attn.top Attn.score Attn.scale
    simp only [show 64 + (j.val - 64) = j.val from by omega]
    simp only [Attn.cols_first, Attn.cols_at, Attn.lane_1]
    rfl
  split
  · rw [show Attn.head j = 2 from Fin.ext (by show j.val / 64 = 2; omega)]
    unfold Attn.soft Attn.raised Attn.top Attn.score Attn.scale
    simp only [show 128 + (j.val - 64 - 64) = j.val from by omega]
    simp only [Attn.cols_first, Attn.cols_at, Attn.lane_2]
    rfl
  · rw [show Attn.head j = 3 from Fin.ext (by show j.val / 64 = 3; omega)]
    unfold Attn.soft Attn.raised Attn.top Attn.score Attn.scale
    simp only [show 192 + (j.val - 64 - 64 - 64) = j.val from by omega]
    simp only [Attn.cols_first, Attn.cols_at, Attn.lane_3]
    rfl

theorem res : res_main_v68 m c = Attn.res (Attn.cols (W := 2688) 2304 (by decide) (m ((c.tc : Thread nD τ).loc main_arg0))) (Attn.cols (W := 512) 0 (by decide) (m ((c.tc : Thread nD τ).loc main_arg1))) (Attn.cols (W := 512) 256 (by decide) (m ((c.tc : Thread nD τ).loc main_arg1))) := by
  funext y
  idx_vars y
  exact res_at m c y0 y1

end Cert.CrossBRefIdeal.Value

end
-- ==== Proof.AttnGrad.lean ====
/-
  The gradient of attention over the memory slots: what a head's scores receive from the gradient of its weights, and
  from them the gradients for the queries, the keys and the values.
-/
module

public import proofs.«01_k».proof.Proof.Attn

@[expose] public section

set_option maxRecDepth 16384

noncomputable section

namespace Cert.Attn

open Idealize.ShloMosaic Mm

/-- What the weights of head `h` receive in row `i`: the incoming gradient against the values. -/
def dweight {R : ℕ} (g : Mat R 256) (v : Mat 256 256) (h : Fin 4) (i : Fin R) (n : Fin 256) : EReal :=
  ∑ x : Fin 64, g (ix2 i (lane h x)) * v (ix2 n (lane h x))

/-- Through the quotient of the exponentials by their sum, the exponentials and the scaling of the scores. -/
def turn (p e : Fin 256 → EReal) (n : Fin 256) : EReal :=
  (Ideal.div (p n) (∑ x : Fin 256, e x)
    + -(∑ n' : Fin 256, p n' * Ideal.div 1 ((∑ x : Fin 256, e x) * (∑ x : Fin 256, e x)) * e n')) * e n * scale

/-- What the products of queries and keys of head `h` receive in row `i`. -/
def dscore {R : ℕ} (q : Mat R 256) (k v : Mat 256 256) (g : Mat R 256) (h : Fin 4) (i : Fin R) (n : Fin 256) : EReal :=
  turn (dweight g v h i) (raised (score q k h i)) n

/-- The gradient for the queries, by entry. -/
def dq {R : ℕ} (q : Mat R 256) (k v : Mat 256 256) (g : Mat R 256) (i : Fin R) (j : Fin 256) : EReal :=
  ∑ n : Fin 256, dscore q k v g (head j) i n * k (ix2 n j)

/-- What row `i` adds to the gradient for the keys. -/
def dkRow {R : ℕ} (q : Mat R 256) (k v : Mat 256 256) (g : Mat R 256) (n j : Fin 256) (i : Fin R) : EReal :=
  dscore q k v g (head j) i n * q (ix2 i j)

/-- What row `i` adds to the gradient for the values. -/
def dvRow {R : ℕ} (q : Mat R 256) (k : Mat 256 256) (g : Mat R 256) (n j : Fin 256) (i : Fin R) : EReal :=
  soft (score q k (head j) i) n * g (ix2 i j)

/-- The gradient for the queries. -/
def resQ {R : ℕ} (q : Mat R 256) (k v : Mat 256 256) (g : Mat R 256) : Mat R 256 := fun j => dq q k v g (j 0) (j 1)

/-- The gradient for the keys. -/
def resK {R : ℕ} (q : Mat R 256) (k v : Mat 256 256) (g : Mat R 256) : Mat 256 256 := fun j => ∑ i : Fin R, dkRow q k v g (j 0) (j 1) i

/-- The gradient for the values. -/
def resV {R : ℕ} (q : Mat R 256) (k _v : Mat 256 256) (g : Mat R 256) : Mat 256 256 := fun j => ∑ i : Fin R, dvRow q k g (j 0) (j 1) i

/-- A lane's place within its head. -/
def within (j : Fin 256) : Fin 64 := ⟨j.val % 64, Nat.mod_lt _ (by decide)⟩

theorem lane_head (j : Fin 256) : lane (head j) (within j) = j := Fin.ext (by show 64 * (j.val / 64) + j.val % 64 = j.val; omega)

/-- Of four arrays of 64 columns put beside one another with zeros elsewhere, a lane has its own head's entry. -/
theorem placed (j : Fin 256) (f : Fin 4 → Fin 64 → EReal) :
    (if h : 192 ≤ j.val ∧ j.val - 192 < 64 then f 3 ⟨j.val - 192, h.2⟩ else 0)
      + (if h : 128 ≤ j.val ∧ j.val - 128 < 64 then f 2 ⟨j.val - 128, h.2⟩ else 0)
      + (if h : 64 ≤ j.val ∧ j.val - 64 < 64 then f 1 ⟨j.val - 64, h.2⟩ else 0)
      + (if h : j.val < 64 then f 0 ⟨j.val, h⟩ else 0) = f (head j) (within j) := by
  have key : ∀ (h : Fin 4) (x : Fin 64), head j = h → x.val = j.val - 64 * h.val → j.val / 64 = h.val → f h x = f (head j) (within j) := by
    intro h x e1 e2 e3
    rw [e1]
    refine congrArg (f h) (Fin.ext ?_)
    show x.val = j.val % 64
    omega
  have hj := j.isLt
  by_cases a : j.val < 64
  · rw [dif_neg (by omega), dif_neg (by omega), dif_neg (by omega), dif_pos a, zero_add, zero_add, zero_add]
    exact key 0 _ (Fin.ext (by show j.val / 64 = 0; omega)) (by show j.val = j.val - 64 * 0; omega) (by show j.val / 64 = 0; omega)
  by_cases b : j.val < 128
  · rw [dif_neg (by omega), dif_neg (by omega), dif_pos (by omega), dif_neg a, zero_add, zero_add, add_zero]
    exact key 1 _ (Fin.ext (by show j.val / 64 = 1; omega)) (by show j.val - 64 = j.val - 64 * 1; omega) (by show j.val / 64 = 1; omega)
  by_cases d : j.val < 192
  · rw [dif_neg (by omega), dif_pos (by omega), dif_neg (by omega), dif_neg a, zero_add, add_zero, add_zero]
    exact key 2 _ (Fin.ext (by show j.val / 64 = 2; omega)) (by show j.val - 128 = j.val - 64 * 2; omega) (by show j.val / 64 = 2; omega)
  · rw [dif_pos (by omega), dif_neg (by omega), dif_neg (by omega), dif_neg a, add_zero, add_zero, add_zero]
    exact key 3 _ (Fin.ext (by show j.val / 64 = 3; omega)) (by show j.val - 192 = j.val - 64 * 3; omega) (by show j.val / 64 = 3; omega)

section rows

variable {R R' : ℕ} {q g : Mat R 256} {q' g' : Mat R' 256} {k v k' v' : Mat 256 256} (i : Fin R) (i' : Fin R')
  (hq : ∀ x, q (ix2 i x) = q' (ix2 i' x)) (hk : ∀ n x, k (ix2 n x) = k' (ix2 n x)) (hv : ∀ n x, v (ix2 n x) = v' (ix2 n x))
  (hg : ∀ x, g (ix2 i x) = g' (ix2 i' x))

include hq hk in
theorem score_eq (h : Fin 4) : score q k h i = score q' k' h i' := by
  funext n
  unfold score
  simp only [hq, hk]

include hq hk hv hg in
theorem dscore_eq (h : Fin 4) : dscore q k v g h i = dscore q' k' v' g' h i' := by
  funext n
  have e : dweight g v h i = dweight g' v' h i' := by
    funext n
    unfold dweight
    simp only [hv, hg]
  unfold dscore
  rw [score_eq i i' hq hk, e]

include hq hk hv hg in
theorem dq_eq (j : Fin 256) : dq q k v g i j = dq q' k' v' g' i' j := by
  unfold dq
  rw [dscore_eq i i' hq hk hv hg]
  simp only [hk]

include hq hk hv hg in
theorem dkRow_eq (n j : Fin 256) : dkRow q k v g n j i = dkRow q' k' v' g' n j i' := by
  unfold dkRow
  rw [dscore_eq i i' hq hk hv hg, hq]

include hq hk hg in
theorem dvRow_eq (n j : Fin 256) : dvRow q k g n j i = dvRow q' k' g' n j i' := by
  unfold dvRow
  rw [score_eq i i' hq hk, hg]

end rows

end Cert.Attn

end
-- ==== Proof.CrossGradValue.lean ====
/-
  The gradient of attention over the memory slots: eight tiles of rows; what the keys and the values receive is added
  up over the tiles. The kernel takes each head by zeroing the other heads' lanes; the reference slices the heads out.
-/
module

public import proofs.«01_k».proof.Proof.AttnGrad
public import proofs.«01_k».proof.Proof.Gen.CrossGradAIdeal.Value
public import proofs.«01_k».proof.Proof.Gen.CrossGradARefIdeal.Run
public import proofs.«01_k».proof.Proof.Gen.CrossGradBIdeal.Value
public import proofs.«01_k».proof.Proof.Gen.CrossGradBRefIdeal.Run
public import Idealize.ShloMosaic.Lib.Pipeline.ValueKit

@[expose] public section

set_option maxRecDepth 16384

noncomputable section

namespace Cert.CrossGradAIdeal.Value

open Cert.CrossGradAIdeal Cert.CrossGradAIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem mask0 (j : Fin 256) : k0_pay8 (F := Ideal) (ix2 0 j) = Attn.mask 0 j := by
  unfold k0_pay8
  pointwise
  exact (congrArg (FloatOps.sitofp (F := Ideal) FTy.f32) (Attn.lanes 0 j)).trans (Attn.mask_of 0 j)

theorem mask1 (j : Fin 256) : k0_pay16 (F := Ideal) (iota .tc S1x256 32 [1] iota_S1x256_d1_w32) (ix2 0 j) = Attn.mask 1 j := by
  unfold k0_pay16
  pointwise
  exact (congrArg (FloatOps.sitofp (F := Ideal) FTy.f32) (Attn.lanes 1 j)).trans (Attn.mask_of 1 j)

theorem mask2 (j : Fin 256) : k0_pay25 (F := Ideal) (iota .tc S1x256 32 [1] iota_S1x256_d1_w32) (ix2 0 j) = Attn.mask 2 j := by
  unfold k0_pay25
  pointwise
  exact (congrArg (FloatOps.sitofp (F := Ideal) FTy.f32) (Attn.lanes 2 j)).trans (Attn.mask_of 2 j)

theorem mask3 (j : Fin 256) : k0_pay32 (F := Ideal) (iota .tc S1x256 32 [1] iota_S1x256_d1_w32) (ix2 0 j) = Attn.mask 3 j := by
  unfold k0_pay32
  pointwise
  exact (congrArg (FloatOps.sitofp (F := Ideal) FTy.f32) (Attn.lanes 3 j)).trans (Attn.mask_of 3 j)

set_option maxHeartbeats 4000000 in
theorem out_q_A (c : Dev nD) (i0 : grid0.Coords) (arg1 : Memref sig .tc .vmem S512x256 .bf16) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : cond0_0 i0) (x0 : Vec Ideal S512x256 .bf16) (x1 : Vec Ideal S256x256 .f32) (x2 : Vec Ideal S256x256 .f32) (x3 : Vec Ideal S512x256 .f32) (i : Fin 512) (j : Fin 256) : out0_A_4 c i0 arg1 harg1 arg2 harg2 arg3 harg3 arg4 harg4 arg5 harg5 arg6 harg6 arg7 harg7 hc0 x0 x1 x2 x3 (ix2 i j) = Attn.dq (show Mm.Mat 512 256 from x0) x1 x2 (show Mm.Mat 512 256 from x3) i j := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay24
  try unfold k0_pay23
  try unfold k0_pay22
  try unfold k0_pay21
  try unfold k0_pay20
  try unfold k0_pay19
  try unfold k0_pay18
  try unfold k0_pay17
  try unfold k0_pay15
  try unfold k0_pay14
  try unfold k0_pay13
  try unfold k0_pay12
  try unfold k0_pay11
  try unfold k0_pay10
  try unfold k0_pay9
  try unfold k0_pay7
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  try simp only [Attn.kept]
  exact Attn.own_last j fun h => ∑ n : Fin 256, Attn.dscore (show Mm.Mat 512 256 from x0) x1 x2 (show Mm.Mat 512 256 from x3) h i n * x1 (ix2 n j)

set_option maxHeartbeats 4000000 in
theorem out_q_B (c : Dev nD) (i0 : grid0.Coords) (arg1 : Memref sig .tc .vmem S512x256 .bf16) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : ¬cond0_0 i0) (x0 : Vec Ideal S512x256 .bf16) (x1 : Vec Ideal S256x256 .f32) (x2 : Vec Ideal S256x256 .f32) (x3 : Vec Ideal S512x256 .f32) (xo5 : Vec Ideal S256x256 .f32) (xo6 : Vec Ideal S256x256 .f32) (i : Fin 512) (j : Fin 256) : out0_B_4 c i0 arg1 harg1 arg2 harg2 arg3 harg3 arg4 harg4 arg5 harg5 arg6 harg6 arg7 harg7 hc0 x0 x1 x2 x3 xo5 xo6 (ix2 i j) = Attn.dq (show Mm.Mat 512 256 from x0) x1 x2 (show Mm.Mat 512 256 from x3) i j := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay24
  try unfold k0_pay23
  try unfold k0_pay22
  try unfold k0_pay21
  try unfold k0_pay20
  try unfold k0_pay19
  try unfold k0_pay18
  try unfold k0_pay17
  try unfold k0_pay15
  try unfold k0_pay14
  try unfold k0_pay13
  try unfold k0_pay12
  try unfold k0_pay11
  try unfold k0_pay10
  try unfold k0_pay9
  try unfold k0_pay7
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  try simp only [Attn.kept]
  exact Attn.own_last j fun h => ∑ n : Fin 256, Attn.dscore (show Mm.Mat 512 256 from x0) x1 x2 (show Mm.Mat 512 256 from x3) h i n * x1 (ix2 n j)

set_option maxHeartbeats 4000000 in
theorem out_k_A (c : Dev nD) (i0 : grid0.Coords) (arg1 : Memref sig .tc .vmem S512x256 .bf16) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : cond0_0 i0) (x0 : Vec Ideal S512x256 .bf16) (x1 : Vec Ideal S256x256 .f32) (x2 : Vec Ideal S256x256 .f32) (x3 : Vec Ideal S512x256 .f32) (n j : Fin 256) : out0_A_5 c i0 arg1 harg1 arg2 harg2 arg3 harg3 arg4 harg4 arg5 harg5 arg6 harg6 arg7 harg7 hc0 x0 x1 x2 x3 (ix2 n j) = ∑ i : Fin 512, Attn.dkRow (show Mm.Mat 512 256 from x0) x1 x2 (show Mm.Mat 512 256 from x3) n j i := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay24
  try unfold k0_pay23
  try unfold k0_pay22
  try unfold k0_pay21
  try unfold k0_pay20
  try unfold k0_pay19
  try unfold k0_pay18
  try unfold k0_pay17
  try unfold k0_pay15
  try unfold k0_pay14
  try unfold k0_pay13
  try unfold k0_pay12
  try unfold k0_pay11
  try unfold k0_pay10
  try unfold k0_pay9
  try unfold k0_pay7
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  exact Attn.own_last j fun h => ∑ i : Fin 512, Attn.dscore (show Mm.Mat 512 256 from x0) x1 x2 (show Mm.Mat 512 256 from x3) h i n * x0 (ix2 i j)

set_option maxHeartbeats 4000000 in
theorem out_k_B (c : Dev nD) (i0 : grid0.Coords) (arg1 : Memref sig .tc .vmem S512x256 .bf16) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : ¬cond0_0 i0) (x0 : Vec Ideal S512x256 .bf16) (x1 : Vec Ideal S256x256 .f32) (x2 : Vec Ideal S256x256 .f32) (x3 : Vec Ideal S512x256 .f32) (xo5 : Vec Ideal S256x256 .f32) (xo6 : Vec Ideal S256x256 .f32) (n j : Fin 256) : out0_B_5 c i0 arg1 harg1 arg2 harg2 arg3 harg3 arg4 harg4 arg5 harg5 arg6 harg6 arg7 harg7 hc0 x0 x1 x2 x3 xo5 xo6 (ix2 n j) = (show EReal from xo5 (ix2 n j)) + ∑ i : Fin 512, Attn.dkRow (show Mm.Mat 512 256 from x0) x1 x2 (show Mm.Mat 512 256 from x3) n j i := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay24
  try unfold k0_pay23
  try unfold k0_pay22
  try unfold k0_pay21
  try unfold k0_pay20
  try unfold k0_pay19
  try unfold k0_pay18
  try unfold k0_pay17
  try unfold k0_pay15
  try unfold k0_pay14
  try unfold k0_pay13
  try unfold k0_pay12
  try unfold k0_pay11
  try unfold k0_pay10
  try unfold k0_pay9
  try unfold k0_pay7
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  exact congrArg (fun z : EReal => (show EReal from xo5 (ix2 n j)) + z) (Attn.own_last j fun h => ∑ i : Fin 512, Attn.dscore (show Mm.Mat 512 256 from x0) x1 x2 (show Mm.Mat 512 256 from x3) h i n * x0 (ix2 i j))

set_option maxHeartbeats 4000000 in
theorem out_v_A (c : Dev nD) (i0 : grid0.Coords) (arg1 : Memref sig .tc .vmem S512x256 .bf16) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : cond0_0 i0) (x0 : Vec Ideal S512x256 .bf16) (x1 : Vec Ideal S256x256 .f32) (x2 : Vec Ideal S256x256 .f32) (x3 : Vec Ideal S512x256 .f32) (n j : Fin 256) : out0_A_6 c i0 arg1 harg1 arg2 harg2 arg3 harg3 arg4 harg4 arg5 harg5 arg6 harg6 arg7 harg7 hc0 x0 x1 x2 x3 (ix2 n j) = ∑ i : Fin 512, Attn.dvRow (show Mm.Mat 512 256 from x0) x1 (show Mm.Mat 512 256 from x3) n j i := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay24
  try unfold k0_pay23
  try unfold k0_pay22
  try unfold k0_pay21
  try unfold k0_pay20
  try unfold k0_pay19
  try unfold k0_pay18
  try unfold k0_pay17
  try unfold k0_pay15
  try unfold k0_pay14
  try unfold k0_pay13
  try unfold k0_pay12
  try unfold k0_pay11
  try unfold k0_pay10
  try unfold k0_pay9
  try unfold k0_pay7
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  try simp only [Attn.kept]
  exact Attn.own_last j fun h => ∑ i : Fin 512, Attn.soft (Attn.score (show Mm.Mat 512 256 from x0) x1 h i) n * x3 (ix2 i j)

set_option maxHeartbeats 4000000 in
theorem out_v_B (c : Dev nD) (i0 : grid0.Coords) (arg1 : Memref sig .tc .vmem S512x256 .bf16) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : ¬cond0_0 i0) (x0 : Vec Ideal S512x256 .bf16) (x1 : Vec Ideal S256x256 .f32) (x2 : Vec Ideal S256x256 .f32) (x3 : Vec Ideal S512x256 .f32) (xo5 : Vec Ideal S256x256 .f32) (xo6 : Vec Ideal S256x256 .f32) (n j : Fin 256) : out0_B_6 c i0 arg1 harg1 arg2 harg2 arg3 harg3 arg4 harg4 arg5 harg5 arg6 harg6 arg7 harg7 hc0 x0 x1 x2 x3 xo5 xo6 (ix2 n j) = (show EReal from xo6 (ix2 n j)) + ∑ i : Fin 512, Attn.dvRow (show Mm.Mat 512 256 from x0) x1 (show Mm.Mat 512 256 from x3) n j i := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay24
  try unfold k0_pay23
  try unfold k0_pay22
  try unfold k0_pay21
  try unfold k0_pay20
  try unfold k0_pay19
  try unfold k0_pay18
  try unfold k0_pay17
  try unfold k0_pay15
  try unfold k0_pay14
  try unfold k0_pay13
  try unfold k0_pay12
  try unfold k0_pay11
  try unfold k0_pay10
  try unfold k0_pay9
  try unfold k0_pay7
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  try simp only [Attn.kept]
  exact congrArg (fun z : EReal => (show EReal from xo6 (ix2 n j)) + z) (Attn.own_last j fun h => ∑ i : Fin 512, Attn.soft (Attn.score (show Mm.Mat 512 256 from x0) x1 h i) n * x3 (ix2 i j))

/-- The queries. -/
abbrev qs : Mm.Mat 4096 256 := Attn.cols (W := 1280) 1024 (by decide) (m ((c.tc : Thread nD τ).loc main_arg0))

/-- The keys. -/
abbrev ks : Mm.Mat 256 256 := Attn.cols (W := 512) 0 (by decide) (m ((c.tc : Thread nD τ).loc main_arg1))

/-- The values. -/
abbrev vs : Mm.Mat 256 256 := Attn.cols (W := 512) 256 (by decide) (m ((c.tc : Thread nD τ).loc main_arg1))

/-- The gradient that comes in. -/
abbrev gs : Mm.Mat 4096 256 := Attn.cols (W := 1024) 768 (by decide) (m ((c.tc : Thread nD τ).loc main_arg2))

theorem idx : ∀ t : Fin cfg0.N, win0_0.index t = ![t.val, 4] ∧ win0_1.index t = ![0, 0] ∧ win0_2.index t = ![0, 1] ∧ win0_3.index t = ![t.val, 3]
    ∧ win0_4.index t = ![t.val, 0] ∧ win0_5.index t = ![0, 0] ∧ win0_6.index t = ![0, 0] := by decide +kernel

theorem q_block (t : Fin cfg0.N) (i : Fin 512) (x : Fin 256) (P : 512 * t.val + i.val < 4096) :
    (show EReal from iblk m c 0 t (ix2 i x)) = (qs m c) (ix2 ⟨512 * t.val + i.val, P⟩ x) := by
  unfold qs
  have e := (idx t).1
  blk_ext [iblk, V, e]

theorem k_block (t : Fin cfg0.N) (n : Fin 256) (x : Fin 256) :
    (show EReal from iblk m c 1 t (ix2 n x)) = (ks m c) (ix2 n x) := by
  unfold ks
  have e := (idx t).2.1
  blk_ext [iblk, V, e]

theorem v_block (t : Fin cfg0.N) (n : Fin 256) (x : Fin 256) :
    (show EReal from iblk m c 2 t (ix2 n x)) = (vs m c) (ix2 n x) := by
  unfold vs
  have e := (idx t).2.2.1
  blk_ext [iblk, V, e]

theorem d_block (t : Fin cfg0.N) (i : Fin 512) (x : Fin 256) (P : 512 * t.val + i.val < 4096) :
    (show EReal from iblk m c 3 t (ix2 i x)) = (gs m c) (ix2 ⟨512 * t.val + i.val, P⟩ x) := by
  unfold gs
  have e := (idx t).2.2.2.1
  blk_ext [iblk, V, e]

theorem first_eq (t : Fin cfg0.N) (i : Fin 512) (j : Fin 256) : (outsAt0 m c t.val t.isLt).1 (ix2 i j) = Attn.dq (show Mm.Mat 512 256 from iblk m c 0 t) (show Mm.Mat 256 256 from iblk m c 1 t) (show Mm.Mat 256 256 from iblk m c 2 t) (show Mm.Mat 512 256 from iblk m c 3 t) i j := by
  by_cases h0 : t.val % 8 = 0
  · rw [outsAt0_A m c t h0]
    dsimp only
    exact out_q_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) i j
  · rw [outsAt0_B m c t h0]
    dsimp only
    exact out_q_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 i j

theorem arr_q : (dats m 0 c).arrAt 4 cfg0.N = Attn.resQ (qs m c) (ks m c) (vs m c) (gs m c) := by
  refine (dats m 0 c).arrAt_eq_of_covers 4 _ (by decide +kernel) fun t hf y => ?_
  show (dats m 0 c).flushed 4 t y = _
  rw [flushed4]
  idx_vars y
  have eo := (idx t).2.2.2.2.1
  have ht : t.val < 8 := N_0 ▸ t.isLt
  have ej : ((cfg0.win 4).blk t).view.emb (ix2 y0 y1) = ix2 ⟨512 * t.val + y0.val, by omega⟩ y1 := by blk_ext [eo]
  rw [ej]
  refine (first_eq m c t y0 y1).trans ?_
  exact Attn.dq_eq y0 _ (fun x => q_block m c t y0 x _) (fun n x => k_block m c t n x) (fun n x => v_block m c t n x) (fun x => d_block m c t y0 x _) y1

/-- What tile `q` of rows adds to the gradient for the keys. -/
def kpart (q : ℕ) (n j : Fin 256) : EReal :=
  if h : q < cfg0.N then ∑ i : Fin 512, Attn.dkRow (show Mm.Mat 512 256 from iblk m c 0 ⟨q, h⟩) (show Mm.Mat 256 256 from iblk m c 1 ⟨q, h⟩) (show Mm.Mat 256 256 from iblk m c 2 ⟨q, h⟩) (show Mm.Mat 512 256 from iblk m c 3 ⟨q, h⟩) n j i else 0

theorem k_first (t : Fin cfg0.N) (h0 : t.val % 8 = 0) (n j : Fin 256) :
    (show EReal from (outsAt0 m c t.val t.isLt).2.1 (ix2 n j)) = ∑ i : Fin 512, Attn.dkRow (show Mm.Mat 512 256 from iblk m c 0 t) (show Mm.Mat 256 256 from iblk m c 1 t) (show Mm.Mat 256 256 from iblk m c 2 t) (show Mm.Mat 512 256 from iblk m c 3 t) n j i := by
  rw [outsAt0_A m c t h0]
  dsimp only
  exact out_k_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) n j

theorem k_more (t : Fin cfg0.N) (h0 : ¬t.val % 8 = 0) (n j : Fin 256) :
    (show EReal from (outsAt0 m c t.val t.isLt).2.1 (ix2 n j))
      = (show EReal from (outsAt0 m c (t.val - 1) (Nat.lt_of_le_of_lt (Nat.sub_le _ _) t.isLt)).2.1 (ix2 n j)) + ∑ i : Fin 512, Attn.dkRow (show Mm.Mat 512 256 from iblk m c 0 t) (show Mm.Mat 256 256 from iblk m c 1 t) (show Mm.Mat 256 256 from iblk m c 2 t) (show Mm.Mat 512 256 from iblk m c 3 t) n j i := by
  rw [outsAt0_B m c t h0]
  dsimp only
  exact out_k_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 n j

theorem kpart_at (q : ℕ) (h : q < cfg0.N) (n j : Fin 256) : kpart m c q n j = ∑ i : Fin 512, Attn.dkRow (show Mm.Mat 512 256 from iblk m c 0 ⟨q, h⟩) (show Mm.Mat 256 256 from iblk m c 1 ⟨q, h⟩) (show Mm.Mat 256 256 from iblk m c 2 ⟨q, h⟩) (show Mm.Mat 512 256 from iblk m c 3 ⟨q, h⟩) n j i := dif_pos h

theorem held_k (n j : Fin 256) : ∀ (s : ℕ) (hs : s < cfg0.N),
    (show EReal from (outsAt0 m c s hs).2.1 (ix2 n j)) = ∑ q ∈ Finset.range (s + 1), kpart m c q n j
  | 0, hs => by
    rw [Finset.sum_range_one, kpart_at m c 0 hs]
    exact k_first m c ⟨0, hs⟩ rfl n j
  | s + 1, hs => by
    have hN : s + 1 < 8 := lt_of_lt_of_eq hs N_0
    rw [Finset.sum_range_succ, kpart_at m c (s + 1) hs]
    refine (k_more m c ⟨s + 1, hs⟩ (by show ¬(s + 1) % 8 = 0; omega) n j).trans ?_
    exact congrArg (fun z : EReal => z + ∑ i : Fin 512, Attn.dkRow (show Mm.Mat 512 256 from iblk m c 0 ⟨s + 1, hs⟩) (show Mm.Mat 256 256 from iblk m c 1 ⟨s + 1, hs⟩) (show Mm.Mat 256 256 from iblk m c 2 ⟨s + 1, hs⟩) (show Mm.Mat 512 256 from iblk m c 3 ⟨s + 1, hs⟩) n j i) (held_k n j s (Nat.lt_of_succ_lt hs))

theorem arr_k : (dats m 0 c).arrAt 5 cfg0.N = Attn.resK (qs m c) (ks m c) (vs m c) (gs m c) := by
  refine (dats m 0 c).arrAt_eq_of_covers 5 _ (by decide +kernel) fun t hf y => ?_
  show (dats m 0 c).flushed 5 t y = _
  rw [flushed5]
  have h7 : t.val % 8 = 7 := (flush0_5 t).mp hf
  have hN : t.val < 8 := lt_of_lt_of_eq t.isLt N_0
  have eo := (idx t).2.2.2.2.2.1
  idx_vars y
  have ej : ((cfg0.win 5).blk t).view.emb (ix2 y0 y1) = ix2 y0 y1 := by
    blk_ext [eo]
  rw [ej]
  refine (held_k m c y0 y1 t.val t.isLt).trans ?_
  have e : t.val + 1 = 8 := by omega
  rw [e, Finset.sum_range]
  show _ = ∑ i : Fin 4096, Attn.dkRow (qs m c) (ks m c) (vs m c) (gs m c) y0 y1 i
  have hp : ∀ q : Fin 8, q.val < cfg0.N := fun q => lt_of_lt_of_eq q.isLt N_0.symm
  have eq : ∀ q : Fin 8, kpart m c q.val y0 y1 = ∑ i : Fin 512, Attn.dkRow (show Mm.Mat 512 256 from iblk m c 0 ⟨q.val, hp q⟩) (show Mm.Mat 256 256 from iblk m c 1 ⟨q.val, hp q⟩) (show Mm.Mat 256 256 from iblk m c 2 ⟨q.val, hp q⟩) (show Mm.Mat 512 256 from iblk m c 3 ⟨q.val, hp q⟩) y0 y1 i := fun q => dif_pos (hp q)
  refine (Finset.sum_congr rfl fun q _ => eq q).trans ?_
  refine Fin.sum_mul_add_congr fun q n hl => ?_
  have hq : 512 * q.val + n.val < 4096 := by omega
  refine (Attn.dkRow_eq n ⟨512 * q.val + n.val, hq⟩ (fun x => q_block m c ⟨q.val, hp q⟩ n x hq) (fun n x => k_block m c ⟨q.val, hp q⟩ n x) (fun n x => v_block m c ⟨q.val, hp q⟩ n x) (fun x => d_block m c ⟨q.val, hp q⟩ n x hq) y0 y1).trans ?_
  exact congrArg (Attn.dkRow (qs m c) (ks m c) (vs m c) (gs m c) y0 y1) (Fin.ext (by show 512 * q.val + n.val = q.val * 512 + n.val; omega))

/-- What tile `q` of rows adds to the gradient for the values. -/
def vpart (q : ℕ) (n j : Fin 256) : EReal :=
  if h : q < cfg0.N then ∑ i : Fin 512, Attn.dvRow (show Mm.Mat 512 256 from iblk m c 0 ⟨q, h⟩) (show Mm.Mat 256 256 from iblk m c 1 ⟨q, h⟩) (show Mm.Mat 512 256 from iblk m c 3 ⟨q, h⟩) n j i else 0

theorem v_first (t : Fin cfg0.N) (h0 : t.val % 8 = 0) (n j : Fin 256) :
    (show EReal from (outsAt0 m c t.val t.isLt).2.2 (ix2 n j)) = ∑ i : Fin 512, Attn.dvRow (show Mm.Mat 512 256 from iblk m c 0 t) (show Mm.Mat 256 256 from iblk m c 1 t) (show Mm.Mat 512 256 from iblk m c 3 t) n j i := by
  rw [outsAt0_A m c t h0]
  dsimp only
  exact out_v_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) n j

theorem v_more (t : Fin cfg0.N) (h0 : ¬t.val % 8 = 0) (n j : Fin 256) :
    (show EReal from (outsAt0 m c t.val t.isLt).2.2 (ix2 n j))
      = (show EReal from (outsAt0 m c (t.val - 1) (Nat.lt_of_le_of_lt (Nat.sub_le _ _) t.isLt)).2.2 (ix2 n j)) + ∑ i : Fin 512, Attn.dvRow (show Mm.Mat 512 256 from iblk m c 0 t) (show Mm.Mat 256 256 from iblk m c 1 t) (show Mm.Mat 512 256 from iblk m c 3 t) n j i := by
  rw [outsAt0_B m c t h0]
  dsimp only
  exact out_v_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 n j

theorem vpart_at (q : ℕ) (h : q < cfg0.N) (n j : Fin 256) : vpart m c q n j = ∑ i : Fin 512, Attn.dvRow (show Mm.Mat 512 256 from iblk m c 0 ⟨q, h⟩) (show Mm.Mat 256 256 from iblk m c 1 ⟨q, h⟩) (show Mm.Mat 512 256 from iblk m c 3 ⟨q, h⟩) n j i := dif_pos h

theorem held_v (n j : Fin 256) : ∀ (s : ℕ) (hs : s < cfg0.N),
    (show EReal from (outsAt0 m c s hs).2.2 (ix2 n j)) = ∑ q ∈ Finset.range (s + 1), vpart m c q n j
  | 0, hs => by
    rw [Finset.sum_range_one, vpart_at m c 0 hs]
    exact v_first m c ⟨0, hs⟩ rfl n j
  | s + 1, hs => by
    have hN : s + 1 < 8 := lt_of_lt_of_eq hs N_0
    rw [Finset.sum_range_succ, vpart_at m c (s + 1) hs]
    refine (v_more m c ⟨s + 1, hs⟩ (by show ¬(s + 1) % 8 = 0; omega) n j).trans ?_
    exact congrArg (fun z : EReal => z + ∑ i : Fin 512, Attn.dvRow (show Mm.Mat 512 256 from iblk m c 0 ⟨s + 1, hs⟩) (show Mm.Mat 256 256 from iblk m c 1 ⟨s + 1, hs⟩) (show Mm.Mat 512 256 from iblk m c 3 ⟨s + 1, hs⟩) n j i) (held_v n j s (Nat.lt_of_succ_lt hs))

theorem arr_v : (dats m 0 c).arrAt 6 cfg0.N = Attn.resV (qs m c) (ks m c) (vs m c) (gs m c) := by
  refine (dats m 0 c).arrAt_eq_of_covers 6 _ (by decide +kernel) fun t hf y => ?_
  show (dats m 0 c).flushed 6 t y = _
  rw [flushed6]
  have h7 : t.val % 8 = 7 := (flush0_6 t).mp hf
  have hN : t.val < 8 := lt_of_lt_of_eq t.isLt N_0
  have eo := (idx t).2.2.2.2.2.2
  idx_vars y
  have ej : ((cfg0.win 6).blk t).view.emb (ix2 y0 y1) = ix2 y0 y1 := by
    blk_ext [eo]
  rw [ej]
  refine (held_v m c y0 y1 t.val t.isLt).trans ?_
  have e : t.val + 1 = 8 := by omega
  rw [e, Finset.sum_range]
  show _ = ∑ i : Fin 4096, Attn.dvRow (qs m c) (ks m c) (gs m c) y0 y1 i
  have hp : ∀ q : Fin 8, q.val < cfg0.N := fun q => lt_of_lt_of_eq q.isLt N_0.symm
  have eq : ∀ q : Fin 8, vpart m c q.val y0 y1 = ∑ i : Fin 512, Attn.dvRow (show Mm.Mat 512 256 from iblk m c 0 ⟨q.val, hp q⟩) (show Mm.Mat 256 256 from iblk m c 1 ⟨q.val, hp q⟩) (show Mm.Mat 512 256 from iblk m c 3 ⟨q.val, hp q⟩) y0 y1 i := fun q => dif_pos (hp q)
  refine (Finset.sum_congr rfl fun q _ => eq q).trans ?_
  refine Fin.sum_mul_add_congr fun q n hl => ?_
  have hq : 512 * q.val + n.val < 4096 := by omega
  refine (Attn.dvRow_eq n ⟨512 * q.val + n.val, hq⟩ (fun x => q_block m c ⟨q.val, hp q⟩ n x hq) (fun n x => k_block m c ⟨q.val, hp q⟩ n x) (fun x => d_block m c ⟨q.val, hp q⟩ n x hq) y0 y1).trans ?_
  exact congrArg (Attn.dvRow (qs m c) (ks m c) (gs m c) y0 y1) (Fin.ext (by show 512 * q.val + n.val = q.val * 512 + n.val; omega))

end Cert.CrossGradAIdeal.Value

namespace Cert.CrossGradBIdeal.Value

open Cert.CrossGradBIdeal Cert.CrossGradBIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem mask0 (j : Fin 256) : k0_pay7 (F := Ideal) (ix2 0 j) = Attn.mask 0 j := by
  unfold k0_pay7
  pointwise
  exact (congrArg (FloatOps.sitofp (F := Ideal) FTy.f32) (Attn.lanes 0 j)).trans (Attn.mask_of 0 j)

theorem mask1 (j : Fin 256) : k0_pay15 (F := Ideal) (iota .tc S1x256 32 [1] iota_S1x256_d1_w32) (ix2 0 j) = Attn.mask 1 j := by
  unfold k0_pay15
  pointwise
  exact (congrArg (FloatOps.sitofp (F := Ideal) FTy.f32) (Attn.lanes 1 j)).trans (Attn.mask_of 1 j)

theorem mask2 (j : Fin 256) : k0_pay24 (F := Ideal) (iota .tc S1x256 32 [1] iota_S1x256_d1_w32) (ix2 0 j) = Attn.mask 2 j := by
  unfold k0_pay24
  pointwise
  exact (congrArg (FloatOps.sitofp (F := Ideal) FTy.f32) (Attn.lanes 2 j)).trans (Attn.mask_of 2 j)

theorem mask3 (j : Fin 256) : k0_pay32 (F := Ideal) (iota .tc S1x256 32 [1] iota_S1x256_d1_w32) (ix2 0 j) = Attn.mask 3 j := by
  unfold k0_pay32
  pointwise
  exact (congrArg (FloatOps.sitofp (F := Ideal) FTy.f32) (Attn.lanes 3 j)).trans (Attn.mask_of 3 j)

set_option maxHeartbeats 4000000 in
theorem out_q_A (c : Dev nD) (i0 : grid0.Coords) (arg1 : Memref sig .tc .vmem S512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : cond0_0 i0) (x0 : Vec Ideal S512x256 .f32) (x1 : Vec Ideal S256x256 .f32) (x2 : Vec Ideal S256x256 .f32) (x3 : Vec Ideal S512x256 .f32) (i : Fin 512) (j : Fin 256) : out0_A_4 c i0 arg1 harg1 arg2 harg2 arg3 harg3 arg4 harg4 arg5 harg5 arg6 harg6 arg7 harg7 hc0 x0 x1 x2 x3 (ix2 i j) = Attn.dq (show Mm.Mat 512 256 from x0) x1 x2 (show Mm.Mat 512 256 from x3) i j := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay25
  try unfold k0_pay23
  try unfold k0_pay22
  try unfold k0_pay21
  try unfold k0_pay20
  try unfold k0_pay19
  try unfold k0_pay18
  try unfold k0_pay17
  try unfold k0_pay16
  try unfold k0_pay14
  try unfold k0_pay13
  try unfold k0_pay12
  try unfold k0_pay11
  try unfold k0_pay10
  try unfold k0_pay9
  try unfold k0_pay8
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  try simp only [Attn.kept]
  exact Attn.own_last j fun h => ∑ n : Fin 256, Attn.dscore (show Mm.Mat 512 256 from x0) x1 x2 (show Mm.Mat 512 256 from x3) h i n * x1 (ix2 n j)

set_option maxHeartbeats 4000000 in
theorem out_q_B (c : Dev nD) (i0 : grid0.Coords) (arg1 : Memref sig .tc .vmem S512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : ¬cond0_0 i0) (x0 : Vec Ideal S512x256 .f32) (x1 : Vec Ideal S256x256 .f32) (x2 : Vec Ideal S256x256 .f32) (x3 : Vec Ideal S512x256 .f32) (xo5 : Vec Ideal S256x256 .f32) (xo6 : Vec Ideal S256x256 .f32) (i : Fin 512) (j : Fin 256) : out0_B_4 c i0 arg1 harg1 arg2 harg2 arg3 harg3 arg4 harg4 arg5 harg5 arg6 harg6 arg7 harg7 hc0 x0 x1 x2 x3 xo5 xo6 (ix2 i j) = Attn.dq (show Mm.Mat 512 256 from x0) x1 x2 (show Mm.Mat 512 256 from x3) i j := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay25
  try unfold k0_pay23
  try unfold k0_pay22
  try unfold k0_pay21
  try unfold k0_pay20
  try unfold k0_pay19
  try unfold k0_pay18
  try unfold k0_pay17
  try unfold k0_pay16
  try unfold k0_pay14
  try unfold k0_pay13
  try unfold k0_pay12
  try unfold k0_pay11
  try unfold k0_pay10
  try unfold k0_pay9
  try unfold k0_pay8
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  try simp only [Attn.kept]
  exact Attn.own_last j fun h => ∑ n : Fin 256, Attn.dscore (show Mm.Mat 512 256 from x0) x1 x2 (show Mm.Mat 512 256 from x3) h i n * x1 (ix2 n j)

set_option maxHeartbeats 4000000 in
theorem out_k_A (c : Dev nD) (i0 : grid0.Coords) (arg1 : Memref sig .tc .vmem S512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : cond0_0 i0) (x0 : Vec Ideal S512x256 .f32) (x1 : Vec Ideal S256x256 .f32) (x2 : Vec Ideal S256x256 .f32) (x3 : Vec Ideal S512x256 .f32) (n j : Fin 256) : out0_A_5 c i0 arg1 harg1 arg2 harg2 arg3 harg3 arg4 harg4 arg5 harg5 arg6 harg6 arg7 harg7 hc0 x0 x1 x2 x3 (ix2 n j) = ∑ i : Fin 512, Attn.dkRow (show Mm.Mat 512 256 from x0) x1 x2 (show Mm.Mat 512 256 from x3) n j i := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay25
  try unfold k0_pay23
  try unfold k0_pay22
  try unfold k0_pay21
  try unfold k0_pay20
  try unfold k0_pay19
  try unfold k0_pay18
  try unfold k0_pay17
  try unfold k0_pay16
  try unfold k0_pay14
  try unfold k0_pay13
  try unfold k0_pay12
  try unfold k0_pay11
  try unfold k0_pay10
  try unfold k0_pay9
  try unfold k0_pay8
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  exact Attn.own_last j fun h => ∑ i : Fin 512, Attn.dscore (show Mm.Mat 512 256 from x0) x1 x2 (show Mm.Mat 512 256 from x3) h i n * x0 (ix2 i j)

set_option maxHeartbeats 4000000 in
theorem out_k_B (c : Dev nD) (i0 : grid0.Coords) (arg1 : Memref sig .tc .vmem S512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : ¬cond0_0 i0) (x0 : Vec Ideal S512x256 .f32) (x1 : Vec Ideal S256x256 .f32) (x2 : Vec Ideal S256x256 .f32) (x3 : Vec Ideal S512x256 .f32) (xo5 : Vec Ideal S256x256 .f32) (xo6 : Vec Ideal S256x256 .f32) (n j : Fin 256) : out0_B_5 c i0 arg1 harg1 arg2 harg2 arg3 harg3 arg4 harg4 arg5 harg5 arg6 harg6 arg7 harg7 hc0 x0 x1 x2 x3 xo5 xo6 (ix2 n j) = (show EReal from xo5 (ix2 n j)) + ∑ i : Fin 512, Attn.dkRow (show Mm.Mat 512 256 from x0) x1 x2 (show Mm.Mat 512 256 from x3) n j i := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay25
  try unfold k0_pay23
  try unfold k0_pay22
  try unfold k0_pay21
  try unfold k0_pay20
  try unfold k0_pay19
  try unfold k0_pay18
  try unfold k0_pay17
  try unfold k0_pay16
  try unfold k0_pay14
  try unfold k0_pay13
  try unfold k0_pay12
  try unfold k0_pay11
  try unfold k0_pay10
  try unfold k0_pay9
  try unfold k0_pay8
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  exact congrArg (fun z : EReal => (show EReal from xo5 (ix2 n j)) + z) (Attn.own_last j fun h => ∑ i : Fin 512, Attn.dscore (show Mm.Mat 512 256 from x0) x1 x2 (show Mm.Mat 512 256 from x3) h i n * x0 (ix2 i j))

set_option maxHeartbeats 4000000 in
theorem out_v_A (c : Dev nD) (i0 : grid0.Coords) (arg1 : Memref sig .tc .vmem S512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : cond0_0 i0) (x0 : Vec Ideal S512x256 .f32) (x1 : Vec Ideal S256x256 .f32) (x2 : Vec Ideal S256x256 .f32) (x3 : Vec Ideal S512x256 .f32) (n j : Fin 256) : out0_A_6 c i0 arg1 harg1 arg2 harg2 arg3 harg3 arg4 harg4 arg5 harg5 arg6 harg6 arg7 harg7 hc0 x0 x1 x2 x3 (ix2 n j) = ∑ i : Fin 512, Attn.dvRow (show Mm.Mat 512 256 from x0) x1 (show Mm.Mat 512 256 from x3) n j i := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay25
  try unfold k0_pay23
  try unfold k0_pay22
  try unfold k0_pay21
  try unfold k0_pay20
  try unfold k0_pay19
  try unfold k0_pay18
  try unfold k0_pay17
  try unfold k0_pay16
  try unfold k0_pay14
  try unfold k0_pay13
  try unfold k0_pay12
  try unfold k0_pay11
  try unfold k0_pay10
  try unfold k0_pay9
  try unfold k0_pay8
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  try simp only [Attn.kept]
  exact Attn.own_last j fun h => ∑ i : Fin 512, Attn.soft (Attn.score (show Mm.Mat 512 256 from x0) x1 h i) n * x3 (ix2 i j)

set_option maxHeartbeats 4000000 in
theorem out_v_B (c : Dev nD) (i0 : grid0.Coords) (arg1 : Memref sig .tc .vmem S512x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S512x256 .bf16) (harg5 : arg5.IsWhole) (arg6 : Memref sig .tc .vmem S256x256 .f32) (harg6 : arg6.IsWhole) (arg7 : Memref sig .tc .vmem S256x256 .f32) (harg7 : arg7.IsWhole) (hc0 : ¬cond0_0 i0) (x0 : Vec Ideal S512x256 .f32) (x1 : Vec Ideal S256x256 .f32) (x2 : Vec Ideal S256x256 .f32) (x3 : Vec Ideal S512x256 .f32) (xo5 : Vec Ideal S256x256 .f32) (xo6 : Vec Ideal S256x256 .f32) (n j : Fin 256) : out0_B_6 c i0 arg1 harg1 arg2 harg2 arg3 harg3 arg4 harg4 arg5 harg5 arg6 harg6 arg7 harg7 hc0 x0 x1 x2 x3 xo5 xo6 (ix2 n j) = (show EReal from xo6 (ix2 n j)) + ∑ i : Fin 512, Attn.dvRow (show Mm.Mat 512 256 from x0) x1 (show Mm.Mat 512 256 from x3) n j i := by
  frame_out
  have h1 := mask1
  have h2 := mask2
  have h3 := mask3
  generalize (iota .tc S1x256 32 [1] iota_S1x256_d1_w32) = v at h1 h2 h3 ⊢
  try unfold k0_pay54
  try unfold k0_pay53
  try unfold k0_pay52
  try unfold k0_pay51
  try unfold k0_pay50
  try unfold k0_pay49
  try unfold k0_pay48
  try unfold k0_pay47
  try unfold k0_pay46
  try unfold k0_pay45
  try unfold k0_pay44
  try unfold k0_pay43
  try unfold k0_pay42
  try unfold k0_pay41
  try unfold k0_pay40
  try unfold k0_pay39
  try unfold k0_pay38
  try unfold k0_pay37
  try unfold k0_pay36
  try unfold k0_pay35
  try unfold k0_pay34
  try unfold k0_pay33
  try unfold k0_pay31
  try unfold k0_pay30
  try unfold k0_pay29
  try unfold k0_pay28
  try unfold k0_pay27
  try unfold k0_pay26
  try unfold k0_pay25
  try unfold k0_pay23
  try unfold k0_pay22
  try unfold k0_pay21
  try unfold k0_pay20
  try unfold k0_pay19
  try unfold k0_pay18
  try unfold k0_pay17
  try unfold k0_pay16
  try unfold k0_pay14
  try unfold k0_pay13
  try unfold k0_pay12
  try unfold k0_pay11
  try unfold k0_pay10
  try unfold k0_pay9
  try unfold k0_pay8
  try unfold k0_pay6
  try unfold k0_pay5
  try unfold k0_pay4
  try unfold k0_pay3
  try unfold k0_pay2
  try unfold k0_pay1
  pointwise
  simp only [mask0, h1, h2, h3, Attn.sum_lanes, Attn.sum_lanes_right, Attn.part_rows, Fin.sum_univ_one, zero_sub, zero_add]
  try simp only [Attn.kept]
  exact congrArg (fun z : EReal => (show EReal from xo6 (ix2 n j)) + z) (Attn.own_last j fun h => ∑ i : Fin 512, Attn.soft (Attn.score (show Mm.Mat 512 256 from x0) x1 h i) n * x3 (ix2 i j))

/-- The queries. -/
abbrev qs : Mm.Mat 4096 256 := Attn.cols (W := 2688) 2304 (by decide) (m ((c.tc : Thread nD τ).loc main_arg0))

/-- The keys. -/
abbrev ks : Mm.Mat 256 256 := Attn.cols (W := 512) 0 (by decide) (m ((c.tc : Thread nD τ).loc main_arg1))

/-- The values. -/
abbrev vs : Mm.Mat 256 256 := Attn.cols (W := 512) 256 (by decide) (m ((c.tc : Thread nD τ).loc main_arg1))

/-- The gradient that comes in. -/
abbrev gs : Mm.Mat 4096 256 := Attn.cols (W := 1024) 768 (by decide) (m ((c.tc : Thread nD τ).loc main_arg2))

theorem idx : ∀ t : Fin cfg0.N, win0_0.index t = ![t.val, 9] ∧ win0_1.index t = ![0, 0] ∧ win0_2.index t = ![0, 1] ∧ win0_3.index t = ![t.val, 3]
    ∧ win0_4.index t = ![t.val, 0] ∧ win0_5.index t = ![0, 0] ∧ win0_6.index t = ![0, 0] := by decide +kernel

theorem q_block (t : Fin cfg0.N) (i : Fin 512) (x : Fin 256) (P : 512 * t.val + i.val < 4096) :
    (show EReal from X0_0 m c t (ix2 i x)) = (qs m c) (ix2 ⟨512 * t.val + i.val, P⟩ x) := by
  unfold qs
  unfold X0_0 Pipeline.Window.fill
  rw [dif_pos (moved0_0 t _)]
  have e := (idx t).1
  blk_ext [iblk, V, e]

theorem k_block (t : Fin cfg0.N) (n : Fin 256) (x : Fin 256) :
    (show EReal from iblk m c 1 t (ix2 n x)) = (ks m c) (ix2 n x) := by
  unfold ks
  have e := (idx t).2.1
  blk_ext [iblk, V, e]

theorem v_block (t : Fin cfg0.N) (n : Fin 256) (x : Fin 256) :
    (show EReal from iblk m c 2 t (ix2 n x)) = (vs m c) (ix2 n x) := by
  unfold vs
  have e := (idx t).2.2.1
  blk_ext [iblk, V, e]

theorem d_block (t : Fin cfg0.N) (i : Fin 512) (x : Fin 256) (P : 512 * t.val + i.val < 4096) :
    (show EReal from iblk m c 3 t (ix2 i x)) = (gs m c) (ix2 ⟨512 * t.val + i.val, P⟩ x) := by
  unfold gs
  have e := (idx t).2.2.2.1
  blk_ext [iblk, V, e]

theorem first_eq (t : Fin cfg0.N) (i : Fin 512) (j : Fin 256) : (outsAt0 m c t.val t.isLt).1 (ix2 i j) = Attn.dq (show Mm.Mat 512 256 from X0_0 m c t) (show Mm.Mat 256 256 from iblk m c 1 t) (show Mm.Mat 256 256 from iblk m c 2 t) (show Mm.Mat 512 256 from iblk m c 3 t) i j := by
  by_cases h0 : t.val % 8 = 0
  · rw [outsAt0_A m c t h0]
    dsimp only
    exact out_q_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 m c t) (iblk m c 1 t) (iblk m c 2 t) (iblk m c 3 t) i j
  · rw [outsAt0_B m c t h0]
    dsimp only
    exact out_q_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 m c t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 i j

theorem arr_q : (dats m 0 c).arrAt 4 cfg0.N = Attn.resQ (qs m c) (ks m c) (vs m c) (gs m c) := by
  refine (dats m 0 c).arrAt_eq_of_covers 4 _ (by decide +kernel) fun t hf y => ?_
  show (dats m 0 c).flushed 4 t y = _
  rw [flushed4]
  idx_vars y
  have eo := (idx t).2.2.2.2.1
  have ht : t.val < 8 := N_0 ▸ t.isLt
  have ej : ((cfg0.win 4).blk t).view.emb (ix2 y0 y1) = ix2 ⟨512 * t.val + y0.val, by omega⟩ y1 := by blk_ext [eo]
  rw [ej]
  refine (first_eq m c t y0 y1).trans ?_
  exact Attn.dq_eq y0 _ (fun x => q_block m c t y0 x _) (fun n x => k_block m c t n x) (fun n x => v_block m c t n x) (fun x => d_block m c t y0 x _) y1

/-- What tile `q` of rows adds to the gradient for the keys. -/
def kpart (q : ℕ) (n j : Fin 256) : EReal :=
  if h : q < cfg0.N then ∑ i : Fin 512, Attn.dkRow (show Mm.Mat 512 256 from X0_0 m c ⟨q, h⟩) (show Mm.Mat 256 256 from iblk m c 1 ⟨q, h⟩) (show Mm.Mat 256 256 from iblk m c 2 ⟨q, h⟩) (show Mm.Mat 512 256 from iblk m c 3 ⟨q, h⟩) n j i else 0

theorem k_first (t : Fin cfg0.N) (h0 : t.val % 8 = 0) (n j : Fin 256) :
    (show EReal from (outsAt0 m c t.val t.isLt).2.1 (ix2 n j)) = ∑ i : Fin 512, Attn.dkRow (show Mm.Mat 512 256 from X0_0 m c t) (show Mm.Mat 256 256 from iblk m c 1 t) (show Mm.Mat 256 256 from iblk m c 2 t) (show Mm.Mat 512 256 from iblk m c 3 t) n j i := by
  rw [outsAt0_A m c t h0]
  dsimp only
  exact out_k_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 m c t) (iblk m c 1 t) (iblk m c 2 t) (iblk m c 3 t) n j

theorem k_more (t : Fin cfg0.N) (h0 : ¬t.val % 8 = 0) (n j : Fin 256) :
    (show EReal from (outsAt0 m c t.val t.isLt).2.1 (ix2 n j))
      = (show EReal from (outsAt0 m c (t.val - 1) (Nat.lt_of_le_of_lt (Nat.sub_le _ _) t.isLt)).2.1 (ix2 n j)) + ∑ i : Fin 512, Attn.dkRow (show Mm.Mat 512 256 from X0_0 m c t) (show Mm.Mat 256 256 from iblk m c 1 t) (show Mm.Mat 256 256 from iblk m c 2 t) (show Mm.Mat 512 256 from iblk m c 3 t) n j i := by
  rw [outsAt0_B m c t h0]
  dsimp only
  exact out_k_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 m c t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 n j

theorem kpart_at (q : ℕ) (h : q < cfg0.N) (n j : Fin 256) : kpart m c q n j = ∑ i : Fin 512, Attn.dkRow (show Mm.Mat 512 256 from X0_0 m c ⟨q, h⟩) (show Mm.Mat 256 256 from iblk m c 1 ⟨q, h⟩) (show Mm.Mat 256 256 from iblk m c 2 ⟨q, h⟩) (show Mm.Mat 512 256 from iblk m c 3 ⟨q, h⟩) n j i := dif_pos h

theorem held_k (n j : Fin 256) : ∀ (s : ℕ) (hs : s < cfg0.N),
    (show EReal from (outsAt0 m c s hs).2.1 (ix2 n j)) = ∑ q ∈ Finset.range (s + 1), kpart m c q n j
  | 0, hs => by
    rw [Finset.sum_range_one, kpart_at m c 0 hs]
    exact k_first m c ⟨0, hs⟩ rfl n j
  | s + 1, hs => by
    have hN : s + 1 < 8 := lt_of_lt_of_eq hs N_0
    rw [Finset.sum_range_succ, kpart_at m c (s + 1) hs]
    refine (k_more m c ⟨s + 1, hs⟩ (by show ¬(s + 1) % 8 = 0; omega) n j).trans ?_
    exact congrArg (fun z : EReal => z + ∑ i : Fin 512, Attn.dkRow (show Mm.Mat 512 256 from X0_0 m c ⟨s + 1, hs⟩) (show Mm.Mat 256 256 from iblk m c 1 ⟨s + 1, hs⟩) (show Mm.Mat 256 256 from iblk m c 2 ⟨s + 1, hs⟩) (show Mm.Mat 512 256 from iblk m c 3 ⟨s + 1, hs⟩) n j i) (held_k n j s (Nat.lt_of_succ_lt hs))

theorem arr_k : (dats m 0 c).arrAt 5 cfg0.N = Attn.resK (qs m c) (ks m c) (vs m c) (gs m c) := by
  refine (dats m 0 c).arrAt_eq_of_covers 5 _ (by decide +kernel) fun t hf y => ?_
  show (dats m 0 c).flushed 5 t y = _
  rw [flushed5]
  have h7 : t.val % 8 = 7 := (flush0_5 t).mp hf
  have hN : t.val < 8 := lt_of_lt_of_eq t.isLt N_0
  have eo := (idx t).2.2.2.2.2.1
  idx_vars y
  have ej : ((cfg0.win 5).blk t).view.emb (ix2 y0 y1) = ix2 y0 y1 := by
    blk_ext [eo]
  rw [ej]
  refine (held_k m c y0 y1 t.val t.isLt).trans ?_
  have e : t.val + 1 = 8 := by omega
  rw [e, Finset.sum_range]
  show _ = ∑ i : Fin 4096, Attn.dkRow (qs m c) (ks m c) (vs m c) (gs m c) y0 y1 i
  have hp : ∀ q : Fin 8, q.val < cfg0.N := fun q => lt_of_lt_of_eq q.isLt N_0.symm
  have eq : ∀ q : Fin 8, kpart m c q.val y0 y1 = ∑ i : Fin 512, Attn.dkRow (show Mm.Mat 512 256 from X0_0 m c ⟨q.val, hp q⟩) (show Mm.Mat 256 256 from iblk m c 1 ⟨q.val, hp q⟩) (show Mm.Mat 256 256 from iblk m c 2 ⟨q.val, hp q⟩) (show Mm.Mat 512 256 from iblk m c 3 ⟨q.val, hp q⟩) y0 y1 i := fun q => dif_pos (hp q)
  refine (Finset.sum_congr rfl fun q _ => eq q).trans ?_
  refine Fin.sum_mul_add_congr fun q n hl => ?_
  have hq : 512 * q.val + n.val < 4096 := by omega
  refine (Attn.dkRow_eq n ⟨512 * q.val + n.val, hq⟩ (fun x => q_block m c ⟨q.val, hp q⟩ n x hq) (fun n x => k_block m c ⟨q.val, hp q⟩ n x) (fun n x => v_block m c ⟨q.val, hp q⟩ n x) (fun x => d_block m c ⟨q.val, hp q⟩ n x hq) y0 y1).trans ?_
  exact congrArg (Attn.dkRow (qs m c) (ks m c) (vs m c) (gs m c) y0 y1) (Fin.ext (by show 512 * q.val + n.val = q.val * 512 + n.val; omega))

/-- What tile `q` of rows adds to the gradient for the values. -/
def vpart (q : ℕ) (n j : Fin 256) : EReal :=
  if h : q < cfg0.N then ∑ i : Fin 512, Attn.dvRow (show Mm.Mat 512 256 from X0_0 m c ⟨q, h⟩) (show Mm.Mat 256 256 from iblk m c 1 ⟨q, h⟩) (show Mm.Mat 512 256 from iblk m c 3 ⟨q, h⟩) n j i else 0

theorem v_first (t : Fin cfg0.N) (h0 : t.val % 8 = 0) (n j : Fin 256) :
    (show EReal from (outsAt0 m c t.val t.isLt).2.2 (ix2 n j)) = ∑ i : Fin 512, Attn.dvRow (show Mm.Mat 512 256 from X0_0 m c t) (show Mm.Mat 256 256 from iblk m c 1 t) (show Mm.Mat 512 256 from iblk m c 3 t) n j i := by
  rw [outsAt0_A m c t h0]
  dsimp only
  exact out_v_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 m c t) (iblk m c 1 t) (iblk m c 2 t) (iblk m c 3 t) n j

theorem v_more (t : Fin cfg0.N) (h0 : ¬t.val % 8 = 0) (n j : Fin 256) :
    (show EReal from (outsAt0 m c t.val t.isLt).2.2 (ix2 n j))
      = (show EReal from (outsAt0 m c (t.val - 1) (Nat.lt_of_le_of_lt (Nat.sub_le _ _) t.isLt)).2.2 (ix2 n j)) + ∑ i : Fin 512, Attn.dvRow (show Mm.Mat 512 256 from X0_0 m c t) (show Mm.Mat 256 256 from iblk m c 1 t) (show Mm.Mat 512 256 from iblk m c 3 t) n j i := by
  rw [outsAt0_B m c t h0]
  dsimp only
  exact out_v_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 m c t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 n j

theorem vpart_at (q : ℕ) (h : q < cfg0.N) (n j : Fin 256) : vpart m c q n j = ∑ i : Fin 512, Attn.dvRow (show Mm.Mat 512 256 from X0_0 m c ⟨q, h⟩) (show Mm.Mat 256 256 from iblk m c 1 ⟨q, h⟩) (show Mm.Mat 512 256 from iblk m c 3 ⟨q, h⟩) n j i := dif_pos h

theorem held_v (n j : Fin 256) : ∀ (s : ℕ) (hs : s < cfg0.N),
    (show EReal from (outsAt0 m c s hs).2.2 (ix2 n j)) = ∑ q ∈ Finset.range (s + 1), vpart m c q n j
  | 0, hs => by
    rw [Finset.sum_range_one, vpart_at m c 0 hs]
    exact v_first m c ⟨0, hs⟩ rfl n j
  | s + 1, hs => by
    have hN : s + 1 < 8 := lt_of_lt_of_eq hs N_0
    rw [Finset.sum_range_succ, vpart_at m c (s + 1) hs]
    refine (v_more m c ⟨s + 1, hs⟩ (by show ¬(s + 1) % 8 = 0; omega) n j).trans ?_
    exact congrArg (fun z : EReal => z + ∑ i : Fin 512, Attn.dvRow (show Mm.Mat 512 256 from X0_0 m c ⟨s + 1, hs⟩) (show Mm.Mat 256 256 from iblk m c 1 ⟨s + 1, hs⟩) (show Mm.Mat 512 256 from iblk m c 3 ⟨s + 1, hs⟩) n j i) (held_v n j s (Nat.lt_of_succ_lt hs))

theorem arr_v : (dats m 0 c).arrAt 6 cfg0.N = Attn.resV (qs m c) (ks m c) (vs m c) (gs m c) := by
  refine (dats m 0 c).arrAt_eq_of_covers 6 _ (by decide +kernel) fun t hf y => ?_
  show (dats m 0 c).flushed 6 t y = _
  rw [flushed6]
  have h7 : t.val % 8 = 7 := (flush0_6 t).mp hf
  have hN : t.val < 8 := lt_of_lt_of_eq t.isLt N_0
  have eo := (idx t).2.2.2.2.2.2
  idx_vars y
  have ej : ((cfg0.win 6).blk t).view.emb (ix2 y0 y1) = ix2 y0 y1 := by
    blk_ext [eo]
  rw [ej]
  refine (held_v m c y0 y1 t.val t.isLt).trans ?_
  have e : t.val + 1 = 8 := by omega
  rw [e, Finset.sum_range]
  show _ = ∑ i : Fin 4096, Attn.dvRow (qs m c) (ks m c) (gs m c) y0 y1 i
  have hp : ∀ q : Fin 8, q.val < cfg0.N := fun q => lt_of_lt_of_eq q.isLt N_0.symm
  have eq : ∀ q : Fin 8, vpart m c q.val y0 y1 = ∑ i : Fin 512, Attn.dvRow (show Mm.Mat 512 256 from X0_0 m c ⟨q.val, hp q⟩) (show Mm.Mat 256 256 from iblk m c 1 ⟨q.val, hp q⟩) (show Mm.Mat 512 256 from iblk m c 3 ⟨q.val, hp q⟩) y0 y1 i := fun q => dif_pos (hp q)
  refine (Finset.sum_congr rfl fun q _ => eq q).trans ?_
  refine Fin.sum_mul_add_congr fun q n hl => ?_
  have hq : 512 * q.val + n.val < 4096 := by omega
  refine (Attn.dvRow_eq n ⟨512 * q.val + n.val, hq⟩ (fun x => q_block m c ⟨q.val, hp q⟩ n x hq) (fun n x => k_block m c ⟨q.val, hp q⟩ n x) (fun x => d_block m c ⟨q.val, hp q⟩ n x hq) y0 y1).trans ?_
  exact congrArg (Attn.dvRow (qs m c) (ks m c) (gs m c) y0 y1) (Fin.ext (by show 512 * q.val + n.val = q.val * 512 + n.val; omega))

end Cert.CrossGradBIdeal.Value

namespace Cert.CrossGradARefIdeal.Value

open Cert.CrossGradARefIdeal Cert.CrossGradARefIdeal.Gen Idealize.ShloMosaic Idealize.ShloMosaic.TcCoe Idealize.SL.Sem

open Idealize.ShloMosaic.StableHlo

variable (m : (ℓ : Loc nD τ sig) → Buf (Elt Ideal) ℓ) (c : Dev nD)

/-- The queries. -/
abbrev qs : Mm.Mat 4096 256 := Attn.cols (W := 1280) 1024 (by decide) (m ((c.tc : Thread nD τ).loc main_arg0))

/-- The keys. -/
abbrev ks : Mm.Mat 256 256 := Attn.cols (W := 512) 0 (by decide) (m ((c.tc : Thread nD τ).loc main_arg1))

/-- The values. -/
abbrev vs : Mm.Mat 256 256 := Attn.cols (W := 512) 256 (by decide) (m ((c.tc : Thread nD τ).loc main_arg1))

/-- The gradient that comes in. -/
abbrev gs : Mm.Mat 4096 256 := Attn.cols (W := 1024) 768 (by decide) (m ((c.tc : Thread nD τ).loc main_arg2))

theorem q_at (i : Fin 4096) (x : Fin 256) : res_main_v2 (launchContents m c) (ix2 i x) = (qs m c) (ix2 i x) := by
  unfold res_main_v2 qs
  pointwise
  rw [Attn.cols_at]

theorem q0 (i : Fin 4096) (x : Fin 64) : res_main_v5 (launchContents m c) (ix2 i x) = (qs m c) (ix2 i (Attn.lane 0 x)) := by
  rw [← q_at]
  unfold res_main_v5
  pointwise
  rw [Attn.lane_0]

theorem q1 (i : Fin 4096) (x : Fin 64) : res_main_v29 (launchContents m c) (ix2 i x) = (qs m c) (ix2 i (Attn.lane 1 x)) := by
  rw [← q_at]
  unfold res_main_v29
  pointwise
  rfl

theorem q2 (i : Fin 4096) (x : Fin 64) : res_main_v53 (launchContents m c) (ix2 i x) = (qs m c) (ix2 i (Attn.lane 2 x)) := by
  rw [← q_at]
  unfold res_main_v53
  pointwise
  rfl

theorem q3 (i : Fin 4096) (x : Fin 64) : res_main_v77 (launchContents m c) (ix2 i x) = (qs m c) (ix2 i (Attn.lane 3 x)) := by
  rw [← q_at]
  unfold res_main_v77
  pointwise
  rfl

theorem k_at (i : Fin 256) (x : Fin 256) : res_main_v3 (launchContents m c) (ix2 i x) = (ks m c) (ix2 i x) := by
  unfold res_main_v3 ks
  pointwise
  rw [Attn.cols_first]

theorem k0 (i : Fin 256) (x : Fin 64) : res_main_v6 (launchContents m c) (ix2 i x) = (ks m c) (ix2 i (Attn.lane 0 x)) := by
  rw [← k_at]
  unfold res_main_v6
  pointwise
  rw [Attn.lane_0]

theorem k1 (i : Fin 256) (x : Fin 64) : res_main_v30 (launchContents m c) (ix2 i x) = (ks m c) (ix2 i (Attn.lane 1 x)) := by
  rw [← k_at]
  unfold res_main_v30
  pointwise
  rfl

theorem k2 (i : Fin 256) (x : Fin 64) : res_main_v54 (launchContents m c) (ix2 i x) = (ks m c) (ix2 i (Attn.lane 2 x)) := by
  rw [← k_at]
  unfold res_main_v54
  pointwise
  rfl

theorem k3 (i : Fin 256) (x : Fin 64) : res_main_v78 (launchContents m c) (ix2 i x) = (ks m c) (ix2 i (Attn.lane 3 x)) := by
  rw [← k_at]
  unfold res_main_v78
  pointwise
  rfl

theorem v_at (i : Fin 256) (x : Fin 256) : res_main_v4 (launchContents m c) (ix2 i x) = (vs m c) (ix2 i x) := by
  unfold res_main_v4 vs
  pointwise
  rw [Attn.cols_at]

theorem v0 (i : Fin 256) (x : Fin 64) : res_main_v27 (launchContents m c) (ix2 i x) = (vs m c) (ix2 i (Attn.lane 0 x)) := by
  rw [← v_at]
  unfold res_main_v27
  pointwise
  rw [Attn.lane_0]

theorem v1 (i : Fin 256) (x : Fin 64) : res_main_v51 (launchContents m c) (ix2 i x) = (vs m c) (ix2 i (Attn.lane 1 x)) := by
  rw [← v_at]
  unfold res_main_v51
  pointwise
  rfl

theorem v2 (i : Fin 256) (x : Fin 64) : res_main_v75 (launchContents m c) (ix2 i x) = (vs m c) (ix2 i (Attn.lane 2 x)) := by
  rw [← v_at]
  unfold res_main_v75
  pointwise
  rfl

theorem v3 (i : Fin 256) (x : Fin 64) : res_main_v99 (launchContents m c) (ix2 i x) = (vs m c) (ix2 i (Attn.lane 3 x)) := by
  rw [← v_at]
  unfold res_main_v99
  pointwise
  rfl

theorem g_at (i : Fin 4096) (x : Fin 256) : res_main_v1 (launchContents m c) (ix2 i x) = (gs m c) (ix2 i x) := by
  unfold res_main_v1 gs
  pointwise
  rw [Attn.cols_at]

theorem g0 (i : Fin 4096) (x : Fin 64) : res_main_v102 (launchContents m c) (ix2 i x) = (gs m c) (ix2 i (Attn.lane 0 x)) := by
  rw [← g_at]
  unfold res_main_v102
  pointwise
  rw [Attn.lane_0]

theorem g1 (i : Fin 4096) (x : Fin 64) : res_main_v103 (launchContents m c) (ix2 i x) = (gs m c) (ix2 i (Attn.lane 1 x)) := by
  rw [← g_at]
  unfold res_main_v103
  pointwise
  rfl

theorem g2 (i : Fin 4096) (x : Fin 64) : res_main_v104 (launchContents m c) (ix2 i x) = (gs m c) (ix2 i (Attn.lane 2 x)) := by
  rw [← g_at]
  unfold res_main_v104
  pointwise
  rfl

theorem g3 (i : Fin 4096) (x : Fin 64) : res_main_v105 (launchContents m c) (ix2 i x) = (gs m c) (ix2 i (Attn.lane 3 x)) := by
  rw [← g_at]
  unfold res_main_v105
  pointwise
  rfl

theorem top_row (r : Vec Ideal S4096x256 .f32) (i : Fin 4096) :
    Host.reduce FloatOps.maximumf r (constant (F := Ideal) S_ .f32 0xFF800000#32) reducesTo_S4096x256_S4096_d1 h_S_ (ix1 i) = Attn.top fun n => r (ix2 i n) := by
  pointwise
  rfl

theorem s0 (i : Fin 4096) (n : Fin 256) : res_main_v9 (launchContents m c) (ix2 i n) = Attn.score (qs m c) (ks m c) 0 i n := by
  unfold res_main_v9
  pointwise
  simp only [q0, k0]
  rfl

theorem t0 (i : Fin 4096) : res_main_v10 (launchContents m c) (ix1 i) = Attn.top (Attn.score (qs m c) (ks m c) 0 i) := by
  unfold res_main_v10
  exact (top_row _ i).trans (congrArg Attn.top (funext fun n => s0 m c i n))

theorem e0 (i : Fin 4096) (n : Fin 256) : res_main_v19 (launchContents m c) (ix2 i n) = Attn.raised (Attn.score (qs m c) (ks m c) 0 i) n := by
  unfold res_main_v19
  pointwise
  simp only [s0, t0]
  rfl

theorem z0 (i : Fin 4096) (n : Fin 1) : res_main_v21 (launchContents m c) (ix2 i n) = ∑ x : Fin 256, Attn.raised (Attn.score (qs m c) (ks m c) 0 i) x := by
  unfold res_main_v21
  pointwise
  simp only [e0]

theorem p0 (i : Fin 4096) (n : Fin 256) : res_main_v23 (launchContents m c) (ix2 i n) = Attn.soft (Attn.score (qs m c) (ks m c) 0 i) n := by
  unfold res_main_v23
  pointwise
  simp only [e0, z0]
  rfl

theorem w0 (i : Fin 4096) (n : Fin 256) : res_main_v180 (launchContents m c) (ix2 i n) = Attn.dweight (gs m c) (vs m c) 0 i n := by
  unfold res_main_v180
  pointwise
  simp only [g0, v0]
  rfl

theorem d0 (i : Fin 4096) (n : Fin 256) : res_main_v196 (launchContents m c) (ix2 i n) = Attn.dscore (qs m c) (ks m c) (vs m c) (gs m c) 0 i n := by
  unfold res_main_v196
  pointwise
  simp only [w0, e0, z0, Fin.sum_univ_one, zero_add]
  rfl

theorem s1 (i : Fin 4096) (n : Fin 256) : res_main_v33 (launchContents m c) (ix2 i n) = Attn.score (qs m c) (ks m c) 1 i n := by
  unfold res_main_v33
  pointwise
  simp only [q1, k1]
  rfl

theorem t1 (i : Fin 4096) : res_main_v34 (launchContents m c) (ix1 i) = Attn.top (Attn.score (qs m c) (ks m c) 1 i) := by
  unfold res_main_v34
  exact (top_row _ i).trans (congrArg Attn.top (funext fun n => s1 m c i n))

theorem e1 (i : Fin 4096) (n : Fin 256) : res_main_v43 (launchContents m c) (ix2 i n) = Attn.raised (Attn.score (qs m c) (ks m c) 1 i) n := by
  unfold res_main_v43
  pointwise
  simp only [s1, t1]
  rfl

theorem z1 (i : Fin 4096) (n : Fin 1) : res_main_v45 (launchContents m c) (ix2 i n) = ∑ x : Fin 256, Attn.raised (Attn.score (qs m c) (ks m c) 1 i) x := by
  unfold res_main_v45
  pointwise
  simp only [e1]

theorem p1 (i : Fin 4096) (n : Fin 256) : res_main_v47 (launchContents m c) (ix2 i n) = Attn.soft (Attn.score (qs m c) (ks m c) 1 i) n := by
  unfold res_main_v47
  pointwise
  simp only [e1, z1]
  rfl

theorem w1 (i : Fin 4096) (n : Fin 256) : res_main_v155 (launchContents m c) (ix2 i n) = Attn.dweight (gs m c) (vs m c) 1 i n := by
  unfold res_main_v155
  pointwise
  simp only [g1, v1]
  rfl

theorem d1 (i : Fin 4096) (n : Fin 256) : res_main_v171 (launchContents m c) (ix2 i n) = Attn.dscore (qs m c) (ks m c) (vs m c) (gs m c) 1 i n := by
  unfold res_main_v171
  pointwise
  simp only [w1, e1, z1, Fin.sum_univ_one, zero_add]
  rfl

theorem s2 (i : Fin 4096) (n : Fin 256) : res_main_v57 (launchContents m c) (ix2 i n) = Attn.score (qs m c) (ks m c) 2 i n := by
  unfold res_main_v57
  pointwise
  simp only [q2, k2]
  rfl

theorem t2 (i : Fin 4096) : res_main_v58 (launchContents m c) (ix1 i) = Attn.top (Attn.score (qs m c) (ks m c) 2 i) := by
  unfold res_main_v58
  exact (top_row _ i).trans (congrArg Attn.top (funext fun n => s2 m c i n))

theorem e2 (i : Fin 4096) (n : Fin 256) : res_main_v67 (launchContents m c) (ix2 i n) = Attn.raised (Attn.score (qs m c) (ks m c) 2 i) n := by
  unfold res_main_v67
  pointwise
  simp only [s2, t2]
  rfl

theorem z2 (i : Fin 4096) (n : Fin 1) : res_main_v69 (launchContents m c) (ix2 i n) = ∑ x : Fin 256, Attn.raised (Attn.score (qs m c) (ks m c) 2 i) x := by
  unfold res_main_v69
  pointwise
  simp only [e2]

theorem p2 (i : Fin 4096) (n : Fin 256) : res_main_v71 (launchContents m c) (ix2 i n) = Attn.soft (Attn.score (qs m c) (ks m c) 2 i) n := by
  unfold res_main_v71
  pointwise
  simp only [e2, z2]
  rfl

theorem w2 (i : Fin 4096) (n : Fin 256) : res_main_v130 (launchContents m c) (ix2 i n) = Attn.dweight (gs m c) (vs m c) 2 i n := by
  unfold res_main_v130
  pointwise
  simp only [g2, v2]
  rfl

theorem d2 (i : Fin 4096) (n : Fin 256) : res_main_v146 (launchContents m c) (ix2 i n) = Attn.dscore (qs m c) (ks m c) (vs m c) (gs m c) 2 i n := by
  unfold res_main_v146
  pointwise
  simp only [w2, e2, z2, Fin.sum_univ_one, zero_add]
  rfl

theorem s3 (i : Fin 4096) (n : Fin 256) : res_main_v81 (launchContents m c) (ix2 i n) = Attn.score (qs m c) (ks m c) 3 i n := by
  unfold res_main_v81
  pointwise
  simp only [q3, k3]
  rfl

theorem t3 (i : Fin 4096) : res_main_v82 (launchContents m c) (ix1 i) = Attn.top (Attn.score (qs m c) (ks m c) 3 i) := by
  unfold res_main_v82
  exact (top_row _ i).trans (congrArg Attn.top (funext fun n => s3 m c i n))

theorem e3 (i : Fin 4096) (n : Fin 256) : res_main_v91 (launchContents m c) (ix2 i n) = Attn.raised (Attn.score (qs m c) (ks m c) 3 i) n := by
  unfold res_main_v91
  pointwise
  simp only [s3, t3]
  rfl

theorem z3 (i : Fin 4096) (n : Fin 1) : res_main_v93 (launchContents m c) (ix2 i n) = ∑ x : Fin 256, Attn.raised (Attn.score (qs m c) (ks m c) 3 i) x := by
  unfold res_main_v93
  pointwise
  simp only [e3]

theorem p3 (i : Fin 4096) (n : Fin 256) : res_main_v95 (launchContents m c) (ix2 i n) = Attn.soft (Attn.score (qs m c) (ks m c) 3 i) n := by
  unfold res_main_v95
  pointwise
  simp only [e3, z3]
  rfl

theorem w3 (i : Fin 4096) (n : Fin 256) : res_main_v108 (launchContents m c) (ix2 i n) = Attn.dweight (gs m c) (vs m c) 3 i n := by
  unfold res_main_v108
  pointwise
  simp only [g3, v3]
  rfl

theorem d3 (i : Fin 4096) (n : Fin 256) : res_main_v123 (launchContents m c) (ix2 i n) = Attn.dscore (qs m c) (ks m c) (vs m c) (gs m c) 3 i n := by
  unfold res_main_v123
  pointwise
  simp only [w3, e3, z3, Fin.sum_univ_one, zero_add]
  rfl

/-- What the reference returns for the queries. -/
def out_q {F : FTy → Type} [FloatOps F] (V0 : Valuation τ sig (Elt F)) : (Proc.devRef .tc main_v203 : DevRef τ sig).ty.Contents (Elt F) :=
  truncf .bf16 (addf (addf (addf (pad S4096x256 ![0, 192] ![0, 0] ![0, 0] (Host.dotGeneral dot_S4096x256_S256x64_S4096x64_1_0_0_1_n_n none (res_main_v123 V0) (res_main_v78 V0)) (constant S_ .f32 0x00000000#32) pads_S4096x64_S4096x256_000_19200 h_S_) (pad S4096x256 ![0, 128] ![0, 64] ![0, 0] (Host.dotGeneral dot_S4096x256_S256x64_S4096x64_1_0_0_1_n_n none (res_main_v146 V0) (res_main_v54 V0)) (constant S_ .f32 0x00000000#32) pads_S4096x64_S4096x256_000_128640 h_S_)) (pad S4096x256 ![0, 64] ![0, 128] ![0, 0] (Host.dotGeneral dot_S4096x256_S256x64_S4096x64_1_0_0_1_n_n none (res_main_v171 V0) (res_main_v30 V0)) (constant S_ .f32 0x00000000#32) pads_S4096x64_S4096x256_000_641280 h_S_)) (pad S4096x256 ![0, 0] ![0, 192] ![0, 0] (Host.dotGeneral dot_S4096x256_S256x64_S4096x64_1_0_0_1_n_n none (res_main_v196 V0) (res_main_v6 V0)) (constant S_ .f32 0x00000000#32) pads_S4096x64_S4096x256_000_01920 h_S_)) bitsLt_bf16_f32

set_option maxHeartbeats 2000000 in
theorem res_q : out_q (F := Ideal) (launchContents m c) = Attn.resQ (qs m c) (ks m c) (vs m c) (gs m c) := by
  funext y
  idx_vars y
  unfold out_q
  pointwise
  simp only [d0, d1, d2, d3, k0, k1, k2, k3]
  refine (Attn.placed y1 fun h x => ∑ n : Fin 256, Attn.dscore (qs m c) (ks m c) (vs m c) (gs m c) h y0 n * (ks m c) (ix2 n (Attn.lane h x))).trans ?_
  rw [Attn.lane_head]
  rfl

/-- What the reference returns for the keys. -/
def out_k {F : FTy → Type} [FloatOps F] (V0 : Valuation τ sig (Elt F)) : (Proc.devRef .tc main_v200 : DevRef τ sig).ty.Contents (Elt F) :=
  addf (addf (addf (pad S256x256 ![0, 192] ![0, 0] ![0, 0] (Host.dotGeneral dot_S4096x256_S4096x64_S256x64_0_0_1_1_n_n none (res_main_v123 V0) (res_main_v77 V0)) (constant S_ .f32 0x00000000#32) pads_S256x64_S256x256_000_19200 h_S_) (pad S256x256 ![0, 128] ![0, 64] ![0, 0] (Host.dotGeneral dot_S4096x256_S4096x64_S256x64_0_0_1_1_n_n none (res_main_v146 V0) (res_main_v53 V0)) (constant S_ .f32 0x00000000#32) pads_S256x64_S256x256_000_128640 h_S_)) (pad S256x256 ![0, 64] ![0, 128] ![0, 0] (Host.dotGeneral dot_S4096x256_S4096x64_S256x64_0_0_1_1_n_n none (res_main_v171 V0) (res_main_v29 V0)) (constant S_ .f32 0x00000000#32) pads_S256x64_S256x256_000_641280 h_S_)) (pad S256x256 ![0, 0] ![0, 192] ![0, 0] (Host.dotGeneral dot_S4096x256_S4096x64_S256x64_0_0_1_1_n_n none (res_main_v196 V0) (res_main_v5 V0)) (constant S_ .f32 0x00000000#32) pads_S256x64_S256x256_000_01920 h_S_)

set_option maxHeartbeats 2000000 in
theorem res_k : out_k (F := Ideal) (launchContents m c) = Attn.resK (qs m c) (ks m c) (vs m c) (gs m c) := by
  funext y
  idx_vars y
  unfold out_k
  pointwise
  simp only [d0, d1, d2, d3, q0, q1, q2, q3]
  refine (Attn.placed y1 fun h x => ∑ i : Fin 4096, Attn.dscore (qs m c) (ks m c) (vs m c) (gs m c) h i y0 * (qs m c) (ix2 i (Attn.lane h x))).trans ?_
  rw [Attn.lane_head]
  rfl

/-- What the reference returns for the values. -/
def out_v {F : FTy → Type} [FloatOps F] (V0 : Valuation τ sig (Elt F)) : (Proc.devRef .tc main_v182 : DevRef τ sig).ty.Contents (Elt F) :=
  addf (addf (addf (pad S256x256 ![0, 192] ![0, 0] ![0, 0] (transpose S256x64 [1, 0] (Host.dotGeneral dot_S4096x64_S4096x256_S64x256_0_0_1_1_n_n none (res_main_v105 V0) (res_main_v95 V0)) transposes_S64x256_S256x64_1_0) (constant S_ .f32 0x00000000#32) pads_S256x64_S256x256_000_19200 h_S_) (pad S256x256 ![0, 128] ![0, 64] ![0, 0] (transpose S256x64 [1, 0] (Host.dotGeneral dot_S4096x64_S4096x256_S64x256_0_0_1_1_n_n none (res_main_v104 V0) (res_main_v71 V0)) transposes_S64x256_S256x64_1_0) (constant S_ .f32 0x00000000#32) pads_S256x64_S256x256_000_128640 h_S_)) (pad S256x256 ![0, 64] ![0, 128] ![0, 0] (transpose S256x64 [1, 0] (Host.dotGeneral dot_S4096x64_S4096x256_S64x256_0_0_1_1_n_n none (res_main_v103 V0) (res_main_v47 V0)) transposes_S64x256_S256x64_1_0) (constant S_ .f32 0x00000000#32) pads_S256x64_S256x256_000_641280 h_S_)) (pad S256x256 ![0, 0] ![0, 192] ![0, 0] (transpose S256x64 [1, 0] (Host.dotGeneral dot_S4096x64_S4096x256_S64x256_0_0_1_1_n_n none (res_main_v102 V0) (res_main_v23 V0)) transposes_S64x256_S256x64_1_0) (constant S_ .f32 0x00000000#32) pads_S256x64_S256x256_000_01920 h_S_)

set_option maxHeartbeats 2000000 in
theorem res_v : out_v (F := Ideal) (launchContents m c) = Attn.resV (qs m c) (ks m c) (vs m c) (gs m c) := by
  funext y
  idx_vars y
  unfold out_v
  pointwise
  simp only [g0, g1, g2, g3, p0, p1, p2, p3]
  refine (Attn.placed y1 fun h x => ∑ i : Fin 4096, (gs m c) (ix2 i (Attn.lane h x)) * Attn.soft (Attn.score (qs m c) (ks m c) h i) y0).trans ?_
  rw [Attn.lane_head]
  exact Finset.sum_congr (M := EReal) rfl fun i _ => mul_comm _ _

end Cert.CrossGradARefIdeal.Value

namespace Cert.CrossGradBRefIdeal.Value

open Cert.CrossGradBRefIdeal Cert.CrossGradBRefIdeal.Gen Idealize.ShloMosaic Idealize.ShloMosaic.TcCoe Idealize.SL.Sem

open Idealize.ShloMosaic.StableHlo

variable (m : (ℓ : Loc nD τ sig) → Buf (Elt Ideal) ℓ) (c : Dev nD)

/-- The queries. -/
abbrev qs : Mm.Mat 4096 256 := Attn.cols (W := 2688) 2304 (by decide) (m ((c.tc : Thread nD τ).loc main_arg0))

/-- The keys. -/
abbrev ks : Mm.Mat 256 256 := Attn.cols (W := 512) 0 (by decide) (m ((c.tc : Thread nD τ).loc main_arg1))

/-- The values. -/
abbrev vs : Mm.Mat 256 256 := Attn.cols (W := 512) 256 (by decide) (m ((c.tc : Thread nD τ).loc main_arg1))

/-- The gradient that comes in. -/
abbrev gs : Mm.Mat 4096 256 := Attn.cols (W := 1024) 768 (by decide) (m ((c.tc : Thread nD τ).loc main_arg2))

theorem q_at (i : Fin 4096) (x : Fin 256) : res_main_v0 (launchContents m c) (ix2 i x) = (qs m c) (ix2 i x) := by
  unfold res_main_v0 qs
  pointwise
  rw [Attn.cols_at]

theorem q0 (i : Fin 4096) (x : Fin 64) : res_main_v4 (launchContents m c) (ix2 i x) = (qs m c) (ix2 i (Attn.lane 0 x)) := by
  rw [← q_at]
  unfold res_main_v4
  pointwise
  rw [Attn.lane_0]

theorem q1 (i : Fin 4096) (x : Fin 64) : res_main_v28 (launchContents m c) (ix2 i x) = (qs m c) (ix2 i (Attn.lane 1 x)) := by
  rw [← q_at]
  unfold res_main_v28
  pointwise
  rfl

theorem q2 (i : Fin 4096) (x : Fin 64) : res_main_v52 (launchContents m c) (ix2 i x) = (qs m c) (ix2 i (Attn.lane 2 x)) := by
  rw [← q_at]
  unfold res_main_v52
  pointwise
  rfl

theorem q3 (i : Fin 4096) (x : Fin 64) : res_main_v76 (launchContents m c) (ix2 i x) = (qs m c) (ix2 i (Attn.lane 3 x)) := by
  rw [← q_at]
  unfold res_main_v76
  pointwise
  rfl

theorem k_at (i : Fin 256) (x : Fin 256) : res_main_v2 (launchContents m c) (ix2 i x) = (ks m c) (ix2 i x) := by
  unfold res_main_v2 ks
  pointwise
  rw [Attn.cols_first]

theorem k0 (i : Fin 256) (x : Fin 64) : res_main_v5 (launchContents m c) (ix2 i x) = (ks m c) (ix2 i (Attn.lane 0 x)) := by
  rw [← k_at]
  unfold res_main_v5
  pointwise
  rw [Attn.lane_0]

theorem k1 (i : Fin 256) (x : Fin 64) : res_main_v29 (launchContents m c) (ix2 i x) = (ks m c) (ix2 i (Attn.lane 1 x)) := by
  rw [← k_at]
  unfold res_main_v29
  pointwise
  rfl

theorem k2 (i : Fin 256) (x : Fin 64) : res_main_v53 (launchContents m c) (ix2 i x) = (ks m c) (ix2 i (Attn.lane 2 x)) := by
  rw [← k_at]
  unfold res_main_v53
  pointwise
  rfl

theorem k3 (i : Fin 256) (x : Fin 64) : res_main_v77 (launchContents m c) (ix2 i x) = (ks m c) (ix2 i (Attn.lane 3 x)) := by
  rw [← k_at]
  unfold res_main_v77
  pointwise
  rfl

theorem v_at (i : Fin 256) (x : Fin 256) : res_main_v3 (launchContents m c) (ix2 i x) = (vs m c) (ix2 i x) := by
  unfold res_main_v3 vs
  pointwise
  rw [Attn.cols_at]

theorem v0 (i : Fin 256) (x : Fin 64) : res_main_v26 (launchContents m c) (ix2 i x) = (vs m c) (ix2 i (Attn.lane 0 x)) := by
  rw [← v_at]
  unfold res_main_v26
  pointwise
  rw [Attn.lane_0]

theorem v1 (i : Fin 256) (x : Fin 64) : res_main_v50 (launchContents m c) (ix2 i x) = (vs m c) (ix2 i (Attn.lane 1 x)) := by
  rw [← v_at]
  unfold res_main_v50
  pointwise
  rfl

theorem v2 (i : Fin 256) (x : Fin 64) : res_main_v74 (launchContents m c) (ix2 i x) = (vs m c) (ix2 i (Attn.lane 2 x)) := by
  rw [← v_at]
  unfold res_main_v74
  pointwise
  rfl

theorem v3 (i : Fin 256) (x : Fin 64) : res_main_v98 (launchContents m c) (ix2 i x) = (vs m c) (ix2 i (Attn.lane 3 x)) := by
  rw [← v_at]
  unfold res_main_v98
  pointwise
  rfl

theorem g_at (i : Fin 4096) (x : Fin 256) : res_main_v1 (launchContents m c) (ix2 i x) = (gs m c) (ix2 i x) := by
  unfold res_main_v1 gs
  pointwise
  rw [Attn.cols_at]

theorem g0 (i : Fin 4096) (x : Fin 64) : res_main_v101 (launchContents m c) (ix2 i x) = (gs m c) (ix2 i (Attn.lane 0 x)) := by
  rw [← g_at]
  unfold res_main_v101
  pointwise
  rw [Attn.lane_0]

theorem g1 (i : Fin 4096) (x : Fin 64) : res_main_v102 (launchContents m c) (ix2 i x) = (gs m c) (ix2 i (Attn.lane 1 x)) := by
  rw [← g_at]
  unfold res_main_v102
  pointwise
  rfl

theorem g2 (i : Fin 4096) (x : Fin 64) : res_main_v103 (launchContents m c) (ix2 i x) = (gs m c) (ix2 i (Attn.lane 2 x)) := by
  rw [← g_at]
  unfold res_main_v103
  pointwise
  rfl

theorem g3 (i : Fin 4096) (x : Fin 64) : res_main_v104 (launchContents m c) (ix2 i x) = (gs m c) (ix2 i (Attn.lane 3 x)) := by
  rw [← g_at]
  unfold res_main_v104
  pointwise
  rfl

theorem top_row (r : Vec Ideal S4096x256 .f32) (i : Fin 4096) :
    Host.reduce FloatOps.maximumf r (constant (F := Ideal) S_ .f32 0xFF800000#32) reducesTo_S4096x256_S4096_d1 h_S_ (ix1 i) = Attn.top fun n => r (ix2 i n) := by
  pointwise
  rfl

theorem s0 (i : Fin 4096) (n : Fin 256) : res_main_v8 (launchContents m c) (ix2 i n) = Attn.score (qs m c) (ks m c) 0 i n := by
  unfold res_main_v8
  pointwise
  simp only [q0, k0]
  rfl

theorem t0 (i : Fin 4096) : res_main_v9 (launchContents m c) (ix1 i) = Attn.top (Attn.score (qs m c) (ks m c) 0 i) := by
  unfold res_main_v9
  exact (top_row _ i).trans (congrArg Attn.top (funext fun n => s0 m c i n))

theorem e0 (i : Fin 4096) (n : Fin 256) : res_main_v18 (launchContents m c) (ix2 i n) = Attn.raised (Attn.score (qs m c) (ks m c) 0 i) n := by
  unfold res_main_v18
  pointwise
  simp only [s0, t0]
  rfl

theorem z0 (i : Fin 4096) (n : Fin 1) : res_main_v20 (launchContents m c) (ix2 i n) = ∑ x : Fin 256, Attn.raised (Attn.score (qs m c) (ks m c) 0 i) x := by
  unfold res_main_v20
  pointwise
  simp only [e0]

theorem p0 (i : Fin 4096) (n : Fin 256) : res_main_v22 (launchContents m c) (ix2 i n) = Attn.soft (Attn.score (qs m c) (ks m c) 0 i) n := by
  unfold res_main_v22
  pointwise
  simp only [e0, z0]
  rfl

theorem w0 (i : Fin 4096) (n : Fin 256) : res_main_v179 (launchContents m c) (ix2 i n) = Attn.dweight (gs m c) (vs m c) 0 i n := by
  unfold res_main_v179
  pointwise
  simp only [g0, v0]
  rfl

theorem d0 (i : Fin 4096) (n : Fin 256) : res_main_v195 (launchContents m c) (ix2 i n) = Attn.dscore (qs m c) (ks m c) (vs m c) (gs m c) 0 i n := by
  unfold res_main_v195
  pointwise
  simp only [w0, e0, z0, Fin.sum_univ_one, zero_add]
  rfl

theorem s1 (i : Fin 4096) (n : Fin 256) : res_main_v32 (launchContents m c) (ix2 i n) = Attn.score (qs m c) (ks m c) 1 i n := by
  unfold res_main_v32
  pointwise
  simp only [q1, k1]
  rfl

theorem t1 (i : Fin 4096) : res_main_v33 (launchContents m c) (ix1 i) = Attn.top (Attn.score (qs m c) (ks m c) 1 i) := by
  unfold res_main_v33
  exact (top_row _ i).trans (congrArg Attn.top (funext fun n => s1 m c i n))

theorem e1 (i : Fin 4096) (n : Fin 256) : res_main_v42 (launchContents m c) (ix2 i n) = Attn.raised (Attn.score (qs m c) (ks m c) 1 i) n := by
  unfold res_main_v42
  pointwise
  simp only [s1, t1]
  rfl

theorem z1 (i : Fin 4096) (n : Fin 1) : res_main_v44 (launchContents m c) (ix2 i n) = ∑ x : Fin 256, Attn.raised (Attn.score (qs m c) (ks m c) 1 i) x := by
  unfold res_main_v44
  pointwise
  simp only [e1]

theorem p1 (i : Fin 4096) (n : Fin 256) : res_main_v46 (launchContents m c) (ix2 i n) = Attn.soft (Attn.score (qs m c) (ks m c) 1 i) n := by
  unfold res_main_v46
  pointwise
  simp only [e1, z1]
  rfl

theorem w1 (i : Fin 4096) (n : Fin 256) : res_main_v154 (launchContents m c) (ix2 i n) = Attn.dweight (gs m c) (vs m c) 1 i n := by
  unfold res_main_v154
  pointwise
  simp only [g1, v1]
  rfl

theorem d1 (i : Fin 4096) (n : Fin 256) : res_main_v170 (launchContents m c) (ix2 i n) = Attn.dscore (qs m c) (ks m c) (vs m c) (gs m c) 1 i n := by
  unfold res_main_v170
  pointwise
  simp only [w1, e1, z1, Fin.sum_univ_one, zero_add]
  rfl

theorem s2 (i : Fin 4096) (n : Fin 256) : res_main_v56 (launchContents m c) (ix2 i n) = Attn.score (qs m c) (ks m c) 2 i n := by
  unfold res_main_v56
  pointwise
  simp only [q2, k2]
  rfl

theorem t2 (i : Fin 4096) : res_main_v57 (launchContents m c) (ix1 i) = Attn.top (Attn.score (qs m c) (ks m c) 2 i) := by
  unfold res_main_v57
  exact (top_row _ i).trans (congrArg Attn.top (funext fun n => s2 m c i n))

theorem e2 (i : Fin 4096) (n : Fin 256) : res_main_v66 (launchContents m c) (ix2 i n) = Attn.raised (Attn.score (qs m c) (ks m c) 2 i) n := by
  unfold res_main_v66
  pointwise
  simp only [s2, t2]
  rfl

theorem z2 (i : Fin 4096) (n : Fin 1) : res_main_v68 (launchContents m c) (ix2 i n) = ∑ x : Fin 256, Attn.raised (Attn.score (qs m c) (ks m c) 2 i) x := by
  unfold res_main_v68
  pointwise
  simp only [e2]

theorem p2 (i : Fin 4096) (n : Fin 256) : res_main_v70 (launchContents m c) (ix2 i n) = Attn.soft (Attn.score (qs m c) (ks m c) 2 i) n := by
  unfold res_main_v70
  pointwise
  simp only [e2, z2]
  rfl

theorem w2 (i : Fin 4096) (n : Fin 256) : res_main_v129 (launchContents m c) (ix2 i n) = Attn.dweight (gs m c) (vs m c) 2 i n := by
  unfold res_main_v129
  pointwise
  simp only [g2, v2]
  rfl

theorem d2 (i : Fin 4096) (n : Fin 256) : res_main_v145 (launchContents m c) (ix2 i n) = Attn.dscore (qs m c) (ks m c) (vs m c) (gs m c) 2 i n := by
  unfold res_main_v145
  pointwise
  simp only [w2, e2, z2, Fin.sum_univ_one, zero_add]
  rfl

theorem s3 (i : Fin 4096) (n : Fin 256) : res_main_v80 (launchContents m c) (ix2 i n) = Attn.score (qs m c) (ks m c) 3 i n := by
  unfold res_main_v80
  pointwise
  simp only [q3, k3]
  rfl

theorem t3 (i : Fin 4096) : res_main_v81 (launchContents m c) (ix1 i) = Attn.top (Attn.score (qs m c) (ks m c) 3 i) := by
  unfold res_main_v81
  exact (top_row _ i).trans (congrArg Attn.top (funext fun n => s3 m c i n))

theorem e3 (i : Fin 4096) (n : Fin 256) : res_main_v90 (launchContents m c) (ix2 i n) = Attn.raised (Attn.score (qs m c) (ks m c) 3 i) n := by
  unfold res_main_v90
  pointwise
  simp only [s3, t3]
  rfl

theorem z3 (i : Fin 4096) (n : Fin 1) : res_main_v92 (launchContents m c) (ix2 i n) = ∑ x : Fin 256, Attn.raised (Attn.score (qs m c) (ks m c) 3 i) x := by
  unfold res_main_v92
  pointwise
  simp only [e3]

theorem p3 (i : Fin 4096) (n : Fin 256) : res_main_v94 (launchContents m c) (ix2 i n) = Attn.soft (Attn.score (qs m c) (ks m c) 3 i) n := by
  unfold res_main_v94
  pointwise
  simp only [e3, z3]
  rfl

theorem w3 (i : Fin 4096) (n : Fin 256) : res_main_v107 (launchContents m c) (ix2 i n) = Attn.dweight (gs m c) (vs m c) 3 i n := by
  unfold res_main_v107
  pointwise
  simp only [g3, v3]
  rfl

theorem d3 (i : Fin 4096) (n : Fin 256) : res_main_v122 (launchContents m c) (ix2 i n) = Attn.dscore (qs m c) (ks m c) (vs m c) (gs m c) 3 i n := by
  unfold res_main_v122
  pointwise
  simp only [w3, e3, z3, Fin.sum_univ_one, zero_add]
  rfl

/-- What the reference returns for the queries. -/
def out_q {F : FTy → Type} [FloatOps F] (V0 : Valuation τ sig (Elt F)) : (Proc.devRef .tc main_v202 : DevRef τ sig).ty.Contents (Elt F) :=
  truncf .bf16 (addf (addf (addf (pad S4096x256 ![0, 192] ![0, 0] ![0, 0] (Host.dotGeneral dot_S4096x256_S256x64_S4096x64_1_0_0_1_n_n none (res_main_v122 V0) (res_main_v77 V0)) (constant S_ .f32 0x00000000#32) pads_S4096x64_S4096x256_000_19200 h_S_) (pad S4096x256 ![0, 128] ![0, 64] ![0, 0] (Host.dotGeneral dot_S4096x256_S256x64_S4096x64_1_0_0_1_n_n none (res_main_v145 V0) (res_main_v53 V0)) (constant S_ .f32 0x00000000#32) pads_S4096x64_S4096x256_000_128640 h_S_)) (pad S4096x256 ![0, 64] ![0, 128] ![0, 0] (Host.dotGeneral dot_S4096x256_S256x64_S4096x64_1_0_0_1_n_n none (res_main_v170 V0) (res_main_v29 V0)) (constant S_ .f32 0x00000000#32) pads_S4096x64_S4096x256_000_641280 h_S_)) (pad S4096x256 ![0, 0] ![0, 192] ![0, 0] (Host.dotGeneral dot_S4096x256_S256x64_S4096x64_1_0_0_1_n_n none (res_main_v195 V0) (res_main_v5 V0)) (constant S_ .f32 0x00000000#32) pads_S4096x64_S4096x256_000_01920 h_S_)) bitsLt_bf16_f32

set_option maxHeartbeats 2000000 in
theorem res_q : out_q (F := Ideal) (launchContents m c) = Attn.resQ (qs m c) (ks m c) (vs m c) (gs m c) := by
  funext y
  idx_vars y
  unfold out_q
  pointwise
  simp only [d0, d1, d2, d3, k0, k1, k2, k3]
  refine (Attn.placed y1 fun h x => ∑ n : Fin 256, Attn.dscore (qs m c) (ks m c) (vs m c) (gs m c) h y0 n * (ks m c) (ix2 n (Attn.lane h x))).trans ?_
  rw [Attn.lane_head]
  rfl

/-- What the reference returns for the keys. -/
def out_k {F : FTy → Type} [FloatOps F] (V0 : Valuation τ sig (Elt F)) : (Proc.devRef .tc main_v199 : DevRef τ sig).ty.Contents (Elt F) :=
  addf (addf (addf (pad S256x256 ![0, 192] ![0, 0] ![0, 0] (Host.dotGeneral dot_S4096x256_S4096x64_S256x64_0_0_1_1_n_n none (res_main_v122 V0) (res_main_v76 V0)) (constant S_ .f32 0x00000000#32) pads_S256x64_S256x256_000_19200 h_S_) (pad S256x256 ![0, 128] ![0, 64] ![0, 0] (Host.dotGeneral dot_S4096x256_S4096x64_S256x64_0_0_1_1_n_n none (res_main_v145 V0) (res_main_v52 V0)) (constant S_ .f32 0x00000000#32) pads_S256x64_S256x256_000_128640 h_S_)) (pad S256x256 ![0, 64] ![0, 128] ![0, 0] (Host.dotGeneral dot_S4096x256_S4096x64_S256x64_0_0_1_1_n_n none (res_main_v170 V0) (res_main_v28 V0)) (constant S_ .f32 0x00000000#32) pads_S256x64_S256x256_000_641280 h_S_)) (pad S256x256 ![0, 0] ![0, 192] ![0, 0] (Host.dotGeneral dot_S4096x256_S4096x64_S256x64_0_0_1_1_n_n none (res_main_v195 V0) (res_main_v4 V0)) (constant S_ .f32 0x00000000#32) pads_S256x64_S256x256_000_01920 h_S_)

set_option maxHeartbeats 2000000 in
theorem res_k : out_k (F := Ideal) (launchContents m c) = Attn.resK (qs m c) (ks m c) (vs m c) (gs m c) := by
  funext y
  idx_vars y
  unfold out_k
  pointwise
  simp only [d0, d1, d2, d3, q0, q1, q2, q3]
  refine (Attn.placed y1 fun h x => ∑ i : Fin 4096, Attn.dscore (qs m c) (ks m c) (vs m c) (gs m c) h i y0 * (qs m c) (ix2 i (Attn.lane h x))).trans ?_
  rw [Attn.lane_head]
  rfl

/-- What the reference returns for the values. -/
def out_v {F : FTy → Type} [FloatOps F] (V0 : Valuation τ sig (Elt F)) : (Proc.devRef .tc main_v181 : DevRef τ sig).ty.Contents (Elt F) :=
  addf (addf (addf (pad S256x256 ![0, 192] ![0, 0] ![0, 0] (transpose S256x64 [1, 0] (Host.dotGeneral dot_S4096x64_S4096x256_S64x256_0_0_1_1_n_n none (res_main_v104 V0) (res_main_v94 V0)) transposes_S64x256_S256x64_1_0) (constant S_ .f32 0x00000000#32) pads_S256x64_S256x256_000_19200 h_S_) (pad S256x256 ![0, 128] ![0, 64] ![0, 0] (transpose S256x64 [1, 0] (Host.dotGeneral dot_S4096x64_S4096x256_S64x256_0_0_1_1_n_n none (res_main_v103 V0) (res_main_v70 V0)) transposes_S64x256_S256x64_1_0) (constant S_ .f32 0x00000000#32) pads_S256x64_S256x256_000_128640 h_S_)) (pad S256x256 ![0, 64] ![0, 128] ![0, 0] (transpose S256x64 [1, 0] (Host.dotGeneral dot_S4096x64_S4096x256_S64x256_0_0_1_1_n_n none (res_main_v102 V0) (res_main_v46 V0)) transposes_S64x256_S256x64_1_0) (constant S_ .f32 0x00000000#32) pads_S256x64_S256x256_000_641280 h_S_)) (pad S256x256 ![0, 0] ![0, 192] ![0, 0] (transpose S256x64 [1, 0] (Host.dotGeneral dot_S4096x64_S4096x256_S64x256_0_0_1_1_n_n none (res_main_v101 V0) (res_main_v22 V0)) transposes_S64x256_S256x64_1_0) (constant S_ .f32 0x00000000#32) pads_S256x64_S256x256_000_01920 h_S_)

set_option maxHeartbeats 2000000 in
theorem res_v : out_v (F := Ideal) (launchContents m c) = Attn.resV (qs m c) (ks m c) (vs m c) (gs m c) := by
  funext y
  idx_vars y
  unfold out_v
  pointwise
  simp only [g0, g1, g2, g3, p0, p1, p2, p3]
  refine (Attn.placed y1 fun h x => ∑ i : Fin 4096, (gs m c) (ix2 i (Attn.lane h x)) * Attn.soft (Attn.score (qs m c) (ks m c) h i) y0).trans ?_
  rw [Attn.lane_head]
  exact Finset.sum_congr (M := EReal) rfl fun i _ => mul_comm _ _

end Cert.CrossGradBRefIdeal.Value

end
-- ==== Proof.lean ====
/-
  The claims about the calls of one training step: each program runs to completion and leaves its arguments alone,
  idealizing rewrote nothing, and over the extended reals every call returns what its reference returns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.GuBwdW
public import proofs.«01_k».proof.Proof.Gen.GuBwdW.Skeleton
public import proofs.«01_k».proof.Proof.Gen.GuBwdW.Launch
public import proofs.«01_k».proof.Proof.Gen.GuBwdW.Points
public import proofs.«01_k».proof.Proof.Gen.GuBwdW.Frame
public import proofs.«01_k».proof.Proof.Gen.GuBwdWIdeal
public import proofs.«01_k».proof.Proof.Gen.GuBwdWIdeal.Skeleton
public import proofs.«01_k».proof.Proof.Gen.GuBwdWIdeal.Launch
public import proofs.«01_k».proof.Proof.Gen.GuBwdWIdeal.Points
public import proofs.«01_k».proof.Proof.Gen.GuBwdWIdeal.Frame
public import proofs.«01_k».proof.Proof.Gen.GuBwdWIdeal.Value
public import proofs.«01_k».proof.Proof.Gen.GuBwdWRefIdeal
public import proofs.«01_k».proof.Proof.Gen.GuBwdWRefIdeal.Run
public import proofs.«01_k».proof.Proof.Gen.GuBwdX
public import proofs.«01_k».proof.Proof.Gen.GuBwdX.Skeleton
public import proofs.«01_k».proof.Proof.Gen.GuBwdX.Launch
public import proofs.«01_k».proof.Proof.Gen.GuBwdX.Points
public import proofs.«01_k».proof.Proof.Gen.GuBwdX.Frame
public import proofs.«01_k».proof.Proof.Gen.GuBwdXIdeal
public import proofs.«01_k».proof.Proof.Gen.GuBwdXIdeal.Skeleton
public import proofs.«01_k».proof.Proof.Gen.GuBwdXIdeal.Launch
public import proofs.«01_k».proof.Proof.Gen.GuBwdXIdeal.Points
public import proofs.«01_k».proof.Proof.Gen.GuBwdXIdeal.Frame
public import proofs.«01_k».proof.Proof.Gen.GuBwdXIdeal.Value
public import proofs.«01_k».proof.Proof.Gen.GuBwdXRefIdeal
public import proofs.«01_k».proof.Proof.Gen.GuBwdXRefIdeal.Run
public import proofs.«01_k».proof.Proof.Gen.GuFwd
public import proofs.«01_k».proof.Proof.Gen.GuFwd.Skeleton
public import proofs.«01_k».proof.Proof.Gen.GuFwd.Launch
public import proofs.«01_k».proof.Proof.Gen.GuFwd.Points
public import proofs.«01_k».proof.Proof.Gen.GuFwd.Frame
public import proofs.«01_k».proof.Proof.Gen.GuFwdIdeal
public import proofs.«01_k».proof.Proof.Gen.GuFwdIdeal.Skeleton
public import proofs.«01_k».proof.Proof.Gen.GuFwdIdeal.Launch
public import proofs.«01_k».proof.Proof.Gen.GuFwdIdeal.Points
public import proofs.«01_k».proof.Proof.Gen.GuFwdIdeal.Frame
public import proofs.«01_k».proof.Proof.Gen.GuFwdIdeal.Value
public import proofs.«01_k».proof.Proof.Gen.GuFwdRefIdeal
public import proofs.«01_k».proof.Proof.Gen.GuFwdRefIdeal.Run
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActIdeal.Value
public import proofs.«01_k».proof.Proof.Gen.DActRefIdeal
public import proofs.«01_k».proof.Proof.Gen.DActRefIdeal.Run
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DnsFwd
public import proofs.«01_k».proof.Proof.Gen.DnsFwd.Skeleton
public import proofs.«01_k».proof.Proof.Gen.DnsFwd.Launch
public import proofs.«01_k».proof.Proof.Gen.DnsFwd.Points
public import proofs.«01_k».proof.Proof.Gen.DnsFwd.Frame
public import proofs.«01_k».proof.Proof.Gen.DnsFwdIdeal
public import proofs.«01_k».proof.Proof.Gen.DnsFwdIdeal.Skeleton
public import proofs.«01_k».proof.Proof.Gen.DnsFwdIdeal.Launch
public import proofs.«01_k».proof.Proof.Gen.DnsFwdIdeal.Points
public import proofs.«01_k».proof.Proof.Gen.DnsFwdIdeal.Frame
public import proofs.«01_k».proof.Proof.Gen.DnsFwdIdeal.Value
public import proofs.«01_k».proof.Proof.Gen.DnsFwdRefIdeal
public import proofs.«01_k».proof.Proof.Gen.DnsFwdRefIdeal.Run
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjAIdeal.Value
public import proofs.«01_k».proof.Proof.Gen.ProjARefIdeal
public import proofs.«01_k».proof.Proof.Gen.ProjARefIdeal.Run
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownNorm
public import proofs.«01_k».proof.Proof.Gen.DownNorm.Skeleton
public import proofs.«01_k».proof.Proof.Gen.DownNorm.Launch
public import proofs.«01_k».proof.Proof.Gen.DownNorm.Points
public import proofs.«01_k».proof.Proof.Gen.DownNorm.Frame
public import proofs.«01_k».proof.Proof.Gen.DownNormIdeal
public import proofs.«01_k».proof.Proof.Gen.DownNormIdeal.Skeleton
public import proofs.«01_k».proof.Proof.Gen.DownNormIdeal.Launch
public import proofs.«01_k».proof.Proof.Gen.DownNormIdeal.Points
public import proofs.«01_k».proof.Proof.Gen.DownNormIdeal.Frame
public import proofs.«01_k».proof.Proof.Gen.DownNormIdeal.Value
public import proofs.«01_k».proof.Proof.Gen.DownNormRefIdeal
public import proofs.«01_k».proof.Proof.Gen.DownNormRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.DMix
public import proofs.«01_k».proof.Proof.Gen.DMix.Skeleton
public import proofs.«01_k».proof.Proof.Gen.DMix.Launch
public import proofs.«01_k».proof.Proof.Gen.DMix.Points
public import proofs.«01_k».proof.Proof.Gen.DMix.Frame
public import proofs.«01_k».proof.Proof.Gen.DMixIdeal
public import proofs.«01_k».proof.Proof.Gen.DMixIdeal.Skeleton
public import proofs.«01_k».proof.Proof.Gen.DMixIdeal.Launch
public import proofs.«01_k».proof.Proof.Gen.DMixIdeal.Points
public import proofs.«01_k».proof.Proof.Gen.DMixIdeal.Frame
public import proofs.«01_k».proof.Proof.Gen.DMixIdeal.Value
public import proofs.«01_k».proof.Proof.Gen.DMixRefIdeal
public import proofs.«01_k».proof.Proof.Gen.DMixRefIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwInA
public import proofs.«01_k».proof.Proof.Gen.DwInA.Skeleton
public import proofs.«01_k».proof.Proof.Gen.DwInA.Launch
public import proofs.«01_k».proof.Proof.Gen.DwInA.Points
public import proofs.«01_k».proof.Proof.Gen.DwInA.Frame
public import proofs.«01_k».proof.Proof.Gen.DwInAIdeal
public import proofs.«01_k».proof.Proof.Gen.DwInAIdeal.Skeleton
public import proofs.«01_k».proof.Proof.Gen.DwInAIdeal.Launch
public import proofs.«01_k».proof.Proof.Gen.DwInAIdeal.Points
public import proofs.«01_k».proof.Proof.Gen.DwInAIdeal.Frame
public import proofs.«01_k».proof.Proof.Gen.DwInAIdeal.Value
public import proofs.«01_k».proof.Proof.Gen.DwInARefIdeal
public import proofs.«01_k».proof.Proof.Gen.DwInARefIdeal.Run
public import proofs.«01_k».proof.Proof.Gen.DwInB
public import proofs.«01_k».proof.Proof.Gen.DwInB.Skeleton
public import proofs.«01_k».proof.Proof.Gen.DwInB.Launch
public import proofs.«01_k».proof.Proof.Gen.DwInB.Points
public import proofs.«01_k».proof.Proof.Gen.DwInB.Frame
public import proofs.«01_k».proof.Proof.Gen.DwInBIdeal
public import proofs.«01_k».proof.Proof.Gen.DwInBIdeal.Skeleton
public import proofs.«01_k».proof.Proof.Gen.DwInBIdeal.Launch
public import proofs.«01_k».proof.Proof.Gen.DwInBIdeal.Points
public import proofs.«01_k».proof.Proof.Gen.DwInBIdeal.Frame
public import proofs.«01_k».proof.Proof.Gen.DwInBIdeal.Value
public import proofs.«01_k».proof.Proof.Gen.DwInBRefIdeal
public import proofs.«01_k».proof.Proof.Gen.DwInBRefIdeal.Run
public import proofs.«01_k».proof.Proof.Gen.DInA
public import proofs.«01_k».proof.Proof.Gen.DInA.Skeleton
public import proofs.«01_k».proof.Proof.Gen.DInA.Launch
public import proofs.«01_k».proof.Proof.Gen.DInA.Points
public import proofs.«01_k».proof.Proof.Gen.DInA.Frame
public import proofs.«01_k».proof.Proof.Gen.DInAIdeal
public import proofs.«01_k».proof.Proof.Gen.DInAIdeal.Skeleton
public import proofs.«01_k».proof.Proof.Gen.DInAIdeal.Launch
public import proofs.«01_k».proof.Proof.Gen.DInAIdeal.Points
public import proofs.«01_k».proof.Proof.Gen.DInAIdeal.Frame
public import proofs.«01_k».proof.Proof.Gen.DInAIdeal.Value
public import proofs.«01_k».proof.Proof.Gen.DInARefIdeal
public import proofs.«01_k».proof.Proof.Gen.DInARefIdeal.Run
public import proofs.«01_k».proof.Proof.Gen.DInB
public import proofs.«01_k».proof.Proof.Gen.DInB.Skeleton
public import proofs.«01_k».proof.Proof.Gen.DInB.Launch
public import proofs.«01_k».proof.Proof.Gen.DInB.Points
public import proofs.«01_k».proof.Proof.Gen.DInB.Frame
public import proofs.«01_k».proof.Proof.Gen.DInBIdeal
public import proofs.«01_k».proof.Proof.Gen.DInBIdeal.Skeleton
public import proofs.«01_k».proof.Proof.Gen.DInBIdeal.Launch
public import proofs.«01_k».proof.Proof.Gen.DInBIdeal.Points
public import proofs.«01_k».proof.Proof.Gen.DInBIdeal.Frame
public import proofs.«01_k».proof.Proof.Gen.DInBIdeal.Value
public import proofs.«01_k».proof.Proof.Gen.DInBRefIdeal
public import proofs.«01_k».proof.Proof.Gen.DInBRefIdeal.Run
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInIdeal.Value
public import proofs.«01_k».proof.Proof.Gen.NormInRefIdeal
public import proofs.«01_k».proof.Proof.Gen.NormInRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvGrad
public import proofs.«01_k».proof.Proof.Gen.MemKvGrad.Skeleton
public import proofs.«01_k».proof.Proof.Gen.MemKvGrad.Launch
public import proofs.«01_k».proof.Proof.Gen.MemKvGrad.Points
public import proofs.«01_k».proof.Proof.Gen.MemKvGrad.Frame
public import proofs.«01_k».proof.Proof.Gen.MemKvGradIdeal
public import proofs.«01_k».proof.Proof.Gen.MemKvGradIdeal.Skeleton
public import proofs.«01_k».proof.Proof.Gen.MemKvGradIdeal.Launch
public import proofs.«01_k».proof.Proof.Gen.MemKvGradIdeal.Points
public import proofs.«01_k».proof.Proof.Gen.MemKvGradIdeal.Frame
public import proofs.«01_k».proof.Proof.Gen.MemKvGradIdeal.Value
public import proofs.«01_k».proof.Proof.Gen.MemKvGradRefIdeal
public import proofs.«01_k».proof.Proof.Gen.MemKvGradRefIdeal.Run
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.AdamGu
public import proofs.«01_k».proof.Proof.Gen.AdamGu.Skeleton
public import proofs.«01_k».proof.Proof.Gen.AdamGu.Launch
public import proofs.«01_k».proof.Proof.Gen.AdamGu.Points
public import proofs.«01_k».proof.Proof.Gen.AdamGu.Frame
public import proofs.«01_k».proof.Proof.Gen.AdamGuIdeal
public import proofs.«01_k».proof.Proof.Gen.AdamGuIdeal.Skeleton
public import proofs.«01_k».proof.Proof.Gen.AdamGuIdeal.Launch
public import proofs.«01_k».proof.Proof.Gen.AdamGuIdeal.Points
public import proofs.«01_k».proof.Proof.Gen.AdamGuIdeal.Frame
public import proofs.«01_k».proof.Proof.Gen.AdamGuIdeal.Value
public import proofs.«01_k».proof.Proof.Gen.AdamGuRefIdeal
public import proofs.«01_k».proof.Proof.Gen.AdamGuRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamMem
public import proofs.«01_k».proof.Proof.Gen.AdamMem.Skeleton
public import proofs.«01_k».proof.Proof.Gen.AdamMem.Launch
public import proofs.«01_k».proof.Proof.Gen.AdamMem.Points
public import proofs.«01_k».proof.Proof.Gen.AdamMem.Frame
public import proofs.«01_k».proof.Proof.Gen.AdamMemIdeal
public import proofs.«01_k».proof.Proof.Gen.AdamMemIdeal.Skeleton
public import proofs.«01_k».proof.Proof.Gen.AdamMemIdeal.Launch
public import proofs.«01_k».proof.Proof.Gen.AdamMemIdeal.Points
public import proofs.«01_k».proof.Proof.Gen.AdamMemIdeal.Frame
public import proofs.«01_k».proof.Proof.Gen.AdamMemIdeal.Value
public import proofs.«01_k».proof.Proof.Gen.AdamMemRefIdeal
public import proofs.«01_k».proof.Proof.Gen.AdamMemRefIdeal.Run
public import proofs.«01_k».proof.Proof.Gen.AdamInA
public import proofs.«01_k».proof.Proof.Gen.AdamInA.Skeleton
public import proofs.«01_k».proof.Proof.Gen.AdamInA.Launch
public import proofs.«01_k».proof.Proof.Gen.AdamInA.Points
public import proofs.«01_k».proof.Proof.Gen.AdamInA.Frame
public import proofs.«01_k».proof.Proof.Gen.AdamInAIdeal
public import proofs.«01_k».proof.Proof.Gen.AdamInAIdeal.Skeleton
public import proofs.«01_k».proof.Proof.Gen.AdamInAIdeal.Launch
public import proofs.«01_k».proof.Proof.Gen.AdamInAIdeal.Points
public import proofs.«01_k».proof.Proof.Gen.AdamInAIdeal.Frame
public import proofs.«01_k».proof.Proof.Gen.AdamInAIdeal.Value
public import proofs.«01_k».proof.Proof.Gen.AdamInARefIdeal
public import proofs.«01_k».proof.Proof.Gen.AdamInARefIdeal.Run
public import proofs.«01_k».proof.Proof.Gen.AdamInB
public import proofs.«01_k».proof.Proof.Gen.AdamInB.Skeleton
public import proofs.«01_k».proof.Proof.Gen.AdamInB.Launch
public import proofs.«01_k».proof.Proof.Gen.AdamInB.Points
public import proofs.«01_k».proof.Proof.Gen.AdamInB.Frame
public import proofs.«01_k».proof.Proof.Gen.AdamInBIdeal
public import proofs.«01_k».proof.Proof.Gen.AdamInBIdeal.Skeleton
public import proofs.«01_k».proof.Proof.Gen.AdamInBIdeal.Launch
public import proofs.«01_k».proof.Proof.Gen.AdamInBIdeal.Points
public import proofs.«01_k».proof.Proof.Gen.AdamInBIdeal.Frame
public import proofs.«01_k».proof.Proof.Gen.AdamInBIdeal.Value
public import proofs.«01_k».proof.Proof.Gen.AdamInBRefIdeal
public import proofs.«01_k».proof.Proof.Gen.AdamInBRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.GluFwd
public import proofs.«01_k».proof.Proof.Gen.GluFwd.Skeleton
public import proofs.«01_k».proof.Proof.Gen.GluFwd.Launch
public import proofs.«01_k».proof.Proof.Gen.GluFwd.Points
public import proofs.«01_k».proof.Proof.Gen.GluFwd.Frame
public import proofs.«01_k».proof.Proof.Gen.GluFwdIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdIdeal.Value
public import proofs.«01_k».proof.Proof.Gen.GluFwdRefIdeal
public import proofs.«01_k».proof.Proof.Gen.GluFwdRefIdeal.Run
public import proofs.«01_k».proof.Proof.Gen.CrossA
public import proofs.«01_k».proof.Proof.Gen.CrossA.Skeleton
public import proofs.«01_k».proof.Proof.Gen.CrossA.Launch
public import proofs.«01_k».proof.Proof.Gen.CrossA.Points
public import proofs.«01_k».proof.Proof.Gen.CrossA.Frame
public import proofs.«01_k».proof.Proof.Gen.CrossAIdeal
public import proofs.«01_k».proof.Proof.Gen.CrossAIdeal.Skeleton
public import proofs.«01_k».proof.Proof.Gen.CrossAIdeal.Launch
public import proofs.«01_k».proof.Proof.Gen.CrossAIdeal.Points
public import proofs.«01_k».proof.Proof.Gen.CrossAIdeal.Frame
public import proofs.«01_k».proof.Proof.Gen.CrossAIdeal.Value
public import proofs.«01_k».proof.Proof.Gen.CrossARefIdeal
public import proofs.«01_k».proof.Proof.Gen.CrossARefIdeal.Run
public import proofs.«01_k».proof.Proof.Gen.CrossB
public import proofs.«01_k».proof.Proof.Gen.CrossB.Skeleton
public import proofs.«01_k».proof.Proof.Gen.CrossB.Launch
public import proofs.«01_k».proof.Proof.Gen.CrossB.Points
public import proofs.«01_k».proof.Proof.Gen.CrossB.Frame
public import proofs.«01_k».proof.Proof.Gen.CrossBIdeal
public import proofs.«01_k».proof.Proof.Gen.CrossBIdeal.Skeleton
public import proofs.«01_k».proof.Proof.Gen.CrossBIdeal.Launch
public import proofs.«01_k».proof.Proof.Gen.CrossBIdeal.Points
public import proofs.«01_k».proof.Proof.Gen.CrossBIdeal.Frame
public import proofs.«01_k».proof.Proof.Gen.CrossBIdeal.Value
public import proofs.«01_k».proof.Proof.Gen.CrossBRefIdeal
public import proofs.«01_k».proof.Proof.Gen.CrossBRefIdeal.Run
public import proofs.«01_k».proof.Proof.Gen.CrossGradA
public import proofs.«01_k».proof.Proof.Gen.CrossGradA.Skeleton
public import proofs.«01_k».proof.Proof.Gen.CrossGradA.Launch
public import proofs.«01_k».proof.Proof.Gen.CrossGradA.Points
public import proofs.«01_k».proof.Proof.Gen.CrossGradA.Frame
public import proofs.«01_k».proof.Proof.Gen.CrossGradAIdeal
public import proofs.«01_k».proof.Proof.Gen.CrossGradAIdeal.Skeleton
public import proofs.«01_k».proof.Proof.Gen.CrossGradAIdeal.Launch
public import proofs.«01_k».proof.Proof.Gen.CrossGradAIdeal.Points
public import proofs.«01_k».proof.Proof.Gen.CrossGradAIdeal.Frame
public import proofs.«01_k».proof.Proof.Gen.CrossGradAIdeal.Value
public import proofs.«01_k».proof.Proof.Gen.CrossGradARefIdeal
public import proofs.«01_k».proof.Proof.Gen.CrossGradARefIdeal.Run
public import proofs.«01_k».proof.Proof.Gen.CrossGradB
public import proofs.«01_k».proof.Proof.Gen.CrossGradB.Skeleton
public import proofs.«01_k».proof.Proof.Gen.CrossGradB.Launch
public import proofs.«01_k».proof.Proof.Gen.CrossGradB.Points
public import proofs.«01_k».proof.Proof.Gen.CrossGradB.Frame
public import proofs.«01_k».proof.Proof.Gen.CrossGradBIdeal
public import proofs.«01_k».proof.Proof.Gen.CrossGradBIdeal.Skeleton
public import proofs.«01_k».proof.Proof.Gen.CrossGradBIdeal.Launch
public import proofs.«01_k».proof.Proof.Gen.CrossGradBIdeal.Points
public import proofs.«01_k».proof.Proof.Gen.CrossGradBIdeal.Frame
public import proofs.«01_k».proof.Proof.Gen.CrossGradBIdeal.Value
public import proofs.«01_k».proof.Proof.Gen.CrossGradBRefIdeal
public import proofs.«01_k».proof.Proof.Gen.CrossGradBRefIdeal.Run
public import proofs.«01_k».proof.Proof.ArrValue
public import proofs.«01_k».proof.Proof.RefValue
public import proofs.«01_k».proof.Proof.GuBwdWValue
public import proofs.«01_k».proof.Proof.GuBwdXValue
public import proofs.«01_k».proof.Proof.GuFwdValue
public import proofs.«01_k».proof.Proof.DActValue
public import proofs.«01_k».proof.Proof.DwDownValue
public import proofs.«01_k».proof.Proof.DnsFwdValue
public import proofs.«01_k».proof.Proof.DnsFwdRefValue
public import proofs.«01_k».proof.Proof.ProjValue
public import proofs.«01_k».proof.Proof.PiecesValue
public import proofs.«01_k».proof.Proof.NormFwdValue
public import proofs.«01_k».proof.Proof.MemKvValue
public import proofs.«01_k».proof.Proof.DInValue
public import proofs.«01_k».proof.Proof.AdamPairValue
public import proofs.«01_k».proof.Proof.AdamOneValue
public import proofs.«01_k».proof.Proof.LossHeadValue
public import proofs.«01_k».proof.Proof.GluFwdValue
public import proofs.«01_k».proof.Proof.CrossValue
public import proofs.«01_k».proof.Proof.CrossGradValue

@[expose] public section

set_option maxRecDepth 16384

noncomputable section
namespace Cert.Proof

open Idealize.ShloMosaic Idealize.ShloMosaic.TcCoe Idealize.SL.Sem

theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2.2.2, Idealize.ShloMosaic.sem_eq_zero_of_no_sems (by decide) r.2⟩)
    (Cert.ReferenceIdeal.Value.run m ρ)

/-- From arguments that agree, both programs return the same gradients. -/
theorem same : Cert.algebraic_KernelIdeal_ReferenceIdeal (hKernelIdeal := Cert.KernelIdeal.Gen.facts)
    (hReferenceIdeal := Cert.ReferenceIdeal.Gen.facts) := by
  intro m g m' g' _ hm
  have ha : ∀ c, Cert.ReferenceIdeal.Value.refArgs m' c = Cert.KernelIdeal.Value.kerArgs m c := by
    intro c
    obtain ⟨h0, h1, h2, h3, h4, h5, h6, h7⟩ := hm c
    unfold Cert.ReferenceIdeal.Value.refArgs Cert.KernelIdeal.Value.kerArgs
    rw [Dns.Args.mk.injEq]
    exact ⟨h0, h1, h2, h3, h4, h5, h6, h7⟩
  refine ⟨fun c => Dns.resDu (Cert.KernelIdeal.Value.kerArgs m c), fun c => Dns.resDw (Cert.KernelIdeal.Value.kerArgs m c),
    fun c => Dns.resDqd (Cert.KernelIdeal.Value.kerArgs m c), fun c => Dns.resDkt (Cert.KernelIdeal.Value.kerArgs m c),
    fun c => Dns.resDatt (Cert.KernelIdeal.Value.kerArgs m c), fun c => Dns.resDdc (Cert.KernelIdeal.Value.kerArgs m c),
    ?_, ?_⟩
  · refine (θ_run Cert.KernelIdeal.defs _ _).mono (fun r h c => ?_) (Cert.KernelIdeal.Value.run_blocks m g)
    obtain ⟨h0, h1, h2, h3, h4, h5, hargs⟩ := h c
    exact ⟨h0.trans (Cert.KernelIdeal.Value.arr_du m c), h1.trans (Cert.KernelIdeal.Value.arr_dw m c),
      h2.trans (Cert.KernelIdeal.Value.arr_dqd m c), h3.trans (Cert.KernelIdeal.Value.arr_dkt m c),
      h4.trans (Cert.KernelIdeal.Value.arr_datt m c), h5.trans (Cert.KernelIdeal.Value.arr_ddc m c), hargs⟩
  · refine (θ_run Cert.ReferenceIdeal.defs _ _).mono (fun r h c => ?_) (Cert.ReferenceIdeal.Value.run m' g')
    obtain ⟨h0, h1, h2, h3, h4, h5, hargs⟩ := h c
    exact ⟨h0.trans ((Cert.ReferenceIdeal.Value.out_du m' c).trans (congrArg Dns.resDu (ha c))), h1.trans ((Cert.ReferenceIdeal.Value.out_dw m' c).trans (congrArg Dns.resDw (ha c))),
      h2.trans ((Cert.ReferenceIdeal.Value.out_dqd m' c).trans (congrArg Dns.resDqd (ha c))), h3.trans ((Cert.ReferenceIdeal.Value.out_dkt m' c).trans (congrArg Dns.resDkt (ha c))),
      h4.trans ((Cert.ReferenceIdeal.Value.out_datt m' c).trans (congrArg Dns.resDatt (ha c))), h5.trans ((Cert.ReferenceIdeal.Value.out_ddc m' c).trans (congrArg Dns.resDdc (ha c))), hargs⟩

theorem frame_GuBwdW : Cert.quiescent_GuBwdWRefIdeal (hGuBwdWRefIdeal := Cert.GuBwdWRefIdeal.Gen.facts) :=
  fun m ρ _ => (θ_run Cert.GuBwdWRefIdeal.defs _ _).mono (fun r h => ⟨fun c => (h c).2, Idealize.ShloMosaic.sem_eq_zero_of_no_sems (by decide) r.2⟩)
    (Cert.GuBwdWRefIdeal.Value.run m ρ)

theorem same_GuBwdW : Cert.algebraic_GuBwdWIdeal_GuBwdWRefIdeal (hGuBwdWIdeal := Cert.GuBwdWIdeal.Gen.facts) (hGuBwdWRefIdeal := Cert.GuBwdWRefIdeal.Gen.facts) := by
  intro m g m' g' _ hm
  refine ⟨fun c => Mm.apart (p := 4) (C := 1408) (N := 5632) rfl (Mm.tn (m ((c.tc : Thread Cert.GuBwdWIdeal.nD Cert.GuBwdWIdeal.τ).loc Cert.GuBwdWIdeal.main_arg0)) (Mm.beside (p := 2) (C := 2816) rfl (m ((c.tc : Thread Cert.GuBwdWIdeal.nD Cert.GuBwdWIdeal.τ).loc Cert.GuBwdWIdeal.main_arg1)))), ?_, ?_⟩
  · refine (θ_run Cert.GuBwdWIdeal.defs _ _).mono (fun r h c => ?_) (Cert.GuBwdWIdeal.Value.run_blocks m g)
    obtain ⟨h0, hargs⟩ := h c
    exact ⟨h0.trans (Cert.GuBwdWIdeal.Value.arr m c), hargs⟩
  · refine (θ_run Cert.GuBwdWRefIdeal.defs _ _).mono (fun r h c => ?_) (Cert.GuBwdWRefIdeal.Value.run m' g')
    obtain ⟨h0, hargs⟩ := h c
    obtain ⟨e0, e1⟩ := hm c
    refine ⟨h0.trans ?_, hargs⟩
    · show _ = Mm.apart (p := 4) (C := 1408) (N := 5632) rfl (Mm.tn (m ((c.tc : Thread Cert.GuBwdWIdeal.nD Cert.GuBwdWIdeal.τ).loc Cert.GuBwdWIdeal.main_arg0)) (Mm.beside (p := 2) (C := 2816) rfl (m ((c.tc : Thread Cert.GuBwdWIdeal.nD Cert.GuBwdWIdeal.τ).loc Cert.GuBwdWIdeal.main_arg1))))
      rw [← e0, ← e1]
      exact Cert.GuBwdWRefIdeal.Value.out _ _

theorem frame_GuBwdX : Cert.quiescent_GuBwdXRefIdeal (hGuBwdXRefIdeal := Cert.GuBwdXRefIdeal.Gen.facts) :=
  fun m ρ _ => (θ_run Cert.GuBwdXRefIdeal.defs _ _).mono (fun r h => ⟨fun c => (h c).2.2, Idealize.ShloMosaic.sem_eq_zero_of_no_sems (by decide) r.2⟩)
    (Cert.GuBwdXRefIdeal.Value.run m ρ)

theorem same_GuBwdX : Cert.algebraic_GuBwdXIdeal_GuBwdXRefIdeal (hGuBwdXIdeal := Cert.GuBwdXIdeal.Gen.facts) (hGuBwdXRefIdeal := Cert.GuBwdXRefIdeal.Gen.facts) := by
  intro m g m' g' _ hm
  refine ⟨fun c => Norm.resX (m ((c.tc : Thread Cert.GuBwdXIdeal.nD Cert.GuBwdXIdeal.τ).loc Cert.GuBwdXIdeal.main_arg2)) (Mm.nt (Mm.beside (p := 2) (C := 2816) (N := 5632) rfl (m ((c.tc : Thread Cert.GuBwdXIdeal.nD Cert.GuBwdXIdeal.τ).loc Cert.GuBwdXIdeal.main_arg0))) (Mm.beside (p := 4) (C := 1408) rfl (m ((c.tc : Thread Cert.GuBwdXIdeal.nD Cert.GuBwdXIdeal.τ).loc Cert.GuBwdXIdeal.main_arg1)))) (m ((c.tc : Thread Cert.GuBwdXIdeal.nD Cert.GuBwdXIdeal.τ).loc Cert.GuBwdXIdeal.main_arg4)) (fun x => (m ((c.tc : Thread Cert.GuBwdXIdeal.nD Cert.GuBwdXIdeal.τ).loc Cert.GuBwdXIdeal.main_arg3)) (ix1 x)), fun c => Norm.resG (m ((c.tc : Thread Cert.GuBwdXIdeal.nD Cert.GuBwdXIdeal.τ).loc Cert.GuBwdXIdeal.main_arg2)) (Mm.nt (Mm.beside (p := 2) (C := 2816) (N := 5632) rfl (m ((c.tc : Thread Cert.GuBwdXIdeal.nD Cert.GuBwdXIdeal.τ).loc Cert.GuBwdXIdeal.main_arg0))) (Mm.beside (p := 4) (C := 1408) rfl (m ((c.tc : Thread Cert.GuBwdXIdeal.nD Cert.GuBwdXIdeal.τ).loc Cert.GuBwdXIdeal.main_arg1)))), ?_, ?_⟩
  · refine (θ_run Cert.GuBwdXIdeal.defs _ _).mono (fun r h c => ?_) (Cert.GuBwdXIdeal.Value.run_blocks m g)
    obtain ⟨h0, h1, hargs⟩ := h c
    exact ⟨h0.trans (Cert.GuBwdXIdeal.Value.arr_x m c), h1.trans (Cert.GuBwdXIdeal.Value.arr_g m c), hargs⟩
  · refine (θ_run Cert.GuBwdXRefIdeal.defs _ _).mono (fun r h c => ?_) (Cert.GuBwdXRefIdeal.Value.run m' g')
    obtain ⟨h0, h1, hargs⟩ := h c
    obtain ⟨e0, e1, e2, e3, e4⟩ := hm c
    refine ⟨h0.trans ?_, h1.trans ?_, hargs⟩
    · show _ = Norm.resX (m ((c.tc : Thread Cert.GuBwdXIdeal.nD Cert.GuBwdXIdeal.τ).loc Cert.GuBwdXIdeal.main_arg2)) (Mm.nt (Mm.beside (p := 2) (C := 2816) (N := 5632) rfl (m ((c.tc : Thread Cert.GuBwdXIdeal.nD Cert.GuBwdXIdeal.τ).loc Cert.GuBwdXIdeal.main_arg0))) (Mm.beside (p := 4) (C := 1408) rfl (m ((c.tc : Thread Cert.GuBwdXIdeal.nD Cert.GuBwdXIdeal.τ).loc Cert.GuBwdXIdeal.main_arg1)))) (m ((c.tc : Thread Cert.GuBwdXIdeal.nD Cert.GuBwdXIdeal.τ).loc Cert.GuBwdXIdeal.main_arg4)) (fun x => (m ((c.tc : Thread Cert.GuBwdXIdeal.nD Cert.GuBwdXIdeal.τ).loc Cert.GuBwdXIdeal.main_arg3)) (ix1 x))
      rw [← e0, ← e1, ← e2, ← e3, ← e4]
      exact Cert.GuBwdXRefIdeal.Value.out0 m' c
    · show _ = Norm.resG (m ((c.tc : Thread Cert.GuBwdXIdeal.nD Cert.GuBwdXIdeal.τ).loc Cert.GuBwdXIdeal.main_arg2)) (Mm.nt (Mm.beside (p := 2) (C := 2816) (N := 5632) rfl (m ((c.tc : Thread Cert.GuBwdXIdeal.nD Cert.GuBwdXIdeal.τ).loc Cert.GuBwdXIdeal.main_arg0))) (Mm.beside (p := 4) (C := 1408) rfl (m ((c.tc : Thread Cert.GuBwdXIdeal.nD Cert.GuBwdXIdeal.τ).loc Cert.GuBwdXIdeal.main_arg1))))
      rw [← e0, ← e1, ← e2]
      exact Cert.GuBwdXRefIdeal.Value.out1 _ _ _

theorem frame_GuFwd : Cert.quiescent_GuFwdRefIdeal (hGuFwdRefIdeal := Cert.GuFwdRefIdeal.Gen.facts) :=
  fun m ρ _ => (θ_run Cert.GuFwdRefIdeal.defs _ _).mono (fun r h => ⟨fun c => (h c).2, Idealize.ShloMosaic.sem_eq_zero_of_no_sems (by decide) r.2⟩)
    (Cert.GuFwdRefIdeal.Value.run m ρ)

theorem same_GuFwd : Cert.algebraic_GuFwdIdeal_GuFwdRefIdeal (hGuFwdIdeal := Cert.GuFwdIdeal.Gen.facts) (hGuFwdRefIdeal := Cert.GuFwdRefIdeal.Gen.facts) := by
  intro m g m' g' _ hm
  refine ⟨fun c => Mm.nn (m ((c.tc : Thread Cert.GuFwdIdeal.nD Cert.GuFwdIdeal.τ).loc Cert.GuFwdIdeal.main_arg0)) (Mm.beside (p := 4) (C := 1408) rfl (m ((c.tc : Thread Cert.GuFwdIdeal.nD Cert.GuFwdIdeal.τ).loc Cert.GuFwdIdeal.main_arg1))), ?_, ?_⟩
  · refine (θ_run Cert.GuFwdIdeal.defs _ _).mono (fun r h c => ?_) (Cert.GuFwdIdeal.Value.run_blocks m g)
    obtain ⟨h0, hargs⟩ := h c
    exact ⟨h0.trans (Cert.GuFwdIdeal.Value.arr m c), hargs⟩
  · refine (θ_run Cert.GuFwdRefIdeal.defs _ _).mono (fun r h c => ?_) (Cert.GuFwdRefIdeal.Value.run m' g')
    obtain ⟨h0, hargs⟩ := h c
    obtain ⟨e0, e1⟩ := hm c
    refine ⟨h0.trans ?_, hargs⟩
    · show _ = Mm.nn (m ((c.tc : Thread Cert.GuFwdIdeal.nD Cert.GuFwdIdeal.τ).loc Cert.GuFwdIdeal.main_arg0)) (Mm.beside (p := 4) (C := 1408) rfl (m ((c.tc : Thread Cert.GuFwdIdeal.nD Cert.GuFwdIdeal.τ).loc Cert.GuFwdIdeal.main_arg1)))
      rw [← e0, ← e1]
      exact Cert.GuFwdRefIdeal.Value.out _ _

theorem frame_DAct : Cert.quiescent_DActRefIdeal (hDActRefIdeal := Cert.DActRefIdeal.Gen.facts) :=
  fun m ρ _ => (θ_run Cert.DActRefIdeal.defs _ _).mono (fun r h => ⟨fun c => (h c).2, Idealize.ShloMosaic.sem_eq_zero_of_no_sems (by decide) r.2⟩)
    (Cert.DActRefIdeal.Value.run m ρ)

theorem same_DAct : Cert.algebraic_DActIdeal_DActRefIdeal (hDActIdeal := Cert.DActIdeal.Gen.facts) (hDActRefIdeal := Cert.DActRefIdeal.Gen.facts) := by
  intro m g m' g' _ hm
  refine ⟨fun c => Mm.nt (m ((c.tc : Thread Cert.DActIdeal.nD Cert.DActIdeal.τ).loc Cert.DActIdeal.main_arg0)) (m ((c.tc : Thread Cert.DActIdeal.nD Cert.DActIdeal.τ).loc Cert.DActIdeal.main_arg1)), ?_, ?_⟩
  · refine (θ_run Cert.DActIdeal.defs _ _).mono (fun r h c => ?_) (Cert.DActIdeal.Value.run_blocks m g)
    obtain ⟨h0, hargs⟩ := h c
    exact ⟨h0.trans (Cert.DActIdeal.Value.arr m c), hargs⟩
  · refine (θ_run Cert.DActRefIdeal.defs _ _).mono (fun r h c => ?_) (Cert.DActRefIdeal.Value.run m' g')
    obtain ⟨h0, hargs⟩ := h c
    obtain ⟨e0, e1⟩ := hm c
    refine ⟨h0.trans ?_, hargs⟩
    · show _ = Mm.nt (m ((c.tc : Thread Cert.DActIdeal.nD Cert.DActIdeal.τ).loc Cert.DActIdeal.main_arg0)) (m ((c.tc : Thread Cert.DActIdeal.nD Cert.DActIdeal.τ).loc Cert.DActIdeal.main_arg1))
      rw [← e0, ← e1]
      exact Cert.DActRefIdeal.Value.out _ _

theorem frame_DwDown : Cert.quiescent_DwDownRefIdeal (hDwDownRefIdeal := Cert.DwDownRefIdeal.Gen.facts) :=
  fun m ρ _ => (θ_run Cert.DwDownRefIdeal.defs _ _).mono (fun r h => ⟨fun c => (h c).2, Idealize.ShloMosaic.sem_eq_zero_of_no_sems (by decide) r.2⟩)
    (Cert.DwDownRefIdeal.Value.run m ρ)

theorem same_DwDown : Cert.algebraic_DwDownIdeal_DwDownRefIdeal (hDwDownIdeal := Cert.DwDownIdeal.Gen.facts) (hDwDownRefIdeal := Cert.DwDownRefIdeal.Gen.facts) := by
  intro m g m' g' _ hm
  refine ⟨fun c => Mm.tn (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1)), ?_, ?_⟩
  · refine (θ_run Cert.DwDownIdeal.defs _ _).mono (fun r h c => ?_) (Cert.DwDownIdeal.Value.run_blocks m g)
    obtain ⟨h0, hargs⟩ := h c
    exact ⟨h0.trans (Cert.DwDownIdeal.Value.arr m c), hargs⟩
  · refine (θ_run Cert.DwDownRefIdeal.defs _ _).mono (fun r h c => ?_) (Cert.DwDownRefIdeal.Value.run m' g')
    obtain ⟨h0, hargs⟩ := h c
    obtain ⟨e0, e1⟩ := hm c
    refine ⟨h0.trans ?_, hargs⟩
    · show _ = Mm.tn (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1))
      rw [← e0, ← e1]
      exact Cert.DwDownRefIdeal.Value.out _ _

theorem frame_DnsFwd : Cert.quiescent_DnsFwdRefIdeal (hDnsFwdRefIdeal := Cert.DnsFwdRefIdeal.Gen.facts) :=
  fun m ρ _ => (θ_run Cert.DnsFwdRefIdeal.defs _ _).mono (fun r h => ⟨fun c => (h c).2.2, Idealize.ShloMosaic.sem_eq_zero_of_no_sems (by decide) r.2⟩)
    (Cert.DnsFwdRefIdeal.Value.run m ρ)

theorem same_DnsFwd : Cert.algebraic_DnsFwdIdeal_DnsFwdRefIdeal (hDnsFwdIdeal := Cert.DnsFwdIdeal.Gen.facts) (hDnsFwdRefIdeal := Cert.DnsFwdRefIdeal.Gen.facts) := by
  intro m g m' g' _ hm
  have ha : ∀ c, Cert.DnsFwdRefIdeal.Value.refArgs m' c = Cert.DnsFwdIdeal.Value.kerArgs m c := by
    intro c
    obtain ⟨e0, e1, e2, e3, e4, e5⟩ := hm c
    unfold Cert.DnsFwdRefIdeal.Value.refArgs Cert.DnsFwdIdeal.Value.kerArgs
    rw [Scan.Args.mk.injEq]
    exact ⟨e0, e1, e2, e3, e4, e5⟩
  refine ⟨fun c => Scan.resOut (Cert.DnsFwdIdeal.Value.kerArgs m c), fun c => Scan.resStates (Cert.DnsFwdIdeal.Value.kerArgs m c), ?_, ?_⟩
  · refine (θ_run Cert.DnsFwdIdeal.defs _ _).mono (fun r h c => ?_) (Cert.DnsFwdIdeal.Value.run_blocks m g)
    obtain ⟨h0, h1, hargs⟩ := h c
    exact ⟨h0.trans (Cert.DnsFwdIdeal.Value.arr_out m c), h1.trans (Cert.DnsFwdIdeal.Value.arr_states m c), hargs⟩
  · refine (θ_run Cert.DnsFwdRefIdeal.defs _ _).mono (fun r h c => ?_) (Cert.DnsFwdRefIdeal.Value.run m' g')
    obtain ⟨h0, h1, hargs⟩ := h c
    exact ⟨h0.trans ((Cert.DnsFwdRefIdeal.Value.out_rows m' c).trans (congrArg Scan.resOut (ha c))),
      h1.trans ((Cert.DnsFwdRefIdeal.Value.out_states m' c).trans (congrArg Scan.resStates (ha c))), hargs⟩

theorem frame_ProjA : Cert.quiescent_ProjARefIdeal (hProjARefIdeal := Cert.ProjARefIdeal.Gen.facts) :=
  fun m ρ _ => (θ_run Cert.ProjARefIdeal.defs _ _).mono (fun r h => ⟨fun c => (h c).2, Idealize.ShloMosaic.sem_eq_zero_of_no_sems (by decide) r.2⟩)
    (Cert.ProjARefIdeal.Value.run m ρ)

theorem same_ProjA : Cert.algebraic_ProjAIdeal_ProjARefIdeal (hProjAIdeal := Cert.ProjAIdeal.Gen.facts) (hProjARefIdeal := Cert.ProjARefIdeal.Gen.facts) := by
  intro m g m' g' _ hm
  refine ⟨fun c => Mm.nn (m ((c.tc : Thread Cert.ProjAIdeal.nD Cert.ProjAIdeal.τ).loc Cert.ProjAIdeal.main_arg0)) (m ((c.tc : Thread Cert.ProjAIdeal.nD Cert.ProjAIdeal.τ).loc Cert.ProjAIdeal.main_arg1)), ?_, ?_⟩
  · refine (θ_run Cert.ProjAIdeal.defs _ _).mono (fun r h c => ?_) (Cert.ProjAIdeal.Value.run_blocks m g)
    obtain ⟨h0, hargs⟩ := h c
    exact ⟨h0.trans (Cert.ProjAIdeal.Value.arr m c), hargs⟩
  · refine (θ_run Cert.ProjARefIdeal.defs _ _).mono (fun r h c => ?_) (Cert.ProjARefIdeal.Value.run m' g')
    obtain ⟨h0, hargs⟩ := h c
    obtain ⟨e0, e1⟩ := hm c
    refine ⟨h0.trans ?_, hargs⟩
    · show _ = Mm.nn (m ((c.tc : Thread Cert.ProjAIdeal.nD Cert.ProjAIdeal.τ).loc Cert.ProjAIdeal.main_arg0)) (m ((c.tc : Thread Cert.ProjAIdeal.nD Cert.ProjAIdeal.τ).loc Cert.ProjAIdeal.main_arg1))
      rw [← e0, ← e1]
      exact Cert.ProjARefIdeal.Value.out _ _

theorem frame_ProjB : Cert.quiescent_ProjBRefIdeal (hProjBRefIdeal := Cert.ProjBRefIdeal.Gen.facts) :=
  fun m ρ _ => (θ_run Cert.ProjBRefIdeal.defs _ _).mono (fun r h => ⟨fun c => (h c).2, Idealize.ShloMosaic.sem_eq_zero_of_no_sems (by decide) r.2⟩)
    (Cert.ProjBRefIdeal.Value.run m ρ)

theorem same_ProjB : Cert.algebraic_ProjBIdeal_ProjBRefIdeal (hProjBIdeal := Cert.ProjBIdeal.Gen.facts) (hProjBRefIdeal := Cert.ProjBRefIdeal.Gen.facts) := by
  intro m g m' g' _ hm
  refine ⟨fun c => Mm.nn (m ((c.tc : Thread Cert.ProjBIdeal.nD Cert.ProjBIdeal.τ).loc Cert.ProjBIdeal.main_arg0)) (m ((c.tc : Thread Cert.ProjBIdeal.nD Cert.ProjBIdeal.τ).loc Cert.ProjBIdeal.main_arg1)), ?_, ?_⟩
  · refine (θ_run Cert.ProjBIdeal.defs _ _).mono (fun r h c => ?_) (Cert.ProjBIdeal.Value.run_blocks m g)
    obtain ⟨h0, hargs⟩ := h c
    exact ⟨h0.trans (Cert.ProjBIdeal.Value.arr m c), hargs⟩
  · refine (θ_run Cert.ProjBRefIdeal.defs _ _).mono (fun r h c => ?_) (Cert.ProjBRefIdeal.Value.run m' g')
    obtain ⟨h0, hargs⟩ := h c
    obtain ⟨e0, e1⟩ := hm c
    refine ⟨h0.trans ?_, hargs⟩
    · show _ = Mm.nn (m ((c.tc : Thread Cert.ProjBIdeal.nD Cert.ProjBIdeal.τ).loc Cert.ProjBIdeal.main_arg0)) (m ((c.tc : Thread Cert.ProjBIdeal.nD Cert.ProjBIdeal.τ).loc Cert.ProjBIdeal.main_arg1))
      rw [← e0, ← e1]
      exact Cert.ProjBRefIdeal.Value.out _ _

theorem frame_Down : Cert.quiescent_DownRefIdeal (hDownRefIdeal := Cert.DownRefIdeal.Gen.facts) :=
  fun m ρ _ => (θ_run Cert.DownRefIdeal.defs _ _).mono (fun r h => ⟨fun c => (h c).2, Idealize.ShloMosaic.sem_eq_zero_of_no_sems (by decide) r.2⟩)
    (Cert.DownRefIdeal.Value.run m ρ)

theorem same_Down : Cert.algebraic_DownIdeal_DownRefIdeal (hDownIdeal := Cert.DownIdeal.Gen.facts) (hDownRefIdeal := Cert.DownRefIdeal.Gen.facts) := by
  intro m g m' g' _ hm
  refine ⟨fun c => Mm.plus (m ((c.tc : Thread Cert.DownIdeal.nD Cert.DownIdeal.τ).loc Cert.DownIdeal.main_arg2)) (Mm.nn (m ((c.tc : Thread Cert.DownIdeal.nD Cert.DownIdeal.τ).loc Cert.DownIdeal.main_arg0)) (m ((c.tc : Thread Cert.DownIdeal.nD Cert.DownIdeal.τ).loc Cert.DownIdeal.main_arg1))), ?_, ?_⟩
  · refine (θ_run Cert.DownIdeal.defs _ _).mono (fun r h c => ?_) (Cert.DownIdeal.Value.run_blocks m g)
    obtain ⟨h0, hargs⟩ := h c
    exact ⟨h0.trans (Cert.DownIdeal.Value.arr m c), hargs⟩
  · refine (θ_run Cert.DownRefIdeal.defs _ _).mono (fun r h c => ?_) (Cert.DownRefIdeal.Value.run m' g')
    obtain ⟨h0, hargs⟩ := h c
    obtain ⟨e0, e1, e2⟩ := hm c
    refine ⟨h0.trans ?_, hargs⟩
    · show _ = Mm.plus (m ((c.tc : Thread Cert.DownIdeal.nD Cert.DownIdeal.τ).loc Cert.DownIdeal.main_arg2)) (Mm.nn (m ((c.tc : Thread Cert.DownIdeal.nD Cert.DownIdeal.τ).loc Cert.DownIdeal.main_arg0)) (m ((c.tc : Thread Cert.DownIdeal.nD Cert.DownIdeal.τ).loc Cert.DownIdeal.main_arg1)))
      rw [← e0, ← e1, ← e2]
      exact Cert.DownRefIdeal.Value.out _ _ _

theorem frame_DownNorm : Cert.quiescent_DownNormRefIdeal (hDownNormRefIdeal := Cert.DownNormRefIdeal.Gen.facts) :=
  fun m ρ _ => (θ_run Cert.DownNormRefIdeal.defs _ _).mono (fun r h => ⟨fun c => (h c).2.2, Idealize.ShloMosaic.sem_eq_zero_of_no_sems (by decide) r.2⟩)
    (Cert.DownNormRefIdeal.Value.run m ρ)

theorem same_DownNorm : Cert.algebraic_DownNormIdeal_DownNormRefIdeal (hDownNormIdeal := Cert.DownNormIdeal.Gen.facts) (hDownNormRefIdeal := Cert.DownNormRefIdeal.Gen.facts) := by
  intro m g m' g' _ hm
  refine ⟨fun c => Mm.plus (m ((c.tc : Thread Cert.DownNormIdeal.nD Cert.DownNormIdeal.τ).loc Cert.DownNormIdeal.main_arg2)) (Mm.nn (m ((c.tc : Thread Cert.DownNormIdeal.nD Cert.DownNormIdeal.τ).loc Cert.DownNormIdeal.main_arg0)) (m ((c.tc : Thread Cert.DownNormIdeal.nD Cert.DownNormIdeal.τ).loc Cert.DownNormIdeal.main_arg1))), fun c => Norm.res (Mm.plus (m ((c.tc : Thread Cert.DownNormIdeal.nD Cert.DownNormIdeal.τ).loc Cert.DownNormIdeal.main_arg2)) (Mm.nn (m ((c.tc : Thread Cert.DownNormIdeal.nD Cert.DownNormIdeal.τ).loc Cert.DownNormIdeal.main_arg0)) (m ((c.tc : Thread Cert.DownNormIdeal.nD Cert.DownNormIdeal.τ).loc Cert.DownNormIdeal.main_arg1)))) (fun x => (m ((c.tc : Thread Cert.DownNormIdeal.nD Cert.DownNormIdeal.τ).loc Cert.DownNormIdeal.main_arg3)) (ix1 x)), ?_, ?_⟩
  · refine (θ_run Cert.DownNormIdeal.defs _ _).mono (fun r h c => ?_) (Cert.DownNormIdeal.Value.run_blocks m g)
    obtain ⟨h0, h1, hargs⟩ := h c
    exact ⟨h0.trans (Cert.DownNormIdeal.Value.arr_h m c), h1.trans (Cert.DownNormIdeal.Value.arr_n m c), hargs⟩
  · refine (θ_run Cert.DownNormRefIdeal.defs _ _).mono (fun r h c => ?_) (Cert.DownNormRefIdeal.Value.run m' g')
    obtain ⟨h0, h1, hargs⟩ := h c
    obtain ⟨e0, e1, e2, e3⟩ := hm c
    refine ⟨h0.trans ?_, h1.trans ?_, hargs⟩
    · show _ = Mm.plus (m ((c.tc : Thread Cert.DownNormIdeal.nD Cert.DownNormIdeal.τ).loc Cert.DownNormIdeal.main_arg2)) (Mm.nn (m ((c.tc : Thread Cert.DownNormIdeal.nD Cert.DownNormIdeal.τ).loc Cert.DownNormIdeal.main_arg0)) (m ((c.tc : Thread Cert.DownNormIdeal.nD Cert.DownNormIdeal.τ).loc Cert.DownNormIdeal.main_arg1)))
      rw [← e0, ← e1, ← e2]
      exact Cert.DownNormRefIdeal.Value.out_h _ _ _
    · show _ = Norm.res (Mm.plus (m ((c.tc : Thread Cert.DownNormIdeal.nD Cert.DownNormIdeal.τ).loc Cert.DownNormIdeal.main_arg2)) (Mm.nn (m ((c.tc : Thread Cert.DownNormIdeal.nD Cert.DownNormIdeal.τ).loc Cert.DownNormIdeal.main_arg0)) (m ((c.tc : Thread Cert.DownNormIdeal.nD Cert.DownNormIdeal.τ).loc Cert.DownNormIdeal.main_arg1)))) (fun x => (m ((c.tc : Thread Cert.DownNormIdeal.nD Cert.DownNormIdeal.τ).loc Cert.DownNormIdeal.main_arg3)) (ix1 x))
      rw [← e0, ← e1, ← e2, ← e3]
      exact Cert.DownNormRefIdeal.Value.out_n _ _ _ _

theorem frame_OutProj : Cert.quiescent_OutProjRefIdeal (hOutProjRefIdeal := Cert.OutProjRefIdeal.Gen.facts) :=
  fun m ρ _ => (θ_run Cert.OutProjRefIdeal.defs _ _).mono (fun r h => ⟨fun c => (h c).2.2, Idealize.ShloMosaic.sem_eq_zero_of_no_sems (by decide) r.2⟩)
    (Cert.OutProjRefIdeal.Value.run m ρ)

theorem same_OutProj : Cert.algebraic_OutProjIdeal_OutProjRefIdeal (hOutProjIdeal := Cert.OutProjIdeal.Gen.facts) (hOutProjRefIdeal := Cert.OutProjRefIdeal.Gen.facts) := by
  intro m g m' g' _ hm
  refine ⟨fun c => Mm.plus (m ((c.tc : Thread Cert.OutProjIdeal.nD Cert.OutProjIdeal.τ).loc Cert.OutProjIdeal.main_arg3)) (Mm.nn (Mm.pair (N := 1024) rfl (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1))) (m ((c.tc : Thread Cert.OutProjIdeal.nD Cert.OutProjIdeal.τ).loc Cert.OutProjIdeal.main_arg2))), fun c => Norm.res (Mm.plus (m ((c.tc : Thread Cert.OutProjIdeal.nD Cert.OutProjIdeal.τ).loc Cert.OutProjIdeal.main_arg3)) (Mm.nn (Mm.pair (N := 1024) rfl (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1))) (m ((c.tc : Thread Cert.OutProjIdeal.nD Cert.OutProjIdeal.τ).loc Cert.OutProjIdeal.main_arg2)))) (fun x => (m ((c.tc : Thread Cert.OutProjIdeal.nD Cert.OutProjIdeal.τ).loc Cert.OutProjIdeal.main_arg4)) (ix1 x)), ?_, ?_⟩
  · refine (θ_run Cert.OutProjIdeal.defs _ _).mono (fun r h c => ?_) (Cert.OutProjIdeal.Value.run_blocks m g)
    obtain ⟨h0, h1, hargs⟩ := h c
    exact ⟨h0.trans (Cert.OutProjIdeal.Value.arr_h m c), h1.trans (Cert.OutProjIdeal.Value.arr_n m c), hargs⟩
  · refine (θ_run Cert.OutProjRefIdeal.defs _ _).mono (fun r h c => ?_) (Cert.OutProjRefIdeal.Value.run m' g')
    obtain ⟨h0, h1, hargs⟩ := h c
    obtain ⟨e0, e1, e2, e3, e4⟩ := hm c
    refine ⟨h0.trans ?_, h1.trans ?_, hargs⟩
    · show _ = Mm.plus (m ((c.tc : Thread Cert.OutProjIdeal.nD Cert.OutProjIdeal.τ).loc Cert.OutProjIdeal.main_arg3)) (Mm.nn (Mm.pair (N := 1024) rfl (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1))) (m ((c.tc : Thread Cert.OutProjIdeal.nD Cert.OutProjIdeal.τ).loc Cert.OutProjIdeal.main_arg2)))
      rw [← e0, ← e1, ← e2, ← e3]
      exact Cert.OutProjRefIdeal.Value.out_h _ _ _ _
    · show _ = Norm.res (Mm.plus (m ((c.tc : Thread Cert.OutProjIdeal.nD Cert.OutProjIdeal.τ).loc Cert.OutProjIdeal.main_arg3)) (Mm.nn (Mm.pair (N := 1024) rfl (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1))) (m ((c.tc : Thread Cert.OutProjIdeal.nD Cert.OutProjIdeal.τ).loc Cert.OutProjIdeal.main_arg2)))) (fun x => (m ((c.tc : Thread Cert.OutProjIdeal.nD Cert.OutProjIdeal.τ).loc Cert.OutProjIdeal.main_arg4)) (ix1 x))
      rw [← e0, ← e1, ← e2, ← e3, ← e4]
      exact Cert.OutProjRefIdeal.Value.out_n _ _ _ _ _

theorem frame_DMix : Cert.quiescent_DMixRefIdeal (hDMixRefIdeal := Cert.DMixRefIdeal.Gen.facts) :=
  fun m ρ _ => (θ_run Cert.DMixRefIdeal.defs _ _).mono (fun r h => ⟨fun c => (h c).2, Idealize.ShloMosaic.sem_eq_zero_of_no_sems (by decide) r.2⟩)
    (Cert.DMixRefIdeal.Value.run m ρ)

theorem same_DMix : Cert.algebraic_DMixIdeal_DMixRefIdeal (hDMixIdeal := Cert.DMixIdeal.Gen.facts) (hDMixRefIdeal := Cert.DMixRefIdeal.Gen.facts) := by
  intro m g m' g' _ hm
  refine ⟨fun c => Mm.nt (m ((c.tc : Thread Cert.DMixIdeal.nD Cert.DMixIdeal.τ).loc Cert.DMixIdeal.main_arg0)) (m ((c.tc : Thread Cert.DMixIdeal.nD Cert.DMixIdeal.τ).loc Cert.DMixIdeal.main_arg1)), ?_, ?_⟩
  · refine (θ_run Cert.DMixIdeal.defs _ _).mono (fun r h c => ?_) (Cert.DMixIdeal.Value.run_blocks m g)
    obtain ⟨h0, hargs⟩ := h c
    exact ⟨h0.trans (Cert.DMixIdeal.Value.arr m c), hargs⟩
  · refine (θ_run Cert.DMixRefIdeal.defs _ _).mono (fun r h c => ?_) (Cert.DMixRefIdeal.Value.run m' g')
    obtain ⟨h0, hargs⟩ := h c
    obtain ⟨e0, e1⟩ := hm c
    refine ⟨h0.trans ?_, hargs⟩
    · show _ = Mm.nt (m ((c.tc : Thread Cert.DMixIdeal.nD Cert.DMixIdeal.τ).loc Cert.DMixIdeal.main_arg0)) (m ((c.tc : Thread Cert.DMixIdeal.nD Cert.DMixIdeal.τ).loc Cert.DMixIdeal.main_arg1))
      rw [← e0, ← e1]
      exact Cert.DMixRefIdeal.Value.out _ _

theorem frame_DwOut : Cert.quiescent_DwOutRefIdeal (hDwOutRefIdeal := Cert.DwOutRefIdeal.Gen.facts) :=
  fun m ρ _ => (θ_run Cert.DwOutRefIdeal.defs _ _).mono (fun r h => ⟨fun c => (h c).2, Idealize.ShloMosaic.sem_eq_zero_of_no_sems (by decide) r.2⟩)
    (Cert.DwOutRefIdeal.Value.run m ρ)

theorem same_DwOut : Cert.algebraic_DwOutIdeal_DwOutRefIdeal (hDwOutIdeal := Cert.DwOutIdeal.Gen.facts) (hDwOutRefIdeal := Cert.DwOutRefIdeal.Gen.facts) := by
  intro m g m' g' _ hm
  refine ⟨fun c => Mm.tn (Mm.pair (N := 1024) rfl (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1))) (m ((c.tc : Thread Cert.DwOutIdeal.nD Cert.DwOutIdeal.τ).loc Cert.DwOutIdeal.main_arg2)), ?_, ?_⟩
  · refine (θ_run Cert.DwOutIdeal.defs _ _).mono (fun r h c => ?_) (Cert.DwOutIdeal.Value.run_blocks m g)
    obtain ⟨h0, hargs⟩ := h c
    exact ⟨h0.trans (Cert.DwOutIdeal.Value.arr m c), hargs⟩
  · refine (θ_run Cert.DwOutRefIdeal.defs _ _).mono (fun r h c => ?_) (Cert.DwOutRefIdeal.Value.run m' g')
    obtain ⟨h0, hargs⟩ := h c
    obtain ⟨e0, e1, e2⟩ := hm c
    refine ⟨h0.trans ?_, hargs⟩
    · show _ = Mm.tn (Mm.pair (N := 1024) rfl (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1))) (m ((c.tc : Thread Cert.DwOutIdeal.nD Cert.DwOutIdeal.τ).loc Cert.DwOutIdeal.main_arg2))
      rw [← e0, ← e1, ← e2]
      exact Cert.DwOutRefIdeal.Value.out _ _ _

theorem frame_DwInA : Cert.quiescent_DwInARefIdeal (hDwInARefIdeal := Cert.DwInARefIdeal.Gen.facts) :=
  fun m ρ _ => (θ_run Cert.DwInARefIdeal.defs _ _).mono (fun r h => ⟨fun c => (h c).2, Idealize.ShloMosaic.sem_eq_zero_of_no_sems (by decide) r.2⟩)
    (Cert.DwInARefIdeal.Value.run m ρ)

theorem same_DwInA : Cert.algebraic_DwInAIdeal_DwInARefIdeal (hDwInAIdeal := Cert.DwInAIdeal.Gen.facts) (hDwInARefIdeal := Cert.DwInARefIdeal.Gen.facts) := by
  intro m g m' g' _ hm
  refine ⟨fun c => Mm.tn (m ((c.tc : Thread Cert.DwInAIdeal.nD Cert.DwInAIdeal.τ).loc Cert.DwInAIdeal.main_arg0)) (Mm.pair (N := 1280) rfl (m ((c.tc : Thread Cert.DwInAIdeal.nD Cert.DwInAIdeal.τ).loc Cert.DwInAIdeal.main_arg1)) (m ((c.tc : Thread Cert.DwInAIdeal.nD Cert.DwInAIdeal.τ).loc Cert.DwInAIdeal.main_arg2))), ?_, ?_⟩
  · refine (θ_run Cert.DwInAIdeal.defs _ _).mono (fun r h c => ?_) (Cert.DwInAIdeal.Value.run_blocks m g)
    obtain ⟨h0, hargs⟩ := h c
    exact ⟨h0.trans (Cert.DwInAIdeal.Value.arr m c), hargs⟩
  · refine (θ_run Cert.DwInARefIdeal.defs _ _).mono (fun r h c => ?_) (Cert.DwInARefIdeal.Value.run m' g')
    obtain ⟨h0, hargs⟩ := h c
    obtain ⟨e0, e1, e2⟩ := hm c
    refine ⟨h0.trans ?_, hargs⟩
    · show _ = Mm.tn (m ((c.tc : Thread Cert.DwInAIdeal.nD Cert.DwInAIdeal.τ).loc Cert.DwInAIdeal.main_arg0)) (Mm.pair (N := 1280) rfl (m ((c.tc : Thread Cert.DwInAIdeal.nD Cert.DwInAIdeal.τ).loc Cert.DwInAIdeal.main_arg1)) (m ((c.tc : Thread Cert.DwInAIdeal.nD Cert.DwInAIdeal.τ).loc Cert.DwInAIdeal.main_arg2)))
      rw [← e0, ← e1, ← e2]
      exact Cert.DwInARefIdeal.Value.out _ _ _

theorem frame_DwInB : Cert.quiescent_DwInBRefIdeal (hDwInBRefIdeal := Cert.DwInBRefIdeal.Gen.facts) :=
  fun m ρ _ => (θ_run Cert.DwInBRefIdeal.defs _ _).mono (fun r h => ⟨fun c => (h c).2, Idealize.ShloMosaic.sem_eq_zero_of_no_sems (by decide) r.2⟩)
    (Cert.DwInBRefIdeal.Value.run m ρ)

theorem same_DwInB : Cert.algebraic_DwInBIdeal_DwInBRefIdeal (hDwInBIdeal := Cert.DwInBIdeal.Gen.facts) (hDwInBRefIdeal := Cert.DwInBRefIdeal.Gen.facts) := by
  intro m g m' g' _ hm
  refine ⟨fun c => Mm.tn (m ((c.tc : Thread Cert.DwInBIdeal.nD Cert.DwInBIdeal.τ).loc Cert.DwInBIdeal.main_arg0)) (Mm.pair (N := 2688) rfl (m ((c.tc : Thread Cert.DwInBIdeal.nD Cert.DwInBIdeal.τ).loc Cert.DwInBIdeal.main_arg1)) (Mm.pair (N := 1152) rfl (m ((c.tc : Thread Cert.DwInBIdeal.nD Cert.DwInBIdeal.τ).loc Cert.DwInBIdeal.main_arg2)) (Mm.pair (N := 384) rfl (m ((c.tc : Thread Cert.DwInBIdeal.nD Cert.DwInBIdeal.τ).loc Cert.DwInBIdeal.main_arg3)) (m ((c.tc : Thread Cert.DwInBIdeal.nD Cert.DwInBIdeal.τ).loc Cert.DwInBIdeal.main_arg4))))), ?_, ?_⟩
  · refine (θ_run Cert.DwInBIdeal.defs _ _).mono (fun r h c => ?_) (Cert.DwInBIdeal.Value.run_blocks m g)
    obtain ⟨h0, hargs⟩ := h c
    exact ⟨h0.trans (Cert.DwInBIdeal.Value.arr m c), hargs⟩
  · refine (θ_run Cert.DwInBRefIdeal.defs _ _).mono (fun r h c => ?_) (Cert.DwInBRefIdeal.Value.run m' g')
    obtain ⟨h0, hargs⟩ := h c
    obtain ⟨e0, e1, e2, e3, e4⟩ := hm c
    refine ⟨h0.trans ?_, hargs⟩
    · show _ = Mm.tn (m ((c.tc : Thread Cert.DwInBIdeal.nD Cert.DwInBIdeal.τ).loc Cert.DwInBIdeal.main_arg0)) (Mm.pair (N := 2688) rfl (m ((c.tc : Thread Cert.DwInBIdeal.nD Cert.DwInBIdeal.τ).loc Cert.DwInBIdeal.main_arg1)) (Mm.pair (N := 1152) rfl (m ((c.tc : Thread Cert.DwInBIdeal.nD Cert.DwInBIdeal.τ).loc Cert.DwInBIdeal.main_arg2)) (Mm.pair (N := 384) rfl (m ((c.tc : Thread Cert.DwInBIdeal.nD Cert.DwInBIdeal.τ).loc Cert.DwInBIdeal.main_arg3)) (m ((c.tc : Thread Cert.DwInBIdeal.nD Cert.DwInBIdeal.τ).loc Cert.DwInBIdeal.main_arg4)))))
      rw [← e0, ← e1, ← e2, ← e3, ← e4]
      exact Cert.DwInBRefIdeal.Value.out _ _ _ _ _

theorem frame_DInA : Cert.quiescent_DInARefIdeal (hDInARefIdeal := Cert.DInARefIdeal.Gen.facts) :=
  fun m ρ _ => (θ_run Cert.DInARefIdeal.defs _ _).mono (fun r h => ⟨fun c => (h c).2.2, Idealize.ShloMosaic.sem_eq_zero_of_no_sems (by decide) r.2⟩)
    (Cert.DInARefIdeal.Value.run m ρ)

theorem same_DInA : Cert.algebraic_DInAIdeal_DInARefIdeal (hDInAIdeal := Cert.DInAIdeal.Gen.facts) (hDInARefIdeal := Cert.DInARefIdeal.Gen.facts) := by
  intro m g m' g' _ hm
  refine ⟨fun c => Norm.resX (m ((c.tc : Thread Cert.DInAIdeal.nD Cert.DInAIdeal.τ).loc Cert.DInAIdeal.main_arg3)) (Mm.nt (Mm.pair (N := 1280) rfl (m ((c.tc : Thread Cert.DInAIdeal.nD Cert.DInAIdeal.τ).loc Cert.DInAIdeal.main_arg0)) (m ((c.tc : Thread Cert.DInAIdeal.nD Cert.DInAIdeal.τ).loc Cert.DInAIdeal.main_arg1))) (m ((c.tc : Thread Cert.DInAIdeal.nD Cert.DInAIdeal.τ).loc Cert.DInAIdeal.main_arg2))) (m ((c.tc : Thread Cert.DInAIdeal.nD Cert.DInAIdeal.τ).loc Cert.DInAIdeal.main_arg5)) (fun x => (m ((c.tc : Thread Cert.DInAIdeal.nD Cert.DInAIdeal.τ).loc Cert.DInAIdeal.main_arg4)) (ix1 x)), fun c => Norm.resG (m ((c.tc : Thread Cert.DInAIdeal.nD Cert.DInAIdeal.τ).loc Cert.DInAIdeal.main_arg3)) (Mm.nt (Mm.pair (N := 1280) rfl (m ((c.tc : Thread Cert.DInAIdeal.nD Cert.DInAIdeal.τ).loc Cert.DInAIdeal.main_arg0)) (m ((c.tc : Thread Cert.DInAIdeal.nD Cert.DInAIdeal.τ).loc Cert.DInAIdeal.main_arg1))) (m ((c.tc : Thread Cert.DInAIdeal.nD Cert.DInAIdeal.τ).loc Cert.DInAIdeal.main_arg2))), ?_, ?_⟩
  · refine (θ_run Cert.DInAIdeal.defs _ _).mono (fun r h c => ?_) (Cert.DInAIdeal.Value.run_blocks m g)
    obtain ⟨h0, h1, hargs⟩ := h c
    exact ⟨h0.trans (Cert.DInAIdeal.Value.arr_x m c), h1.trans (Cert.DInAIdeal.Value.arr_g m c), hargs⟩
  · refine (θ_run Cert.DInARefIdeal.defs _ _).mono (fun r h c => ?_) (Cert.DInARefIdeal.Value.run m' g')
    obtain ⟨h0, h1, hargs⟩ := h c
    obtain ⟨e0, e1, e2, e3, e4, e5⟩ := hm c
    refine ⟨h0.trans ?_, h1.trans ?_, hargs⟩
    · show _ = Norm.resX (m ((c.tc : Thread Cert.DInAIdeal.nD Cert.DInAIdeal.τ).loc Cert.DInAIdeal.main_arg3)) (Mm.nt (Mm.pair (N := 1280) rfl (m ((c.tc : Thread Cert.DInAIdeal.nD Cert.DInAIdeal.τ).loc Cert.DInAIdeal.main_arg0)) (m ((c.tc : Thread Cert.DInAIdeal.nD Cert.DInAIdeal.τ).loc Cert.DInAIdeal.main_arg1))) (m ((c.tc : Thread Cert.DInAIdeal.nD Cert.DInAIdeal.τ).loc Cert.DInAIdeal.main_arg2))) (m ((c.tc : Thread Cert.DInAIdeal.nD Cert.DInAIdeal.τ).loc Cert.DInAIdeal.main_arg5)) (fun x => (m ((c.tc : Thread Cert.DInAIdeal.nD Cert.DInAIdeal.τ).loc Cert.DInAIdeal.main_arg4)) (ix1 x))
      rw [← e0, ← e1, ← e2, ← e3, ← e4, ← e5]
      exact Cert.DInARefIdeal.Value.out0 m' c
    · show _ = Norm.resG (m ((c.tc : Thread Cert.DInAIdeal.nD Cert.DInAIdeal.τ).loc Cert.DInAIdeal.main_arg3)) (Mm.nt (Mm.pair (N := 1280) rfl (m ((c.tc : Thread Cert.DInAIdeal.nD Cert.DInAIdeal.τ).loc Cert.DInAIdeal.main_arg0)) (m ((c.tc : Thread Cert.DInAIdeal.nD Cert.DInAIdeal.τ).loc Cert.DInAIdeal.main_arg1))) (m ((c.tc : Thread Cert.DInAIdeal.nD Cert.DInAIdeal.τ).loc Cert.DInAIdeal.main_arg2)))
      rw [← e0, ← e1, ← e2, ← e3]
      exact Cert.DInARefIdeal.Value.out1 _ _ _ _

theorem frame_DInB : Cert.quiescent_DInBRefIdeal (hDInBRefIdeal := Cert.DInBRefIdeal.Gen.facts) :=
  fun m ρ _ => (θ_run Cert.DInBRefIdeal.defs _ _).mono (fun r h => ⟨fun c => (h c).2.2, Idealize.ShloMosaic.sem_eq_zero_of_no_sems (by decide) r.2⟩)
    (Cert.DInBRefIdeal.Value.run m ρ)

theorem same_DInB : Cert.algebraic_DInBIdeal_DInBRefIdeal (hDInBIdeal := Cert.DInBIdeal.Gen.facts) (hDInBRefIdeal := Cert.DInBRefIdeal.Gen.facts) := by
  intro m g m' g' _ hm
  refine ⟨fun c => Norm.resX (m ((c.tc : Thread Cert.DInBIdeal.nD Cert.DInBIdeal.τ).loc Cert.DInBIdeal.main_arg5)) (Mm.nt (Mm.pair (N := 2688) rfl (m ((c.tc : Thread Cert.DInBIdeal.nD Cert.DInBIdeal.τ).loc Cert.DInBIdeal.main_arg0)) (Mm.pair (N := 1152) rfl (m ((c.tc : Thread Cert.DInBIdeal.nD Cert.DInBIdeal.τ).loc Cert.DInBIdeal.main_arg1)) (Mm.pair (N := 384) rfl (m ((c.tc : Thread Cert.DInBIdeal.nD Cert.DInBIdeal.τ).loc Cert.DInBIdeal.main_arg2)) (m ((c.tc : Thread Cert.DInBIdeal.nD Cert.DInBIdeal.τ).loc Cert.DInBIdeal.main_arg3))))) (m ((c.tc : Thread Cert.DInBIdeal.nD Cert.DInBIdeal.τ).loc Cert.DInBIdeal.main_arg4))) (m ((c.tc : Thread Cert.DInBIdeal.nD Cert.DInBIdeal.τ).loc Cert.DInBIdeal.main_arg7)) (fun x => (m ((c.tc : Thread Cert.DInBIdeal.nD Cert.DInBIdeal.τ).loc Cert.DInBIdeal.main_arg6)) (ix1 x)), fun c => Norm.resG (m ((c.tc : Thread Cert.DInBIdeal.nD Cert.DInBIdeal.τ).loc Cert.DInBIdeal.main_arg5)) (Mm.nt (Mm.pair (N := 2688) rfl (m ((c.tc : Thread Cert.DInBIdeal.nD Cert.DInBIdeal.τ).loc Cert.DInBIdeal.main_arg0)) (Mm.pair (N := 1152) rfl (m ((c.tc : Thread Cert.DInBIdeal.nD Cert.DInBIdeal.τ).loc Cert.DInBIdeal.main_arg1)) (Mm.pair (N := 384) rfl (m ((c.tc : Thread Cert.DInBIdeal.nD Cert.DInBIdeal.τ).loc Cert.DInBIdeal.main_arg2)) (m ((c.tc : Thread Cert.DInBIdeal.nD Cert.DInBIdeal.τ).loc Cert.DInBIdeal.main_arg3))))) (m ((c.tc : Thread Cert.DInBIdeal.nD Cert.DInBIdeal.τ).loc Cert.DInBIdeal.main_arg4))), ?_, ?_⟩
  · refine (θ_run Cert.DInBIdeal.defs _ _).mono (fun r h c => ?_) (Cert.DInBIdeal.Value.run_blocks m g)
    obtain ⟨h0, h1, hargs⟩ := h c
    exact ⟨h0.trans (Cert.DInBIdeal.Value.arr_x m c), h1.trans (Cert.DInBIdeal.Value.arr_g m c), hargs⟩
  · refine (θ_run Cert.DInBRefIdeal.defs _ _).mono (fun r h c => ?_) (Cert.DInBRefIdeal.Value.run m' g')
    obtain ⟨h0, h1, hargs⟩ := h c
    obtain ⟨e0, e1, e2, e3, e4, e5, e6, e7⟩ := hm c
    refine ⟨h0.trans ?_, h1.trans ?_, hargs⟩
    · show _ = Norm.resX (m ((c.tc : Thread Cert.DInBIdeal.nD Cert.DInBIdeal.τ).loc Cert.DInBIdeal.main_arg5)) (Mm.nt (Mm.pair (N := 2688) rfl (m ((c.tc : Thread Cert.DInBIdeal.nD Cert.DInBIdeal.τ).loc Cert.DInBIdeal.main_arg0)) (Mm.pair (N := 1152) rfl (m ((c.tc : Thread Cert.DInBIdeal.nD Cert.DInBIdeal.τ).loc Cert.DInBIdeal.main_arg1)) (Mm.pair (N := 384) rfl (m ((c.tc : Thread Cert.DInBIdeal.nD Cert.DInBIdeal.τ).loc Cert.DInBIdeal.main_arg2)) (m ((c.tc : Thread Cert.DInBIdeal.nD Cert.DInBIdeal.τ).loc Cert.DInBIdeal.main_arg3))))) (m ((c.tc : Thread Cert.DInBIdeal.nD Cert.DInBIdeal.τ).loc Cert.DInBIdeal.main_arg4))) (m ((c.tc : Thread Cert.DInBIdeal.nD Cert.DInBIdeal.τ).loc Cert.DInBIdeal.main_arg7)) (fun x => (m ((c.tc : Thread Cert.DInBIdeal.nD Cert.DInBIdeal.τ).loc Cert.DInBIdeal.main_arg6)) (ix1 x))
      rw [← e0, ← e1, ← e2, ← e3, ← e4, ← e5, ← e6, ← e7]
      exact Cert.DInBRefIdeal.Value.out0 m' c
    · show _ = Norm.resG (m ((c.tc : Thread Cert.DInBIdeal.nD Cert.DInBIdeal.τ).loc Cert.DInBIdeal.main_arg5)) (Mm.nt (Mm.pair (N := 2688) rfl (m ((c.tc : Thread Cert.DInBIdeal.nD Cert.DInBIdeal.τ).loc Cert.DInBIdeal.main_arg0)) (Mm.pair (N := 1152) rfl (m ((c.tc : Thread Cert.DInBIdeal.nD Cert.DInBIdeal.τ).loc Cert.DInBIdeal.main_arg1)) (Mm.pair (N := 384) rfl (m ((c.tc : Thread Cert.DInBIdeal.nD Cert.DInBIdeal.τ).loc Cert.DInBIdeal.main_arg2)) (m ((c.tc : Thread Cert.DInBIdeal.nD Cert.DInBIdeal.τ).loc Cert.DInBIdeal.main_arg3))))) (m ((c.tc : Thread Cert.DInBIdeal.nD Cert.DInBIdeal.τ).loc Cert.DInBIdeal.main_arg4)))
      rw [← e0, ← e1, ← e2, ← e3, ← e4, ← e5]
      exact Cert.DInBRefIdeal.Value.out1 _ _ _ _ _ _

theorem frame_NormIn : Cert.quiescent_NormInRefIdeal (hNormInRefIdeal := Cert.NormInRefIdeal.Gen.facts) :=
  fun m ρ _ => (θ_run Cert.NormInRefIdeal.defs _ _).mono (fun r h => ⟨fun c => (h c).2, Idealize.ShloMosaic.sem_eq_zero_of_no_sems (by decide) r.2⟩)
    (Cert.NormInRefIdeal.Value.run m ρ)

theorem same_NormIn : Cert.algebraic_NormInIdeal_NormInRefIdeal (hNormInIdeal := Cert.NormInIdeal.Gen.facts) (hNormInRefIdeal := Cert.NormInRefIdeal.Gen.facts) := by
  intro m g m' g' _ hm
  refine ⟨fun c => Norm.res (m ((c.tc : Thread Cert.NormInIdeal.nD Cert.NormInIdeal.τ).loc Cert.NormInIdeal.main_arg0)) (fun x => (m ((c.tc : Thread Cert.NormInIdeal.nD Cert.NormInIdeal.τ).loc Cert.NormInIdeal.main_arg1)) (ix1 x)), ?_, ?_⟩
  · refine (θ_run Cert.NormInIdeal.defs _ _).mono (fun r h c => ?_) (Cert.NormInIdeal.Value.run_blocks m g)
    obtain ⟨h0, hargs⟩ := h c
    exact ⟨h0.trans (Cert.NormInIdeal.Value.arr m c), hargs⟩
  · refine (θ_run Cert.NormInRefIdeal.defs _ _).mono (fun r h c => ?_) (Cert.NormInRefIdeal.Value.run m' g')
    obtain ⟨h0, hargs⟩ := h c
    obtain ⟨e0, e1⟩ := hm c
    refine ⟨h0.trans ?_, hargs⟩
    · show _ = Norm.res (m ((c.tc : Thread Cert.NormInIdeal.nD Cert.NormInIdeal.τ).loc Cert.NormInIdeal.main_arg0)) (fun x => (m ((c.tc : Thread Cert.NormInIdeal.nD Cert.NormInIdeal.τ).loc Cert.NormInIdeal.main_arg1)) (ix1 x))
      rw [← e0, ← e1]
      exact Cert.NormInRefIdeal.Value.normed _ _

theorem frame_MemKv : Cert.quiescent_MemKvRefIdeal (hMemKvRefIdeal := Cert.MemKvRefIdeal.Gen.facts) :=
  fun m ρ _ => (θ_run Cert.MemKvRefIdeal.defs _ _).mono (fun r h => ⟨fun c => (h c).2, Idealize.ShloMosaic.sem_eq_zero_of_no_sems (by decide) r.2⟩)
    (Cert.MemKvRefIdeal.Value.run m ρ)

theorem same_MemKv : Cert.algebraic_MemKvIdeal_MemKvRefIdeal (hMemKvIdeal := Cert.MemKvIdeal.Gen.facts) (hMemKvRefIdeal := Cert.MemKvRefIdeal.Gen.facts) := by
  intro m g m' g' _ hm
  refine ⟨fun c => Mm.nn (Norm.res (m ((c.tc : Thread Cert.MemKvIdeal.nD Cert.MemKvIdeal.τ).loc Cert.MemKvIdeal.main_arg0)) (fun x => (m ((c.tc : Thread Cert.MemKvIdeal.nD Cert.MemKvIdeal.τ).loc Cert.MemKvIdeal.main_arg1)) (ix1 x))) (m ((c.tc : Thread Cert.MemKvIdeal.nD Cert.MemKvIdeal.τ).loc Cert.MemKvIdeal.main_arg2)), ?_, ?_⟩
  · refine (θ_run Cert.MemKvIdeal.defs _ _).mono (fun r h c => ?_) (Cert.MemKvIdeal.Value.run_blocks m g)
    obtain ⟨h0, hargs⟩ := h c
    exact ⟨h0.trans (Cert.MemKvIdeal.Value.arr m c), hargs⟩
  · refine (θ_run Cert.MemKvRefIdeal.defs _ _).mono (fun r h c => ?_) (Cert.MemKvRefIdeal.Value.run m' g')
    obtain ⟨h0, hargs⟩ := h c
    obtain ⟨e0, e1, e2⟩ := hm c
    refine ⟨h0.trans ?_, hargs⟩
    · show _ = Mm.nn (Norm.res (m ((c.tc : Thread Cert.MemKvIdeal.nD Cert.MemKvIdeal.τ).loc Cert.MemKvIdeal.main_arg0)) (fun x => (m ((c.tc : Thread Cert.MemKvIdeal.nD Cert.MemKvIdeal.τ).loc Cert.MemKvIdeal.main_arg1)) (ix1 x))) (m ((c.tc : Thread Cert.MemKvIdeal.nD Cert.MemKvIdeal.τ).loc Cert.MemKvIdeal.main_arg2))
      rw [← e0, ← e1, ← e2]
      exact Cert.MemKvRefIdeal.Value.out _ _ _

theorem frame_MemKvGrad : Cert.quiescent_MemKvGradRefIdeal (hMemKvGradRefIdeal := Cert.MemKvGradRefIdeal.Gen.facts) :=
  fun m ρ _ => (θ_run Cert.MemKvGradRefIdeal.defs _ _).mono (fun r h => ⟨fun c => (h c).2.2, Idealize.ShloMosaic.sem_eq_zero_of_no_sems (by decide) r.2⟩)
    (Cert.MemKvGradRefIdeal.Value.run m ρ)

theorem same_MemKvGrad : Cert.algebraic_MemKvGradIdeal_MemKvGradRefIdeal (hMemKvGradIdeal := Cert.MemKvGradIdeal.Gen.facts) (hMemKvGradRefIdeal := Cert.MemKvGradRefIdeal.Gen.facts) := by
  intro m g m' g' _ hm
  refine ⟨fun c => Norm.resG (m ((c.tc : Thread Cert.MemKvGradIdeal.nD Cert.MemKvGradIdeal.τ).loc Cert.MemKvGradIdeal.main_arg0)) (Mm.nt (m ((c.tc : Thread Cert.MemKvGradIdeal.nD Cert.MemKvGradIdeal.τ).loc Cert.MemKvGradIdeal.main_arg3)) (m ((c.tc : Thread Cert.MemKvGradIdeal.nD Cert.MemKvGradIdeal.τ).loc Cert.MemKvGradIdeal.main_arg2))), fun c => Mm.tn (Norm.res (m ((c.tc : Thread Cert.MemKvGradIdeal.nD Cert.MemKvGradIdeal.τ).loc Cert.MemKvGradIdeal.main_arg0)) (fun x => (m ((c.tc : Thread Cert.MemKvGradIdeal.nD Cert.MemKvGradIdeal.τ).loc Cert.MemKvGradIdeal.main_arg1)) (ix1 x))) (m ((c.tc : Thread Cert.MemKvGradIdeal.nD Cert.MemKvGradIdeal.τ).loc Cert.MemKvGradIdeal.main_arg3)), ?_, ?_⟩
  · refine (θ_run Cert.MemKvGradIdeal.defs _ _).mono (fun r h c => ?_) (Cert.MemKvGradIdeal.Value.run_blocks m g)
    obtain ⟨h0, h1, hargs⟩ := h c
    exact ⟨h0.trans (Cert.MemKvGradIdeal.Value.arr_g m c), h1.trans (Cert.MemKvGradIdeal.Value.arr_w m c), hargs⟩
  · refine (θ_run Cert.MemKvGradRefIdeal.defs _ _).mono (fun r h c => ?_) (Cert.MemKvGradRefIdeal.Value.run m' g')
    obtain ⟨h0, h1, hargs⟩ := h c
    obtain ⟨e0, e1, e2, e3⟩ := hm c
    refine ⟨h0.trans ?_, h1.trans ?_, hargs⟩
    · show _ = Norm.resG (m ((c.tc : Thread Cert.MemKvGradIdeal.nD Cert.MemKvGradIdeal.τ).loc Cert.MemKvGradIdeal.main_arg0)) (Mm.nt (m ((c.tc : Thread Cert.MemKvGradIdeal.nD Cert.MemKvGradIdeal.τ).loc Cert.MemKvGradIdeal.main_arg3)) (m ((c.tc : Thread Cert.MemKvGradIdeal.nD Cert.MemKvGradIdeal.τ).loc Cert.MemKvGradIdeal.main_arg2)))
      rw [← e0, ← e2, ← e3]
      exact Cert.MemKvGradRefIdeal.Value.out_g _ _ _
    · show _ = Mm.tn (Norm.res (m ((c.tc : Thread Cert.MemKvGradIdeal.nD Cert.MemKvGradIdeal.τ).loc Cert.MemKvGradIdeal.main_arg0)) (fun x => (m ((c.tc : Thread Cert.MemKvGradIdeal.nD Cert.MemKvGradIdeal.τ).loc Cert.MemKvGradIdeal.main_arg1)) (ix1 x))) (m ((c.tc : Thread Cert.MemKvGradIdeal.nD Cert.MemKvGradIdeal.τ).loc Cert.MemKvGradIdeal.main_arg3))
      rw [← e0, ← e1, ← e3]
      exact Cert.MemKvGradRefIdeal.Value.out_w _ _ _

theorem frame_LossHead : Cert.quiescent_LossHeadRefIdeal (hLossHeadRefIdeal := Cert.LossHeadRefIdeal.Gen.facts) :=
  fun m ρ _ => (θ_run Cert.LossHeadRefIdeal.defs _ _).mono (fun r h => ⟨fun c => (h c).2.2.2, Idealize.ShloMosaic.sem_eq_zero_of_no_sems (by decide) r.2⟩)
    (Cert.LossHeadRefIdeal.Value.run m ρ)

theorem same_LossHead : Cert.algebraic_LossHeadIdeal_LossHeadRefIdeal (hLossHeadIdeal := Cert.LossHeadIdeal.Gen.facts) (hLossHeadRefIdeal := Cert.LossHeadRefIdeal.Gen.facts) := by
  intro m g m' g' _ hm
  refine ⟨fun c => Loss.resL (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg2)) (fun x => (m ((c.tc : Thread Cert.LossHeadIdeal.nD Cert.LossHeadIdeal.τ).loc Cert.LossHeadIdeal.main_arg1)) (ix1 x)), fun c => Loss.resH (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg2)) (fun x => (m ((c.tc : Thread Cert.LossHeadIdeal.nD Cert.LossHeadIdeal.τ).loc Cert.LossHeadIdeal.main_arg1)) (ix1 x)), fun c => Loss.resG (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg2)) (fun x => (m ((c.tc : Thread Cert.LossHeadIdeal.nD Cert.LossHeadIdeal.τ).loc Cert.LossHeadIdeal.main_arg1)) (ix1 x)), ?_, ?_⟩
  · refine (θ_run Cert.LossHeadIdeal.defs _ _).mono (fun r h c => ?_) (Cert.LossHeadIdeal.Value.run_blocks m g)
    obtain ⟨h0, h1, h2, hargs⟩ := h c
    exact ⟨h0.trans (Cert.LossHeadIdeal.Value.arr_l m c), h1.trans (Cert.LossHeadIdeal.Value.arr_h m c), h2.trans (Cert.LossHeadIdeal.Value.arr_g m c), hargs⟩
  · refine (θ_run Cert.LossHeadRefIdeal.defs _ _).mono (fun r h c => ?_) (Cert.LossHeadRefIdeal.Value.run m' g')
    obtain ⟨h0, h1, h2, hargs⟩ := h c
    obtain ⟨e0, e1, e2⟩ := hm c
    refine ⟨h0.trans ?_, h1.trans ?_, h2.trans ?_, hargs⟩
    · show _ = Loss.resL (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg2)) (fun x => (m ((c.tc : Thread Cert.LossHeadIdeal.nD Cert.LossHeadIdeal.τ).loc Cert.LossHeadIdeal.main_arg1)) (ix1 x))
      rw [← e0, ← e1, ← e2]
      exact Cert.LossHeadRefIdeal.Value.out_l _ _ _
    · show _ = Loss.resH (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg2)) (fun x => (m ((c.tc : Thread Cert.LossHeadIdeal.nD Cert.LossHeadIdeal.τ).loc Cert.LossHeadIdeal.main_arg1)) (ix1 x))
      rw [← e0, ← e1, ← e2]
      exact Cert.LossHeadRefIdeal.Value.res_h m' c
    · show _ = Loss.resG (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg2)) (fun x => (m ((c.tc : Thread Cert.LossHeadIdeal.nD Cert.LossHeadIdeal.τ).loc Cert.LossHeadIdeal.main_arg1)) (ix1 x))
      rw [← e0, ← e1, ← e2]
      exact Cert.LossHeadRefIdeal.Value.out_g _ _ _

theorem frame_AdamGu : Cert.quiescent_AdamGuRefIdeal (hAdamGuRefIdeal := Cert.AdamGuRefIdeal.Gen.facts) :=
  fun m ρ _ => (θ_run Cert.AdamGuRefIdeal.defs _ _).mono (fun r h => ⟨fun c => (h c).2.2.2.2, Idealize.ShloMosaic.sem_eq_zero_of_no_sems (by decide) r.2⟩)
    (Cert.AdamGuRefIdeal.Value.run m ρ)

theorem same_AdamGu : Cert.algebraic_AdamGuIdeal_AdamGuRefIdeal (hAdamGuIdeal := Cert.AdamGuIdeal.Gen.facts) (hAdamGuRefIdeal := Cert.AdamGuRefIdeal.Gen.facts) := by
  intro m g m' g' _ hm
  refine ⟨fun c => Adam.stack (m ((c.tc : Thread Cert.AdamGuIdeal.nD Cert.AdamGuIdeal.τ).loc Cert.AdamGuIdeal.main_arg3)) (m ((c.tc : Thread Cert.AdamGuIdeal.nD Cert.AdamGuIdeal.τ).loc Cert.AdamGuIdeal.main_arg4)), fun c => Adam.steps (m ((c.tc : Thread Cert.AdamGuIdeal.nD Cert.AdamGuIdeal.τ).loc Cert.AdamGuIdeal.main_arg0)) (m ((c.tc : Thread Cert.AdamGuIdeal.nD Cert.AdamGuIdeal.τ).loc Cert.AdamGuIdeal.main_arg1)) (m ((c.tc : Thread Cert.AdamGuIdeal.nD Cert.AdamGuIdeal.τ).loc Cert.AdamGuIdeal.main_arg2)) (Adam.stack (m ((c.tc : Thread Cert.AdamGuIdeal.nD Cert.AdamGuIdeal.τ).loc Cert.AdamGuIdeal.main_arg3)) (m ((c.tc : Thread Cert.AdamGuIdeal.nD Cert.AdamGuIdeal.τ).loc Cert.AdamGuIdeal.main_arg4))), fun c => Adam.avgs (m ((c.tc : Thread Cert.AdamGuIdeal.nD Cert.AdamGuIdeal.τ).loc Cert.AdamGuIdeal.main_arg1)) (Adam.stack (m ((c.tc : Thread Cert.AdamGuIdeal.nD Cert.AdamGuIdeal.τ).loc Cert.AdamGuIdeal.main_arg3)) (m ((c.tc : Thread Cert.AdamGuIdeal.nD Cert.AdamGuIdeal.τ).loc Cert.AdamGuIdeal.main_arg4))), fun c => Adam.sqrs (m ((c.tc : Thread Cert.AdamGuIdeal.nD Cert.AdamGuIdeal.τ).loc Cert.AdamGuIdeal.main_arg2)) (Adam.stack (m ((c.tc : Thread Cert.AdamGuIdeal.nD Cert.AdamGuIdeal.τ).loc Cert.AdamGuIdeal.main_arg3)) (m ((c.tc : Thread Cert.AdamGuIdeal.nD Cert.AdamGuIdeal.τ).loc Cert.AdamGuIdeal.main_arg4))), ?_, ?_⟩
  · refine (θ_run Cert.AdamGuIdeal.defs _ _).mono (fun r h c => ?_) (Cert.AdamGuIdeal.Value.run_blocks m g)
    obtain ⟨h0, h1, h2, h3, hargs⟩ := h c
    exact ⟨h0.trans (Cert.AdamGuIdeal.Value.arr_g m c), h1.trans (Cert.AdamGuIdeal.Value.arr_d m c), h2.trans (Cert.AdamGuIdeal.Value.arr_m m c), h3.trans (Cert.AdamGuIdeal.Value.arr_v m c), hargs⟩
  · refine (θ_run Cert.AdamGuRefIdeal.defs _ _).mono (fun r h c => ?_) (Cert.AdamGuRefIdeal.Value.run m' g')
    obtain ⟨h0, h1, h2, h3, hargs⟩ := h c
    obtain ⟨e0, e1, e2, e3, e4⟩ := hm c
    refine ⟨h0.trans ?_, h1.trans ?_, h2.trans ?_, h3.trans ?_, hargs⟩
    · show _ = Adam.stack (m ((c.tc : Thread Cert.AdamGuIdeal.nD Cert.AdamGuIdeal.τ).loc Cert.AdamGuIdeal.main_arg3)) (m ((c.tc : Thread Cert.AdamGuIdeal.nD Cert.AdamGuIdeal.τ).loc Cert.AdamGuIdeal.main_arg4))
      rw [← e3, ← e4]
      exact Cert.AdamGuRefIdeal.Value.out_g _ _
    · show _ = Adam.steps (m ((c.tc : Thread Cert.AdamGuIdeal.nD Cert.AdamGuIdeal.τ).loc Cert.AdamGuIdeal.main_arg0)) (m ((c.tc : Thread Cert.AdamGuIdeal.nD Cert.AdamGuIdeal.τ).loc Cert.AdamGuIdeal.main_arg1)) (m ((c.tc : Thread Cert.AdamGuIdeal.nD Cert.AdamGuIdeal.τ).loc Cert.AdamGuIdeal.main_arg2)) (Adam.stack (m ((c.tc : Thread Cert.AdamGuIdeal.nD Cert.AdamGuIdeal.τ).loc Cert.AdamGuIdeal.main_arg3)) (m ((c.tc : Thread Cert.AdamGuIdeal.nD Cert.AdamGuIdeal.τ).loc Cert.AdamGuIdeal.main_arg4)))
      rw [← e0, ← e1, ← e2, ← e3, ← e4]
      exact Cert.AdamGuRefIdeal.Value.out_d _ _ _ _ _
    · show _ = Adam.avgs (m ((c.tc : Thread Cert.AdamGuIdeal.nD Cert.AdamGuIdeal.τ).loc Cert.AdamGuIdeal.main_arg1)) (Adam.stack (m ((c.tc : Thread Cert.AdamGuIdeal.nD Cert.AdamGuIdeal.τ).loc Cert.AdamGuIdeal.main_arg3)) (m ((c.tc : Thread Cert.AdamGuIdeal.nD Cert.AdamGuIdeal.τ).loc Cert.AdamGuIdeal.main_arg4)))
      rw [← e1, ← e3, ← e4]
      exact Cert.AdamGuRefIdeal.Value.out_m _ _ _
    · show _ = Adam.sqrs (m ((c.tc : Thread Cert.AdamGuIdeal.nD Cert.AdamGuIdeal.τ).loc Cert.AdamGuIdeal.main_arg2)) (Adam.stack (m ((c.tc : Thread Cert.AdamGuIdeal.nD Cert.AdamGuIdeal.τ).loc Cert.AdamGuIdeal.main_arg3)) (m ((c.tc : Thread Cert.AdamGuIdeal.nD Cert.AdamGuIdeal.τ).loc Cert.AdamGuIdeal.main_arg4)))
      rw [← e2, ← e3, ← e4]
      exact Cert.AdamGuRefIdeal.Value.out_v _ _ _

theorem frame_AdamDown : Cert.quiescent_AdamDownRefIdeal (hAdamDownRefIdeal := Cert.AdamDownRefIdeal.Gen.facts) :=
  fun m ρ _ => (θ_run Cert.AdamDownRefIdeal.defs _ _).mono (fun r h => ⟨fun c => (h c).2.2.2.2, Idealize.ShloMosaic.sem_eq_zero_of_no_sems (by decide) r.2⟩)
    (Cert.AdamDownRefIdeal.Value.run m ρ)

theorem same_AdamDown : Cert.algebraic_AdamDownIdeal_AdamDownRefIdeal (hAdamDownIdeal := Cert.AdamDownIdeal.Gen.facts) (hAdamDownRefIdeal := Cert.AdamDownRefIdeal.Gen.facts) := by
  intro m g m' g' _ hm
  refine ⟨fun c => Adam.stack (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)), fun c => Adam.steps (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (Adam.stack (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4))), fun c => Adam.avgs (m ((c.tc : Thread Cert.AdamDownIdeal.nD Cert.AdamDownIdeal.τ).loc Cert.AdamDownIdeal.main_arg1)) (Adam.stack (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4))), fun c => Adam.sqrs (m ((c.tc : Thread Cert.AdamDownIdeal.nD Cert.AdamDownIdeal.τ).loc Cert.AdamDownIdeal.main_arg2)) (Adam.stack (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4))), ?_, ?_⟩
  · refine (θ_run Cert.AdamDownIdeal.defs _ _).mono (fun r h c => ?_) (Cert.AdamDownIdeal.Value.run_blocks m g)
    obtain ⟨h0, h1, h2, h3, hargs⟩ := h c
    exact ⟨h0.trans (Cert.AdamDownIdeal.Value.arr_g m c), h1.trans (Cert.AdamDownIdeal.Value.arr_d m c), h2.trans (Cert.AdamDownIdeal.Value.arr_m m c), h3.trans (Cert.AdamDownIdeal.Value.arr_v m c), hargs⟩
  · refine (θ_run Cert.AdamDownRefIdeal.defs _ _).mono (fun r h c => ?_) (Cert.AdamDownRefIdeal.Value.run m' g')
    obtain ⟨h0, h1, h2, h3, hargs⟩ := h c
    obtain ⟨e0, e1, e2, e3, e4⟩ := hm c
    refine ⟨h0.trans ?_, h1.trans ?_, h2.trans ?_, h3.trans ?_, hargs⟩
    · show _ = Adam.stack (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4))
      rw [← e3, ← e4]
      exact Cert.AdamDownRefIdeal.Value.out_g _ _
    · show _ = Adam.steps (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (Adam.stack (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)))
      rw [← e0, ← e1, ← e2, ← e3, ← e4]
      exact Cert.AdamDownRefIdeal.Value.out_d _ _ _ _ _
    · show _ = Adam.avgs (m ((c.tc : Thread Cert.AdamDownIdeal.nD Cert.AdamDownIdeal.τ).loc Cert.AdamDownIdeal.main_arg1)) (Adam.stack (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)))
      rw [← e1, ← e3, ← e4]
      exact Cert.AdamDownRefIdeal.Value.out_m _ _ _
    · show _ = Adam.sqrs (m ((c.tc : Thread Cert.AdamDownIdeal.nD Cert.AdamDownIdeal.τ).loc Cert.AdamDownIdeal.main_arg2)) (Adam.stack (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)))
      rw [← e2, ← e3, ← e4]
      exact Cert.AdamDownRefIdeal.Value.out_v _ _ _

theorem frame_AdamOut : Cert.quiescent_AdamOutRefIdeal (hAdamOutRefIdeal := Cert.AdamOutRefIdeal.Gen.facts) :=
  fun m ρ _ => (θ_run Cert.AdamOutRefIdeal.defs _ _).mono (fun r h => ⟨fun c => (h c).2.2.2.2, Idealize.ShloMosaic.sem_eq_zero_of_no_sems (by decide) r.2⟩)
    (Cert.AdamOutRefIdeal.Value.run m ρ)

theorem same_AdamOut : Cert.algebraic_AdamOutIdeal_AdamOutRefIdeal (hAdamOutIdeal := Cert.AdamOutIdeal.Gen.facts) (hAdamOutRefIdeal := Cert.AdamOutRefIdeal.Gen.facts) := by
  intro m g m' g' _ hm
  refine ⟨fun c => Adam.stack (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)), fun c => Adam.steps (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (Adam.stack (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4))), fun c => Adam.avgs (m ((c.tc : Thread Cert.AdamOutIdeal.nD Cert.AdamOutIdeal.τ).loc Cert.AdamOutIdeal.main_arg1)) (Adam.stack (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4))), fun c => Adam.sqrs (m ((c.tc : Thread Cert.AdamOutIdeal.nD Cert.AdamOutIdeal.τ).loc Cert.AdamOutIdeal.main_arg2)) (Adam.stack (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4))), ?_, ?_⟩
  · refine (θ_run Cert.AdamOutIdeal.defs _ _).mono (fun r h c => ?_) (Cert.AdamOutIdeal.Value.run_blocks m g)
    obtain ⟨h0, h1, h2, h3, hargs⟩ := h c
    exact ⟨h0.trans (Cert.AdamOutIdeal.Value.arr_g m c), h1.trans (Cert.AdamOutIdeal.Value.arr_d m c), h2.trans (Cert.AdamOutIdeal.Value.arr_m m c), h3.trans (Cert.AdamOutIdeal.Value.arr_v m c), hargs⟩
  · refine (θ_run Cert.AdamOutRefIdeal.defs _ _).mono (fun r h c => ?_) (Cert.AdamOutRefIdeal.Value.run m' g')
    obtain ⟨h0, h1, h2, h3, hargs⟩ := h c
    obtain ⟨e0, e1, e2, e3, e4⟩ := hm c
    refine ⟨h0.trans ?_, h1.trans ?_, h2.trans ?_, h3.trans ?_, hargs⟩
    · show _ = Adam.stack (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4))
      rw [← e3, ← e4]
      exact Cert.AdamOutRefIdeal.Value.out_g _ _
    · show _ = Adam.steps (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (Adam.stack (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)))
      rw [← e0, ← e1, ← e2, ← e3, ← e4]
      exact Cert.AdamOutRefIdeal.Value.out_d _ _ _ _ _
    · show _ = Adam.avgs (m ((c.tc : Thread Cert.AdamOutIdeal.nD Cert.AdamOutIdeal.τ).loc Cert.AdamOutIdeal.main_arg1)) (Adam.stack (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)))
      rw [← e1, ← e3, ← e4]
      exact Cert.AdamOutRefIdeal.Value.out_m _ _ _
    · show _ = Adam.sqrs (m ((c.tc : Thread Cert.AdamOutIdeal.nD Cert.AdamOutIdeal.τ).loc Cert.AdamOutIdeal.main_arg2)) (Adam.stack (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)))
      rw [← e2, ← e3, ← e4]
      exact Cert.AdamOutRefIdeal.Value.out_v _ _ _

theorem frame_AdamMem : Cert.quiescent_AdamMemRefIdeal (hAdamMemRefIdeal := Cert.AdamMemRefIdeal.Gen.facts) :=
  fun m ρ _ => (θ_run Cert.AdamMemRefIdeal.defs _ _).mono (fun r h => ⟨fun c => (h c).2.2.2.2, Idealize.ShloMosaic.sem_eq_zero_of_no_sems (by decide) r.2⟩)
    (Cert.AdamMemRefIdeal.Value.run m ρ)

theorem same_AdamMem : Cert.algebraic_AdamMemIdeal_AdamMemRefIdeal (hAdamMemIdeal := Cert.AdamMemIdeal.Gen.facts) (hAdamMemRefIdeal := Cert.AdamMemRefIdeal.Gen.facts) := by
  intro m g m' g' _ hm
  refine ⟨fun c => Adam.stack (m ((c.tc : Thread Cert.AdamMemIdeal.nD Cert.AdamMemIdeal.τ).loc Cert.AdamMemIdeal.main_arg3)) (m ((c.tc : Thread Cert.AdamMemIdeal.nD Cert.AdamMemIdeal.τ).loc Cert.AdamMemIdeal.main_arg4)), fun c => Adam.steps (m ((c.tc : Thread Cert.AdamMemIdeal.nD Cert.AdamMemIdeal.τ).loc Cert.AdamMemIdeal.main_arg0)) (m ((c.tc : Thread Cert.AdamMemIdeal.nD Cert.AdamMemIdeal.τ).loc Cert.AdamMemIdeal.main_arg1)) (m ((c.tc : Thread Cert.AdamMemIdeal.nD Cert.AdamMemIdeal.τ).loc Cert.AdamMemIdeal.main_arg2)) (Adam.stack (m ((c.tc : Thread Cert.AdamMemIdeal.nD Cert.AdamMemIdeal.τ).loc Cert.AdamMemIdeal.main_arg3)) (m ((c.tc : Thread Cert.AdamMemIdeal.nD Cert.AdamMemIdeal.τ).loc Cert.AdamMemIdeal.main_arg4))), fun c => Adam.avgs (m ((c.tc : Thread Cert.AdamMemIdeal.nD Cert.AdamMemIdeal.τ).loc Cert.AdamMemIdeal.main_arg1)) (Adam.stack (m ((c.tc : Thread Cert.AdamMemIdeal.nD Cert.AdamMemIdeal.τ).loc Cert.AdamMemIdeal.main_arg3)) (m ((c.tc : Thread Cert.AdamMemIdeal.nD Cert.AdamMemIdeal.τ).loc Cert.AdamMemIdeal.main_arg4))), fun c => Adam.sqrs (m ((c.tc : Thread Cert.AdamMemIdeal.nD Cert.AdamMemIdeal.τ).loc Cert.AdamMemIdeal.main_arg2)) (Adam.stack (m ((c.tc : Thread Cert.AdamMemIdeal.nD Cert.AdamMemIdeal.τ).loc Cert.AdamMemIdeal.main_arg3)) (m ((c.tc : Thread Cert.AdamMemIdeal.nD Cert.AdamMemIdeal.τ).loc Cert.AdamMemIdeal.main_arg4))), ?_, ?_⟩
  · refine (θ_run Cert.AdamMemIdeal.defs _ _).mono (fun r h c => ?_) (Cert.AdamMemIdeal.Value.run_blocks m g)
    obtain ⟨h0, h1, h2, h3, hargs⟩ := h c
    exact ⟨h0.trans (Cert.AdamMemIdeal.Value.arr_g m c), h1.trans (Cert.AdamMemIdeal.Value.arr_d m c), h2.trans (Cert.AdamMemIdeal.Value.arr_m m c), h3.trans (Cert.AdamMemIdeal.Value.arr_v m c), hargs⟩
  · refine (θ_run Cert.AdamMemRefIdeal.defs _ _).mono (fun r h c => ?_) (Cert.AdamMemRefIdeal.Value.run m' g')
    obtain ⟨h0, h1, h2, h3, hargs⟩ := h c
    obtain ⟨e0, e1, e2, e3, e4⟩ := hm c
    refine ⟨h0.trans ?_, h1.trans ?_, h2.trans ?_, h3.trans ?_, hargs⟩
    · show _ = Adam.stack (m ((c.tc : Thread Cert.AdamMemIdeal.nD Cert.AdamMemIdeal.τ).loc Cert.AdamMemIdeal.main_arg3)) (m ((c.tc : Thread Cert.AdamMemIdeal.nD Cert.AdamMemIdeal.τ).loc Cert.AdamMemIdeal.main_arg4))
      rw [← e3, ← e4]
      exact Cert.AdamMemRefIdeal.Value.out_g _ _
    · show _ = Adam.steps (m ((c.tc : Thread Cert.AdamMemIdeal.nD Cert.AdamMemIdeal.τ).loc Cert.AdamMemIdeal.main_arg0)) (m ((c.tc : Thread Cert.AdamMemIdeal.nD Cert.AdamMemIdeal.τ).loc Cert.AdamMemIdeal.main_arg1)) (m ((c.tc : Thread Cert.AdamMemIdeal.nD Cert.AdamMemIdeal.τ).loc Cert.AdamMemIdeal.main_arg2)) (Adam.stack (m ((c.tc : Thread Cert.AdamMemIdeal.nD Cert.AdamMemIdeal.τ).loc Cert.AdamMemIdeal.main_arg3)) (m ((c.tc : Thread Cert.AdamMemIdeal.nD Cert.AdamMemIdeal.τ).loc Cert.AdamMemIdeal.main_arg4)))
      rw [← e0, ← e1, ← e2, ← e3, ← e4]
      exact Cert.AdamMemRefIdeal.Value.out_d _ _ _ _ _
    · show _ = Adam.avgs (m ((c.tc : Thread Cert.AdamMemIdeal.nD Cert.AdamMemIdeal.τ).loc Cert.AdamMemIdeal.main_arg1)) (Adam.stack (m ((c.tc : Thread Cert.AdamMemIdeal.nD Cert.AdamMemIdeal.τ).loc Cert.AdamMemIdeal.main_arg3)) (m ((c.tc : Thread Cert.AdamMemIdeal.nD Cert.AdamMemIdeal.τ).loc Cert.AdamMemIdeal.main_arg4)))
      rw [← e1, ← e3, ← e4]
      exact Cert.AdamMemRefIdeal.Value.out_m _ _ _
    · show _ = Adam.sqrs (m ((c.tc : Thread Cert.AdamMemIdeal.nD Cert.AdamMemIdeal.τ).loc Cert.AdamMemIdeal.main_arg2)) (Adam.stack (m ((c.tc : Thread Cert.AdamMemIdeal.nD Cert.AdamMemIdeal.τ).loc Cert.AdamMemIdeal.main_arg3)) (m ((c.tc : Thread Cert.AdamMemIdeal.nD Cert.AdamMemIdeal.τ).loc Cert.AdamMemIdeal.main_arg4)))
      rw [← e2, ← e3, ← e4]
      exact Cert.AdamMemRefIdeal.Value.out_v _ _ _

theorem frame_AdamInA : Cert.quiescent_AdamInARefIdeal (hAdamInARefIdeal := Cert.AdamInARefIdeal.Gen.facts) :=
  fun m ρ _ => (θ_run Cert.AdamInARefIdeal.defs _ _).mono (fun r h => ⟨fun c => (h c).2.2.2.2, Idealize.ShloMosaic.sem_eq_zero_of_no_sems (by decide) r.2⟩)
    (Cert.AdamInARefIdeal.Value.run m ρ)

theorem same_AdamInA : Cert.algebraic_AdamInAIdeal_AdamInARefIdeal (hAdamInAIdeal := Cert.AdamInAIdeal.Gen.facts) (hAdamInARefIdeal := Cert.AdamInARefIdeal.Gen.facts) := by
  intro m g m' g' _ hm
  refine ⟨fun c => Adam.lone (m ((c.tc : Thread Cert.AdamInAIdeal.nD Cert.AdamInAIdeal.τ).loc Cert.AdamInAIdeal.main_arg3)), fun c => Adam.steps (m ((c.tc : Thread Cert.AdamInAIdeal.nD Cert.AdamInAIdeal.τ).loc Cert.AdamInAIdeal.main_arg0)) (m ((c.tc : Thread Cert.AdamInAIdeal.nD Cert.AdamInAIdeal.τ).loc Cert.AdamInAIdeal.main_arg1)) (m ((c.tc : Thread Cert.AdamInAIdeal.nD Cert.AdamInAIdeal.τ).loc Cert.AdamInAIdeal.main_arg2)) (Adam.lone (m ((c.tc : Thread Cert.AdamInAIdeal.nD Cert.AdamInAIdeal.τ).loc Cert.AdamInAIdeal.main_arg3))), fun c => Adam.avgs (m ((c.tc : Thread Cert.AdamInAIdeal.nD Cert.AdamInAIdeal.τ).loc Cert.AdamInAIdeal.main_arg1)) (Adam.lone (m ((c.tc : Thread Cert.AdamInAIdeal.nD Cert.AdamInAIdeal.τ).loc Cert.AdamInAIdeal.main_arg3))), fun c => Adam.sqrs (m ((c.tc : Thread Cert.AdamInAIdeal.nD Cert.AdamInAIdeal.τ).loc Cert.AdamInAIdeal.main_arg2)) (Adam.lone (m ((c.tc : Thread Cert.AdamInAIdeal.nD Cert.AdamInAIdeal.τ).loc Cert.AdamInAIdeal.main_arg3))), ?_, ?_⟩
  · refine (θ_run Cert.AdamInAIdeal.defs _ _).mono (fun r h c => ?_) (Cert.AdamInAIdeal.Value.run_blocks m g)
    obtain ⟨h0, h1, h2, h3, hargs⟩ := h c
    exact ⟨h0.trans (Cert.AdamInAIdeal.Value.arr_g m c), h1.trans (Cert.AdamInAIdeal.Value.arr_d m c), h2.trans (Cert.AdamInAIdeal.Value.arr_m m c), h3.trans (Cert.AdamInAIdeal.Value.arr_v m c), hargs⟩
  · refine (θ_run Cert.AdamInARefIdeal.defs _ _).mono (fun r h c => ?_) (Cert.AdamInARefIdeal.Value.run m' g')
    obtain ⟨h0, h1, h2, h3, hargs⟩ := h c
    obtain ⟨e0, e1, e2, e3⟩ := hm c
    refine ⟨h0.trans ?_, h1.trans ?_, h2.trans ?_, h3.trans ?_, hargs⟩
    · show _ = Adam.lone (m ((c.tc : Thread Cert.AdamInAIdeal.nD Cert.AdamInAIdeal.τ).loc Cert.AdamInAIdeal.main_arg3))
      rw [← e3]
      exact Cert.AdamInARefIdeal.Value.out_g _
    · show _ = Adam.steps (m ((c.tc : Thread Cert.AdamInAIdeal.nD Cert.AdamInAIdeal.τ).loc Cert.AdamInAIdeal.main_arg0)) (m ((c.tc : Thread Cert.AdamInAIdeal.nD Cert.AdamInAIdeal.τ).loc Cert.AdamInAIdeal.main_arg1)) (m ((c.tc : Thread Cert.AdamInAIdeal.nD Cert.AdamInAIdeal.τ).loc Cert.AdamInAIdeal.main_arg2)) (Adam.lone (m ((c.tc : Thread Cert.AdamInAIdeal.nD Cert.AdamInAIdeal.τ).loc Cert.AdamInAIdeal.main_arg3)))
      rw [← e0, ← e1, ← e2, ← e3]
      exact Cert.AdamInARefIdeal.Value.out_d _ _ _ _
    · show _ = Adam.avgs (m ((c.tc : Thread Cert.AdamInAIdeal.nD Cert.AdamInAIdeal.τ).loc Cert.AdamInAIdeal.main_arg1)) (Adam.lone (m ((c.tc : Thread Cert.AdamInAIdeal.nD Cert.AdamInAIdeal.τ).loc Cert.AdamInAIdeal.main_arg3)))
      rw [← e1, ← e3]
      exact Cert.AdamInARefIdeal.Value.out_m _ _
    · show _ = Adam.sqrs (m ((c.tc : Thread Cert.AdamInAIdeal.nD Cert.AdamInAIdeal.τ).loc Cert.AdamInAIdeal.main_arg2)) (Adam.lone (m ((c.tc : Thread Cert.AdamInAIdeal.nD Cert.AdamInAIdeal.τ).loc Cert.AdamInAIdeal.main_arg3)))
      rw [← e2, ← e3]
      exact Cert.AdamInARefIdeal.Value.out_v _ _

theorem frame_AdamInB : Cert.quiescent_AdamInBRefIdeal (hAdamInBRefIdeal := Cert.AdamInBRefIdeal.Gen.facts) :=
  fun m ρ _ => (θ_run Cert.AdamInBRefIdeal.defs _ _).mono (fun r h => ⟨fun c => (h c).2.2.2.2, Idealize.ShloMosaic.sem_eq_zero_of_no_sems (by decide) r.2⟩)
    (Cert.AdamInBRefIdeal.Value.run m ρ)

theorem same_AdamInB : Cert.algebraic_AdamInBIdeal_AdamInBRefIdeal (hAdamInBIdeal := Cert.AdamInBIdeal.Gen.facts) (hAdamInBRefIdeal := Cert.AdamInBRefIdeal.Gen.facts) := by
  intro m g m' g' _ hm
  refine ⟨fun c => Adam.lone (m ((c.tc : Thread Cert.AdamInBIdeal.nD Cert.AdamInBIdeal.τ).loc Cert.AdamInBIdeal.main_arg3)), fun c => Adam.steps (m ((c.tc : Thread Cert.AdamInBIdeal.nD Cert.AdamInBIdeal.τ).loc Cert.AdamInBIdeal.main_arg0)) (m ((c.tc : Thread Cert.AdamInBIdeal.nD Cert.AdamInBIdeal.τ).loc Cert.AdamInBIdeal.main_arg1)) (m ((c.tc : Thread Cert.AdamInBIdeal.nD Cert.AdamInBIdeal.τ).loc Cert.AdamInBIdeal.main_arg2)) (Adam.lone (m ((c.tc : Thread Cert.AdamInBIdeal.nD Cert.AdamInBIdeal.τ).loc Cert.AdamInBIdeal.main_arg3))), fun c => Adam.avgs (m ((c.tc : Thread Cert.AdamInBIdeal.nD Cert.AdamInBIdeal.τ).loc Cert.AdamInBIdeal.main_arg1)) (Adam.lone (m ((c.tc : Thread Cert.AdamInBIdeal.nD Cert.AdamInBIdeal.τ).loc Cert.AdamInBIdeal.main_arg3))), fun c => Adam.sqrs (m ((c.tc : Thread Cert.AdamInBIdeal.nD Cert.AdamInBIdeal.τ).loc Cert.AdamInBIdeal.main_arg2)) (Adam.lone (m ((c.tc : Thread Cert.AdamInBIdeal.nD Cert.AdamInBIdeal.τ).loc Cert.AdamInBIdeal.main_arg3))), ?_, ?_⟩
  · refine (θ_run Cert.AdamInBIdeal.defs _ _).mono (fun r h c => ?_) (Cert.AdamInBIdeal.Value.run_blocks m g)
    obtain ⟨h0, h1, h2, h3, hargs⟩ := h c
    exact ⟨h0.trans (Cert.AdamInBIdeal.Value.arr_g m c), h1.trans (Cert.AdamInBIdeal.Value.arr_d m c), h2.trans (Cert.AdamInBIdeal.Value.arr_m m c), h3.trans (Cert.AdamInBIdeal.Value.arr_v m c), hargs⟩
  · refine (θ_run Cert.AdamInBRefIdeal.defs _ _).mono (fun r h c => ?_) (Cert.AdamInBRefIdeal.Value.run m' g')
    obtain ⟨h0, h1, h2, h3, hargs⟩ := h c
    obtain ⟨e0, e1, e2, e3⟩ := hm c
    refine ⟨h0.trans ?_, h1.trans ?_, h2.trans ?_, h3.trans ?_, hargs⟩
    · show _ = Adam.lone (m ((c.tc : Thread Cert.AdamInBIdeal.nD Cert.AdamInBIdeal.τ).loc Cert.AdamInBIdeal.main_arg3))
      rw [← e3]
      exact Cert.AdamInBRefIdeal.Value.out_g _
    · show _ = Adam.steps (m ((c.tc : Thread Cert.AdamInBIdeal.nD Cert.AdamInBIdeal.τ).loc Cert.AdamInBIdeal.main_arg0)) (m ((c.tc : Thread Cert.AdamInBIdeal.nD Cert.AdamInBIdeal.τ).loc Cert.AdamInBIdeal.main_arg1)) (m ((c.tc : Thread Cert.AdamInBIdeal.nD Cert.AdamInBIdeal.τ).loc Cert.AdamInBIdeal.main_arg2)) (Adam.lone (m ((c.tc : Thread Cert.AdamInBIdeal.nD Cert.AdamInBIdeal.τ).loc Cert.AdamInBIdeal.main_arg3)))
      rw [← e0, ← e1, ← e2, ← e3]
      exact Cert.AdamInBRefIdeal.Value.out_d _ _ _ _
    · show _ = Adam.avgs (m ((c.tc : Thread Cert.AdamInBIdeal.nD Cert.AdamInBIdeal.τ).loc Cert.AdamInBIdeal.main_arg1)) (Adam.lone (m ((c.tc : Thread Cert.AdamInBIdeal.nD Cert.AdamInBIdeal.τ).loc Cert.AdamInBIdeal.main_arg3)))
      rw [← e1, ← e3]
      exact Cert.AdamInBRefIdeal.Value.out_m _ _
    · show _ = Adam.sqrs (m ((c.tc : Thread Cert.AdamInBIdeal.nD Cert.AdamInBIdeal.τ).loc Cert.AdamInBIdeal.main_arg2)) (Adam.lone (m ((c.tc : Thread Cert.AdamInBIdeal.nD Cert.AdamInBIdeal.τ).loc Cert.AdamInBIdeal.main_arg3)))
      rw [← e2, ← e3]
      exact Cert.AdamInBRefIdeal.Value.out_v _ _

theorem frame_AdamSmall : Cert.quiescent_AdamSmallRefIdeal (hAdamSmallRefIdeal := Cert.AdamSmallRefIdeal.Gen.facts) :=
  fun m ρ _ => (θ_run Cert.AdamSmallRefIdeal.defs _ _).mono (fun r h => ⟨fun c => (h c).2.2.2, Idealize.ShloMosaic.sem_eq_zero_of_no_sems (by decide) r.2⟩)
    (Cert.AdamSmallRefIdeal.Value.run m ρ)

theorem same_AdamSmall : Cert.algebraic_AdamSmallIdeal_AdamSmallRefIdeal (hAdamSmallIdeal := Cert.AdamSmallIdeal.Gen.facts) (hAdamSmallRefIdeal := Cert.AdamSmallRefIdeal.Gen.facts) := by
  intro m g m' g' _ hm
  refine ⟨fun c => Adam.steps (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)), fun c => Adam.avgs (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg3)), fun c => Adam.sqrs (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)), ?_, ?_⟩
  · refine (θ_run Cert.AdamSmallIdeal.defs _ _).mono (fun r h c => ?_) (Cert.AdamSmallIdeal.Value.run_blocks m g)
    obtain ⟨h0, h1, h2, hargs⟩ := h c
    exact ⟨h0.trans (Cert.AdamSmallIdeal.Value.arr_d m c), h1.trans (Cert.AdamSmallIdeal.Value.arr_m m c), h2.trans (Cert.AdamSmallIdeal.Value.arr_v m c), hargs⟩
  · refine (θ_run Cert.AdamSmallRefIdeal.defs _ _).mono (fun r h c => ?_) (Cert.AdamSmallRefIdeal.Value.run m' g')
    obtain ⟨h0, h1, h2, hargs⟩ := h c
    obtain ⟨e0, e1, e2, e3⟩ := hm c
    refine ⟨h0.trans ?_, h1.trans ?_, h2.trans ?_, hargs⟩
    · show _ = Adam.steps (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3))
      rw [← e0, ← e1, ← e2, ← e3]
      exact Cert.AdamSmallRefIdeal.Value.out_d _ _ _ _
    · show _ = Adam.avgs (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg3))
      rw [← e1, ← e3]
      exact Cert.AdamSmallRefIdeal.Value.out_m _ _
    · show _ = Adam.sqrs (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3))
      rw [← e2, ← e3]
      exact Cert.AdamSmallRefIdeal.Value.out_v _ _

theorem frame_GluFwd : Cert.quiescent_GluFwdRefIdeal (hGluFwdRefIdeal := Cert.GluFwdRefIdeal.Gen.facts) :=
  fun m ρ _ => (θ_run Cert.GluFwdRefIdeal.defs _ _).mono (fun r h => ⟨fun c => (h c).2.2, Idealize.ShloMosaic.sem_eq_zero_of_no_sems (by decide) r.2⟩)
    (Cert.GluFwdRefIdeal.Value.run m ρ)

theorem same_GluFwd : Cert.algebraic_GluFwdIdeal_GluFwdRefIdeal (hGluFwdIdeal := Cert.GluFwdIdeal.Gen.facts) (hGluFwdRefIdeal := Cert.GluFwdRefIdeal.Gen.facts) := by
  intro m g m' g' _ hm
  refine ⟨fun c => Glu.act (m ((c.tc : Thread Cert.GluFwdIdeal.nD Cert.GluFwdIdeal.τ).loc Cert.GluFwdIdeal.main_arg0)) (m ((c.tc : Thread Cert.GluFwdIdeal.nD Cert.GluFwdIdeal.τ).loc Cert.GluFwdIdeal.main_arg1)) (fun x => (m ((c.tc : Thread Cert.GluFwdIdeal.nD Cert.GluFwdIdeal.τ).loc Cert.GluFwdIdeal.main_arg2)) (ix1 x)), fun c => Glu.pre (m ((c.tc : Thread Cert.GluFwdIdeal.nD Cert.GluFwdIdeal.τ).loc Cert.GluFwdIdeal.main_arg0)) (m ((c.tc : Thread Cert.GluFwdIdeal.nD Cert.GluFwdIdeal.τ).loc Cert.GluFwdIdeal.main_arg1)) (fun x => (m ((c.tc : Thread Cert.GluFwdIdeal.nD Cert.GluFwdIdeal.τ).loc Cert.GluFwdIdeal.main_arg2)) (ix1 x)), ?_, ?_⟩
  · refine (θ_run Cert.GluFwdIdeal.defs _ _).mono (fun r h c => ?_) (Cert.GluFwdIdeal.Value.run_blocks m g)
    obtain ⟨h0, h1, hargs⟩ := h c
    exact ⟨h0.trans (Cert.GluFwdIdeal.Value.arr_a m c), h1.trans (Cert.GluFwdIdeal.Value.arr_p m c), hargs⟩
  · refine (θ_run Cert.GluFwdRefIdeal.defs _ _).mono (fun r h c => ?_) (Cert.GluFwdRefIdeal.Value.run m' g')
    obtain ⟨h0, h1, hargs⟩ := h c
    obtain ⟨e0, e1, e2⟩ := hm c
    refine ⟨h0.trans ?_, h1.trans ?_, hargs⟩
    · show _ = Glu.act (m ((c.tc : Thread Cert.GluFwdIdeal.nD Cert.GluFwdIdeal.τ).loc Cert.GluFwdIdeal.main_arg0)) (m ((c.tc : Thread Cert.GluFwdIdeal.nD Cert.GluFwdIdeal.τ).loc Cert.GluFwdIdeal.main_arg1)) (fun x => (m ((c.tc : Thread Cert.GluFwdIdeal.nD Cert.GluFwdIdeal.τ).loc Cert.GluFwdIdeal.main_arg2)) (ix1 x))
      rw [← e0, ← e1, ← e2]
      exact Cert.GluFwdRefIdeal.Value.res_a m' c
    · show _ = Glu.pre (m ((c.tc : Thread Cert.GluFwdIdeal.nD Cert.GluFwdIdeal.τ).loc Cert.GluFwdIdeal.main_arg0)) (m ((c.tc : Thread Cert.GluFwdIdeal.nD Cert.GluFwdIdeal.τ).loc Cert.GluFwdIdeal.main_arg1)) (fun x => (m ((c.tc : Thread Cert.GluFwdIdeal.nD Cert.GluFwdIdeal.τ).loc Cert.GluFwdIdeal.main_arg2)) (ix1 x))
      rw [← e0, ← e1, ← e2]
      exact Cert.GluFwdRefIdeal.Value.out_p _ _ _

theorem frame_CrossA : Cert.quiescent_CrossARefIdeal (hCrossARefIdeal := Cert.CrossARefIdeal.Gen.facts) :=
  fun m ρ _ => (θ_run Cert.CrossARefIdeal.defs _ _).mono (fun r h => ⟨fun c => (h c).2, Idealize.ShloMosaic.sem_eq_zero_of_no_sems (by decide) r.2⟩)
    (Cert.CrossARefIdeal.Value.run m ρ)

theorem same_CrossA : Cert.algebraic_CrossAIdeal_CrossARefIdeal (hCrossAIdeal := Cert.CrossAIdeal.Gen.facts) (hCrossARefIdeal := Cert.CrossARefIdeal.Gen.facts) := by
  intro m g m' g' _ hm
  refine ⟨fun c => Attn.res (Attn.cols (W := 1280) 1024 (by decide) (m ((c.tc : Thread Cert.CrossAIdeal.nD Cert.CrossAIdeal.τ).loc Cert.CrossAIdeal.main_arg0))) (Attn.cols (W := 512) 0 (by decide) (m ((c.tc : Thread Cert.CrossAIdeal.nD Cert.CrossAIdeal.τ).loc Cert.CrossAIdeal.main_arg1))) (Attn.cols (W := 512) 256 (by decide) (m ((c.tc : Thread Cert.CrossAIdeal.nD Cert.CrossAIdeal.τ).loc Cert.CrossAIdeal.main_arg1))), ?_, ?_⟩
  · refine (θ_run Cert.CrossAIdeal.defs _ _).mono (fun r h c => ?_) (Cert.CrossAIdeal.Value.run_blocks m g)
    obtain ⟨h0, hargs⟩ := h c
    exact ⟨h0.trans (Cert.CrossAIdeal.Value.arr m c), hargs⟩
  · refine (θ_run Cert.CrossARefIdeal.defs _ _).mono (fun r h c => ?_) (Cert.CrossARefIdeal.Value.run m' g')
    obtain ⟨h0, hargs⟩ := h c
    obtain ⟨e0, e1⟩ := hm c
    refine ⟨h0.trans ?_, hargs⟩
    · show _ = Attn.res (Attn.cols (W := 1280) 1024 (by decide) (m ((c.tc : Thread Cert.CrossAIdeal.nD Cert.CrossAIdeal.τ).loc Cert.CrossAIdeal.main_arg0))) (Attn.cols (W := 512) 0 (by decide) (m ((c.tc : Thread Cert.CrossAIdeal.nD Cert.CrossAIdeal.τ).loc Cert.CrossAIdeal.main_arg1))) (Attn.cols (W := 512) 256 (by decide) (m ((c.tc : Thread Cert.CrossAIdeal.nD Cert.CrossAIdeal.τ).loc Cert.CrossAIdeal.main_arg1)))
      rw [← e0, ← e1]
      exact Cert.CrossARefIdeal.Value.res m' c

theorem frame_CrossB : Cert.quiescent_CrossBRefIdeal (hCrossBRefIdeal := Cert.CrossBRefIdeal.Gen.facts) :=
  fun m ρ _ => (θ_run Cert.CrossBRefIdeal.defs _ _).mono (fun r h => ⟨fun c => (h c).2, Idealize.ShloMosaic.sem_eq_zero_of_no_sems (by decide) r.2⟩)
    (Cert.CrossBRefIdeal.Value.run m ρ)

theorem same_CrossB : Cert.algebraic_CrossBIdeal_CrossBRefIdeal (hCrossBIdeal := Cert.CrossBIdeal.Gen.facts) (hCrossBRefIdeal := Cert.CrossBRefIdeal.Gen.facts) := by
  intro m g m' g' _ hm
  refine ⟨fun c => Attn.res (Attn.cols (W := 2688) 2304 (by decide) (m ((c.tc : Thread Cert.CrossBIdeal.nD Cert.CrossBIdeal.τ).loc Cert.CrossBIdeal.main_arg0))) (Attn.cols (W := 512) 0 (by decide) (m ((c.tc : Thread Cert.CrossBIdeal.nD Cert.CrossBIdeal.τ).loc Cert.CrossBIdeal.main_arg1))) (Attn.cols (W := 512) 256 (by decide) (m ((c.tc : Thread Cert.CrossBIdeal.nD Cert.CrossBIdeal.τ).loc Cert.CrossBIdeal.main_arg1))), ?_, ?_⟩
  · refine (θ_run Cert.CrossBIdeal.defs _ _).mono (fun r h c => ?_) (Cert.CrossBIdeal.Value.run_blocks m g)
    obtain ⟨h0, hargs⟩ := h c
    exact ⟨h0.trans (Cert.CrossBIdeal.Value.arr m c), hargs⟩
  · refine (θ_run Cert.CrossBRefIdeal.defs _ _).mono (fun r h c => ?_) (Cert.CrossBRefIdeal.Value.run m' g')
    obtain ⟨h0, hargs⟩ := h c
    obtain ⟨e0, e1⟩ := hm c
    refine ⟨h0.trans ?_, hargs⟩
    · show _ = Attn.res (Attn.cols (W := 2688) 2304 (by decide) (m ((c.tc : Thread Cert.CrossBIdeal.nD Cert.CrossBIdeal.τ).loc Cert.CrossBIdeal.main_arg0))) (Attn.cols (W := 512) 0 (by decide) (m ((c.tc : Thread Cert.CrossBIdeal.nD Cert.CrossBIdeal.τ).loc Cert.CrossBIdeal.main_arg1))) (Attn.cols (W := 512) 256 (by decide) (m ((c.tc : Thread Cert.CrossBIdeal.nD Cert.CrossBIdeal.τ).loc Cert.CrossBIdeal.main_arg1)))
      rw [← e0, ← e1]
      exact Cert.CrossBRefIdeal.Value.res m' c

theorem frame_CrossGradA : Cert.quiescent_CrossGradARefIdeal (hCrossGradARefIdeal := Cert.CrossGradARefIdeal.Gen.facts) :=
  fun m ρ _ => (θ_run Cert.CrossGradARefIdeal.defs _ _).mono (fun r h => ⟨fun c => (h c).2.2.2, Idealize.ShloMosaic.sem_eq_zero_of_no_sems (by decide) r.2⟩)
    (Cert.CrossGradARefIdeal.Value.run m ρ)

theorem same_CrossGradA : Cert.algebraic_CrossGradAIdeal_CrossGradARefIdeal (hCrossGradAIdeal := Cert.CrossGradAIdeal.Gen.facts) (hCrossGradARefIdeal := Cert.CrossGradARefIdeal.Gen.facts) := by
  intro m g m' g' _ hm
  refine ⟨fun c => Attn.resQ (Attn.cols (W := 1280) 1024 (by decide) (m ((c.tc : Thread Cert.CrossGradAIdeal.nD Cert.CrossGradAIdeal.τ).loc Cert.CrossGradAIdeal.main_arg0))) (Attn.cols (W := 512) 0 (by decide) (m ((c.tc : Thread Cert.CrossGradAIdeal.nD Cert.CrossGradAIdeal.τ).loc Cert.CrossGradAIdeal.main_arg1))) (Attn.cols (W := 512) 256 (by decide) (m ((c.tc : Thread Cert.CrossGradAIdeal.nD Cert.CrossGradAIdeal.τ).loc Cert.CrossGradAIdeal.main_arg1))) (Attn.cols (W := 1024) 768 (by decide) (m ((c.tc : Thread Cert.CrossGradAIdeal.nD Cert.CrossGradAIdeal.τ).loc Cert.CrossGradAIdeal.main_arg2))), fun c => Attn.resK (Attn.cols (W := 1280) 1024 (by decide) (m ((c.tc : Thread Cert.CrossGradAIdeal.nD Cert.CrossGradAIdeal.τ).loc Cert.CrossGradAIdeal.main_arg0))) (Attn.cols (W := 512) 0 (by decide) (m ((c.tc : Thread Cert.CrossGradAIdeal.nD Cert.CrossGradAIdeal.τ).loc Cert.CrossGradAIdeal.main_arg1))) (Attn.cols (W := 512) 256 (by decide) (m ((c.tc : Thread Cert.CrossGradAIdeal.nD Cert.CrossGradAIdeal.τ).loc Cert.CrossGradAIdeal.main_arg1))) (Attn.cols (W := 1024) 768 (by decide) (m ((c.tc : Thread Cert.CrossGradAIdeal.nD Cert.CrossGradAIdeal.τ).loc Cert.CrossGradAIdeal.main_arg2))), fun c => Attn.resV (Attn.cols (W := 1280) 1024 (by decide) (m ((c.tc : Thread Cert.CrossGradAIdeal.nD Cert.CrossGradAIdeal.τ).loc Cert.CrossGradAIdeal.main_arg0))) (Attn.cols (W := 512) 0 (by decide) (m ((c.tc : Thread Cert.CrossGradAIdeal.nD Cert.CrossGradAIdeal.τ).loc Cert.CrossGradAIdeal.main_arg1))) (Attn.cols (W := 512) 256 (by decide) (m ((c.tc : Thread Cert.CrossGradAIdeal.nD Cert.CrossGradAIdeal.τ).loc Cert.CrossGradAIdeal.main_arg1))) (Attn.cols (W := 1024) 768 (by decide) (m ((c.tc : Thread Cert.CrossGradAIdeal.nD Cert.CrossGradAIdeal.τ).loc Cert.CrossGradAIdeal.main_arg2))), ?_, ?_⟩
  · refine (θ_run Cert.CrossGradAIdeal.defs _ _).mono (fun r h c => ?_) (Cert.CrossGradAIdeal.Value.run_blocks m g)
    obtain ⟨h0, h1, h2, hargs⟩ := h c
    exact ⟨h0.trans (Cert.CrossGradAIdeal.Value.arr_q m c), h1.trans (Cert.CrossGradAIdeal.Value.arr_k m c), h2.trans (Cert.CrossGradAIdeal.Value.arr_v m c), hargs⟩
  · refine (θ_run Cert.CrossGradARefIdeal.defs _ _).mono (fun r h c => ?_) (Cert.CrossGradARefIdeal.Value.run m' g')
    obtain ⟨h0, h1, h2, hargs⟩ := h c
    obtain ⟨e0, e1, e2⟩ := hm c
    refine ⟨h0.trans ?_, h1.trans ?_, h2.trans ?_, hargs⟩
    · show _ = Attn.resQ (Attn.cols (W := 1280) 1024 (by decide) (m ((c.tc : Thread Cert.CrossGradAIdeal.nD Cert.CrossGradAIdeal.τ).loc Cert.CrossGradAIdeal.main_arg0))) (Attn.cols (W := 512) 0 (by decide) (m ((c.tc : Thread Cert.CrossGradAIdeal.nD Cert.CrossGradAIdeal.τ).loc Cert.CrossGradAIdeal.main_arg1))) (Attn.cols (W := 512) 256 (by decide) (m ((c.tc : Thread Cert.CrossGradAIdeal.nD Cert.CrossGradAIdeal.τ).loc Cert.CrossGradAIdeal.main_arg1))) (Attn.cols (W := 1024) 768 (by decide) (m ((c.tc : Thread Cert.CrossGradAIdeal.nD Cert.CrossGradAIdeal.τ).loc Cert.CrossGradAIdeal.main_arg2)))
      rw [← e0, ← e1, ← e2]
      exact Cert.CrossGradARefIdeal.Value.res_q m' c
    · show _ = Attn.resK (Attn.cols (W := 1280) 1024 (by decide) (m ((c.tc : Thread Cert.CrossGradAIdeal.nD Cert.CrossGradAIdeal.τ).loc Cert.CrossGradAIdeal.main_arg0))) (Attn.cols (W := 512) 0 (by decide) (m ((c.tc : Thread Cert.CrossGradAIdeal.nD Cert.CrossGradAIdeal.τ).loc Cert.CrossGradAIdeal.main_arg1))) (Attn.cols (W := 512) 256 (by decide) (m ((c.tc : Thread Cert.CrossGradAIdeal.nD Cert.CrossGradAIdeal.τ).loc Cert.CrossGradAIdeal.main_arg1))) (Attn.cols (W := 1024) 768 (by decide) (m ((c.tc : Thread Cert.CrossGradAIdeal.nD Cert.CrossGradAIdeal.τ).loc Cert.CrossGradAIdeal.main_arg2)))
      rw [← e0, ← e1, ← e2]
      exact Cert.CrossGradARefIdeal.Value.res_k m' c
    · show _ = Attn.resV (Attn.cols (W := 1280) 1024 (by decide) (m ((c.tc : Thread Cert.CrossGradAIdeal.nD Cert.CrossGradAIdeal.τ).loc Cert.CrossGradAIdeal.main_arg0))) (Attn.cols (W := 512) 0 (by decide) (m ((c.tc : Thread Cert.CrossGradAIdeal.nD Cert.CrossGradAIdeal.τ).loc Cert.CrossGradAIdeal.main_arg1))) (Attn.cols (W := 512) 256 (by decide) (m ((c.tc : Thread Cert.CrossGradAIdeal.nD Cert.CrossGradAIdeal.τ).loc Cert.CrossGradAIdeal.main_arg1))) (Attn.cols (W := 1024) 768 (by decide) (m ((c.tc : Thread Cert.CrossGradAIdeal.nD Cert.CrossGradAIdeal.τ).loc Cert.CrossGradAIdeal.main_arg2)))
      rw [← e0, ← e1, ← e2]
      exact Cert.CrossGradARefIdeal.Value.res_v m' c

theorem frame_CrossGradB : Cert.quiescent_CrossGradBRefIdeal (hCrossGradBRefIdeal := Cert.CrossGradBRefIdeal.Gen.facts) :=
  fun m ρ _ => (θ_run Cert.CrossGradBRefIdeal.defs _ _).mono (fun r h => ⟨fun c => (h c).2.2.2, Idealize.ShloMosaic.sem_eq_zero_of_no_sems (by decide) r.2⟩)
    (Cert.CrossGradBRefIdeal.Value.run m ρ)

theorem same_CrossGradB : Cert.algebraic_CrossGradBIdeal_CrossGradBRefIdeal (hCrossGradBIdeal := Cert.CrossGradBIdeal.Gen.facts) (hCrossGradBRefIdeal := Cert.CrossGradBRefIdeal.Gen.facts) := by
  intro m g m' g' _ hm
  refine ⟨fun c => Attn.resQ (Attn.cols (W := 2688) 2304 (by decide) (m ((c.tc : Thread Cert.CrossGradBIdeal.nD Cert.CrossGradBIdeal.τ).loc Cert.CrossGradBIdeal.main_arg0))) (Attn.cols (W := 512) 0 (by decide) (m ((c.tc : Thread Cert.CrossGradBIdeal.nD Cert.CrossGradBIdeal.τ).loc Cert.CrossGradBIdeal.main_arg1))) (Attn.cols (W := 512) 256 (by decide) (m ((c.tc : Thread Cert.CrossGradBIdeal.nD Cert.CrossGradBIdeal.τ).loc Cert.CrossGradBIdeal.main_arg1))) (Attn.cols (W := 1024) 768 (by decide) (m ((c.tc : Thread Cert.CrossGradBIdeal.nD Cert.CrossGradBIdeal.τ).loc Cert.CrossGradBIdeal.main_arg2))), fun c => Attn.resK (Attn.cols (W := 2688) 2304 (by decide) (m ((c.tc : Thread Cert.CrossGradBIdeal.nD Cert.CrossGradBIdeal.τ).loc Cert.CrossGradBIdeal.main_arg0))) (Attn.cols (W := 512) 0 (by decide) (m ((c.tc : Thread Cert.CrossGradBIdeal.nD Cert.CrossGradBIdeal.τ).loc Cert.CrossGradBIdeal.main_arg1))) (Attn.cols (W := 512) 256 (by decide) (m ((c.tc : Thread Cert.CrossGradBIdeal.nD Cert.CrossGradBIdeal.τ).loc Cert.CrossGradBIdeal.main_arg1))) (Attn.cols (W := 1024) 768 (by decide) (m ((c.tc : Thread Cert.CrossGradBIdeal.nD Cert.CrossGradBIdeal.τ).loc Cert.CrossGradBIdeal.main_arg2))), fun c => Attn.resV (Attn.cols (W := 2688) 2304 (by decide) (m ((c.tc : Thread Cert.CrossGradBIdeal.nD Cert.CrossGradBIdeal.τ).loc Cert.CrossGradBIdeal.main_arg0))) (Attn.cols (W := 512) 0 (by decide) (m ((c.tc : Thread Cert.CrossGradBIdeal.nD Cert.CrossGradBIdeal.τ).loc Cert.CrossGradBIdeal.main_arg1))) (Attn.cols (W := 512) 256 (by decide) (m ((c.tc : Thread Cert.CrossGradBIdeal.nD Cert.CrossGradBIdeal.τ).loc Cert.CrossGradBIdeal.main_arg1))) (Attn.cols (W := 1024) 768 (by decide) (m ((c.tc : Thread Cert.CrossGradBIdeal.nD Cert.CrossGradBIdeal.τ).loc Cert.CrossGradBIdeal.main_arg2))), ?_, ?_⟩
  · refine (θ_run Cert.CrossGradBIdeal.defs _ _).mono (fun r h c => ?_) (Cert.CrossGradBIdeal.Value.run_blocks m g)
    obtain ⟨h0, h1, h2, hargs⟩ := h c
    exact ⟨h0.trans (Cert.CrossGradBIdeal.Value.arr_q m c), h1.trans (Cert.CrossGradBIdeal.Value.arr_k m c), h2.trans (Cert.CrossGradBIdeal.Value.arr_v m c), hargs⟩
  · refine (θ_run Cert.CrossGradBRefIdeal.defs _ _).mono (fun r h c => ?_) (Cert.CrossGradBRefIdeal.Value.run m' g')
    obtain ⟨h0, h1, h2, hargs⟩ := h c
    obtain ⟨e0, e1, e2⟩ := hm c
    refine ⟨h0.trans ?_, h1.trans ?_, h2.trans ?_, hargs⟩
    · show _ = Attn.resQ (Attn.cols (W := 2688) 2304 (by decide) (m ((c.tc : Thread Cert.CrossGradBIdeal.nD Cert.CrossGradBIdeal.τ).loc Cert.CrossGradBIdeal.main_arg0))) (Attn.cols (W := 512) 0 (by decide) (m ((c.tc : Thread Cert.CrossGradBIdeal.nD Cert.CrossGradBIdeal.τ).loc Cert.CrossGradBIdeal.main_arg1))) (Attn.cols (W := 512) 256 (by decide) (m ((c.tc : Thread Cert.CrossGradBIdeal.nD Cert.CrossGradBIdeal.τ).loc Cert.CrossGradBIdeal.main_arg1))) (Attn.cols (W := 1024) 768 (by decide) (m ((c.tc : Thread Cert.CrossGradBIdeal.nD Cert.CrossGradBIdeal.τ).loc Cert.CrossGradBIdeal.main_arg2)))
      rw [← e0, ← e1, ← e2]
      exact Cert.CrossGradBRefIdeal.Value.res_q m' c
    · show _ = Attn.resK (Attn.cols (W := 2688) 2304 (by decide) (m ((c.tc : Thread Cert.CrossGradBIdeal.nD Cert.CrossGradBIdeal.τ).loc Cert.CrossGradBIdeal.main_arg0))) (Attn.cols (W := 512) 0 (by decide) (m ((c.tc : Thread Cert.CrossGradBIdeal.nD Cert.CrossGradBIdeal.τ).loc Cert.CrossGradBIdeal.main_arg1))) (Attn.cols (W := 512) 256 (by decide) (m ((c.tc : Thread Cert.CrossGradBIdeal.nD Cert.CrossGradBIdeal.τ).loc Cert.CrossGradBIdeal.main_arg1))) (Attn.cols (W := 1024) 768 (by decide) (m ((c.tc : Thread Cert.CrossGradBIdeal.nD Cert.CrossGradBIdeal.τ).loc Cert.CrossGradBIdeal.main_arg2)))
      rw [← e0, ← e1, ← e2]
      exact Cert.CrossGradBRefIdeal.Value.res_k m' c
    · show _ = Attn.resV (Attn.cols (W := 2688) 2304 (by decide) (m ((c.tc : Thread Cert.CrossGradBIdeal.nD Cert.CrossGradBIdeal.τ).loc Cert.CrossGradBIdeal.main_arg0))) (Attn.cols (W := 512) 0 (by decide) (m ((c.tc : Thread Cert.CrossGradBIdeal.nD Cert.CrossGradBIdeal.τ).loc Cert.CrossGradBIdeal.main_arg1))) (Attn.cols (W := 512) 256 (by decide) (m ((c.tc : Thread Cert.CrossGradBIdeal.nD Cert.CrossGradBIdeal.τ).loc Cert.CrossGradBIdeal.main_arg1))) (Attn.cols (W := 1024) 768 (by decide) (m ((c.tc : Thread Cert.CrossGradBIdeal.nD Cert.CrossGradBIdeal.τ).loc Cert.CrossGradBIdeal.main_arg2)))
      rw [← e0, ← e1, ← e2]
      exact Cert.CrossGradBRefIdeal.Value.res_v m' c

theorem claim : Cert.Claim :=
  ⟨Cert.Kernel.Gen.facts, Cert.KernelIdeal.Gen.facts, Cert.ReferenceIdeal.Gen.facts, Cert.GuBwdW.Gen.facts, Cert.GuBwdWIdeal.Gen.facts, Cert.GuBwdWRefIdeal.Gen.facts, Cert.GuBwdX.Gen.facts, Cert.GuBwdXIdeal.Gen.facts, Cert.GuBwdXRefIdeal.Gen.facts, Cert.GuFwd.Gen.facts, Cert.GuFwdIdeal.Gen.facts, Cert.GuFwdRefIdeal.Gen.facts, Cert.DAct.Gen.facts, Cert.DActIdeal.Gen.facts, Cert.DActRefIdeal.Gen.facts, Cert.DwDown.Gen.facts, Cert.DwDownIdeal.Gen.facts, Cert.DwDownRefIdeal.Gen.facts, Cert.DnsFwd.Gen.facts, Cert.DnsFwdIdeal.Gen.facts, Cert.DnsFwdRefIdeal.Gen.facts, Cert.ProjA.Gen.facts, Cert.ProjAIdeal.Gen.facts, Cert.ProjARefIdeal.Gen.facts, Cert.ProjB.Gen.facts, Cert.ProjBIdeal.Gen.facts, Cert.ProjBRefIdeal.Gen.facts, Cert.Down.Gen.facts, Cert.DownIdeal.Gen.facts, Cert.DownRefIdeal.Gen.facts, Cert.DownNorm.Gen.facts, Cert.DownNormIdeal.Gen.facts, Cert.DownNormRefIdeal.Gen.facts, Cert.OutProj.Gen.facts, Cert.OutProjIdeal.Gen.facts, Cert.OutProjRefIdeal.Gen.facts, Cert.DMix.Gen.facts, Cert.DMixIdeal.Gen.facts, Cert.DMixRefIdeal.Gen.facts, Cert.DwOut.Gen.facts, Cert.DwOutIdeal.Gen.facts, Cert.DwOutRefIdeal.Gen.facts, Cert.DwInA.Gen.facts, Cert.DwInAIdeal.Gen.facts, Cert.DwInARefIdeal.Gen.facts, Cert.DwInB.Gen.facts, Cert.DwInBIdeal.Gen.facts, Cert.DwInBRefIdeal.Gen.facts, Cert.DInA.Gen.facts, Cert.DInAIdeal.Gen.facts, Cert.DInARefIdeal.Gen.facts, Cert.DInB.Gen.facts, Cert.DInBIdeal.Gen.facts, Cert.DInBRefIdeal.Gen.facts, Cert.NormIn.Gen.facts, Cert.NormInIdeal.Gen.facts, Cert.NormInRefIdeal.Gen.facts, Cert.MemKv.Gen.facts, Cert.MemKvIdeal.Gen.facts, Cert.MemKvRefIdeal.Gen.facts, Cert.MemKvGrad.Gen.facts, Cert.MemKvGradIdeal.Gen.facts, Cert.MemKvGradRefIdeal.Gen.facts, Cert.LossHead.Gen.facts, Cert.LossHeadIdeal.Gen.facts, Cert.LossHeadRefIdeal.Gen.facts, Cert.AdamGu.Gen.facts, Cert.AdamGuIdeal.Gen.facts, Cert.AdamGuRefIdeal.Gen.facts, Cert.AdamDown.Gen.facts, Cert.AdamDownIdeal.Gen.facts, Cert.AdamDownRefIdeal.Gen.facts, Cert.AdamOut.Gen.facts, Cert.AdamOutIdeal.Gen.facts, Cert.AdamOutRefIdeal.Gen.facts, Cert.AdamMem.Gen.facts, Cert.AdamMemIdeal.Gen.facts, Cert.AdamMemRefIdeal.Gen.facts, Cert.AdamInA.Gen.facts, Cert.AdamInAIdeal.Gen.facts, Cert.AdamInARefIdeal.Gen.facts, Cert.AdamInB.Gen.facts, Cert.AdamInBIdeal.Gen.facts, Cert.AdamInBRefIdeal.Gen.facts, Cert.AdamSmall.Gen.facts, Cert.AdamSmallIdeal.Gen.facts, Cert.AdamSmallRefIdeal.Gen.facts, Cert.GluFwd.Gen.facts, Cert.GluFwdIdeal.Gen.facts, Cert.GluFwdRefIdeal.Gen.facts, Cert.CrossA.Gen.facts, Cert.CrossAIdeal.Gen.facts, Cert.CrossARefIdeal.Gen.facts, Cert.CrossB.Gen.facts, Cert.CrossBIdeal.Gen.facts, Cert.CrossBRefIdeal.Gen.facts, Cert.CrossGradA.Gen.facts, Cert.CrossGradAIdeal.Gen.facts, Cert.CrossGradARefIdeal.Gen.facts, Cert.CrossGradB.Gen.facts, Cert.CrossGradBIdeal.Gen.facts, Cert.CrossGradBRefIdeal.Gen.facts,
    fun m ρ _ => Cert.Kernel.Gen.frame m ρ, fun m ρ _ => Cert.KernelIdeal.Gen.frame m ρ, frame_reference,
    fun m ρ _ => Cert.GuBwdW.Gen.frame m ρ, fun m ρ _ => Cert.GuBwdWIdeal.Gen.frame m ρ, frame_GuBwdW,
    fun m ρ _ => Cert.GuBwdX.Gen.frame m ρ, fun m ρ _ => Cert.GuBwdXIdeal.Gen.frame m ρ, frame_GuBwdX,
    fun m ρ _ => Cert.GuFwd.Gen.frame m ρ, fun m ρ _ => Cert.GuFwdIdeal.Gen.frame m ρ, frame_GuFwd,
    fun m ρ _ => Cert.DAct.Gen.frame m ρ, fun m ρ _ => Cert.DActIdeal.Gen.frame m ρ, frame_DAct,
    fun m ρ _ => Cert.DwDown.Gen.frame m ρ, fun m ρ _ => Cert.DwDownIdeal.Gen.frame m ρ, frame_DwDown,
    fun m ρ _ => Cert.DnsFwd.Gen.frame m ρ, fun m ρ _ => Cert.DnsFwdIdeal.Gen.frame m ρ, frame_DnsFwd,
    fun m ρ _ => Cert.ProjA.Gen.frame m ρ, fun m ρ _ => Cert.ProjAIdeal.Gen.frame m ρ, frame_ProjA,
    fun m ρ _ => Cert.ProjB.Gen.frame m ρ, fun m ρ _ => Cert.ProjBIdeal.Gen.frame m ρ, frame_ProjB,
    fun m ρ _ => Cert.Down.Gen.frame m ρ, fun m ρ _ => Cert.DownIdeal.Gen.frame m ρ, frame_Down,
    fun m ρ _ => Cert.DownNorm.Gen.frame m ρ, fun m ρ _ => Cert.DownNormIdeal.Gen.frame m ρ, frame_DownNorm,
    fun m ρ _ => Cert.OutProj.Gen.frame m ρ, fun m ρ _ => Cert.OutProjIdeal.Gen.frame m ρ, frame_OutProj,
    fun m ρ _ => Cert.DMix.Gen.frame m ρ, fun m ρ _ => Cert.DMixIdeal.Gen.frame m ρ, frame_DMix,
    fun m ρ _ => Cert.DwOut.Gen.frame m ρ, fun m ρ _ => Cert.DwOutIdeal.Gen.frame m ρ, frame_DwOut,
    fun m ρ _ => Cert.DwInA.Gen.frame m ρ, fun m ρ _ => Cert.DwInAIdeal.Gen.frame m ρ, frame_DwInA,
    fun m ρ _ => Cert.DwInB.Gen.frame m ρ, fun m ρ _ => Cert.DwInBIdeal.Gen.frame m ρ, frame_DwInB,
    fun m ρ _ => Cert.DInA.Gen.frame m ρ, fun m ρ _ => Cert.DInAIdeal.Gen.frame m ρ, frame_DInA,
    fun m ρ _ => Cert.DInB.Gen.frame m ρ, fun m ρ _ => Cert.DInBIdeal.Gen.frame m ρ, frame_DInB,
    fun m ρ _ => Cert.NormIn.Gen.frame m ρ, fun m ρ _ => Cert.NormInIdeal.Gen.frame m ρ, frame_NormIn,
    fun m ρ _ => Cert.MemKv.Gen.frame m ρ, fun m ρ _ => Cert.MemKvIdeal.Gen.frame m ρ, frame_MemKv,
    fun m ρ _ => Cert.MemKvGrad.Gen.frame m ρ, fun m ρ _ => Cert.MemKvGradIdeal.Gen.frame m ρ, frame_MemKvGrad,
    fun m ρ _ => Cert.LossHead.Gen.frame m ρ, fun m ρ _ => Cert.LossHeadIdeal.Gen.frame m ρ, frame_LossHead,
    fun m ρ _ => Cert.AdamGu.Gen.frame m ρ, fun m ρ _ => Cert.AdamGuIdeal.Gen.frame m ρ, frame_AdamGu,
    fun m ρ _ => Cert.AdamDown.Gen.frame m ρ, fun m ρ _ => Cert.AdamDownIdeal.Gen.frame m ρ, frame_AdamDown,
    fun m ρ _ => Cert.AdamOut.Gen.frame m ρ, fun m ρ _ => Cert.AdamOutIdeal.Gen.frame m ρ, frame_AdamOut,
    fun m ρ _ => Cert.AdamMem.Gen.frame m ρ, fun m ρ _ => Cert.AdamMemIdeal.Gen.frame m ρ, frame_AdamMem,
    fun m ρ _ => Cert.AdamInA.Gen.frame m ρ, fun m ρ _ => Cert.AdamInAIdeal.Gen.frame m ρ, frame_AdamInA,
    fun m ρ _ => Cert.AdamInB.Gen.frame m ρ, fun m ρ _ => Cert.AdamInBIdeal.Gen.frame m ρ, frame_AdamInB,
    fun m ρ _ => Cert.AdamSmall.Gen.frame m ρ, fun m ρ _ => Cert.AdamSmallIdeal.Gen.frame m ρ, frame_AdamSmall,
    fun m ρ _ => Cert.GluFwd.Gen.frame m ρ, fun m ρ _ => Cert.GluFwdIdeal.Gen.frame m ρ, frame_GluFwd,
    fun m ρ _ => Cert.CrossA.Gen.frame m ρ, fun m ρ _ => Cert.CrossAIdeal.Gen.frame m ρ, frame_CrossA,
    fun m ρ _ => Cert.CrossB.Gen.frame m ρ, fun m ρ _ => Cert.CrossBIdeal.Gen.frame m ρ, frame_CrossB,
    fun m ρ _ => Cert.CrossGradA.Gen.frame m ρ, fun m ρ _ => Cert.CrossGradAIdeal.Gen.frame m ρ, frame_CrossGradA,
    fun m ρ _ => Cert.CrossGradB.Gen.frame m ρ, fun m ρ _ => Cert.CrossGradBIdeal.Gen.frame m ρ, frame_CrossGradB,
    trivial, same, trivial, same_GuBwdW, trivial, same_GuBwdX, trivial, same_GuFwd, trivial, same_DAct, trivial, same_DwDown, trivial, same_DnsFwd, trivial, same_ProjA, trivial, same_ProjB, trivial, same_Down, trivial, same_DownNorm, trivial, same_OutProj, trivial, same_DMix, trivial, same_DwOut, trivial, same_DwInA, trivial, same_DwInB, trivial, same_DInA, trivial, same_DInB, trivial, same_NormIn, trivial, same_MemKv, trivial, same_MemKvGrad, trivial, same_LossHead, trivial, same_AdamGu, trivial, same_AdamDown, trivial, same_AdamOut, trivial, same_AdamMem, trivial, same_AdamInA, trivial, same_AdamInB, trivial, same_AdamSmall, trivial, same_GluFwd, trivial, same_CrossA, trivial, same_CrossB, trivial, same_CrossGradA, trivial, same_CrossGradB⟩

end Cert.Proof

end
